-- ==== Defs.lean ====
def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdRefIdeal (m : (ℓ : Loc Cert.ConvBwdRefIdeal.nD Cert.ConvBwdRefIdeal.τ Cert.ConvBwdRefIdeal.sig) → Buf (Elt Ideal) ℓ) : Prop :=
  True

def Pre_FfnDownDgrad (m : (ℓ : Loc Cert.FfnDownDgrad.nD Cert.FfnDownDgrad.τ Cert.FfnDownDgrad.sig) → Buf (Elt Bits) ℓ) : Prop :=
  True

def Pre_FfnDownDgradIdeal (m : (ℓ : Loc Cert.FfnDownDgradIdeal.nD Cert.FfnDownDgradIdeal.τ Cert.FfnDownDgradIdeal.sig) → Buf (Elt Ideal) ℓ) : Prop :=
  True

def Pre_FfnDownDgradIdeal_down_dgrad_finite [hPre_down_dgrad_finite : Cert.Pre_down_dgrad_finite.Facts] (m : (ℓ : Loc Cert.FfnDownDgradIdeal.nD Cert.FfnDownDgradIdeal.τ Cert.FfnDownDgradIdeal.sig) → Buf (Elt Ideal) ℓ) : Prop :=
  ∀ c : Dev Cert.FfnDownDgradIdeal.nD,
    (Cert.Pre_down_dgrad_finite.fn (F := Ideal) (m ((c.tc : Thread Cert.FfnDownDgradIdeal.nD Cert.FfnDownDgradIdeal.τ).loc Cert.FfnDownDgradIdeal.main_arg0)) (m ((c.tc : Thread Cert.FfnDownDgradIdeal.nD Cert.FfnDownDgradIdeal.τ).loc Cert.FfnDownDgradIdeal.main_arg1)) (m ((c.tc : Thread Cert.FfnDownDgradIdeal.nD Cert.FfnDownDgradIdeal.τ).loc Cert.FfnDownDgradIdeal.main_arg2)) (m ((c.tc : Thread Cert.FfnDownDgradIdeal.nD Cert.FfnDownDgradIdeal.τ).loc Cert.FfnDownDgradIdeal.main_arg3))) = (fun _ => 1#1)

def Pre_FfnDownDgradRefIdeal (m : (ℓ : Loc Cert.FfnDownDgradRefIdeal.nD Cert.FfnDownDgradRefIdeal.τ Cert.FfnDownDgradRefIdeal.sig) → Buf (Elt Ideal) ℓ) : Prop :=
  True

def Pre_FfnDownDgradRefIdeal_down_dgrad_finite [hPre_down_dgrad_finite : Cert.Pre_down_dgrad_finite.Facts] (m : (ℓ : Loc Cert.FfnDownDgradRefIdeal.nD Cert.FfnDownDgradRefIdeal.τ Cert.FfnDownDgradRefIdeal.sig) → Buf (Elt Ideal) ℓ) : Prop :=
  ∀ c : Dev Cert.FfnDownDgradRefIdeal.nD,
    (Cert.Pre_down_dgrad_finite.fn (F := Ideal) (m ((c.tc : Thread Cert.FfnDownDgradRefIdeal.nD Cert.FfnDownDgradRefIdeal.τ).loc Cert.FfnDownDgradRefIdeal.main_arg0)) (m ((c.tc : Thread Cert.FfnDownDgradRefIdeal.nD Cert.FfnDownDgradRefIdeal.τ).loc Cert.FfnDownDgradRefIdeal.main_arg1)) (m ((c.tc : Thread Cert.FfnDownDgradRefIdeal.nD Cert.FfnDownDgradRefIdeal.τ).loc Cert.FfnDownDgradRefIdeal.main_arg2)) (m ((c.tc : Thread Cert.FfnDownDgradRefIdeal.nD Cert.FfnDownDgradRefIdeal.τ).loc Cert.FfnDownDgradRefIdeal.main_arg3))) = (fun _ => 1#1)

def Pre_FfnUpDgrad (m : (ℓ : Loc Cert.FfnUpDgrad.nD Cert.FfnUpDgrad.τ Cert.FfnUpDgrad.sig) → Buf (Elt Bits) ℓ) : Prop :=
  True

def Pre_FfnUpDgradIdeal (m : (ℓ : Loc Cert.FfnUpDgradIdeal.nD Cert.FfnUpDgradIdeal.τ Cert.FfnUpDgradIdeal.sig) → Buf (Elt Ideal) ℓ) : Prop :=
  True

def Pre_FfnUpDgradIdeal_up_dgrad_finite [hPre_up_dgrad_finite : Cert.Pre_up_dgrad_finite.Facts] (m : (ℓ : Loc Cert.FfnUpDgradIdeal.nD Cert.FfnUpDgradIdeal.τ Cert.FfnUpDgradIdeal.sig) → Buf (Elt Ideal) ℓ) : Prop :=
  ∀ c : Dev Cert.FfnUpDgradIdeal.nD,
    (Cert.Pre_up_dgrad_finite.fn (F := Ideal) (m ((c.tc : Thread Cert.FfnUpDgradIdeal.nD Cert.FfnUpDgradIdeal.τ).loc Cert.FfnUpDgradIdeal.main_arg0)) (m ((c.tc : Thread Cert.FfnUpDgradIdeal.nD Cert.FfnUpDgradIdeal.τ).loc Cert.FfnUpDgradIdeal.main_arg1)) (m ((c.tc : Thread Cert.FfnUpDgradIdeal.nD Cert.FfnUpDgradIdeal.τ).loc Cert.FfnUpDgradIdeal.main_arg2)) (m ((c.tc : Thread Cert.FfnUpDgradIdeal.nD Cert.FfnUpDgradIdeal.τ).loc Cert.FfnUpDgradIdeal.main_arg3)) (m ((c.tc : Thread Cert.FfnUpDgradIdeal.nD Cert.FfnUpDgradIdeal.τ).loc Cert.FfnUpDgradIdeal.main_arg4)) (m ((c.tc : Thread Cert.FfnUpDgradIdeal.nD Cert.FfnUpDgradIdeal.τ).loc Cert.FfnUpDgradIdeal.main_arg5))) = (fun _ => 1#1)

def Pre_FfnUpDgradRefIdeal (m : (ℓ : Loc Cert.FfnUpDgradRefIdeal.nD Cert.FfnUpDgradRefIdeal.τ Cert.FfnUpDgradRefIdeal.sig) → Buf (Elt Ideal) ℓ) : Prop :=
  True

def Pre_FfnUpDgradRefIdeal_up_dgrad_finite [hPre_up_dgrad_finite : Cert.Pre_up_dgrad_finite.Facts] (m : (ℓ : Loc Cert.FfnUpDgradRefIdeal.nD Cert.FfnUpDgradRefIdeal.τ Cert.FfnUpDgradRefIdeal.sig) → Buf (Elt Ideal) ℓ) : Prop :=
  ∀ c : Dev Cert.FfnUpDgradRefIdeal.nD,
    (Cert.Pre_up_dgrad_finite.fn (F := Ideal) (m ((c.tc : Thread Cert.FfnUpDgradRefIdeal.nD Cert.FfnUpDgradRefIdeal.τ).loc Cert.FfnUpDgradRefIdeal.main_arg0)) (m ((c.tc : Thread Cert.FfnUpDgradRefIdeal.nD Cert.FfnUpDgradRefIdeal.τ).loc Cert.FfnUpDgradRefIdeal.main_arg1)) (m ((c.tc : Thread Cert.FfnUpDgradRefIdeal.nD Cert.FfnUpDgradRefIdeal.τ).loc Cert.FfnUpDgradRefIdeal.main_arg2)) (m ((c.tc : Thread Cert.FfnUpDgradRefIdeal.nD Cert.FfnUpDgradRefIdeal.τ).loc Cert.FfnUpDgradRefIdeal.main_arg3)) (m ((c.tc : Thread Cert.FfnUpDgradRefIdeal.nD Cert.FfnUpDgradRefIdeal.τ).loc Cert.FfnUpDgradRefIdeal.main_arg4)) (m ((c.tc : Thread Cert.FfnUpDgradRefIdeal.nD Cert.FfnUpDgradRefIdeal.τ).loc Cert.FfnUpDgradRefIdeal.main_arg5))) = (fun _ => 1#1)

def Pre_FfnUpWgrad (m : (ℓ : Loc Cert.FfnUpWgrad.nD Cert.FfnUpWgrad.τ Cert.FfnUpWgrad.sig) → Buf (Elt Bits) ℓ) : Prop :=
  True

def Pre_FfnUpWgradIdeal (m : (ℓ : Loc Cert.FfnUpWgradIdeal.nD Cert.FfnUpWgradIdeal.τ Cert.FfnUpWgradIdeal.sig) → Buf (Elt Ideal) ℓ) : Prop :=
  True

def Pre_FfnUpWgradRefIdeal (m : (ℓ : Loc Cert.FfnUpWgradRefIdeal.nD Cert.FfnUpWgradRefIdeal.τ Cert.FfnUpWgradRefIdeal.sig) → Buf (Elt Ideal) ℓ) : Prop :=
  True

def Pre_FfnDownWgrad (m : (ℓ : Loc Cert.FfnDownWgrad.nD Cert.FfnDownWgrad.τ Cert.FfnDownWgrad.sig) → Buf (Elt Bits) ℓ) : Prop :=
  True

def Pre_FfnDownWgradIdeal (m : (ℓ : Loc Cert.FfnDownWgradIdeal.nD Cert.FfnDownWgradIdeal.τ Cert.FfnDownWgradIdeal.sig) → Buf (Elt Ideal) ℓ) : Prop :=
  True

def Pre_FfnDownWgradRefIdeal (m : (ℓ : Loc Cert.FfnDownWgradRefIdeal.nD Cert.FfnDownWgradRefIdeal.τ Cert.FfnDownWgradRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpIdeal_up_finite [hPre_up_finite : Cert.Pre_up_finite.Facts] (m : (ℓ : Loc Cert.FfnUpIdeal.nD Cert.FfnUpIdeal.τ Cert.FfnUpIdeal.sig) → Buf (Elt Ideal) ℓ) : Prop :=
  ∀ c : Dev Cert.FfnUpIdeal.nD,
    (Cert.Pre_up_finite.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1))) = (fun _ => 1#1)

def Pre_FfnUpRefIdeal (m : (ℓ : Loc Cert.FfnUpRefIdeal.nD Cert.FfnUpRefIdeal.τ Cert.FfnUpRefIdeal.sig) → Buf (Elt Ideal) ℓ) : Prop :=
  True

def Pre_FfnUpRefIdeal_up_finite [hPre_up_finite : Cert.Pre_up_finite.Facts] (m : (ℓ : Loc Cert.FfnUpRefIdeal.nD Cert.FfnUpRefIdeal.τ Cert.FfnUpRefIdeal.sig) → Buf (Elt Ideal) ℓ) : Prop :=
  ∀ c : Dev Cert.FfnUpRefIdeal.nD,
    (Cert.Pre_up_finite.fn (F := Ideal) (m ((c.tc : Thread Cert.FfnUpRefIdeal.nD Cert.FfnUpRefIdeal.τ).loc Cert.FfnUpRefIdeal.main_arg0)) (m ((c.tc : Thread Cert.FfnUpRefIdeal.nD Cert.FfnUpRefIdeal.τ).loc Cert.FfnUpRefIdeal.main_arg1))) = (fun _ => 1#1)

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_FfnDownLoss (m : (ℓ : Loc Cert.FfnDownLoss.nD Cert.FfnDownLoss.τ Cert.FfnDownLoss.sig) → Buf (Elt Bits) ℓ) : Prop :=
  True

def Pre_FfnDownLossIdeal (m : (ℓ : Loc Cert.FfnDownLossIdeal.nD Cert.FfnDownLossIdeal.τ Cert.FfnDownLossIdeal.sig) → Buf (Elt Ideal) ℓ) : Prop :=
  True

def Pre_FfnDownLossRefIdeal (m : (ℓ : Loc Cert.FfnDownLossRefIdeal.nD Cert.FfnDownLossRefIdeal.τ Cert.FfnDownLossRefIdeal.sig) → Buf (Elt Ideal) ℓ) : Prop :=
  True

def Pre_ConvIn (m : (ℓ : Loc Cert.ConvIn.nD Cert.ConvIn.τ Cert.ConvIn.sig) → Buf (Elt Bits) ℓ) : Prop :=
  True

def Pre_ConvInIdeal (m : (ℓ : Loc Cert.ConvInIdeal.nD Cert.ConvInIdeal.τ Cert.ConvInIdeal.sig) → Buf (Elt Ideal) ℓ) : Prop :=
  True

def Pre_ConvInRefIdeal (m : (ℓ : Loc Cert.ConvInRefIdeal.nD Cert.ConvInRefIdeal.τ Cert.ConvInRefIdeal.sig) → Buf (Elt Ideal) ℓ) : Prop :=
  True

def Pre_ConvInDgrad (m : (ℓ : Loc Cert.ConvInDgrad.nD Cert.ConvInDgrad.τ Cert.ConvInDgrad.sig) → Buf (Elt Bits) ℓ) : Prop :=
  True

def Pre_ConvInDgradIdeal (m : (ℓ : Loc Cert.ConvInDgradIdeal.nD Cert.ConvInDgradIdeal.τ Cert.ConvInDgradIdeal.sig) → Buf (Elt Ideal) ℓ) : Prop :=
  True

def Pre_ConvInDgradIdeal_conv_in_dgrad_finite [hPre_conv_in_dgrad_finite : Cert.Pre_conv_in_dgrad_finite.Facts] (m : (ℓ : Loc Cert.ConvInDgradIdeal.nD Cert.ConvInDgradIdeal.τ Cert.ConvInDgradIdeal.sig) → Buf (Elt Ideal) ℓ) : Prop :=
  ∀ c : Dev Cert.ConvInDgradIdeal.nD,
    (Cert.Pre_conv_in_dgrad_finite.fn (F := Ideal) (m ((c.tc : Thread Cert.ConvInDgradIdeal.nD Cert.ConvInDgradIdeal.τ).loc Cert.ConvInDgradIdeal.main_arg0)) (m ((c.tc : Thread Cert.ConvInDgradIdeal.nD Cert.ConvInDgradIdeal.τ).loc Cert.ConvInDgradIdeal.main_arg1)) (m ((c.tc : Thread Cert.ConvInDgradIdeal.nD Cert.ConvInDgradIdeal.τ).loc Cert.ConvInDgradIdeal.main_arg2)) (m ((c.tc : Thread Cert.ConvInDgradIdeal.nD Cert.ConvInDgradIdeal.τ).loc Cert.ConvInDgradIdeal.main_arg3)) (m ((c.tc : Thread Cert.ConvInDgradIdeal.nD Cert.ConvInDgradIdeal.τ).loc Cert.ConvInDgradIdeal.main_arg4))) = (fun _ => 1#1)

def Pre_ConvInDgradRefIdeal (m : (ℓ : Loc Cert.ConvInDgradRefIdeal.nD Cert.ConvInDgradRefIdeal.τ Cert.ConvInDgradRefIdeal.sig) → Buf (Elt Ideal) ℓ) : Prop :=
  True

def Pre_ConvInDgradRefIdeal_conv_in_dgrad_finite [hPre_conv_in_dgrad_finite : Cert.Pre_conv_in_dgrad_finite.Facts] (m : (ℓ : Loc Cert.ConvInDgradRefIdeal.nD Cert.ConvInDgradRefIdeal.τ Cert.ConvInDgradRefIdeal.sig) → Buf (Elt Ideal) ℓ) : Prop :=
  ∀ c : Dev Cert.ConvInDgradRefIdeal.nD,
    (Cert.Pre_conv_in_dgrad_finite.fn (F := Ideal) (m ((c.tc : Thread Cert.ConvInDgradRefIdeal.nD Cert.ConvInDgradRefIdeal.τ).loc Cert.ConvInDgradRefIdeal.main_arg0)) (m ((c.tc : Thread Cert.ConvInDgradRefIdeal.nD Cert.ConvInDgradRefIdeal.τ).loc Cert.ConvInDgradRefIdeal.main_arg1)) (m ((c.tc : Thread Cert.ConvInDgradRefIdeal.nD Cert.ConvInDgradRefIdeal.τ).loc Cert.ConvInDgradRefIdeal.main_arg2)) (m ((c.tc : Thread Cert.ConvInDgradRefIdeal.nD Cert.ConvInDgradRefIdeal.τ).loc Cert.ConvInDgradRefIdeal.main_arg3)) (m ((c.tc : Thread Cert.ConvInDgradRefIdeal.nD Cert.ConvInDgradRefIdeal.τ).loc Cert.ConvInDgradRefIdeal.main_arg4))) = (fun _ => 1#1)

def Pre_ConvInWgrad (m : (ℓ : Loc Cert.ConvInWgrad.nD Cert.ConvInWgrad.τ Cert.ConvInWgrad.sig) → Buf (Elt Bits) ℓ) : Prop :=
  True

def Pre_ConvInWgradIdeal (m : (ℓ : Loc Cert.ConvInWgradIdeal.nD Cert.ConvInWgradIdeal.τ Cert.ConvInWgradIdeal.sig) → Buf (Elt Ideal) ℓ) : Prop :=
  True

def Pre_ConvInWgradRefIdeal (m : (ℓ : Loc Cert.ConvInWgradRefIdeal.nD Cert.ConvInWgradRefIdeal.τ Cert.ConvInWgradRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_QkvDgrad (m : (ℓ : Loc Cert.QkvDgrad.nD Cert.QkvDgrad.τ Cert.QkvDgrad.sig) → Buf (Elt Bits) ℓ) : Prop :=
  True

def Pre_QkvDgradIdeal (m : (ℓ : Loc Cert.QkvDgradIdeal.nD Cert.QkvDgradIdeal.τ Cert.QkvDgradIdeal.sig) → Buf (Elt Ideal) ℓ) : Prop :=
  True

def Pre_QkvDgradIdeal_qkv_dgrad_finite [hPre_qkv_dgrad_finite : Cert.Pre_qkv_dgrad_finite.Facts] (m : (ℓ : Loc Cert.QkvDgradIdeal.nD Cert.QkvDgradIdeal.τ Cert.QkvDgradIdeal.sig) → Buf (Elt Ideal) ℓ) : Prop :=
  ∀ c : Dev Cert.QkvDgradIdeal.nD,
    (Cert.Pre_qkv_dgrad_finite.fn (F := Ideal) (m ((c.tc : Thread Cert.QkvDgradIdeal.nD Cert.QkvDgradIdeal.τ).loc Cert.QkvDgradIdeal.main_arg0)) (m ((c.tc : Thread Cert.QkvDgradIdeal.nD Cert.QkvDgradIdeal.τ).loc Cert.QkvDgradIdeal.main_arg1)) (m ((c.tc : Thread Cert.QkvDgradIdeal.nD Cert.QkvDgradIdeal.τ).loc Cert.QkvDgradIdeal.main_arg2)) (m ((c.tc : Thread Cert.QkvDgradIdeal.nD Cert.QkvDgradIdeal.τ).loc Cert.QkvDgradIdeal.main_arg3)) (m ((c.tc : Thread Cert.QkvDgradIdeal.nD Cert.QkvDgradIdeal.τ).loc Cert.QkvDgradIdeal.main_arg4))) = (fun _ => 1#1)

def Pre_QkvDgradRefIdeal (m : (ℓ : Loc Cert.QkvDgradRefIdeal.nD Cert.QkvDgradRefIdeal.τ Cert.QkvDgradRefIdeal.sig) → Buf (Elt Ideal) ℓ) : Prop :=
  True

def Pre_QkvDgradRefIdeal_qkv_dgrad_finite [hPre_qkv_dgrad_finite : Cert.Pre_qkv_dgrad_finite.Facts] (m : (ℓ : Loc Cert.QkvDgradRefIdeal.nD Cert.QkvDgradRefIdeal.τ Cert.QkvDgradRefIdeal.sig) → Buf (Elt Ideal) ℓ) : Prop :=
  ∀ c : Dev Cert.QkvDgradRefIdeal.nD,
    (Cert.Pre_qkv_dgrad_finite.fn (F := Ideal) (m ((c.tc : Thread Cert.QkvDgradRefIdeal.nD Cert.QkvDgradRefIdeal.τ).loc Cert.QkvDgradRefIdeal.main_arg0)) (m ((c.tc : Thread Cert.QkvDgradRefIdeal.nD Cert.QkvDgradRefIdeal.τ).loc Cert.QkvDgradRefIdeal.main_arg1)) (m ((c.tc : Thread Cert.QkvDgradRefIdeal.nD Cert.QkvDgradRefIdeal.τ).loc Cert.QkvDgradRefIdeal.main_arg2)) (m ((c.tc : Thread Cert.QkvDgradRefIdeal.nD Cert.QkvDgradRefIdeal.τ).loc Cert.QkvDgradRefIdeal.main_arg3)) (m ((c.tc : Thread Cert.QkvDgradRefIdeal.nD Cert.QkvDgradRefIdeal.τ).loc Cert.QkvDgradRefIdeal.main_arg4))) = (fun _ => 1#1)

def Pre_QkvWgrad (m : (ℓ : Loc Cert.QkvWgrad.nD Cert.QkvWgrad.τ Cert.QkvWgrad.sig) → Buf (Elt Bits) ℓ) : Prop :=
  True

def Pre_QkvWgradIdeal (m : (ℓ : Loc Cert.QkvWgradIdeal.nD Cert.QkvWgradIdeal.τ Cert.QkvWgradIdeal.sig) → Buf (Elt Ideal) ℓ) : Prop :=
  True

def Pre_QkvWgradRefIdeal (m : (ℓ : Loc Cert.QkvWgradRefIdeal.nD Cert.QkvWgradRefIdeal.τ Cert.QkvWgradRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutDgrad (m : (ℓ : Loc Cert.OutDgrad.nD Cert.OutDgrad.τ Cert.OutDgrad.sig) → Buf (Elt Bits) ℓ) : Prop :=
  True

def Pre_OutDgradIdeal (m : (ℓ : Loc Cert.OutDgradIdeal.nD Cert.OutDgradIdeal.τ Cert.OutDgradIdeal.sig) → Buf (Elt Ideal) ℓ) : Prop :=
  True

def Pre_OutDgradRefIdeal (m : (ℓ : Loc Cert.OutDgradRefIdeal.nD Cert.OutDgradRefIdeal.τ Cert.OutDgradRefIdeal.sig) → Buf (Elt Ideal) ℓ) : Prop :=
  True

def Pre_OutWgrad (m : (ℓ : Loc Cert.OutWgrad.nD Cert.OutWgrad.τ Cert.OutWgrad.sig) → Buf (Elt Bits) ℓ) : Prop :=
  True

def Pre_OutWgradIdeal (m : (ℓ : Loc Cert.OutWgradIdeal.nD Cert.OutWgradIdeal.τ Cert.OutWgradIdeal.sig) → Buf (Elt Ideal) ℓ) : Prop :=
  True

def Pre_OutWgradRefIdeal (m : (ℓ : Loc Cert.OutWgradRefIdeal.nD Cert.OutWgradRefIdeal.τ Cert.OutWgradRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_attn_finite [hPre_attn_finite : Cert.Pre_attn_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_attn_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_attn_finite [hPre_attn_finite : Cert.Pre_attn_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_attn_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))) = (fun _ => 1#1)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2))
      ∧ r.2.sem = fun _ => 0)

def quiescent_FfnDownDgrad [hFfnDownDgrad : Cert.FfnDownDgrad.Facts] : Prop :=
  ∀ (m : (ℓ : Loc Cert.FfnDownDgrad.nD Cert.FfnDownDgrad.τ Cert.FfnDownDgrad.sig) → Buf (Elt Bits) ℓ) (g : Dev Cert.FfnDownDgrad.nD → PrngReg), Pre_FfnDownDgrad m →
    θ_run (Cert.FfnDownDgrad.defs (F := Bits)) (onTc (τ := Cert.FfnDownDgrad.τ) (Cert.FfnDownDgrad.main (F := Bits))) ⟨m, fun _ => 0, g⟩ (fun r => (∀ c : Dev Cert.FfnDownDgrad.nD,
      r.2.mem ((c.tc : Thread Cert.FfnDownDgrad.nD Cert.FfnDownDgrad.τ).loc Cert.FfnDownDgrad.main_arg0) = m ((c.tc : Thread Cert.FfnDownDgrad.nD Cert.FfnDownDgrad.τ).loc Cert.FfnDownDgrad.main_arg0)
      ∧ r.2.mem ((c.tc : Thread Cert.FfnDownDgrad.nD Cert.FfnDownDgrad.τ).loc Cert.FfnDownDgrad.main_arg1) = m ((c.tc : Thread Cert.FfnDownDgrad.nD Cert.FfnDownDgrad.τ).loc Cert.FfnDownDgrad.main_arg1)
      ∧ r.2.mem ((c.tc : Thread Cert.FfnDownDgrad.nD Cert.FfnDownDgrad.τ).loc Cert.FfnDownDgrad.main_arg2) = m ((c.tc : Thread Cert.FfnDownDgrad.nD Cert.FfnDownDgrad.τ).loc Cert.FfnDownDgrad.main_arg2)
      ∧ r.2.mem ((c.tc : Thread Cert.FfnDownDgrad.nD Cert.FfnDownDgrad.τ).loc Cert.FfnDownDgrad.main_arg3) = m ((c.tc : Thread Cert.FfnDownDgrad.nD Cert.FfnDownDgrad.τ).loc Cert.FfnDownDgrad.main_arg3))
      ∧ r.2.sem = fun _ => 0)

def quiescent_FfnDownDgradIdeal [hFfnDownDgradIdeal : Cert.FfnDownDgradIdeal.Facts] : Prop :=
  ∀ (m : (ℓ : Loc Cert.FfnDownDgradIdeal.nD Cert.FfnDownDgradIdeal.τ Cert.FfnDownDgradIdeal.sig) → Buf (Elt Ideal) ℓ) (g : Dev Cert.FfnDownDgradIdeal.nD → PrngReg), Pre_FfnDownDgradIdeal m →
    θ_run (Cert.FfnDownDgradIdeal.defs (F := Ideal)) (onTc (τ := Cert.FfnDownDgradIdeal.τ) (Cert.FfnDownDgradIdeal.main (F := Ideal))) ⟨m, fun _ => 0, g⟩ (fun r => (∀ c : Dev Cert.FfnDownDgradIdeal.nD,
      r.2.mem ((c.tc : Thread Cert.FfnDownDgradIdeal.nD Cert.FfnDownDgradIdeal.τ).loc Cert.FfnDownDgradIdeal.main_arg0) = m ((c.tc : Thread Cert.FfnDownDgradIdeal.nD Cert.FfnDownDgradIdeal.τ).loc Cert.FfnDownDgradIdeal.main_arg0)
      ∧ r.2.mem ((c.tc : Thread Cert.FfnDownDgradIdeal.nD Cert.FfnDownDgradIdeal.τ).loc Cert.FfnDownDgradIdeal.main_arg1) = m ((c.tc : Thread Cert.FfnDownDgradIdeal.nD Cert.FfnDownDgradIdeal.τ).loc Cert.FfnDownDgradIdeal.main_arg1)
      ∧ r.2.mem ((c.tc : Thread Cert.FfnDownDgradIdeal.nD Cert.FfnDownDgradIdeal.τ).loc Cert.FfnDownDgradIdeal.main_arg2) = m ((c.tc : Thread Cert.FfnDownDgradIdeal.nD Cert.FfnDownDgradIdeal.τ).loc Cert.FfnDownDgradIdeal.main_arg2)
      ∧ r.2.mem ((c.tc : Thread Cert.FfnDownDgradIdeal.nD Cert.FfnDownDgradIdeal.τ).loc Cert.FfnDownDgradIdeal.main_arg3) = m ((c.tc : Thread Cert.FfnDownDgradIdeal.nD Cert.FfnDownDgradIdeal.τ).loc Cert.FfnDownDgradIdeal.main_arg3))
      ∧ r.2.sem = fun _ => 0)

def quiescent_FfnDownDgradIdeal_pre_down_dgrad_finite [hFfnDownDgradIdeal : Cert.FfnDownDgradIdeal.Facts] [hPre_down_dgrad_finite : Cert.Pre_down_dgrad_finite.Facts] : Prop :=
  ∀ (m : (ℓ : Loc Cert.FfnDownDgradIdeal.nD Cert.FfnDownDgradIdeal.τ Cert.FfnDownDgradIdeal.sig) → Buf (Elt Ideal) ℓ) (g : Dev Cert.FfnDownDgradIdeal.nD → PrngReg), Pre_FfnDownDgradIdeal_down_dgrad_finite m →
    θ_run (Cert.FfnDownDgradIdeal.defs (F := Ideal)) (onTc (τ := Cert.FfnDownDgradIdeal.τ) (Cert.FfnDownDgradIdeal.main (F := Ideal))) ⟨m, fun _ => 0, g⟩ (fun r => (∀ c : Dev Cert.FfnDownDgradIdeal.nD,
      r.2.mem ((c.tc : Thread Cert.FfnDownDgradIdeal.nD Cert.FfnDownDgradIdeal.τ).loc Cert.FfnDownDgradIdeal.main_arg0) = m ((c.tc : Thread Cert.FfnDownDgradIdeal.nD Cert.FfnDownDgradIdeal.τ).loc Cert.FfnDownDgradIdeal.main_arg0)
      ∧ r.2.mem ((c.tc : Thread Cert.FfnDownDgradIdeal.nD Cert.FfnDownDgradIdeal.τ).loc Cert.FfnDownDgradIdeal.main_arg1) = m ((c.tc : Thread Cert.FfnDownDgradIdeal.nD Cert.FfnDownDgradIdeal.τ).loc Cert.FfnDownDgradIdeal.main_arg1)
      ∧ r.2.mem ((c.tc : Thread Cert.FfnDownDgradIdeal.nD Cert.FfnDownDgradIdeal.τ).loc Cert.FfnDownDgradIdeal.main_arg2) = m ((c.tc : Thread Cert.FfnDownDgradIdeal.nD Cert.FfnDownDgradIdeal.τ).loc Cert.FfnDownDgradIdeal.main_arg2)
      ∧ r.2.mem ((c.tc : Thread Cert.FfnDownDgradIdeal.nD Cert.FfnDownDgradIdeal.τ).loc Cert.FfnDownDgradIdeal.main_arg3) = m ((c.tc : Thread Cert.FfnDownDgradIdeal.nD Cert.FfnDownDgradIdeal.τ).loc Cert.FfnDownDgradIdeal.main_arg3))
      ∧ r.2.sem = fun _ => 0)

def quiescent_FfnDownDgradRefIdeal [hFfnDownDgradRefIdeal : Cert.FfnDownDgradRefIdeal.Facts] : Prop :=
  ∀ (m : (ℓ : Loc Cert.FfnDownDgradRefIdeal.nD Cert.FfnDownDgradRefIdeal.τ Cert.FfnDownDgradRefIdeal.sig) → Buf (Elt Ideal) ℓ) (g : Dev Cert.FfnDownDgradRefIdeal.nD → PrngReg), Pre_FfnDownDgradRefIdeal m →
    θ_run (Cert.FfnDownDgradRefIdeal.defs (F := Ideal)) (onTc (τ := Cert.FfnDownDgradRefIdeal.τ) (Cert.FfnDownDgradRefIdeal.main (F := Ideal))) ⟨m, fun _ => 0, g⟩ (fun r => (∀ c : Dev Cert.FfnDownDgradRefIdeal.nD,
      r.2.mem ((c.tc : Thread Cert.FfnDownDgradRefIdeal.nD Cert.FfnDownDgradRefIdeal.τ).loc Cert.FfnDownDgradRefIdeal.main_arg0) = m ((c.tc : Thread Cert.FfnDownDgradRefIdeal.nD Cert.FfnDownDgradRefIdeal.τ).loc Cert.FfnDownDgradRefIdeal.main_arg0)
      ∧ r.2.mem ((c.tc : Thread Cert.FfnDownDgradRefIdeal.nD Cert.FfnDownDgradRefIdeal.τ).loc Cert.FfnDownDgradRefIdeal.main_arg1) = m ((c.tc : Thread Cert.FfnDownDgradRefIdeal.nD Cert.FfnDownDgradRefIdeal.τ).loc Cert.FfnDownDgradRefIdeal.main_arg1)
      ∧ r.2.mem ((c.tc : Thread Cert.FfnDownDgradRefIdeal.nD Cert.FfnDownDgradRefIdeal.τ).loc Cert.FfnDownDgradRefIdeal.main_arg2) = m ((c.tc : Thread Cert.FfnDownDgradRefIdeal.nD Cert.FfnDownDgradRefIdeal.τ).loc Cert.FfnDownDgradRefIdeal.main_arg2)
      ∧ r.2.mem ((c.tc : Thread Cert.FfnDownDgradRefIdeal.nD Cert.FfnDownDgradRefIdeal.τ).loc Cert.FfnDownDgradRefIdeal.main_arg3) = m ((c.tc : Thread Cert.FfnDownDgradRefIdeal.nD Cert.FfnDownDgradRefIdeal.τ).loc Cert.FfnDownDgradRefIdeal.main_arg3))
      ∧ r.2.sem = fun _ => 0)

def quiescent_FfnDownDgradRefIdeal_pre_down_dgrad_finite [hFfnDownDgradRefIdeal : Cert.FfnDownDgradRefIdeal.Facts] [hPre_down_dgrad_finite : Cert.Pre_down_dgrad_finite.Facts] : Prop :=
  ∀ (m : (ℓ : Loc Cert.FfnDownDgradRefIdeal.nD Cert.FfnDownDgradRefIdeal.τ Cert.FfnDownDgradRefIdeal.sig) → Buf (Elt Ideal) ℓ) (g : Dev Cert.FfnDownDgradRefIdeal.nD → PrngReg), Pre_FfnDownDgradRefIdeal_down_dgrad_finite m →
    θ_run (Cert.FfnDownDgradRefIdeal.defs (F := Ideal)) (onTc (τ := Cert.FfnDownDgradRefIdeal.τ) (Cert.FfnDownDgradRefIdeal.main (F := Ideal))) ⟨m, fun _ => 0, g⟩ (fun r => (∀ c : Dev Cert.FfnDownDgradRefIdeal.nD,
      r.2.mem ((c.tc : Thread Cert.FfnDownDgradRefIdeal.nD Cert.FfnDownDgradRefIdeal.τ).loc Cert.FfnDownDgradRefIdeal.main_arg0) = m ((c.tc : Thread Cert.FfnDownDgradRefIdeal.nD Cert.FfnDownDgradRefIdeal.τ).loc Cert.FfnDownDgradRefIdeal.main_arg0)
      ∧ r.2.mem ((c.tc : Thread Cert.FfnDownDgradRefIdeal.nD Cert.FfnDownDgradRefIdeal.τ).loc Cert.FfnDownDgradRefIdeal.main_arg1) = m ((c.tc : Thread Cert.FfnDownDgradRefIdeal.nD Cert.FfnDownDgradRefIdeal.τ).loc Cert.FfnDownDgradRefIdeal.main_arg1)
      ∧ r.2.mem ((c.tc : Thread Cert.FfnDownDgradRefIdeal.nD Cert.FfnDownDgradRefIdeal.τ).loc Cert.FfnDownDgradRefIdeal.main_arg2) = m ((c.tc : Thread Cert.FfnDownDgradRefIdeal.nD Cert.FfnDownDgradRefIdeal.τ).loc Cert.FfnDownDgradRefIdeal.main_arg2)
      ∧ r.2.mem ((c.tc : Thread Cert.FfnDownDgradRefIdeal.nD Cert.FfnDownDgradRefIdeal.τ).loc Cert.FfnDownDgradRefIdeal.main_arg3) = m ((c.tc : Thread Cert.FfnDownDgradRefIdeal.nD Cert.FfnDownDgradRefIdeal.τ).loc Cert.FfnDownDgradRefIdeal.main_arg3))
      ∧ r.2.sem = fun _ => 0)

def quiescent_FfnUpDgrad [hFfnUpDgrad : Cert.FfnUpDgrad.Facts] : Prop :=
  ∀ (m : (ℓ : Loc Cert.FfnUpDgrad.nD Cert.FfnUpDgrad.τ Cert.FfnUpDgrad.sig) → Buf (Elt Bits) ℓ) (g : Dev Cert.FfnUpDgrad.nD → PrngReg), Pre_FfnUpDgrad m →
    θ_run (Cert.FfnUpDgrad.defs (F := Bits)) (onTc (τ := Cert.FfnUpDgrad.τ) (Cert.FfnUpDgrad.main (F := Bits))) ⟨m, fun _ => 0, g⟩ (fun r => (∀ c : Dev Cert.FfnUpDgrad.nD,
      r.2.mem ((c.tc : Thread Cert.FfnUpDgrad.nD Cert.FfnUpDgrad.τ).loc Cert.FfnUpDgrad.main_arg0) = m ((c.tc : Thread Cert.FfnUpDgrad.nD Cert.FfnUpDgrad.τ).loc Cert.FfnUpDgrad.main_arg0)
      ∧ r.2.mem ((c.tc : Thread Cert.FfnUpDgrad.nD Cert.FfnUpDgrad.τ).loc Cert.FfnUpDgrad.main_arg1) = m ((c.tc : Thread Cert.FfnUpDgrad.nD Cert.FfnUpDgrad.τ).loc Cert.FfnUpDgrad.main_arg1)
      ∧ r.2.mem ((c.tc : Thread Cert.FfnUpDgrad.nD Cert.FfnUpDgrad.τ).loc Cert.FfnUpDgrad.main_arg2) = m ((c.tc : Thread Cert.FfnUpDgrad.nD Cert.FfnUpDgrad.τ).loc Cert.FfnUpDgrad.main_arg2)
      ∧ r.2.mem ((c.tc : Thread Cert.FfnUpDgrad.nD Cert.FfnUpDgrad.τ).loc Cert.FfnUpDgrad.main_arg3) = m ((c.tc : Thread Cert.FfnUpDgrad.nD Cert.FfnUpDgrad.τ).loc Cert.FfnUpDgrad.main_arg3)
      ∧ r.2.mem ((c.tc : Thread Cert.FfnUpDgrad.nD Cert.FfnUpDgrad.τ).loc Cert.FfnUpDgrad.main_arg4) = m ((c.tc : Thread Cert.FfnUpDgrad.nD Cert.FfnUpDgrad.τ).loc Cert.FfnUpDgrad.main_arg4)
      ∧ r.2.mem ((c.tc : Thread Cert.FfnUpDgrad.nD Cert.FfnUpDgrad.τ).loc Cert.FfnUpDgrad.main_arg5) = m ((c.tc : Thread Cert.FfnUpDgrad.nD Cert.FfnUpDgrad.τ).loc Cert.FfnUpDgrad.main_arg5))
      ∧ r.2.sem = fun _ => 0)

def quiescent_FfnUpDgradIdeal [hFfnUpDgradIdeal : Cert.FfnUpDgradIdeal.Facts] : Prop :=
  ∀ (m : (ℓ : Loc Cert.FfnUpDgradIdeal.nD Cert.FfnUpDgradIdeal.τ Cert.FfnUpDgradIdeal.sig) → Buf (Elt Ideal) ℓ) (g : Dev Cert.FfnUpDgradIdeal.nD → PrngReg), Pre_FfnUpDgradIdeal m →
    θ_run (Cert.FfnUpDgradIdeal.defs (F := Ideal)) (onTc (τ := Cert.FfnUpDgradIdeal.τ) (Cert.FfnUpDgradIdeal.main (F := Ideal))) ⟨m, fun _ => 0, g⟩ (fun r => (∀ c : Dev Cert.FfnUpDgradIdeal.nD,
      r.2.mem ((c.tc : Thread Cert.FfnUpDgradIdeal.nD Cert.FfnUpDgradIdeal.τ).loc Cert.FfnUpDgradIdeal.main_arg0) = m ((c.tc : Thread Cert.FfnUpDgradIdeal.nD Cert.FfnUpDgradIdeal.τ).loc Cert.FfnUpDgradIdeal.main_arg0)
      ∧ r.2.mem ((c.tc : Thread Cert.FfnUpDgradIdeal.nD Cert.FfnUpDgradIdeal.τ).loc Cert.FfnUpDgradIdeal.main_arg1) = m ((c.tc : Thread Cert.FfnUpDgradIdeal.nD Cert.FfnUpDgradIdeal.τ).loc Cert.FfnUpDgradIdeal.main_arg1)
      ∧ r.2.mem ((c.tc : Thread Cert.FfnUpDgradIdeal.nD Cert.FfnUpDgradIdeal.τ).loc Cert.FfnUpDgradIdeal.main_arg2) = m ((c.tc : Thread Cert.FfnUpDgradIdeal.nD Cert.FfnUpDgradIdeal.τ).loc Cert.FfnUpDgradIdeal.main_arg2)
      ∧ r.2.mem ((c.tc : Thread Cert.FfnUpDgradIdeal.nD Cert.FfnUpDgradIdeal.τ).loc Cert.FfnUpDgradIdeal.main_arg3) = m ((c.tc : Thread Cert.FfnUpDgradIdeal.nD Cert.FfnUpDgradIdeal.τ).loc Cert.FfnUpDgradIdeal.main_arg3)
      ∧ r.2.mem ((c.tc : Thread Cert.FfnUpDgradIdeal.nD Cert.FfnUpDgradIdeal.τ).loc Cert.FfnUpDgradIdeal.main_arg4) = m ((c.tc : Thread Cert.FfnUpDgradIdeal.nD Cert.FfnUpDgradIdeal.τ).loc Cert.FfnUpDgradIdeal.main_arg4)
      ∧ r.2.mem ((c.tc : Thread Cert.FfnUpDgradIdeal.nD Cert.FfnUpDgradIdeal.τ).loc Cert.FfnUpDgradIdeal.main_arg5) = m ((c.tc : Thread Cert.FfnUpDgradIdeal.nD Cert.FfnUpDgradIdeal.τ).loc Cert.FfnUpDgradIdeal.main_arg5))
      ∧ r.2.sem = fun _ => 0)

def quiescent_FfnUpDgradIdeal_pre_up_dgrad_finite [hFfnUpDgradIdeal : Cert.FfnUpDgradIdeal.Facts] [hPre_up_dgrad_finite : Cert.Pre_up_dgrad_finite.Facts] : Prop :=
  ∀ (m : (ℓ : Loc Cert.FfnUpDgradIdeal.nD Cert.FfnUpDgradIdeal.τ Cert.FfnUpDgradIdeal.sig) → Buf (Elt Ideal) ℓ) (g : Dev Cert.FfnUpDgradIdeal.nD → PrngReg), Pre_FfnUpDgradIdeal_up_dgrad_finite m →
    θ_run (Cert.FfnUpDgradIdeal.defs (F := Ideal)) (onTc (τ := Cert.FfnUpDgradIdeal.τ) (Cert.FfnUpDgradIdeal.main (F := Ideal))) ⟨m, fun _ => 0, g⟩ (fun r => (∀ c : Dev Cert.FfnUpDgradIdeal.nD,
      r.2.mem ((c.tc : Thread Cert.FfnUpDgradIdeal.nD Cert.FfnUpDgradIdeal.τ).loc Cert.FfnUpDgradIdeal.main_arg0) = m ((c.tc : Thread Cert.FfnUpDgradIdeal.nD Cert.FfnUpDgradIdeal.τ).loc Cert.FfnUpDgradIdeal.main_arg0)
      ∧ r.2.mem ((c.tc : Thread Cert.FfnUpDgradIdeal.nD Cert.FfnUpDgradIdeal.τ).loc Cert.FfnUpDgradIdeal.main_arg1) = m ((c.tc : Thread Cert.FfnUpDgradIdeal.nD Cert.FfnUpDgradIdeal.τ).loc Cert.FfnUpDgradIdeal.main_arg1)
      ∧ r.2.mem ((c.tc : Thread Cert.FfnUpDgradIdeal.nD Cert.FfnUpDgradIdeal.τ).loc Cert.FfnUpDgradIdeal.main_arg2) = m ((c.tc : Thread Cert.FfnUpDgradIdeal.nD Cert.FfnUpDgradIdeal.τ).loc Cert.FfnUpDgradIdeal.main_arg2)
      ∧ r.2.mem ((c.tc : Thread Cert.FfnUpDgradIdeal.nD Cert.FfnUpDgradIdeal.τ).loc Cert.FfnUpDgradIdeal.main_arg3) = m ((c.tc : Thread Cert.FfnUpDgradIdeal.nD Cert.FfnUpDgradIdeal.τ).loc Cert.FfnUpDgradIdeal.main_arg3)
      ∧ r.2.mem ((c.tc : Thread Cert.FfnUpDgradIdeal.nD Cert.FfnUpDgradIdeal.τ).loc Cert.FfnUpDgradIdeal.main_arg4) = m ((c.tc : Thread Cert.FfnUpDgradIdeal.nD Cert.FfnUpDgradIdeal.τ).loc Cert.FfnUpDgradIdeal.main_arg4)
      ∧ r.2.mem ((c.tc : Thread Cert.FfnUpDgradIdeal.nD Cert.FfnUpDgradIdeal.τ).loc Cert.FfnUpDgradIdeal.main_arg5) = m ((c.tc : Thread Cert.FfnUpDgradIdeal.nD Cert.FfnUpDgradIdeal.τ).loc Cert.FfnUpDgradIdeal.main_arg5))
      ∧ r.2.sem = fun _ => 0)

def quiescent_FfnUpDgradRefIdeal [hFfnUpDgradRefIdeal : Cert.FfnUpDgradRefIdeal.Facts] : Prop :=
  ∀ (m : (ℓ : Loc Cert.FfnUpDgradRefIdeal.nD Cert.FfnUpDgradRefIdeal.τ Cert.FfnUpDgradRefIdeal.sig) → Buf (Elt Ideal) ℓ) (g : Dev Cert.FfnUpDgradRefIdeal.nD → PrngReg), Pre_FfnUpDgradRefIdeal m →
    θ_run (Cert.FfnUpDgradRefIdeal.defs (F := Ideal)) (onTc (τ := Cert.FfnUpDgradRefIdeal.τ) (Cert.FfnUpDgradRefIdeal.main (F := Ideal))) ⟨m, fun _ => 0, g⟩ (fun r => (∀ c : Dev Cert.FfnUpDgradRefIdeal.nD,
      r.2.mem ((c.tc : Thread Cert.FfnUpDgradRefIdeal.nD Cert.FfnUpDgradRefIdeal.τ).loc Cert.FfnUpDgradRefIdeal.main_arg0) = m ((c.tc : Thread Cert.FfnUpDgradRefIdeal.nD Cert.FfnUpDgradRefIdeal.τ).loc Cert.FfnUpDgradRefIdeal.main_arg0)
      ∧ r.2.mem ((c.tc : Thread Cert.FfnUpDgradRefIdeal.nD Cert.FfnUpDgradRefIdeal.τ).loc Cert.FfnUpDgradRefIdeal.main_arg1) = m ((c.tc : Thread Cert.FfnUpDgradRefIdeal.nD Cert.FfnUpDgradRefIdeal.τ).loc Cert.FfnUpDgradRefIdeal.main_arg1)
      ∧ r.2.mem ((c.tc : Thread Cert.FfnUpDgradRefIdeal.nD Cert.FfnUpDgradRefIdeal.τ).loc Cert.FfnUpDgradRefIdeal.main_arg2) = m ((c.tc : Thread Cert.FfnUpDgradRefIdeal.nD Cert.FfnUpDgradRefIdeal.τ).loc Cert.FfnUpDgradRefIdeal.main_arg2)
      ∧ r.2.mem ((c.tc : Thread Cert.FfnUpDgradRefIdeal.nD Cert.FfnUpDgradRefIdeal.τ).loc Cert.FfnUpDgradRefIdeal.main_arg3) = m ((c.tc : Thread Cert.FfnUpDgradRefIdeal.nD Cert.FfnUpDgradRefIdeal.τ).loc Cert.FfnUpDgradRefIdeal.main_arg3)
      ∧ r.2.mem ((c.tc : Thread Cert.FfnUpDgradRefIdeal.nD Cert.FfnUpDgradRefIdeal.τ).loc Cert.FfnUpDgradRefIdeal.main_arg4) = m ((c.tc : Thread Cert.FfnUpDgradRefIdeal.nD Cert.FfnUpDgradRefIdeal.τ).loc Cert.FfnUpDgradRefIdeal.main_arg4)
      ∧ r.2.mem ((c.tc : Thread Cert.FfnUpDgradRefIdeal.nD Cert.FfnUpDgradRefIdeal.τ).loc Cert.FfnUpDgradRefIdeal.main_arg5) = m ((c.tc : Thread Cert.FfnUpDgradRefIdeal.nD Cert.FfnUpDgradRefIdeal.τ).loc Cert.FfnUpDgradRefIdeal.main_arg5))
      ∧ r.2.sem = fun _ => 0)

def quiescent_FfnUpDgradRefIdeal_pre_up_dgrad_finite [hFfnUpDgradRefIdeal : Cert.FfnUpDgradRefIdeal.Facts] [hPre_up_dgrad_finite : Cert.Pre_up_dgrad_finite.Facts] : Prop :=
  ∀ (m : (ℓ : Loc Cert.FfnUpDgradRefIdeal.nD Cert.FfnUpDgradRefIdeal.τ Cert.FfnUpDgradRefIdeal.sig) → Buf (Elt Ideal) ℓ) (g : Dev Cert.FfnUpDgradRefIdeal.nD → PrngReg), Pre_FfnUpDgradRefIdeal_up_dgrad_finite m →
    θ_run (Cert.FfnUpDgradRefIdeal.defs (F := Ideal)) (onTc (τ := Cert.FfnUpDgradRefIdeal.τ) (Cert.FfnUpDgradRefIdeal.main (F := Ideal))) ⟨m, fun _ => 0, g⟩ (fun r => (∀ c : Dev Cert.FfnUpDgradRefIdeal.nD,
      r.2.mem ((c.tc : Thread Cert.FfnUpDgradRefIdeal.nD Cert.FfnUpDgradRefIdeal.τ).loc Cert.FfnUpDgradRefIdeal.main_arg0) = m ((c.tc : Thread Cert.FfnUpDgradRefIdeal.nD Cert.FfnUpDgradRefIdeal.τ).loc Cert.FfnUpDgradRefIdeal.main_arg0)
      ∧ r.2.mem ((c.tc : Thread Cert.FfnUpDgradRefIdeal.nD Cert.FfnUpDgradRefIdeal.τ).loc Cert.FfnUpDgradRefIdeal.main_arg1) = m ((c.tc : Thread Cert.FfnUpDgradRefIdeal.nD Cert.FfnUpDgradRefIdeal.τ).loc Cert.FfnUpDgradRefIdeal.main_arg1)
      ∧ r.2.mem ((c.tc : Thread Cert.FfnUpDgradRefIdeal.nD Cert.FfnUpDgradRefIdeal.τ).loc Cert.FfnUpDgradRefIdeal.main_arg2) = m ((c.tc : Thread Cert.FfnUpDgradRefIdeal.nD Cert.FfnUpDgradRefIdeal.τ).loc Cert.FfnUpDgradRefIdeal.main_arg2)
      ∧ r.2.mem ((c.tc : Thread Cert.FfnUpDgradRefIdeal.nD Cert.FfnUpDgradRefIdeal.τ).loc Cert.FfnUpDgradRefIdeal.main_arg3) = m ((c.tc : Thread Cert.FfnUpDgradRefIdeal.nD Cert.FfnUpDgradRefIdeal.τ).loc Cert.FfnUpDgradRefIdeal.main_arg3)
      ∧ r.2.mem ((c.tc : Thread Cert.FfnUpDgradRefIdeal.nD Cert.FfnUpDgradRefIdeal.τ).loc Cert.FfnUpDgradRefIdeal.main_arg4) = m ((c.tc : Thread Cert.FfnUpDgradRefIdeal.nD Cert.FfnUpDgradRefIdeal.τ).loc Cert.FfnUpDgradRefIdeal.main_arg4)
      ∧ r.2.mem ((c.tc : Thread Cert.FfnUpDgradRefIdeal.nD Cert.FfnUpDgradRefIdeal.τ).loc Cert.FfnUpDgradRefIdeal.main_arg5) = m ((c.tc : Thread Cert.FfnUpDgradRefIdeal.nD Cert.FfnUpDgradRefIdeal.τ).loc Cert.FfnUpDgradRefIdeal.main_arg5))
      ∧ r.2.sem = fun _ => 0)

def quiescent_FfnUpWgrad [hFfnUpWgrad : Cert.FfnUpWgrad.Facts] : Prop :=
  ∀ (m : (ℓ : Loc Cert.FfnUpWgrad.nD Cert.FfnUpWgrad.τ Cert.FfnUpWgrad.sig) → Buf (Elt Bits) ℓ) (g : Dev Cert.FfnUpWgrad.nD → PrngReg), Pre_FfnUpWgrad m →
    θ_run (Cert.FfnUpWgrad.defs (F := Bits)) (onTc (τ := Cert.FfnUpWgrad.τ) (Cert.FfnUpWgrad.main (F := Bits))) ⟨m, fun _ => 0, g⟩ (fun r => (∀ c : Dev Cert.FfnUpWgrad.nD,
      r.2.mem ((c.tc : Thread Cert.FfnUpWgrad.nD Cert.FfnUpWgrad.τ).loc Cert.FfnUpWgrad.main_arg0) = m ((c.tc : Thread Cert.FfnUpWgrad.nD Cert.FfnUpWgrad.τ).loc Cert.FfnUpWgrad.main_arg0)
      ∧ r.2.mem ((c.tc : Thread Cert.FfnUpWgrad.nD Cert.FfnUpWgrad.τ).loc Cert.FfnUpWgrad.main_arg1) = m ((c.tc : Thread Cert.FfnUpWgrad.nD Cert.FfnUpWgrad.τ).loc Cert.FfnUpWgrad.main_arg1)
      ∧ r.2.mem ((c.tc : Thread Cert.FfnUpWgrad.nD Cert.FfnUpWgrad.τ).loc Cert.FfnUpWgrad.main_arg2) = m ((c.tc : Thread Cert.FfnUpWgrad.nD Cert.FfnUpWgrad.τ).loc Cert.FfnUpWgrad.main_arg2))
      ∧ r.2.sem = fun _ => 0)

def quiescent_FfnUpWgradIdeal [hFfnUpWgradIdeal : Cert.FfnUpWgradIdeal.Facts] : Prop :=
  ∀ (m : (ℓ : Loc Cert.FfnUpWgradIdeal.nD Cert.FfnUpWgradIdeal.τ Cert.FfnUpWgradIdeal.sig) → Buf (Elt Ideal) ℓ) (g : Dev Cert.FfnUpWgradIdeal.nD → PrngReg), Pre_FfnUpWgradIdeal m →
    θ_run (Cert.FfnUpWgradIdeal.defs (F := Ideal)) (onTc (τ := Cert.FfnUpWgradIdeal.τ) (Cert.FfnUpWgradIdeal.main (F := Ideal))) ⟨m, fun _ => 0, g⟩ (fun r => (∀ c : Dev Cert.FfnUpWgradIdeal.nD,
      r.2.mem ((c.tc : Thread Cert.FfnUpWgradIdeal.nD Cert.FfnUpWgradIdeal.τ).loc Cert.FfnUpWgradIdeal.main_arg0) = m ((c.tc : Thread Cert.FfnUpWgradIdeal.nD Cert.FfnUpWgradIdeal.τ).loc Cert.FfnUpWgradIdeal.main_arg0)
      ∧ r.2.mem ((c.tc : Thread Cert.FfnUpWgradIdeal.nD Cert.FfnUpWgradIdeal.τ).loc Cert.FfnUpWgradIdeal.main_arg1) = m ((c.tc : Thread Cert.FfnUpWgradIdeal.nD Cert.FfnUpWgradIdeal.τ).loc Cert.FfnUpWgradIdeal.main_arg1)
      ∧ r.2.mem ((c.tc : Thread Cert.FfnUpWgradIdeal.nD Cert.FfnUpWgradIdeal.τ).loc Cert.FfnUpWgradIdeal.main_arg2) = m ((c.tc : Thread Cert.FfnUpWgradIdeal.nD Cert.FfnUpWgradIdeal.τ).loc Cert.FfnUpWgradIdeal.main_arg2))
      ∧ r.2.sem = fun _ => 0)

def quiescent_FfnUpWgradRefIdeal [hFfnUpWgradRefIdeal : Cert.FfnUpWgradRefIdeal.Facts] : Prop :=
  ∀ (m : (ℓ : Loc Cert.FfnUpWgradRefIdeal.nD Cert.FfnUpWgradRefIdeal.τ Cert.FfnUpWgradRefIdeal.sig) → Buf (Elt Ideal) ℓ) (g : Dev Cert.FfnUpWgradRefIdeal.nD → PrngReg), Pre_FfnUpWgradRefIdeal m →
    θ_run (Cert.FfnUpWgradRefIdeal.defs (F := Ideal)) (onTc (τ := Cert.FfnUpWgradRefIdeal.τ) (Cert.FfnUpWgradRefIdeal.main (F := Ideal))) ⟨m, fun _ => 0, g⟩ (fun r => (∀ c : Dev Cert.FfnUpWgradRefIdeal.nD,
      r.2.mem ((c.tc : Thread Cert.FfnUpWgradRefIdeal.nD Cert.FfnUpWgradRefIdeal.τ).loc Cert.FfnUpWgradRefIdeal.main_arg0) = m ((c.tc : Thread Cert.FfnUpWgradRefIdeal.nD Cert.FfnUpWgradRefIdeal.τ).loc Cert.FfnUpWgradRefIdeal.main_arg0)
      ∧ r.2.mem ((c.tc : Thread Cert.FfnUpWgradRefIdeal.nD Cert.FfnUpWgradRefIdeal.τ).loc Cert.FfnUpWgradRefIdeal.main_arg1) = m ((c.tc : Thread Cert.FfnUpWgradRefIdeal.nD Cert.FfnUpWgradRefIdeal.τ).loc Cert.FfnUpWgradRefIdeal.main_arg1)
      ∧ r.2.mem ((c.tc : Thread Cert.FfnUpWgradRefIdeal.nD Cert.FfnUpWgradRefIdeal.τ).loc Cert.FfnUpWgradRefIdeal.main_arg2) = m ((c.tc : Thread Cert.FfnUpWgradRefIdeal.nD Cert.FfnUpWgradRefIdeal.τ).loc Cert.FfnUpWgradRefIdeal.main_arg2))
      ∧ r.2.sem = fun _ => 0)

def quiescent_FfnDownWgrad [hFfnDownWgrad : Cert.FfnDownWgrad.Facts] : Prop :=
  ∀ (m : (ℓ : Loc Cert.FfnDownWgrad.nD Cert.FfnDownWgrad.τ Cert.FfnDownWgrad.sig) → Buf (Elt Bits) ℓ) (g : Dev Cert.FfnDownWgrad.nD → PrngReg), Pre_FfnDownWgrad m →
    θ_run (Cert.FfnDownWgrad.defs (F := Bits)) (onTc (τ := Cert.FfnDownWgrad.τ) (Cert.FfnDownWgrad.main (F := Bits))) ⟨m, fun _ => 0, g⟩ (fun r => (∀ c : Dev Cert.FfnDownWgrad.nD,
      r.2.mem ((c.tc : Thread Cert.FfnDownWgrad.nD Cert.FfnDownWgrad.τ).loc Cert.FfnDownWgrad.main_arg0) = m ((c.tc : Thread Cert.FfnDownWgrad.nD Cert.FfnDownWgrad.τ).loc Cert.FfnDownWgrad.main_arg0)
      ∧ r.2.mem ((c.tc : Thread Cert.FfnDownWgrad.nD Cert.FfnDownWgrad.τ).loc Cert.FfnDownWgrad.main_arg1) = m ((c.tc : Thread Cert.FfnDownWgrad.nD Cert.FfnDownWgrad.τ).loc Cert.FfnDownWgrad.main_arg1))
      ∧ r.2.sem = fun _ => 0)

def quiescent_FfnDownWgradIdeal [hFfnDownWgradIdeal : Cert.FfnDownWgradIdeal.Facts] : Prop :=
  ∀ (m : (ℓ : Loc Cert.FfnDownWgradIdeal.nD Cert.FfnDownWgradIdeal.τ Cert.FfnDownWgradIdeal.sig) → Buf (Elt Ideal) ℓ) (g : Dev Cert.FfnDownWgradIdeal.nD → PrngReg), Pre_FfnDownWgradIdeal m →
    θ_run (Cert.FfnDownWgradIdeal.defs (F := Ideal)) (onTc (τ := Cert.FfnDownWgradIdeal.τ) (Cert.FfnDownWgradIdeal.main (F := Ideal))) ⟨m, fun _ => 0, g⟩ (fun r => (∀ c : Dev Cert.FfnDownWgradIdeal.nD,
      r.2.mem ((c.tc : Thread Cert.FfnDownWgradIdeal.nD Cert.FfnDownWgradIdeal.τ).loc Cert.FfnDownWgradIdeal.main_arg0) = m ((c.tc : Thread Cert.FfnDownWgradIdeal.nD Cert.FfnDownWgradIdeal.τ).loc Cert.FfnDownWgradIdeal.main_arg0)
      ∧ r.2.mem ((c.tc : Thread Cert.FfnDownWgradIdeal.nD Cert.FfnDownWgradIdeal.τ).loc Cert.FfnDownWgradIdeal.main_arg1) = m ((c.tc : Thread Cert.FfnDownWgradIdeal.nD Cert.FfnDownWgradIdeal.τ).loc Cert.FfnDownWgradIdeal.main_arg1))
      ∧ r.2.sem = fun _ => 0)

def quiescent_FfnDownWgradRefIdeal [hFfnDownWgradRefIdeal : Cert.FfnDownWgradRefIdeal.Facts] : Prop :=
  ∀ (m : (ℓ : Loc Cert.FfnDownWgradRefIdeal.nD Cert.FfnDownWgradRefIdeal.τ Cert.FfnDownWgradRefIdeal.sig) → Buf (Elt Ideal) ℓ) (g : Dev Cert.FfnDownWgradRefIdeal.nD → PrngReg), Pre_FfnDownWgradRefIdeal m →
    θ_run (Cert.FfnDownWgradRefIdeal.defs (F := Ideal)) (onTc (τ := Cert.FfnDownWgradRefIdeal.τ) (Cert.FfnDownWgradRefIdeal.main (F := Ideal))) ⟨m, fun _ => 0, g⟩ (fun r => (∀ c : Dev Cert.FfnDownWgradRefIdeal.nD,
      r.2.mem ((c.tc : Thread Cert.FfnDownWgradRefIdeal.nD Cert.FfnDownWgradRefIdeal.τ).loc Cert.FfnDownWgradRefIdeal.main_arg0) = m ((c.tc : Thread Cert.FfnDownWgradRefIdeal.nD Cert.FfnDownWgradRefIdeal.τ).loc Cert.FfnDownWgradRefIdeal.main_arg0)
      ∧ r.2.mem ((c.tc : Thread Cert.FfnDownWgradRefIdeal.nD Cert.FfnDownWgradRefIdeal.τ).loc Cert.FfnDownWgradRefIdeal.main_arg1) = m ((c.tc : Thread Cert.FfnDownWgradRefIdeal.nD Cert.FfnDownWgradRefIdeal.τ).loc Cert.FfnDownWgradRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpIdeal_pre_up_finite [hFfnUpIdeal : Cert.FfnUpIdeal.Facts] [hPre_up_finite : Cert.Pre_up_finite.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal_up_finite m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnUpRefIdeal_pre_up_finite [hFfnUpRefIdeal : Cert.FfnUpRefIdeal.Facts] [hPre_up_finite : Cert.Pre_up_finite.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal_up_finite m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def quiescent_FfnDownLoss [hFfnDownLoss : Cert.FfnDownLoss.Facts] : Prop :=
  ∀ (m : (ℓ : Loc Cert.FfnDownLoss.nD Cert.FfnDownLoss.τ Cert.FfnDownLoss.sig) → Buf (Elt Bits) ℓ) (g : Dev Cert.FfnDownLoss.nD → PrngReg), Pre_FfnDownLoss m →
    θ_run (Cert.FfnDownLoss.defs (F := Bits)) (onTc (τ := Cert.FfnDownLoss.τ) (Cert.FfnDownLoss.main (F := Bits))) ⟨m, fun _ => 0, g⟩ (fun r => (∀ c : Dev Cert.FfnDownLoss.nD,
      r.2.mem ((c.tc : Thread Cert.FfnDownLoss.nD Cert.FfnDownLoss.τ).loc Cert.FfnDownLoss.main_arg0) = m ((c.tc : Thread Cert.FfnDownLoss.nD Cert.FfnDownLoss.τ).loc Cert.FfnDownLoss.main_arg0)
      ∧ r.2.mem ((c.tc : Thread Cert.FfnDownLoss.nD Cert.FfnDownLoss.τ).loc Cert.FfnDownLoss.main_arg1) = m ((c.tc : Thread Cert.FfnDownLoss.nD Cert.FfnDownLoss.τ).loc Cert.FfnDownLoss.main_arg1)
      ∧ r.2.mem ((c.tc : Thread Cert.FfnDownLoss.nD Cert.FfnDownLoss.τ).loc Cert.FfnDownLoss.main_arg2) = m ((c.tc : Thread Cert.FfnDownLoss.nD Cert.FfnDownLoss.τ).loc Cert.FfnDownLoss.main_arg2)
      ∧ r.2.mem ((c.tc : Thread Cert.FfnDownLoss.nD Cert.FfnDownLoss.τ).loc Cert.FfnDownLoss.main_arg3) = m ((c.tc : Thread Cert.FfnDownLoss.nD Cert.FfnDownLoss.τ).loc Cert.FfnDownLoss.main_arg3))
      ∧ r.2.sem = fun _ => 0)

def quiescent_FfnDownLossIdeal [hFfnDownLossIdeal : Cert.FfnDownLossIdeal.Facts] : Prop :=
  ∀ (m : (ℓ : Loc Cert.FfnDownLossIdeal.nD Cert.FfnDownLossIdeal.τ Cert.FfnDownLossIdeal.sig) → Buf (Elt Ideal) ℓ) (g : Dev Cert.FfnDownLossIdeal.nD → PrngReg), Pre_FfnDownLossIdeal m →
    θ_run (Cert.FfnDownLossIdeal.defs (F := Ideal)) (onTc (τ := Cert.FfnDownLossIdeal.τ) (Cert.FfnDownLossIdeal.main (F := Ideal))) ⟨m, fun _ => 0, g⟩ (fun r => (∀ c : Dev Cert.FfnDownLossIdeal.nD,
      r.2.mem ((c.tc : Thread Cert.FfnDownLossIdeal.nD Cert.FfnDownLossIdeal.τ).loc Cert.FfnDownLossIdeal.main_arg0) = m ((c.tc : Thread Cert.FfnDownLossIdeal.nD Cert.FfnDownLossIdeal.τ).loc Cert.FfnDownLossIdeal.main_arg0)
      ∧ r.2.mem ((c.tc : Thread Cert.FfnDownLossIdeal.nD Cert.FfnDownLossIdeal.τ).loc Cert.FfnDownLossIdeal.main_arg1) = m ((c.tc : Thread Cert.FfnDownLossIdeal.nD Cert.FfnDownLossIdeal.τ).loc Cert.FfnDownLossIdeal.main_arg1)
      ∧ r.2.mem ((c.tc : Thread Cert.FfnDownLossIdeal.nD Cert.FfnDownLossIdeal.τ).loc Cert.FfnDownLossIdeal.main_arg2) = m ((c.tc : Thread Cert.FfnDownLossIdeal.nD Cert.FfnDownLossIdeal.τ).loc Cert.FfnDownLossIdeal.main_arg2)
      ∧ r.2.mem ((c.tc : Thread Cert.FfnDownLossIdeal.nD Cert.FfnDownLossIdeal.τ).loc Cert.FfnDownLossIdeal.main_arg3) = m ((c.tc : Thread Cert.FfnDownLossIdeal.nD Cert.FfnDownLossIdeal.τ).loc Cert.FfnDownLossIdeal.main_arg3))
      ∧ r.2.sem = fun _ => 0)

def quiescent_FfnDownLossRefIdeal [hFfnDownLossRefIdeal : Cert.FfnDownLossRefIdeal.Facts] : Prop :=
  ∀ (m : (ℓ : Loc Cert.FfnDownLossRefIdeal.nD Cert.FfnDownLossRefIdeal.τ Cert.FfnDownLossRefIdeal.sig) → Buf (Elt Ideal) ℓ) (g : Dev Cert.FfnDownLossRefIdeal.nD → PrngReg), Pre_FfnDownLossRefIdeal m →
    θ_run (Cert.FfnDownLossRefIdeal.defs (F := Ideal)) (onTc (τ := Cert.FfnDownLossRefIdeal.τ) (Cert.FfnDownLossRefIdeal.main (F := Ideal))) ⟨m, fun _ => 0, g⟩ (fun r => (∀ c : Dev Cert.FfnDownLossRefIdeal.nD,
      r.2.mem ((c.tc : Thread Cert.FfnDownLossRefIdeal.nD Cert.FfnDownLossRefIdeal.τ).loc Cert.FfnDownLossRefIdeal.main_arg0) = m ((c.tc : Thread Cert.FfnDownLossRefIdeal.nD Cert.FfnDownLossRefIdeal.τ).loc Cert.FfnDownLossRefIdeal.main_arg0)
      ∧ r.2.mem ((c.tc : Thread Cert.FfnDownLossRefIdeal.nD Cert.FfnDownLossRefIdeal.τ).loc Cert.FfnDownLossRefIdeal.main_arg1) = m ((c.tc : Thread Cert.FfnDownLossRefIdeal.nD Cert.FfnDownLossRefIdeal.τ).loc Cert.FfnDownLossRefIdeal.main_arg1)
      ∧ r.2.mem ((c.tc : Thread Cert.FfnDownLossRefIdeal.nD Cert.FfnDownLossRefIdeal.τ).loc Cert.FfnDownLossRefIdeal.main_arg2) = m ((c.tc : Thread Cert.FfnDownLossRefIdeal.nD Cert.FfnDownLossRefIdeal.τ).loc Cert.FfnDownLossRefIdeal.main_arg2)
      ∧ r.2.mem ((c.tc : Thread Cert.FfnDownLossRefIdeal.nD Cert.FfnDownLossRefIdeal.τ).loc Cert.FfnDownLossRefIdeal.main_arg3) = m ((c.tc : Thread Cert.FfnDownLossRefIdeal.nD Cert.FfnDownLossRefIdeal.τ).loc Cert.FfnDownLossRefIdeal.main_arg3))
      ∧ r.2.sem = fun _ => 0)

def quiescent_ConvIn [hConvIn : Cert.ConvIn.Facts] : Prop :=
  ∀ (m : (ℓ : Loc Cert.ConvIn.nD Cert.ConvIn.τ Cert.ConvIn.sig) → Buf (Elt Bits) ℓ) (g : Dev Cert.ConvIn.nD → PrngReg), Pre_ConvIn m →
    θ_run (Cert.ConvIn.defs (F := Bits)) (onTc (τ := Cert.ConvIn.τ) (Cert.ConvIn.main (F := Bits))) ⟨m, fun _ => 0, g⟩ (fun r => (∀ c : Dev Cert.ConvIn.nD,
      r.2.mem ((c.tc : Thread Cert.ConvIn.nD Cert.ConvIn.τ).loc Cert.ConvIn.main_arg0) = m ((c.tc : Thread Cert.ConvIn.nD Cert.ConvIn.τ).loc Cert.ConvIn.main_arg0)
      ∧ r.2.mem ((c.tc : Thread Cert.ConvIn.nD Cert.ConvIn.τ).loc Cert.ConvIn.main_arg1) = m ((c.tc : Thread Cert.ConvIn.nD Cert.ConvIn.τ).loc Cert.ConvIn.main_arg1)
      ∧ r.2.mem ((c.tc : Thread Cert.ConvIn.nD Cert.ConvIn.τ).loc Cert.ConvIn.main_arg2) = m ((c.tc : Thread Cert.ConvIn.nD Cert.ConvIn.τ).loc Cert.ConvIn.main_arg2))
      ∧ r.2.sem = fun _ => 0)

def quiescent_ConvInIdeal [hConvInIdeal : Cert.ConvInIdeal.Facts] : Prop :=
  ∀ (m : (ℓ : Loc Cert.ConvInIdeal.nD Cert.ConvInIdeal.τ Cert.ConvInIdeal.sig) → Buf (Elt Ideal) ℓ) (g : Dev Cert.ConvInIdeal.nD → PrngReg), Pre_ConvInIdeal m →
    θ_run (Cert.ConvInIdeal.defs (F := Ideal)) (onTc (τ := Cert.ConvInIdeal.τ) (Cert.ConvInIdeal.main (F := Ideal))) ⟨m, fun _ => 0, g⟩ (fun r => (∀ c : Dev Cert.ConvInIdeal.nD,
      r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
      ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
      ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2))
      ∧ r.2.sem = fun _ => 0)

def quiescent_ConvInRefIdeal [hConvInRefIdeal : Cert.ConvInRefIdeal.Facts] : Prop :=
  ∀ (m : (ℓ : Loc Cert.ConvInRefIdeal.nD Cert.ConvInRefIdeal.τ Cert.ConvInRefIdeal.sig) → Buf (Elt Ideal) ℓ) (g : Dev Cert.ConvInRefIdeal.nD → PrngReg), Pre_ConvInRefIdeal m →
    θ_run (Cert.ConvInRefIdeal.defs (F := Ideal)) (onTc (τ := Cert.ConvInRefIdeal.τ) (Cert.ConvInRefIdeal.main (F := Ideal))) ⟨m, fun _ => 0, g⟩ (fun r => (∀ c : Dev Cert.ConvInRefIdeal.nD,
      r.2.mem ((c.tc : Thread Cert.ConvInRefIdeal.nD Cert.ConvInRefIdeal.τ).loc Cert.ConvInRefIdeal.main_arg0) = m ((c.tc : Thread Cert.ConvInRefIdeal.nD Cert.ConvInRefIdeal.τ).loc Cert.ConvInRefIdeal.main_arg0)
      ∧ r.2.mem ((c.tc : Thread Cert.ConvInRefIdeal.nD Cert.ConvInRefIdeal.τ).loc Cert.ConvInRefIdeal.main_arg1) = m ((c.tc : Thread Cert.ConvInRefIdeal.nD Cert.ConvInRefIdeal.τ).loc Cert.ConvInRefIdeal.main_arg1)
      ∧ r.2.mem ((c.tc : Thread Cert.ConvInRefIdeal.nD Cert.ConvInRefIdeal.τ).loc Cert.ConvInRefIdeal.main_arg2) = m ((c.tc : Thread Cert.ConvInRefIdeal.nD Cert.ConvInRefIdeal.τ).loc Cert.ConvInRefIdeal.main_arg2))
      ∧ r.2.sem = fun _ => 0)

def quiescent_ConvInDgrad [hConvInDgrad : Cert.ConvInDgrad.Facts] : Prop :=
  ∀ (m : (ℓ : Loc Cert.ConvInDgrad.nD Cert.ConvInDgrad.τ Cert.ConvInDgrad.sig) → Buf (Elt Bits) ℓ) (g : Dev Cert.ConvInDgrad.nD → PrngReg), Pre_ConvInDgrad m →
    θ_run (Cert.ConvInDgrad.defs (F := Bits)) (onTc (τ := Cert.ConvInDgrad.τ) (Cert.ConvInDgrad.main (F := Bits))) ⟨m, fun _ => 0, g⟩ (fun r => (∀ c : Dev Cert.ConvInDgrad.nD,
      r.2.mem ((c.tc : Thread Cert.ConvInDgrad.nD Cert.ConvInDgrad.τ).loc Cert.ConvInDgrad.main_arg0) = m ((c.tc : Thread Cert.ConvInDgrad.nD Cert.ConvInDgrad.τ).loc Cert.ConvInDgrad.main_arg0)
      ∧ r.2.mem ((c.tc : Thread Cert.ConvInDgrad.nD Cert.ConvInDgrad.τ).loc Cert.ConvInDgrad.main_arg1) = m ((c.tc : Thread Cert.ConvInDgrad.nD Cert.ConvInDgrad.τ).loc Cert.ConvInDgrad.main_arg1)
      ∧ r.2.mem ((c.tc : Thread Cert.ConvInDgrad.nD Cert.ConvInDgrad.τ).loc Cert.ConvInDgrad.main_arg2) = m ((c.tc : Thread Cert.ConvInDgrad.nD Cert.ConvInDgrad.τ).loc Cert.ConvInDgrad.main_arg2)
      ∧ r.2.mem ((c.tc : Thread Cert.ConvInDgrad.nD Cert.ConvInDgrad.τ).loc Cert.ConvInDgrad.main_arg3) = m ((c.tc : Thread Cert.ConvInDgrad.nD Cert.ConvInDgrad.τ).loc Cert.ConvInDgrad.main_arg3)
      ∧ r.2.mem ((c.tc : Thread Cert.ConvInDgrad.nD Cert.ConvInDgrad.τ).loc Cert.ConvInDgrad.main_arg4) = m ((c.tc : Thread Cert.ConvInDgrad.nD Cert.ConvInDgrad.τ).loc Cert.ConvInDgrad.main_arg4))
      ∧ r.2.sem = fun _ => 0)

def quiescent_ConvInDgradIdeal [hConvInDgradIdeal : Cert.ConvInDgradIdeal.Facts] : Prop :=
  ∀ (m : (ℓ : Loc Cert.ConvInDgradIdeal.nD Cert.ConvInDgradIdeal.τ Cert.ConvInDgradIdeal.sig) → Buf (Elt Ideal) ℓ) (g : Dev Cert.ConvInDgradIdeal.nD → PrngReg), Pre_ConvInDgradIdeal m →
    θ_run (Cert.ConvInDgradIdeal.defs (F := Ideal)) (onTc (τ := Cert.ConvInDgradIdeal.τ) (Cert.ConvInDgradIdeal.main (F := Ideal))) ⟨m, fun _ => 0, g⟩ (fun r => (∀ c : Dev Cert.ConvInDgradIdeal.nD,
      r.2.mem ((c.tc : Thread Cert.ConvInDgradIdeal.nD Cert.ConvInDgradIdeal.τ).loc Cert.ConvInDgradIdeal.main_arg0) = m ((c.tc : Thread Cert.ConvInDgradIdeal.nD Cert.ConvInDgradIdeal.τ).loc Cert.ConvInDgradIdeal.main_arg0)
      ∧ r.2.mem ((c.tc : Thread Cert.ConvInDgradIdeal.nD Cert.ConvInDgradIdeal.τ).loc Cert.ConvInDgradIdeal.main_arg1) = m ((c.tc : Thread Cert.ConvInDgradIdeal.nD Cert.ConvInDgradIdeal.τ).loc Cert.ConvInDgradIdeal.main_arg1)
      ∧ r.2.mem ((c.tc : Thread Cert.ConvInDgradIdeal.nD Cert.ConvInDgradIdeal.τ).loc Cert.ConvInDgradIdeal.main_arg2) = m ((c.tc : Thread Cert.ConvInDgradIdeal.nD Cert.ConvInDgradIdeal.τ).loc Cert.ConvInDgradIdeal.main_arg2)
      ∧ r.2.mem ((c.tc : Thread Cert.ConvInDgradIdeal.nD Cert.ConvInDgradIdeal.τ).loc Cert.ConvInDgradIdeal.main_arg3) = m ((c.tc : Thread Cert.ConvInDgradIdeal.nD Cert.ConvInDgradIdeal.τ).loc Cert.ConvInDgradIdeal.main_arg3)
      ∧ r.2.mem ((c.tc : Thread Cert.ConvInDgradIdeal.nD Cert.ConvInDgradIdeal.τ).loc Cert.ConvInDgradIdeal.main_arg4) = m ((c.tc : Thread Cert.ConvInDgradIdeal.nD Cert.ConvInDgradIdeal.τ).loc Cert.ConvInDgradIdeal.main_arg4))
      ∧ r.2.sem = fun _ => 0)

def quiescent_ConvInDgradIdeal_pre_conv_in_dgrad_finite [hConvInDgradIdeal : Cert.ConvInDgradIdeal.Facts] [hPre_conv_in_dgrad_finite : Cert.Pre_conv_in_dgrad_finite.Facts] : Prop :=
  ∀ (m : (ℓ : Loc Cert.ConvInDgradIdeal.nD Cert.ConvInDgradIdeal.τ Cert.ConvInDgradIdeal.sig) → Buf (Elt Ideal) ℓ) (g : Dev Cert.ConvInDgradIdeal.nD → PrngReg), Pre_ConvInDgradIdeal_conv_in_dgrad_finite m →
    θ_run (Cert.ConvInDgradIdeal.defs (F := Ideal)) (onTc (τ := Cert.ConvInDgradIdeal.τ) (Cert.ConvInDgradIdeal.main (F := Ideal))) ⟨m, fun _ => 0, g⟩ (fun r => (∀ c : Dev Cert.ConvInDgradIdeal.nD,
      r.2.mem ((c.tc : Thread Cert.ConvInDgradIdeal.nD Cert.ConvInDgradIdeal.τ).loc Cert.ConvInDgradIdeal.main_arg0) = m ((c.tc : Thread Cert.ConvInDgradIdeal.nD Cert.ConvInDgradIdeal.τ).loc Cert.ConvInDgradIdeal.main_arg0)
      ∧ r.2.mem ((c.tc : Thread Cert.ConvInDgradIdeal.nD Cert.ConvInDgradIdeal.τ).loc Cert.ConvInDgradIdeal.main_arg1) = m ((c.tc : Thread Cert.ConvInDgradIdeal.nD Cert.ConvInDgradIdeal.τ).loc Cert.ConvInDgradIdeal.main_arg1)
      ∧ r.2.mem ((c.tc : Thread Cert.ConvInDgradIdeal.nD Cert.ConvInDgradIdeal.τ).loc Cert.ConvInDgradIdeal.main_arg2) = m ((c.tc : Thread Cert.ConvInDgradIdeal.nD Cert.ConvInDgradIdeal.τ).loc Cert.ConvInDgradIdeal.main_arg2)
      ∧ r.2.mem ((c.tc : Thread Cert.ConvInDgradIdeal.nD Cert.ConvInDgradIdeal.τ).loc Cert.ConvInDgradIdeal.main_arg3) = m ((c.tc : Thread Cert.ConvInDgradIdeal.nD Cert.ConvInDgradIdeal.τ).loc Cert.ConvInDgradIdeal.main_arg3)
      ∧ r.2.mem ((c.tc : Thread Cert.ConvInDgradIdeal.nD Cert.ConvInDgradIdeal.τ).loc Cert.ConvInDgradIdeal.main_arg4) = m ((c.tc : Thread Cert.ConvInDgradIdeal.nD Cert.ConvInDgradIdeal.τ).loc Cert.ConvInDgradIdeal.main_arg4))
      ∧ r.2.sem = fun _ => 0)

def quiescent_ConvInDgradRefIdeal [hConvInDgradRefIdeal : Cert.ConvInDgradRefIdeal.Facts] : Prop :=
  ∀ (m : (ℓ : Loc Cert.ConvInDgradRefIdeal.nD Cert.ConvInDgradRefIdeal.τ Cert.ConvInDgradRefIdeal.sig) → Buf (Elt Ideal) ℓ) (g : Dev Cert.ConvInDgradRefIdeal.nD → PrngReg), Pre_ConvInDgradRefIdeal m →
    θ_run (Cert.ConvInDgradRefIdeal.defs (F := Ideal)) (onTc (τ := Cert.ConvInDgradRefIdeal.τ) (Cert.ConvInDgradRefIdeal.main (F := Ideal))) ⟨m, fun _ => 0, g⟩ (fun r => (∀ c : Dev Cert.ConvInDgradRefIdeal.nD,
      r.2.mem ((c.tc : Thread Cert.ConvInDgradRefIdeal.nD Cert.ConvInDgradRefIdeal.τ).loc Cert.ConvInDgradRefIdeal.main_arg0) = m ((c.tc : Thread Cert.ConvInDgradRefIdeal.nD Cert.ConvInDgradRefIdeal.τ).loc Cert.ConvInDgradRefIdeal.main_arg0)
      ∧ r.2.mem ((c.tc : Thread Cert.ConvInDgradRefIdeal.nD Cert.ConvInDgradRefIdeal.τ).loc Cert.ConvInDgradRefIdeal.main_arg1) = m ((c.tc : Thread Cert.ConvInDgradRefIdeal.nD Cert.ConvInDgradRefIdeal.τ).loc Cert.ConvInDgradRefIdeal.main_arg1)
      ∧ r.2.mem ((c.tc : Thread Cert.ConvInDgradRefIdeal.nD Cert.ConvInDgradRefIdeal.τ).loc Cert.ConvInDgradRefIdeal.main_arg2) = m ((c.tc : Thread Cert.ConvInDgradRefIdeal.nD Cert.ConvInDgradRefIdeal.τ).loc Cert.ConvInDgradRefIdeal.main_arg2)
      ∧ r.2.mem ((c.tc : Thread Cert.ConvInDgradRefIdeal.nD Cert.ConvInDgradRefIdeal.τ).loc Cert.ConvInDgradRefIdeal.main_arg3) = m ((c.tc : Thread Cert.ConvInDgradRefIdeal.nD Cert.ConvInDgradRefIdeal.τ).loc Cert.ConvInDgradRefIdeal.main_arg3)
      ∧ r.2.mem ((c.tc : Thread Cert.ConvInDgradRefIdeal.nD Cert.ConvInDgradRefIdeal.τ).loc Cert.ConvInDgradRefIdeal.main_arg4) = m ((c.tc : Thread Cert.ConvInDgradRefIdeal.nD Cert.ConvInDgradRefIdeal.τ).loc Cert.ConvInDgradRefIdeal.main_arg4))
      ∧ r.2.sem = fun _ => 0)

def quiescent_ConvInDgradRefIdeal_pre_conv_in_dgrad_finite [hConvInDgradRefIdeal : Cert.ConvInDgradRefIdeal.Facts] [hPre_conv_in_dgrad_finite : Cert.Pre_conv_in_dgrad_finite.Facts] : Prop :=
  ∀ (m : (ℓ : Loc Cert.ConvInDgradRefIdeal.nD Cert.ConvInDgradRefIdeal.τ Cert.ConvInDgradRefIdeal.sig) → Buf (Elt Ideal) ℓ) (g : Dev Cert.ConvInDgradRefIdeal.nD → PrngReg), Pre_ConvInDgradRefIdeal_conv_in_dgrad_finite m →
    θ_run (Cert.ConvInDgradRefIdeal.defs (F := Ideal)) (onTc (τ := Cert.ConvInDgradRefIdeal.τ) (Cert.ConvInDgradRefIdeal.main (F := Ideal))) ⟨m, fun _ => 0, g⟩ (fun r => (∀ c : Dev Cert.ConvInDgradRefIdeal.nD,
      r.2.mem ((c.tc : Thread Cert.ConvInDgradRefIdeal.nD Cert.ConvInDgradRefIdeal.τ).loc Cert.ConvInDgradRefIdeal.main_arg0) = m ((c.tc : Thread Cert.ConvInDgradRefIdeal.nD Cert.ConvInDgradRefIdeal.τ).loc Cert.ConvInDgradRefIdeal.main_arg0)
      ∧ r.2.mem ((c.tc : Thread Cert.ConvInDgradRefIdeal.nD Cert.ConvInDgradRefIdeal.τ).loc Cert.ConvInDgradRefIdeal.main_arg1) = m ((c.tc : Thread Cert.ConvInDgradRefIdeal.nD Cert.ConvInDgradRefIdeal.τ).loc Cert.ConvInDgradRefIdeal.main_arg1)
      ∧ r.2.mem ((c.tc : Thread Cert.ConvInDgradRefIdeal.nD Cert.ConvInDgradRefIdeal.τ).loc Cert.ConvInDgradRefIdeal.main_arg2) = m ((c.tc : Thread Cert.ConvInDgradRefIdeal.nD Cert.ConvInDgradRefIdeal.τ).loc Cert.ConvInDgradRefIdeal.main_arg2)
      ∧ r.2.mem ((c.tc : Thread Cert.ConvInDgradRefIdeal.nD Cert.ConvInDgradRefIdeal.τ).loc Cert.ConvInDgradRefIdeal.main_arg3) = m ((c.tc : Thread Cert.ConvInDgradRefIdeal.nD Cert.ConvInDgradRefIdeal.τ).loc Cert.ConvInDgradRefIdeal.main_arg3)
      ∧ r.2.mem ((c.tc : Thread Cert.ConvInDgradRefIdeal.nD Cert.ConvInDgradRefIdeal.τ).loc Cert.ConvInDgradRefIdeal.main_arg4) = m ((c.tc : Thread Cert.ConvInDgradRefIdeal.nD Cert.ConvInDgradRefIdeal.τ).loc Cert.ConvInDgradRefIdeal.main_arg4))
      ∧ r.2.sem = fun _ => 0)

def quiescent_ConvInWgrad [hConvInWgrad : Cert.ConvInWgrad.Facts] : Prop :=
  ∀ (m : (ℓ : Loc Cert.ConvInWgrad.nD Cert.ConvInWgrad.τ Cert.ConvInWgrad.sig) → Buf (Elt Bits) ℓ) (g : Dev Cert.ConvInWgrad.nD → PrngReg), Pre_ConvInWgrad m →
    θ_run (Cert.ConvInWgrad.defs (F := Bits)) (onTc (τ := Cert.ConvInWgrad.τ) (Cert.ConvInWgrad.main (F := Bits))) ⟨m, fun _ => 0, g⟩ (fun r => (∀ c : Dev Cert.ConvInWgrad.nD,
      r.2.mem ((c.tc : Thread Cert.ConvInWgrad.nD Cert.ConvInWgrad.τ).loc Cert.ConvInWgrad.main_arg0) = m ((c.tc : Thread Cert.ConvInWgrad.nD Cert.ConvInWgrad.τ).loc Cert.ConvInWgrad.main_arg0)
      ∧ r.2.mem ((c.tc : Thread Cert.ConvInWgrad.nD Cert.ConvInWgrad.τ).loc Cert.ConvInWgrad.main_arg1) = m ((c.tc : Thread Cert.ConvInWgrad.nD Cert.ConvInWgrad.τ).loc Cert.ConvInWgrad.main_arg1))
      ∧ r.2.sem = fun _ => 0)

def quiescent_ConvInWgradIdeal [hConvInWgradIdeal : Cert.ConvInWgradIdeal.Facts] : Prop :=
  ∀ (m : (ℓ : Loc Cert.ConvInWgradIdeal.nD Cert.ConvInWgradIdeal.τ Cert.ConvInWgradIdeal.sig) → Buf (Elt Ideal) ℓ) (g : Dev Cert.ConvInWgradIdeal.nD → PrngReg), Pre_ConvInWgradIdeal m →
    θ_run (Cert.ConvInWgradIdeal.defs (F := Ideal)) (onTc (τ := Cert.ConvInWgradIdeal.τ) (Cert.ConvInWgradIdeal.main (F := Ideal))) ⟨m, fun _ => 0, g⟩ (fun r => (∀ c : Dev Cert.ConvInWgradIdeal.nD,
      r.2.mem ((c.tc : Thread Cert.ConvInWgradIdeal.nD Cert.ConvInWgradIdeal.τ).loc Cert.ConvInWgradIdeal.main_arg0) = m ((c.tc : Thread Cert.ConvInWgradIdeal.nD Cert.ConvInWgradIdeal.τ).loc Cert.ConvInWgradIdeal.main_arg0)
      ∧ r.2.mem ((c.tc : Thread Cert.ConvInWgradIdeal.nD Cert.ConvInWgradIdeal.τ).loc Cert.ConvInWgradIdeal.main_arg1) = m ((c.tc : Thread Cert.ConvInWgradIdeal.nD Cert.ConvInWgradIdeal.τ).loc Cert.ConvInWgradIdeal.main_arg1))
      ∧ r.2.sem = fun _ => 0)

def quiescent_ConvInWgradRefIdeal [hConvInWgradRefIdeal : Cert.ConvInWgradRefIdeal.Facts] : Prop :=
  ∀ (m : (ℓ : Loc Cert.ConvInWgradRefIdeal.nD Cert.ConvInWgradRefIdeal.τ Cert.ConvInWgradRefIdeal.sig) → Buf (Elt Ideal) ℓ) (g : Dev Cert.ConvInWgradRefIdeal.nD → PrngReg), Pre_ConvInWgradRefIdeal m →
    θ_run (Cert.ConvInWgradRefIdeal.defs (F := Ideal)) (onTc (τ := Cert.ConvInWgradRefIdeal.τ) (Cert.ConvInWgradRefIdeal.main (F := Ideal))) ⟨m, fun _ => 0, g⟩ (fun r => (∀ c : Dev Cert.ConvInWgradRefIdeal.nD,
      r.2.mem ((c.tc : Thread Cert.ConvInWgradRefIdeal.nD Cert.ConvInWgradRefIdeal.τ).loc Cert.ConvInWgradRefIdeal.main_arg0) = m ((c.tc : Thread Cert.ConvInWgradRefIdeal.nD Cert.ConvInWgradRefIdeal.τ).loc Cert.ConvInWgradRefIdeal.main_arg0)
      ∧ r.2.mem ((c.tc : Thread Cert.ConvInWgradRefIdeal.nD Cert.ConvInWgradRefIdeal.τ).loc Cert.ConvInWgradRefIdeal.main_arg1) = m ((c.tc : Thread Cert.ConvInWgradRefIdeal.nD Cert.ConvInWgradRefIdeal.τ).loc Cert.ConvInWgradRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_QkvDgrad [hQkvDgrad : Cert.QkvDgrad.Facts] : Prop :=
  ∀ (m : (ℓ : Loc Cert.QkvDgrad.nD Cert.QkvDgrad.τ Cert.QkvDgrad.sig) → Buf (Elt Bits) ℓ) (g : Dev Cert.QkvDgrad.nD → PrngReg), Pre_QkvDgrad m →
    θ_run (Cert.QkvDgrad.defs (F := Bits)) (onTc (τ := Cert.QkvDgrad.τ) (Cert.QkvDgrad.main (F := Bits))) ⟨m, fun _ => 0, g⟩ (fun r => (∀ c : Dev Cert.QkvDgrad.nD,
      r.2.mem ((c.tc : Thread Cert.QkvDgrad.nD Cert.QkvDgrad.τ).loc Cert.QkvDgrad.main_arg0) = m ((c.tc : Thread Cert.QkvDgrad.nD Cert.QkvDgrad.τ).loc Cert.QkvDgrad.main_arg0)
      ∧ r.2.mem ((c.tc : Thread Cert.QkvDgrad.nD Cert.QkvDgrad.τ).loc Cert.QkvDgrad.main_arg1) = m ((c.tc : Thread Cert.QkvDgrad.nD Cert.QkvDgrad.τ).loc Cert.QkvDgrad.main_arg1)
      ∧ r.2.mem ((c.tc : Thread Cert.QkvDgrad.nD Cert.QkvDgrad.τ).loc Cert.QkvDgrad.main_arg2) = m ((c.tc : Thread Cert.QkvDgrad.nD Cert.QkvDgrad.τ).loc Cert.QkvDgrad.main_arg2)
      ∧ r.2.mem ((c.tc : Thread Cert.QkvDgrad.nD Cert.QkvDgrad.τ).loc Cert.QkvDgrad.main_arg3) = m ((c.tc : Thread Cert.QkvDgrad.nD Cert.QkvDgrad.τ).loc Cert.QkvDgrad.main_arg3)
      ∧ r.2.mem ((c.tc : Thread Cert.QkvDgrad.nD Cert.QkvDgrad.τ).loc Cert.QkvDgrad.main_arg4) = m ((c.tc : Thread Cert.QkvDgrad.nD Cert.QkvDgrad.τ).loc Cert.QkvDgrad.main_arg4))
      ∧ r.2.sem = fun _ => 0)

def quiescent_QkvDgradIdeal [hQkvDgradIdeal : Cert.QkvDgradIdeal.Facts] : Prop :=
  ∀ (m : (ℓ : Loc Cert.QkvDgradIdeal.nD Cert.QkvDgradIdeal.τ Cert.QkvDgradIdeal.sig) → Buf (Elt Ideal) ℓ) (g : Dev Cert.QkvDgradIdeal.nD → PrngReg), Pre_QkvDgradIdeal m →
    θ_run (Cert.QkvDgradIdeal.defs (F := Ideal)) (onTc (τ := Cert.QkvDgradIdeal.τ) (Cert.QkvDgradIdeal.main (F := Ideal))) ⟨m, fun _ => 0, g⟩ (fun r => (∀ c : Dev Cert.QkvDgradIdeal.nD,
      r.2.mem ((c.tc : Thread Cert.QkvDgradIdeal.nD Cert.QkvDgradIdeal.τ).loc Cert.QkvDgradIdeal.main_arg0) = m ((c.tc : Thread Cert.QkvDgradIdeal.nD Cert.QkvDgradIdeal.τ).loc Cert.QkvDgradIdeal.main_arg0)
      ∧ r.2.mem ((c.tc : Thread Cert.QkvDgradIdeal.nD Cert.QkvDgradIdeal.τ).loc Cert.QkvDgradIdeal.main_arg1) = m ((c.tc : Thread Cert.QkvDgradIdeal.nD Cert.QkvDgradIdeal.τ).loc Cert.QkvDgradIdeal.main_arg1)
      ∧ r.2.mem ((c.tc : Thread Cert.QkvDgradIdeal.nD Cert.QkvDgradIdeal.τ).loc Cert.QkvDgradIdeal.main_arg2) = m ((c.tc : Thread Cert.QkvDgradIdeal.nD Cert.QkvDgradIdeal.τ).loc Cert.QkvDgradIdeal.main_arg2)
      ∧ r.2.mem ((c.tc : Thread Cert.QkvDgradIdeal.nD Cert.QkvDgradIdeal.τ).loc Cert.QkvDgradIdeal.main_arg3) = m ((c.tc : Thread Cert.QkvDgradIdeal.nD Cert.QkvDgradIdeal.τ).loc Cert.QkvDgradIdeal.main_arg3)
      ∧ r.2.mem ((c.tc : Thread Cert.QkvDgradIdeal.nD Cert.QkvDgradIdeal.τ).loc Cert.QkvDgradIdeal.main_arg4) = m ((c.tc : Thread Cert.QkvDgradIdeal.nD Cert.QkvDgradIdeal.τ).loc Cert.QkvDgradIdeal.main_arg4))
      ∧ r.2.sem = fun _ => 0)

def quiescent_QkvDgradIdeal_pre_qkv_dgrad_finite [hQkvDgradIdeal : Cert.QkvDgradIdeal.Facts] [hPre_qkv_dgrad_finite : Cert.Pre_qkv_dgrad_finite.Facts] : Prop :=
  ∀ (m : (ℓ : Loc Cert.QkvDgradIdeal.nD Cert.QkvDgradIdeal.τ Cert.QkvDgradIdeal.sig) → Buf (Elt Ideal) ℓ) (g : Dev Cert.QkvDgradIdeal.nD → PrngReg), Pre_QkvDgradIdeal_qkv_dgrad_finite m →
    θ_run (Cert.QkvDgradIdeal.defs (F := Ideal)) (onTc (τ := Cert.QkvDgradIdeal.τ) (Cert.QkvDgradIdeal.main (F := Ideal))) ⟨m, fun _ => 0, g⟩ (fun r => (∀ c : Dev Cert.QkvDgradIdeal.nD,
      r.2.mem ((c.tc : Thread Cert.QkvDgradIdeal.nD Cert.QkvDgradIdeal.τ).loc Cert.QkvDgradIdeal.main_arg0) = m ((c.tc : Thread Cert.QkvDgradIdeal.nD Cert.QkvDgradIdeal.τ).loc Cert.QkvDgradIdeal.main_arg0)
      ∧ r.2.mem ((c.tc : Thread Cert.QkvDgradIdeal.nD Cert.QkvDgradIdeal.τ).loc Cert.QkvDgradIdeal.main_arg1) = m ((c.tc : Thread Cert.QkvDgradIdeal.nD Cert.QkvDgradIdeal.τ).loc Cert.QkvDgradIdeal.main_arg1)
      ∧ r.2.mem ((c.tc : Thread Cert.QkvDgradIdeal.nD Cert.QkvDgradIdeal.τ).loc Cert.QkvDgradIdeal.main_arg2) = m ((c.tc : Thread Cert.QkvDgradIdeal.nD Cert.QkvDgradIdeal.τ).loc Cert.QkvDgradIdeal.main_arg2)
      ∧ r.2.mem ((c.tc : Thread Cert.QkvDgradIdeal.nD Cert.QkvDgradIdeal.τ).loc Cert.QkvDgradIdeal.main_arg3) = m ((c.tc : Thread Cert.QkvDgradIdeal.nD Cert.QkvDgradIdeal.τ).loc Cert.QkvDgradIdeal.main_arg3)
      ∧ r.2.mem ((c.tc : Thread Cert.QkvDgradIdeal.nD Cert.QkvDgradIdeal.τ).loc Cert.QkvDgradIdeal.main_arg4) = m ((c.tc : Thread Cert.QkvDgradIdeal.nD Cert.QkvDgradIdeal.τ).loc Cert.QkvDgradIdeal.main_arg4))
      ∧ r.2.sem = fun _ => 0)

def quiescent_QkvDgradRefIdeal [hQkvDgradRefIdeal : Cert.QkvDgradRefIdeal.Facts] : Prop :=
  ∀ (m : (ℓ : Loc Cert.QkvDgradRefIdeal.nD Cert.QkvDgradRefIdeal.τ Cert.QkvDgradRefIdeal.sig) → Buf (Elt Ideal) ℓ) (g : Dev Cert.QkvDgradRefIdeal.nD → PrngReg), Pre_QkvDgradRefIdeal m →
    θ_run (Cert.QkvDgradRefIdeal.defs (F := Ideal)) (onTc (τ := Cert.QkvDgradRefIdeal.τ) (Cert.QkvDgradRefIdeal.main (F := Ideal))) ⟨m, fun _ => 0, g⟩ (fun r => (∀ c : Dev Cert.QkvDgradRefIdeal.nD,
      r.2.mem ((c.tc : Thread Cert.QkvDgradRefIdeal.nD Cert.QkvDgradRefIdeal.τ).loc Cert.QkvDgradRefIdeal.main_arg0) = m ((c.tc : Thread Cert.QkvDgradRefIdeal.nD Cert.QkvDgradRefIdeal.τ).loc Cert.QkvDgradRefIdeal.main_arg0)
      ∧ r.2.mem ((c.tc : Thread Cert.QkvDgradRefIdeal.nD Cert.QkvDgradRefIdeal.τ).loc Cert.QkvDgradRefIdeal.main_arg1) = m ((c.tc : Thread Cert.QkvDgradRefIdeal.nD Cert.QkvDgradRefIdeal.τ).loc Cert.QkvDgradRefIdeal.main_arg1)
      ∧ r.2.mem ((c.tc : Thread Cert.QkvDgradRefIdeal.nD Cert.QkvDgradRefIdeal.τ).loc Cert.QkvDgradRefIdeal.main_arg2) = m ((c.tc : Thread Cert.QkvDgradRefIdeal.nD Cert.QkvDgradRefIdeal.τ).loc Cert.QkvDgradRefIdeal.main_arg2)
      ∧ r.2.mem ((c.tc : Thread Cert.QkvDgradRefIdeal.nD Cert.QkvDgradRefIdeal.τ).loc Cert.QkvDgradRefIdeal.main_arg3) = m ((c.tc : Thread Cert.QkvDgradRefIdeal.nD Cert.QkvDgradRefIdeal.τ).loc Cert.QkvDgradRefIdeal.main_arg3)
      ∧ r.2.mem ((c.tc : Thread Cert.QkvDgradRefIdeal.nD Cert.QkvDgradRefIdeal.τ).loc Cert.QkvDgradRefIdeal.main_arg4) = m ((c.tc : Thread Cert.QkvDgradRefIdeal.nD Cert.QkvDgradRefIdeal.τ).loc Cert.QkvDgradRefIdeal.main_arg4))
      ∧ r.2.sem = fun _ => 0)

def quiescent_QkvDgradRefIdeal_pre_qkv_dgrad_finite [hQkvDgradRefIdeal : Cert.QkvDgradRefIdeal.Facts] [hPre_qkv_dgrad_finite : Cert.Pre_qkv_dgrad_finite.Facts] : Prop :=
  ∀ (m : (ℓ : Loc Cert.QkvDgradRefIdeal.nD Cert.QkvDgradRefIdeal.τ Cert.QkvDgradRefIdeal.sig) → Buf (Elt Ideal) ℓ) (g : Dev Cert.QkvDgradRefIdeal.nD → PrngReg), Pre_QkvDgradRefIdeal_qkv_dgrad_finite m →
    θ_run (Cert.QkvDgradRefIdeal.defs (F := Ideal)) (onTc (τ := Cert.QkvDgradRefIdeal.τ) (Cert.QkvDgradRefIdeal.main (F := Ideal))) ⟨m, fun _ => 0, g⟩ (fun r => (∀ c : Dev Cert.QkvDgradRefIdeal.nD,
      r.2.mem ((c.tc : Thread Cert.QkvDgradRefIdeal.nD Cert.QkvDgradRefIdeal.τ).loc Cert.QkvDgradRefIdeal.main_arg0) = m ((c.tc : Thread Cert.QkvDgradRefIdeal.nD Cert.QkvDgradRefIdeal.τ).loc Cert.QkvDgradRefIdeal.main_arg0)
      ∧ r.2.mem ((c.tc : Thread Cert.QkvDgradRefIdeal.nD Cert.QkvDgradRefIdeal.τ).loc Cert.QkvDgradRefIdeal.main_arg1) = m ((c.tc : Thread Cert.QkvDgradRefIdeal.nD Cert.QkvDgradRefIdeal.τ).loc Cert.QkvDgradRefIdeal.main_arg1)
      ∧ r.2.mem ((c.tc : Thread Cert.QkvDgradRefIdeal.nD Cert.QkvDgradRefIdeal.τ).loc Cert.QkvDgradRefIdeal.main_arg2) = m ((c.tc : Thread Cert.QkvDgradRefIdeal.nD Cert.QkvDgradRefIdeal.τ).loc Cert.QkvDgradRefIdeal.main_arg2)
      ∧ r.2.mem ((c.tc : Thread Cert.QkvDgradRefIdeal.nD Cert.QkvDgradRefIdeal.τ).loc Cert.QkvDgradRefIdeal.main_arg3) = m ((c.tc : Thread Cert.QkvDgradRefIdeal.nD Cert.QkvDgradRefIdeal.τ).loc Cert.QkvDgradRefIdeal.main_arg3)
      ∧ r.2.mem ((c.tc : Thread Cert.QkvDgradRefIdeal.nD Cert.QkvDgradRefIdeal.τ).loc Cert.QkvDgradRefIdeal.main_arg4) = m ((c.tc : Thread Cert.QkvDgradRefIdeal.nD Cert.QkvDgradRefIdeal.τ).loc Cert.QkvDgradRefIdeal.main_arg4))
      ∧ r.2.sem = fun _ => 0)

def quiescent_QkvWgrad [hQkvWgrad : Cert.QkvWgrad.Facts] : Prop :=
  ∀ (m : (ℓ : Loc Cert.QkvWgrad.nD Cert.QkvWgrad.τ Cert.QkvWgrad.sig) → Buf (Elt Bits) ℓ) (g : Dev Cert.QkvWgrad.nD → PrngReg), Pre_QkvWgrad m →
    θ_run (Cert.QkvWgrad.defs (F := Bits)) (onTc (τ := Cert.QkvWgrad.τ) (Cert.QkvWgrad.main (F := Bits))) ⟨m, fun _ => 0, g⟩ (fun r => (∀ c : Dev Cert.QkvWgrad.nD,
      r.2.mem ((c.tc : Thread Cert.QkvWgrad.nD Cert.QkvWgrad.τ).loc Cert.QkvWgrad.main_arg0) = m ((c.tc : Thread Cert.QkvWgrad.nD Cert.QkvWgrad.τ).loc Cert.QkvWgrad.main_arg0)
      ∧ r.2.mem ((c.tc : Thread Cert.QkvWgrad.nD Cert.QkvWgrad.τ).loc Cert.QkvWgrad.main_arg1) = m ((c.tc : Thread Cert.QkvWgrad.nD Cert.QkvWgrad.τ).loc Cert.QkvWgrad.main_arg1))
      ∧ r.2.sem = fun _ => 0)

def quiescent_QkvWgradIdeal [hQkvWgradIdeal : Cert.QkvWgradIdeal.Facts] : Prop :=
  ∀ (m : (ℓ : Loc Cert.QkvWgradIdeal.nD Cert.QkvWgradIdeal.τ Cert.QkvWgradIdeal.sig) → Buf (Elt Ideal) ℓ) (g : Dev Cert.QkvWgradIdeal.nD → PrngReg), Pre_QkvWgradIdeal m →
    θ_run (Cert.QkvWgradIdeal.defs (F := Ideal)) (onTc (τ := Cert.QkvWgradIdeal.τ) (Cert.QkvWgradIdeal.main (F := Ideal))) ⟨m, fun _ => 0, g⟩ (fun r => (∀ c : Dev Cert.QkvWgradIdeal.nD,
      r.2.mem ((c.tc : Thread Cert.QkvWgradIdeal.nD Cert.QkvWgradIdeal.τ).loc Cert.QkvWgradIdeal.main_arg0) = m ((c.tc : Thread Cert.QkvWgradIdeal.nD Cert.QkvWgradIdeal.τ).loc Cert.QkvWgradIdeal.main_arg0)
      ∧ r.2.mem ((c.tc : Thread Cert.QkvWgradIdeal.nD Cert.QkvWgradIdeal.τ).loc Cert.QkvWgradIdeal.main_arg1) = m ((c.tc : Thread Cert.QkvWgradIdeal.nD Cert.QkvWgradIdeal.τ).loc Cert.QkvWgradIdeal.main_arg1))
      ∧ r.2.sem = fun _ => 0)

def quiescent_QkvWgradRefIdeal [hQkvWgradRefIdeal : Cert.QkvWgradRefIdeal.Facts] : Prop :=
  ∀ (m : (ℓ : Loc Cert.QkvWgradRefIdeal.nD Cert.QkvWgradRefIdeal.τ Cert.QkvWgradRefIdeal.sig) → Buf (Elt Ideal) ℓ) (g : Dev Cert.QkvWgradRefIdeal.nD → PrngReg), Pre_QkvWgradRefIdeal m →
    θ_run (Cert.QkvWgradRefIdeal.defs (F := Ideal)) (onTc (τ := Cert.QkvWgradRefIdeal.τ) (Cert.QkvWgradRefIdeal.main (F := Ideal))) ⟨m, fun _ => 0, g⟩ (fun r => (∀ c : Dev Cert.QkvWgradRefIdeal.nD,
      r.2.mem ((c.tc : Thread Cert.QkvWgradRefIdeal.nD Cert.QkvWgradRefIdeal.τ).loc Cert.QkvWgradRefIdeal.main_arg0) = m ((c.tc : Thread Cert.QkvWgradRefIdeal.nD Cert.QkvWgradRefIdeal.τ).loc Cert.QkvWgradRefIdeal.main_arg0)
      ∧ r.2.mem ((c.tc : Thread Cert.QkvWgradRefIdeal.nD Cert.QkvWgradRefIdeal.τ).loc Cert.QkvWgradRefIdeal.main_arg1) = m ((c.tc : Thread Cert.QkvWgradRefIdeal.nD Cert.QkvWgradRefIdeal.τ).loc Cert.QkvWgradRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_OutDgrad [hOutDgrad : Cert.OutDgrad.Facts] : Prop :=
  ∀ (m : (ℓ : Loc Cert.OutDgrad.nD Cert.OutDgrad.τ Cert.OutDgrad.sig) → Buf (Elt Bits) ℓ) (g : Dev Cert.OutDgrad.nD → PrngReg), Pre_OutDgrad m →
    θ_run (Cert.OutDgrad.defs (F := Bits)) (onTc (τ := Cert.OutDgrad.τ) (Cert.OutDgrad.main (F := Bits))) ⟨m, fun _ => 0, g⟩ (fun r => (∀ c : Dev Cert.OutDgrad.nD,
      r.2.mem ((c.tc : Thread Cert.OutDgrad.nD Cert.OutDgrad.τ).loc Cert.OutDgrad.main_arg0) = m ((c.tc : Thread Cert.OutDgrad.nD Cert.OutDgrad.τ).loc Cert.OutDgrad.main_arg0)
      ∧ r.2.mem ((c.tc : Thread Cert.OutDgrad.nD Cert.OutDgrad.τ).loc Cert.OutDgrad.main_arg1) = m ((c.tc : Thread Cert.OutDgrad.nD Cert.OutDgrad.τ).loc Cert.OutDgrad.main_arg1))
      ∧ r.2.sem = fun _ => 0)

def quiescent_OutDgradIdeal [hOutDgradIdeal : Cert.OutDgradIdeal.Facts] : Prop :=
  ∀ (m : (ℓ : Loc Cert.OutDgradIdeal.nD Cert.OutDgradIdeal.τ Cert.OutDgradIdeal.sig) → Buf (Elt Ideal) ℓ) (g : Dev Cert.OutDgradIdeal.nD → PrngReg), Pre_OutDgradIdeal m →
    θ_run (Cert.OutDgradIdeal.defs (F := Ideal)) (onTc (τ := Cert.OutDgradIdeal.τ) (Cert.OutDgradIdeal.main (F := Ideal))) ⟨m, fun _ => 0, g⟩ (fun r => (∀ c : Dev Cert.OutDgradIdeal.nD,
      r.2.mem ((c.tc : Thread Cert.OutDgradIdeal.nD Cert.OutDgradIdeal.τ).loc Cert.OutDgradIdeal.main_arg0) = m ((c.tc : Thread Cert.OutDgradIdeal.nD Cert.OutDgradIdeal.τ).loc Cert.OutDgradIdeal.main_arg0)
      ∧ r.2.mem ((c.tc : Thread Cert.OutDgradIdeal.nD Cert.OutDgradIdeal.τ).loc Cert.OutDgradIdeal.main_arg1) = m ((c.tc : Thread Cert.OutDgradIdeal.nD Cert.OutDgradIdeal.τ).loc Cert.OutDgradIdeal.main_arg1))
      ∧ r.2.sem = fun _ => 0)

def quiescent_OutDgradRefIdeal [hOutDgradRefIdeal : Cert.OutDgradRefIdeal.Facts] : Prop :=
  ∀ (m : (ℓ : Loc Cert.OutDgradRefIdeal.nD Cert.OutDgradRefIdeal.τ Cert.OutDgradRefIdeal.sig) → Buf (Elt Ideal) ℓ) (g : Dev Cert.OutDgradRefIdeal.nD → PrngReg), Pre_OutDgradRefIdeal m →
    θ_run (Cert.OutDgradRefIdeal.defs (F := Ideal)) (onTc (τ := Cert.OutDgradRefIdeal.τ) (Cert.OutDgradRefIdeal.main (F := Ideal))) ⟨m, fun _ => 0, g⟩ (fun r => (∀ c : Dev Cert.OutDgradRefIdeal.nD,
      r.2.mem ((c.tc : Thread Cert.OutDgradRefIdeal.nD Cert.OutDgradRefIdeal.τ).loc Cert.OutDgradRefIdeal.main_arg0) = m ((c.tc : Thread Cert.OutDgradRefIdeal.nD Cert.OutDgradRefIdeal.τ).loc Cert.OutDgradRefIdeal.main_arg0)
      ∧ r.2.mem ((c.tc : Thread Cert.OutDgradRefIdeal.nD Cert.OutDgradRefIdeal.τ).loc Cert.OutDgradRefIdeal.main_arg1) = m ((c.tc : Thread Cert.OutDgradRefIdeal.nD Cert.OutDgradRefIdeal.τ).loc Cert.OutDgradRefIdeal.main_arg1))
      ∧ r.2.sem = fun _ => 0)

def quiescent_OutWgrad [hOutWgrad : Cert.OutWgrad.Facts] : Prop :=
  ∀ (m : (ℓ : Loc Cert.OutWgrad.nD Cert.OutWgrad.τ Cert.OutWgrad.sig) → Buf (Elt Bits) ℓ) (g : Dev Cert.OutWgrad.nD → PrngReg), Pre_OutWgrad m →
    θ_run (Cert.OutWgrad.defs (F := Bits)) (onTc (τ := Cert.OutWgrad.τ) (Cert.OutWgrad.main (F := Bits))) ⟨m, fun _ => 0, g⟩ (fun r => (∀ c : Dev Cert.OutWgrad.nD,
      r.2.mem ((c.tc : Thread Cert.OutWgrad.nD Cert.OutWgrad.τ).loc Cert.OutWgrad.main_arg0) = m ((c.tc : Thread Cert.OutWgrad.nD Cert.OutWgrad.τ).loc Cert.OutWgrad.main_arg0)
      ∧ r.2.mem ((c.tc : Thread Cert.OutWgrad.nD Cert.OutWgrad.τ).loc Cert.OutWgrad.main_arg1) = m ((c.tc : Thread Cert.OutWgrad.nD Cert.OutWgrad.τ).loc Cert.OutWgrad.main_arg1))
      ∧ r.2.sem = fun _ => 0)

def quiescent_OutWgradIdeal [hOutWgradIdeal : Cert.OutWgradIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg), Pre_OutWgradIdeal m →
    θ_run (Cert.OutWgradIdeal.defs (F := Ideal)) (onTc (τ := Cert.OutWgradIdeal.τ) (Cert.OutWgradIdeal.main (F := Ideal))) ⟨m, fun _ => 0, g⟩ (fun r => (∀ c : Dev Cert.OutWgradIdeal.nD,
      r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
      ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1))
      ∧ r.2.sem = fun _ => 0)

def quiescent_OutWgradRefIdeal [hOutWgradRefIdeal : Cert.OutWgradRefIdeal.Facts] : Prop :=
  ∀ (m : (ℓ : Loc Cert.OutWgradRefIdeal.nD Cert.OutWgradRefIdeal.τ Cert.OutWgradRefIdeal.sig) → Buf (Elt Ideal) ℓ) (g : Dev Cert.OutWgradRefIdeal.nD → PrngReg), Pre_OutWgradRefIdeal m →
    θ_run (Cert.OutWgradRefIdeal.defs (F := Ideal)) (onTc (τ := Cert.OutWgradRefIdeal.τ) (Cert.OutWgradRefIdeal.main (F := Ideal))) ⟨m, fun _ => 0, g⟩ (fun r => (∀ c : Dev Cert.OutWgradRefIdeal.nD,
      r.2.mem ((c.tc : Thread Cert.OutWgradRefIdeal.nD Cert.OutWgradRefIdeal.τ).loc Cert.OutWgradRefIdeal.main_arg0) = m ((c.tc : Thread Cert.OutWgradRefIdeal.nD Cert.OutWgradRefIdeal.τ).loc Cert.OutWgradRefIdeal.main_arg0)
      ∧ r.2.mem ((c.tc : Thread Cert.OutWgradRefIdeal.nD Cert.OutWgradRefIdeal.τ).loc Cert.OutWgradRefIdeal.main_arg1) = m ((c.tc : Thread Cert.OutWgradRefIdeal.nD Cert.OutWgradRefIdeal.τ).loc Cert.OutWgradRefIdeal.main_arg1))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdIdeal_pre_attn_finite [hAttnFwdIdeal : Cert.AttnFwdIdeal.Facts] [hPre_attn_finite : Cert.Pre_attn_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_attn_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_AttnFwdRefIdeal_pre_attn_finite [hAttnFwdRefIdeal : Cert.AttnFwdRefIdeal.Facts] [hPre_attn_finite : Cert.Pre_attn_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_attn_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def preserves_ConvBwd_ConvBwdIdeal : Prop :=
  True

def algebraic_ConvBwdIdeal_ConvBwdRefIdeal [hConvBwdIdeal : Cert.ConvBwdIdeal.Facts] [hConvBwdRefIdeal : Cert.ConvBwdRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)) →
    ∃ (v0 : (c : Dev Cert.ConvBwdIdeal.nD) → Buf (Elt Ideal) ((c.tc : Thread Cert.ConvBwdIdeal.nD Cert.ConvBwdIdeal.τ).loc Cert.ConvBwdIdeal.main_v16_0)) (v1 : (c : Dev Cert.ConvBwdIdeal.nD) → Buf (Elt Ideal) ((c.tc : Thread Cert.ConvBwdIdeal.nD Cert.ConvBwdIdeal.τ).loc Cert.ConvBwdIdeal.main_v16_1)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v16_0) = v0 c
          ∧ r.2.mem ((c.tc : Thread Cert.ConvBwdIdeal.nD Cert.ConvBwdIdeal.τ).loc Cert.ConvBwdIdeal.main_v16_1) = v1 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v72) = v0 c
          ∧ r.2.mem ((c.tc : Thread Cert.ConvBwdRefIdeal.nD Cert.ConvBwdRefIdeal.τ).loc Cert.ConvBwdRefIdeal.main_v64) = v1 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2))

def preserves_FfnDownDgrad_FfnDownDgradIdeal : Prop :=
  True

def algebraic_FfnDownDgradIdeal_FfnDownDgradRefIdeal_pre_down_dgrad_finite [hFfnDownDgradIdeal : Cert.FfnDownDgradIdeal.Facts] [hFfnDownDgradRefIdeal : Cert.FfnDownDgradRefIdeal.Facts] [hPre_down_dgrad_finite : Cert.Pre_down_dgrad_finite.Facts] : Prop :=
  ∀ (m : (ℓ : Loc Cert.FfnDownDgradIdeal.nD Cert.FfnDownDgradIdeal.τ Cert.FfnDownDgradIdeal.sig) → Buf (Elt Ideal) ℓ) (g : Dev Cert.FfnDownDgradIdeal.nD → PrngReg)
    (m' : (ℓ : Loc Cert.FfnDownDgradRefIdeal.nD Cert.FfnDownDgradRefIdeal.τ Cert.FfnDownDgradRefIdeal.sig) → Buf (Elt Ideal) ℓ) (g' : Dev Cert.FfnDownDgradRefIdeal.nD → PrngReg), Pre_FfnDownDgradIdeal_down_dgrad_finite m →
    (∀ c : Dev Cert.FfnDownDgradIdeal.nD,
      m' ((c.tc : Thread Cert.FfnDownDgradRefIdeal.nD Cert.FfnDownDgradRefIdeal.τ).loc Cert.FfnDownDgradRefIdeal.main_arg0) = m ((c.tc : Thread Cert.FfnDownDgradIdeal.nD Cert.FfnDownDgradIdeal.τ).loc Cert.FfnDownDgradIdeal.main_arg0)
      ∧ m' ((c.tc : Thread Cert.FfnDownDgradRefIdeal.nD Cert.FfnDownDgradRefIdeal.τ).loc Cert.FfnDownDgradRefIdeal.main_arg1) = m ((c.tc : Thread Cert.FfnDownDgradIdeal.nD Cert.FfnDownDgradIdeal.τ).loc Cert.FfnDownDgradIdeal.main_arg1)
      ∧ m' ((c.tc : Thread Cert.FfnDownDgradRefIdeal.nD Cert.FfnDownDgradRefIdeal.τ).loc Cert.FfnDownDgradRefIdeal.main_arg2) = m ((c.tc : Thread Cert.FfnDownDgradIdeal.nD Cert.FfnDownDgradIdeal.τ).loc Cert.FfnDownDgradIdeal.main_arg2)
      ∧ m' ((c.tc : Thread Cert.FfnDownDgradRefIdeal.nD Cert.FfnDownDgradRefIdeal.τ).loc Cert.FfnDownDgradRefIdeal.main_arg3) = m ((c.tc : Thread Cert.FfnDownDgradIdeal.nD Cert.FfnDownDgradIdeal.τ).loc Cert.FfnDownDgradIdeal.main_arg3)) →
    ∃ (v0 : (c : Dev Cert.FfnDownDgradIdeal.nD) → Buf (Elt Ideal) ((c.tc : Thread Cert.FfnDownDgradIdeal.nD Cert.FfnDownDgradIdeal.τ).loc Cert.FfnDownDgradIdeal.main_v8_0)) (v1 : (c : Dev Cert.FfnDownDgradIdeal.nD) → Buf (Elt Ideal) ((c.tc : Thread Cert.FfnDownDgradIdeal.nD Cert.FfnDownDgradIdeal.τ).loc Cert.FfnDownDgradIdeal.main_v8_1)),
      θ_run (Cert.FfnDownDgradIdeal.defs (F := Ideal)) (onTc (τ := Cert.FfnDownDgradIdeal.τ) (Cert.FfnDownDgradIdeal.main (F := Ideal))) ⟨m, fun _ => 0, g⟩ (fun r => ∀ c : Dev Cert.FfnDownDgradIdeal.nD,
          r.2.mem ((c.tc : Thread Cert.FfnDownDgradIdeal.nD Cert.FfnDownDgradIdeal.τ).loc Cert.FfnDownDgradIdeal.main_v8_0) = v0 c
          ∧ r.2.mem ((c.tc : Thread Cert.FfnDownDgradIdeal.nD Cert.FfnDownDgradIdeal.τ).loc Cert.FfnDownDgradIdeal.main_v8_1) = v1 c
          ∧ r.2.mem ((c.tc : Thread Cert.FfnDownDgradIdeal.nD Cert.FfnDownDgradIdeal.τ).loc Cert.FfnDownDgradIdeal.main_arg0) = m ((c.tc : Thread Cert.FfnDownDgradIdeal.nD Cert.FfnDownDgradIdeal.τ).loc Cert.FfnDownDgradIdeal.main_arg0)
          ∧ r.2.mem ((c.tc : Thread Cert.FfnDownDgradIdeal.nD Cert.FfnDownDgradIdeal.τ).loc Cert.FfnDownDgradIdeal.main_arg1) = m ((c.tc : Thread Cert.FfnDownDgradIdeal.nD Cert.FfnDownDgradIdeal.τ).loc Cert.FfnDownDgradIdeal.main_arg1)
          ∧ r.2.mem ((c.tc : Thread Cert.FfnDownDgradIdeal.nD Cert.FfnDownDgradIdeal.τ).loc Cert.FfnDownDgradIdeal.main_arg2) = m ((c.tc : Thread Cert.FfnDownDgradIdeal.nD Cert.FfnDownDgradIdeal.τ).loc Cert.FfnDownDgradIdeal.main_arg2)
          ∧ r.2.mem ((c.tc : Thread Cert.FfnDownDgradIdeal.nD Cert.FfnDownDgradIdeal.τ).loc Cert.FfnDownDgradIdeal.main_arg3) = m ((c.tc : Thread Cert.FfnDownDgradIdeal.nD Cert.FfnDownDgradIdeal.τ).loc Cert.FfnDownDgradIdeal.main_arg3))
      ∧ θ_run (Cert.FfnDownDgradRefIdeal.defs (F := Ideal)) (onTc (τ := Cert.FfnDownDgradRefIdeal.τ) (Cert.FfnDownDgradRefIdeal.main (F := Ideal))) ⟨m', fun _ => 0, g'⟩ (fun r => ∀ c : Dev Cert.FfnDownDgradRefIdeal.nD,
          r.2.mem ((c.tc : Thread Cert.FfnDownDgradRefIdeal.nD Cert.FfnDownDgradRefIdeal.τ).loc Cert.FfnDownDgradRefIdeal.main_v10) = v0 c
          ∧ r.2.mem ((c.tc : Thread Cert.FfnDownDgradRefIdeal.nD Cert.FfnDownDgradRefIdeal.τ).loc Cert.FfnDownDgradRefIdeal.main_v11) = v1 c
          ∧ r.2.mem ((c.tc : Thread Cert.FfnDownDgradRefIdeal.nD Cert.FfnDownDgradRefIdeal.τ).loc Cert.FfnDownDgradRefIdeal.main_arg0) = m' ((c.tc : Thread Cert.FfnDownDgradRefIdeal.nD Cert.FfnDownDgradRefIdeal.τ).loc Cert.FfnDownDgradRefIdeal.main_arg0)
          ∧ r.2.mem ((c.tc : Thread Cert.FfnDownDgradRefIdeal.nD Cert.FfnDownDgradRefIdeal.τ).loc Cert.FfnDownDgradRefIdeal.main_arg1) = m' ((c.tc : Thread Cert.FfnDownDgradRefIdeal.nD Cert.FfnDownDgradRefIdeal.τ).loc Cert.FfnDownDgradRefIdeal.main_arg1)
          ∧ r.2.mem ((c.tc : Thread Cert.FfnDownDgradRefIdeal.nD Cert.FfnDownDgradRefIdeal.τ).loc Cert.FfnDownDgradRefIdeal.main_arg2) = m' ((c.tc : Thread Cert.FfnDownDgradRefIdeal.nD Cert.FfnDownDgradRefIdeal.τ).loc Cert.FfnDownDgradRefIdeal.main_arg2)
          ∧ r.2.mem ((c.tc : Thread Cert.FfnDownDgradRefIdeal.nD Cert.FfnDownDgradRefIdeal.τ).loc Cert.FfnDownDgradRefIdeal.main_arg3) = m' ((c.tc : Thread Cert.FfnDownDgradRefIdeal.nD Cert.FfnDownDgradRefIdeal.τ).loc Cert.FfnDownDgradRefIdeal.main_arg3))

def preserves_FfnUpDgrad_FfnUpDgradIdeal : Prop :=
  True

def algebraic_FfnUpDgradIdeal_FfnUpDgradRefIdeal_pre_up_dgrad_finite [hFfnUpDgradIdeal : Cert.FfnUpDgradIdeal.Facts] [hFfnUpDgradRefIdeal : Cert.FfnUpDgradRefIdeal.Facts] [hPre_up_dgrad_finite : Cert.Pre_up_dgrad_finite.Facts] : Prop :=
  ∀ (m : (ℓ : Loc Cert.FfnUpDgradIdeal.nD Cert.FfnUpDgradIdeal.τ Cert.FfnUpDgradIdeal.sig) → Buf (Elt Ideal) ℓ) (g : Dev Cert.FfnUpDgradIdeal.nD → PrngReg)
    (m' : (ℓ : Loc Cert.FfnUpDgradRefIdeal.nD Cert.FfnUpDgradRefIdeal.τ Cert.FfnUpDgradRefIdeal.sig) → Buf (Elt Ideal) ℓ) (g' : Dev Cert.FfnUpDgradRefIdeal.nD → PrngReg), Pre_FfnUpDgradIdeal_up_dgrad_finite m →
    (∀ c : Dev Cert.FfnUpDgradIdeal.nD,
      m' ((c.tc : Thread Cert.FfnUpDgradRefIdeal.nD Cert.FfnUpDgradRefIdeal.τ).loc Cert.FfnUpDgradRefIdeal.main_arg0) = m ((c.tc : Thread Cert.FfnUpDgradIdeal.nD Cert.FfnUpDgradIdeal.τ).loc Cert.FfnUpDgradIdeal.main_arg0)
      ∧ m' ((c.tc : Thread Cert.FfnUpDgradRefIdeal.nD Cert.FfnUpDgradRefIdeal.τ).loc Cert.FfnUpDgradRefIdeal.main_arg1) = m ((c.tc : Thread Cert.FfnUpDgradIdeal.nD Cert.FfnUpDgradIdeal.τ).loc Cert.FfnUpDgradIdeal.main_arg1)
      ∧ m' ((c.tc : Thread Cert.FfnUpDgradRefIdeal.nD Cert.FfnUpDgradRefIdeal.τ).loc Cert.FfnUpDgradRefIdeal.main_arg2) = m ((c.tc : Thread Cert.FfnUpDgradIdeal.nD Cert.FfnUpDgradIdeal.τ).loc Cert.FfnUpDgradIdeal.main_arg2)
      ∧ m' ((c.tc : Thread Cert.FfnUpDgradRefIdeal.nD Cert.FfnUpDgradRefIdeal.τ).loc Cert.FfnUpDgradRefIdeal.main_arg3) = m ((c.tc : Thread Cert.FfnUpDgradIdeal.nD Cert.FfnUpDgradIdeal.τ).loc Cert.FfnUpDgradIdeal.main_arg3)
      ∧ m' ((c.tc : Thread Cert.FfnUpDgradRefIdeal.nD Cert.FfnUpDgradRefIdeal.τ).loc Cert.FfnUpDgradRefIdeal.main_arg4) = m ((c.tc : Thread Cert.FfnUpDgradIdeal.nD Cert.FfnUpDgradIdeal.τ).loc Cert.FfnUpDgradIdeal.main_arg4)
      ∧ m' ((c.tc : Thread Cert.FfnUpDgradRefIdeal.nD Cert.FfnUpDgradRefIdeal.τ).loc Cert.FfnUpDgradRefIdeal.main_arg5) = m ((c.tc : Thread Cert.FfnUpDgradIdeal.nD Cert.FfnUpDgradIdeal.τ).loc Cert.FfnUpDgradIdeal.main_arg5)) →
    ∃ (v0 : (c : Dev Cert.FfnUpDgradIdeal.nD) → Buf (Elt Ideal) ((c.tc : Thread Cert.FfnUpDgradIdeal.nD Cert.FfnUpDgradIdeal.τ).loc Cert.FfnUpDgradIdeal.main_v0_0)) (v1 : (c : Dev Cert.FfnUpDgradIdeal.nD) → Buf (Elt Ideal) ((c.tc : Thread Cert.FfnUpDgradIdeal.nD Cert.FfnUpDgradIdeal.τ).loc Cert.FfnUpDgradIdeal.main_v0_1)) (v2 : (c : Dev Cert.FfnUpDgradIdeal.nD) → Buf (Elt Ideal) ((c.tc : Thread Cert.FfnUpDgradIdeal.nD Cert.FfnUpDgradIdeal.τ).loc Cert.FfnUpDgradIdeal.main_v0_2)),
      θ_run (Cert.FfnUpDgradIdeal.defs (F := Ideal)) (onTc (τ := Cert.FfnUpDgradIdeal.τ) (Cert.FfnUpDgradIdeal.main (F := Ideal))) ⟨m, fun _ => 0, g⟩ (fun r => ∀ c : Dev Cert.FfnUpDgradIdeal.nD,
          r.2.mem ((c.tc : Thread Cert.FfnUpDgradIdeal.nD Cert.FfnUpDgradIdeal.τ).loc Cert.FfnUpDgradIdeal.main_v0_0) = v0 c
          ∧ r.2.mem ((c.tc : Thread Cert.FfnUpDgradIdeal.nD Cert.FfnUpDgradIdeal.τ).loc Cert.FfnUpDgradIdeal.main_v0_1) = v1 c
          ∧ r.2.mem ((c.tc : Thread Cert.FfnUpDgradIdeal.nD Cert.FfnUpDgradIdeal.τ).loc Cert.FfnUpDgradIdeal.main_v0_2) = v2 c
          ∧ r.2.mem ((c.tc : Thread Cert.FfnUpDgradIdeal.nD Cert.FfnUpDgradIdeal.τ).loc Cert.FfnUpDgradIdeal.main_arg0) = m ((c.tc : Thread Cert.FfnUpDgradIdeal.nD Cert.FfnUpDgradIdeal.τ).loc Cert.FfnUpDgradIdeal.main_arg0)
          ∧ r.2.mem ((c.tc : Thread Cert.FfnUpDgradIdeal.nD Cert.FfnUpDgradIdeal.τ).loc Cert.FfnUpDgradIdeal.main_arg1) = m ((c.tc : Thread Cert.FfnUpDgradIdeal.nD Cert.FfnUpDgradIdeal.τ).loc Cert.FfnUpDgradIdeal.main_arg1)
          ∧ r.2.mem ((c.tc : Thread Cert.FfnUpDgradIdeal.nD Cert.FfnUpDgradIdeal.τ).loc Cert.FfnUpDgradIdeal.main_arg2) = m ((c.tc : Thread Cert.FfnUpDgradIdeal.nD Cert.FfnUpDgradIdeal.τ).loc Cert.FfnUpDgradIdeal.main_arg2)
          ∧ r.2.mem ((c.tc : Thread Cert.FfnUpDgradIdeal.nD Cert.FfnUpDgradIdeal.τ).loc Cert.FfnUpDgradIdeal.main_arg3) = m ((c.tc : Thread Cert.FfnUpDgradIdeal.nD Cert.FfnUpDgradIdeal.τ).loc Cert.FfnUpDgradIdeal.main_arg3)
          ∧ r.2.mem ((c.tc : Thread Cert.FfnUpDgradIdeal.nD Cert.FfnUpDgradIdeal.τ).loc Cert.FfnUpDgradIdeal.main_arg4) = m ((c.tc : Thread Cert.FfnUpDgradIdeal.nD Cert.FfnUpDgradIdeal.τ).loc Cert.FfnUpDgradIdeal.main_arg4)
          ∧ r.2.mem ((c.tc : Thread Cert.FfnUpDgradIdeal.nD Cert.FfnUpDgradIdeal.τ).loc Cert.FfnUpDgradIdeal.main_arg5) = m ((c.tc : Thread Cert.FfnUpDgradIdeal.nD Cert.FfnUpDgradIdeal.τ).loc Cert.FfnUpDgradIdeal.main_arg5))
      ∧ θ_run (Cert.FfnUpDgradRefIdeal.defs (F := Ideal)) (onTc (τ := Cert.FfnUpDgradRefIdeal.τ) (Cert.FfnUpDgradRefIdeal.main (F := Ideal))) ⟨m', fun _ => 0, g'⟩ (fun r => ∀ c : Dev Cert.FfnUpDgradRefIdeal.nD,
          r.2.mem ((c.tc : Thread Cert.FfnUpDgradRefIdeal.nD Cert.FfnUpDgradRefIdeal.τ).loc Cert.FfnUpDgradRefIdeal.main_v49) = v0 c
          ∧ r.2.mem ((c.tc : Thread Cert.FfnUpDgradRefIdeal.nD Cert.FfnUpDgradRefIdeal.τ).loc Cert.FfnUpDgradRefIdeal.main_v50) = v1 c
          ∧ r.2.mem ((c.tc : Thread Cert.FfnUpDgradRefIdeal.nD Cert.FfnUpDgradRefIdeal.τ).loc Cert.FfnUpDgradRefIdeal.main_v33) = v2 c
          ∧ r.2.mem ((c.tc : Thread Cert.FfnUpDgradRefIdeal.nD Cert.FfnUpDgradRefIdeal.τ).loc Cert.FfnUpDgradRefIdeal.main_arg0) = m' ((c.tc : Thread Cert.FfnUpDgradRefIdeal.nD Cert.FfnUpDgradRefIdeal.τ).loc Cert.FfnUpDgradRefIdeal.main_arg0)
          ∧ r.2.mem ((c.tc : Thread Cert.FfnUpDgradRefIdeal.nD Cert.FfnUpDgradRefIdeal.τ).loc Cert.FfnUpDgradRefIdeal.main_arg1) = m' ((c.tc : Thread Cert.FfnUpDgradRefIdeal.nD Cert.FfnUpDgradRefIdeal.τ).loc Cert.FfnUpDgradRefIdeal.main_arg1)
          ∧ r.2.mem ((c.tc : Thread Cert.FfnUpDgradRefIdeal.nD Cert.FfnUpDgradRefIdeal.τ).loc Cert.FfnUpDgradRefIdeal.main_arg2) = m' ((c.tc : Thread Cert.FfnUpDgradRefIdeal.nD Cert.FfnUpDgradRefIdeal.τ).loc Cert.FfnUpDgradRefIdeal.main_arg2)
          ∧ r.2.mem ((c.tc : Thread Cert.FfnUpDgradRefIdeal.nD Cert.FfnUpDgradRefIdeal.τ).loc Cert.FfnUpDgradRefIdeal.main_arg3) = m' ((c.tc : Thread Cert.FfnUpDgradRefIdeal.nD Cert.FfnUpDgradRefIdeal.τ).loc Cert.FfnUpDgradRefIdeal.main_arg3)
          ∧ r.2.mem ((c.tc : Thread Cert.FfnUpDgradRefIdeal.nD Cert.FfnUpDgradRefIdeal.τ).loc Cert.FfnUpDgradRefIdeal.main_arg4) = m' ((c.tc : Thread Cert.FfnUpDgradRefIdeal.nD Cert.FfnUpDgradRefIdeal.τ).loc Cert.FfnUpDgradRefIdeal.main_arg4)
          ∧ r.2.mem ((c.tc : Thread Cert.FfnUpDgradRefIdeal.nD Cert.FfnUpDgradRefIdeal.τ).loc Cert.FfnUpDgradRefIdeal.main_arg5) = m' ((c.tc : Thread Cert.FfnUpDgradRefIdeal.nD Cert.FfnUpDgradRefIdeal.τ).loc Cert.FfnUpDgradRefIdeal.main_arg5))

def preserves_FfnUpWgrad_FfnUpWgradIdeal : Prop :=
  True

def algebraic_FfnUpWgradIdeal_FfnUpWgradRefIdeal [hFfnUpWgradIdeal : Cert.FfnUpWgradIdeal.Facts] [hFfnUpWgradRefIdeal : Cert.FfnUpWgradRefIdeal.Facts] : Prop :=
  ∀ (m : (ℓ : Loc Cert.FfnUpWgradIdeal.nD Cert.FfnUpWgradIdeal.τ Cert.FfnUpWgradIdeal.sig) → Buf (Elt Ideal) ℓ) (g : Dev Cert.FfnUpWgradIdeal.nD → PrngReg)
    (m' : (ℓ : Loc Cert.FfnUpWgradRefIdeal.nD Cert.FfnUpWgradRefIdeal.τ Cert.FfnUpWgradRefIdeal.sig) → Buf (Elt Ideal) ℓ) (g' : Dev Cert.FfnUpWgradRefIdeal.nD → PrngReg), Pre_FfnUpWgradIdeal m →
    (∀ c : Dev Cert.FfnUpWgradIdeal.nD,
      m' ((c.tc : Thread Cert.FfnUpWgradRefIdeal.nD Cert.FfnUpWgradRefIdeal.τ).loc Cert.FfnUpWgradRefIdeal.main_arg0) = m ((c.tc : Thread Cert.FfnUpWgradIdeal.nD Cert.FfnUpWgradIdeal.τ).loc Cert.FfnUpWgradIdeal.main_arg0)
      ∧ m' ((c.tc : Thread Cert.FfnUpWgradRefIdeal.nD Cert.FfnUpWgradRefIdeal.τ).loc Cert.FfnUpWgradRefIdeal.main_arg1) = m ((c.tc : Thread Cert.FfnUpWgradIdeal.nD Cert.FfnUpWgradIdeal.τ).loc Cert.FfnUpWgradIdeal.main_arg1)
      ∧ m' ((c.tc : Thread Cert.FfnUpWgradRefIdeal.nD Cert.FfnUpWgradRefIdeal.τ).loc Cert.FfnUpWgradRefIdeal.main_arg2) = m ((c.tc : Thread Cert.FfnUpWgradIdeal.nD Cert.FfnUpWgradIdeal.τ).loc Cert.FfnUpWgradIdeal.main_arg2)) →
    ∃ (v0 : (c : Dev Cert.FfnUpWgradIdeal.nD) → Buf (Elt Ideal) ((c.tc : Thread Cert.FfnUpWgradIdeal.nD Cert.FfnUpWgradIdeal.τ).loc Cert.FfnUpWgradIdeal.main_v0)),
      θ_run (Cert.FfnUpWgradIdeal.defs (F := Ideal)) (onTc (τ := Cert.FfnUpWgradIdeal.τ) (Cert.FfnUpWgradIdeal.main (F := Ideal))) ⟨m, fun _ => 0, g⟩ (fun r => ∀ c : Dev Cert.FfnUpWgradIdeal.nD,
          r.2.mem ((c.tc : Thread Cert.FfnUpWgradIdeal.nD Cert.FfnUpWgradIdeal.τ).loc Cert.FfnUpWgradIdeal.main_v0) = v0 c
          ∧ r.2.mem ((c.tc : Thread Cert.FfnUpWgradIdeal.nD Cert.FfnUpWgradIdeal.τ).loc Cert.FfnUpWgradIdeal.main_arg0) = m ((c.tc : Thread Cert.FfnUpWgradIdeal.nD Cert.FfnUpWgradIdeal.τ).loc Cert.FfnUpWgradIdeal.main_arg0)
          ∧ r.2.mem ((c.tc : Thread Cert.FfnUpWgradIdeal.nD Cert.FfnUpWgradIdeal.τ).loc Cert.FfnUpWgradIdeal.main_arg1) = m ((c.tc : Thread Cert.FfnUpWgradIdeal.nD Cert.FfnUpWgradIdeal.τ).loc Cert.FfnUpWgradIdeal.main_arg1)
          ∧ r.2.mem ((c.tc : Thread Cert.FfnUpWgradIdeal.nD Cert.FfnUpWgradIdeal.τ).loc Cert.FfnUpWgradIdeal.main_arg2) = m ((c.tc : Thread Cert.FfnUpWgradIdeal.nD Cert.FfnUpWgradIdeal.τ).loc Cert.FfnUpWgradIdeal.main_arg2))
      ∧ θ_run (Cert.FfnUpWgradRefIdeal.defs (F := Ideal)) (onTc (τ := Cert.FfnUpWgradRefIdeal.τ) (Cert.FfnUpWgradRefIdeal.main (F := Ideal))) ⟨m', fun _ => 0, g'⟩ (fun r => ∀ c : Dev Cert.FfnUpWgradRefIdeal.nD,
          r.2.mem ((c.tc : Thread Cert.FfnUpWgradRefIdeal.nD Cert.FfnUpWgradRefIdeal.τ).loc Cert.FfnUpWgradRefIdeal.main_v8) = v0 c
          ∧ r.2.mem ((c.tc : Thread Cert.FfnUpWgradRefIdeal.nD Cert.FfnUpWgradRefIdeal.τ).loc Cert.FfnUpWgradRefIdeal.main_arg0) = m' ((c.tc : Thread Cert.FfnUpWgradRefIdeal.nD Cert.FfnUpWgradRefIdeal.τ).loc Cert.FfnUpWgradRefIdeal.main_arg0)
          ∧ r.2.mem ((c.tc : Thread Cert.FfnUpWgradRefIdeal.nD Cert.FfnUpWgradRefIdeal.τ).loc Cert.FfnUpWgradRefIdeal.main_arg1) = m' ((c.tc : Thread Cert.FfnUpWgradRefIdeal.nD Cert.FfnUpWgradRefIdeal.τ).loc Cert.FfnUpWgradRefIdeal.main_arg1)
          ∧ r.2.mem ((c.tc : Thread Cert.FfnUpWgradRefIdeal.nD Cert.FfnUpWgradRefIdeal.τ).loc Cert.FfnUpWgradRefIdeal.main_arg2) = m' ((c.tc : Thread Cert.FfnUpWgradRefIdeal.nD Cert.FfnUpWgradRefIdeal.τ).loc Cert.FfnUpWgradRefIdeal.main_arg2))

def preserves_FfnDownWgrad_FfnDownWgradIdeal : Prop :=
  True

def algebraic_FfnDownWgradIdeal_FfnDownWgradRefIdeal [hFfnDownWgradIdeal : Cert.FfnDownWgradIdeal.Facts] [hFfnDownWgradRefIdeal : Cert.FfnDownWgradRefIdeal.Facts] : Prop :=
  ∀ (m : (ℓ : Loc Cert.FfnDownWgradIdeal.nD Cert.FfnDownWgradIdeal.τ Cert.FfnDownWgradIdeal.sig) → Buf (Elt Ideal) ℓ) (g : Dev Cert.FfnDownWgradIdeal.nD → PrngReg)
    (m' : (ℓ : Loc Cert.FfnDownWgradRefIdeal.nD Cert.FfnDownWgradRefIdeal.τ Cert.FfnDownWgradRefIdeal.sig) → Buf (Elt Ideal) ℓ) (g' : Dev Cert.FfnDownWgradRefIdeal.nD → PrngReg), Pre_FfnDownWgradIdeal m →
    (∀ c : Dev Cert.FfnDownWgradIdeal.nD,
      m' ((c.tc : Thread Cert.FfnDownWgradRefIdeal.nD Cert.FfnDownWgradRefIdeal.τ).loc Cert.FfnDownWgradRefIdeal.main_arg0) = m ((c.tc : Thread Cert.FfnDownWgradIdeal.nD Cert.FfnDownWgradIdeal.τ).loc Cert.FfnDownWgradIdeal.main_arg0)
      ∧ m' ((c.tc : Thread Cert.FfnDownWgradRefIdeal.nD Cert.FfnDownWgradRefIdeal.τ).loc Cert.FfnDownWgradRefIdeal.main_arg1) = m ((c.tc : Thread Cert.FfnDownWgradIdeal.nD Cert.FfnDownWgradIdeal.τ).loc Cert.FfnDownWgradIdeal.main_arg1)) →
    ∃ (v0 : (c : Dev Cert.FfnDownWgradIdeal.nD) → Buf (Elt Ideal) ((c.tc : Thread Cert.FfnDownWgradIdeal.nD Cert.FfnDownWgradIdeal.τ).loc Cert.FfnDownWgradIdeal.main_v0)),
      θ_run (Cert.FfnDownWgradIdeal.defs (F := Ideal)) (onTc (τ := Cert.FfnDownWgradIdeal.τ) (Cert.FfnDownWgradIdeal.main (F := Ideal))) ⟨m, fun _ => 0, g⟩ (fun r => ∀ c : Dev Cert.FfnDownWgradIdeal.nD,
          r.2.mem ((c.tc : Thread Cert.FfnDownWgradIdeal.nD Cert.FfnDownWgradIdeal.τ).loc Cert.FfnDownWgradIdeal.main_v0) = v0 c
          ∧ r.2.mem ((c.tc : Thread Cert.FfnDownWgradIdeal.nD Cert.FfnDownWgradIdeal.τ).loc Cert.FfnDownWgradIdeal.main_arg0) = m ((c.tc : Thread Cert.FfnDownWgradIdeal.nD Cert.FfnDownWgradIdeal.τ).loc Cert.FfnDownWgradIdeal.main_arg0)
          ∧ r.2.mem ((c.tc : Thread Cert.FfnDownWgradIdeal.nD Cert.FfnDownWgradIdeal.τ).loc Cert.FfnDownWgradIdeal.main_arg1) = m ((c.tc : Thread Cert.FfnDownWgradIdeal.nD Cert.FfnDownWgradIdeal.τ).loc Cert.FfnDownWgradIdeal.main_arg1))
      ∧ θ_run (Cert.FfnDownWgradRefIdeal.defs (F := Ideal)) (onTc (τ := Cert.FfnDownWgradRefIdeal.τ) (Cert.FfnDownWgradRefIdeal.main (F := Ideal))) ⟨m', fun _ => 0, g'⟩ (fun r => ∀ c : Dev Cert.FfnDownWgradRefIdeal.nD,
          r.2.mem ((c.tc : Thread Cert.FfnDownWgradRefIdeal.nD Cert.FfnDownWgradRefIdeal.τ).loc Cert.FfnDownWgradRefIdeal.main_v5) = v0 c
          ∧ r.2.mem ((c.tc : Thread Cert.FfnDownWgradRefIdeal.nD Cert.FfnDownWgradRefIdeal.τ).loc Cert.FfnDownWgradRefIdeal.main_arg0) = m' ((c.tc : Thread Cert.FfnDownWgradRefIdeal.nD Cert.FfnDownWgradRefIdeal.τ).loc Cert.FfnDownWgradRefIdeal.main_arg0)
          ∧ r.2.mem ((c.tc : Thread Cert.FfnDownWgradRefIdeal.nD Cert.FfnDownWgradRefIdeal.τ).loc Cert.FfnDownWgradRefIdeal.main_arg1) = m' ((c.tc : Thread Cert.FfnDownWgradRefIdeal.nD Cert.FfnDownWgradRefIdeal.τ).loc Cert.FfnDownWgradRefIdeal.main_arg1))

def preserves_FfnUp_FfnUpIdeal : Prop :=
  True

def algebraic_FfnUpIdeal_FfnUpRefIdeal_pre_up_finite [hFfnUpIdeal : Cert.FfnUpIdeal.Facts] [hFfnUpRefIdeal : Cert.FfnUpRefIdeal.Facts] [hPre_up_finite : Cert.Pre_up_finite.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal_up_finite m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0_0)) (v1 : (c : Dev Cert.FfnUpIdeal.nD) → Buf (Elt Ideal) ((c.tc : Thread Cert.FfnUpIdeal.nD Cert.FfnUpIdeal.τ).loc Cert.FfnUpIdeal.main_v0_1)) (v2 : (c : Dev Cert.FfnUpIdeal.nD) → Buf (Elt Ideal) ((c.tc : Thread Cert.FfnUpIdeal.nD Cert.FfnUpIdeal.τ).loc Cert.FfnUpIdeal.main_v0_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0_0) = v0 c
          ∧ r.2.mem ((c.tc : Thread Cert.FfnUpIdeal.nD Cert.FfnUpIdeal.τ).loc Cert.FfnUpIdeal.main_v0_1) = v1 c
          ∧ r.2.mem ((c.tc : Thread Cert.FfnUpIdeal.nD Cert.FfnUpIdeal.τ).loc Cert.FfnUpIdeal.main_v0_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v14) = v0 c
          ∧ r.2.mem ((c.tc : Thread Cert.FfnUpRefIdeal.nD Cert.FfnUpRefIdeal.τ).loc Cert.FfnUpRefIdeal.main_v15) = v1 c
          ∧ r.2.mem ((c.tc : Thread Cert.FfnUpRefIdeal.nD Cert.FfnUpRefIdeal.τ).loc Cert.FfnUpRefIdeal.main_v16) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v0_0)) (v1 : (c : Dev Cert.FfnDownIdeal.nD) → Buf (Elt Ideal) ((c.tc : Thread Cert.FfnDownIdeal.nD Cert.FfnDownIdeal.τ).loc Cert.FfnDownIdeal.main_v0_1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0_0) = v0 c
          ∧ r.2.mem ((c.tc : Thread Cert.FfnDownIdeal.nD Cert.FfnDownIdeal.τ).loc Cert.FfnDownIdeal.main_v0_1) = v1 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v4) = v0 c
          ∧ r.2.mem ((c.tc : Thread Cert.FfnDownRefIdeal.nD Cert.FfnDownRefIdeal.τ).loc Cert.FfnDownRefIdeal.main_v17) = v1 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3))

def preserves_FfnDownLoss_FfnDownLossIdeal : Prop :=
  True

def algebraic_FfnDownLossIdeal_FfnDownLossRefIdeal [hFfnDownLossIdeal : Cert.FfnDownLossIdeal.Facts] [hFfnDownLossRefIdeal : Cert.FfnDownLossRefIdeal.Facts] : Prop :=
  ∀ (m : (ℓ : Loc Cert.FfnDownLossIdeal.nD Cert.FfnDownLossIdeal.τ Cert.FfnDownLossIdeal.sig) → Buf (Elt Ideal) ℓ) (g : Dev Cert.FfnDownLossIdeal.nD → PrngReg)
    (m' : (ℓ : Loc Cert.FfnDownLossRefIdeal.nD Cert.FfnDownLossRefIdeal.τ Cert.FfnDownLossRefIdeal.sig) → Buf (Elt Ideal) ℓ) (g' : Dev Cert.FfnDownLossRefIdeal.nD → PrngReg), Pre_FfnDownLossIdeal m →
    (∀ c : Dev Cert.FfnDownLossIdeal.nD,
      m' ((c.tc : Thread Cert.FfnDownLossRefIdeal.nD Cert.FfnDownLossRefIdeal.τ).loc Cert.FfnDownLossRefIdeal.main_arg0) = m ((c.tc : Thread Cert.FfnDownLossIdeal.nD Cert.FfnDownLossIdeal.τ).loc Cert.FfnDownLossIdeal.main_arg0)
      ∧ m' ((c.tc : Thread Cert.FfnDownLossRefIdeal.nD Cert.FfnDownLossRefIdeal.τ).loc Cert.FfnDownLossRefIdeal.main_arg1) = m ((c.tc : Thread Cert.FfnDownLossIdeal.nD Cert.FfnDownLossIdeal.τ).loc Cert.FfnDownLossIdeal.main_arg1)
      ∧ m' ((c.tc : Thread Cert.FfnDownLossRefIdeal.nD Cert.FfnDownLossRefIdeal.τ).loc Cert.FfnDownLossRefIdeal.main_arg2) = m ((c.tc : Thread Cert.FfnDownLossIdeal.nD Cert.FfnDownLossIdeal.τ).loc Cert.FfnDownLossIdeal.main_arg2)
      ∧ m' ((c.tc : Thread Cert.FfnDownLossRefIdeal.nD Cert.FfnDownLossRefIdeal.τ).loc Cert.FfnDownLossRefIdeal.main_arg3) = m ((c.tc : Thread Cert.FfnDownLossIdeal.nD Cert.FfnDownLossIdeal.τ).loc Cert.FfnDownLossIdeal.main_arg3)) →
    ∃ (v0 : (c : Dev Cert.FfnDownLossIdeal.nD) → Buf (Elt Ideal) ((c.tc : Thread Cert.FfnDownLossIdeal.nD Cert.FfnDownLossIdeal.τ).loc Cert.FfnDownLossIdeal.main_v0_0)) (v1 : (c : Dev Cert.FfnDownLossIdeal.nD) → Buf (Elt Ideal) ((c.tc : Thread Cert.FfnDownLossIdeal.nD Cert.FfnDownLossIdeal.τ).loc Cert.FfnDownLossIdeal.main_v0_1)) (v2 : (c : Dev Cert.FfnDownLossIdeal.nD) → Buf (Elt Ideal) ((c.tc : Thread Cert.FfnDownLossIdeal.nD Cert.FfnDownLossIdeal.τ).loc Cert.FfnDownLossIdeal.main_v0_2)),
      θ_run (Cert.FfnDownLossIdeal.defs (F := Ideal)) (onTc (τ := Cert.FfnDownLossIdeal.τ) (Cert.FfnDownLossIdeal.main (F := Ideal))) ⟨m, fun _ => 0, g⟩ (fun r => ∀ c : Dev Cert.FfnDownLossIdeal.nD,
          r.2.mem ((c.tc : Thread Cert.FfnDownLossIdeal.nD Cert.FfnDownLossIdeal.τ).loc Cert.FfnDownLossIdeal.main_v0_0) = v0 c
          ∧ r.2.mem ((c.tc : Thread Cert.FfnDownLossIdeal.nD Cert.FfnDownLossIdeal.τ).loc Cert.FfnDownLossIdeal.main_v0_1) = v1 c
          ∧ r.2.mem ((c.tc : Thread Cert.FfnDownLossIdeal.nD Cert.FfnDownLossIdeal.τ).loc Cert.FfnDownLossIdeal.main_v0_2) = v2 c
          ∧ r.2.mem ((c.tc : Thread Cert.FfnDownLossIdeal.nD Cert.FfnDownLossIdeal.τ).loc Cert.FfnDownLossIdeal.main_arg0) = m ((c.tc : Thread Cert.FfnDownLossIdeal.nD Cert.FfnDownLossIdeal.τ).loc Cert.FfnDownLossIdeal.main_arg0)
          ∧ r.2.mem ((c.tc : Thread Cert.FfnDownLossIdeal.nD Cert.FfnDownLossIdeal.τ).loc Cert.FfnDownLossIdeal.main_arg1) = m ((c.tc : Thread Cert.FfnDownLossIdeal.nD Cert.FfnDownLossIdeal.τ).loc Cert.FfnDownLossIdeal.main_arg1)
          ∧ r.2.mem ((c.tc : Thread Cert.FfnDownLossIdeal.nD Cert.FfnDownLossIdeal.τ).loc Cert.FfnDownLossIdeal.main_arg2) = m ((c.tc : Thread Cert.FfnDownLossIdeal.nD Cert.FfnDownLossIdeal.τ).loc Cert.FfnDownLossIdeal.main_arg2)
          ∧ r.2.mem ((c.tc : Thread Cert.FfnDownLossIdeal.nD Cert.FfnDownLossIdeal.τ).loc Cert.FfnDownLossIdeal.main_arg3) = m ((c.tc : Thread Cert.FfnDownLossIdeal.nD Cert.FfnDownLossIdeal.τ).loc Cert.FfnDownLossIdeal.main_arg3))
      ∧ θ_run (Cert.FfnDownLossRefIdeal.defs (F := Ideal)) (onTc (τ := Cert.FfnDownLossRefIdeal.τ) (Cert.FfnDownLossRefIdeal.main (F := Ideal))) ⟨m', fun _ => 0, g'⟩ (fun r => ∀ c : Dev Cert.FfnDownLossRefIdeal.nD,
          r.2.mem ((c.tc : Thread Cert.FfnDownLossRefIdeal.nD Cert.FfnDownLossRefIdeal.τ).loc Cert.FfnDownLossRefIdeal.main_v19) = v0 c
          ∧ r.2.mem ((c.tc : Thread Cert.FfnDownLossRefIdeal.nD Cert.FfnDownLossRefIdeal.τ).loc Cert.FfnDownLossRefIdeal.main_v20) = v1 c
          ∧ r.2.mem ((c.tc : Thread Cert.FfnDownLossRefIdeal.nD Cert.FfnDownLossRefIdeal.τ).loc Cert.FfnDownLossRefIdeal.main_v21) = v2 c
          ∧ r.2.mem ((c.tc : Thread Cert.FfnDownLossRefIdeal.nD Cert.FfnDownLossRefIdeal.τ).loc Cert.FfnDownLossRefIdeal.main_arg0) = m' ((c.tc : Thread Cert.FfnDownLossRefIdeal.nD Cert.FfnDownLossRefIdeal.τ).loc Cert.FfnDownLossRefIdeal.main_arg0)
          ∧ r.2.mem ((c.tc : Thread Cert.FfnDownLossRefIdeal.nD Cert.FfnDownLossRefIdeal.τ).loc Cert.FfnDownLossRefIdeal.main_arg1) = m' ((c.tc : Thread Cert.FfnDownLossRefIdeal.nD Cert.FfnDownLossRefIdeal.τ).loc Cert.FfnDownLossRefIdeal.main_arg1)
          ∧ r.2.mem ((c.tc : Thread Cert.FfnDownLossRefIdeal.nD Cert.FfnDownLossRefIdeal.τ).loc Cert.FfnDownLossRefIdeal.main_arg2) = m' ((c.tc : Thread Cert.FfnDownLossRefIdeal.nD Cert.FfnDownLossRefIdeal.τ).loc Cert.FfnDownLossRefIdeal.main_arg2)
          ∧ r.2.mem ((c.tc : Thread Cert.FfnDownLossRefIdeal.nD Cert.FfnDownLossRefIdeal.τ).loc Cert.FfnDownLossRefIdeal.main_arg3) = m' ((c.tc : Thread Cert.FfnDownLossRefIdeal.nD Cert.FfnDownLossRefIdeal.τ).loc Cert.FfnDownLossRefIdeal.main_arg3))

def preserves_ConvIn_ConvInIdeal : Prop :=
  True

def algebraic_ConvInIdeal_ConvInRefIdeal [hConvInIdeal : Cert.ConvInIdeal.Facts] [hConvInRefIdeal : Cert.ConvInRefIdeal.Facts] : Prop :=
  ∀ (m : (ℓ : Loc Cert.ConvInIdeal.nD Cert.ConvInIdeal.τ Cert.ConvInIdeal.sig) → Buf (Elt Ideal) ℓ) (g : Dev Cert.ConvInIdeal.nD → PrngReg)
    (m' : (ℓ : Loc Cert.ConvInRefIdeal.nD Cert.ConvInRefIdeal.τ Cert.ConvInRefIdeal.sig) → Buf (Elt Ideal) ℓ) (g' : Dev Cert.ConvInRefIdeal.nD → PrngReg), Pre_ConvInIdeal m →
    (∀ c : Dev Cert.ConvInIdeal.nD,
      m' ((c.tc : Thread Cert.ConvInRefIdeal.nD Cert.ConvInRefIdeal.τ).loc Cert.ConvInRefIdeal.main_arg0) = m ((c.tc : Thread Cert.ConvInIdeal.nD Cert.ConvInIdeal.τ).loc Cert.ConvInIdeal.main_arg0)
      ∧ m' ((c.tc : Thread Cert.ConvInRefIdeal.nD Cert.ConvInRefIdeal.τ).loc Cert.ConvInRefIdeal.main_arg1) = m ((c.tc : Thread Cert.ConvInIdeal.nD Cert.ConvInIdeal.τ).loc Cert.ConvInIdeal.main_arg1)
      ∧ m' ((c.tc : Thread Cert.ConvInRefIdeal.nD Cert.ConvInRefIdeal.τ).loc Cert.ConvInRefIdeal.main_arg2) = m ((c.tc : Thread Cert.ConvInIdeal.nD Cert.ConvInIdeal.τ).loc Cert.ConvInIdeal.main_arg2)) →
    ∃ (v0 : (c : Dev Cert.ConvInIdeal.nD) → Buf (Elt Ideal) ((c.tc : Thread Cert.ConvInIdeal.nD Cert.ConvInIdeal.τ).loc Cert.ConvInIdeal.main_v0_0)) (v1 : (c : Dev Cert.ConvInIdeal.nD) → Buf (Elt Ideal) ((c.tc : Thread Cert.ConvInIdeal.nD Cert.ConvInIdeal.τ).loc Cert.ConvInIdeal.main_v0_1)),
      θ_run (Cert.ConvInIdeal.defs (F := Ideal)) (onTc (τ := Cert.ConvInIdeal.τ) (Cert.ConvInIdeal.main (F := Ideal))) ⟨m, fun _ => 0, g⟩ (fun r => ∀ c : Dev Cert.ConvInIdeal.nD,
          r.2.mem ((c.tc : Thread Cert.ConvInIdeal.nD Cert.ConvInIdeal.τ).loc Cert.ConvInIdeal.main_v0_0) = v0 c
          ∧ r.2.mem ((c.tc : Thread Cert.ConvInIdeal.nD Cert.ConvInIdeal.τ).loc Cert.ConvInIdeal.main_v0_1) = v1 c
          ∧ r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
          ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
          ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2))
      ∧ θ_run (Cert.ConvInRefIdeal.defs (F := Ideal)) (onTc (τ := Cert.ConvInRefIdeal.τ) (Cert.ConvInRefIdeal.main (F := Ideal))) ⟨m', fun _ => 0, g'⟩ (fun r => ∀ c : Dev Cert.ConvInRefIdeal.nD,
          r.2.mem ((c.tc : Thread Cert.ConvInRefIdeal.nD Cert.ConvInRefIdeal.τ).loc Cert.ConvInRefIdeal.main_v12) = v0 c
          ∧ r.2.mem ((c.tc : Thread Cert.ConvInRefIdeal.nD Cert.ConvInRefIdeal.τ).loc Cert.ConvInRefIdeal.main_v18) = v1 c
          ∧ r.2.mem ((c.tc : Thread Cert.ConvInRefIdeal.nD Cert.ConvInRefIdeal.τ).loc Cert.ConvInRefIdeal.main_arg0) = m' ((c.tc : Thread Cert.ConvInRefIdeal.nD Cert.ConvInRefIdeal.τ).loc Cert.ConvInRefIdeal.main_arg0)
          ∧ r.2.mem ((c.tc : Thread Cert.ConvInRefIdeal.nD Cert.ConvInRefIdeal.τ).loc Cert.ConvInRefIdeal.main_arg1) = m' ((c.tc : Thread Cert.ConvInRefIdeal.nD Cert.ConvInRefIdeal.τ).loc Cert.ConvInRefIdeal.main_arg1)
          ∧ r.2.mem ((c.tc : Thread Cert.ConvInRefIdeal.nD Cert.ConvInRefIdeal.τ).loc Cert.ConvInRefIdeal.main_arg2) = m' ((c.tc : Thread Cert.ConvInRefIdeal.nD Cert.ConvInRefIdeal.τ).loc Cert.ConvInRefIdeal.main_arg2))

def preserves_ConvInDgrad_ConvInDgradIdeal : Prop :=
  True

def algebraic_ConvInDgradIdeal_ConvInDgradRefIdeal_pre_conv_in_dgrad_finite [hConvInDgradIdeal : Cert.ConvInDgradIdeal.Facts] [hConvInDgradRefIdeal : Cert.ConvInDgradRefIdeal.Facts] [hPre_conv_in_dgrad_finite : Cert.Pre_conv_in_dgrad_finite.Facts] : Prop :=
  ∀ (m : (ℓ : Loc Cert.ConvInDgradIdeal.nD Cert.ConvInDgradIdeal.τ Cert.ConvInDgradIdeal.sig) → Buf (Elt Ideal) ℓ) (g : Dev Cert.ConvInDgradIdeal.nD → PrngReg)
    (m' : (ℓ : Loc Cert.ConvInDgradRefIdeal.nD Cert.ConvInDgradRefIdeal.τ Cert.ConvInDgradRefIdeal.sig) → Buf (Elt Ideal) ℓ) (g' : Dev Cert.ConvInDgradRefIdeal.nD → PrngReg), Pre_ConvInDgradIdeal_conv_in_dgrad_finite m →
    (∀ c : Dev Cert.ConvInDgradIdeal.nD,
      m' ((c.tc : Thread Cert.ConvInDgradRefIdeal.nD Cert.ConvInDgradRefIdeal.τ).loc Cert.ConvInDgradRefIdeal.main_arg0) = m ((c.tc : Thread Cert.ConvInDgradIdeal.nD Cert.ConvInDgradIdeal.τ).loc Cert.ConvInDgradIdeal.main_arg0)
      ∧ m' ((c.tc : Thread Cert.ConvInDgradRefIdeal.nD Cert.ConvInDgradRefIdeal.τ).loc Cert.ConvInDgradRefIdeal.main_arg1) = m ((c.tc : Thread Cert.ConvInDgradIdeal.nD Cert.ConvInDgradIdeal.τ).loc Cert.ConvInDgradIdeal.main_arg1)
      ∧ m' ((c.tc : Thread Cert.ConvInDgradRefIdeal.nD Cert.ConvInDgradRefIdeal.τ).loc Cert.ConvInDgradRefIdeal.main_arg2) = m ((c.tc : Thread Cert.ConvInDgradIdeal.nD Cert.ConvInDgradIdeal.τ).loc Cert.ConvInDgradIdeal.main_arg2)
      ∧ m' ((c.tc : Thread Cert.ConvInDgradRefIdeal.nD Cert.ConvInDgradRefIdeal.τ).loc Cert.ConvInDgradRefIdeal.main_arg3) = m ((c.tc : Thread Cert.ConvInDgradIdeal.nD Cert.ConvInDgradIdeal.τ).loc Cert.ConvInDgradIdeal.main_arg3)
      ∧ m' ((c.tc : Thread Cert.ConvInDgradRefIdeal.nD Cert.ConvInDgradRefIdeal.τ).loc Cert.ConvInDgradRefIdeal.main_arg4) = m ((c.tc : Thread Cert.ConvInDgradIdeal.nD Cert.ConvInDgradIdeal.τ).loc Cert.ConvInDgradIdeal.main_arg4)) →
    ∃ (v0 : (c : Dev Cert.ConvInDgradIdeal.nD) → Buf (Elt Ideal) ((c.tc : Thread Cert.ConvInDgradIdeal.nD Cert.ConvInDgradIdeal.τ).loc Cert.ConvInDgradIdeal.main_v0_0)) (v1 : (c : Dev Cert.ConvInDgradIdeal.nD) → Buf (Elt Ideal) ((c.tc : Thread Cert.ConvInDgradIdeal.nD Cert.ConvInDgradIdeal.τ).loc Cert.ConvInDgradIdeal.main_v0_1)),
      θ_run (Cert.ConvInDgradIdeal.defs (F := Ideal)) (onTc (τ := Cert.ConvInDgradIdeal.τ) (Cert.ConvInDgradIdeal.main (F := Ideal))) ⟨m, fun _ => 0, g⟩ (fun r => ∀ c : Dev Cert.ConvInDgradIdeal.nD,
          r.2.mem ((c.tc : Thread Cert.ConvInDgradIdeal.nD Cert.ConvInDgradIdeal.τ).loc Cert.ConvInDgradIdeal.main_v0_0) = v0 c
          ∧ r.2.mem ((c.tc : Thread Cert.ConvInDgradIdeal.nD Cert.ConvInDgradIdeal.τ).loc Cert.ConvInDgradIdeal.main_v0_1) = v1 c
          ∧ r.2.mem ((c.tc : Thread Cert.ConvInDgradIdeal.nD Cert.ConvInDgradIdeal.τ).loc Cert.ConvInDgradIdeal.main_arg0) = m ((c.tc : Thread Cert.ConvInDgradIdeal.nD Cert.ConvInDgradIdeal.τ).loc Cert.ConvInDgradIdeal.main_arg0)
          ∧ r.2.mem ((c.tc : Thread Cert.ConvInDgradIdeal.nD Cert.ConvInDgradIdeal.τ).loc Cert.ConvInDgradIdeal.main_arg1) = m ((c.tc : Thread Cert.ConvInDgradIdeal.nD Cert.ConvInDgradIdeal.τ).loc Cert.ConvInDgradIdeal.main_arg1)
          ∧ r.2.mem ((c.tc : Thread Cert.ConvInDgradIdeal.nD Cert.ConvInDgradIdeal.τ).loc Cert.ConvInDgradIdeal.main_arg2) = m ((c.tc : Thread Cert.ConvInDgradIdeal.nD Cert.ConvInDgradIdeal.τ).loc Cert.ConvInDgradIdeal.main_arg2)
          ∧ r.2.mem ((c.tc : Thread Cert.ConvInDgradIdeal.nD Cert.ConvInDgradIdeal.τ).loc Cert.ConvInDgradIdeal.main_arg3) = m ((c.tc : Thread Cert.ConvInDgradIdeal.nD Cert.ConvInDgradIdeal.τ).loc Cert.ConvInDgradIdeal.main_arg3)
          ∧ r.2.mem ((c.tc : Thread Cert.ConvInDgradIdeal.nD Cert.ConvInDgradIdeal.τ).loc Cert.ConvInDgradIdeal.main_arg4) = m ((c.tc : Thread Cert.ConvInDgradIdeal.nD Cert.ConvInDgradIdeal.τ).loc Cert.ConvInDgradIdeal.main_arg4))
      ∧ θ_run (Cert.ConvInDgradRefIdeal.defs (F := Ideal)) (onTc (τ := Cert.ConvInDgradRefIdeal.τ) (Cert.ConvInDgradRefIdeal.main (F := Ideal))) ⟨m', fun _ => 0, g'⟩ (fun r => ∀ c : Dev Cert.ConvInDgradRefIdeal.nD,
          r.2.mem ((c.tc : Thread Cert.ConvInDgradRefIdeal.nD Cert.ConvInDgradRefIdeal.τ).loc Cert.ConvInDgradRefIdeal.main_v55) = v0 c
          ∧ r.2.mem ((c.tc : Thread Cert.ConvInDgradRefIdeal.nD Cert.ConvInDgradRefIdeal.τ).loc Cert.ConvInDgradRefIdeal.main_v39) = v1 c
          ∧ r.2.mem ((c.tc : Thread Cert.ConvInDgradRefIdeal.nD Cert.ConvInDgradRefIdeal.τ).loc Cert.ConvInDgradRefIdeal.main_arg0) = m' ((c.tc : Thread Cert.ConvInDgradRefIdeal.nD Cert.ConvInDgradRefIdeal.τ).loc Cert.ConvInDgradRefIdeal.main_arg0)
          ∧ r.2.mem ((c.tc : Thread Cert.ConvInDgradRefIdeal.nD Cert.ConvInDgradRefIdeal.τ).loc Cert.ConvInDgradRefIdeal.main_arg1) = m' ((c.tc : Thread Cert.ConvInDgradRefIdeal.nD Cert.ConvInDgradRefIdeal.τ).loc Cert.ConvInDgradRefIdeal.main_arg1)
          ∧ r.2.mem ((c.tc : Thread Cert.ConvInDgradRefIdeal.nD Cert.ConvInDgradRefIdeal.τ).loc Cert.ConvInDgradRefIdeal.main_arg2) = m' ((c.tc : Thread Cert.ConvInDgradRefIdeal.nD Cert.ConvInDgradRefIdeal.τ).loc Cert.ConvInDgradRefIdeal.main_arg2)
          ∧ r.2.mem ((c.tc : Thread Cert.ConvInDgradRefIdeal.nD Cert.ConvInDgradRefIdeal.τ).loc Cert.ConvInDgradRefIdeal.main_arg3) = m' ((c.tc : Thread Cert.ConvInDgradRefIdeal.nD Cert.ConvInDgradRefIdeal.τ).loc Cert.ConvInDgradRefIdeal.main_arg3)
          ∧ r.2.mem ((c.tc : Thread Cert.ConvInDgradRefIdeal.nD Cert.ConvInDgradRefIdeal.τ).loc Cert.ConvInDgradRefIdeal.main_arg4) = m' ((c.tc : Thread Cert.ConvInDgradRefIdeal.nD Cert.ConvInDgradRefIdeal.τ).loc Cert.ConvInDgradRefIdeal.main_arg4))

def preserves_ConvInWgrad_ConvInWgradIdeal : Prop :=
  True

def algebraic_ConvInWgradIdeal_ConvInWgradRefIdeal [hConvInWgradIdeal : Cert.ConvInWgradIdeal.Facts] [hConvInWgradRefIdeal : Cert.ConvInWgradRefIdeal.Facts] : Prop :=
  ∀ (m : (ℓ : Loc Cert.ConvInWgradIdeal.nD Cert.ConvInWgradIdeal.τ Cert.ConvInWgradIdeal.sig) → Buf (Elt Ideal) ℓ) (g : Dev Cert.ConvInWgradIdeal.nD → PrngReg)
    (m' : (ℓ : Loc Cert.ConvInWgradRefIdeal.nD Cert.ConvInWgradRefIdeal.τ Cert.ConvInWgradRefIdeal.sig) → Buf (Elt Ideal) ℓ) (g' : Dev Cert.ConvInWgradRefIdeal.nD → PrngReg), Pre_ConvInWgradIdeal m →
    (∀ c : Dev Cert.ConvInWgradIdeal.nD,
      m' ((c.tc : Thread Cert.ConvInWgradRefIdeal.nD Cert.ConvInWgradRefIdeal.τ).loc Cert.ConvInWgradRefIdeal.main_arg0) = m ((c.tc : Thread Cert.ConvInWgradIdeal.nD Cert.ConvInWgradIdeal.τ).loc Cert.ConvInWgradIdeal.main_arg0)
      ∧ m' ((c.tc : Thread Cert.ConvInWgradRefIdeal.nD Cert.ConvInWgradRefIdeal.τ).loc Cert.ConvInWgradRefIdeal.main_arg1) = m ((c.tc : Thread Cert.ConvInWgradIdeal.nD Cert.ConvInWgradIdeal.τ).loc Cert.ConvInWgradIdeal.main_arg1)) →
    ∃ (v0 : (c : Dev Cert.ConvInWgradIdeal.nD) → Buf (Elt Ideal) ((c.tc : Thread Cert.ConvInWgradIdeal.nD Cert.ConvInWgradIdeal.τ).loc Cert.ConvInWgradIdeal.main_v0)),
      θ_run (Cert.ConvInWgradIdeal.defs (F := Ideal)) (onTc (τ := Cert.ConvInWgradIdeal.τ) (Cert.ConvInWgradIdeal.main (F := Ideal))) ⟨m, fun _ => 0, g⟩ (fun r => ∀ c : Dev Cert.ConvInWgradIdeal.nD,
          r.2.mem ((c.tc : Thread Cert.ConvInWgradIdeal.nD Cert.ConvInWgradIdeal.τ).loc Cert.ConvInWgradIdeal.main_v0) = v0 c
          ∧ r.2.mem ((c.tc : Thread Cert.ConvInWgradIdeal.nD Cert.ConvInWgradIdeal.τ).loc Cert.ConvInWgradIdeal.main_arg0) = m ((c.tc : Thread Cert.ConvInWgradIdeal.nD Cert.ConvInWgradIdeal.τ).loc Cert.ConvInWgradIdeal.main_arg0)
          ∧ r.2.mem ((c.tc : Thread Cert.ConvInWgradIdeal.nD Cert.ConvInWgradIdeal.τ).loc Cert.ConvInWgradIdeal.main_arg1) = m ((c.tc : Thread Cert.ConvInWgradIdeal.nD Cert.ConvInWgradIdeal.τ).loc Cert.ConvInWgradIdeal.main_arg1))
      ∧ θ_run (Cert.ConvInWgradRefIdeal.defs (F := Ideal)) (onTc (τ := Cert.ConvInWgradRefIdeal.τ) (Cert.ConvInWgradRefIdeal.main (F := Ideal))) ⟨m', fun _ => 0, g'⟩ (fun r => ∀ c : Dev Cert.ConvInWgradRefIdeal.nD,
          r.2.mem ((c.tc : Thread Cert.ConvInWgradRefIdeal.nD Cert.ConvInWgradRefIdeal.τ).loc Cert.ConvInWgradRefIdeal.main_v14) = v0 c
          ∧ r.2.mem ((c.tc : Thread Cert.ConvInWgradRefIdeal.nD Cert.ConvInWgradRefIdeal.τ).loc Cert.ConvInWgradRefIdeal.main_arg0) = m' ((c.tc : Thread Cert.ConvInWgradRefIdeal.nD Cert.ConvInWgradRefIdeal.τ).loc Cert.ConvInWgradRefIdeal.main_arg0)
          ∧ r.2.mem ((c.tc : Thread Cert.ConvInWgradRefIdeal.nD Cert.ConvInWgradRefIdeal.τ).loc Cert.ConvInWgradRefIdeal.main_arg1) = m' ((c.tc : Thread Cert.ConvInWgradRefIdeal.nD Cert.ConvInWgradRefIdeal.τ).loc Cert.ConvInWgradRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v6) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_QkvDgrad_QkvDgradIdeal : Prop :=
  True

def algebraic_QkvDgradIdeal_QkvDgradRefIdeal_pre_qkv_dgrad_finite [hQkvDgradIdeal : Cert.QkvDgradIdeal.Facts] [hQkvDgradRefIdeal : Cert.QkvDgradRefIdeal.Facts] [hPre_qkv_dgrad_finite : Cert.Pre_qkv_dgrad_finite.Facts] : Prop :=
  ∀ (m : (ℓ : Loc Cert.QkvDgradIdeal.nD Cert.QkvDgradIdeal.τ Cert.QkvDgradIdeal.sig) → Buf (Elt Ideal) ℓ) (g : Dev Cert.QkvDgradIdeal.nD → PrngReg)
    (m' : (ℓ : Loc Cert.QkvDgradRefIdeal.nD Cert.QkvDgradRefIdeal.τ Cert.QkvDgradRefIdeal.sig) → Buf (Elt Ideal) ℓ) (g' : Dev Cert.QkvDgradRefIdeal.nD → PrngReg), Pre_QkvDgradIdeal_qkv_dgrad_finite m →
    (∀ c : Dev Cert.QkvDgradIdeal.nD,
      m' ((c.tc : Thread Cert.QkvDgradRefIdeal.nD Cert.QkvDgradRefIdeal.τ).loc Cert.QkvDgradRefIdeal.main_arg0) = m ((c.tc : Thread Cert.QkvDgradIdeal.nD Cert.QkvDgradIdeal.τ).loc Cert.QkvDgradIdeal.main_arg0)
      ∧ m' ((c.tc : Thread Cert.QkvDgradRefIdeal.nD Cert.QkvDgradRefIdeal.τ).loc Cert.QkvDgradRefIdeal.main_arg1) = m ((c.tc : Thread Cert.QkvDgradIdeal.nD Cert.QkvDgradIdeal.τ).loc Cert.QkvDgradIdeal.main_arg1)
      ∧ m' ((c.tc : Thread Cert.QkvDgradRefIdeal.nD Cert.QkvDgradRefIdeal.τ).loc Cert.QkvDgradRefIdeal.main_arg2) = m ((c.tc : Thread Cert.QkvDgradIdeal.nD Cert.QkvDgradIdeal.τ).loc Cert.QkvDgradIdeal.main_arg2)
      ∧ m' ((c.tc : Thread Cert.QkvDgradRefIdeal.nD Cert.QkvDgradRefIdeal.τ).loc Cert.QkvDgradRefIdeal.main_arg3) = m ((c.tc : Thread Cert.QkvDgradIdeal.nD Cert.QkvDgradIdeal.τ).loc Cert.QkvDgradIdeal.main_arg3)
      ∧ m' ((c.tc : Thread Cert.QkvDgradRefIdeal.nD Cert.QkvDgradRefIdeal.τ).loc Cert.QkvDgradRefIdeal.main_arg4) = m ((c.tc : Thread Cert.QkvDgradIdeal.nD Cert.QkvDgradIdeal.τ).loc Cert.QkvDgradIdeal.main_arg4)) →
    ∃ (v0 : (c : Dev Cert.QkvDgradIdeal.nD) → Buf (Elt Ideal) ((c.tc : Thread Cert.QkvDgradIdeal.nD Cert.QkvDgradIdeal.τ).loc Cert.QkvDgradIdeal.main_v0_0)) (v1 : (c : Dev Cert.QkvDgradIdeal.nD) → Buf (Elt Ideal) ((c.tc : Thread Cert.QkvDgradIdeal.nD Cert.QkvDgradIdeal.τ).loc Cert.QkvDgradIdeal.main_v0_1)) (v2 : (c : Dev Cert.QkvDgradIdeal.nD) → Buf (Elt Ideal) ((c.tc : Thread Cert.QkvDgradIdeal.nD Cert.QkvDgradIdeal.τ).loc Cert.QkvDgradIdeal.main_v0_2)),
      θ_run (Cert.QkvDgradIdeal.defs (F := Ideal)) (onTc (τ := Cert.QkvDgradIdeal.τ) (Cert.QkvDgradIdeal.main (F := Ideal))) ⟨m, fun _ => 0, g⟩ (fun r => ∀ c : Dev Cert.QkvDgradIdeal.nD,
          r.2.mem ((c.tc : Thread Cert.QkvDgradIdeal.nD Cert.QkvDgradIdeal.τ).loc Cert.QkvDgradIdeal.main_v0_0) = v0 c
          ∧ r.2.mem ((c.tc : Thread Cert.QkvDgradIdeal.nD Cert.QkvDgradIdeal.τ).loc Cert.QkvDgradIdeal.main_v0_1) = v1 c
          ∧ r.2.mem ((c.tc : Thread Cert.QkvDgradIdeal.nD Cert.QkvDgradIdeal.τ).loc Cert.QkvDgradIdeal.main_v0_2) = v2 c
          ∧ r.2.mem ((c.tc : Thread Cert.QkvDgradIdeal.nD Cert.QkvDgradIdeal.τ).loc Cert.QkvDgradIdeal.main_arg0) = m ((c.tc : Thread Cert.QkvDgradIdeal.nD Cert.QkvDgradIdeal.τ).loc Cert.QkvDgradIdeal.main_arg0)
          ∧ r.2.mem ((c.tc : Thread Cert.QkvDgradIdeal.nD Cert.QkvDgradIdeal.τ).loc Cert.QkvDgradIdeal.main_arg1) = m ((c.tc : Thread Cert.QkvDgradIdeal.nD Cert.QkvDgradIdeal.τ).loc Cert.QkvDgradIdeal.main_arg1)
          ∧ r.2.mem ((c.tc : Thread Cert.QkvDgradIdeal.nD Cert.QkvDgradIdeal.τ).loc Cert.QkvDgradIdeal.main_arg2) = m ((c.tc : Thread Cert.QkvDgradIdeal.nD Cert.QkvDgradIdeal.τ).loc Cert.QkvDgradIdeal.main_arg2)
          ∧ r.2.mem ((c.tc : Thread Cert.QkvDgradIdeal.nD Cert.QkvDgradIdeal.τ).loc Cert.QkvDgradIdeal.main_arg3) = m ((c.tc : Thread Cert.QkvDgradIdeal.nD Cert.QkvDgradIdeal.τ).loc Cert.QkvDgradIdeal.main_arg3)
          ∧ r.2.mem ((c.tc : Thread Cert.QkvDgradIdeal.nD Cert.QkvDgradIdeal.τ).loc Cert.QkvDgradIdeal.main_arg4) = m ((c.tc : Thread Cert.QkvDgradIdeal.nD Cert.QkvDgradIdeal.τ).loc Cert.QkvDgradIdeal.main_arg4))
      ∧ θ_run (Cert.QkvDgradRefIdeal.defs (F := Ideal)) (onTc (τ := Cert.QkvDgradRefIdeal.τ) (Cert.QkvDgradRefIdeal.main (F := Ideal))) ⟨m', fun _ => 0, g'⟩ (fun r => ∀ c : Dev Cert.QkvDgradRefIdeal.nD,
          r.2.mem ((c.tc : Thread Cert.QkvDgradRefIdeal.nD Cert.QkvDgradRefIdeal.τ).loc Cert.QkvDgradRefIdeal.main_v48) = v0 c
          ∧ r.2.mem ((c.tc : Thread Cert.QkvDgradRefIdeal.nD Cert.QkvDgradRefIdeal.τ).loc Cert.QkvDgradRefIdeal.main_v49) = v1 c
          ∧ r.2.mem ((c.tc : Thread Cert.QkvDgradRefIdeal.nD Cert.QkvDgradRefIdeal.τ).loc Cert.QkvDgradRefIdeal.main_v32) = v2 c
          ∧ r.2.mem ((c.tc : Thread Cert.QkvDgradRefIdeal.nD Cert.QkvDgradRefIdeal.τ).loc Cert.QkvDgradRefIdeal.main_arg0) = m' ((c.tc : Thread Cert.QkvDgradRefIdeal.nD Cert.QkvDgradRefIdeal.τ).loc Cert.QkvDgradRefIdeal.main_arg0)
          ∧ r.2.mem ((c.tc : Thread Cert.QkvDgradRefIdeal.nD Cert.QkvDgradRefIdeal.τ).loc Cert.QkvDgradRefIdeal.main_arg1) = m' ((c.tc : Thread Cert.QkvDgradRefIdeal.nD Cert.QkvDgradRefIdeal.τ).loc Cert.QkvDgradRefIdeal.main_arg1)
          ∧ r.2.mem ((c.tc : Thread Cert.QkvDgradRefIdeal.nD Cert.QkvDgradRefIdeal.τ).loc Cert.QkvDgradRefIdeal.main_arg2) = m' ((c.tc : Thread Cert.QkvDgradRefIdeal.nD Cert.QkvDgradRefIdeal.τ).loc Cert.QkvDgradRefIdeal.main_arg2)
          ∧ r.2.mem ((c.tc : Thread Cert.QkvDgradRefIdeal.nD Cert.QkvDgradRefIdeal.τ).loc Cert.QkvDgradRefIdeal.main_arg3) = m' ((c.tc : Thread Cert.QkvDgradRefIdeal.nD Cert.QkvDgradRefIdeal.τ).loc Cert.QkvDgradRefIdeal.main_arg3)
          ∧ r.2.mem ((c.tc : Thread Cert.QkvDgradRefIdeal.nD Cert.QkvDgradRefIdeal.τ).loc Cert.QkvDgradRefIdeal.main_arg4) = m' ((c.tc : Thread Cert.QkvDgradRefIdeal.nD Cert.QkvDgradRefIdeal.τ).loc Cert.QkvDgradRefIdeal.main_arg4))

def preserves_QkvWgrad_QkvWgradIdeal : Prop :=
  True

def algebraic_QkvWgradIdeal_QkvWgradRefIdeal [hQkvWgradIdeal : Cert.QkvWgradIdeal.Facts] [hQkvWgradRefIdeal : Cert.QkvWgradRefIdeal.Facts] : Prop :=
  ∀ (m : (ℓ : Loc Cert.QkvWgradIdeal.nD Cert.QkvWgradIdeal.τ Cert.QkvWgradIdeal.sig) → Buf (Elt Ideal) ℓ) (g : Dev Cert.QkvWgradIdeal.nD → PrngReg)
    (m' : (ℓ : Loc Cert.QkvWgradRefIdeal.nD Cert.QkvWgradRefIdeal.τ Cert.QkvWgradRefIdeal.sig) → Buf (Elt Ideal) ℓ) (g' : Dev Cert.QkvWgradRefIdeal.nD → PrngReg), Pre_QkvWgradIdeal m →
    (∀ c : Dev Cert.QkvWgradIdeal.nD,
      m' ((c.tc : Thread Cert.QkvWgradRefIdeal.nD Cert.QkvWgradRefIdeal.τ).loc Cert.QkvWgradRefIdeal.main_arg0) = m ((c.tc : Thread Cert.QkvWgradIdeal.nD Cert.QkvWgradIdeal.τ).loc Cert.QkvWgradIdeal.main_arg0)
      ∧ m' ((c.tc : Thread Cert.QkvWgradRefIdeal.nD Cert.QkvWgradRefIdeal.τ).loc Cert.QkvWgradRefIdeal.main_arg1) = m ((c.tc : Thread Cert.QkvWgradIdeal.nD Cert.QkvWgradIdeal.τ).loc Cert.QkvWgradIdeal.main_arg1)) →
    ∃ (v0 : (c : Dev Cert.QkvWgradIdeal.nD) → Buf (Elt Ideal) ((c.tc : Thread Cert.QkvWgradIdeal.nD Cert.QkvWgradIdeal.τ).loc Cert.QkvWgradIdeal.main_v0)),
      θ_run (Cert.QkvWgradIdeal.defs (F := Ideal)) (onTc (τ := Cert.QkvWgradIdeal.τ) (Cert.QkvWgradIdeal.main (F := Ideal))) ⟨m, fun _ => 0, g⟩ (fun r => ∀ c : Dev Cert.QkvWgradIdeal.nD,
          r.2.mem ((c.tc : Thread Cert.QkvWgradIdeal.nD Cert.QkvWgradIdeal.τ).loc Cert.QkvWgradIdeal.main_v0) = v0 c
          ∧ r.2.mem ((c.tc : Thread Cert.QkvWgradIdeal.nD Cert.QkvWgradIdeal.τ).loc Cert.QkvWgradIdeal.main_arg0) = m ((c.tc : Thread Cert.QkvWgradIdeal.nD Cert.QkvWgradIdeal.τ).loc Cert.QkvWgradIdeal.main_arg0)
          ∧ r.2.mem ((c.tc : Thread Cert.QkvWgradIdeal.nD Cert.QkvWgradIdeal.τ).loc Cert.QkvWgradIdeal.main_arg1) = m ((c.tc : Thread Cert.QkvWgradIdeal.nD Cert.QkvWgradIdeal.τ).loc Cert.QkvWgradIdeal.main_arg1))
      ∧ θ_run (Cert.QkvWgradRefIdeal.defs (F := Ideal)) (onTc (τ := Cert.QkvWgradRefIdeal.τ) (Cert.QkvWgradRefIdeal.main (F := Ideal))) ⟨m', fun _ => 0, g'⟩ (fun r => ∀ c : Dev Cert.QkvWgradRefIdeal.nD,
          r.2.mem ((c.tc : Thread Cert.QkvWgradRefIdeal.nD Cert.QkvWgradRefIdeal.τ).loc Cert.QkvWgradRefIdeal.main_v7) = v0 c
          ∧ r.2.mem ((c.tc : Thread Cert.QkvWgradRefIdeal.nD Cert.QkvWgradRefIdeal.τ).loc Cert.QkvWgradRefIdeal.main_arg0) = m' ((c.tc : Thread Cert.QkvWgradRefIdeal.nD Cert.QkvWgradRefIdeal.τ).loc Cert.QkvWgradRefIdeal.main_arg0)
          ∧ r.2.mem ((c.tc : Thread Cert.QkvWgradRefIdeal.nD Cert.QkvWgradRefIdeal.τ).loc Cert.QkvWgradRefIdeal.main_arg1) = m' ((c.tc : Thread Cert.QkvWgradRefIdeal.nD Cert.QkvWgradRefIdeal.τ).loc Cert.QkvWgradRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v0_0)) (v1 : (c : Dev Cert.OutIdeal.nD) → Buf (Elt Ideal) ((c.tc : Thread Cert.OutIdeal.nD Cert.OutIdeal.τ).loc Cert.OutIdeal.main_v0_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0_0) = v0 c
          ∧ r.2.mem ((c.tc : Thread Cert.OutIdeal.nD Cert.OutIdeal.τ).loc Cert.OutIdeal.main_v0_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v4) = v0 c
          ∧ r.2.mem ((c.tc : Thread Cert.OutRefIdeal.nD Cert.OutRefIdeal.τ).loc Cert.OutRefIdeal.main_v17) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_OutDgrad_OutDgradIdeal : Prop :=
  True

def algebraic_OutDgradIdeal_OutDgradRefIdeal [hOutDgradIdeal : Cert.OutDgradIdeal.Facts] [hOutDgradRefIdeal : Cert.OutDgradRefIdeal.Facts] : Prop :=
  ∀ (m : (ℓ : Loc Cert.OutDgradIdeal.nD Cert.OutDgradIdeal.τ Cert.OutDgradIdeal.sig) → Buf (Elt Ideal) ℓ) (g : Dev Cert.OutDgradIdeal.nD → PrngReg)
    (m' : (ℓ : Loc Cert.OutDgradRefIdeal.nD Cert.OutDgradRefIdeal.τ Cert.OutDgradRefIdeal.sig) → Buf (Elt Ideal) ℓ) (g' : Dev Cert.OutDgradRefIdeal.nD → PrngReg), Pre_OutDgradIdeal m →
    (∀ c : Dev Cert.OutDgradIdeal.nD,
      m' ((c.tc : Thread Cert.OutDgradRefIdeal.nD Cert.OutDgradRefIdeal.τ).loc Cert.OutDgradRefIdeal.main_arg0) = m ((c.tc : Thread Cert.OutDgradIdeal.nD Cert.OutDgradIdeal.τ).loc Cert.OutDgradIdeal.main_arg0)
      ∧ m' ((c.tc : Thread Cert.OutDgradRefIdeal.nD Cert.OutDgradRefIdeal.τ).loc Cert.OutDgradRefIdeal.main_arg1) = m ((c.tc : Thread Cert.OutDgradIdeal.nD Cert.OutDgradIdeal.τ).loc Cert.OutDgradIdeal.main_arg1)) →
    ∃ (v0 : (c : Dev Cert.OutDgradIdeal.nD) → Buf (Elt Ideal) ((c.tc : Thread Cert.OutDgradIdeal.nD Cert.OutDgradIdeal.τ).loc Cert.OutDgradIdeal.main_v0)),
      θ_run (Cert.OutDgradIdeal.defs (F := Ideal)) (onTc (τ := Cert.OutDgradIdeal.τ) (Cert.OutDgradIdeal.main (F := Ideal))) ⟨m, fun _ => 0, g⟩ (fun r => ∀ c : Dev Cert.OutDgradIdeal.nD,
          r.2.mem ((c.tc : Thread Cert.OutDgradIdeal.nD Cert.OutDgradIdeal.τ).loc Cert.OutDgradIdeal.main_v0) = v0 c
          ∧ r.2.mem ((c.tc : Thread Cert.OutDgradIdeal.nD Cert.OutDgradIdeal.τ).loc Cert.OutDgradIdeal.main_arg0) = m ((c.tc : Thread Cert.OutDgradIdeal.nD Cert.OutDgradIdeal.τ).loc Cert.OutDgradIdeal.main_arg0)
          ∧ r.2.mem ((c.tc : Thread Cert.OutDgradIdeal.nD Cert.OutDgradIdeal.τ).loc Cert.OutDgradIdeal.main_arg1) = m ((c.tc : Thread Cert.OutDgradIdeal.nD Cert.OutDgradIdeal.τ).loc Cert.OutDgradIdeal.main_arg1))
      ∧ θ_run (Cert.OutDgradRefIdeal.defs (F := Ideal)) (onTc (τ := Cert.OutDgradRefIdeal.τ) (Cert.OutDgradRefIdeal.main (F := Ideal))) ⟨m', fun _ => 0, g'⟩ (fun r => ∀ c : Dev Cert.OutDgradRefIdeal.nD,
          r.2.mem ((c.tc : Thread Cert.OutDgradRefIdeal.nD Cert.OutDgradRefIdeal.τ).loc Cert.OutDgradRefIdeal.main_v6) = v0 c
          ∧ r.2.mem ((c.tc : Thread Cert.OutDgradRefIdeal.nD Cert.OutDgradRefIdeal.τ).loc Cert.OutDgradRefIdeal.main_arg0) = m' ((c.tc : Thread Cert.OutDgradRefIdeal.nD Cert.OutDgradRefIdeal.τ).loc Cert.OutDgradRefIdeal.main_arg0)
          ∧ r.2.mem ((c.tc : Thread Cert.OutDgradRefIdeal.nD Cert.OutDgradRefIdeal.τ).loc Cert.OutDgradRefIdeal.main_arg1) = m' ((c.tc : Thread Cert.OutDgradRefIdeal.nD Cert.OutDgradRefIdeal.τ).loc Cert.OutDgradRefIdeal.main_arg1))

def preserves_OutWgrad_OutWgradIdeal : Prop :=
  True

def algebraic_OutWgradIdeal_OutWgradRefIdeal [hOutWgradIdeal : Cert.OutWgradIdeal.Facts] [hOutWgradRefIdeal : Cert.OutWgradRefIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg)
    (m' : (ℓ : Loc Cert.OutWgradRefIdeal.nD Cert.OutWgradRefIdeal.τ Cert.OutWgradRefIdeal.sig) → Buf (Elt Ideal) ℓ) (g' : Dev Cert.OutWgradRefIdeal.nD → PrngReg), Pre_OutWgradIdeal m →
    (∀ c : Dev Cert.OutWgradIdeal.nD,
      m' ((c.tc : Thread Cert.OutWgradRefIdeal.nD Cert.OutWgradRefIdeal.τ).loc Cert.OutWgradRefIdeal.main_arg0) = m ((c.tc : Thread Cert.OutWgradIdeal.nD Cert.OutWgradIdeal.τ).loc Cert.OutWgradIdeal.main_arg0)
      ∧ m' ((c.tc : Thread Cert.OutWgradRefIdeal.nD Cert.OutWgradRefIdeal.τ).loc Cert.OutWgradRefIdeal.main_arg1) = m ((c.tc : Thread Cert.OutWgradIdeal.nD Cert.OutWgradIdeal.τ).loc Cert.OutWgradIdeal.main_arg1)) →
    ∃ (v0 : (c : Dev Cert.OutWgradIdeal.nD) → Buf (Elt Ideal) ((c.tc : Thread Cert.OutWgradIdeal.nD Cert.OutWgradIdeal.τ).loc Cert.OutWgradIdeal.main_v0)),
      θ_run (Cert.OutWgradIdeal.defs (F := Ideal)) (onTc (τ := Cert.OutWgradIdeal.τ) (Cert.OutWgradIdeal.main (F := Ideal))) ⟨m, fun _ => 0, g⟩ (fun r => ∀ c : Dev Cert.OutWgradIdeal.nD,
          r.2.mem ((c.tc : Thread Cert.OutWgradIdeal.nD Cert.OutWgradIdeal.τ).loc Cert.OutWgradIdeal.main_v0) = v0 c
          ∧ r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
          ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1))
      ∧ θ_run (Cert.OutWgradRefIdeal.defs (F := Ideal)) (onTc (τ := Cert.OutWgradRefIdeal.τ) (Cert.OutWgradRefIdeal.main (F := Ideal))) ⟨m', fun _ => 0, g'⟩ (fun r => ∀ c : Dev Cert.OutWgradRefIdeal.nD,
          r.2.mem ((c.tc : Thread Cert.OutWgradRefIdeal.nD Cert.OutWgradRefIdeal.τ).loc Cert.OutWgradRefIdeal.main_v5) = v0 c
          ∧ r.2.mem ((c.tc : Thread Cert.OutWgradRefIdeal.nD Cert.OutWgradRefIdeal.τ).loc Cert.OutWgradRefIdeal.main_arg0) = m' ((c.tc : Thread Cert.OutWgradRefIdeal.nD Cert.OutWgradRefIdeal.τ).loc Cert.OutWgradRefIdeal.main_arg0)
          ∧ r.2.mem ((c.tc : Thread Cert.OutWgradRefIdeal.nD Cert.OutWgradRefIdeal.τ).loc Cert.OutWgradRefIdeal.main_arg1) = m' ((c.tc : Thread Cert.OutWgradRefIdeal.nD Cert.OutWgradRefIdeal.τ).loc Cert.OutWgradRefIdeal.main_arg1))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)) →
    ∃ (v0 : (c : Dev Cert.ConvFwdIdeal.nD) → Buf (Elt Ideal) ((c.tc : Thread Cert.ConvFwdIdeal.nD Cert.ConvFwdIdeal.τ).loc Cert.ConvFwdIdeal.main_v16)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v16) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v30) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1))

def preserves_AttnFwd_AttnFwdIdeal : Prop :=
  IdealRules.named_const.Statement Cert.AttnFwdIdeal.κ "slope_1" .f32 0x3F3504F3#32 (((Real.sqrt 2)⁻¹ : ℝ) : EReal)
  ∧ IdealRules.named_const.Statement Cert.AttnFwdIdeal.κ "mask" .f32 0xF149F2CA#32 ⊥
  ∧ IdealRules.named_const.Statement Cert.AttnFwdIdeal.κ "slope_3" .f32 0x3EB504F3#32 (((Real.sqrt 8)⁻¹ : ℝ) : EReal)
  ∧ IdealRules.named_const.Statement Cert.AttnFwdIdeal.κ "slope_5" .f32 0x3E3504F3#32 (((Real.sqrt 32)⁻¹ : ℝ) : EReal)
  ∧ IdealRules.named_const.Statement Cert.AttnFwdIdeal.κ "slope_7" .f32 0x3DB504F3#32 (((Real.sqrt 128)⁻¹ : ℝ) : EReal)
  ∧ IdealRules.named_const.Statement Cert.AttnFwdIdeal.κ "slope_9" .f32 0x3D3504F3#32 (((Real.sqrt 512)⁻¹ : ℝ) : EReal)
  ∧ IdealRules.named_const.Statement Cert.AttnFwdIdeal.κ "slope_11" .f32 0x3CB504F3#32 (((Real.sqrt 2048)⁻¹ : ℝ) : EReal)
  ∧ IdealRules.named_const.Statement Cert.AttnFwdIdeal.κ "slope_13" .f32 0x3C3504F3#32 (((Real.sqrt 8192)⁻¹ : ℝ) : EReal)
  ∧ IdealRules.named_const.Statement Cert.AttnFwdIdeal.κ "slope_15" .f32 0x3BB504F3#32 (((Real.sqrt 32768)⁻¹ : ℝ) : EReal)

def algebraic_AttnFwdIdeal_AttnFwdRefIdeal_pre_attn_finite [hAttnFwdIdeal : Cert.AttnFwdIdeal.Facts] [hAttnFwdRefIdeal : Cert.AttnFwdRefIdeal.Facts] [hPre_attn_finite : Cert.Pre_attn_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_attn_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)) →
    ∃ (v0 : (c : Dev Cert.AttnFwdIdeal.nD) → Buf (Elt Ideal) ((c.tc : Thread Cert.AttnFwdIdeal.nD Cert.AttnFwdIdeal.τ).loc Cert.AttnFwdIdeal.main_v2)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v2) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v125) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3))

def Claim : Prop :=
  ∃ (hConvBwd : Cert.ConvBwd.Facts) (hConvBwdIdeal : Cert.ConvBwdIdeal.Facts) (hConvBwdRefIdeal : Cert.ConvBwdRefIdeal.Facts) (hFfnDownDgrad : Cert.FfnDownDgrad.Facts) (hFfnDownDgradIdeal : Cert.FfnDownDgradIdeal.Facts) (hFfnDownDgradRefIdeal : Cert.FfnDownDgradRefIdeal.Facts) (hFfnUpDgrad : Cert.FfnUpDgrad.Facts) (hFfnUpDgradIdeal : Cert.FfnUpDgradIdeal.Facts) (hFfnUpDgradRefIdeal : Cert.FfnUpDgradRefIdeal.Facts) (hFfnUpWgrad : Cert.FfnUpWgrad.Facts) (hFfnUpWgradIdeal : Cert.FfnUpWgradIdeal.Facts) (hFfnUpWgradRefIdeal : Cert.FfnUpWgradRefIdeal.Facts) (hFfnDownWgrad : Cert.FfnDownWgrad.Facts) (hFfnDownWgradIdeal : Cert.FfnDownWgradIdeal.Facts) (hFfnDownWgradRefIdeal : Cert.FfnDownWgradRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hFfnDownLoss : Cert.FfnDownLoss.Facts) (hFfnDownLossIdeal : Cert.FfnDownLossIdeal.Facts) (hFfnDownLossRefIdeal : Cert.FfnDownLossRefIdeal.Facts) (hConvIn : Cert.ConvIn.Facts) (hConvInIdeal : Cert.ConvInIdeal.Facts) (hConvInRefIdeal : Cert.ConvInRefIdeal.Facts) (hConvInDgrad : Cert.ConvInDgrad.Facts) (hConvInDgradIdeal : Cert.ConvInDgradIdeal.Facts) (hConvInDgradRefIdeal : Cert.ConvInDgradRefIdeal.Facts) (hConvInWgrad : Cert.ConvInWgrad.Facts) (hConvInWgradIdeal : Cert.ConvInWgradIdeal.Facts) (hConvInWgradRefIdeal : Cert.ConvInWgradRefIdeal.Facts) (hQkv : Cert.Qkv.Facts) (hQkvIdeal : Cert.QkvIdeal.Facts) (hQkvRefIdeal : Cert.QkvRefIdeal.Facts) (hQkvDgrad : Cert.QkvDgrad.Facts) (hQkvDgradIdeal : Cert.QkvDgradIdeal.Facts) (hQkvDgradRefIdeal : Cert.QkvDgradRefIdeal.Facts) (hQkvWgrad : Cert.QkvWgrad.Facts) (hQkvWgradIdeal : Cert.QkvWgradIdeal.Facts) (hQkvWgradRefIdeal : Cert.QkvWgradRefIdeal.Facts) (hOut : Cert.Out.Facts) (hOutIdeal : Cert.OutIdeal.Facts) (hOutRefIdeal : Cert.OutRefIdeal.Facts) (hOutDgrad : Cert.OutDgrad.Facts) (hOutDgradIdeal : Cert.OutDgradIdeal.Facts) (hOutDgradRefIdeal : Cert.OutDgradRefIdeal.Facts) (hOutWgrad : Cert.OutWgrad.Facts) (hOutWgradIdeal : Cert.OutWgradIdeal.Facts) (hOutWgradRefIdeal : Cert.OutWgradRefIdeal.Facts) (hConvFwd : Cert.ConvFwd.Facts) (hConvFwdIdeal : Cert.ConvFwdIdeal.Facts) (hConvFwdRefIdeal : Cert.ConvFwdRefIdeal.Facts) (hAttnFwd : Cert.AttnFwd.Facts) (hAttnFwdIdeal : Cert.AttnFwdIdeal.Facts) (hAttnFwdRefIdeal : Cert.AttnFwdRefIdeal.Facts) (hPre_down_dgrad_finite : Cert.Pre_down_dgrad_finite.Facts) (hPre_up_dgrad_finite : Cert.Pre_up_dgrad_finite.Facts) (hPre_up_finite : Cert.Pre_up_finite.Facts) (hPre_conv_in_dgrad_finite : Cert.Pre_conv_in_dgrad_finite.Facts) (hPre_qkv_dgrad_finite : Cert.Pre_qkv_dgrad_finite.Facts) (hPre_attn_finite : Cert.Pre_attn_finite.Facts),
    quiescent_ConvBwd (hConvBwd := hConvBwd)
    ∧ quiescent_ConvBwdIdeal (hConvBwdIdeal := hConvBwdIdeal)
    ∧ quiescent_ConvBwdRefIdeal (hConvBwdRefIdeal := hConvBwdRefIdeal)
    ∧ quiescent_FfnDownDgrad (hFfnDownDgrad := hFfnDownDgrad)
    ∧ quiescent_FfnDownDgradIdeal (hFfnDownDgradIdeal := hFfnDownDgradIdeal)
    ∧ quiescent_FfnDownDgradIdeal_pre_down_dgrad_finite (hFfnDownDgradIdeal := hFfnDownDgradIdeal) (hPre_down_dgrad_finite := hPre_down_dgrad_finite)
    ∧ quiescent_FfnDownDgradRefIdeal (hFfnDownDgradRefIdeal := hFfnDownDgradRefIdeal)
    ∧ quiescent_FfnDownDgradRefIdeal_pre_down_dgrad_finite (hFfnDownDgradRefIdeal := hFfnDownDgradRefIdeal) (hPre_down_dgrad_finite := hPre_down_dgrad_finite)
    ∧ quiescent_FfnUpDgrad (hFfnUpDgrad := hFfnUpDgrad)
    ∧ quiescent_FfnUpDgradIdeal (hFfnUpDgradIdeal := hFfnUpDgradIdeal)
    ∧ quiescent_FfnUpDgradIdeal_pre_up_dgrad_finite (hFfnUpDgradIdeal := hFfnUpDgradIdeal) (hPre_up_dgrad_finite := hPre_up_dgrad_finite)
    ∧ quiescent_FfnUpDgradRefIdeal (hFfnUpDgradRefIdeal := hFfnUpDgradRefIdeal)
    ∧ quiescent_FfnUpDgradRefIdeal_pre_up_dgrad_finite (hFfnUpDgradRefIdeal := hFfnUpDgradRefIdeal) (hPre_up_dgrad_finite := hPre_up_dgrad_finite)
    ∧ quiescent_FfnUpWgrad (hFfnUpWgrad := hFfnUpWgrad)
    ∧ quiescent_FfnUpWgradIdeal (hFfnUpWgradIdeal := hFfnUpWgradIdeal)
    ∧ quiescent_FfnUpWgradRefIdeal (hFfnUpWgradRefIdeal := hFfnUpWgradRefIdeal)
    ∧ quiescent_FfnDownWgrad (hFfnDownWgrad := hFfnDownWgrad)
    ∧ quiescent_FfnDownWgradIdeal (hFfnDownWgradIdeal := hFfnDownWgradIdeal)
    ∧ quiescent_FfnDownWgradRefIdeal (hFfnDownWgradRefIdeal := hFfnDownWgradRefIdeal)
    ∧ quiescent_FfnUp (hFfnUp := hFfnUp)
    ∧ quiescent_FfnUpIdeal (hFfnUpIdeal := hFfnUpIdeal)
    ∧ quiescent_FfnUpIdeal_pre_up_finite (hFfnUpIdeal := hFfnUpIdeal) (hPre_up_finite := hPre_up_finite)
    ∧ quiescent_FfnUpRefIdeal (hFfnUpRefIdeal := hFfnUpRefIdeal)
    ∧ quiescent_FfnUpRefIdeal_pre_up_finite (hFfnUpRefIdeal := hFfnUpRefIdeal) (hPre_up_finite := hPre_up_finite)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_FfnDownLoss (hFfnDownLoss := hFfnDownLoss)
    ∧ quiescent_FfnDownLossIdeal (hFfnDownLossIdeal := hFfnDownLossIdeal)
    ∧ quiescent_FfnDownLossRefIdeal (hFfnDownLossRefIdeal := hFfnDownLossRefIdeal)
    ∧ quiescent_ConvIn (hConvIn := hConvIn)
    ∧ quiescent_ConvInIdeal (hConvInIdeal := hConvInIdeal)
    ∧ quiescent_ConvInRefIdeal (hConvInRefIdeal := hConvInRefIdeal)
    ∧ quiescent_ConvInDgrad (hConvInDgrad := hConvInDgrad)
    ∧ quiescent_ConvInDgradIdeal (hConvInDgradIdeal := hConvInDgradIdeal)
    ∧ quiescent_ConvInDgradIdeal_pre_conv_in_dgrad_finite (hConvInDgradIdeal := hConvInDgradIdeal) (hPre_conv_in_dgrad_finite := hPre_conv_in_dgrad_finite)
    ∧ quiescent_ConvInDgradRefIdeal (hConvInDgradRefIdeal := hConvInDgradRefIdeal)
    ∧ quiescent_ConvInDgradRefIdeal_pre_conv_in_dgrad_finite (hConvInDgradRefIdeal := hConvInDgradRefIdeal) (hPre_conv_in_dgrad_finite := hPre_conv_in_dgrad_finite)
    ∧ quiescent_ConvInWgrad (hConvInWgrad := hConvInWgrad)
    ∧ quiescent_ConvInWgradIdeal (hConvInWgradIdeal := hConvInWgradIdeal)
    ∧ quiescent_ConvInWgradRefIdeal (hConvInWgradRefIdeal := hConvInWgradRefIdeal)
    ∧ quiescent_Qkv (hQkv := hQkv)
    ∧ quiescent_QkvIdeal (hQkvIdeal := hQkvIdeal)
    ∧ quiescent_QkvRefIdeal (hQkvRefIdeal := hQkvRefIdeal)
    ∧ quiescent_QkvDgrad (hQkvDgrad := hQkvDgrad)
    ∧ quiescent_QkvDgradIdeal (hQkvDgradIdeal := hQkvDgradIdeal)
    ∧ quiescent_QkvDgradIdeal_pre_qkv_dgrad_finite (hQkvDgradIdeal := hQkvDgradIdeal) (hPre_qkv_dgrad_finite := hPre_qkv_dgrad_finite)
    ∧ quiescent_QkvDgradRefIdeal (hQkvDgradRefIdeal := hQkvDgradRefIdeal)
    ∧ quiescent_QkvDgradRefIdeal_pre_qkv_dgrad_finite (hQkvDgradRefIdeal := hQkvDgradRefIdeal) (hPre_qkv_dgrad_finite := hPre_qkv_dgrad_finite)
    ∧ quiescent_QkvWgrad (hQkvWgrad := hQkvWgrad)
    ∧ quiescent_QkvWgradIdeal (hQkvWgradIdeal := hQkvWgradIdeal)
    ∧ quiescent_QkvWgradRefIdeal (hQkvWgradRefIdeal := hQkvWgradRefIdeal)
    ∧ quiescent_Out (hOut := hOut)
    ∧ quiescent_OutIdeal (hOutIdeal := hOutIdeal)
    ∧ quiescent_OutRefIdeal (hOutRefIdeal := hOutRefIdeal)
    ∧ quiescent_OutDgrad (hOutDgrad := hOutDgrad)
    ∧ quiescent_OutDgradIdeal (hOutDgradIdeal := hOutDgradIdeal)
    ∧ quiescent_OutDgradRefIdeal (hOutDgradRefIdeal := hOutDgradRefIdeal)
    ∧ quiescent_OutWgrad (hOutWgrad := hOutWgrad)
    ∧ quiescent_OutWgradIdeal (hOutWgradIdeal := hOutWgradIdeal)
    ∧ quiescent_OutWgradRefIdeal (hOutWgradRefIdeal := hOutWgradRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_AttnFwd (hAttnFwd := hAttnFwd)
    ∧ quiescent_AttnFwdIdeal (hAttnFwdIdeal := hAttnFwdIdeal)
    ∧ quiescent_AttnFwdIdeal_pre_attn_finite (hAttnFwdIdeal := hAttnFwdIdeal) (hPre_attn_finite := hPre_attn_finite)
    ∧ quiescent_AttnFwdRefIdeal (hAttnFwdRefIdeal := hAttnFwdRefIdeal)
    ∧ quiescent_AttnFwdRefIdeal_pre_attn_finite (hAttnFwdRefIdeal := hAttnFwdRefIdeal) (hPre_attn_finite := hPre_attn_finite)
    ∧ preserves_ConvBwd_ConvBwdIdeal
    ∧ algebraic_ConvBwdIdeal_ConvBwdRefIdeal (hConvBwdIdeal := hConvBwdIdeal) (hConvBwdRefIdeal := hConvBwdRefIdeal)
    ∧ preserves_FfnDownDgrad_FfnDownDgradIdeal
    ∧ algebraic_FfnDownDgradIdeal_FfnDownDgradRefIdeal_pre_down_dgrad_finite (hFfnDownDgradIdeal := hFfnDownDgradIdeal) (hFfnDownDgradRefIdeal := hFfnDownDgradRefIdeal) (hPre_down_dgrad_finite := hPre_down_dgrad_finite)
    ∧ preserves_FfnUpDgrad_FfnUpDgradIdeal
    ∧ algebraic_FfnUpDgradIdeal_FfnUpDgradRefIdeal_pre_up_dgrad_finite (hFfnUpDgradIdeal := hFfnUpDgradIdeal) (hFfnUpDgradRefIdeal := hFfnUpDgradRefIdeal) (hPre_up_dgrad_finite := hPre_up_dgrad_finite)
    ∧ preserves_FfnUpWgrad_FfnUpWgradIdeal
    ∧ algebraic_FfnUpWgradIdeal_FfnUpWgradRefIdeal (hFfnUpWgradIdeal := hFfnUpWgradIdeal) (hFfnUpWgradRefIdeal := hFfnUpWgradRefIdeal)
    ∧ preserves_FfnDownWgrad_FfnDownWgradIdeal
    ∧ algebraic_FfnDownWgradIdeal_FfnDownWgradRefIdeal (hFfnDownWgradIdeal := hFfnDownWgradIdeal) (hFfnDownWgradRefIdeal := hFfnDownWgradRefIdeal)
    ∧ preserves_FfnUp_FfnUpIdeal
    ∧ algebraic_FfnUpIdeal_FfnUpRefIdeal_pre_up_finite (hFfnUpIdeal := hFfnUpIdeal) (hFfnUpRefIdeal := hFfnUpRefIdeal) (hPre_up_finite := hPre_up_finite)
    ∧ preserves_FfnDown_FfnDownIdeal
    ∧ algebraic_FfnDownIdeal_FfnDownRefIdeal (hFfnDownIdeal := hFfnDownIdeal) (hFfnDownRefIdeal := hFfnDownRefIdeal)
    ∧ preserves_FfnDownLoss_FfnDownLossIdeal
    ∧ algebraic_FfnDownLossIdeal_FfnDownLossRefIdeal (hFfnDownLossIdeal := hFfnDownLossIdeal) (hFfnDownLossRefIdeal := hFfnDownLossRefIdeal)
    ∧ preserves_ConvIn_ConvInIdeal
    ∧ algebraic_ConvInIdeal_ConvInRefIdeal (hConvInIdeal := hConvInIdeal) (hConvInRefIdeal := hConvInRefIdeal)
    ∧ preserves_ConvInDgrad_ConvInDgradIdeal
    ∧ algebraic_ConvInDgradIdeal_ConvInDgradRefIdeal_pre_conv_in_dgrad_finite (hConvInDgradIdeal := hConvInDgradIdeal) (hConvInDgradRefIdeal := hConvInDgradRefIdeal) (hPre_conv_in_dgrad_finite := hPre_conv_in_dgrad_finite)
    ∧ preserves_ConvInWgrad_ConvInWgradIdeal
    ∧ algebraic_ConvInWgradIdeal_ConvInWgradRefIdeal (hConvInWgradIdeal := hConvInWgradIdeal) (hConvInWgradRefIdeal := hConvInWgradRefIdeal)
    ∧ preserves_Qkv_QkvIdeal
    ∧ algebraic_QkvIdeal_QkvRefIdeal (hQkvIdeal := hQkvIdeal) (hQkvRefIdeal := hQkvRefIdeal)
    ∧ preserves_QkvDgrad_QkvDgradIdeal
    ∧ algebraic_QkvDgradIdeal_QkvDgradRefIdeal_pre_qkv_dgrad_finite (hQkvDgradIdeal := hQkvDgradIdeal) (hQkvDgradRefIdeal := hQkvDgradRefIdeal) (hPre_qkv_dgrad_finite := hPre_qkv_dgrad_finite)
    ∧ preserves_QkvWgrad_QkvWgradIdeal
    ∧ algebraic_QkvWgradIdeal_QkvWgradRefIdeal (hQkvWgradIdeal := hQkvWgradIdeal) (hQkvWgradRefIdeal := hQkvWgradRefIdeal)
    ∧ preserves_Out_OutIdeal
    ∧ algebraic_OutIdeal_OutRefIdeal (hOutIdeal := hOutIdeal) (hOutRefIdeal := hOutRefIdeal)
    ∧ preserves_OutDgrad_OutDgradIdeal
    ∧ algebraic_OutDgradIdeal_OutDgradRefIdeal (hOutDgradIdeal := hOutDgradIdeal) (hOutDgradRefIdeal := hOutDgradRefIdeal)
    ∧ preserves_OutWgrad_OutWgradIdeal
    ∧ algebraic_OutWgradIdeal_OutWgradRefIdeal (hOutWgradIdeal := hOutWgradIdeal) (hOutWgradRefIdeal := hOutWgradRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_AttnFwd_AttnFwdIdeal
    ∧ algebraic_AttnFwdIdeal_AttnFwdRefIdeal_pre_attn_finite (hAttnFwdIdeal := hAttnFwdIdeal) (hAttnFwdRefIdeal := hAttnFwdRefIdeal) (hPre_attn_finite := hPre_attn_finite)
-- ==== Pre_attn_finite.lean ====
abbrev S8192x1536 : Shape := ⟨2, ![8192, 1536]⟩
abbrev S1x64 : Shape := ⟨2, ![1, 64]⟩
abbrev S1x16 : Shape := ⟨2, ![1, 16]⟩
abbrev S_ : Shape := ⟨0, ![]⟩
abbrev S1 : Shape := ⟨1, ![1]⟩
abbrev S4 : Shape := ⟨1, ![4]⟩

class Facts : Prop where
  bitsLt_bf16_f32 : FTy.bits .bf16 < FTy.bits .f32
  bcast_S_S8192x1536 : S_.BroadcastsInDim S8192x1536 (![] : Fin 0 → Fin S8192x1536.rank)
  reducesTo_S8192x1536_S_d0_1 : S8192x1536.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S1x16 : S_.BroadcastsInDim S1x16 (![] : Fin 0 → Fin S1x16.rank)
  reducesTo_S1x16_S_d0_1 : S1x16.ReducesTo [0, 1] S_
  bcast_S_S1 : S_.BroadcastsInDim S1 (![] : Fin 0 → Fin S1.rank)
  concatenates_S1_S1_S1_S1_S4_d0 : Shape.Concatenates [S1, S1, S1, S1] S4 0
  reducesTo_S4_S_d0 : S4.ReducesTo [0] S_

variable [Facts]

def fn_part1 {F : FTy → Type} [FloatOps F] (main_v4 : IVec S_ 1) (main_v8 : IVec S_ 1) (main_v12 : IVec S_ 1) (main_v15 : IVec S1x16 1) (main_c_5 : IVec S_ 1) : IVec S_ 1 :=
  let main_v16 : IVec S_ 1 := (fun x v => Host.reduce IntOp.andi x v reducesTo_S1x16_S_d0_1 h_S_) main_v15 main_c_5
  let main_v17 : IVec S1 1 := broadcastInDim S1 ![] bcast_S_S1 main_v4
  let main_v18 : IVec S1 1 := broadcastInDim S1 ![] bcast_S_S1 main_v8
  let main_v19 : IVec S1 1 := broadcastInDim S1 ![] bcast_S_S1 main_v12
  let main_v20 : IVec S1 1 := broadcastInDim S1 ![] bcast_S_S1 main_v16
  let main_v21 : IVec S4 1 := concatenate S4 0 [⟨S1, main_v17⟩, ⟨S1, main_v18⟩, ⟨S1, main_v19⟩, ⟨S1, main_v20⟩] concatenates_S1_S1_S1_S1_S4_d0
  let main_c_6 : IVec S_ 1 := constantI S_ 1 1#1
  let main_v22 : IVec S_ 1 := (fun x v => Host.reduce IntOp.andi x v reducesTo_S4_S_d0 h_S_) main_v21 main_c_6
  main_v22

def fn {F : FTy → Type} [FloatOps F] (main_arg0 : FVec F S8192x1536 .bf16) (main_arg1 : FVec F S1x64 .f32) (main_arg2 : FVec F S1x64 .f32) (main_arg3 : FVec F S1x16 .f32) : IVec S_ 1 :=
  let main_v0 : FVec F S8192x1536 .f32 := (extf .f32 · bitsLt_bf16_f32) main_arg0
  let main_v1 : FVec F S8192x1536 .f32 := Host.absf main_v0
  let main_cst : FVec F S_ .f32 := constant S_ .f32 0x7F800000#32
  let main_v2 : FVec F S8192x1536 .f32 := broadcastInDim S8192x1536 ![] bcast_S_S8192x1536 main_cst
  let main_v3 : IVec S8192x1536 1 := cmpf .olt main_v1 main_v2
  let main_c : IVec S_ 1 := constantI S_ 1 1#1
  let main_v4 : IVec S_ 1 := (fun x v => Host.reduce IntOp.andi x v reducesTo_S8192x1536_S_d0_1 h_S_) main_v3 main_c
  let main_v5 : FVec F S1x64 .f32 := Host.absf main_arg1
  let main_cst_0 : FVec F S_ .f32 := constant S_ .f32 0x7F800000#32
  let main_v6 : FVec F S1x64 .f32 := broadcastInDim S1x64 ![] bcast_S_S1x64 main_cst_0
  let main_v7 : IVec S1x64 1 := cmpf .olt main_v5 main_v6
  let main_c_1 : IVec S_ 1 := constantI S_ 1 1#1
  let main_v8 : IVec S_ 1 := (fun x v => Host.reduce IntOp.andi x v reducesTo_S1x64_S_d0_1 h_S_) main_v7 main_c_1
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : FVec F S1x16 .f32 := Host.absf main_arg3
  let main_cst_4 : FVec F S_ .f32 := constant S_ .f32 0x7F800000#32
  let main_v14 : FVec F S1x16 .f32 := broadcastInDim S1x16 ![] bcast_S_S1x16 main_cst_4
  let main_v15 : IVec S1x16 1 := cmpf .olt main_v13 main_v14
  let main_c_5 : IVec S_ 1 := constantI S_ 1 1#1
  fn_part1 (F := F) main_v4 main_v8 main_v12 main_v15 main_c_5
-- ==== Pre_conv_in_dgrad_finite.lean ====
abbrev S3x8192x1024 : Shape := ⟨3, ![3, 8192, 1024]⟩
abbrev S1x4x1024x768 : Shape := ⟨4, ![1, 4, 1024, 768]⟩
abbrev S8192x1024 : Shape := ⟨2, ![8192, 1024]⟩
abbrev S1x1024 : Shape := ⟨2, ![1, 1024]⟩
abbrev S_ : Shape := ⟨0, ![]⟩
abbrev S1 : Shape := ⟨1, ![1]⟩
abbrev S4 : Shape := ⟨1, ![4]⟩

class Facts : Prop where
  bitsLt_bf16_f32 : FTy.bits .bf16 < FTy.bits .f32
  bcast_S_S3x8192x1024 : S_.BroadcastsInDim S3x8192x1024 (![] : Fin 0 → Fin S3x8192x1024.rank)
  reducesTo_S3x8192x1024_S_d0_1_2 : S3x8192x1024.ReducesTo [0, 1, 2] S_
  h_S_ : 0 < S_.numel
  bcast_S_S1x4x1024x768 : S_.BroadcastsInDim S1x4x1024x768 (![] : Fin 0 → Fin S1x4x1024x768.rank)
  reducesTo_S1x4x1024x768_S_d0_1_2_3 : S1x4x1024x768.ReducesTo [0, 1, 2, 3] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  concatenates_S1_S1_S1_S1_S4_d0 : Shape.Concatenates [S1, S1, S1, S1] S4 0
  reducesTo_S4_S_d0 : S4.ReducesTo [0] S_

variable [Facts]

def fn_part1 {F : FTy → Type} [FloatOps F] (main_v4 : IVec S_ 1) (main_v9 : IVec S_ 1) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S1 1 := broadcastInDim S1 ![] bcast_S_S1 main_v4
  let main_v19 : IVec S1 1 := broadcastInDim S1 ![] bcast_S_S1 main_v9
  let main_v20 : IVec S1 1 := broadcastInDim S1 ![] bcast_S_S1 main_v13
  let main_v21 : IVec S1 1 := broadcastInDim S1 ![] bcast_S_S1 main_v17
  let main_v22 : IVec S4 1 := concatenate S4 0 [⟨S1, main_v18⟩, ⟨S1, main_v19⟩, ⟨S1, main_v20⟩, ⟨S1, main_v21⟩] concatenates_S1_S1_S1_S1_S4_d0
  let main_c_6 : IVec S_ 1 := constantI S_ 1 1#1
  let main_v23 : IVec S_ 1 := (fun x v => Host.reduce IntOp.andi x v reducesTo_S4_S_d0 h_S_) main_v22 main_c_6
  main_v23

def fn {F : FTy → Type} [FloatOps F] (main_arg0 : FVec F S3x8192x1024 .bf16) (main_arg1 : FVec F S1x4x1024x768 .bf16) (main_arg2 : FVec F S8192x1024 .f32) (main_arg3 : FVec F S1x1024 .f32) (main_arg4 : FVec F S8192x1024 .f32) : IVec S_ 1 :=
  let main_v0 : FVec F S3x8192x1024 .f32 := (extf .f32 · bitsLt_bf16_f32) main_arg0
  let main_v1 : FVec F S3x8192x1024 .f32 := Host.absf main_v0
  let main_cst : FVec F S_ .f32 := constant S_ .f32 0x7F800000#32
  let main_v2 : FVec F S3x8192x1024 .f32 := broadcastInDim S3x8192x1024 ![] bcast_S_S3x8192x1024 main_cst
  let main_v3 : IVec S3x8192x1024 1 := cmpf .olt main_v1 main_v2
  let main_c : IVec S_ 1 := constantI S_ 1 1#1
  let main_v4 : IVec S_ 1 := (fun x v => Host.reduce IntOp.andi x v reducesTo_S3x8192x1024_S_d0_1_2 h_S_) main_v3 main_c
  let main_v5 : FVec F S1x4x1024x768 .f32 := (extf .f32 · bitsLt_bf16_f32) main_arg1
  let main_v6 : FVec F S1x4x1024x768 .f32 := Host.absf main_v5
  let main_cst_0 : FVec F S_ .f32 := constant S_ .f32 0x7F800000#32
  let main_v7 : FVec F S1x4x1024x768 .f32 := broadcastInDim S1x4x1024x768 ![] bcast_S_S1x4x1024x768 main_cst_0
  let main_v8 : IVec S1x4x1024x768 1 := cmpf .olt main_v6 main_v7
  let main_c_1 : IVec S_ 1 := constantI S_ 1 1#1
  let main_v9 : IVec S_ 1 := (fun x v => Host.reduce IntOp.andi x v reducesTo_S1x4x1024x768_S_d0_1_2_3 h_S_) main_v8 main_c_1
  let main_v10 : FVec F S8192x1024 .f32 := Host.absf main_arg2
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  let main_c_3 : IVec S_ 1 := constantI S_ 1 1#1
  let main_v13 : IVec S_ 1 := (fun x v => Host.reduce IntOp.andi x v reducesTo_S8192x1024_S_d0_1 h_S_) main_v12 main_c_3
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v4 main_v9 main_v13 main_v16
-- ==== Pre_down_dgrad_finite.lean ====
abbrev S8192x1024 : Shape := ⟨2, ![8192, 1024]⟩
abbrev S1x2816x1024 : Shape := ⟨3, ![1, 2816, 1024]⟩
abbrev S8192x2816 : Shape := ⟨2, ![8192, 2816]⟩
abbrev S_ : Shape := ⟨0, ![]⟩
abbrev S1 : Shape := ⟨1, ![1]⟩
abbrev S4 : Shape := ⟨1, ![4]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S8192x2816 : S_.BroadcastsInDim S8192x2816 (![] : Fin 0 → Fin S8192x2816.rank)
  reducesTo_S8192x2816_S_d0_1 : S8192x2816.ReducesTo [0, 1] S_
  bcast_S_S1 : S_.BroadcastsInDim S1 (![] : Fin 0 → Fin S1.rank)
  concatenates_S1_S1_S1_S1_S4_d0 : Shape.Concatenates [S1, S1, S1, S1] S4 0
  reducesTo_S4_S_d0 : S4.ReducesTo [0] S_

variable [Facts]

def fn_part1 {F : FTy → Type} [FloatOps F] (main_v4 : IVec S_ 1) (main_v9 : IVec S_ 1) (main_v13 : IVec S_ 1) (main_v16 : IVec S8192x2816 1) : IVec S_ 1 :=
  let main_c_5 : IVec S_ 1 := constantI S_ 1 1#1
  let main_v17 : IVec S_ 1 := (fun x v => Host.reduce IntOp.andi x v reducesTo_S8192x2816_S_d0_1 h_S_) main_v16 main_c_5
  let main_v18 : IVec S1 1 := broadcastInDim S1 ![] bcast_S_S1 main_v4
  let main_v19 : IVec S1 1 := broadcastInDim S1 ![] bcast_S_S1 main_v9
  let main_v20 : IVec S1 1 := broadcastInDim S1 ![] bcast_S_S1 main_v13
  let main_v21 : IVec S1 1 := broadcastInDim S1 ![] bcast_S_S1 main_v17
  let main_v22 : IVec S4 1 := concatenate S4 0 [⟨S1, main_v18⟩, ⟨S1, main_v19⟩, ⟨S1, main_v20⟩, ⟨S1, main_v21⟩] concatenates_S1_S1_S1_S1_S4_d0
  let main_c_6 : IVec S_ 1 := constantI S_ 1 1#1
  let main_v23 : IVec S_ 1 := (fun x v => Host.reduce IntOp.andi x v reducesTo_S4_S_d0 h_S_) main_v22 main_c_6
  main_v23

def fn {F : FTy → Type} [FloatOps F] (main_arg0 : FVec F S8192x1024 .bf16) (main_arg1 : FVec F S1x2816x1024 .bf16) (main_arg2 : FVec F S8192x2816 .f32) (main_arg3 : FVec F S8192x2816 .f32) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S1x2816x1024 .f32 := (extf .f32 · bitsLt_bf16_f32) main_arg1
  let main_v6 : FVec F S1x2816x1024 .f32 := Host.absf main_v5
  let main_cst_0 : FVec F S_ .f32 := constant S_ .f32 0x7F800000#32
  let main_v7 : FVec F S1x2816x1024 .f32 := broadcastInDim S1x2816x1024 ![] bcast_S_S1x2816x1024 main_cst_0
  let main_v8 : IVec S1x2816x1024 1 := cmpf .olt main_v6 main_v7
  let main_c_1 : IVec S_ 1 := constantI S_ 1 1#1
  let main_v9 : IVec S_ 1 := (fun x v => Host.reduce IntOp.andi x v reducesTo_S1x2816x1024_S_d0_1_2 h_S_) main_v8 main_c_1
  let main_v10 : FVec F S8192x2816 .f32 := Host.absf main_arg2
  let main_cst_2 : FVec F S_ .f32 := constant S_ .f32 0x7F800000#32
  let main_v11 : FVec F S8192x2816 .f32 := broadcastInDim S8192x2816 ![] bcast_S_S8192x2816 main_cst_2
  let main_v12 : IVec S8192x2816 1 := cmpf .olt main_v10 main_v11
  let main_c_3 : IVec S_ 1 := constantI S_ 1 1#1
  let main_v13 : IVec S_ 1 := (fun x v => Host.reduce IntOp.andi x v reducesTo_S8192x2816_S_d0_1 h_S_) main_v12 main_c_3
  let main_v14 : FVec F S8192x2816 .f32 := Host.absf main_arg3
  let main_cst_4 : FVec F S_ .f32 := constant S_ .f32 0x7F800000#32
  let main_v15 : FVec F S8192x2816 .f32 := broadcastInDim S8192x2816 ![] bcast_S_S8192x2816 main_cst_4
  let main_v16 : IVec S8192x2816 1 := cmpf .olt main_v14 main_v15
  fn_part1 (F := F) main_v4 main_v9 main_v13 main_v16
-- ==== Pre_qkv_dgrad_finite.lean ====
abbrev S8192x1536 : Shape := ⟨2, ![8192, 1536]⟩
abbrev S1x4x1024x384 : Shape := ⟨4, ![1, 4, 1024, 384]⟩
abbrev S8192x1024 : Shape := ⟨2, ![8192, 1024]⟩
abbrev S1x1024 : Shape := ⟨2, ![1, 1024]⟩
abbrev S_ : Shape := ⟨0, ![]⟩
abbrev S1 : Shape := ⟨1, ![1]⟩
abbrev S4 : Shape := ⟨1, ![4]⟩

class Facts : Prop where
  bitsLt_bf16_f32 : FTy.bits .bf16 < FTy.bits .f32
  bcast_S_S8192x1536 : S_.BroadcastsInDim S8192x1536 (![] : Fin 0 → Fin S8192x1536.rank)
  reducesTo_S8192x1536_S_d0_1 : S8192x1536.ReducesTo [0, 1] S_
  h_S_ : 0 < S_.numel
  bcast_S_S1x4x1024x384 : S_.BroadcastsInDim S1x4x1024x384 (![] : Fin 0 → Fin S1x4x1024x384.rank)
  reducesTo_S1x4x1024x384_S_d0_1_2_3 : S1x4x1024x384.ReducesTo [0, 1, 2, 3] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  concatenates_S1_S1_S1_S1_S4_d0 : Shape.Concatenates [S1, S1, S1, S1] S4 0
  reducesTo_S4_S_d0 : S4.ReducesTo [0] S_

variable [Facts]

def fn_part1 {F : FTy → Type} [FloatOps F] (main_v4 : IVec S_ 1) (main_v9 : IVec S_ 1) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S1 1 := broadcastInDim S1 ![] bcast_S_S1 main_v4
  let main_v19 : IVec S1 1 := broadcastInDim S1 ![] bcast_S_S1 main_v9
  let main_v20 : IVec S1 1 := broadcastInDim S1 ![] bcast_S_S1 main_v13
  let main_v21 : IVec S1 1 := broadcastInDim S1 ![] bcast_S_S1 main_v17
  let main_v22 : IVec S4 1 := concatenate S4 0 [⟨S1, main_v18⟩, ⟨S1, main_v19⟩, ⟨S1, main_v20⟩, ⟨S1, main_v21⟩] concatenates_S1_S1_S1_S1_S4_d0
  let main_c_6 : IVec S_ 1 := constantI S_ 1 1#1
  let main_v23 : IVec S_ 1 := (fun x v => Host.reduce IntOp.andi x v reducesTo_S4_S_d0 h_S_) main_v22 main_c_6
  main_v23

def fn {F : FTy → Type} [FloatOps F] (main_arg0 : FVec F S8192x1536 .bf16) (main_arg1 : FVec F S1x4x1024x384 .bf16) (main_arg2 : FVec F S8192x1024 .f32) (main_arg3 : FVec F S1x1024 .f32) (main_arg4 : FVec F S8192x1024 .f32) : IVec S_ 1 :=
  let main_v0 : FVec F S8192x1536 .f32 := (extf .f32 · bitsLt_bf16_f32) main_arg0
  let main_v1 : FVec F S8192x1536 .f32 := Host.absf main_v0
  let main_cst : FVec F S_ .f32 := constant S_ .f32 0x7F800000#32
  let main_v2 : FVec F S8192x1536 .f32 := broadcastInDim S8192x1536 ![] bcast_S_S8192x1536 main_cst
  let main_v3 : IVec S8192x1536 1 := cmpf .olt main_v1 main_v2
  let main_c : IVec S_ 1 := constantI S_ 1 1#1
  let main_v4 : IVec S_ 1 := (fun x v => Host.reduce IntOp.andi x v reducesTo_S8192x1536_S_d0_1 h_S_) main_v3 main_c
  let main_v5 : FVec F S1x4x1024x384 .f32 := (extf .f32 · bitsLt_bf16_f32) main_arg1
  let main_v6 : FVec F S1x4x1024x384 .f32 := Host.absf main_v5
  let main_cst_0 : FVec F S_ .f32 := constant S_ .f32 0x7F800000#32
  let main_v7 : FVec F S1x4x1024x384 .f32 := broadcastInDim S1x4x1024x384 ![] bcast_S_S1x4x1024x384 main_cst_0
  let main_v8 : IVec S1x4x1024x384 1 := cmpf .olt main_v6 main_v7
  let main_c_1 : IVec S_ 1 := constantI S_ 1 1#1
  let main_v9 : IVec S_ 1 := (fun x v => Host.reduce IntOp.andi x v reducesTo_S1x4x1024x384_S_d0_1_2_3 h_S_) main_v8 main_c_1
  let main_v10 : FVec F S8192x1024 .f32 := Host.absf main_arg2
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  let main_c_3 : IVec S_ 1 := constantI S_ 1 1#1
  let main_v13 : IVec S_ 1 := (fun x v => Host.reduce IntOp.andi x v reducesTo_S8192x1024_S_d0_1 h_S_) main_v12 main_c_3
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v4 main_v9 main_v13 main_v16
-- ==== Pre_up_dgrad_finite.lean ====
abbrev S8192x2816 : Shape := ⟨2, ![8192, 2816]⟩
abbrev S1x4x1024x1408 : Shape := ⟨4, ![1, 4, 1024, 1408]⟩
abbrev S8192x1024 : Shape := ⟨2, ![8192, 1024]⟩
abbrev S1x1024 : Shape := ⟨2, ![1, 1024]⟩
abbrev S_ : Shape := ⟨0, ![]⟩
abbrev S1 : Shape := ⟨1, ![1]⟩
abbrev S5 : Shape := ⟨1, ![5]⟩

class Facts : Prop where
  bitsLt_bf16_f32 : FTy.bits .bf16 < FTy.bits .f32
  bcast_S_S8192x2816 : S_.BroadcastsInDim S8192x2816 (![] : Fin 0 → Fin S8192x2816.rank)
  reducesTo_S8192x2816_S_d0_1 : S8192x2816.ReducesTo [0, 1] S_
  h_S_ : 0 < S_.numel
  bcast_S_S1x4x1024x1408 : S_.BroadcastsInDim S1x4x1024x1408 (![] : Fin 0 → Fin S1x4x1024x1408.rank)
  reducesTo_S1x4x1024x1408_S_d0_1_2_3 : S1x4x1024x1408.ReducesTo [0, 1, 2, 3] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  concatenates_S1_S1_S1_S1_S1_S5_d0 : Shape.Concatenates [S1, S1, S1, S1, S1] S5 0
  reducesTo_S5_S_d0 : S5.ReducesTo [0] S_

variable [Facts]

def fn_part1 {F : FTy → Type} [FloatOps F] (main_arg4 : FVec F S1x1024 .f32) (main_v4 : IVec S_ 1) (main_v9 : IVec S_ 1) (main_v14 : IVec S_ 1) (main_v15 : FVec F S8192x1024 .f32) (main_v16 : FVec F S8192x1024 .f32) : IVec S_ 1 :=
  let main_v17 : IVec S8192x1024 1 := cmpf .olt main_v15 main_v16
  let main_c_5 : IVec S_ 1 := constantI S_ 1 1#1
  let main_v18 : IVec S_ 1 := (fun x v => Host.reduce IntOp.andi x v reducesTo_S8192x1024_S_d0_1 h_S_) main_v17 main_c_5
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S1 1 := broadcastInDim S1 ![] bcast_S_S1 main_v4
  let main_v24 : IVec S1 1 := broadcastInDim S1 ![] bcast_S_S1 main_v9
  let main_v25 : IVec S1 1 := broadcastInDim S1 ![] bcast_S_S1 main_v14
  let main_v26 : IVec S1 1 := broadcastInDim S1 ![] bcast_S_S1 main_v18
  let main_v27 : IVec S1 1 := broadcastInDim S1 ![] bcast_S_S1 main_v22
  let main_v28 : IVec S5 1 := concatenate S5 0 [⟨S1, main_v23⟩, ⟨S1, main_v24⟩, ⟨S1, main_v25⟩, ⟨S1, main_v26⟩, ⟨S1, main_v27⟩] concatenates_S1_S1_S1_S1_S1_S5_d0
  let main_c_8 : IVec S_ 1 := constantI S_ 1 1#1
  let main_v29 : IVec S_ 1 := (fun x v => Host.reduce IntOp.andi x v reducesTo_S5_S_d0 h_S_) main_v28 main_c_8
  main_v29

def fn {F : FTy → Type} [FloatOps F] (main_arg0 : FVec F S8192x2816 .bf16) (main_arg1 : FVec F S8192x2816 .bf16) (main_arg2 : FVec F S1x4x1024x1408 .bf16) (main_arg3 : FVec F S8192x1024 .f32) (main_arg4 : FVec F S1x1024 .f32) (main_arg5 : FVec F S8192x1024 .f32) : IVec S_ 1 :=
  let main_v0 : FVec F S8192x2816 .f32 := (extf .f32 · bitsLt_bf16_f32) main_arg0
  let main_v1 : FVec F S8192x2816 .f32 := Host.absf main_v0
  let main_cst : FVec F S_ .f32 := constant S_ .f32 0x7F800000#32
  let main_v2 : FVec F S8192x2816 .f32 := broadcastInDim S8192x2816 ![] bcast_S_S8192x2816 main_cst
  let main_v3 : IVec S8192x2816 1 := cmpf .olt main_v1 main_v2
  let main_c : IVec S_ 1 := constantI S_ 1 1#1
  let main_v4 : IVec S_ 1 := (fun x v => Host.reduce IntOp.andi x v reducesTo_S8192x2816_S_d0_1 h_S_) main_v3 main_c
  let main_v5 : FVec F S8192x2816 .f32 := (extf .f32 · bitsLt_bf16_f32) main_arg1
  let main_v6 : FVec F S8192x2816 .f32 := Host.absf main_v5
  let main_cst_0 : FVec F S_ .f32 := constant S_ .f32 0x7F800000#32
  let main_v7 : FVec F S8192x2816 .f32 := broadcastInDim S8192x2816 ![] bcast_S_S8192x2816 main_cst_0
  let main_v8 : IVec S8192x2816 1 := cmpf .olt main_v6 main_v7
  let main_c_1 : IVec S_ 1 := constantI S_ 1 1#1
  let main_v9 : IVec S_ 1 := (fun x v => Host.reduce IntOp.andi x v reducesTo_S8192x2816_S_d0_1 h_S_) main_v8 main_c_1
  let main_v10 : FVec F S1x4x1024x1408 .f32 := (extf .f32 · bitsLt_bf16_f32) main_arg2
  let main_v11 : FVec F S1x4x1024x1408 .f32 := Host.absf main_v10
  let main_cst_2 : FVec F S_ .f32 := constant S_ .f32 0x7F800000#32
  let main_v12 : FVec F S1x4x1024x1408 .f32 := broadcastInDim S1x4x1024x1408 ![] bcast_S_S1x4x1024x1408 main_cst_2
  let main_v13 : IVec S1x4x1024x1408 1 := cmpf .olt main_v11 main_v12
  let main_c_3 : IVec S_ 1 := constantI S_ 1 1#1
  let main_v14 : IVec S_ 1 := (fun x v => Host.reduce IntOp.andi x v reducesTo_S1x4x1024x1408_S_d0_1_2_3 h_S_) main_v13 main_c_3
  let main_v15 : FVec F S8192x1024 .f32 := Host.absf main_arg3
  let main_cst_4 : FVec F S_ .f32 := constant S_ .f32 0x7F800000#32
  let main_v16 : FVec F S8192x1024 .f32 := broadcastInDim S8192x1024 ![] bcast_S_S8192x1024 main_cst_4
  fn_part1 (F := F) main_arg4 main_v4 main_v9 main_v14 main_v15 main_v16
-- ==== Pre_up_finite.lean ====
abbrev S8192x1024 : Shape := ⟨2, ![8192, 1024]⟩
abbrev S1x4x1024x1408 : Shape := ⟨4, ![1, 4, 1024, 1408]⟩
abbrev S_ : Shape := ⟨0, ![]⟩
abbrev S1 : Shape := ⟨1, ![1]⟩
abbrev S2 : Shape := ⟨1, ![2]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x4x1024x1408 : S_.BroadcastsInDim S1x4x1024x1408 (![] : Fin 0 → Fin S1x4x1024x1408.rank)
  reducesTo_S1x4x1024x1408_S_d0_1_2_3 : S1x4x1024x1408.ReducesTo [0, 1, 2, 3] S_
  bcast_S_S1 : S_.BroadcastsInDim S1 (![] : Fin 0 → Fin S1.rank)
  concatenates_S1_S1_S2_d0 : Shape.Concatenates [S1, S1] S2 0
  reducesTo_S2_S_d0 : S2.ReducesTo [0] S_

variable [Facts]

def fn {F : FTy → Type} [FloatOps F] (main_arg0 : FVec F S8192x1024 .bf16) (main_arg1 : FVec F S1x4x1024x1408 .bf16) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S1x4x1024x1408 .f32 := (extf .f32 · bitsLt_bf16_f32) main_arg1
  let main_v6 : FVec F S1x4x1024x1408 .f32 := Host.absf main_v5
  let main_cst_0 : FVec F S_ .f32 := constant S_ .f32 0x7F800000#32
  let main_v7 : FVec F S1x4x1024x1408 .f32 := broadcastInDim S1x4x1024x1408 ![] bcast_S_S1x4x1024x1408 main_cst_0
  let main_v8 : IVec S1x4x1024x1408 1 := cmpf .olt main_v6 main_v7
  let main_c_1 : IVec S_ 1 := constantI S_ 1 1#1
  let main_v9 : IVec S_ 1 := (fun x v => Host.reduce IntOp.andi x v reducesTo_S1x4x1024x1408_S_d0_1_2_3 h_S_) main_v8 main_c_1
  let main_v10 : IVec S1 1 := broadcastInDim S1 ![] bcast_S_S1 main_v4
  let main_v11 : IVec S1 1 := broadcastInDim S1 ![] bcast_S_S1 main_v9
  let main_v12 : IVec S2 1 := (fun a b => concatenate S2 0 [⟨S1, a⟩, ⟨S1, b⟩] concatenates_S1_S1_S2_d0) main_v10 main_v11
  let main_c_2 : IVec S_ 1 := constantI S_ 1 1#1
  let main_v13 : IVec S_ 1 := (fun x v => Host.reduce IntOp.andi x v reducesTo_S2_S_d0 h_S_) main_v12 main_c_2
  main_v13
-- ==== ConvBwd.lean ====
abbrev S8192x1024 : Shape := ⟨2, ![8192, 1024]⟩
abbrev S8192x3072 : Shape := ⟨2, ![8192, 3072]⟩
abbrev S3x1024 : Shape := ⟨2, ![3, 1024]⟩
abbrev S_ : Shape := ⟨0, ![]⟩
abbrev S8x1024 : Shape := ⟨2, ![8, 1024]⟩
abbrev S3x256 : Shape := ⟨2, ![3, 256]⟩
abbrev S1x8x1024 : Shape := ⟨3, ![1, 8, 1024]⟩
abbrev S3x8x1024 : Shape := ⟨3, ![3, 8, 1024]⟩
abbrev S3x8192x1024 : Shape := ⟨3, ![3, 8192, 1024]⟩
abbrev S2048x256 : Shape := ⟨2, ![2048, 256]⟩
abbrev S8x256 : Shape := ⟨2, ![8, 256]⟩
abbrev S3x8x256 : Shape := ⟨3, ![3, 8, 256]⟩
abbrev S3x2048x256 : Shape := ⟨3, ![3, 2048, 256]⟩
abbrev S2040x256 : Shape := ⟨2, ![2040, 256]⟩
abbrev S1x8x256 : Shape := ⟨3, ![1, 8, 256]⟩
abbrev S1x256 : Shape := ⟨2, ![1, 256]⟩
abbrev S1x2048x256 : Shape := ⟨3, ![1, 2048, 256]⟩
abbrev S256 : Shape := ⟨1, ![256]⟩

abbrev nBuf : Space → Nat
  | .hbm => 33
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S3x1024, .f32⟩
  | .hbm, ⟨3, _⟩ => ⟨S_, .f32⟩
  | .hbm, ⟨4, _⟩ => ⟨S8x1024, .f32⟩
  | .hbm, ⟨5, _⟩ => ⟨S3x256, .f32⟩
  | .hbm, ⟨6, _⟩ => ⟨S_, .i32⟩
  | .hbm, ⟨7, _⟩ => ⟨S_, .i32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S3x256, .f32⟩
  | .hbm, ⟨12, _⟩ => ⟨S_, .i32⟩
  | .hbm, ⟨13, _⟩ => ⟨S_, .i32⟩
  | .hbm, ⟨14, _⟩ => ⟨S8x1024, .f32⟩
  | .hbm, ⟨15, _⟩ => ⟨S_, .f32⟩
  | .hbm, ⟨16, _⟩ => ⟨S8x1024, .f32⟩
  | .hbm, ⟨17, _⟩ => ⟨S3x256, .f32⟩
  | .hbm, ⟨18, _⟩ => ⟨S_, .i32⟩
  | .hbm, ⟨19, _⟩ => ⟨S_, .i32⟩
  | .hbm, ⟨20, _⟩ => ⟨S8x1024, .f32⟩
  | .hbm, ⟨21, _⟩ => ⟨S1x8x1024, .f32⟩
  | .hbm, ⟨22, _⟩ => ⟨S1x8x1024, .f32⟩
  | .hbm, ⟨23, _⟩ => ⟨S1x8x1024, .f32⟩
  | .hbm, ⟨24, _⟩ => ⟨S3x8x1024, .f32⟩
  | .hbm, ⟨25, _⟩ => ⟨S_, .f32⟩
  | .hbm, ⟨26, _⟩ => ⟨S8x1024, .f32⟩
  | .hbm, ⟨27, _⟩ => ⟨S3x256, .f32⟩
  | .hbm, ⟨28, _⟩ => ⟨S_, .i32⟩
  | .hbm, ⟨29, _⟩ => ⟨S_, .i32⟩
  | .hbm, ⟨30, _⟩ => ⟨S8x1024, .f32⟩
  | .hbm, ⟨31, _⟩ => ⟨S3x8192x1024, .bf16⟩
  | .hbm, ⟨32, _⟩ => ⟨S3x1024, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S8x256, .f32⟩
  | .local _ .vmem, ⟨9, _⟩ => ⟨S8x256, .f32⟩
  | .local _ .vmem, ⟨10, _⟩ => ⟨S3x8x256, .f32⟩
  | .local _ .vmem, ⟨11, _⟩ => ⟨S3x8x256, .f32⟩
  | .local _ .vmem, ⟨12, _⟩ => ⟨S3x2048x256, .bf16⟩
  | .local _ .vmem, ⟨13, _⟩ => ⟨S3x2048x256, .bf16⟩
  | .local _ .vmem, ⟨14, _⟩ => ⟨S3x256, .f32⟩
  | .local _ .vmem, ⟨15, _⟩ => ⟨S3x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_c_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_c_2 : Ref sig .tc := ⟨.hbm, 12, rfl⟩
abbrev main_c_3 : Ref sig .tc := ⟨.hbm, 13, rfl⟩
abbrev main_v5 : Ref sig .tc := ⟨.hbm, 14, rfl⟩
abbrev main_cst_4 : Ref sig .tc := ⟨.hbm, 15, rfl⟩
abbrev main_v6 : Ref sig .tc := ⟨.hbm, 16, rfl⟩
abbrev main_v7 : Ref sig .tc := ⟨.hbm, 17, rfl⟩
abbrev main_c_5 : Ref sig .tc := ⟨.hbm, 18, rfl⟩
abbrev main_c_6 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_7 : Ref sig .tc := ⟨.hbm, 25, rfl⟩
abbrev main_v13 : Ref sig .tc := ⟨.hbm, 26, rfl⟩
abbrev main_v14 : Ref sig .tc := ⟨.hbm, 27, rfl⟩
abbrev main_c_8 : Ref sig .tc := ⟨.hbm, 28, rfl⟩
abbrev main_c_9 : Ref sig .tc := ⟨.hbm, 29, rfl⟩
abbrev main_v15 : Ref sig .tc := ⟨.hbm, 30, rfl⟩
abbrev main_v16_0 : Ref sig .tc := ⟨.hbm, 31, rfl⟩
abbrev main_v16_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S3x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ConvBwdRefIdeal.lean ====
abbrev S8192x1024 : Shape := ⟨2, ![8192, 1024]⟩
abbrev S8192x3072 : Shape := ⟨2, ![8192, 3072]⟩
abbrev S3x1024 : Shape := ⟨2, ![3, 1024]⟩
abbrev S4x2048x1024 : Shape := ⟨3, ![4, 2048, 1024]⟩
abbrev S4x2048x3072 : Shape := ⟨3, ![4, 2048, 3072]⟩
abbrev S_ : Shape := ⟨0, ![]⟩
abbrev S4x2x1024 : Shape := ⟨3, ![4, 2, 1024]⟩
abbrev S4x2050x1024 : Shape := ⟨3, ![4, 2050, 1024]⟩
abbrev S1x1024 : Shape := ⟨2, ![1, 1024]⟩
abbrev S1024 : Shape := ⟨1, ![1024]⟩
abbrev S1x1x1024 : Shape := ⟨3, ![1, 1, 1024]⟩
abbrev S8192x3x1024 : Shape := ⟨3, ![8192, 3, 1024]⟩
abbrev S3x8192x1024 : Shape := ⟨3, ![3, 8192, 1024]⟩

abbrev nBuf : Space → Nat
  | .hbm => 90
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S3x1024, .f32⟩
  | .hbm, ⟨3, _⟩ => ⟨S8192x1024, .f32⟩
  | .hbm, ⟨4, _⟩ => ⟨S4x2048x1024, .f32⟩
  | .hbm, ⟨5, _⟩ => ⟨S8192x3072, .f32⟩
  | .hbm, ⟨6, _⟩ => ⟨S4x2048x3072, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S4x2048x1024, .f32⟩
  | .hbm, ⟨11, _⟩ => ⟨S_, .f32⟩
  | .hbm, ⟨12, _⟩ => ⟨S4x2x1024, .f32⟩
  | .hbm, ⟨13, _⟩ => ⟨S4x2050x1024, .f32⟩
  | .hbm, ⟨14, _⟩ => ⟨S_, .f32⟩
  | .hbm, ⟨15, _⟩ => ⟨S4x2x1024, .f32⟩
  | .hbm, ⟨16, _⟩ => ⟨S1x1024, .f32⟩
  | .hbm, ⟨17, _⟩ => ⟨S1024, .f32⟩
  | .hbm, ⟨18, _⟩ => ⟨S4x2048x1024, .f32⟩
  | .hbm, ⟨19, _⟩ => ⟨S1x1x1024, .f32⟩
  | .hbm, ⟨20, _⟩ => ⟨S4x2048x1024, .f32⟩
  | .hbm, ⟨21, _⟩ => ⟨S4x2048x1024, .f32⟩
  | .hbm, ⟨22, _⟩ => ⟨S1x1024, .f32⟩
  | .hbm, ⟨23, _⟩ => ⟨S1024, .f32⟩
  | .hbm, ⟨24, _⟩ => ⟨S4x2048x1024, .f32⟩
  | .hbm, ⟨25, _⟩ => ⟨S1x1x1024, .f32⟩
  | .hbm, ⟨26, _⟩ => ⟨S4x2048x1024, .f32⟩
  | .hbm, ⟨27, _⟩ => ⟨S4x2048x1024, .f32⟩
  | .hbm, ⟨28, _⟩ => ⟨S4x2048x1024, .f32⟩
  | .hbm, ⟨29, _⟩ => ⟨S1x1024, .f32⟩
  | .hbm, ⟨30, _⟩ => ⟨S1024, .f32⟩
  | .hbm, ⟨31, _⟩ => ⟨S4x2048x1024, .f32⟩
  | .hbm, ⟨32, _⟩ => ⟨S1x1x1024, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S4x2048x1024, .f32⟩
  | .hbm, ⟨37, _⟩ => ⟨S4x2048x1024, .f32⟩
  | .hbm, ⟨38, _⟩ => ⟨S4x2048x1024, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S_, .f32⟩
  | .hbm, ⟨43, _⟩ => ⟨S1024, .f32⟩
  | .hbm, ⟨44, _⟩ => ⟨S1x1x1024, .f32⟩
  | .hbm, ⟨45, _⟩ => ⟨S_, .f32⟩
  | .hbm, ⟨46, _⟩ => ⟨S1024, .f32⟩
  | .hbm, ⟨47, _⟩ => ⟨S_, .f32⟩
  | .hbm, ⟨48, _⟩ => ⟨S4x2050x1024, .f32⟩
  | .hbm, ⟨49, _⟩ => ⟨S1x1024, .f32⟩
  | .hbm, ⟨50, _⟩ => ⟨S_, .f32⟩
  | .hbm, ⟨51, _⟩ => ⟨S3x1024, .f32⟩
  | .hbm, ⟨52, _⟩ => ⟨S4x2048x1024, .f32⟩
  | .hbm, ⟨53, _⟩ => ⟨S4x2048x1024, .f32⟩
  | .hbm, ⟨54, _⟩ => ⟨S4x2048x1024, .f32⟩
  | .hbm, ⟨55, _⟩ => ⟨S_, .f32⟩
  | .hbm, ⟨56, _⟩ => ⟨S1024, .f32⟩
  | .hbm, ⟨57, _⟩ => ⟨S1x1x1024, .f32⟩
  | .hbm, ⟨58, _⟩ => ⟨S_, .f32⟩
  | .hbm, ⟨59, _⟩ => ⟨S1024, .f32⟩
  | .hbm, ⟨60, _⟩ => ⟨S_, .f32⟩
  | .hbm, ⟨61, _⟩ => ⟨S4x2050x1024, .f32⟩
  | .hbm, ⟨62, _⟩ => ⟨S4x2050x1024, .f32⟩
  | .hbm, ⟨63, _⟩ => ⟨S1x1024, .f32⟩
  | .hbm, ⟨64, _⟩ => ⟨S_, .f32⟩
  | .hbm, ⟨65, _⟩ => ⟨S3x1024, .f32⟩
  | .hbm, ⟨66, _⟩ => ⟨S3x1024, .f32⟩
  | .hbm, ⟨67, _⟩ => ⟨S4x2048x1024, .f32⟩
  | .hbm, ⟨68, _⟩ => ⟨S4x2048x1024, .f32⟩
  | .hbm, ⟨69, _⟩ => ⟨S4x2048x1024, .f32⟩
  | .hbm, ⟨70, _⟩ => ⟨S_, .f32⟩
  | .hbm, ⟨71, _⟩ => ⟨S1024, .f32⟩
  | .hbm, ⟨72, _⟩ => ⟨S1x1x1024, .f32⟩
  | .hbm, ⟨73, _⟩ => ⟨S_, .f32⟩
  | .hbm, ⟨74, _⟩ => ⟨S1024, .f32⟩
  | .hbm, ⟨75, _⟩ => ⟨S_, .f32⟩
  | .hbm, ⟨76, _⟩ => ⟨S4x2050x1024, .f32⟩
  | .hbm, ⟨77, _⟩ => ⟨S4x2050x1024, .f32⟩
  | .hbm, ⟨78, _⟩ => ⟨S1x1024, .f32⟩
  | .hbm, ⟨79, _⟩ => ⟨S_, .f32⟩
  | .hbm, ⟨80, _⟩ => ⟨S3x1024, .f32⟩
  | .hbm, ⟨81, _⟩ => ⟨S3x1024, .f32⟩
  | .hbm, ⟨82, _⟩ => ⟨S4x2x1024, .f32⟩
  | .hbm, ⟨83, _⟩ => ⟨S4x2048x1024, .f32⟩
  | .hbm, ⟨84, _⟩ => ⟨S4x2048x1024, .f32⟩
  | .hbm, ⟨85, _⟩ => ⟨S4x2048x1024, .f32⟩
  | .hbm, ⟨86, _⟩ => ⟨S4x2048x3072, .f32⟩
  | .hbm, ⟨87, _⟩ => ⟨S8192x3x1024, .f32⟩
  | .hbm, ⟨88, _⟩ => ⟨S3x8192x1024, .f32⟩
  | .hbm, ⟨89, _⟩ => ⟨S3x8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_cst_1 : Ref sig .tc := ⟨.hbm, 42, rfl⟩
abbrev main_v37 : Ref sig .tc := ⟨.hbm, 43, rfl⟩
abbrev main_v38 : Ref sig .tc := ⟨.hbm, 44, rfl⟩
abbrev main_cst_2 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_5 : Ref sig .tc := ⟨.hbm, 55, rfl⟩
abbrev main_v46 : Ref sig .tc := ⟨.hbm, 56, rfl⟩
abbrev main_v47 : Ref sig .tc := ⟨.hbm, 57, rfl⟩
abbrev main_cst_6 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_8 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_9 : Ref sig .tc := ⟨.hbm, 70, rfl⟩
abbrev main_v57 : Ref sig .tc := ⟨.hbm, 71, rfl⟩
abbrev main_v58 : Ref sig .tc := ⟨.hbm, 72, rfl⟩
abbrev main_cst_10 : Ref sig .tc := ⟨.hbm, 73, rfl⟩
abbrev main_v59 : Ref sig .tc := ⟨.hbm, 74, rfl⟩
abbrev main_cst_11 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_12 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩

abbrev nD : Nat := 1
abbrev τ : Topo := Topo.v7x

variable {F : FTy → Type} [FloatOps F]
-- ==== FfnDownDgrad.lean ====
abbrev S8192x1024 : Shape := ⟨2, ![8192, 1024]⟩
abbrev S1x2816x1024 : Shape := ⟨3, ![1, 2816, 1024]⟩
abbrev S8192x2816 : Shape := ⟨2, ![8192, 2816]⟩
abbrev S_ : Shape := ⟨0, ![]⟩
abbrev S512x1024 : Shape := ⟨2, ![512, 1024]⟩
abbrev S512x2816 : Shape := ⟨2, ![512, 2816]⟩
abbrev S2816x1024 : Shape := ⟨2, ![2816, 1024]⟩

abbrev nBuf : Space → Nat
  | .hbm => 30
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1x2816x1024, .bf16⟩
  | .hbm, ⟨2, _⟩ => ⟨S8192x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S_, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .bf16⟩
  | .hbm, ⟨27, _⟩ => ⟨S8192x2816, .bf16⟩
  | .hbm, ⟨28, _⟩ => ⟨S8192x2816, .bf16⟩
  | .hbm, ⟨29, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1x2816x1024, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8_0 : Ref sig .tc := ⟨.hbm, 28, rfl⟩
abbrev main_v8_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnDownDgradRefIdeal.lean ====
abbrev S8192x1024 : Shape := ⟨2, ![8192, 1024]⟩
abbrev S1x2816x1024 : Shape := ⟨3, ![1, 2816, 1024]⟩
abbrev S8192x2816 : Shape := ⟨2, ![8192, 2816]⟩
abbrev S2816x1024 : Shape := ⟨2, ![2816, 1024]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x2816x1024, .bf16⟩
  | .hbm, ⟨2, _⟩ => ⟨S8192x2816, .f32⟩
  | .hbm, ⟨3, _⟩ => ⟨S8192x2816, .f32⟩
  | .hbm, ⟨4, _⟩ => ⟨S2816x1024, .bf16⟩
  | .hbm, ⟨5, _⟩ => ⟨S2816x1024, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .bf16⟩
  | .hbm, ⟨30, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== FfnUpDgrad.lean ====
abbrev S8192x2816 : Shape := ⟨2, ![8192, 2816]⟩
abbrev S1x4x1024x1408 : Shape := ⟨4, ![1, 4, 1024, 1408]⟩
abbrev S8192x1024 : Shape := ⟨2, ![8192, 1024]⟩
abbrev S1x1024 : Shape := ⟨2, ![1, 1024]⟩
abbrev S8x1024 : Shape := ⟨2, ![8, 1024]⟩
abbrev S512x2816 : Shape := ⟨2, ![512, 2816]⟩
abbrev S512x1024 : Shape := ⟨2, ![512, 1024]⟩
abbrev S512x1408 : Shape := ⟨2, ![512, 1408]⟩
abbrev S1x1x1024x1408 : Shape := ⟨4, ![1, 1, 1024, 1408]⟩
abbrev S1024x1408 : Shape := ⟨2, ![1024, 1408]⟩
abbrev S512 : Shape := ⟨1, ![512]⟩
abbrev S512x1 : Shape := ⟨2, ![512, 1]⟩
abbrev S64x8x1024 : Shape := ⟨3, ![64, 8, 1024]⟩

abbrev nBuf : Space → Nat
  | .hbm => 9
  | .vmem => 15
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1x4x1024x1408, .bf16⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | .hbm, ⟨8, _⟩ => ⟨S8x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1x4x1024x1408, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S8x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnUpDgradRefIdeal.lean ====
abbrev S8192x2816 : Shape := ⟨2, ![8192, 2816]⟩
abbrev S1x4x1024x1408 : Shape := ⟨4, ![1, 4, 1024, 1408]⟩
abbrev S8192x1024 : Shape := ⟨2, ![8192, 1024]⟩
abbrev S1x1024 : Shape := ⟨2, ![1, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S8x1024 : Shape := ⟨2, ![8, 1024]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1024x8x1024 : Shape := ⟨3, ![1024, 8, 1024]⟩
abbrev S1x8x1024 : Shape := ⟨3, ![1, 8, 1024]⟩

abbrev nBuf : Space → Nat
  | .hbm => 66
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S1x4x1024x1408, .bf16⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S4x1024x1408, .bf16⟩
  | .hbm, ⟨7, _⟩ => ⟨S4x1024x1408, .f32⟩
  | .hbm, ⟨8, _⟩ => ⟨S1024x4x1408, .f32⟩
  | .hbm, ⟨9, _⟩ => ⟨S1024x5632, .f32⟩
  | .hbm, ⟨10, _⟩ => ⟨S8x1024, .f32⟩
  | .hbm, ⟨11, _⟩ => ⟨S8192x5632, .bf16⟩
  | .hbm, ⟨12, _⟩ => ⟨S8192x5632, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S1024x8x1024, .f32⟩
  | .hbm, ⟨31, _⟩ => ⟨S1x8x1024, .f32⟩
  | .hbm, ⟨32, _⟩ => ⟨S1024x8x1024, .f32⟩
  | .hbm, ⟨33, _⟩ => ⟨S1024x8x1024, .f32⟩
  | .hbm, ⟨34, _⟩ => ⟨S8192x1024, .f32⟩
  | .hbm, ⟨35, _⟩ => ⟨S8192x5632, .f32⟩
  | .hbm, ⟨36, _⟩ => ⟨S8192x1024, .f32⟩
  | .hbm, ⟨37, _⟩ => ⟨S1024x8x1024, .f32⟩
  | .hbm, ⟨38, _⟩ => ⟨S1024x8x1024, .f32⟩
  | .hbm, ⟨39, _⟩ => ⟨S_, .f32⟩
  | .hbm, ⟨40, _⟩ => ⟨S8x1024, .f32⟩
  | .hbm, ⟨41, _⟩ => ⟨S1x8x1024, .f32⟩
  | .hbm, ⟨42, _⟩ => ⟨S1024x8x1024, .f32⟩
  | .hbm, ⟨43, _⟩ => ⟨S1024x8x1024, .f32⟩
  | .hbm, ⟨44, _⟩ => ⟨S_, .f32⟩
  | .hbm, ⟨45, _⟩ => ⟨S8x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]
-- ==== FfnUpWgrad.lean ====
abbrev S8192x1024 : Shape := ⟨2, ![8192, 1024]⟩
abbrev S8192x2816 : Shape := ⟨2, ![8192, 2816]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S1x1024x1408, .f32⟩
  | .local _ .vmem, ⟨7, _⟩ => ⟨S1x1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c2_i32 : BitVec 32 := 2#32
  let v3 : BitVec 1 := Scalar.cmpi .slt arg0 c2_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32_2 : BitVec 32 := 2#32
  let v6 : BitVec 1 := Scalar.cmpi .sge arg0 c2_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg0 c2_i32
  let c3_i32 : BitVec 32 := 3#32
  let v1 : BitVec 32 := Scalar.select v0 arg1 c3_i32
  let c1_i32 : BitVec 32 := 1#32
  let v2 : BitVec 32 := Scalar.minsi arg0 c1_i32
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .sge arg0 c2_i32
  let c0_i32 : BitVec 32 := 0#32
  let v1 : BitVec 32 := Scalar.select v0 arg1 c0_i32
  let c2_i32_0 : BitVec 32 := 2#32
  let v2 : BitVec 32 := Scalar.subi arg0 c2_i32_0
  let c0_i32_1 : BitVec 32 := 0#32
  let v3 : BitVec 32 := Scalar.maxsi v2 c0_i32_1
  let c0_i32_2 : BitVec 32 := 0#32
  ![v1.toNat, v3.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== FfnUpWgradRefIdeal.lean ====
abbrev S8192x1024 : Shape := ⟨2, ![8192, 1024]⟩
abbrev S8192x2816 : Shape := ⟨2, ![8192, 2816]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S8192x2816, .bf16⟩
  | .hbm, ⟨3, _⟩ => ⟨S8192x5632, .bf16⟩
  | .hbm, ⟨4, _⟩ => ⟨S8192x5632, .f32⟩
  | .hbm, ⟨5, _⟩ => ⟨S_, .f32⟩
  | .hbm, ⟨6, _⟩ => ⟨S1024x5632, .f32⟩
  | .hbm, ⟨7, _⟩ => ⟨S8192x1024, .f32⟩
  | .hbm, ⟨8, _⟩ => ⟨S8192x5632, .f32⟩
  | .hbm, ⟨9, _⟩ => ⟨S5632x1024, .f32⟩
  | .hbm, ⟨10, _⟩ => ⟨S1024x5632, .f32⟩
  | .hbm, ⟨11, _⟩ => ⟨S1024x4x1408, .f32⟩
  | .hbm, ⟨12, _⟩ => ⟨S4x1024x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== FfnDownWgrad.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfnDownWgradRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnUp.lean ====
abbrev S8192x1024 : Shape := ⟨2, ![8192, 1024]⟩
abbrev S1x4x1024x1408 : Shape := ⟨4, ![1, 4, 1024, 1408]⟩
abbrev S8192x2816 : Shape := ⟨2, ![8192, 2816]⟩
abbrev S512x1024 : Shape := ⟨2, ![512, 1024]⟩
abbrev S1x1x1024x1408 : Shape := ⟨4, ![1, 1, 1024, 1408]⟩
abbrev S512x1408 : Shape := ⟨2, ![512, 1408]⟩
abbrev S1024x1408 : Shape := ⟨2, ![1024, 1408]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1x4x1024x1408, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpRefIdeal.lean ====
abbrev S8192x1024 : Shape := ⟨2, ![8192, 1024]⟩
abbrev S1x4x1024x1408 : Shape := ⟨4, ![1, 4, 1024, 1408]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x4x1024x1408, .bf16⟩
  | .hbm, ⟨2, _⟩ => ⟨S8192x1024, .f32⟩
  | .hbm, ⟨3, _⟩ => ⟨S4x1024x1408, .bf16⟩
  | .hbm, ⟨4, _⟩ => ⟨S4x1024x1408, .f32⟩
  | .hbm, ⟨5, _⟩ => ⟨S1024x4x1408, .f32⟩
  | .hbm, ⟨6, _⟩ => ⟨S1024x5632, .f32⟩
  | .hbm, ⟨7, _⟩ => ⟨S8192x5632, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S_, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S_, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .bf16⟩
  | .hbm, ⟨33, _⟩ => ⟨S8192x2816, .bf16⟩
  | .hbm, ⟨34, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v8_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v8_1 : Ref sig .tc := ⟨.hbm, 21, rfl⟩
abbrev main_v8_0 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩

abbrev nD : Nat := 1
abbrev τ : Topo := Topo.v7x

variable {F : FTy → Type} [FloatOps F]
-- ==== FfnDown.lean ====
abbrev S8192x2816 : Shape := ⟨2, ![8192, 2816]⟩
abbrev S1x2816x1024 : Shape := ⟨3, ![1, 2816, 1024]⟩
abbrev S8192x1024 : Shape := ⟨2, ![8192, 1024]⟩
abbrev S1x1024 : Shape := ⟨2, ![1, 1024]⟩
abbrev S1024x2816 : Shape := ⟨2, ![1024, 2816]⟩
abbrev S1024x1024 : Shape := ⟨2, ![1024, 1024]⟩
abbrev S2816x1024 : Shape := ⟨2, ![2816, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2816, .bf16⟩
  | .hbm, ⟨1, _⟩ => ⟨S1x2816x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1x2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnDownRefIdeal.lean ====
abbrev S8192x2816 : Shape := ⟨2, ![8192, 2816]⟩
abbrev S1x2816x1024 : Shape := ⟨3, ![1, 2816, 1024]⟩
abbrev S8192x1024 : Shape := ⟨2, ![8192, 1024]⟩
abbrev S1x1024 : Shape := ⟨2, ![1, 1024]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩

abbrev nBuf : Space → Nat
  | .hbm => 25
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S1x2816x1024, .bf16⟩
  | .hbm, ⟨2, _⟩ => ⟨S8192x1024, .f32⟩
  | .hbm, ⟨3, _⟩ => ⟨S1x1024, .f32⟩
  | .hbm, ⟨4, _⟩ => ⟨S8192x2816, .f32⟩
  | .hbm, ⟨5, _⟩ => ⟨S2816x1024, .bf16⟩
  | .hbm, ⟨6, _⟩ => ⟨S2816x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== FfnDownLoss.lean ====
abbrev S8192x2816 : Shape := ⟨2, ![8192, 2816]⟩
abbrev S1x2816x1024 : Shape := ⟨3, ![1, 2816, 1024]⟩
abbrev S8192x1024 : Shape := ⟨2, ![8192, 1024]⟩
abbrev S1x1 : Shape := ⟨2, ![1, 1]⟩
abbrev S1024x2816 : Shape := ⟨2, ![1024, 2816]⟩
abbrev S1024x1024 : Shape := ⟨2, ![1024, 1024]⟩
abbrev S8x1024 : Shape := ⟨2, ![8, 1024]⟩
abbrev S2816x1024 : Shape := ⟨2, ![2816, 1024]⟩
abbrev S128x8x1024 : Shape := ⟨3, ![128, 8, 1024]⟩
abbrev S1x8x1024 : Shape := ⟨3, ![1, 8, 1024]⟩
abbrev S1 : Shape := ⟨1, ![1]⟩
abbrev S1x1x1 : Shape := ⟨3, ![1, 1, 1]⟩

abbrev nBuf : Space → Nat
  | .hbm => 7
  | .vmem => 13
  | .smem => 0
  | _ => 0

abbrev bufTy : (tb : Table) → Fin (tcTables nBuf tb) → BufTy
  | .hbm, ⟨0, _⟩ => ⟨S8192x2816, .bf16⟩
  | .hbm, ⟨1, _⟩ => ⟨S1x2816x1024, .bf16⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S1x1, .f32⟩
  | .local _ .vmem, ⟨0, _⟩ => ⟨S1024x2816, .bf16⟩
  | .local _ .vmem, ⟨1, _⟩ => ⟨S1024x2816, .bf16⟩
  | .local _ .vmem, ⟨2, _⟩ => ⟨S1x2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1x1, .f32⟩
  | .local _ .vmem, ⟨12, _⟩ => ⟨S8x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v24 : BitVec 1 := Scalar.cmpi .eq arg0 c7_i32
  let v25 : BitVec 32 := Scalar.extui v24
  let c0_i32_19 : BitVec 32 := 0#32
  let v26 : BitVec 1 := Scalar.cmpi .ne v25 c0_i32_19
  v26

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== FfnDownLossRefIdeal.lean ====
abbrev S8192x2816 : Shape := ⟨2, ![8192, 2816]⟩
abbrev S1x2816x1024 : Shape := ⟨3, ![1, 2816, 1024]⟩
abbrev S8192x1024 : Shape := ⟨2, ![8192, 1024]⟩
abbrev S2816x1024 : Shape := ⟨2, ![2816, 1024]⟩
abbrev S_ : Shape := ⟨0, ![]⟩
abbrev S8192 : Shape := ⟨1, ![8192]⟩
abbrev S1x1 : Shape := ⟨2, ![1, 1]⟩

abbrev nBuf : Space → Nat
  | .hbm => 34
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S1x2816x1024, .bf16⟩
  | .hbm, ⟨2, _⟩ => ⟨S8192x1024, .f32⟩
  | .hbm, ⟨3, _⟩ => ⟨S8192x1024, .f32⟩
  | .hbm, ⟨4, _⟩ => ⟨S8192x2816, .f32⟩
  | .hbm, ⟨5, _⟩ => ⟨S2816x1024, .bf16⟩
  | .hbm, ⟨6, _⟩ => ⟨S2816x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S8192x1024, .f32⟩
  | .hbm, ⟨31, _⟩ => ⟨S8192x1024, .f32⟩
  | .hbm, ⟨32, _⟩ => ⟨S8192x1024, .bf16⟩
  | .hbm, ⟨33, _⟩ => ⟨S1x1, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_cst_4 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== ConvIn.lean ====
abbrev S8192x1024 : Shape := ⟨2, ![8192, 1024]⟩
abbrev S1x1024 : Shape := ⟨2, ![1, 1024]⟩
abbrev S1x4x1024x768 : Shape := ⟨4, ![1, 4, 1024, 768]⟩
abbrev S8192x3072 : Shape := ⟨2, ![8192, 3072]⟩
abbrev S512x1024 : Shape := ⟨2, ![512, 1024]⟩
abbrev S512x3072 : Shape := ⟨2, ![512, 3072]⟩
abbrev S1024x3072 : Shape := ⟨2, ![1024, 3072]⟩
abbrev S1x1x1024x768 : Shape := ⟨4, ![1, 1, 1024, 768]⟩
abbrev S1024x768 : Shape := ⟨2, ![1024, 768]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x4x1024x768, .bf16⟩
  | .hbm, ⟨3, _⟩ => ⟨S8192x1024, .bf16⟩
  | .hbm, ⟨4, _⟩ => ⟨S8192x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x4x1024x768, .bf16⟩
  | .local _ .vmem, ⟨4, _⟩ => ⟨S512x1024, .bf16⟩
  | .local _ .vmem, ⟨5, _⟩ => ⟨S512x1024, .bf16⟩
  | .local _ .vmem, ⟨6, _⟩ => ⟨S512x3072, .bf16⟩
  | .local _ .vmem, ⟨7, _⟩ => ⟨S512x3072, .bf16⟩
  | .local _ .vmem, ⟨8, _⟩ => ⟨S1024x3072, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4x1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvInRefIdeal.lean ====
abbrev S8192x1024 : Shape := ⟨2, ![8192, 1024]⟩
abbrev S1x1024 : Shape := ⟨2, ![1, 1024]⟩
abbrev S1x4x1024x768 : Shape := ⟨4, ![1, 4, 1024, 768]⟩
abbrev S_ : Shape := ⟨0, ![]⟩
abbrev S8192 : Shape := ⟨1, ![8192]⟩
abbrev S8192x1 : Shape := ⟨2, ![8192, 1]⟩
abbrev S4x1024x768 : Shape := ⟨3, ![4, 1024, 768]⟩
abbrev S1024x4x768 : Shape := ⟨3, ![1024, 4, 768]⟩
abbrev S1024x3072 : Shape := ⟨2, ![1024, 3072]⟩
abbrev S8192x3072 : Shape := ⟨2, ![8192, 3072]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x4x1024x768, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S4x1024x768, .bf16⟩
  | .hbm, ⟨20, _⟩ => ⟨S4x1024x768, .f32⟩
  | .hbm, ⟨21, _⟩ => ⟨S1024x4x768, .f32⟩
  | .hbm, ⟨22, _⟩ => ⟨S1024x3072, .f32⟩
  | .hbm, ⟨23, _⟩ => ⟨S8192x3072, .f32⟩
  | .hbm, ⟨24, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== ConvInDgrad.lean ====
abbrev S3x8192x1024 : Shape := ⟨3, ![3, 8192, 1024]⟩
abbrev S1x4x1024x768 : Shape := ⟨4, ![1, 4, 1024, 768]⟩
abbrev S8192x1024 : Shape := ⟨2, ![8192, 1024]⟩
abbrev S1x1024 : Shape := ⟨2, ![1, 1024]⟩
abbrev S8x1024 : Shape := ⟨2, ![8, 1024]⟩
abbrev S3x512x1024 : Shape := ⟨3, ![3, 512, 1024]⟩
abbrev S512x1024 : Shape := ⟨2, ![512, 1024]⟩
abbrev S1x512x256 : Shape := ⟨3, ![1, 512, 256]⟩
abbrev S512x256 : Shape := ⟨2, ![512, 256]⟩
abbrev S1x1x1024x256 : Shape := ⟨4, ![1, 1, 1024, 256]⟩
abbrev S1024x256 : Shape := ⟨2, ![1024, 256]⟩
abbrev S512 : Shape := ⟨1, ![512]⟩
abbrev S512x1 : Shape := ⟨2, ![512, 1]⟩
abbrev S64x8x1024 : Shape := ⟨3, ![64, 8, 1024]⟩

abbrev nBuf : Space → Nat
  | .hbm => 7
  | .vmem => 11
  | .smem => 0
  | _ => 0

abbrev bufTy : (tb : Table) → Fin (tcTables nBuf tb) → BufTy
  | .hbm, ⟨0, _⟩ => ⟨S3x8192x1024, .bf16⟩
  | .hbm, ⟨1, _⟩ => ⟨S1x4x1024x768, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8x1024, .f32⟩
  | .local _ .vmem, ⟨0, _⟩ => ⟨S3x512x1024, .bf16⟩
  | .local _ .vmem, ⟨1, _⟩ => ⟨S3x512x1024, .bf16⟩
  | .local _ .vmem, ⟨2, _⟩ => ⟨S1x4x1024x768, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S3x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ConvInDgradRefIdeal.lean ====
abbrev S3x8192x1024 : Shape := ⟨3, ![3, 8192, 1024]⟩
abbrev S1x4x1024x768 : Shape := ⟨4, ![1, 4, 1024, 768]⟩
abbrev S8192x1024 : Shape := ⟨2, ![8192, 1024]⟩
abbrev S1x1024 : Shape := ⟨2, ![1, 1024]⟩
abbrev S1x8192x1024 : Shape := ⟨3, ![1, 8192, 1024]⟩
abbrev S8192x3072 : Shape := ⟨2, ![8192, 3072]⟩
abbrev S4x1024x768 : Shape := ⟨3, ![4, 1024, 768]⟩
abbrev S1024x4x768 : Shape := ⟨3, ![1024, 4, 768]⟩
abbrev S1024x3072 : Shape := ⟨2, ![1024, 3072]⟩
abbrev S8x1024 : Shape := ⟨2, ![8, 1024]⟩
abbrev S_ : Shape := ⟨0, ![]⟩
abbrev S8192 : Shape := ⟨1, ![8192]⟩
abbrev S8192x1 : Shape := ⟨2, ![8192, 1]⟩
abbrev S1024x8x1024 : Shape := ⟨3, ![1024, 8, 1024]⟩
abbrev S1x8x1024 : Shape := ⟨3, ![1, 8, 1024]⟩

abbrev nBuf : Space → Nat
  | .hbm => 70
  | .vmem => 0
  | .smem => 0
  | _ => 0

abbrev bufTy : (tb : Table) → Fin (tcTables nBuf tb) → BufTy
  | .hbm, ⟨0, _⟩ => ⟨S3x8192x1024, .bf16⟩
  | .hbm, ⟨1, _⟩ => ⟨S1x4x1024x768, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x8192x1024, .bf16⟩
  | .hbm, ⟨6, _⟩ => ⟨S8192x1024, .bf16⟩
  | .hbm, ⟨7, _⟩ => ⟨S1x8192x1024, .bf16⟩
  | .hbm, ⟨8, _⟩ => ⟨S8192x1024, .bf16⟩
  | .hbm, ⟨9, _⟩ => ⟨S1x8192x1024, .bf16⟩
  | .hbm, ⟨10, _⟩ => ⟨S8192x1024, .bf16⟩
  | .hbm, ⟨11, _⟩ => ⟨S8192x3072, .bf16⟩
  | .hbm, ⟨12, _⟩ => ⟨S4x1024x768, .bf16⟩
  | .hbm, ⟨13, _⟩ => ⟨S4x1024x768, .f32⟩
  | .hbm, ⟨14, _⟩ => ⟨S1024x4x768, .f32⟩
  | .hbm, ⟨15, _⟩ => ⟨S1024x3072, .f32⟩
  | .hbm, ⟨16, _⟩ => ⟨S8x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1024x8x1024, .f32⟩
  | .hbm, ⟨35, _⟩ => ⟨S1x8x1024, .f32⟩
  | .hbm, ⟨36, _⟩ => ⟨S1024x8x1024, .f32⟩
  | .hbm, ⟨37, _⟩ => ⟨S1024x8x1024, .f32⟩
  | .hbm, ⟨38, _⟩ => ⟨S8192x1024, .f32⟩
  | .hbm, ⟨39, _⟩ => ⟨S8192x3072, .f32⟩
  | .hbm, ⟨40, _⟩ => ⟨S8192x3072, .f32⟩
  | .hbm, ⟨41, _⟩ => ⟨S8192x1024, .f32⟩
  | .hbm, ⟨42, _⟩ => ⟨S1024x8x1024, .f32⟩
  | .hbm, ⟨43, _⟩ => ⟨S1024x8x1024, .f32⟩
  | .hbm, ⟨44, _⟩ => ⟨S_, .f32⟩
  | .hbm, ⟨45, _⟩ => ⟨S8x1024, .f32⟩
  | .hbm, ⟨46, _⟩ => ⟨S1x8x1024, .f32⟩
  | .hbm, ⟨47, _⟩ => ⟨S1024x8x1024, .f32⟩
  | .hbm, ⟨48, _⟩ => ⟨S1024x8x1024, .f32⟩
  | .hbm, ⟨49, _⟩ => ⟨S_, .f32⟩
  | .hbm, ⟨50, _⟩ => ⟨S8x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | _, _ => ⟨S3x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩

abbrev nD : Nat := 1
abbrev τ : Topo := Topo.v7x

variable {F : FTy → Type} [FloatOps F]
-- ==== ConvInWgrad.lean ====
abbrev S8192x1024 : Shape := ⟨2, ![8192, 1024]⟩
abbrev S3x8192x1024 : Shape := ⟨3, ![3, 8192, 1024]⟩
abbrev S4x1024x768 : Shape := ⟨3, ![4, 1024, 768]⟩
abbrev S512x1024 : Shape := ⟨2, ![512, 1024]⟩
abbrev S3x512x1024 : Shape := ⟨3, ![3, 512, 1024]⟩
abbrev S1x512x1024 : Shape := ⟨3, ![1, 512, 1024]⟩
abbrev S1024x1024 : Shape := ⟨2, ![1024, 1024]⟩
abbrev S1x1024x256 : Shape := ⟨3, ![1, 1024, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S3x8192x1024, .bf16⟩
  | .hbm, ⟨2, _⟩ => ⟨S4x1024x768, .f32⟩
  | .local _ .vmem, ⟨0, _⟩ => ⟨S512x1024, .bf16⟩
  | .local _ .vmem, ⟨1, _⟩ => ⟨S512x1024, .bf16⟩
  | .local _ .vmem, ⟨2, _⟩ => ⟨S3x512x1024, .bf16⟩
  | .local _ .vmem, ⟨3, _⟩ => ⟨S3x512x1024, .bf16⟩
  | .local _ .vmem, ⟨4, _⟩ => ⟨S4x1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ConvInWgradRefIdeal.lean ====
abbrev S8192x1024 : Shape := ⟨2, ![8192, 1024]⟩
abbrev S3x8192x1024 : Shape := ⟨3, ![3, 8192, 1024]⟩
abbrev S1x8192x1024 : Shape := ⟨3, ![1, 8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3x8192x1024, .bf16⟩
  | .hbm, ⟨2, _⟩ => ⟨S1x8192x1024, .bf16⟩
  | .hbm, ⟨3, _⟩ => ⟨S8192x1024, .bf16⟩
  | .hbm, ⟨4, _⟩ => ⟨S1x8192x1024, .bf16⟩
  | .hbm, ⟨5, _⟩ => ⟨S8192x1024, .bf16⟩
  | .hbm, ⟨6, _⟩ => ⟨S1x8192x1024, .bf16⟩
  | .hbm, ⟨7, _⟩ => ⟨S8192x1024, .bf16⟩
  | .hbm, ⟨8, _⟩ => ⟨S8192x3072, .bf16⟩
  | .hbm, ⟨9, _⟩ => ⟨S_, .f32⟩
  | .hbm, ⟨10, _⟩ => ⟨S1024x3072, .f32⟩
  | .hbm, ⟨11, _⟩ => ⟨S8192x1024, .f32⟩
  | .hbm, ⟨12, _⟩ => ⟨S8192x3072, .f32⟩
  | .hbm, ⟨13, _⟩ => ⟨S8192x3072, .f32⟩
  | .hbm, ⟨14, _⟩ => ⟨S3072x1024, .f32⟩
  | .hbm, ⟨15, _⟩ => ⟨S1024x3072, .f32⟩
  | .hbm, ⟨16, _⟩ => ⟨S1024x4x768, .f32⟩
  | .hbm, ⟨17, _⟩ => ⟨S4x1024x768, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Qkv.lean ====
abbrev S8192x1024 : Shape := ⟨2, ![8192, 1024]⟩
abbrev S1x4x1024x384 : Shape := ⟨4, ![1, 4, 1024, 384]⟩
abbrev S8192x1536 : Shape := ⟨2, ![8192, 1536]⟩
abbrev S1024x1024 : Shape := ⟨2, ![1024, 1024]⟩
abbrev S1024x1536 : Shape := ⟨2, ![1024, 1536]⟩
abbrev S1x1x1024x384 : Shape := ⟨4, ![1, 1, 1024, 384]⟩
abbrev S1024x384 : Shape := ⟨2, ![1024, 384]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1x4x1024x384, .bf16⟩
  | .hbm, ⟨2, _⟩ => ⟨S8192x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1x4x1024x384, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QkvRefIdeal.lean ====
abbrev S8192x1024 : Shape := ⟨2, ![8192, 1024]⟩
abbrev S1x4x1024x384 : Shape := ⟨4, ![1, 4, 1024, 384]⟩
abbrev S4x1024x384 : Shape := ⟨3, ![4, 1024, 384]⟩
abbrev S1024x4x384 : Shape := ⟨3, ![1024, 4, 384]⟩
abbrev S1024x1536 : Shape := ⟨2, ![1024, 1536]⟩
abbrev S8192x1536 : Shape := ⟨2, ![8192, 1536]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x4x1024x384, .bf16⟩
  | .hbm, ⟨2, _⟩ => ⟨S8192x1024, .f32⟩
  | .hbm, ⟨3, _⟩ => ⟨S4x1024x384, .bf16⟩
  | .hbm, ⟨4, _⟩ => ⟨S4x1024x384, .f32⟩
  | .hbm, ⟨5, _⟩ => ⟨S1024x4x384, .f32⟩
  | .hbm, ⟨6, _⟩ => ⟨S1024x1536, .f32⟩
  | .hbm, ⟨7, _⟩ => ⟨S8192x1536, .f32⟩
  | .hbm, ⟨8, _⟩ => ⟨S8192x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== QkvDgrad.lean ====
abbrev S8192x1536 : Shape := ⟨2, ![8192, 1536]⟩
abbrev S1x4x1024x384 : Shape := ⟨4, ![1, 4, 1024, 384]⟩
abbrev S8192x1024 : Shape := ⟨2, ![8192, 1024]⟩
abbrev S1x1024 : Shape := ⟨2, ![1, 1024]⟩
abbrev S8x1024 : Shape := ⟨2, ![8, 1024]⟩
abbrev S512x1536 : Shape := ⟨2, ![512, 1536]⟩
abbrev S512x1024 : Shape := ⟨2, ![512, 1024]⟩
abbrev S512x384 : Shape := ⟨2, ![512, 384]⟩
abbrev S1x1x1024x384 : Shape := ⟨4, ![1, 1, 1024, 384]⟩
abbrev S1024x384 : Shape := ⟨2, ![1024, 384]⟩
abbrev S512 : Shape := ⟨1, ![512]⟩
abbrev S512x1 : Shape := ⟨2, ![512, 1]⟩
abbrev S64x8x1024 : Shape := ⟨3, ![64, 8, 1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x1536, .bf16⟩
  | .hbm, ⟨1, _⟩ => ⟨S1x4x1024x384, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S8x1024, .f32⟩
  | .local _ .vmem, ⟨0, _⟩ => ⟨S512x1536, .bf16⟩
  | .local _ .vmem, ⟨1, _⟩ => ⟨S512x1536, .bf16⟩
  | .local _ .vmem, ⟨2, _⟩ => ⟨S1x4x1024x384, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== QkvDgradRefIdeal.lean ====
abbrev S8192x1536 : Shape := ⟨2, ![8192, 1536]⟩
abbrev S1x4x1024x384 : Shape := ⟨4, ![1, 4, 1024, 384]⟩
abbrev S8192x1024 : Shape := ⟨2, ![8192, 1024]⟩
abbrev S1x1024 : Shape := ⟨2, ![1, 1024]⟩
abbrev S4x1024x384 : Shape := ⟨3, ![4, 1024, 384]⟩
abbrev S1024x4x384 : Shape := ⟨3, ![1024, 4, 384]⟩
abbrev S1024x1536 : Shape := ⟨2, ![1024, 1536]⟩
abbrev S8x1024 : Shape := ⟨2, ![8, 1024]⟩
abbrev S_ : Shape := ⟨0, ![]⟩
abbrev S8192 : Shape := ⟨1, ![8192]⟩
abbrev S8192x1 : Shape := ⟨2, ![8192, 1]⟩
abbrev S1024x8x1024 : Shape := ⟨3, ![1024, 8, 1024]⟩
abbrev S1x8x1024 : Shape := ⟨3, ![1, 8, 1024]⟩

abbrev nBuf : Space → Nat
  | .hbm => 64
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S1x4x1024x384, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S4x1024x384, .bf16⟩
  | .hbm, ⟨6, _⟩ => ⟨S4x1024x384, .f32⟩
  | .hbm, ⟨7, _⟩ => ⟨S1024x4x384, .f32⟩
  | .hbm, ⟨8, _⟩ => ⟨S1024x1536, .f32⟩
  | .hbm, ⟨9, _⟩ => ⟨S8x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1024x8x1024, .f32⟩
  | .hbm, ⟨28, _⟩ => ⟨S1x8x1024, .f32⟩
  | .hbm, ⟨29, _⟩ => ⟨S1024x8x1024, .f32⟩
  | .hbm, ⟨30, _⟩ => ⟨S1024x8x1024, .f32⟩
  | .hbm, ⟨31, _⟩ => ⟨S8192x1024, .f32⟩
  | .hbm, ⟨32, _⟩ => ⟨S8192x1536, .f32⟩
  | .hbm, ⟨33, _⟩ => ⟨S8192x1536, .f32⟩
  | .hbm, ⟨34, _⟩ => ⟨S8192x1024, .f32⟩
  | .hbm, ⟨35, _⟩ => ⟨S1024x8x1024, .f32⟩
  | .hbm, ⟨36, _⟩ => ⟨S1024x8x1024, .f32⟩
  | .hbm, ⟨37, _⟩ => ⟨S_, .f32⟩
  | .hbm, ⟨38, _⟩ => ⟨S8x1024, .f32⟩
  | .hbm, ⟨39, _⟩ => ⟨S1x8x1024, .f32⟩
  | .hbm, ⟨40, _⟩ => ⟨S1024x8x1024, .f32⟩
  | .hbm, ⟨41, _⟩ => ⟨S1024x8x1024, .f32⟩
  | .hbm, ⟨42, _⟩ => ⟨S_, .f32⟩
  | .hbm, ⟨43, _⟩ => ⟨S8x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .bf16⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== QkvWgrad.lean ====
abbrev S8192x1024 : Shape := ⟨2, ![8192, 1024]⟩
abbrev S8192x1536 : Shape := ⟨2, ![8192, 1536]⟩
abbrev S4x1024x384 : Shape := ⟨3, ![4, 1024, 384]⟩
abbrev S2048x1024 : Shape := ⟨2, ![2048, 1024]⟩
abbrev S2048x1536 : Shape := ⟨2, ![2048, 1536]⟩
abbrev S1024x1536 : Shape := ⟨2, ![1024, 1536]⟩
abbrev S1x1024x384 : Shape := ⟨3, ![1, 1024, 384]⟩
abbrev S1024x384 : Shape := ⟨2, ![1024, 384]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S4x1024x384, .f32⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S4x1024x384, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== QkvWgradRefIdeal.lean ====
abbrev S8192x1024 : Shape := ⟨2, ![8192, 1024]⟩
abbrev S8192x1536 : Shape := ⟨2, ![8192, 1536]⟩
abbrev S_ : Shape := ⟨0, ![]⟩
abbrev S1024x1536 : Shape := ⟨2, ![1024, 1536]⟩
abbrev S1536x1024 : Shape := ⟨2, ![1536, 1024]⟩
abbrev S1024x4x384 : Shape := ⟨3, ![1024, 4, 384]⟩
abbrev S4x1024x384 : Shape := ⟨3, ![4, 1024, 384]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S_, .f32⟩
  | .hbm, ⟨3, _⟩ => ⟨S1024x1536, .f32⟩
  | .hbm, ⟨4, _⟩ => ⟨S8192x1024, .f32⟩
  | .hbm, ⟨5, _⟩ => ⟨S8192x1536, .f32⟩
  | .hbm, ⟨6, _⟩ => ⟨S8192x1536, .f32⟩
  | .hbm, ⟨7, _⟩ => ⟨S1536x1024, .f32⟩
  | .hbm, ⟨8, _⟩ => ⟨S1024x1536, .f32⟩
  | .hbm, ⟨9, _⟩ => ⟨S1024x4x384, .f32⟩
  | .hbm, ⟨10, _⟩ => ⟨S4x1024x384, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Out.lean ====
abbrev S8192x1024 : Shape := ⟨2, ![8192, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutRefIdeal.lean ====
abbrev S8192x1024 : Shape := ⟨2, ![8192, 1024]⟩
abbrev S1x1024x1024 : Shape := ⟨3, ![1, 1024, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x1024, .bf16⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== OutDgrad.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutDgradRefIdeal.lean ====
abbrev S8192x1024 : Shape := ⟨2, ![8192, 1024]⟩
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S1024x1024, .bf16⟩
  | .hbm, ⟨3, _⟩ => ⟨S1024x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutWgrad.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== OutWgradRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ConvFwd.lean ====
abbrev S8192x3072 : Shape := ⟨2, ![8192, 3072]⟩
abbrev S3x1024 : Shape := ⟨2, ![3, 1024]⟩
abbrev S_ : Shape := ⟨0, ![]⟩
abbrev S8x1024 : Shape := ⟨2, ![8, 1024]⟩
abbrev S3x256 : Shape := ⟨2, ![3, 256]⟩
abbrev S1x8x1024 : Shape := ⟨3, ![1, 8, 1024]⟩
abbrev S3x8x1024 : Shape := ⟨3, ![3, 8, 1024]⟩
abbrev S8192x1024 : Shape := ⟨2, ![8192, 1024]⟩
abbrev S2048x512 : Shape := ⟨2, ![2048, 512]⟩
abbrev S8x512 : Shape := ⟨2, ![8, 512]⟩
abbrev S3x8x512 : Shape := ⟨3, ![3, 8, 512]⟩
abbrev S1x8x512 : Shape := ⟨3, ![1, 8, 512]⟩
abbrev S1x512 : Shape := ⟨2, ![1, 512]⟩
abbrev S2040x512 : Shape := ⟨2, ![2040, 512]⟩

abbrev nBuf : Space → Nat
  | .hbm => 31
  | .vmem => 12
  | .smem => 0
  | _ => 0

abbrev bufTy : (tb : Table) → Fin (tcTables nBuf tb) → BufTy
  | .hbm, ⟨0, _⟩ => ⟨S8192x3072, .bf16⟩
  | .hbm, ⟨1, _⟩ => ⟨S3x1024, .f32⟩
  | .hbm, ⟨2, _⟩ => ⟨S_, .f32⟩
  | .hbm, ⟨3, _⟩ => ⟨S8x1024, .f32⟩
  | .hbm, ⟨4, _⟩ => ⟨S3x256, .f32⟩
  | .hbm, ⟨5, _⟩ => ⟨S_, .i32⟩
  | .hbm, ⟨6, _⟩ => ⟨S_, .i32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S3x256, .f32⟩
  | .hbm, ⟨11, _⟩ => ⟨S_, .i32⟩
  | .hbm, ⟨12, _⟩ => ⟨S_, .i32⟩
  | .hbm, ⟨13, _⟩ => ⟨S8x1024, .f32⟩
  | .hbm, ⟨14, _⟩ => ⟨S_, .f32⟩
  | .hbm, ⟨15, _⟩ => ⟨S8x1024, .f32⟩
  | .hbm, ⟨16, _⟩ => ⟨S3x256, .f32⟩
  | .hbm, ⟨17, _⟩ => ⟨S_, .i32⟩
  | .hbm, ⟨18, _⟩ => ⟨S_, .i32⟩
  | .hbm, ⟨19, _⟩ => ⟨S8x1024, .f32⟩
  | .hbm, ⟨20, _⟩ => ⟨S_, .f32⟩
  | .hbm, ⟨21, _⟩ => ⟨S8x1024, .f32⟩
  | .hbm, ⟨22, _⟩ => ⟨S3x256, .f32⟩
  | .hbm, ⟨23, _⟩ => ⟨S_, .i32⟩
  | .hbm, ⟨24, _⟩ => ⟨S_, .i32⟩
  | .hbm, ⟨25, _⟩ => ⟨S8x1024, .f32⟩
  | .hbm, ⟨26, _⟩ => ⟨S1x8x1024, .f32⟩
  | .hbm, ⟨27, _⟩ => ⟨S1x8x1024, .f32⟩
  | .hbm, ⟨28, _⟩ => ⟨S1x8x1024, .f32⟩
  | .hbm, ⟨29, _⟩ => ⟨S3x8x1024, .f32⟩
  | .hbm, ⟨30, _⟩ => ⟨S8192x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S8x512, .f32⟩
  | .local _ .vmem, ⟨7, _⟩ => ⟨S8x512, .f32⟩
  | .local _ .vmem, ⟨8, _⟩ => ⟨S3x8x512, .f32⟩
  | .local _ .vmem, ⟨9, _⟩ => ⟨S3x8x512, .f32⟩
  | .local _ .vmem, ⟨10, _⟩ => ⟨S2048x512, .bf16⟩
  | .local _ .vmem, ⟨11, _⟩ => ⟨S2048x512, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_c_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_c_2 : Ref sig .tc := ⟨.hbm, 11, rfl⟩
abbrev main_c_3 : Ref sig .tc := ⟨.hbm, 12, rfl⟩
abbrev main_v5 : Ref sig .tc := ⟨.hbm, 13, rfl⟩
abbrev main_cst_4 : Ref sig .tc := ⟨.hbm, 14, rfl⟩
abbrev main_v6 : Ref sig .tc := ⟨.hbm, 15, rfl⟩
abbrev main_v7 : Ref sig .tc := ⟨.hbm, 16, rfl⟩
abbrev main_c_5 : Ref sig .tc := ⟨.hbm, 17, rfl⟩
abbrev main_c_6 : Ref sig .tc := ⟨.hbm, 18, rfl⟩
abbrev main_v8 : Ref sig .tc := ⟨.hbm, 19, rfl⟩
abbrev main_cst_7 : Ref sig .tc := ⟨.hbm, 20, rfl⟩
abbrev main_v9 : Ref sig .tc := ⟨.hbm, 21, rfl⟩
abbrev main_v10 : Ref sig .tc := ⟨.hbm, 22, rfl⟩
abbrev main_c_8 : Ref sig .tc := ⟨.hbm, 23, rfl⟩
abbrev main_c_9 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ConvFwdRefIdeal.lean ====
abbrev S8192x3072 : Shape := ⟨2, ![8192, 3072]⟩
abbrev S3x1024 : Shape := ⟨2, ![3, 1024]⟩
abbrev S4x2048x3072 : Shape := ⟨3, ![4, 2048, 3072]⟩
abbrev S4x2048x1024 : Shape := ⟨3, ![4, 2048, 1024]⟩
abbrev S_ : Shape := ⟨0, ![]⟩
abbrev S4x2x1024 : Shape := ⟨3, ![4, 2, 1024]⟩
abbrev S4x2050x1024 : Shape := ⟨3, ![4, 2050, 1024]⟩
abbrev S1x1024 : Shape := ⟨2, ![1, 1024]⟩
abbrev S1024 : Shape := ⟨1, ![1024]⟩
abbrev S1x1x1024 : Shape := ⟨3, ![1, 1, 1024]⟩
abbrev S8192x1024 : Shape := ⟨2, ![8192, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S3x1024, .f32⟩
  | .hbm, ⟨2, _⟩ => ⟨S8192x3072, .f32⟩
  | .hbm, ⟨3, _⟩ => ⟨S4x2048x3072, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S_, .f32⟩
  | .hbm, ⟨9, _⟩ => ⟨S4x2x1024, .f32⟩
  | .hbm, ⟨10, _⟩ => ⟨S4x2050x1024, .f32⟩
  | .hbm, ⟨11, _⟩ => ⟨S1x1024, .f32⟩
  | .hbm, ⟨12, _⟩ => ⟨S1024, .f32⟩
  | .hbm, ⟨13, _⟩ => ⟨S4x2048x1024, .f32⟩
  | .hbm, ⟨14, _⟩ => ⟨S1x1x1024, .f32⟩
  | .hbm, ⟨15, _⟩ => ⟨S4x2048x1024, .f32⟩
  | .hbm, ⟨16, _⟩ => ⟨S4x2048x1024, .f32⟩
  | .hbm, ⟨17, _⟩ => ⟨S1x1024, .f32⟩
  | .hbm, ⟨18, _⟩ => ⟨S1024, .f32⟩
  | .hbm, ⟨19, _⟩ => ⟨S4x2048x1024, .f32⟩
  | .hbm, ⟨20, _⟩ => ⟨S1x1x1024, .f32⟩
  | .hbm, ⟨21, _⟩ => ⟨S4x2048x1024, .f32⟩
  | .hbm, ⟨22, _⟩ => ⟨S4x2048x1024, .f32⟩
  | .hbm, ⟨23, _⟩ => ⟨S4x2048x1024, .f32⟩
  | .hbm, ⟨24, _⟩ => ⟨S1x1024, .f32⟩
  | .hbm, ⟨25, _⟩ => ⟨S1024, .f32⟩
  | .hbm, ⟨26, _⟩ => ⟨S4x2048x1024, .f32⟩
  | .hbm, ⟨27, _⟩ => ⟨S1x1x1024, .f32⟩
  | .hbm, ⟨28, _⟩ => ⟨S4x2048x1024, .f32⟩
  | .hbm, ⟨29, _⟩ => ⟨S4x2048x1024, .f32⟩
  | .hbm, ⟨30, _⟩ => ⟨S4x2048x1024, .f32⟩
  | .hbm, ⟨31, _⟩ => ⟨S4x2048x1024, .f32⟩
  | .hbm, ⟨32, _⟩ => ⟨S8192x1024, .f32⟩
  | .hbm, ⟨33, _⟩ => ⟨S8192x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩

abbrev nD : Nat := 1
abbrev τ : Topo := Topo.v7x

variable {F : FTy → Type} [FloatOps F]
-- ==== AttnFwd.lean ====
abbrev S8192x1536 : Shape := ⟨2, ![8192, 1536]⟩
abbrev S1x64 : Shape := ⟨2, ![1, 64]⟩
abbrev S1x16 : Shape := ⟨2, ![1, 16]⟩
abbrev S1x128 : Shape := ⟨2, ![1, 128]⟩
abbrev S8192x1024 : Shape := ⟨2, ![8192, 1024]⟩
abbrev S2048x1536 : Shape := ⟨2, ![2048, 1536]⟩
abbrev S2048x1024 : Shape := ⟨2, ![2048, 1024]⟩
abbrev S2x8x256x128 : Shape := ⟨4, ![2, 8, 256, 128]⟩
abbrev S256x128 : Shape := ⟨2, ![256, 128]⟩
abbrev S1x1x256x128 : Shape := ⟨4, ![1, 1, 256, 128]⟩
abbrev S128x128 : Shape := ⟨2, ![128, 128]⟩
abbrev S256 : Shape := ⟨1, ![256]⟩
abbrev S256x1 : Shape := ⟨2, ![256, 1]⟩
abbrev S512x128 : Shape := ⟨2, ![512, 128]⟩
abbrev S128 : Shape := ⟨1, ![128]⟩
abbrev S128x1 : Shape := ⟨2, ![128, 1]⟩
abbrev S1x1 : Shape := ⟨2, ![1, 1]⟩

abbrev nBuf : Space → Nat
  | .hbm => 7
  | .vmem => 7
  | .smem => 1
  | _ => 0

abbrev bufTy : (tb : Table) → Fin (tcTables nBuf tb) → BufTy
  | .hbm, ⟨0, _⟩ => ⟨S8192x1536, .bf16⟩
  | .hbm, ⟨1, _⟩ => ⟨S1x64, .f32⟩
  | .hbm, ⟨2, _⟩ => ⟨S1x64, .f32⟩
  | .hbm, ⟨3, _⟩ => ⟨S1x16, .f32⟩
  | .hbm, ⟨4, _⟩ => ⟨S1x128, .f32⟩
  | .hbm, ⟨5, _⟩ => ⟨S1x128, .f32⟩
  | .hbm, ⟨6, _⟩ => ⟨S8192x1024, .bf16⟩
  | .local _ .vmem, ⟨0, _⟩ => ⟨S2048x1536, .bf16⟩
  | .local _ .vmem, ⟨1, _⟩ => ⟨S2048x1536, .bf16⟩
  | .local _ .vmem, ⟨2, _⟩ => ⟨S1x128, .f32⟩
  | .local _ .vmem, ⟨3, _⟩ => ⟨S1x128, .f32⟩
  | .local _ .vmem, ⟨4, _⟩ => ⟨S2048x1024, .bf16⟩
  | .local _ .vmem, ⟨5, _⟩ => ⟨S2048x1024, .bf16⟩
  | .local _ .vmem, ⟨6, _⟩ => ⟨S2x8x256x128, .f32⟩
  | .local _ .smem, ⟨0, _⟩ => ⟨S1x16, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_4 : BitVec 32 := 0#32
  let c16_i32 : BitVec 32 := 16#32
  let v15 : BitVec 32 := Scalar.addi c0_i32_4 c16_i32
  let c1_i32 : BitVec 32 := 1#32
  ⟨c0_i32_4, v15, c1_i32⟩
def k0_mult1 (k0_t1 : Fin k0_t1_loop.trips) : BitVec 32 :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  v16
def k0_mult2 (k0_t1 : Fin k0_t1_loop.trips) : BitVec 32 :=
  let c0_i32_4 : BitVec 32 := 0#32
  let c1_i32 : BitVec 32 := 1#32
  let arg7 : BitVec 32 := Scf.iv c0_i32_4 c1_i32 k0_t1
  let c1_i32_6 : BitVec 32 := 1#32
  let v18 : BitVec 32 := Scalar.subi arg7 c1_i32_6
  let c0_i32_7 : BitVec 32 := 0#32
  let v19 : BitVec 32 := Scalar.maxsi v18 c0_i32_7
  let c128_i32_8 : BitVec 32 := 128#32
  let v20 : BitVec 32 := Scalar.muli v19 c128_i32_8
  v20
def k0_off1 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c1_i32_6 : BitVec 32 := 1#32
  let v18 : BitVec 32 := Scalar.subi arg7 c1_i32_6
  let c0_i32_7 : BitVec 32 := 0#32
  let v19 : BitVec 32 := Scalar.maxsi v18 c0_i32_7
  let c128_i32_8 : BitVec 32 := 128#32
  let v20 : BitVec 32 := Scalar.muli v19 c128_i32_8
  let v21 : BitVec 32 := v20
  let v23 : Index := Scalar.indexCast v21
  let c1024 : Index := 1024#32
  ![v23.toNat, 1024]
def k0_off2 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  let v17 : BitVec 32 := v16
  let v25 : Index := Scalar.indexCast v17
  let c1024_10 : Index := 1024#32
  ![v25.toNat, 1024]
def k0_off3 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c1_i32_6 : BitVec 32 := 1#32
  let v18 : BitVec 32 := Scalar.subi arg7 c1_i32_6
  let c0_i32_7 : BitVec 32 := 0#32
  let v19 : BitVec 32 := Scalar.maxsi v18 c0_i32_7
  let c128_i32_8 : BitVec 32 := 128#32
  let v20 : BitVec 32 := Scalar.muli v19 c128_i32_8
  let v21 : BitVec 32 := v20
  let v29 : Index := Scalar.indexCast v21
  let c1280 : Index := 1280#32
  ![v29.toNat, 1280]
def k0_off4 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  let v17 : BitVec 32 := v16
  let v31 : Index := Scalar.indexCast v17
  let c1280_11 : Index := 1280#32
  ![v31.toNat, 1280]
def k0_off5 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  let v17 : BitVec 32 := v16
  let v77 : Index := Scalar.indexCast v17
  let c0_22 : Index := 0#32
  ![v77.toNat, 0]
def k0_off6 (k0_t1 : Fin k0_t1_loop.trips) : Fin 4 → Nat :=
  let c0_i32_4 : BitVec 32 := 0#32
  let c1_i32 : BitVec 32 := 1#32
  let arg7 : BitVec 32 := Scf.iv c0_i32_4 c1_i32 k0_t1
  let c1_i32_9 : BitVec 32 := 1#32
  let v22 : BitVec 32 := Scalar.minsi arg7 c1_i32_9
  let v117 : Index := Scalar.indexCast v22
  let c0_30 : Index := 0#32
  let c0_31 : Index := 0#32
  let c0_32 : Index := 0#32
  ![v117.toNat, 0, 0, 0]
def k0_off7 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  let v17 : BitVec 32 := v16
  let v171 : Index := Scalar.indexCast v17
  let c0_47 : Index := 0#32
  ![v171.toNat, 0]
def k0_off8 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  let v17 : BitVec 32 := v16
  let v173 : Index := Scalar.indexCast v17
  let c128 : Index := 128#32
  ![v173.toNat, 128]
def k0_off9 (k0_t1 : Fin k0_t1_loop.trips) : Fin 4 → Nat :=
  let c0_i32_4 : BitVec 32 := 0#32
  let c1_i32 : BitVec 32 := 1#32
  let arg7 : BitVec 32 := Scf.iv c0_i32_4 c1_i32 k0_t1
  let c1_i32_9 : BitVec 32 := 1#32
  let v22 : BitVec 32 := Scalar.minsi arg7 c1_i32_9
  let v213 : Index := Scalar.indexCast v22
  let c1_55 : Index := 1#32
  let c0_56 : Index := 0#32
  let c0_57 : Index := 0#32
  ![v213.toNat, 1, 0, 0]
def k0_off10 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  let v17 : BitVec 32 := v16
  let v267 : Index := Scalar.indexCast v17
  let c128_71 : Index := 128#32
  ![v267.toNat, 128]
def k0_off11 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  let v17 : BitVec 32 := v16
  let v285 : Index := Scalar.indexCast v17
  let c256 : Index := 256#32
  ![v285.toNat, 256]
def k0_off12 (k0_t1 : Fin k0_t1_loop.trips) : Fin 4 → Nat :=
  let c0_i32_4 : BitVec 32 := 0#32
  let c1_i32 : BitVec 32 := 1#32
  let arg7 : BitVec 32 := Scf.iv c0_i32_4 c1_i32 k0_t1
  let c1_i32_9 : BitVec 32 := 1#32
  let v22 : BitVec 32 := Scalar.minsi arg7 c1_i32_9
  let v325 : Index := Scalar.indexCast v22
  let c2_85 : Index := 2#32
  let c0_86 : Index := 0#32
  let c0_87 : Index := 0#32
  ![v325.toNat, 2, 0, 0]
def k0_off13 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  let v17 : BitVec 32 := v16
  let v379 : Index := Scalar.indexCast v17
  let c256_101 : Index := 256#32
  ![v379.toNat, 256]
def k0_off14 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  let v17 : BitVec 32 := v16
  let v381 : Index := Scalar.indexCast v17
  let c384 : Index := 384#32
  ![v381.toNat, 384]
def k0_off15 (k0_t1 : Fin k0_t1_loop.trips) : Fin 4 → Nat :=
  let c0_i32_4 : BitVec 32 := 0#32
  let c1_i32 : BitVec 32 := 1#32
  let arg7 : BitVec 32 := Scf.iv c0_i32_4 c1_i32 k0_t1
  let c1_i32_9 : BitVec 32 := 1#32
  let v22 : BitVec 32 := Scalar.minsi arg7 c1_i32_9
  let v421 : Index := Scalar.indexCast v22
  let c3_109 : Index := 3#32
  let c0_110 : Index := 0#32
  let c0_111 : Index := 0#32
  ![v421.toNat, 3, 0, 0]
def k0_off16 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  let v17 : BitVec 32 := v16
  let v475 : Index := Scalar.indexCast v17
  let c384_125 : Index := 384#32
  ![v475.toNat, 384]
def k0_off17 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c1_i32_6 : BitVec 32 := 1#32
  let v18 : BitVec 32 := Scalar.subi arg7 c1_i32_6
  let c0_i32_7 : BitVec 32 := 0#32
  let v19 : BitVec 32 := Scalar.maxsi v18 c0_i32_7
  let c128_i32_8 : BitVec 32 := 128#32
  let v20 : BitVec 32 := Scalar.muli v19 c128_i32_8
  let v21 : BitVec 32 := v20
  let v477 : Index := Scalar.indexCast v21
  let c1152 : Index := 1152#32
  ![v477.toNat, 1152]
def k0_off18 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  let v17 : BitVec 32 := v16
  let v479 : Index := Scalar.indexCast v17
  let c1152_126 : Index := 1152#32
  ![v479.toNat, 1152]
def k0_off19 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c1_i32_6 : BitVec 32 := 1#32
  let v18 : BitVec 32 := Scalar.subi arg7 c1_i32_6
  let c0_i32_7 : BitVec 32 := 0#32
  let v19 : BitVec 32 := Scalar.maxsi v18 c0_i32_7
  let c128_i32_8 : BitVec 32 := 128#32
  let v20 : BitVec 32 := Scalar.muli v19 c128_i32_8
  let v21 : BitVec 32 := v20
  let v483 : Index := Scalar.indexCast v21
  let c1408 : Index := 1408#32
  ![v483.toNat, 1408]
def k0_off20 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  let v17 : BitVec 32 := v16
  let v485 : Index := Scalar.indexCast v17
  let c1408_127 : Index := 1408#32
  ![v485.toNat, 1408]
def k0_off21 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  let v17 : BitVec 32 := v16
  let v531 : Index := Scalar.indexCast v17
  let c512 : Index := 512#32
  ![v531.toNat, 512]
def k0_off22 (k0_t1 : Fin k0_t1_loop.trips) : Fin 4 → Nat :=
  let c0_i32_4 : BitVec 32 := 0#32
  let c1_i32 : BitVec 32 := 1#32
  let arg7 : BitVec 32 := Scf.iv c0_i32_4 c1_i32 k0_t1
  let c1_i32_9 : BitVec 32 := 1#32
  let v22 : BitVec 32 := Scalar.minsi arg7 c1_i32_9
  let v571 : Index := Scalar.indexCast v22
  let c4_145 : Index := 4#32
  let c0_146 : Index := 0#32
  let c0_147 : Index := 0#32
  ![v571.toNat, 4, 0, 0]
def k0_off23 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  let v17 : BitVec 32 := v16
  let v625 : Index := Scalar.indexCast v17
  let c512_161 : Index := 512#32
  ![v625.toNat, 512]
def k0_off24 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  let v17 : BitVec 32 := v16
  let v627 : Index := Scalar.indexCast v17
  let c640 : Index := 640#32
  ![v627.toNat, 640]
def k0_off25 (k0_t1 : Fin k0_t1_loop.trips) : Fin 4 → Nat :=
  let c0_i32_4 : BitVec 32 := 0#32
  let c1_i32 : BitVec 32 := 1#32
  let arg7 : BitVec 32 := Scf.iv c0_i32_4 c1_i32 k0_t1
  let c1_i32_9 : BitVec 32 := 1#32
  let v22 : BitVec 32 := Scalar.minsi arg7 c1_i32_9
  let v667 : Index := Scalar.indexCast v22
  let c5_169 : Index := 5#32
  let c0_170 : Index := 0#32
  let c0_171 : Index := 0#32
  ![v667.toNat, 5, 0, 0]
def k0_off26 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  let v17 : BitVec 32 := v16
  let v721 : Index := Scalar.indexCast v17
  let c640_185 : Index := 640#32
  ![v721.toNat, 640]
def k0_off27 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  let v17 : BitVec 32 := v16
  let v739 : Index := Scalar.indexCast v17
  let c768 : Index := 768#32
  ![v739.toNat, 768]
def k0_off28 (k0_t1 : Fin k0_t1_loop.trips) : Fin 4 → Nat :=
  let c0_i32_4 : BitVec 32 := 0#32
  let c1_i32 : BitVec 32 := 1#32
  let arg7 : BitVec 32 := Scf.iv c0_i32_4 c1_i32 k0_t1
  let c1_i32_9 : BitVec 32 := 1#32
  let v22 : BitVec 32 := Scalar.minsi arg7 c1_i32_9
  let v779 : Index := Scalar.indexCast v22
  let c6_199 : Index := 6#32
  let c0_200 : Index := 0#32
  let c0_201 : Index := 0#32
  ![v779.toNat, 6, 0, 0]
def k0_off29 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  let v17 : BitVec 32 := v16
  let v833 : Index := Scalar.indexCast v17
  let c768_215 : Index := 768#32
  ![v833.toNat, 768]
def k0_off30 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  let v17 : BitVec 32 := v16
  let v835 : Index := Scalar.indexCast v17
  let c896 : Index := 896#32
  ![v835.toNat, 896]
def k0_off31 (k0_t1 : Fin k0_t1_loop.trips) : Fin 4 → Nat :=
  let c0_i32_4 : BitVec 32 := 0#32
  let c1_i32 : BitVec 32 := 1#32
  let arg7 : BitVec 32 := Scf.iv c0_i32_4 c1_i32 k0_t1
  let c1_i32_9 : BitVec 32 := 1#32
  let v22 : BitVec 32 := Scalar.minsi arg7 c1_i32_9
  let v875 : Index := Scalar.indexCast v22
  let c7_223 : Index := 7#32
  let c0_224 : Index := 0#32
  let c0_225 : Index := 0#32
  ![v875.toNat, 7, 0, 0]
def k0_off32 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c128_i32 : BitVec 32 := 128#32
  let v16 : BitVec 32 := Scalar.muli arg7 c128_i32
  let v17 : BitVec 32 := v16
  let v929 : Index := Scalar.indexCast v17
  let c896_239 : Index := 896#32
  ![v929.toNat, 896]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AttnFwdIdeal.lean ====
variable {F : FTy → Type} [FloatOps F] [Named F]
def κ : String → Option EReal := fun
  | "mask" => some ⊥
  | "slope_1" => some (((Real.sqrt 2)⁻¹ : ℝ) : EReal)
  | "slope_11" => some (((Real.sqrt 2048)⁻¹ : ℝ) : EReal)
  | "slope_13" => some (((Real.sqrt 8192)⁻¹ : ℝ) : EReal)
  | "slope_15" => some (((Real.sqrt 32768)⁻¹ : ℝ) : EReal)
  | "slope_3" => some (((Real.sqrt 8)⁻¹ : ℝ) : EReal)
  | "slope_5" => some (((Real.sqrt 32)⁻¹ : ℝ) : EReal)
  | "slope_7" => some (((Real.sqrt 128)⁻¹ : ℝ) : EReal)
  | "slope_9" => some (((Real.sqrt 512)⁻¹ : ℝ) : EReal)
  | _ => none
-- ==== AttnFwdRefIdeal.lean ====
abbrev S8192x1536 : Shape := ⟨2, ![8192, 1536]⟩
abbrev S1x64 : Shape := ⟨2, ![1, 64]⟩
abbrev S1x16 : Shape := ⟨2, ![1, 16]⟩
abbrev S4x2048x1536 : Shape := ⟨3, ![4, 2048, 1536]⟩
abbrev S64 : Shape := ⟨1, ![64]⟩
abbrev S16 : Shape := ⟨1, ![16]⟩
abbrev S4x2048x1024 : Shape := ⟨3, ![4, 2048, 1024]⟩
abbrev S4x2048x4x4x64 : Shape := ⟨5, ![4, 2048, 4, 4, 64]⟩
abbrev S4x2048x256 : Shape := ⟨3, ![4, 2048, 256]⟩
abbrev S4x2048x4x64 : Shape := ⟨4, ![4, 2048, 4, 64]⟩
abbrev S_ : Shape := ⟨0, ![]⟩
abbrev S4x2048x4x4 : Shape := ⟨4, ![4, 2048, 4, 4]⟩
abbrev S4x2048x4x4x1 : Shape := ⟨5, ![4, 2048, 4, 4, 1]⟩
abbrev S1x1x1x1x64 : Shape := ⟨5, ![1, 1, 1, 1, 64]⟩
abbrev S4x2048x4 : Shape := ⟨3, ![4, 2048, 4]⟩
abbrev S4x2048x4x1 : Shape := ⟨4, ![4, 2048, 4, 1]⟩
abbrev S1x1x1x64 : Shape := ⟨4, ![1, 1, 1, 64]⟩
abbrev S4x16x128x4x4x64 : Shape := ⟨6, ![4, 16, 128, 4, 4, 64]⟩
abbrev S4x2176x4x64 : Shape := ⟨4, ![4, 2176, 4, 64]⟩
abbrev S4x17x128x4x64 : Shape := ⟨5, ![4, 17, 128, 4, 64]⟩
abbrev S4x16x128x4x64 : Shape := ⟨5, ![4, 16, 128, 4, 64]⟩
abbrev S4x16x256x4x64 : Shape := ⟨5, ![4, 16, 256, 4, 64]⟩
abbrev S4x16x4x256x128x4 : Shape := ⟨6, ![4, 16, 4, 256, 128, 4]⟩
abbrev S4x16x4x4x128x256 : Shape := ⟨6, ![4, 16, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S4x4 : Shape := ⟨2, ![4, 4]⟩
abbrev S4x4x1x1 : Shape := ⟨4, ![4, 4, 1, 1]⟩
abbrev S1x1x128x256 : Shape := ⟨4, ![1, 1, 128, 256]⟩
abbrev S4x4x128x256 : Shape := ⟨4, ![4, 4, 128, 256]⟩
abbrev S1x16x1x1x128x256 : Shape := ⟨6, ![1, 16, 1, 1, 128, 256]⟩
abbrev S1x1x4x4x128x256 : Shape := ⟨6, ![1, 1, 4, 4, 128, 256]⟩
abbrev S1x1x4x4x1x1 : Shape := ⟨6, ![1, 1, 4, 4, 1, 1]⟩
abbrev S4x16x4x4x128x1 : Shape := ⟨6, ![4, 16, 4, 4, 128, 1]⟩
abbrev S4x16x4x4x128x257 : Shape := ⟨6, ![4, 16, 4, 4, 128, 257]⟩
abbrev S4x16x4x4x128 : Shape := ⟨5, ![4, 16, 4, 4, 128]⟩
abbrev S4x16x4x64x4x128 : Shape := ⟨6, ![4, 16, 4, 64, 4, 128]⟩
abbrev S8192x1024 : Shape := ⟨2, ![8192, 1024]⟩

abbrev nBuf : Space → Nat
  | .hbm => 157
  | .vmem => 0
  | .smem => 0
  | _ => 0

abbrev hbmTy0_0 (i : Nat) : BufTy := match i % 128 with
  | 0 => ⟨S8192x1536, .bf16⟩
  | 1 => ⟨S1x64, .f32⟩
  | 2 => ⟨S1x64, .f32⟩
  | 3 => ⟨S1x16, .f32⟩
  | 4 => ⟨S8192x1536, .f32⟩
  | 5 => ⟨S4x2048x1536, .f32⟩
  | 6 => ⟨S64, .f32⟩
  | 7 => ⟨S64, .f32⟩
  | 8 => ⟨S16, .f32⟩
  | 9 => ⟨S4x2048x1024, .f32⟩
  | 10 => ⟨S4x2048x4x4x64, .f32⟩
  | 11 => ⟨S4x2048x256, .f32⟩
  | 12 => ⟨S4x2048x4x64, .f32⟩
  | 13 => ⟨S4x2048x256, .f32⟩
  | 14 => ⟨S4x2048x4x64, .f32⟩
  | 15 => ⟨S4x2048x4x4x64, .f32⟩
  | 16 => ⟨S_, .f32⟩
  | 17 => ⟨S4x2048x4x4, .f32⟩
  | 18 => ⟨S4x2048x4x4x1, .f32⟩
  | 19 => ⟨S_, .f32⟩
  | 20 => ⟨S4x2048x4x4x1, .f32⟩
  | 21 => ⟨S4x2048x4x4x1, .f32⟩
  | 22 => ⟨S_, .f32⟩
  | 23 => ⟨S4x2048x4x4x1, .f32⟩
  | 24 => ⟨S4x2048x4x4x1, .f32⟩
  | 25 => ⟨S4x2048x4x4x1, .f32⟩
  | 26 => ⟨S4x2048x4x4x64, .f32⟩
  | 27 => ⟨S4x2048x4x4x64, .f32⟩
  | 28 => ⟨S1x1x1x1x64, .f32⟩
  | 29 => ⟨S4x2048x4x4x64, .f32⟩
  | 30 => ⟨S4x2048x4x4x64, .f32⟩
  | 31 => ⟨S4x2048x4x64, .f32⟩
  | 32 => ⟨S_, .f32⟩
  | 33 => ⟨S4x2048x4, .f32⟩
  | 34 => ⟨S4x2048x4x1, .f32⟩
  | 35 => ⟨S_, .f32⟩
  | 36 => ⟨S4x2048x4x1, .f32⟩
  | 37 => ⟨S4x2048x4x1, .f32⟩
  | 38 => ⟨S_, .f32⟩
  | 39 => ⟨S4x2048x4x1, .f32⟩
  | 40 => ⟨S4x2048x4x1, .f32⟩
  | 41 => ⟨S4x2048x4x1, .f32⟩
  | 42 => ⟨S4x2048x4x64, .f32⟩
  | 43 => ⟨S4x2048x4x64, .f32⟩
  | 44 => ⟨S1x1x1x64, .f32⟩
  | 45 => ⟨S4x2048x4x64, .f32⟩
  | 46 => ⟨S4x2048x4x64, .f32⟩
  | 47 => ⟨S4x16x128x4x4x64, .f32⟩
  | 48 => ⟨S_, .i32⟩
  | 49 => ⟨S_, .f32⟩
  | 50 => ⟨S4x2176x4x64, .f32⟩
  | 51 => ⟨S4x17x128x4x64, .f32⟩
  | 52 => ⟨S4x16x128x4x64, .f32⟩
  | 53 => ⟨S4x16x128x4x64, .f32⟩
  | 54 => ⟨S4x16x256x4x64, .f32⟩
  | 55 => ⟨S_, .i32⟩
  | 56 => ⟨S_, .f32⟩
  | 57 => ⟨S4x2176x4x64, .f32⟩
  | 58 => ⟨S4x17x128x4x64, .f32⟩
  | 59 => ⟨S4x16x128x4x64, .f32⟩
  | 60 => ⟨S4x16x128x4x64, .f32⟩
  | 61 => ⟨S4x16x256x4x64, .f32⟩
  | 62 => ⟨S4x16x4x256x128x4, .f32⟩
  | 63 => ⟨S4x16x4x4x128x256, .f32⟩
  | 64 => ⟨S_, .f32⟩
  | 65 => ⟨S4x16x4x4x128x256, .f32⟩
  | 66 => ⟨S4x16x4x4x128x256, .f32⟩
  | 67 => ⟨S128, .i32⟩
  | 68 => ⟨S128x1, .i32⟩
  | 69 => ⟨S256, .i32⟩
  | 70 => ⟨S1x256, .i32⟩
  | 71 => ⟨S_, .i32⟩
  | 72 => ⟨S128x1, .i32⟩
  | 73 => ⟨S128x1, .i32⟩
  | 74 => ⟨S128x256, .i32⟩
  | 75 => ⟨S128x256, .i32⟩
  | 76 => ⟨S128x256, .i32⟩
  | 77 => ⟨S16, .i32⟩
  | 78 => ⟨S_, .i32⟩
  | 79 => ⟨S16, .i32⟩
  | 80 => ⟨S16, .i32⟩
  | 81 => ⟨S_, .i32⟩
  | 82 => ⟨S16, .i32⟩
  | 83 => ⟨S16, .i32⟩
  | 84 => ⟨S16x1x1, .i32⟩
  | 85 => ⟨S1x1x256, .i32⟩
  | 86 => ⟨S16x1x256, .i32⟩
  | 87 => ⟨S16x1x256, .i32⟩
  | 88 => ⟨S16x1x256, .i32⟩
  | 89 => ⟨S_, .i32⟩
  | 90 => ⟨S128x256, .i32⟩
  | 91 => ⟨S128x256, .i1⟩
  | 92 => ⟨S1x128x256, .i1⟩
  | 93 => ⟨S_, .i32⟩
  | 94 => ⟨S128x256, .i32⟩
  | 95 => ⟨S128x256, .i1⟩
  | 96 => ⟨S1x128x256, .i1⟩
  | 97 => ⟨S1x128x256, .i1⟩
  | 98 => ⟨S_, .i32⟩
  | 99 => ⟨S16x1x256, .i32⟩
  | 100 => ⟨S16x1x256, .i1⟩
  | 101 => ⟨S16x128x256, .i1⟩
  | 102 => ⟨S16x128x256, .i1⟩
  | 103 => ⟨S16x128x256, .i1⟩
  | 104 => ⟨S16, .i32⟩
  | 105 => ⟨S_, .i32⟩
  | 106 => ⟨S16, .i32⟩
  | 107 => ⟨S16, .i32⟩
  | 108 => ⟨S_, .i32⟩
  | 109 => ⟨S16, .i32⟩
  | 110 => ⟨S16, .i32⟩
  | 111 => ⟨S16, .f32⟩
  | 112 => ⟨S16, .f32⟩
  | 113 => ⟨S_, .f32⟩
  | 114 => ⟨S16, .f32⟩
  | 115 => ⟨S16, .f32⟩
  | 116 => ⟨S4x4, .f32⟩
  | 117 => ⟨S4x4x1x1, .f32⟩
  | 118 => ⟨S4x4x1x1, .f32⟩
  | 119 => ⟨S128x256, .f32⟩
  | 120 => ⟨S1x1x128x256, .f32⟩
  | 121 => ⟨S4x4x128x256, .f32⟩
  | 122 => ⟨S4x4x128x256, .f32⟩
  | 123 => ⟨S4x4x128x256, .f32⟩
  | 124 => ⟨S1x16x1x1x128x256, .i1⟩
  | 125 => ⟨S1x1x4x4x128x256, .f32⟩
  | 126 => ⟨S4x16x4x4x128x256, .f32⟩
  | 127 => ⟨S4x16x4x4x128x256, .f32⟩
  | _ => ⟨S8192x1536, .bf16⟩

abbrev hbmTy0_1 (i : Nat) : BufTy := match i % 128 with
  | 0 => ⟨S_, .f32⟩
  | 1 => ⟨S_, .f32⟩
  | 2 => ⟨S4x16x4x4x128x256, .i1⟩
  | 3 => ⟨S4x16x4x4x128x256, .f32⟩
  | 4 => ⟨S4x16x4x4x128x256, .f32⟩
  | 5 => ⟨S4x4, .f32⟩
  | 6 => ⟨S1x1x4x4x1x1, .f32⟩
  | 7 => ⟨S4x16x4x4x128x1, .f32⟩
  | 8 => ⟨S4x16x4x4x128x257, .f32⟩
  | 9 => ⟨S_, .f32⟩
  | 10 => ⟨S4x16x4x4x128, .f32⟩
  | 11 => ⟨S_, .f32⟩
  | 12 => ⟨S4x16x4x4x128, .f32⟩
  | 13 => ⟨S4x16x4x4x128, .f32⟩
  | 14 => ⟨S4x16x4x4x128x1, .f32⟩
  | 15 => ⟨S4x16x4x4x128x257, .f32⟩
  | 16 => ⟨S4x16x4x4x128x257, .f32⟩
  | 17 => ⟨S4x16x4x4x128x257, .f32⟩
  | 18 => ⟨S_, .f32⟩
  | 19 => ⟨S4x16x4x4x128, .f32⟩
  | 20 => ⟨S4x16x4x4x128x1, .f32⟩
  | 21 => ⟨S4x16x4x4x128x257, .f32⟩
  | 22 => ⟨S4x16x4x4x128x257, .f32⟩
  | 23 => ⟨S4x16x4x4x128x256, .f32⟩
  | 24 => ⟨S4x16x4x64x4x128, .f32⟩
  | 25 => ⟨S4x16x128x4x4x64, .f32⟩
  | 26 => ⟨S4x2048x1024, .f32⟩
  | 27 => ⟨S8192x1024, .f32⟩
  | 28 => ⟨S8192x1024, .bf16⟩
  | _ => ⟨S8192x1536, .bf16⟩

abbrev hbmTy (i : Nat) : BufTy := match i / 128 with
  | 0 => hbmTy0_0 i
  | 1 => hbmTy0_1 i
  | _ => ⟨S8192x1536, .bf16⟩

abbrev bufTy : (tb : Table) → Fin (tcTables nBuf tb) → BufTy
  | .hbm, ⟨i, _⟩ => hbmTy i
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c : Ref sig .tc := ⟨.hbm, 48, rfl⟩
abbrev main_call0_v0 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_5 : Ref sig .tc := ⟨.hbm, 55, rfl⟩
abbrev main_call1_v0 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_c_7 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_c_8 : Ref sig .tc := ⟨.hbm, 78, rfl⟩
abbrev main_v62 : Ref sig .tc := ⟨.hbm, 79, rfl⟩
abbrev main_v63 : Ref sig .tc := ⟨.hbm, 80, rfl⟩
abbrev main_c_9 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_c_10 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_c_11 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_c_12 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_c_13 : Ref sig .tc := ⟨.hbm, 105, rfl⟩
abbrev main_v84 : Ref sig .tc := ⟨.hbm, 106, rfl⟩
abbrev main_v85 : Ref sig .tc := ⟨.hbm, 107, rfl⟩
abbrev main_c_14 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_15 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_cst_16 : Ref sig .tc := ⟨.hbm, 128, rfl⟩
abbrev main_call2_v0 : Ref sig .tc := ⟨.hbm, 129, rfl⟩
abbrev main_call2_v1 : Ref sig .tc := ⟨.hbm, 130, rfl⟩
abbrev main_call2_v2 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_cst_17 : Ref sig .tc := ⟨.hbm, 137, rfl⟩
abbrev main_v109 : Ref sig .tc := ⟨.hbm, 138, rfl⟩
abbrev main_cst_18 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_cst_19 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩

abbrev nD : Nat := 1
abbrev τ : Topo := Topo.v7x

variable {F : FTy → Type} [FloatOps F]
-- ==== Proof.ConvColumn.lean ====
/-
  The gradient of the gated causal convolution in ONE COLUMN of one sequence, as functions of the position: what the
  kernel's block and the reference's array are both read as. A column is a function on the 2048 positions.
-/
module

public import Idealize.ShloMosaic.Lib.Pointwise

@[expose] public section

noncomputable section

namespace Cert.ConvColumn

/-- A column of one sequence. -/
abbrev Col : Type := Fin 2048 → EReal

/-- The column `k` positions earlier, zero before the sequence begins. -/
def back (k : ℕ) (f : Col) : Col := fun r => if _h : k ≤ r.val then f ⟨r.val - k, by omega⟩ else 0

/-- The column `k` positions later, zero after the sequence ends. -/
def ahead (k : ℕ) (f : Col) : Col := fun r => if h : r.val + k < 2048 then f ⟨r.val + k, h⟩ else 0

/-- The causal convolution with three taps: the last tap meets the position itself. -/
def taps (w : Fin 3 → EReal) (u : Col) : Col := fun r => w 2 * u r + w 1 * back 1 u r + w 0 * back 2 u r

/-- Its transpose: each position collects from itself and the two after it. -/
def tapsT (w : Fin 3 → EReal) (d : Col) : Col := fun r => w 2 * d r + w 1 * ahead 1 d r + w 0 * ahead 2 d r

/-- The three parts of the gradient in this column: of the first gate, of the second gate, of the value. -/
def part (w : Fin 3 → EReal) (dz b c x : Col) (p : Fin 3) : Col := fun r =>
  if p = 0 then tapsT w (fun q => dz q * c q) r * x r
  else if p = 1 then dz r * taps w (fun q => b q * x q) r
  else tapsT w (fun q => dz q * c q) r * b r

theorem part_zero (w : Fin 3 → EReal) (dz b c x : Col) (r : Fin 2048) : part w dz b c x 0 r = tapsT w (fun q => dz q * c q) r * x r := if_pos rfl
theorem part_one (w : Fin 3 → EReal) (dz b c x : Col) (r : Fin 2048) : part w dz b c x 1 r = dz r * taps w (fun q => b q * x q) r :=
  (if_neg (by decide)).trans (if_pos rfl)
theorem part_two (w : Fin 3 → EReal) (dz b c x : Col) (r : Fin 2048) : part w dz b c x 2 r = tapsT w (fun q => dz q * c q) r * b r :=
  (if_neg (by decide)).trans (if_neg (by decide))

/-- What the column adds to the gradient of tap `k`. -/
def tapGrad (dz b c x : Col) (k : Fin 3) : EReal :=
  if k = 0 then ∑ r, dz r * c r * back 2 (fun q => b q * x q) r
  else if k = 1 then ∑ r, dz r * c r * back 1 (fun q => b q * x q) r
  else ∑ r, dz r * c r * (b r * x r)

end Cert.ConvColumn
-- ==== Proof.ConvPoint.lean ====
/-
  What one grid point of the convolution's gradient kernel computes, read at an index over the extended reals: each value
  its stores write is the corresponding function of the point's column (ConvColumn.lean).
-/
module

public import proofs.«01_k».proof.Proof.Gen.ConvBwdIdeal.Value
public import proofs.«01_k».proof.Proof.ConvColumn
public import Idealize.ShloMosaic.Lib.Pointwise

@[expose] public section

set_option maxRecDepth 16384

noncomputable section

namespace Cert.ConvBwdIdeal.Point

open Cert.ConvBwdIdeal Cert.ConvBwdIdeal.Gen Cert.ConvColumn Idealize.ShloMosaic

theorem gate_at (b x : Vec Ideal S2048x256 .bf16) (r : Fin 2048) (l : Fin 256) :
    k0_pay6 (F := Ideal) b x (ix2 r l) = b (ix2 r l) * x (ix2 r l) := by
  unfold k0_pay6 k0_pay2 k0_pay4
  pointwise

/-- A comparison of a small row number with a small constant, decided as numbers. -/
theorem sge_word (a k : ℕ) (ha : a < 8) (hk : k < 8) :
    IntOp.cmpi CmpIPredicate.sge (BitVec.ofNat 32 a) (BitVec.ofNat 32 k) = BitVec.ofBool (decide (k ≤ a)) := by
  interval_cases a <;> interval_cases k <;> decide

theorem slt_word (a k : ℕ) (ha : a < 8) (hk : k < 8) :
    IntOp.cmpi CmpIPredicate.slt (BitVec.ofNat 32 a) (BitVec.ofNat 32 k) = BitVec.ofBool (decide (a < k)) := by
  interval_cases a <;> interval_cases k <;> decide

theorem select_ofBool {α : Type} (p : Prop) [Decidable p] (a b : α) :
    Scalar.select (BitVec.ofBool (decide p)) a b = if p then a else b := by
  by_cases h : p <;> simp [h, Scalar.select]

theorem past1_at (b x : Vec Ideal S2048x256 .bf16) (r : Fin 2048) (l : Fin 256) :
    k0_pay7 (F := Ideal) b x (ix2 r l) = back 1 (fun q => b (ix2 q l) * x (ix2 q l)) r := by
  unfold k0_pay7 back
  pointwise
  have hr := r.isLt
  by_cases h8 : r.val < 8
  · rw [dif_pos h8, sge_word r.val 1 h8 (by omega), select_ofBool]
    by_cases h1 : 1 ≤ r.val
    · rw [if_pos h1, dif_pos h1, gate_at]
      simp only [show (r.val + 2048 - 1) % 2048 = r.val - 1 by omega]
    · rw [if_neg h1, dif_neg h1]
  · rw [dif_neg h8, dif_pos (show 1 ≤ r.val by omega), gate_at]
    simp only [show (8 + (r.val - 8) + 2048 - 1) % 2048 = r.val - 1 by omega]

theorem past2_at (b x : Vec Ideal S2048x256 .bf16) (r : Fin 2048) (l : Fin 256) :
    k0_pay8 (F := Ideal) b x (ix2 r l) = back 2 (fun q => b (ix2 q l) * x (ix2 q l)) r := by
  unfold k0_pay8 back
  pointwise
  have hr := r.isLt
  by_cases h8 : r.val < 8
  · rw [dif_pos h8, sge_word r.val 2 h8 (by omega), select_ofBool]
    by_cases h1 : 2 ≤ r.val
    · rw [if_pos h1, dif_pos h1, gate_at]
      simp only [show (r.val + 2048 - 2) % 2048 = r.val - 2 by omega]
    · rw [if_neg h1, dif_neg h1]
  · rw [dif_neg h8, dif_pos (show 2 ≤ r.val by omega), gate_at]
    simp only [show (8 + (r.val - 8) + 2048 - 2) % 2048 = r.val - 2 by omega]

/-- The taps as the body sums them: the block held and the three blocks got. -/
def tapRow (v : Vec Ideal S8x256 .f32) (g : Vec Ideal S3x8x256 .f32) (l : Fin 256) (k : Fin 3) : EReal :=
  (v (ix2 (k.castLE (by decide)) l) + g (ix3 0 (k.castLE (by decide)) l)) + (g (ix3 1 (k.castLE (by decide)) l) + g (ix3 2 (k.castLE (by decide)) l))

theorem ahead_of (f : Col) (k : ℕ) (hk : 0 < k ∧ k < 8) (r : Fin 2048) :
    (if _h : r.val < 2040 then f ⟨(r.val + 2048 - (2048 - k)) % 2048, Nat.mod_lt _ (by omega)⟩
      else Scalar.select (IntOp.cmpi CmpIPredicate.slt (BitVec.ofNat 32 (r.val - 2040)) (BitVec.ofNat 32 (8 - k)))
        (f ⟨(2040 + (r.val - 2040) + 2048 - (2048 - k)) % 2048, Nat.mod_lt _ (by omega)⟩) 0) = ahead k f r := by
  have hr := r.isLt
  unfold ahead
  by_cases h : r.val < 2040
  · rw [dif_pos h, dif_pos (by omega)]
    simp only [show (r.val + 2048 - (2048 - k)) % 2048 = r.val + k by omega]
  · rw [dif_neg h, slt_word _ _ (by omega) (by omega), select_ofBool]
    by_cases h1 : r.val - 2040 < 8 - k
    · rw [if_pos h1, dif_pos (by omega)]
      simp only [show (2040 + (r.val - 2040) + 2048 - (2048 - k)) % 2048 = r.val + k by omega]
    · rw [if_neg h1, dif_neg (by omega)]

theorem dyc_at (c dz : FVec Ideal S2048x256 .f32) (r : Fin 2048) (l : Fin 256) :
    k0_pay12 (F := Ideal) c dz (ix2 r l) = dz (ix2 r l) * c (ix2 r l) := by
  unfold k0_pay12
  pointwise

theorem du_at (c dz : FVec Ideal S2048x256 .f32) (w : FVec Ideal S8x256 .f32) (g1 g2 : Vec Ideal S1x8x256 .f32) (r : Fin 2048) (l : Fin 256) :
    k0_pay13 (F := Ideal) c dz (iota .tc S8x256 32 [0] iota_S8x256_d0_w32) w g1 g2 (ix2 r l)
      = tapsT (fun k => k0_pay10 (F := Ideal) w g1 g2 (ix2 (k.castLE (by decide)) l)) (fun q => dz (ix2 q l) * c (ix2 q l)) r := by
  unfold k0_pay13
  pointwise
  have h1 := ahead_of (fun q => k0_pay12 (F := Ideal) c dz (ix2 q l)) 1 (by omega) r
  have h2 := ahead_of (fun q => k0_pay12 (F := Ideal) c dz (ix2 q l)) 2 (by omega) r
  simp only [show 2048 - 1 = 2047 from rfl, show 8 - 1 = 7 from rfl] at h1
  simp only [show 2048 - 2 = 2046 from rfl, show 8 - 2 = 6 from rfl] at h2
  rw [h1, h2]
  simp only [dyc_at]
  unfold tapsT
  rfl

theorem y_at (u p1 p2 : FVec Ideal S2048x256 .f32) (w : FVec Ideal S8x256 .f32) (g1 g2 : Vec Ideal S1x8x256 .f32) (r : Fin 2048) (l : Fin 256) :
    k0_pay11 (F := Ideal) u p1 p2 w g1 g2 (ix2 r l)
      = k0_pay10 (F := Ideal) w g1 g2 (ix2 2 l) * u (ix2 r l) + k0_pay10 (F := Ideal) w g1 g2 (ix2 1 l) * p1 (ix2 r l)
        + k0_pay10 (F := Ideal) w g1 g2 (ix2 0 l) * p2 (ix2 r l) := by
  unfold k0_pay11
  pointwise

theorem tap_at (v : Vec Ideal S8x256 .f32) (g0 g1 g2 : Vec Ideal S1x8x256 .f32) (k : Fin 8) (l : Fin 256) :
    k0_pay10 (F := Ideal) (k0_pay9 (F := Ideal) v g0) g1 g2 (ix2 k l)
      = (v (ix2 k l) + g0 (ix3 0 k l)) + (g1 (ix3 0 k l) + g2 (ix3 0 k l)) := by
  unfold k0_pay10 k0_pay9
  pointwise

theorem dcw_at (u p1 p2 d : FVec Ideal S2048x256 .f32) (acc : Vec Ideal S3x256 .f32) (k : Fin 3) (l : Fin 256) :
    k0_pay18 (F := Ideal) u p1 p2 d acc (ix2 k l) = acc (ix2 k l) +
      (if k = 0 then ∑ x, d (ix2 x l) * p2 (ix2 x l) else if k = 1 then ∑ x, d (ix2 x l) * p1 (ix2 x l) else ∑ x, d (ix2 x l) * u (ix2 x l)) := by
  unfold k0_pay18
  pointwise
  fin_cases k <;> rfl

end Cert.ConvBwdIdeal.Point
-- ==== Proof.ConvBlock.lean ====
/-
  What the convolution's gradient kernel leaves in its two output blocks at a grid point, over the extended reals: the
  three gradient parts of the point's columns, and the tap sums added to what the block held.
-/
module

public import proofs.«01_k».proof.Proof.ConvPoint
public import Idealize.ShloMosaic.Lib.Tactic
public import Idealize.ShloMosaic.Lib.Pipeline.ValueKit.Tiles

@[expose] public section

set_option maxRecDepth 16384

noncomputable section

namespace Cert.ConvBwdIdeal.Point

open Cert.ConvBwdIdeal Cert.ConvBwdIdeal.Gen Cert.ConvBwdIdeal.Value Cert.ConvColumn Idealize.ShloMosaic Idealize.ShloMosaic.TcCoe Idealize.SL.Sem

theorem hz2 : (![0, 0] : Fin 2 → Nat) = fun _ => 0 := funext fun a => by fin_cases a <;> rfl

/-- Three stores, one for each part of the stack: part `p` holds the store at `p`. -/
theorem canon_parts (w2 w1 w0 : Vec Ideal S1x2048x256 .bf16) (p : Fin 3) (r : Fin 2048) (l : Fin 256) :
    View.canon (Val := Elt Ideal) (e := EltTy.bf16) (s := S3x2048x256)
      [⟨Rect.unit ![2, 0, 0] ![1, 2048, 256] inb_S3x2048x256_S1x2048x256_2_0_0, w2⟩,
       ⟨Rect.unit ![1, 0, 0] ![1, 2048, 256] inb_S3x2048x256_S1x2048x256_1_0_0, w1⟩,
       ⟨Rect.unit ![0, 0, 0] ![1, 2048, 256] inb_S3x2048x256_S1x2048x256_0_0_0, w0⟩] (ix3 p r l)
      = if p = 0 then w0 (ix3 0 r l) else if p = 1 then w1 (ix3 0 r l) else w2 (ix3 0 r l) := by
  have tile : ∀ (k : Fin 3) (w : Vec Ideal S1x2048x256 .bf16) (e : EReal), (p = k → w (ix3 0 r l) = e) →
      View.TileAt (Val := Elt Ideal) (e := EltTy.bf16) (S := S3x2048x256) (ix3 p r l) ![k.val, 0, 0] ![1, 2048, 256] w e := by
    intro k w e he x hx
    have x0 : (x 0 : Nat) < 1 := (x 0).isLt
    have h0 : p.val = k.val + (x 0 : Nat) := hx 0
    have h1 : r.val = 0 + (x 1 : Nat) := hx 1
    have h2 : l.val = 0 + (x 2 : Nat) := hx 2
    rw [← he (Fin.ext (by omega))]
    congr 1
    funext a
    apply Fin.ext
    match a with
    | ⟨0, _⟩ => show (x 0 : Nat) = 0; omega
    | ⟨1, _⟩ => show (x 1 : Nat) = r.val; omega
    | ⟨2, _⟩ => show (x 2 : Nat) = l.val; omega
  refine View.canon_eq_of_allAt _ _ _ (View.cover_of_tiled_head _ _ _ rfl _) ?_
  refine View.allAt_cons_unit _ _ _ _ _ (tile 2 w2 _ ?_) (View.allAt_cons_unit _ _ _ _ _ (tile 1 w1 _ ?_) (View.allAt_cons_unit _ _ _ _ _ (tile 0 w0 _ ?_) (View.allAt_nil _ _)))
  · rintro rfl; rfl
  · rintro rfl; rfl
  · rintro rfl; rfl

/-- The load of block `k` of the three got. -/
theorem ld_got (k : Fin 3) (g : Vec Ideal S3x8x256 .f32) (inb) (a : Fin 8) (l : Fin 256) :
    View.ld g (Rect.unit (s := S3x8x256) ![k.val, 0, 0] ![1, 8, 256] inb) (ix3 (0 : Fin 1) a l) = g (ix3 k a l) := by
  refine View.ld_unit_apply_of _ _ _ _ _ (ix3 k a l) fun b => ?_
  match b with
  | ⟨0, _⟩ => show k.val = k.val + 0; omega
  | ⟨1, _⟩ => show a.val = 0 + a.val; omega
  | ⟨2, _⟩ => show l.val = 0 + l.val; omega

variable (dz b c x : Vec Ideal S2048x256 .bf16) (v : Vec Ideal S8x256 .f32) (g : Vec Ideal S3x8x256 .f32)

theorem ext2_at (x : Vec Ideal S2048x256 .bf16) (r : Fin 2048) (l : Fin 256) : k0_pay2 (F := Ideal) x (ix2 r l) = x (ix2 r l) := by
  unfold k0_pay2; pointwise
theorem ext3_at (x : Vec Ideal S2048x256 .bf16) (r : Fin 2048) (l : Fin 256) : k0_pay3 (F := Ideal) x (ix2 r l) = x (ix2 r l) := by
  unfold k0_pay3; pointwise
theorem ext4_at (x : Vec Ideal S2048x256 .bf16) (r : Fin 2048) (l : Fin 256) : k0_pay4 (F := Ideal) x (ix2 r l) = x (ix2 r l) := by
  unfold k0_pay4; pointwise
theorem ext5_at (x : Vec Ideal S2048x256 .bf16) (r : Fin 2048) (l : Fin 256) : k0_pay5 (F := Ideal) x (ix2 r l) = x (ix2 r l) := by
  unfold k0_pay5; pointwise

/-- The taps of the block, as the body adds them. -/
abbrev tapSum : FVec Ideal S8x256 .f32 := k0_pay9 (F := Ideal) v (View.ld g (Rect.unit (s := S3x8x256) ![0, 0, 0] ![1, 8, 256] inb_S3x8x256_S1x8x256_0_0_0))
abbrev got1 : Vec Ideal S1x8x256 .f32 := View.ld g (Rect.unit (s := S3x8x256) ![1, 0, 0] ![1, 8, 256] inb_S3x8x256_S1x8x256_1_0_0)
abbrev got2 : Vec Ideal S1x8x256 .f32 := View.ld g (Rect.unit (s := S3x8x256) ![2, 0, 0] ![1, 8, 256] inb_S3x8x256_S1x8x256_2_0_0)

theorem tapSum_at (k : Fin 3) (l : Fin 256) :
    k0_pay10 (F := Ideal) (tapSum v g) (got1 g) (got2 g) (ix2 (k.castLE (by decide)) l) = tapRow v g l k := by
  rw [tap_at]
  exact congrArg₂ (· + ·) (congrArg (_ + ·) (ld_got 0 g _ _ l)) (congrArg₂ (· + ·) (ld_got 1 g _ _ l) (ld_got 2 g _ _ l))

theorem duBlk_at (r : Fin 2048) (l : Fin 256) :
    k0_pay13 (F := Ideal) (k0_pay3 c) (k0_pay5 dz) (iota .tc S8x256 32 [0] iota_S8x256_d0_w32) (tapSum v g) (got1 g) (got2 g) (ix2 r l)
      = tapsT (tapRow v g l) (fun q => dz (ix2 q l) * c (ix2 q l)) r := by
  rw [du_at]
  simp only [tapSum_at, ext3_at, ext5_at]

theorem yBlk_at (r : Fin 2048) (l : Fin 256) :
    k0_pay11 (F := Ideal) (k0_pay6 b x) (k0_pay7 b x) (k0_pay8 b x) (tapSum v g) (got1 g) (got2 g) (ix2 r l)
      = taps (tapRow v g l) (fun q => b (ix2 q l) * x (ix2 q l)) r := by
  rw [y_at, gate_at, past1_at, past2_at]
  have h0 := tapSum_at v g 0 l
  have h1 := tapSum_at v g 1 l
  have h2 := tapSum_at v g 2 l
  unfold taps
  rw [← h0, ← h1, ← h2]
  rfl

/-- The block of the first output: part `p` of the gradient. -/
def outParts : Vec Ideal S3x2048x256 .bf16 := fun i =>
  part (tapRow v g (i 2)) (fun q => dz (ix2 q (i 2))) (fun q => b (ix2 q (i 2))) (fun q => c (ix2 q (i 2))) (fun q => x (ix2 q (i 2))) (i 0) (i 1)

/-- What the point adds to the block of the second output. -/
def outTaps : Vec Ideal S3x256 .f32 := fun i =>
  tapGrad (fun q => dz (ix2 q (i 1))) (fun q => b (ix2 q (i 1))) (fun q => c (ix2 q (i 1))) (fun q => x (ix2 q (i 1))) (i 0)

theorem parts_canon :
    View.canon (Val := Elt Ideal) (e := EltTy.bf16) (s := S3x2048x256)
      [⟨Rect.unit ![2, 0, 0] ![1, 2048, 256] inb_S3x2048x256_S1x2048x256_2_0_0,
          k0_pay17 (F := Ideal) (k0_pay2 b) (k0_pay13 (k0_pay3 c) (k0_pay5 dz) (iota Kind.tc S8x256 32 [0] iota_S8x256_d0_w32) (tapSum v g) (got1 g) (got2 g))⟩,
       ⟨Rect.unit ![1, 0, 0] ![1, 2048, 256] inb_S3x2048x256_S1x2048x256_1_0_0,
          k0_pay16 (F := Ideal) (k0_pay5 dz) (k0_pay11 (k0_pay6 b x) (k0_pay7 b x) (k0_pay8 b x) (tapSum v g) (got1 g) (got2 g))⟩,
       ⟨Rect.unit ![0, 0, 0] ![1, 2048, 256] inb_S3x2048x256_S1x2048x256_0_0_0,
          k0_pay15 (F := Ideal) (k0_pay14 (k0_pay3 c) (k0_pay4 x) (k0_pay5 dz) (iota Kind.tc S8x256 32 [0] iota_S8x256_d0_w32) (tapSum v g) (got1 g) (got2 g))⟩]
      = outParts dz b c x v g := by
  funext i
  obtain ⟨p, r, l, rfl⟩ : ∃ (p : Fin 3) (r : Fin 2048) (l : Fin 256), i = ix3 p r l := ⟨i 0, i 1, i 2, eq_ix3 i⟩
  rw [canon_parts]
  have e0 : k0_pay15 (F := Ideal) (k0_pay14 (k0_pay3 c) (k0_pay4 x) (k0_pay5 dz) (iota Kind.tc S8x256 32 [0] iota_S8x256_d0_w32) (tapSum v g) (got1 g) (got2 g)) (ix3 0 r l)
      = tapsT (tapRow v g l) (fun q => dz (ix2 q l) * c (ix2 q l)) r * x (ix2 r l) := by
    unfold k0_pay15 k0_pay14
    pointwise
    rw [duBlk_at, ext4_at]
  have e1 : k0_pay16 (F := Ideal) (k0_pay5 dz) (k0_pay11 (k0_pay6 b x) (k0_pay7 b x) (k0_pay8 b x) (tapSum v g) (got1 g) (got2 g)) (ix3 0 r l)
      = dz (ix2 r l) * taps (tapRow v g l) (fun q => b (ix2 q l) * x (ix2 q l)) r := by
    unfold k0_pay16
    pointwise
    rw [yBlk_at, ext5_at]
  have e2 : k0_pay17 (F := Ideal) (k0_pay2 b) (k0_pay13 (k0_pay3 c) (k0_pay5 dz) (iota Kind.tc S8x256 32 [0] iota_S8x256_d0_w32) (tapSum v g) (got1 g) (got2 g)) (ix3 0 r l)
      = tapsT (tapRow v g l) (fun q => dz (ix2 q l) * c (ix2 q l)) r * b (ix2 r l) := by
    unfold k0_pay17
    pointwise
    rw [duBlk_at, ext2_at]
  rw [e0, e1, e2]
  rfl

theorem taps_step (acc : Vec Ideal S3x256 .f32) :
    k0_pay18 (F := Ideal) (k0_pay6 b x) (k0_pay7 b x) (k0_pay8 b x) (k0_pay12 (k0_pay3 c) (k0_pay5 dz)) acc
      = fun i => acc i + outTaps dz b c x i := by
  funext i
  obtain ⟨k, l, rfl⟩ : ∃ (k : Fin 3) (l : Fin 256), i = ix2 k l := ⟨i 0, i 1, eq_ix2 i⟩
  rw [dcw_at]
  simp only [dyc_at, past1_at, past2_at, gate_at, ext3_at, ext5_at]
  rfl

section Cases
variable (d : Dev nD) (i : grid0.Coords) (a0 : Memref sig .tc .vmem S2048x256 .bf16) (h0 : a0.IsWhole) (a1 : Memref sig .tc .vmem S2048x256 .bf16) (h1 : a1.IsWhole)
  (a2 : Memref sig .tc .vmem S2048x256 .bf16) (h2 : a2.IsWhole) (a3 : Memref sig .tc .vmem S2048x256 .bf16) (h3 : a3.IsWhole)
  (a4 : Memref sig .tc .vmem S8x256 .f32) (h4 : a4.IsWhole) (a5 : Memref sig .tc .vmem S3x8x256 .f32) (h5 : a5.IsWhole)
  (a6 : Memref sig .tc .vmem S3x2048x256 .bf16) (h6 : a6.IsWhole) (a7 : Memref sig .tc .vmem S3x256 .f32) (h7 : a7.IsWhole)

theorem out6_A (hc : cond0_0 i) : out0_A_6 (F := Ideal) d i a0 h0 a1 h1 a2 h2 a3 h3 a4 h4 a5 h5 a6 h6 a7 h7 hc dz b c x v g = outParts dz b c x v g := by
  unfold out0_A_6
  rw [View.read_writes_eq_canon _ _ _ (cover0_A_6 d i a0 h0 a1 h1 a2 h2 a3 h3 a4 h4 a5 h5 a6 h6 a7 h7 hc dz b c x v g)]
  unfold kernelRun0_A
  dsimp only
  sl_unfold_words
  simp only [View.readAt_eq_ld, h0.read_unread, h1.read_unread, h2.read_unread, h3.read_unread, h4.read_unread, h5.read_unread,
    View.ld_unit_zero (S := S2048x256) hz2, View.ld_unit_zero (S := S8x256) hz2]
  exact parts_canon dz b c x v g

theorem out7_A (hc : cond0_0 i) : out0_A_7 (F := Ideal) d i a0 h0 a1 h1 a2 h2 a3 h3 a4 h4 a5 h5 a6 h6 a7 h7 hc dz b c x v g = outTaps dz b c x := by
  unfold out0_A_7
  rw [View.read_writes_eq_canon _ _ _ (cover0_A_7 d i a0 h0 a1 h1 a2 h2 a3 h3 a4 h4 a5 h5 a6 h6 a7 h7 hc dz b c x v g)]
  unfold kernelRun0_A
  dsimp only
  sl_unfold_words
  rw [View.canon_cons_unit_zero (S := S3x256) hz2, View.readCov_unit_zero (S := S3x256) _ hz2]
  simp only [View.readAt_eq_ld, h0.read_unread, h1.read_unread, h2.read_unread, h3.read_unread, h4.read_unread, h5.read_unread,
    View.ld_unit_zero (S := S2048x256) hz2, View.ld_unit_zero (S := S8x256) hz2]
  rw [taps_step]
  funext j
  unfold k0_pay1
  pointwise

theorem out6_B (hc : ¬cond0_0 i) (acc : Vec Ideal S3x256 .f32) : out0_B_6 (F := Ideal) d i a0 h0 a1 h1 a2 h2 a3 h3 a4 h4 a5 h5 a6 h6 a7 h7 hc dz b c x v g acc = outParts dz b c x v g := by
  unfold out0_B_6
  rw [View.read_writes_eq_canon _ _ _ (cover0_B_6 d i a0 h0 a1 h1 a2 h2 a3 h3 a4 h4 a5 h5 a6 h6 a7 h7 hc dz b c x v g acc)]
  unfold kernelRun0_B
  dsimp only
  sl_unfold_words
  simp only [View.readAt_eq_ld, h0.read_unread, h1.read_unread, h2.read_unread, h3.read_unread, h4.read_unread, h5.read_unread,
    View.ld_unit_zero (S := S2048x256) hz2, View.ld_unit_zero (S := S8x256) hz2]
  exact parts_canon dz b c x v g

theorem out7_B (hc : ¬cond0_0 i) (acc : Vec Ideal S3x256 .f32) : out0_B_7 (F := Ideal) d i a0 h0 a1 h1 a2 h2 a3 h3 a4 h4 a5 h5 a6 h6 a7 h7 hc dz b c x v g acc
    = fun j => acc j + outTaps dz b c x j := by
  unfold out0_B_7
  rw [View.read_writes_eq_canon _ _ _ (cover0_B_7 d i a0 h0 a1 h1 a2 h2 a3 h3 a4 h4 a5 h5 a6 h6 a7 h7 hc dz b c x v g acc)]
  unfold kernelRun0_B
  dsimp only
  sl_unfold_words
  rw [View.canon_unit_zero (S := S3x256) hz2]
  simp only [View.readAt_eq_ld, h0.read_unread, h1.read_unread, h2.read_unread, h3.read_unread, h4.read_unread, h5.read_unread, h7.read_unread,
    View.ld_unit_zero (S := S2048x256) hz2, View.ld_unit_zero (S := S8x256) hz2, View.ld_unit_zero (S := S3x256) hz2]
  rw [taps_step]

end Cases

end Cert.ConvBwdIdeal.Point
-- ==== Proof.ConvArray.lean ====
/-
  The convolution's gradient kernel, its two result arrays as functions of its arguments over the extended reals.
-/
module

public import proofs.«01_k».proof.Proof.ConvBlock
public import Idealize.ShloMosaic.Lib.Pipeline.ValueKit.Point
public import Idealize.ShloMosaic.Lib.StableHlo.ReadAt

@[expose] public section

set_option maxRecDepth 16384

noncomputable section

namespace Cert.ConvBwdIdeal.Array

open Cert.ConvBwdIdeal Cert.ConvBwdIdeal.Gen Cert.ConvBwdIdeal.Value Cert.ConvBwdIdeal.Point Cert.ConvColumn Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem index0 : ∀ t : Fin cfg0.N, win0_0.index t = ![t.val % 4, t.val / 4] := (by decide +kernel : ∀ t : Fin grid0.N, _)
theorem index1 : ∀ t : Fin cfg0.N, win0_1.index t = ![t.val % 4, t.val / 4] := (by decide +kernel : ∀ t : Fin grid0.N, _)
theorem index2 : ∀ t : Fin cfg0.N, win0_2.index t = ![t.val % 4, t.val / 4 + 4] := (by decide +kernel : ∀ t : Fin grid0.N, _)
theorem index3 : ∀ t : Fin cfg0.N, win0_3.index t = ![t.val % 4, t.val / 4 + 8] := (by decide +kernel : ∀ t : Fin grid0.N, _)
theorem index4 : ∀ t : Fin cfg0.N, win0_4.index t = ![0, t.val / 4] := (by decide +kernel : ∀ t : Fin grid0.N, _)
theorem index5 : ∀ t : Fin cfg0.N, win0_5.index t = ![0, 0, t.val / 4] := (by decide +kernel : ∀ t : Fin grid0.N, _)
theorem index6 : ∀ t : Fin cfg0.N, win0_6.index t = ![0, t.val % 4, t.val / 4] := (by decide +kernel : ∀ t : Fin grid0.N, _)
theorem index7 : ∀ t : Fin cfg0.N, win0_7.index t = ![0, t.val / 4] := (by decide +kernel : ∀ t : Fin grid0.N, _)

/-- The taps as the call is given them. -/
abbrev tapsArg (c : Dev nD) : Vec Ideal S3x1024 .f32 := m ((c.tc : Thread nD τ).loc main_arg2)

/-- The columns 0 to 255 of the three taps, placed in eight rows of zeros. -/
theorem slot0 (A : Vec Ideal S3x1024 .f32) (f : Fin 2 → Int) (hf : f = ![0, 0]) (k : Fin 3) (d : Fin 1024) :
    Host.dynamicUpdateSlice (broadcastInDim S8x1024 ![] bcast_S_S8x1024 (constant (F := Ideal) S_ FTy.f32 0#32) : Vec Ideal S8x1024 .f32)
      (extractStridedSlice S3x256 ![0, 0] A slices_S3x1024_S3x256_0_0) f updateFits_S8x1024_S3x256 (ix2 (k.castLE (by decide)) d)
      = if 0 ≤ d.val ∧ d.val < 256 then A (ix2 k d) else (0 : EReal) := by
  subst hf
  pointwise
  have h0 : ∀ h, Host.clampedStart S8x1024 S3x256 h ![0, 0] 0 = 0 := by decide
  have h1 : ∀ h, Host.clampedStart S8x1024 S3x256 h ![0, 0] 1 = 0 := by decide
  simp only [h0, h1, Fin.val_castLE, Nat.sub_zero]
  split_ifs
  all_goals first
    | rfl
    | omega
    | (congr 2; exact Fin.ext (by dsimp only; omega))

/-- The columns 256 to 511 of the three taps, placed in eight rows of zeros. -/
theorem slot1 (A : Vec Ideal S3x1024 .f32) (f : Fin 2 → Int) (hf : f = ![0, 256]) (k : Fin 3) (d : Fin 1024) :
    Host.dynamicUpdateSlice (broadcastInDim S8x1024 ![] bcast_S_S8x1024 (constant (F := Ideal) S_ FTy.f32 0#32) : Vec Ideal S8x1024 .f32)
      (extractStridedSlice S3x256 ![0, 256] A slices_S3x1024_S3x256_0_256) f updateFits_S8x1024_S3x256 (ix2 (k.castLE (by decide)) d)
      = if 256 ≤ d.val ∧ d.val < 512 then A (ix2 k d) else (0 : EReal) := by
  subst hf
  pointwise
  have h0 : ∀ h, Host.clampedStart S8x1024 S3x256 h ![0, 256] 0 = 0 := by decide
  have h1 : ∀ h, Host.clampedStart S8x1024 S3x256 h ![0, 256] 1 = 256 := by decide
  simp only [h0, h1, Fin.val_castLE, Nat.sub_zero]
  split_ifs
  all_goals first
    | rfl
    | omega
    | (congr 2; exact Fin.ext (by dsimp only; omega))

/-- The columns 512 to 767 of the three taps, placed in eight rows of zeros. -/
theorem slot2 (A : Vec Ideal S3x1024 .f32) (f : Fin 2 → Int) (hf : f = ![0, 512]) (k : Fin 3) (d : Fin 1024) :
    Host.dynamicUpdateSlice (broadcastInDim S8x1024 ![] bcast_S_S8x1024 (constant (F := Ideal) S_ FTy.f32 0#32) : Vec Ideal S8x1024 .f32)
      (extractStridedSlice S3x256 ![0, 512] A slices_S3x1024_S3x256_0_512) f updateFits_S8x1024_S3x256 (ix2 (k.castLE (by decide)) d)
      = if 512 ≤ d.val ∧ d.val < 768 then A (ix2 k d) else (0 : EReal) := by
  subst hf
  pointwise
  have h0 : ∀ h, Host.clampedStart S8x1024 S3x256 h ![0, 512] 0 = 0 := by decide
  have h1 : ∀ h, Host.clampedStart S8x1024 S3x256 h ![0, 512] 1 = 512 := by decide
  simp only [h0, h1, Fin.val_castLE, Nat.sub_zero]
  split_ifs
  all_goals first
    | rfl
    | omega
    | (congr 2; exact Fin.ext (by dsimp only; omega))

/-- The columns 768 to 1023 of the three taps, placed in eight rows of zeros. -/
theorem slot3 (A : Vec Ideal S3x1024 .f32) (f : Fin 2 → Int) (hf : f = ![0, 768]) (k : Fin 3) (d : Fin 1024) :
    Host.dynamicUpdateSlice (broadcastInDim S8x1024 ![] bcast_S_S8x1024 (constant (F := Ideal) S_ FTy.f32 0#32) : Vec Ideal S8x1024 .f32)
      (extractStridedSlice S3x256 ![0, 768] A slices_S3x1024_S3x256_0_768) f updateFits_S8x1024_S3x256 (ix2 (k.castLE (by decide)) d)
      = if 768 ≤ d.val ∧ d.val < 1024 then A (ix2 k d) else (0 : EReal) := by
  subst hf
  pointwise
  have h0 : ∀ h, Host.clampedStart S8x1024 S3x256 h ![0, 768] 0 = 0 := by decide
  have h1 : ∀ h, Host.clampedStart S8x1024 S3x256 h ![0, 768] 1 = 768 := by decide
  simp only [h0, h1, Fin.val_castLE, Nat.sub_zero]
  split_ifs
  all_goals first
    | rfl
    | omega
    | (congr 2; exact Fin.ext (by dsimp only; omega))

/-- A plane of eight rows seen as the first of a stack of planes. -/
theorem plane_at (v : Vec Ideal S8x1024 .f32) (r : Fin 8) (d : Fin 1024) :
    broadcastInDim S1x8x1024 ![1, 2] bcast_S8x1024_S1x8x1024_1_2 v (ix3 0 r d) = v (ix2 r d) := by
  pointwise

theorem held_at (c : Dev nD) (k : Fin 3) (d : Fin 1024) :
    @Eq EReal ((V m c main_v15 : Vec Ideal S8x1024 .f32) (ix2 (k.castLE (by decide)) d)) (if 0 ≤ d.val ∧ d.val < 256 then tapsArg m c (ix2 k d) else (0 : EReal)) := by
  unfold V
  after_reads_simp
  refine slot0 _ _ ?_ k d
  funext i
  fin_cases i <;> (after_reads_simp; rfl)

theorem got0_at (c : Dev nD) (k : Fin 3) (d : Fin 1024) :
    @Eq EReal ((V m c main_v9 : Vec Ideal S1x8x1024 .f32) (ix3 0 (k.castLE (by decide)) d)) (if 512 ≤ d.val ∧ d.val < 768 then tapsArg m c (ix2 k d) else (0 : EReal)) := by
  unfold V
  after_reads_simp
  refine (plane_at _ _ _).trans (slot2 (tapsArg m c) _ ?_ k d)
  funext i
  fin_cases i <;> (after_reads_simp; rfl)

theorem got1_at (c : Dev nD) (k : Fin 3) (d : Fin 1024) :
    @Eq EReal ((V m c main_v10 : Vec Ideal S1x8x1024 .f32) (ix3 0 (k.castLE (by decide)) d)) (if 256 ≤ d.val ∧ d.val < 512 then tapsArg m c (ix2 k d) else (0 : EReal)) := by
  unfold V
  after_reads_simp
  refine (plane_at _ _ _).trans (slot1 (tapsArg m c) _ ?_ k d)
  funext i
  fin_cases i <;> (after_reads_simp; rfl)

theorem got2_at (c : Dev nD) (k : Fin 3) (d : Fin 1024) :
    @Eq EReal ((V m c main_v11 : Vec Ideal S1x8x1024 .f32) (ix3 0 (k.castLE (by decide)) d)) (if 768 ≤ d.val ∧ d.val < 1024 then tapsArg m c (ix2 k d) else (0 : EReal)) := by
  unfold V
  after_reads_simp
  refine (plane_at _ _ _).trans (slot3 (tapsArg m c) _ ?_ k d)
  funext i
  fin_cases i <;> (after_reads_simp; rfl)

theorem got_eq (c : Dev nD) :
   V m c main_v12 = concatenate S3x8x1024 0 [⟨S1x8x1024, V m c main_v9⟩, ⟨S1x8x1024, V m c main_v10⟩, ⟨S1x8x1024, V m c main_v11⟩] concatenates_S1x8x1024_S1x8x1024_S1x8x1024_S3x8x1024_d0 := by
  unfold V
  after_reads_simp
  congr 3

/-- The blocks of columns that the other devices hold, a stack of three. -/
theorem got_at (c : Dev nD) (g : Fin 3) (k : Fin 3) (d : Fin 1024) :
    @Eq EReal ((V m c main_v12 : Vec Ideal S3x8x1024 .f32) (ix3 g (k.castLE (by decide)) d))
      (if g.val = 0 then (if 512 ≤ d.val ∧ d.val < 768 then tapsArg m c (ix2 k d) else (0 : EReal))
       else if g.val = 1 then (if 256 ≤ d.val ∧ d.val < 512 then tapsArg m c (ix2 k d) else (0 : EReal))
       else (if 768 ≤ d.val ∧ d.val < 1024 then tapsArg m c (ix2 k d) else (0 : EReal))) := by
  rw [got_eq, ← got0_at, ← got1_at, ← got2_at]
  generalize V m c main_v9 = v9
  generalize V m c main_v10 = v10
  generalize V m c main_v11 = v11
  change concatenate (α := EReal) S3x8x1024 0 [⟨S1x8x1024, v9⟩, ⟨S1x8x1024, v10⟩, ⟨S1x8x1024, v11⟩] concatenates_S1x8x1024_S1x8x1024_S1x8x1024_S3x8x1024_d0 _ = _
  fin_cases g <;> pointwise

/-- The columns of this point's block. -/
theorem col_lt (t : Fin cfg0.N) (l : Fin 256) : 256 * (t.val / 4) + l.val < 1024 := by
  have : t.val < 16 := t.isLt.trans_eq N_0
  omega
theorem row_lt (t : Fin cfg0.N) (q : Fin 2048) : 2048 * (t.val % 4) + q.val < 8192 := by omega

/-- A column of the array at the rows of one sequence. -/
def col {n : ℕ} (A : Shape.Idx ⟨2, ![8192, n]⟩ → EReal) (s : Fin 4) (d : Fin n) : Col := fun q => A (ix2 ⟨2048 * s.val + q.val, by omega⟩ d)

/-- The gradients with respect to the three parts of the joined activation, as one array. -/
def parts (Z : Vec Ideal S8192x1024 .bf16) (W : Vec Ideal S8192x3072 .bf16) (T : Vec Ideal S3x1024 .f32) : Vec Ideal S3x8192x1024 .bf16 := fun i =>
  part (fun k => T (ix2 k (i 2))) (col Z ⟨(i 1).val / 2048, by have : (i 1).val < 8192 := (i 1).isLt; omega⟩ (i 2))
    (col W ⟨(i 1).val / 2048, by have : (i 1).val < 8192 := (i 1).isLt; omega⟩ ⟨(i 2).val, by have : (i 2).val < 1024 := (i 2).isLt; omega⟩)
    (col W ⟨(i 1).val / 2048, by have : (i 1).val < 8192 := (i 1).isLt; omega⟩ ⟨1024 + (i 2).val, by have : (i 2).val < 1024 := (i 2).isLt; omega⟩)
    (col W ⟨(i 1).val / 2048, by have : (i 1).val < 8192 := (i 1).isLt; omega⟩ ⟨2048 + (i 2).val, by have : (i 2).val < 1024 := (i 2).isLt; omega⟩)
    (i 0) ⟨(i 1).val % 2048, Nat.mod_lt _ (by decide)⟩

/-- The gradient with respect to the taps: over the sequences, the sums of each. -/
def taps' (Z : Vec Ideal S8192x1024 .bf16) (W : Vec Ideal S8192x3072 .bf16) : Vec Ideal S3x1024 .f32 := fun i =>
  ∑ s : Fin 4, tapGrad (col Z s (i 1)) (col W s ⟨(i 1).val, by have : (i 1).val < 1024 := (i 1).isLt; omega⟩)
    (col W s ⟨1024 + (i 1).val, by have : (i 1).val < 1024 := (i 1).isLt; omega⟩)
    (col W s ⟨2048 + (i 1).val, by have : (i 1).val < 1024 := (i 1).isLt; omega⟩) (i 0)

abbrev dzArg (c : Dev nD) : Vec Ideal S8192x1024 .bf16 := m ((c.tc : Thread nD τ).loc main_arg0)
abbrev bcxArg (c : Dev nD) : Vec Ideal S8192x3072 .bf16 := m ((c.tc : Thread nD τ).loc main_arg1)

theorem dz_blk (c : Dev nD) (t : Fin cfg0.N) (l : Fin 256) :
    (fun q => iblk m c 0 t (ix2 q l)) = col (dzArg m c) ⟨t.val % 4, Nat.mod_lt _ (by decide)⟩ ⟨256 * (t.val / 4) + l.val, col_lt t l⟩ := by
  funext q
  unfold col
  blk_ext! [iblk, V_main_arg0, index0 t]

theorem b_blk (c : Dev nD) (t : Fin cfg0.N) (l : Fin 256) :
    (fun q => iblk m c 1 t (ix2 q l)) = col (bcxArg m c) ⟨t.val % 4, Nat.mod_lt _ (by decide)⟩ ⟨256 * (t.val / 4) + l.val, by have := col_lt t l; omega⟩ := by
  funext q
  unfold col
  blk_ext! [iblk, V_main_arg1, index1 t]

theorem c_blk (c : Dev nD) (t : Fin cfg0.N) (l : Fin 256) :
    (fun q => iblk m c 2 t (ix2 q l)) = col (bcxArg m c) ⟨t.val % 4, Nat.mod_lt _ (by decide)⟩ ⟨1024 + (256 * (t.val / 4) + l.val), by have := col_lt t l; omega⟩ := by
  funext q
  unfold col
  blk_ext! [iblk, V_main_arg1, index2 t]

theorem x_blk (c : Dev nD) (t : Fin cfg0.N) (l : Fin 256) :
    (fun q => iblk m c 3 t (ix2 q l)) = col (bcxArg m c) ⟨t.val % 4, Nat.mod_lt _ (by decide)⟩ ⟨2048 + (256 * (t.val / 4) + l.val), by have := col_lt t l; omega⟩ := by
  funext q
  unfold col
  blk_ext! [iblk, V_main_arg1, index3 t]

theorem v_blk (c : Dev nD) (t : Fin cfg0.N) (l : Fin 256) (k : Fin 8) :
    iblk m c 4 t (ix2 k l) = V m c main_v15 (ix2 k ⟨256 * (t.val / 4) + l.val, col_lt t l⟩) := by
  blk_ext [iblk, index4 t]

theorem g_blk (c : Dev nD) (t : Fin cfg0.N) (g : Fin 3) (l : Fin 256) (k : Fin 8) :
    iblk m c 5 t (ix3 g k l) = V m c main_v12 (ix3 g k ⟨256 * (t.val / 4) + l.val, col_lt t l⟩) := by
  blk_ext [iblk, index5 t]

/-- Each column lies in exactly one of the four blocks, so adding them up gives the taps themselves. -/
theorem row_eq (c : Dev nD) (t : Fin cfg0.N) (l : Fin 256) :
    tapRow (iblk m c 4 t) (iblk m c 5 t) l = fun k => tapsArg m c (ix2 k ⟨256 * (t.val / 4) + l.val, col_lt t l⟩) := by
  funext k
  have e4 := (v_blk m c t l (k.castLE (by decide))).trans (held_at m c k _)
  have e0 := (g_blk m c t 0 l (k.castLE (by decide))).trans (got_at m c 0 k _)
  have e1 := (g_blk m c t 1 l (k.castLE (by decide))).trans (got_at m c 1 k _)
  have e2 := (g_blk m c t 2 l (k.castLE (by decide))).trans (got_at m c 2 k _)
  have hl := col_lt t l
  unfold tapRow
  rw [e4, e0, e1, e2]
  simp only [show ((0 : Fin 3).val = 0) = True from by simp, show ((1 : Fin 3).val = 0) = False from by simp, show ((1 : Fin 3).val = 1) = True from by simp,
    show ((2 : Fin 3).val = 0) = False from by simp, show ((2 : Fin 3).val = 1) = False from by simp, if_true, if_false]
  split_ifs <;> first | omega | simp only [add_zero, zero_add]

theorem parts_point (c : Dev nD) (t : Fin cfg0.N) :
    (outsAt0 m c t.val t.isLt).1 = outParts (iblk m c 0 t) (iblk m c 1 t) (iblk m c 2 t) (iblk m c 3 t) (iblk m c 4 t) (iblk m c 5 t) := by
  by_cases h : t.val % 4 = 0
  · rw [outsAt0_A m c t h]
    dsimp only
    rw [out6_A]
  · rw [outsAt0_B m c t h]
    dsimp only
    rw [out6_B]

theorem place_6 (t : Fin cfg0.N) (X : Vec Ideal S3x8192x1024 .bf16) (p : Fin 3) (q : Fin 2048) (l : Fin 256) :
    X ((win0_6.blk t).view.emb (ix3 p q l)) = X (ix3 p ⟨2048 * (t.val % 4) + q.val, row_lt t q⟩ ⟨256 * (t.val / 4) + l.val, col_lt t l⟩) := by
  blk_ext [index6 t]

theorem place_7 (t : Fin cfg0.N) (X : Vec Ideal S3x1024 .f32) (p : Fin 3) (l : Fin 256) :
    X ((win0_7.blk t).view.emb (ix2 p l)) = X (ix2 p ⟨256 * (t.val / 4) + l.val, col_lt t l⟩) := by
  blk_ext [index7 t]

/-- A point's block of the first output is the array of gradients at the block's place. -/
theorem parts_at (c : Dev nD) (t : Fin cfg0.N) (p : Fin 3) (q : Fin 2048) (l : Fin 256) :
    outParts (iblk m c 0 t) (iblk m c 1 t) (iblk m c 2 t) (iblk m c 3 t) (iblk m c 4 t) (iblk m c 5 t) (ix3 p q l)
      = parts (dzArg m c) (bcxArg m c) (tapsArg m c) (ix3 p ⟨2048 * (t.val % 4) + q.val, row_lt t q⟩ ⟨256 * (t.val / 4) + l.val, col_lt t l⟩) := by
  have hs : ∀ h, (⟨(2048 * (t.val % 4) + q.val) / 2048, h⟩ : Fin 4) = ⟨t.val % 4, Nat.mod_lt _ (by decide)⟩ := fun h => Fin.ext (by dsimp only; omega)
  have hq : ∀ h, (⟨(2048 * (t.val % 4) + q.val) % 2048, h⟩ : Fin 2048) = q := fun h => Fin.ext (by dsimp only; omega)
  change part (tapRow (iblk m c 4 t) (iblk m c 5 t) l) (fun q => iblk m c 0 t (ix2 q l)) (fun q => iblk m c 1 t (ix2 q l))
    (fun q => iblk m c 2 t (ix2 q l)) (fun q => iblk m c 3 t (ix2 q l)) p q = part _ _ _ _ _ p _
  rw [row_eq, dz_blk, b_blk, c_blk, x_blk]
  simp only [ix3_0, ix3_1, ix3_2, hs, hq]

/-- A point's contribution to the second output is the sum over its sequence. -/
theorem taps_at (c : Dev nD) (t : Fin cfg0.N) (p : Fin 3) (l : Fin 256) :
    outTaps (iblk m c 0 t) (iblk m c 1 t) (iblk m c 2 t) (iblk m c 3 t) (ix2 p l)
      = tapGrad (col (dzArg m c) ⟨t.val % 4, Nat.mod_lt _ (by decide)⟩ ⟨256 * (t.val / 4) + l.val, col_lt t l⟩)
        (col (bcxArg m c) ⟨t.val % 4, Nat.mod_lt _ (by decide)⟩ ⟨256 * (t.val / 4) + l.val, by have := col_lt t l; omega⟩)
        (col (bcxArg m c) ⟨t.val % 4, Nat.mod_lt _ (by decide)⟩ ⟨1024 + (256 * (t.val / 4) + l.val), by have := col_lt t l; omega⟩)
        (col (bcxArg m c) ⟨t.val % 4, Nat.mod_lt _ (by decide)⟩ ⟨2048 + (256 * (t.val / 4) + l.val), by have := col_lt t l; omega⟩) p := by
  change tapGrad (fun q => iblk m c 0 t (ix2 q l)) (fun q => iblk m c 1 t (ix2 q l))
    (fun q => iblk m c 2 t (ix2 q l)) (fun q => iblk m c 3 t (ix2 q l)) p = _
  rw [dz_blk, b_blk, c_blk, x_blk]

/-- The first output array holds the gradients with respect to the joined activation. -/
theorem final_6 (c : Dev nD) : (dats m 0 c).arrAt 6 cfg0.N = parts (dzArg m c) (bcxArg m c) (tapsArg m c) :=
  (dats m 0 c).arrAt_eq_of_covers 6 _ (by decide +kernel) fun t hf y => by
    blk_simp
    rw [after0_6, parts_point]
    obtain ⟨p, q, l, rfl⟩ : ∃ (p : Fin 3) (q : Fin 2048) (l : Fin 256), y = ix3 p q l := ⟨_, _, _, eq_ix3 (n0 := 3) (n1 := 2048) (n2 := 256) y⟩
    exact (parts_at m c t _ _ _).trans (place_6 t _ _ _ _).symm

/-- The second output array holds the gradient with respect to the taps. -/
theorem final_7 (c : Dev nD) : (dats m 0 c).arrAt 7 cfg0.N = taps' (dzArg m c) (bcxArg m c) :=
  (dats m 0 c).arrAt_eq_of_covers 7 _ (by decide +kernel) fun t hf y => by
    blk_simp
    rw [after0_7]
    rw [Pipeline.eq_sum_fin_of_reset_step_apply_of_flush (fun n h => (outsAt0 m c n h).2) 4 (fun _ => 0)
      (fun t => outTaps (iblk m c 0 t) (iblk m c 1 t) (iblk m c 2 t) (iblk m c 3 t)) (fun t h j => by
        rw [outsAt0_A m c t h]
        dsimp only
        rw [out7_A]
        exact (zero_add _).symm) (fun t h j => by
        rw [outsAt0_B m c t h]
        dsimp only
        rw [out7_B]) t ((flush0_7 t).mp hf) y]
    obtain ⟨p, l, rfl⟩ : ∃ (p : Fin 3) (l : Fin 256), y = ix2 p l := ⟨_, _, eq_ix2 (n0 := 3) (n1 := 256) y⟩
    refine Eq.trans ?_ (place_7 t _ _ _).symm
    refine (zero_add (M := EReal) _).trans (Finset.sum_congr (M := EReal) rfl fun s _ => ?_)
    refine (taps_at m c _ _ _).trans ?_
    have hs : ∀ h, (⟨(4 * (t.val / 4) + s.val) % 4, h⟩ : Fin 4) = s := fun h => Fin.ext (by dsimp only; omega)
    have ht : (4 * (t.val / 4) + s.val) / 4 = t.val / 4 := by omega
    simp only [hs, ht, ix2_0, ix2_1]

end Cert.ConvBwdIdeal.Array
-- ==== Proof.ConvRef.lean ====
/-
  The reference's gradient of the convolution, its two results as the same functions of the arguments.
-/
module

public import proofs.«01_k».proof.Proof.ConvArray
public import proofs.«01_k».proof.Proof.Gen.ConvBwdRefIdeal.Read

@[expose] public section

set_option maxRecDepth 16384

noncomputable section

namespace Cert.ConvBwdRefIdeal.Column

open Cert.ConvBwdRefIdeal Cert.ConvBwdRefIdeal.Read Cert.ConvColumn Cert.ConvBwdIdeal.Array Idealize.ShloMosaic

variable (x0 : Vec Ideal S8192x1024 .bf16) (x1 : Vec Ideal S8192x3072 .bf16) (x2 : Vec Ideal S3x1024 .f32)
variable (s : Fin 4) (r : Fin 2048) (d : Fin 1024)

abbrev dzC : Col := col x0 s d
abbrev bC : Col := col x1 s ⟨d.val, by omega⟩
abbrev cC : Col := col x1 s ⟨1024 + d.val, by omega⟩
abbrev xC : Col := col x1 s ⟨2048 + d.val, by omega⟩
abbrev uC : Col := fun q => bC x1 s d q * xC x1 s d q
abbrev dyC : Col := fun q => dzC x0 s d q * cC x1 s d q

theorem z_at : val_main_v1 (F := Ideal) x0 (ix3 s r d) = dzC x0 s d r := by
  unfold dzC col
  pointwise [val_main_v1, val_main_v0]
  congr 2
  exact Fin.ext (by dsimp only; omega)

theorem b_at : val_main_v4 (F := Ideal) x1 (ix3 s r d) = bC x1 s d r := by
  unfold bC col
  pointwise [val_main_v4, val_main_v3, val_main_v2]
  exact congrArg (fun q => x1 (ix2 q _)) (Fin.ext (by dsimp only; omega))

theorem c_at : val_main_v5 (F := Ideal) x1 (ix3 s r d) = cC x1 s d r := by
  unfold cC col
  pointwise [val_main_v5, val_main_v3, val_main_v2]
  exact congrArg (fun q => x1 (ix2 q _)) (Fin.ext (by dsimp only; omega))

theorem x_at : val_main_v6 (F := Ideal) x1 (ix3 s r d) = xC x1 s d r := by
  unfold xC col
  pointwise [val_main_v6, val_main_v3, val_main_v2]
  exact congrArg (fun q => x1 (ix2 q _)) (Fin.ext (by dsimp only; omega))

theorem u_at : val_main_v7 (F := Ideal) x1 (ix3 s r d) = uC x1 s d r := by
  pointwise [val_main_v7]
  rw [b_at, x_at]

theorem past2_at : val_main_v13 (F := Ideal) x1 (ix3 s r d) = back 2 (uC x1 s d) r := by
  pointwise [val_main_v13, val_main_v9, val_main_v8, val_main_cst]
  unfold back
  by_cases h : r.val < 2
  · rw [dif_pos h, dif_neg (by omega)]
  · rw [dif_neg h, u_at, dif_pos (by omega)]

theorem past1_at : val_main_v19 (F := Ideal) x1 (ix3 s r d) = back 1 (uC x1 s d) r := by
  pointwise [val_main_v19, val_main_v9, val_main_v8, val_main_cst]
  unfold back
  by_cases h : 1 + r.val < 2
  · rw [dif_pos h, dif_neg (by omega)]
  · rw [dif_neg h, u_at, dif_pos (by omega)]
    exact congrArg (uC x1 s d) (Fin.ext (by dsimp only; omega))

theorem now_at : val_main_v26 (F := Ideal) x1 (ix3 s r d) = uC x1 s d r := by
  pointwise [val_main_v26, val_main_v9, val_main_v8, val_main_cst]
  exact u_at x1 s r d

theorem tap0_at : val_main_v15 (F := Ideal) x2 (ix3 s r d) = x2 (ix2 0 d) := by
  pointwise [val_main_v15, val_main_v14, val_main_v12, val_main_v11]
theorem tap1_at : val_main_v21 (F := Ideal) x2 (ix3 s r d) = x2 (ix2 1 d) := by
  pointwise [val_main_v21, val_main_v20, val_main_v18, val_main_v17]
theorem tap2_at : val_main_v28 (F := Ideal) x2 (ix3 s r d) = x2 (ix2 2 d) := by
  pointwise [val_main_v28, val_main_v27, val_main_v25, val_main_v24]

theorem y_at : val_main_v30 (F := Ideal) x1 x2 (ix3 s r d) = taps (fun k => x2 (ix2 k d)) (uC x1 s d) r := by
  pointwise [val_main_v30, val_main_v29, val_main_v23, val_main_v22, val_main_v16]
  rw [past2_at, past1_at, now_at, tap0_at, tap1_at, tap2_at]
  unfold taps
  rw [add_comm, add_comm (x2 (ix2 0 d) * _), add_assoc]

theorem dy_at : val_main_v32 (F := Ideal) x0 x1 (ix3 s r d) = dyC x0 x1 s d r := by
  pointwise [val_main_v32]
  rw [c_at, z_at, mul_comm]

theorem du_at : val_main_v66 (F := Ideal) x0 x1 x2 (ix3 s r d) = tapsT (fun k => x2 (ix2 k d)) (dyC x0 x1 s d) r := by
  pointwise [val_main_v66, val_main_v61, val_main_v60, val_main_v50, val_main_v49, val_main_v40, val_main_v35, val_main_v44, val_main_v55, val_main_cst_3, val_main_cst_7, val_main_cst_11]
  have e2 : val_main_v34 (F := Ideal) x2 = val_main_v28 x2 := rfl
  have e1 : val_main_v43 (F := Ideal) x2 = val_main_v21 x2 := rfl
  have e0 : val_main_v54 (F := Ideal) x2 = val_main_v15 x2 := rfl
  rw [e2, e1, e0, tap2_at, dy_at]
  unfold tapsT ahead
  split_ifs
  all_goals first
    | omega
    | skip
  · rw [tap1_at, tap0_at, dy_at, dy_at]
    congr 4
    all_goals first
      | rfl
      | omega
      | (apply Fin.ext; dsimp only; done)
      | (apply Fin.ext; dsimp only; omega)
  · rw [tap1_at, dy_at, mul_zero]
    congr 4
    all_goals first
      | rfl
      | omega
      | (apply Fin.ext; dsimp only; done)
      | (apply Fin.ext; dsimp only; omega)
  · rw [mul_zero, mul_zero]

theorem parts_eq : val_main_v72 (F := Ideal) x0 x1 x2 = parts x0 x1 x2 := by
  funext i
  obtain ⟨p, q, l, rfl⟩ : ∃ (p : Fin 3) (q : Fin 8192) (l : Fin 1024), i = ix3 p q l := ⟨_, _, _, eq_ix3 i⟩
  pointwise [val_main_v72, val_main_v71, val_main_v70, val_main_v69, val_main_v67, val_main_v68, val_main_v33]
  fin_cases p
  · rw [dif_pos (by dsimp only; omega), du_at, x_at]
    refine (?_ : ∀ l' : Fin 1024, l' = l → tapsT (fun k => x2 (ix2 k l')) (dyC x0 x1 _ l') _ * xC x1 _ l' _ = _) _ (Fin.ext (by dsimp only; omega))
    rintro _ rfl
    exact (part_zero _ _ _ _ _ _).symm
  · rw [dif_neg (by dsimp only; omega), dif_pos (by dsimp only; omega), z_at, y_at]
    refine (?_ : ∀ l' : Fin 1024, l' = l → dzC x0 _ l' _ * taps (fun k => x2 (ix2 k l')) (uC x1 _ l') _ = _) _ (Fin.ext (by dsimp only; omega))
    rintro _ rfl
    exact (part_one _ _ _ _ _ _).symm
  · rw [dif_neg (by dsimp only; omega), dif_neg (by dsimp only; omega), b_at, du_at, mul_comm]
    refine (?_ : ∀ l' : Fin 1024, l' = l → tapsT (fun k => x2 (ix2 k l')) (dyC x0 x1 _ l') _ * bC x1 _ l' _ = _) _ (Fin.ext (by dsimp only; omega))
    rintro _ rfl
    exact (part_two _ _ _ _ _ _).symm

/-- The sum over the two leading axes of a rank-three array. -/
theorem sum_planes {n0 n1 n2 : ℕ} (h : (⟨3, ![n0, n1, n2]⟩ : Shape).ReducesTo [0, 1] ⟨1, ![n2]⟩) (v : (⟨3, ![n0, n1, n2]⟩ : Shape).Idx → EReal)
    (init : EReal) (d : Fin n2) :
    Ideal.hostReduceAdd h v init (ix1 d) = init + ∑ a : Fin n0, ∑ b : Fin n1, v (ix3 a b d) := by
  refine congrArg (init + ·) ((Finset.sum_filter_eq_sum_of_fiber _ (fun k : Fin n0 × Fin n1 => (ix3 k.1 k.2 d : (⟨3, ![n0, n1, n2]⟩ : Shape).Idx))
    (fun _ _ e => Prod.ext (congrFun e 0) (congrFun e 1)) (fun i => ⟨fun e => ⟨(i 0, i 1), ?_⟩, ?_⟩) v).trans ?_)
  · funext a
    apply Fin.ext
    match a with
    | ⟨0, _⟩ => rfl
    | ⟨1, _⟩ => rfl
    | ⟨2, _⟩ => exact (congrArg Fin.val (congrFun e ⟨0, Nat.one_pos⟩)).symm
  · rintro ⟨k, rfl⟩
    funext b
    apply Fin.ext
    match b with
    | ⟨0, _⟩ => rfl
  · simp only [Fintype.sum_prod_type]

theorem sum2_at : val_main_v37 (F := Ideal) x0 x1 (ix1 d) = ∑ s : Fin 4, ∑ r : Fin 2048, dyC x0 x1 s d r * uC x1 s d r := by
  pointwise [val_main_v37, val_main_cst_1]
  rw [sum_planes, zero_add]
  refine Finset.sum_congr rfl fun s _ => Finset.sum_congr rfl fun r _ => ?_
  pointwise [val_main_v36]
  rw [dy_at, now_at]

theorem sum1_at : val_main_v46 (F := Ideal) x0 x1 (ix1 d) = ∑ s : Fin 4, ∑ r : Fin 2048, dyC x0 x1 s d r * back 1 (uC x1 s d) r := by
  pointwise [val_main_v46, val_main_cst_5]
  rw [sum_planes, zero_add]
  refine Finset.sum_congr rfl fun s _ => Finset.sum_congr rfl fun r _ => ?_
  pointwise [val_main_v45]
  rw [dy_at, past1_at]

theorem sum0_at : val_main_v57 (F := Ideal) x0 x1 (ix1 d) = ∑ s : Fin 4, ∑ r : Fin 2048, dyC x0 x1 s d r * back 2 (uC x1 s d) r := by
  pointwise [val_main_v57, val_main_cst_9]
  rw [sum_planes, zero_add]
  refine Finset.sum_congr rfl fun s _ => Finset.sum_congr rfl fun r _ => ?_
  pointwise [val_main_v56]
  rw [dy_at, past2_at]

/-- Summing a single row leaves it as it is. -/
theorem sum_one (v : Vec Ideal S1024 .f32) : Ideal.hostReduceAdd Gen.reducesTo_S1x1x1024_S1024_d0_1 (shapeCast S1x1x1024 v Gen.shapeCasts_S1024_S1x1x1024) 0 (ix1 d) = v (ix1 d) := by
  rw [sum_planes, zero_add, Fin.sum_univ_one, Fin.sum_univ_one]
  pointwise

theorem taps_eq : val_main_v64 (F := Ideal) x0 x1 = taps' x0 x1 := by
  funext i
  obtain ⟨k, l, rfl⟩ : ∃ (k : Fin 3) (l : Fin 1024), i = ix2 k l := ⟨_, _, eq_ix2 i⟩
  pointwise [val_main_v64, val_main_v63, val_main_v62, val_main_v59, val_main_v58, val_main_v53, val_main_v52, val_main_v51, val_main_v48, val_main_v47, val_main_v42, val_main_v41, val_main_v39, val_main_v38,
    val_main_cst_2, val_main_cst_4, val_main_cst_6, val_main_cst_8, val_main_cst_10, val_main_cst_12]
  rw [sum_one, sum_one, sum_one, sum0_at, sum1_at, sum2_at]
  unfold taps'
  simp only [ix2_0, ix2_1]
  unfold tapGrad
  fin_cases k
  · simp
  · simp
  · simp

end Cert.ConvBwdRefIdeal.Column
-- ==== Proof.ConvClaims.lean ====
/-
  The claims about the convolution's gradient: it runs, and over the extended reals its two results are the reference's.
-/
module

public import proofs.«01_k».proof.Defs
public import proofs.«01_k».proof.Proof.Gen.ConvBwd.Frame
public import proofs.«01_k».proof.Proof.Gen.ConvBwdIdeal.Frame
public import proofs.«01_k».proof.Proof.Gen.ConvBwdIdeal.Value
public import proofs.«01_k».proof.Proof.Gen.ConvBwdRefIdeal.Run
public import proofs.«01_k».proof.Proof.ConvRef
public import Idealize.ShloMosaic.Adequacy

@[expose] public section

noncomputable section

namespace Cert.Proof.Conv

open Idealize.ShloMosaic Idealize.SL.Sem

theorem frame : Cert.quiescent_ConvBwd := fun m ρ _ => Cert.ConvBwd.Gen.frame m ρ

theorem frame_ideal : Cert.quiescent_ConvBwdIdeal := fun m ρ _ => Cert.ConvBwdIdeal.Gen.frame m ρ

theorem frame_ref : Cert.quiescent_ConvBwdRefIdeal := fun m ρ _ =>
  (θ_run Cert.ConvBwdRefIdeal.defs _ _).mono (fun r h => ⟨fun c => (h c).2.2, Idealize.ShloMosaic.sem_eq_zero_of_no_sems (by decide) r.2⟩)
    (Cert.ConvBwdRefIdeal.Value.run (F := Ideal) m ρ)

theorem preserves : Cert.preserves_ConvBwd_ConvBwdIdeal := trivial

/-- Both programs end with the gradients of ConvArray.lean, computed from arguments that agree. -/
theorem algebraic : Cert.algebraic_ConvBwdIdeal_ConvBwdRefIdeal := by
  intro m ρ m' ρ' _ hagree
  refine ⟨fun c => Cert.ConvBwdIdeal.Array.parts (Cert.ConvBwdIdeal.Array.dzArg m c) (Cert.ConvBwdIdeal.Array.bcxArg m c) (Cert.ConvBwdIdeal.Array.tapsArg m c),
    fun c => Cert.ConvBwdIdeal.Array.taps' (Cert.ConvBwdIdeal.Array.dzArg m c) (Cert.ConvBwdIdeal.Array.bcxArg m c), ?_, ?_⟩
  · exact (θ_run Cert.ConvBwdIdeal.defs _ _).mono
      (fun _ h c => ⟨(h c).1.trans (Cert.ConvBwdIdeal.Array.final_6 m c), (h c).2.1.trans (Cert.ConvBwdIdeal.Array.final_7 m c), (h c).2.2⟩)
      (Cert.ConvBwdIdeal.Value.run_blocks m ρ)
  · refine (θ_run Cert.ConvBwdRefIdeal.defs _ _).mono (fun _ h c => ⟨(h c).1.trans ?_, (h c).2.1.trans ?_, (h c).2.2⟩)
      (Cert.ConvBwdRefIdeal.Value.run (F := Ideal) m' ρ')
    · rw [Cert.ConvBwdRefIdeal.Read.val_main_v72_eq, (hagree c).1, (hagree c).2.1, (hagree c).2.2]
      exact Cert.ConvBwdRefIdeal.Column.parts_eq _ _ _
    · rw [Cert.ConvBwdRefIdeal.Read.val_main_v64_eq, (hagree c).1, (hagree c).2.1]
      exact Cert.ConvBwdRefIdeal.Column.taps_eq _ _

end Cert.Proof.Conv

end
-- ==== Proof.FfnReal.lean ====
/-
  Extended reals that are reals: the operations that keep them so, and the printed test "every entry's magnitude is below
  infinity" read as "every entry is a real".
-/
module

public import Idealize.ShloMosaic.Lib.StableHlo
public import Idealize.ShloMosaic.Lib.ReduceAll
public import Idealize.ShloMosaic.Lib.Pointwise

@[expose] public section

noncomputable section

namespace Cert.Proof.Reals

open Idealize.ShloMosaic

/-- The value is a real number. -/
def IsReal (x : EReal) : Prop := ∃ r : ℝ, x = r

theorem IsReal.coe (r : ℝ) : IsReal r := ⟨r, rfl⟩

theorem IsReal.zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, by push_cast; rfl⟩

theorem IsReal.mul {x y : EReal} (hx : IsReal x) (hy : IsReal y) : IsReal (x * y) := by
  obtain ⟨a, rfl⟩ := hx
  obtain ⟨b, rfl⟩ := hy
  exact ⟨a * b, by push_cast; rfl⟩

theorem IsReal.sum {ι : Type} [Fintype ι] (f : ι → EReal) (h : ∀ i, IsReal (f i)) : IsReal (∑ i, f i) :=
  Finset.sum_induction (M := EReal) f IsReal (fun _ _ => IsReal.add) IsReal.zero fun i _ => h i

/-- A magnitude below infinity is a real's. -/
theorem isReal_of_lt {x : EReal} (h : max x (-x) < Ideal.ofBits .f32 0x7F800000#32) : IsReal x := by
  have htop : Ideal.ofBits .f32 0x7F800000#32 = ⊤ := by simp [Ideal.ofBits, Ideal.ieee]
  rw [htop] at h
  induction x using EReal.rec with
  | bot => simp at h
  | coe r => exact ⟨r, rfl⟩
  | top => simp at h

theorem of_bit {p : Prop} [Decidable p] (h : BitVec.ofBool (decide p) = 1#1) : p := by
  by_contra hp
  simp [hp] at h

/-- A conjunction of bits that is one has every bit one. -/
theorem bit_of_fold {ι : Type} (f : ι → BitVec 1) (s : Finset ι) (h : s.fold IntOp.andi 1#1 f = 1#1) : ∀ i ∈ s, f i = 1#1 := by
  classical
  induction s using Finset.induction_on with
  | empty => intro i hi; simp at hi
  | insert a s ha ih =>
    rw [Finset.fold_insert ha] at h
    obtain ⟨h1, h2⟩ := IntOp.andi_eq_one.1 h
    intro i hi
    rcases Finset.mem_insert.1 hi with rfl | hi
    · exact h1
    · exact ih h2 i hi

theorem bit_of_fold_univ {ι : Type} [Fintype ι] (f : ι → BitVec 1) (h : Finset.univ.fold IntOp.andi 1#1 f = 1#1) (i : ι) : f i = 1#1 :=
  bit_of_fold f _ h i (Finset.mem_univ i)

/-- The shape of a single value has one index. -/
instance : Subsingleton (⟨0, ![]⟩ : Shape).Idx := ⟨fun a b => funext fun i => i.elim0⟩

/-- The logistic function as both programs compute it. -/
def sigmoid (x : EReal) : EReal := Ideal.div 1 (1 + Ideal.exp (-x))

theorem sigmoid_real (r : ℝ) : IsReal (sigmoid r) := by
  unfold sigmoid Ideal.div
  have e : (1 : EReal) + Ideal.exp (-(r : EReal)) = ((1 + Real.exp (-r) : ℝ) : EReal) := by
    rw [← EReal.coe_neg]
    push_cast
    rfl
  have hn : (1 + Real.exp (-r) : ℝ) ≠ 0 := by positivity
  rw [e, if_neg (by exact_mod_cast hn), one_mul, ← EReal.coe_inv]
  exact ⟨_, rfl⟩

theorem IsReal.sigmoid {x : EReal} (h : IsReal x) : IsReal (sigmoid x) := by
  obtain ⟨r, rfl⟩ := h
  exact sigmoid_real r

/-- The derivative of the gated product by its gate: the product's own value plus the logistic function's share of what is left,
    against the product rule. -/
theorem gate_derivative {g u : EReal} (hg : IsReal g) (hu : IsReal u) :
    g * sigmoid g * u + sigmoid g * (u - g * sigmoid g * u)
      = 1 * u * sigmoid g + g * (1 * u) * (sigmoid g * (1 - sigmoid g)) := by
  obtain ⟨s, hs⟩ := hg.sigmoid
  obtain ⟨a, rfl⟩ := hg
  obtain ⟨b, rfl⟩ := hu
  rw [hs]
  norm_cast
  ring

/-- The product rule's derivative scaled by an output gradient, against the output gradient carried through the rule. -/
theorem gate_pullback {d g u : EReal} (hd : IsReal d) (hg : IsReal g) (hu : IsReal u) :
    d * (1 * u * sigmoid g + g * (1 * u) * (sigmoid g * (1 - sigmoid g)))
      = d * u * sigmoid g + g * (d * u) * (sigmoid g * (1 - sigmoid g)) := by
  obtain ⟨s, hs⟩ := hg.sigmoid
  obtain ⟨a, rfl⟩ := hg
  obtain ⟨b, rfl⟩ := hu
  obtain ⟨e, rfl⟩ := hd
  rw [hs]
  norm_cast
  ring

end Cert.Proof.Reals

end
-- ==== Proof.FfnDownDgradArray.lean ====
/-
  The backward call of the down projection and the gated product: the call's two result arrays as functions of its arguments
  over the extended reals.
-/
module

public import proofs.«01_k».proof.Proof.Gen.FfnDownDgradIdeal.Value
public import proofs.«01_k».proof.Proof.FfnReal
public import Idealize.ShloMosaic.Lib.Pointwise
public import Idealize.ShloMosaic.Lib.Pipeline.ValueKit.Point
public import Idealize.ShloMosaic.Lib.Pipeline.ValueKit.Acc
public import Idealize.ShloMosaic.Lib.StableHlo.ReadAt

@[expose] public section

set_option maxRecDepth 16384

noncomputable section

namespace Cert.FfnDownDgradIdeal.Array

open Cert.FfnDownDgradIdeal Cert.FfnDownDgradIdeal.Gen Cert.FfnDownDgradIdeal.Value Idealize.ShloMosaic Idealize.ShloMosaic.TcCoe Idealize.SL.Sem Cert.Proof.Reals
open Idealize.ShloMosaic.Pipeline (Dat)

variable (m : (ℓ : Loc nD τ sig) → Buf (Elt Ideal) ℓ) (ρ : Dev nD → PrngReg)

theorem index0 : ∀ t : Fin cfg0.N, win0_0.index t = ![t.val, 0] := (by decide +kernel : ∀ t : Fin grid0.N, _)
theorem index1 : ∀ t : Fin cfg0.N, win0_1.index t = ![0, 0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)

abbrev dxArg (c : Dev nD) : Vec Ideal S8192x1024 .bf16 := m ((c.tc : Thread nD τ).loc main_arg0)
abbrev wArg (c : Dev nD) : Vec Ideal S1x2816x1024 .bf16 := m ((c.tc : Thread nD τ).loc main_arg1)
abbrev gArg (c : Dev nD) : Vec Ideal S8192x2816 .f32 := m ((c.tc : Thread nD τ).loc main_arg2)
abbrev uArg (c : Dev nD) : Vec Ideal S8192x2816 .f32 := m ((c.tc : Thread nD τ).loc main_arg3)

/-- The gradient of the gated product. -/
def da (dx : Vec Ideal S8192x1024 .bf16) (w : Vec Ideal S1x2816x1024 .bf16) (t : Fin 8192) (j : Fin 2816) : EReal :=
  ∑ k : Fin 1024, dx (ix2 t k) * w (ix3 0 j k)

/-- The gradient of the gate. -/
def dGate (dx : Vec Ideal S8192x1024 .bf16) (w : Vec Ideal S1x2816x1024 .bf16) (g u : Vec Ideal S8192x2816 .f32) : Vec Ideal S8192x2816 .bf16 :=
  fun i => (da dx w (i 0) (i 1) * (1 * u i * sigmoid (g i) + g i * (1 * u i) * (sigmoid (g i) * (1 - sigmoid (g i)))) : EReal)

/-- The gradient of the up projection. -/
def dUp (dx : Vec Ideal S8192x1024 .bf16) (w : Vec Ideal S1x2816x1024 .bf16) (g : Vec Ideal S8192x2816 .f32) : Vec Ideal S8192x2816 .bf16 :=
  fun i => (da dx w (i 0) (i 1) * (g i * sigmoid (g i) * 1) : EReal)

/-- An entry of one tile's product. -/
def tile (x0 : Vec Ideal S512x1024 .bf16) (x1 : Vec Ideal S1x2816x1024 .bf16) (p : Fin 512) (l : Fin 2816) : EReal :=
  ∑ k : Fin 1024, x0 (ix2 p k) * x1 (ix3 0 l k)

theorem pay1_at (x0 : Vec Ideal S512x1024 .bf16) (x1 : Vec Ideal S1x2816x1024 .bf16) (p : Fin 512) (l : Fin 2816) :
    @Eq EReal (k0_pay1 x0 x1 (ix2 p l)) (tile x0 x1 p l) := by
  unfold k0_pay1 tile
  pointwise

theorem pay2_at (x0 : Vec Ideal S512x1024 .bf16) (x1 : Vec Ideal S1x2816x1024 .bf16) (x2 : Vec Ideal S512x2816 .bf16) (p : Fin 512) (l : Fin 2816) :
    @Eq EReal (k0_pay2 x0 x1 x2 (ix2 p l)) (tile x0 x1 p l * x2 (ix2 p l)) := by
  rw [← pay1_at]
  unfold k0_pay2
  generalize k0_pay1 (F := Ideal) x0 x1 = y
  pointwise

theorem pay3_at (x0 : Vec Ideal S512x1024 .bf16) (x1 : Vec Ideal S1x2816x1024 .bf16) (x2 : Vec Ideal S512x2816 .bf16) (p : Fin 512) (l : Fin 2816) :
    @Eq EReal (k0_pay3 x0 x1 x2 (ix2 p l)) (tile x0 x1 p l * x2 (ix2 p l)) := pay2_at x0 x1 x2 p l

/-- The host's line of ones. -/
def ones : FVec Ideal S8192x2816 .f32 := broadcastInDim S8192x2816 ![] bcast_S_S8192x2816 (constant (F := Ideal) S_ .f32 0x3F800000#32)

/-- The host's lines of the logistic function. -/
def sigmoidLines (g : FVec Ideal S8192x2816 .f32) : FVec Ideal S8192x2816 .f32 := Host.divf ones (addf ones (Host.exp (Host.negf g)))

/-- The host's lines of the gate's factor. -/
def gateLines (g u : FVec Ideal S8192x2816 .f32) : FVec Ideal S8192x2816 .bf16 :=
  truncf .bf16 (addf (mulf (mulf ones u) (sigmoidLines g)) (mulf (mulf g (mulf ones u)) (mulf (sigmoidLines g) (subf ones (sigmoidLines g))))) bitsLt_bf16_f32

/-- The host's lines of the up projection's factor. -/
def upLines (g : FVec Ideal S8192x2816 .f32) : FVec Ideal S8192x2816 .bf16 :=
  truncf .bf16 (mulf (mulf g (sigmoidLines g)) ones) bitsLt_bf16_f32

theorem ones_at (t : Fin 8192) (j : Fin 2816) : @Eq EReal (ones (ix2 t j)) 1 := by
  unfold ones
  pointwise

theorem sigmoidLines_at (g : FVec Ideal S8192x2816 .f32) (t : Fin 8192) (j : Fin 2816) : @Eq EReal (sigmoidLines g (ix2 t j)) (sigmoid (g (ix2 t j))) := by
  unfold sigmoidLines sigmoid
  rw [← ones_at t j]
  rfl

theorem gateLines_at (g u : FVec Ideal S8192x2816 .f32) (t : Fin 8192) (j : Fin 2816) :
    @Eq EReal (gateLines g u (ix2 t j))
      (1 * u (ix2 t j) * sigmoid (g (ix2 t j)) + g (ix2 t j) * (1 * u (ix2 t j)) * (sigmoid (g (ix2 t j)) * (1 - sigmoid (g (ix2 t j))))) := by
  rw [← sigmoidLines_at, ← ones_at t j]
  rfl

theorem upLines_at (g : FVec Ideal S8192x2816 .f32) (t : Fin 8192) (j : Fin 2816) :
    @Eq EReal (upLines g (ix2 t j)) (g (ix2 t j) * sigmoid (g (ix2 t j)) * 1) := by
  rw [← sigmoidLines_at, ← ones_at t j]
  rfl

/-- The saved factors, as the host's lines make them. -/
theorem gateFactor_at (c : Dev nD) (t : Fin 8192) (j : Fin 2816) :
    @Eq EReal ((V m c main_v6 : Vec Ideal S8192x2816 .bf16) (ix2 t j))
      (1 * uArg m c (ix2 t j) * sigmoid (gArg m c (ix2 t j))
        + gArg m c (ix2 t j) * (1 * uArg m c (ix2 t j)) * (sigmoid (gArg m c (ix2 t j)) * (1 - sigmoid (gArg m c (ix2 t j))))) := by
  unfold V
  after_reads_simp
  simp only [StableHlo.TRef.ofBuf_toBuf]
  exact gateLines_at (gArg m c) (uArg m c) t j

theorem upFactor_at (c : Dev nD) (t : Fin 8192) (j : Fin 2816) :
    @Eq EReal ((V m c main_v7 : Vec Ideal S8192x2816 .bf16) (ix2 t j)) (gArg m c (ix2 t j) * sigmoid (gArg m c (ix2 t j)) * 1) := by
  unfold V
  after_reads_simp
  simp only [StableHlo.TRef.ofBuf_toBuf]
  exact upLines_at (gArg m c) t j

theorem dx_blk (c : Dev nD) (t : Fin cfg0.N) (p : Fin 512) (k : Fin 1024) (h : 512 * t.val + p.val < 8192) :
    iblk m c 0 t (ix2 p k) = dxArg m c (ix2 ⟨512 * t.val + p.val, h⟩ k) := by
  blk_ext! [iblk, V_main_arg0, index0 t]

theorem w_blk (c : Dev nD) (t : Fin cfg0.N) (l : Fin 2816) (k : Fin 1024) :
    iblk m c 1 t (ix3 0 l k) = wArg m c (ix3 0 l k) := by
  blk_ext! [iblk, V_main_arg1, index1 t]

theorem gateFactor_blk (c : Dev nD) (t : Fin cfg0.N) (p : Fin 512) (l : Fin 2816) (h : 512 * t.val + p.val < 8192) :
    iblk m c 2 t (ix2 p l) = V m c main_v6 (ix2 ⟨512 * t.val + p.val, h⟩ l) := by
  blk_ext [iblk, index2 t]

theorem upFactor_blk (c : Dev nD) (t : Fin cfg0.N) (p : Fin 512) (l : Fin 2816) (h : 512 * t.val + p.val < 8192) :
    iblk m c 3 t (ix2 p l) = V m c main_v7 (ix2 ⟨512 * t.val + p.val, h⟩ l) := by
  blk_ext [iblk, index3 t]

theorem place4 (t : Fin cfg0.N) (X : Vec Ideal S8192x2816 .bf16) (p : Fin 512) (l : Fin 2816) (h : 512 * t.val + p.val < 8192) :
    X ((win0_4.blk t).view.emb (ix2 p l)) = X (ix2 ⟨512 * t.val + p.val, h⟩ l) := by
  blk_ext [index4 t]

theorem place5 (t : Fin cfg0.N) (X : Vec Ideal S8192x2816 .bf16) (p : Fin 512) (l : Fin 2816) (h : 512 * t.val + p.val < 8192) :
    X ((win0_5.blk t).view.emb (ix2 p l)) = X (ix2 ⟨512 * t.val + p.val, h⟩ l) := by
  blk_ext [index5 t]

theorem da_tile (c : Dev nD) (t : Fin cfg0.N) (p : Fin 512) (l : Fin 2816) (h : 512 * t.val + p.val < 8192) :
    tile (iblk m c 0 t) (iblk m c 1 t) p l = da (dxArg m c) (wArg m c) ⟨512 * t.val + p.val, h⟩ l := by
  unfold tile da
  refine Finset.sum_congr (M := EReal) rfl fun k _ => ?_
  rw [dx_blk m c t p k h, w_blk m c t l k]

theorem hz2 : (![0, 0] : Fin 2 → Nat) = 0 := by decide
theorem hz3 : (![0, 0, 0] : Fin 3 → Nat) = 0 := by decide

theorem final4 (c : Dev nD) : (dats m 0 c).arrAt 4 cfg0.N = dGate (dxArg m c) (wArg m c) (gArg m c) (uArg m c) :=
  (dats m 0 c).arrAt_eq_of_covers 4 _ (by decide +kernel) fun t hf y => by
    blk_simp
    rw [after0_4]
    obtain ⟨p, l, rfl⟩ : ∃ (p : Fin 512) (l : Fin 2816), y = ix2 p l := ⟨_, _, eq_ix2 (n0 := 512) (n1 := 2816) y⟩
    have ht : t.val < 16 := t.isLt.trans_eq N_0
    refine Eq.trans ?_ (place4 t _ _ _ (by omega)).symm
    unfold out0_4 dGate
    rw [View.canon_unit_zero (S := S512x2816) hz2]
    simp only [View.ld_unit_zero (S := S512x1024) hz2, View.ld_unit_zero (S := S1x2816x1024) hz3, View.ld_unit_zero (S := S512x2816) hz2, ix2_0, ix2_1]
    refine (pay2_at _ _ _ p l).trans ?_
    rw [da_tile m c t p l (by omega), gateFactor_blk m c t p l (by omega), gateFactor_at]

theorem final5 (c : Dev nD) : (dats m 0 c).arrAt 5 cfg0.N = dUp (dxArg m c) (wArg m c) (gArg m c) :=
  (dats m 0 c).arrAt_eq_of_covers 5 _ (by decide +kernel) fun t hf y => by
    blk_simp
    rw [after0_5]
    obtain ⟨p, l, rfl⟩ : ∃ (p : Fin 512) (l : Fin 2816), y = ix2 p l := ⟨_, _, eq_ix2 (n0 := 512) (n1 := 2816) y⟩
    have ht : t.val < 16 := t.isLt.trans_eq N_0
    refine Eq.trans ?_ (place5 t _ _ _ (by omega)).symm
    unfold out0_5 dUp
    rw [View.canon_unit_zero (S := S512x2816) hz2]
    simp only [View.ld_unit_zero (S := S512x1024) hz2, View.ld_unit_zero (S := S1x2816x1024) hz3, View.ld_unit_zero (S := S512x2816) hz2, ix2_0, ix2_1]
    refine (pay3_at _ _ _ p l).trans ?_
    rw [da_tile m c t p l (by omega), upFactor_blk m c t p l (by omega), upFactor_at]

end Cert.FfnDownDgradIdeal.Array

end
-- ==== Proof.FfnDownDgradClaims.lean ====
/-
  The claims about the backward call of the down projection and the gated product: the call runs, and over the extended
  reals its two results are the reference's on finite arguments.
-/
module

public import proofs.«01_k».proof.Defs
public import proofs.«01_k».proof.Proof.Gen.Pre_down_dgrad_finite
public import proofs.«01_k».proof.Proof.Gen.FfnDownDgrad.Frame
public import proofs.«01_k».proof.Proof.Gen.FfnDownDgradIdeal.Frame
public import proofs.«01_k».proof.Proof.Gen.FfnDownDgradIdeal.Value
public import proofs.«01_k».proof.Proof.Gen.FfnDownDgradRefIdeal.Run
public import proofs.«01_k».proof.Proof.Gen.FfnDownDgradRefIdeal.Read
public import proofs.«01_k».proof.Proof.FfnReal
public import proofs.«01_k».proof.Proof.FfnDownDgradArray
public import Idealize.ShloMosaic.Adequacy

@[expose] public section

set_option maxRecDepth 16384

noncomputable section

namespace Cert.Proof.FfnDownDgrad

open Idealize.ShloMosaic Idealize.SL.Sem Cert.FfnDownDgradRefIdeal.Read Cert.FfnDownDgradIdeal.Array Cert.Proof.Reals

/-- The precondition, read: every entry of the four arguments is a real. -/
theorem finite (x0 : FVec Ideal Cert.Pre_down_dgrad_finite.S8192x1024 .bf16) (x1 : FVec Ideal Cert.Pre_down_dgrad_finite.S1x2816x1024 .bf16)
    (x2 x3 : FVec Ideal Cert.Pre_down_dgrad_finite.S8192x2816 .f32)
    (h : Cert.Pre_down_dgrad_finite.fn (F := Ideal) x0 x1 x2 x3 = fun _ => 1#1) :
    (∀ i, IsReal (x0 i)) ∧ (∀ i, IsReal (x1 i)) ∧ (∀ i, IsReal (x2 i)) ∧ (∀ i, IsReal (x3 i)) := by
  simp only [Cert.Pre_down_dgrad_finite.fn, Cert.Pre_down_dgrad_finite.fn_part1] at h
  have hj := Host.reduce_andi_all _ _ _ _ ix0 (congrFun h ix0)
  refine ⟨fun i => ?_, fun i => ?_, fun i => ?_, fun i => ?_⟩
  · obtain ⟨a, b, rfl⟩ : ∃ (a : Fin 8192) (b : Fin 1024), i = ix2 a b := ⟨_, _, eq_ix2 (n0 := 8192) (n1 := 1024) i⟩
    have h0 := hj (ix1 0)
    pointwise at h0
    have e := bit_of_fold_univ _ h0 (a, b)
    exact isReal_of_lt (of_bit e)
  · obtain ⟨z, a, b, rfl⟩ : ∃ (z : Fin 1) (a : Fin 2816) (b : Fin 1024), i = ix3 z a b := ⟨_, _, _, eq_ix3 (n0 := 1) (n1 := 2816) (n2 := 1024) i⟩
    have h1 := hj (ix1 1)
    pointwise at h1
    have e := bit_of_fold_univ _ h1 (z, a, b)
    exact isReal_of_lt (of_bit e)
  · obtain ⟨a, b, rfl⟩ : ∃ (a : Fin 8192) (b : Fin 2816), i = ix2 a b := ⟨_, _, eq_ix2 (n0 := 8192) (n1 := 2816) i⟩
    have h2 := hj (ix1 2)
    pointwise at h2
    have e := bit_of_fold_univ _ h2 (a, b)
    exact isReal_of_lt (of_bit e)
  · obtain ⟨a, b, rfl⟩ : ∃ (a : Fin 8192) (b : Fin 2816), i = ix2 a b := ⟨_, _, eq_ix2 (n0 := 8192) (n1 := 2816) i⟩
    have h3 := hj (ix1 3)
    pointwise at h3
    have e := bit_of_fold_univ _ h3 (a, b)
    exact isReal_of_lt (of_bit e)

section Reference

variable (x0 : Vec Ideal Cert.FfnDownDgradRefIdeal.S8192x1024 .bf16) (x1 : Vec Ideal Cert.FfnDownDgradRefIdeal.S1x2816x1024 .bf16)
variable (x2 x3 : Vec Ideal Cert.FfnDownDgradRefIdeal.S8192x2816 .f32)
variable (t : Fin 8192) (c : Fin 2816)

theorem da_at : @Eq EReal (val_main_v6 (F := Ideal) x0 x1 (ix2 t c)) (da x0 x1 t c) := by
  unfold da
  pointwise [val_main_v6, val_main_v5, val_main_v1, val_main_v0]

theorem sigmoid_at : @Eq EReal (val_main_v2_2 (F := Ideal) x2 (ix2 t c)) (sigmoid (x2 (ix2 t c))) := by
  unfold sigmoid
  pointwise [val_main_v2_2, val_main_call0_v4, val_main_call0_v3, val_main_call0_v2, val_main_call0_v1, val_main_call0_v0, val_main_call0_cst, val_main_call0_cst_0]

theorem one_at : @Eq EReal (val_main_call0_v6 (F := Ideal) (ix2 t c)) 1 := by
  pointwise [val_main_call0_v6, val_main_call0_cst_1]

theorem dUp_at : @Eq EReal (val_main_v11 (F := Ideal) x0 x1 x2 (ix2 t c)) (x2 (ix2 t c) * sigmoid (x2 (ix2 t c)) * da x0 x1 t c) := by
  rw [← sigmoid_at, ← da_at]
  rfl

theorem dGate_at : @Eq EReal (val_main_v10 (F := Ideal) x0 x1 x2 x3 (ix2 t c))
    (da x0 x1 t c * x3 (ix2 t c) * sigmoid (x2 (ix2 t c))
      + x2 (ix2 t c) * (da x0 x1 t c * x3 (ix2 t c)) * (sigmoid (x2 (ix2 t c)) * (1 - sigmoid (x2 (ix2 t c))))) := by
  rw [← sigmoid_at, ← da_at, ← one_at t c]
  rfl

end Reference

theorem ref_up (x0 : Vec Ideal Cert.FfnDownDgradRefIdeal.S8192x1024 .bf16) (x1 : Vec Ideal Cert.FfnDownDgradRefIdeal.S1x2816x1024 .bf16)
    (x2 : Vec Ideal Cert.FfnDownDgradRefIdeal.S8192x2816 .f32) : val_main_v11 (F := Ideal) x0 x1 x2 = dUp x0 x1 x2 := by
  funext i
  obtain ⟨t, c, rfl⟩ : ∃ (t : Fin 8192) (c : Fin 2816), i = ix2 t c := ⟨_, _, eq_ix2 (n0 := 8192) (n1 := 2816) i⟩
  refine (dUp_at x0 x1 x2 t c).trans ((mul_comm (G := EReal) _ _).trans ?_)
  exact congrArg (da x0 x1 t c * ·) (mul_one (M := EReal) _).symm

theorem ref_gate (x0 : Vec Ideal Cert.FfnDownDgradRefIdeal.S8192x1024 .bf16) (x1 : Vec Ideal Cert.FfnDownDgradRefIdeal.S1x2816x1024 .bf16)
    (x2 x3 : Vec Ideal Cert.FfnDownDgradRefIdeal.S8192x2816 .f32)
    (h : (∀ i, IsReal (x0 i)) ∧ (∀ i, IsReal (x1 i)) ∧ (∀ i, IsReal (x2 i)) ∧ (∀ i, IsReal (x3 i))) :
    val_main_v10 (F := Ideal) x0 x1 x2 x3 = dGate x0 x1 x2 x3 := by
  funext i
  obtain ⟨t, c, rfl⟩ : ∃ (t : Fin 8192) (c : Fin 2816), i = ix2 t c := ⟨_, _, eq_ix2 (n0 := 8192) (n1 := 2816) i⟩
  have hd : IsReal (da x0 x1 t c) := IsReal.sum _ fun k => (h.1 _).mul (h.2.1 _)
  exact (dGate_at x0 x1 x2 x3 t c).trans (gate_pullback hd (h.2.2.1 _) (h.2.2.2 _)).symm

theorem frame : Cert.quiescent_FfnDownDgrad := fun m ρ _ => Cert.FfnDownDgrad.Gen.frame m ρ

theorem frame_ideal : Cert.quiescent_FfnDownDgradIdeal := fun m ρ _ => Cert.FfnDownDgradIdeal.Gen.frame m ρ

theorem frame_ideal_finite : Cert.quiescent_FfnDownDgradIdeal_pre_down_dgrad_finite := fun m ρ _ => Cert.FfnDownDgradIdeal.Gen.frame m ρ

theorem frame_ref : Cert.quiescent_FfnDownDgradRefIdeal := fun m ρ _ =>
  (θ_run Cert.FfnDownDgradRefIdeal.defs _ _).mono (fun r h => ⟨fun c => (h c).2.2, Idealize.ShloMosaic.sem_eq_zero_of_no_sems (by decide) r.2⟩)
    (Cert.FfnDownDgradRefIdeal.Value.run (F := Ideal) m ρ)

theorem frame_ref_finite : Cert.quiescent_FfnDownDgradRefIdeal_pre_down_dgrad_finite := fun m ρ _ => frame_ref m ρ trivial

theorem preserves : Cert.preserves_FfnDownDgrad_FfnDownDgradIdeal := trivial

/-- Both programs end with the two arrays of FfnDownDgradArray.lean, computed from arguments that agree. -/
theorem algebraic : Cert.algebraic_FfnDownDgradIdeal_FfnDownDgradRefIdeal_pre_down_dgrad_finite := by
  intro m ρ m' ρ' hpre hagree
  refine ⟨fun c => dGate (dxArg m c) (wArg m c) (gArg m c) (uArg m c), fun c => dUp (dxArg m c) (wArg m c) (gArg m c), ?_, ?_⟩
  · exact (θ_run Cert.FfnDownDgradIdeal.defs _ _).mono
      (fun _ h c => ⟨(h c).1.trans (final4 m c), (h c).2.1.trans (final5 m c), (h c).2.2⟩)
      (Cert.FfnDownDgradIdeal.Value.run_blocks m ρ)
  · refine (θ_run Cert.FfnDownDgradRefIdeal.defs _ _).mono
      (fun _ h c => ⟨(h c).1.trans ?_, (h c).2.1.trans ?_, (h c).2.2⟩)
      (Cert.FfnDownDgradRefIdeal.Value.run (F := Ideal) m' ρ')
    · rw [val_main_v10_eq, (hagree c).1, (hagree c).2.1, (hagree c).2.2.1, (hagree c).2.2.2]
      exact ref_gate _ _ _ _ (finite _ _ _ _ (hpre c))
    · rw [val_main_v11_eq, (hagree c).1, (hagree c).2.1, (hagree c).2.2.1]
      exact ref_up _ _ _

end Cert.Proof.FfnDownDgrad

end
-- ==== Proof.RowNorm.lean ====
/-
  A row scaled to mean square one, and the gradient carried back through the scaling, over the extended reals.
-/
module

public import proofs.«01_k».proof.Proof.FfnReal

@[expose] public section

noncomputable section

namespace Cert.Proof.RowNorm

open Idealize.ShloMosaic Cert.Proof.Reals

/-- The mean square of a row, kept off zero. -/
def mean (x : Fin 1024 → EReal) : EReal :=
  Ideal.div (∑ e : Fin 1024, x e * x e) (Ideal.ofBits .f32 0x44800000#32) + Ideal.ofBits .f32 0x358637BD#32

/-- One over the root of the mean square of a row. -/
def scale (x : Fin 1024 → EReal) : EReal := Ideal.rsqrt (mean x)

/-- A row scaled to mean square one. -/
def unit (x : Fin 1024 → EReal) (e : Fin 1024) : EReal := x e * scale x

/-- One row's gradient carried back through the norm: `y` is the gradient at the scaled row `u`, `r` the scale. -/
def pull (u y : Fin 1024 → EReal) (r : EReal) (e : Fin 1024) : EReal :=
  r * (y e - u e * Ideal.div (∑ j : Fin 1024, y j * u j) (Ideal.ofBits .f32 0x44800000#32))

/-- The share of a row's gradient that goes through the scale, as the derivative of the mean square's root gives it. -/
def through (x y : Fin 1024 → EReal) : EReal :=
  Ideal.div ((∑ j : Fin 1024, x j * y j) * (Ideal.ofBits .f32 0xBF000000#32 * Ideal.div (scale x) (mean x))) (Ideal.ofBits .f32 0x44800000#32)

theorem width : Ideal.ofBits .f32 0x44800000#32 = ((1024 : ℝ) : EReal) := by
  simp [Ideal.ofBits, Ideal.ieee]
  rw [← EReal.coe_mul]
  norm_num

theorem half : Ideal.ofBits .f32 0xBF000000#32 = ((-(1 / 2) : ℝ) : EReal) := by
  simp [Ideal.ofBits, Ideal.ieee]
  rw [← EReal.coe_mul]
  norm_num

theorem small : ∃ r : ℝ, 0 < r ∧ Ideal.ofBits .f32 0x358637BD#32 = (r : EReal) := by
  refine ⟨8796093 / 8796093022208, by norm_num, ?_⟩
  simp [Ideal.ofBits, Ideal.ieee]
  rw [← EReal.coe_mul]
  norm_num

theorem coe_sum {n : ℕ} (f : Fin n → ℝ) : (∑ i, (f i : EReal)) = ((∑ i, f i : ℝ) : EReal) := by
  induction n with
  | zero => simp
  | succ n ih => rw [Fin.sum_univ_succ (M := EReal), Fin.sum_univ_succ, ih, EReal.coe_add]

theorem div_real (a b : ℝ) (hb : b ≠ 0) : Ideal.div (a : EReal) (b : EReal) = ((a * b⁻¹ : ℝ) : EReal) := by
  unfold Ideal.div
  rw [if_neg (by exact_mod_cast hb), ← EReal.coe_inv, ← EReal.coe_mul]

/-- On a row of reals the mean square is positive and the scale is one over its root. -/
theorem scale_real (x : Fin 1024 → ℝ) : ∃ v r : ℝ, 0 < v ∧ r * r * v = 1 ∧ mean (fun e => (x e : EReal)) = (v : EReal) ∧ scale (fun e => (x e : EReal)) = (r : EReal) := by
  obtain ⟨s, hs, es⟩ := small
  have hv : 0 < (∑ e, x e * x e) * (1024 : ℝ)⁻¹ + s := by
    have := Finset.sum_nonneg (fun e (_ : e ∈ Finset.univ) => mul_self_nonneg (x e))
    positivity
  have hm : mean (fun e => (x e : EReal)) = (((∑ e, x e * x e) * (1024 : ℝ)⁻¹ + s : ℝ) : EReal) := by
    unfold mean
    rw [width, es]
    simp only [← EReal.coe_mul]
    rw [coe_sum, div_real _ _ (by norm_num), ← EReal.coe_add]
  refine ⟨_, (√((∑ e, x e * x e) * (1024 : ℝ)⁻¹ + s))⁻¹, hv, ?_, hm, ?_⟩
  · have h := Real.mul_self_sqrt hv.le
    have h0 : √((∑ e, x e * x e) * (1024 : ℝ)⁻¹ + s) ≠ 0 := (Real.sqrt_pos.2 hv).ne'
    generalize √((∑ e, x e * x e) * (1024 : ℝ)⁻¹ + s) = q at h h0
    rw [← h]
    field_simp
  · unfold scale
    rw [hm]
    show (if _ then _ else if _ then _ else _ : EReal) = _
    rw [if_neg (not_lt.2 hv.le), if_neg hv.ne']

/-- The gradient carried back through the norm: the closed form against the product rule. -/
theorem pull_eq {x y : Fin 1024 → EReal} (hx : ∀ e, IsReal (x e)) (hy : ∀ e, IsReal (y e)) (e : Fin 1024) :
    pull (unit x) y (scale x) e = y e * scale x + x e * through x y + through x y * x e := by
  choose a ha using hx
  choose b hb using hy
  obtain rfl : x = fun e => (a e : EReal) := funext ha
  obtain rfl : y = fun e => (b e : EReal) := funext hb
  obtain ⟨v, r, hv, hr, em, es⟩ := scale_real a
  unfold pull unit through
  rw [es, em, width, half]
  simp only [← EReal.coe_mul]
  rw [coe_sum, coe_sum, div_real r v hv.ne', div_real _ _ (by norm_num)]
  simp only [← EReal.coe_mul]
  rw [div_real _ _ (by norm_num)]
  simp only [← EReal.coe_mul, ← EReal.coe_sub, ← EReal.coe_add]
  have hs : ∑ j, b j * (a j * r) = (∑ j, a j * b j) * r := by
    rw [Finset.sum_mul]
    exact Finset.sum_congr rfl fun j _ => by ring
  rw [hs]
  have hq : v⁻¹ = r * r := by
    field_simp
    linarith
  rw [hq]
  congr 1
  have h3 : r * r * (r * r) * v = r * r := by rw [mul_assoc, hr, mul_one]
  ring

end Cert.Proof.RowNorm

end
-- ==== Proof.FfnUpDgradArray.lean ====
/-
  The gradient of the gate and up projection's input carried through the norm, the call's result arrays as functions of its
  arguments over the extended reals.
-/
module

public import proofs.«01_k».proof.Proof.Gen.FfnUpDgradIdeal.Value
public import proofs.«01_k».proof.Proof.RowNorm
public import Idealize.ShloMosaic.Lib.Pointwise
public import Idealize.ShloMosaic.Lib.Pipeline.ValueKit.Point
public import Idealize.ShloMosaic.Lib.Pipeline.ValueKit.Acc
public import Idealize.ShloMosaic.Lib.Pipeline.ValueKit.Tiles

@[expose] public section

set_option maxRecDepth 16384

noncomputable section

namespace Cert.FfnUpDgradIdeal.Array

open Cert.FfnUpDgradIdeal Cert.FfnUpDgradIdeal.Gen Cert.FfnUpDgradIdeal.Value Idealize.ShloMosaic Idealize.ShloMosaic.TcCoe Idealize.SL.Sem
open Idealize.ShloMosaic.Pipeline (Dat)
open Cert.Proof.RowNorm

theorem pay8_at (x : Vec Ideal S512x1024 .f32) (p : Fin 512) :
    @Eq EReal (k0_pay8 (F := Ideal) x (ix1 p)) (∑ e : Fin 1024, x (ix2 p e) * x (ix2 p e)) := by
  unfold k0_pay8
  pointwise

theorem pay1_at (x : Vec Ideal S512x1024 .f32) (p : Fin 512) (z : Fin 1) :
    @Eq EReal (k0_pay1 (F := Ideal) (k0_pay8 (F := Ideal) x) (ix2 p z)) (scale fun e => x (ix2 p e)) := by
  unfold scale mean
  rw [← pay8_at]
  unfold k0_pay1
  generalize k0_pay8 (F := Ideal) x = s
  pointwise

theorem pay2_at (x : Vec Ideal S512x1024 .f32) (p : Fin 512) (e : Fin 1024) :
    @Eq EReal (k0_pay2 x (k0_pay8 (F := Ideal) x) (ix2 p e)) (unit (fun e => x (ix2 p e)) e) := by
  unfold unit
  rw [← pay1_at x p 0]
  unfold k0_pay2
  generalize k0_pay1 (F := Ideal) (k0_pay8 (F := Ideal) x) = s
  pointwise

theorem unit_row (x : Vec Ideal S512x1024 .f32) (p : Fin 512) :
    unit (fun e => x (ix2 p e)) = fun e => k0_pay2 x (k0_pay8 (F := Ideal) x) (ix2 p e) := funext fun e => (pay2_at x p e).symm

theorem pay3_at (d x : Vec Ideal S512x1024 .f32) (g : Vec Ideal S1x1024 .f32) (r : Vec Ideal S512x1024 .f32) (p : Fin 512) (e : Fin 1024) :
    @Eq EReal (k0_pay3 d x (k0_pay8 (F := Ideal) x) g r (ix2 p e))
      (r (ix2 p e) + pull (unit fun e => x (ix2 p e)) (fun e => d (ix2 p e) * g (ix2 0 e)) (scale fun e => x (ix2 p e)) e) := by
  unfold pull
  rw [unit_row, ← pay1_at x p 0]
  unfold k0_pay3
  generalize k0_pay2 (F := Ideal) x (k0_pay8 (F := Ideal) x) = u
  generalize k0_pay1 (F := Ideal) (k0_pay8 (F := Ideal) x) = s
  pointwise

theorem pay4_at (d x : Vec Ideal S512x1024 .f32) (g : Vec Ideal S1x1024 .f32) (r : Vec Ideal S512x1024 .f32) (p : Fin 512) (e : Fin 1024) :
    @Eq EReal (k0_pay4 d x (k0_pay8 (F := Ideal) x) g r (ix2 p e))
      (r (ix2 p e) + pull (unit fun e => x (ix2 p e)) (fun e => d (ix2 p e) * g (ix2 0 e)) (scale fun e => x (ix2 p e)) e) := pay3_at d x g r p e

/-- One tile's share of the gain's gradient. -/
def share (d x : Vec Ideal S512x1024 .f32) : Vec Ideal S8x1024 .f32 :=
  fun y => (∑ s : Fin 64, d (ix2 ⟨s.val * 8 + (y 0).val, by have := (y 0).isLt; dsimp at this; omega⟩ (y 1))
    * unit (fun e => x (ix2 ⟨s.val * 8 + (y 0).val, by have := (y 0).isLt; dsimp at this; omega⟩ e)) (y 1) : EReal)

theorem pay5_at (d x : Vec Ideal S512x1024 .f32) (acc : Vec Ideal S8x1024 .f32) (y : S8x1024.Idx) :
    @Eq EReal (k0_pay5 d x (k0_pay8 (F := Ideal) x) acc y) (acc y + share d x y) := by
  obtain ⟨p, l, rfl⟩ : ∃ (p : Fin 8) (l : Fin 1024), y = ix2 p l := ⟨_, _, eq_ix2 (n0 := 8) (n1 := 1024) y⟩
  unfold share
  simp only [unit_row, ix2_0, ix2_1]
  unfold k0_pay5
  generalize k0_pay2 (F := Ideal) x (k0_pay8 (F := Ideal) x) = u
  pointwise

theorem pay7_at (v3 : Vec Ideal S512x1408 .bf16) (v4 : Vec Ideal S1x1x1024x1408 .bf16) (v6 : Vec Ideal S512x1408 .bf16) (v7 : Vec Ideal S1x1x1024x1408 .bf16)
    (v9 : Vec Ideal S512x1408 .bf16) (v10 : Vec Ideal S1x1x1024x1408 .bf16) (v12 : Vec Ideal S512x1408 .bf16) (v13 : Vec Ideal S1x1x1024x1408 .bf16) (p : Fin 512) (e : Fin 1024) :
    @Eq EReal (k0_pay7 v3 v4 v6 v7 v9 v10 v12 v13 (ix2 p e))
      ((∑ j : Fin 1408, v3 (ix2 p j) * v4 (ix4 0 0 e j)) + (∑ j : Fin 1408, v6 (ix2 p j) * v7 (ix4 0 0 e j))
        + (∑ j : Fin 1408, v9 (ix2 p j) * v10 (ix4 0 0 e j)) + (∑ j : Fin 1408, v12 (ix2 p j) * v13 (ix4 0 0 e j))) := by
  unfold k0_pay7
  pointwise

theorem pay6_at (y : S8x1024.Idx) : @Eq EReal (k0_pay6 (F := Ideal) y) 0 := by
  obtain ⟨p, l, rfl⟩ : ∃ (p : Fin 8) (l : Fin 1024), y = ix2 p l := ⟨_, _, eq_ix2 (n0 := 8) (n1 := 1024) y⟩
  unfold k0_pay6
  pointwise

/-- The four products of a tile: two column halves of either gradient with the four quarters of the weights. -/
def tile (x0 x1 : Vec Ideal S512x2816 .bf16) (x2 : Vec Ideal S1x4x1024x1408 .bf16) : FVec Ideal S512x1024 .f32 :=
  k0_pay7 (F := Ideal) (View.ld x0 (Rect.unit (s := S512x2816) ![0, 0] S512x1408.size inb_S512x2816_S512x1408_0_0))
    (View.ld x2 (Rect.unit (s := S1x4x1024x1408) ![0, 0, 0, 0] S1x1x1024x1408.size inb_S1x4x1024x1408_S1x1x1024x1408_0_0_0_0))
    (View.ld x0 (Rect.unit (s := S512x2816) ![0, 1408] S512x1408.size inb_S512x2816_S512x1408_0_1408))
    (View.ld x2 (Rect.unit (s := S1x4x1024x1408) ![0, 1, 0, 0] S1x1x1024x1408.size inb_S1x4x1024x1408_S1x1x1024x1408_0_1_0_0))
    (View.ld x1 (Rect.unit (s := S512x2816) ![0, 0] S512x1408.size inb_S512x2816_S512x1408_0_0))
    (View.ld x2 (Rect.unit (s := S1x4x1024x1408) ![0, 2, 0, 0] S1x1x1024x1408.size inb_S1x4x1024x1408_S1x1x1024x1408_0_2_0_0))
    (View.ld x1 (Rect.unit (s := S512x2816) ![0, 1408] S512x1408.size inb_S512x2816_S512x1408_0_1408))
    (View.ld x2 (Rect.unit (s := S1x4x1024x1408) ![0, 3, 0, 0] S1x1x1024x1408.size inb_S1x4x1024x1408_S1x1x1024x1408_0_3_0_0))

theorem ld_half (o : ℕ) (ho : o + 1408 ≤ 2816) (x : Vec Ideal S512x2816 .bf16) (inb) (p : Fin 512) (j : Fin 1408) :
    View.ld x (Rect.unit (s := S512x2816) ![0, o] S512x1408.size inb) (ix2 p j) = x (ix2 p ⟨o + j.val, by omega⟩) := by
  refine View.ld_unit_apply_of _ _ _ _ _ (ix2 p ⟨o + j.val, by omega⟩) fun b => ?_
  match b with
  | ⟨0, _⟩ => show p.val = 0 + p.val; omega
  | ⟨1, _⟩ => show o + j.val = o + j.val; rfl

theorem ld_quarter (q : Fin 4) (x : Vec Ideal S1x4x1024x1408 .bf16) (inb) (e : Fin 1024) (j : Fin 1408) :
    View.ld x (Rect.unit (s := S1x4x1024x1408) ![0, q.val, 0, 0] S1x1x1024x1408.size inb) (ix4 (0 : Fin 1) (0 : Fin 1) e j) = x (ix4 0 q e j) := by
  refine View.ld_unit_apply_of _ _ _ _ _ (ix4 0 q e j) fun b => ?_
  match b with
  | ⟨0, _⟩ => show 0 = 0 + 0; omega
  | ⟨1, _⟩ => show q.val = q.val + 0; omega
  | ⟨2, _⟩ => show e.val = 0 + e.val; omega
  | ⟨3, _⟩ => show j.val = 0 + j.val; omega

theorem part_at (o : ℕ) (ho : o + 1408 ≤ 2816) (q : Fin 4) (x : Vec Ideal S512x2816 .bf16) (w : Vec Ideal S1x4x1024x1408 .bf16) (inb) (inb') (p : Fin 512) (e : Fin 1024) :
    @Eq EReal (∑ j : Fin 1408, View.ld x (Rect.unit (s := S512x2816) ![0, o] S512x1408.size inb) (ix2 p j)
        * View.ld w (Rect.unit (s := S1x4x1024x1408) ![0, q.val, 0, 0] S1x1x1024x1408.size inb') (ix4 (0 : Fin 1) (0 : Fin 1) e j) : EReal)
      (∑ j : Fin 1408, x (ix2 p ⟨o + j.val, by omega⟩) * w (ix4 0 q e j) : EReal) :=
  Finset.sum_congr (M := EReal) rfl fun j _ => congrArg₂ (fun a b : EReal => a * b) (ld_half o ho x inb p j) (ld_quarter q w inb' e j)

theorem tile_at (x0 x1 : Vec Ideal S512x2816 .bf16) (x2 : Vec Ideal S1x4x1024x1408 .bf16) (p : Fin 512) (e : Fin 1024) :
    @Eq EReal (tile x0 x1 x2 (ix2 p e))
      ((∑ j : Fin 1408, x0 (ix2 p ⟨0 + j.val, by omega⟩) * x2 (ix4 0 0 e j)) + (∑ j : Fin 1408, x0 (ix2 p ⟨1408 + j.val, by omega⟩) * x2 (ix4 0 1 e j))
        + (∑ j : Fin 1408, x1 (ix2 p ⟨0 + j.val, by omega⟩) * x2 (ix4 0 2 e j)) + (∑ j : Fin 1408, x1 (ix2 p ⟨1408 + j.val, by omega⟩) * x2 (ix4 0 3 e j))) :=
  (pay7_at _ _ _ _ _ _ _ _ p e).trans
    (congrArg₂ (fun a b : EReal => a + b) (congrArg₂ (fun a b : EReal => a + b) (congrArg₂ (fun a b : EReal => a + b)
      (part_at 0 (by omega) 0 x0 x2 inb_S512x2816_S512x1408_0_0 inb_S1x4x1024x1408_S1x1x1024x1408_0_0_0_0 p e)
      (part_at 1408 (by omega) 1 x0 x2 inb_S512x2816_S512x1408_0_1408 inb_S1x4x1024x1408_S1x1x1024x1408_0_1_0_0 p e))
      (part_at 0 (by omega) 2 x1 x2 inb_S512x2816_S512x1408_0_0 inb_S1x4x1024x1408_S1x1x1024x1408_0_2_0_0 p e))
      (part_at 1408 (by omega) 3 x1 x2 inb_S512x2816_S512x1408_0_1408 inb_S1x4x1024x1408_S1x1x1024x1408_0_3_0_0 p e))

theorem hz2 : (![0, 0] : Fin 2 → Nat) = fun _ => 0 := funext fun a => by fin_cases a <;> rfl

section Cases
variable (d : Dev nD) (i : grid0.Coords) (a0 : Memref sig .tc .vmem S512x2816 .bf16) (h0 : a0.IsWhole) (a1 : Memref sig .tc .vmem S512x2816 .bf16) (h1 : a1.IsWhole)
  (a2 : Memref sig .tc .vmem S1x4x1024x1408 .bf16) (h2 : a2.IsWhole) (a3 : Memref sig .tc .vmem S512x1024 .f32) (h3 : a3.IsWhole) (a4 : Memref sig .tc .vmem S1x1024 .f32) (h4 : a4.IsWhole)
  (a5 : Memref sig .tc .vmem S512x1024 .f32) (h5 : a5.IsWhole) (a6 : Memref sig .tc .vmem S512x1024 .f32) (h6 : a6.IsWhole) (a7 : Memref sig .tc .vmem S512x1024 .bf16) (h7 : a7.IsWhole)
  (a8 : Memref sig .tc .vmem S8x1024 .f32) (h8 : a8.IsWhole)
  (x0 x1 : Vec Ideal S512x2816 .bf16) (x2 : Vec Ideal S1x4x1024x1408 .bf16) (x3 : Vec Ideal S512x1024 .f32) (x4 : Vec Ideal S1x1024 .f32) (x5 : Vec Ideal S512x1024 .f32) (acc : Vec Ideal S8x1024 .f32)

theorem out_A_6 (c : cond0_0 i) :
    out0_A_6 (F := Ideal) d i a0 h0 a1 h1 a2 h2 a3 h3 a4 h4 a5 h5 a6 h6 a7 h7 a8 h8 c x0 x1 x2 x3 x4 x5 = k0_pay3 (F := Ideal) (tile x0 x1 x2) x3 (k0_pay8 (F := Ideal) x3) x4 x5 := by
  unfold out0_A_6
  rw [View.read_writes_eq_canon _ _ _ (cover0_A_6 d i a0 h0 a1 h1 a2 h2 a3 h3 a4 h4 a5 h5 a6 h6 a7 h7 a8 h8 c x0 x1 x2 x3 x4 x5)]
  unfold kernelRun0_A tile
  dsimp only
  try sl_unfold_words
  rw [View.canon_unit_zero (S := S512x1024) hz2]
  simp only [View.readAt_eq_ld, h0.read_unread, h1.read_unread, h2.read_unread, h3.read_unread, h4.read_unread, h5.read_unread, h6.read_unread, h7.read_unread, h8.read_unread, View.ld_unit_zero (S := S512x1024) hz2, View.ld_unit_zero (S := S1x1024) hz2, View.ld_unit_zero (S := S8x1024) hz2]

theorem out_A_7 (c : cond0_0 i) :
    out0_A_7 (F := Ideal) d i a0 h0 a1 h1 a2 h2 a3 h3 a4 h4 a5 h5 a6 h6 a7 h7 a8 h8 c x0 x1 x2 x3 x4 x5 = k0_pay4 (F := Ideal) (tile x0 x1 x2) x3 (k0_pay8 (F := Ideal) x3) x4 x5 := by
  unfold out0_A_7
  rw [View.read_writes_eq_canon _ _ _ (cover0_A_7 d i a0 h0 a1 h1 a2 h2 a3 h3 a4 h4 a5 h5 a6 h6 a7 h7 a8 h8 c x0 x1 x2 x3 x4 x5)]
  unfold kernelRun0_A tile
  dsimp only
  try sl_unfold_words
  rw [View.canon_unit_zero (S := S512x1024) hz2]
  simp only [View.readAt_eq_ld, h0.read_unread, h1.read_unread, h2.read_unread, h3.read_unread, h4.read_unread, h5.read_unread, h6.read_unread, h7.read_unread, h8.read_unread, View.ld_unit_zero (S := S512x1024) hz2, View.ld_unit_zero (S := S1x1024) hz2, View.ld_unit_zero (S := S8x1024) hz2]

theorem out_A_8 (c : cond0_0 i) :
    out0_A_8 (F := Ideal) d i a0 h0 a1 h1 a2 h2 a3 h3 a4 h4 a5 h5 a6 h6 a7 h7 a8 h8 c x0 x1 x2 x3 x4 x5 = k0_pay5 (F := Ideal) (tile x0 x1 x2) x3 (k0_pay8 (F := Ideal) x3) (k0_pay6 (F := Ideal)) := by
  unfold out0_A_8
  rw [View.read_writes_eq_canon _ _ _ (cover0_A_8 d i a0 h0 a1 h1 a2 h2 a3 h3 a4 h4 a5 h5 a6 h6 a7 h7 a8 h8 c x0 x1 x2 x3 x4 x5)]
  unfold kernelRun0_A tile
  dsimp only
  try sl_unfold_words
  rw [View.canon_cons_unit_zero (S := S8x1024) hz2, View.readCov_unit_zero (S := S8x1024) _ hz2]
  simp only [View.readAt_eq_ld, h0.read_unread, h1.read_unread, h2.read_unread, h3.read_unread, h4.read_unread, h5.read_unread, h6.read_unread, h7.read_unread, h8.read_unread, View.ld_unit_zero (S := S512x1024) hz2, View.ld_unit_zero (S := S1x1024) hz2, View.ld_unit_zero (S := S8x1024) hz2]

theorem out_B_6 (c : ¬cond0_0 i) :
    out0_B_6 (F := Ideal) d i a0 h0 a1 h1 a2 h2 a3 h3 a4 h4 a5 h5 a6 h6 a7 h7 a8 h8 c x0 x1 x2 x3 x4 x5 acc = k0_pay3 (F := Ideal) (tile x0 x1 x2) x3 (k0_pay8 (F := Ideal) x3) x4 x5 := by
  unfold out0_B_6
  rw [View.read_writes_eq_canon _ _ _ (cover0_B_6 d i a0 h0 a1 h1 a2 h2 a3 h3 a4 h4 a5 h5 a6 h6 a7 h7 a8 h8 c x0 x1 x2 x3 x4 x5 acc)]
  unfold kernelRun0_B tile
  dsimp only
  try sl_unfold_words
  rw [View.canon_unit_zero (S := S512x1024) hz2]
  simp only [View.readAt_eq_ld, h0.read_unread, h1.read_unread, h2.read_unread, h3.read_unread, h4.read_unread, h5.read_unread, h6.read_unread, h7.read_unread, h8.read_unread, View.ld_unit_zero (S := S512x1024) hz2, View.ld_unit_zero (S := S1x1024) hz2, View.ld_unit_zero (S := S8x1024) hz2]

theorem out_B_7 (c : ¬cond0_0 i) :
    out0_B_7 (F := Ideal) d i a0 h0 a1 h1 a2 h2 a3 h3 a4 h4 a5 h5 a6 h6 a7 h7 a8 h8 c x0 x1 x2 x3 x4 x5 acc = k0_pay4 (F := Ideal) (tile x0 x1 x2) x3 (k0_pay8 (F := Ideal) x3) x4 x5 := by
  unfold out0_B_7
  rw [View.read_writes_eq_canon _ _ _ (cover0_B_7 d i a0 h0 a1 h1 a2 h2 a3 h3 a4 h4 a5 h5 a6 h6 a7 h7 a8 h8 c x0 x1 x2 x3 x4 x5 acc)]
  unfold kernelRun0_B tile
  dsimp only
  try sl_unfold_words
  rw [View.canon_unit_zero (S := S512x1024) hz2]
  simp only [View.readAt_eq_ld, h0.read_unread, h1.read_unread, h2.read_unread, h3.read_unread, h4.read_unread, h5.read_unread, h6.read_unread, h7.read_unread, h8.read_unread, View.ld_unit_zero (S := S512x1024) hz2, View.ld_unit_zero (S := S1x1024) hz2, View.ld_unit_zero (S := S8x1024) hz2]

theorem out_B_8 (c : ¬cond0_0 i) :
    out0_B_8 (F := Ideal) d i a0 h0 a1 h1 a2 h2 a3 h3 a4 h4 a5 h5 a6 h6 a7 h7 a8 h8 c x0 x1 x2 x3 x4 x5 acc = k0_pay5 (F := Ideal) (tile x0 x1 x2) x3 (k0_pay8 (F := Ideal) x3) acc := by
  unfold out0_B_8
  rw [View.read_writes_eq_canon _ _ _ (cover0_B_8 d i a0 h0 a1 h1 a2 h2 a3 h3 a4 h4 a5 h5 a6 h6 a7 h7 a8 h8 c x0 x1 x2 x3 x4 x5 acc)]
  unfold kernelRun0_B tile
  dsimp only
  try sl_unfold_words
  rw [View.canon_unit_zero (S := S8x1024) hz2]
  simp only [View.readAt_eq_ld, h0.read_unread, h1.read_unread, h2.read_unread, h3.read_unread, h4.read_unread, h5.read_unread, h6.read_unread, h7.read_unread, h8.read_unread, View.ld_unit_zero (S := S512x1024) hz2, View.ld_unit_zero (S := S1x1024) hz2, View.ld_unit_zero (S := S8x1024) hz2]

end Cases

variable (m : (ℓ : Loc nD τ sig) → Buf (Elt Ideal) ℓ) (ρ : Dev nD → PrngReg)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0, 0, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![0, 0] := (by decide +kernel : ∀ t : Fin grid0.N, _)

abbrev dgArg (c : Dev nD) : Vec Ideal S8192x2816 .bf16 := m ((c.tc : Thread nD τ).loc main_arg0)
abbrev duArg (c : Dev nD) : Vec Ideal S8192x2816 .bf16 := m ((c.tc : Thread nD τ).loc main_arg1)
abbrev wArg (c : Dev nD) : Vec Ideal S1x4x1024x1408 .bf16 := m ((c.tc : Thread nD τ).loc main_arg2)
abbrev xArg (c : Dev nD) : Vec Ideal S8192x1024 .f32 := m ((c.tc : Thread nD τ).loc main_arg3)
abbrev gainArg (c : Dev nD) : Vec Ideal S1x1024 .f32 := m ((c.tc : Thread nD τ).loc main_arg4)
abbrev dresArg (c : Dev nD) : Vec Ideal S8192x1024 .f32 := m ((c.tc : Thread nD τ).loc main_arg5)

/-- The gradient at the projection's input: two column halves of either gradient with the four quarters of the weights. -/
def dh (dg du : Vec Ideal S8192x2816 .bf16) (w : Vec Ideal S1x4x1024x1408 .bf16) (t : Fin 8192) (e : Fin 1024) : EReal :=
  (∑ j : Fin 1408, dg (ix2 t ⟨0 + j.val, by omega⟩) * w (ix4 0 0 e j)) + (∑ j : Fin 1408, dg (ix2 t ⟨1408 + j.val, by omega⟩) * w (ix4 0 1 e j))
    + (∑ j : Fin 1408, du (ix2 t ⟨0 + j.val, by omega⟩) * w (ix4 0 2 e j)) + (∑ j : Fin 1408, du (ix2 t ⟨1408 + j.val, by omega⟩) * w (ix4 0 3 e j))

/-- A row of the array the norm was taken of. -/
def row (x : Vec Ideal S8192x1024 .f32) (t : Fin 8192) (e : Fin 1024) : EReal := x (ix2 t e)

/-- The gradient of a row before the norm, with the residual's gradient. -/
def dxAt (dg du : Vec Ideal S8192x2816 .bf16) (w : Vec Ideal S1x4x1024x1408 .bf16) (x : Vec Ideal S8192x1024 .f32) (gain : Vec Ideal S1x1024 .f32)
    (dres : Vec Ideal S8192x1024 .f32) (t : Fin 8192) (e : Fin 1024) : EReal :=
  dres (ix2 t e) + pull (unit (row x t)) (fun j => dh dg du w t j * gain (ix2 0 j)) (scale (row x t)) e

def dx (dg du : Vec Ideal S8192x2816 .bf16) (w : Vec Ideal S1x4x1024x1408 .bf16) (x : Vec Ideal S8192x1024 .f32) (gain : Vec Ideal S1x1024 .f32)
    (dres : Vec Ideal S8192x1024 .f32) : Vec Ideal S8192x1024 .f32 := fun i => dxAt dg du w x gain dres (i 0) (i 1)

def dx16 (dg du : Vec Ideal S8192x2816 .bf16) (w : Vec Ideal S1x4x1024x1408 .bf16) (x : Vec Ideal S8192x1024 .f32) (gain : Vec Ideal S1x1024 .f32)
    (dres : Vec Ideal S8192x1024 .f32) : Vec Ideal S8192x1024 .bf16 := fun i => dxAt dg du w x gain dres (i 0) (i 1)

/-- The gain's gradient in eight partial sums: the rows of one residue modulo eight each. -/
def dgain (dg du : Vec Ideal S8192x2816 .bf16) (w : Vec Ideal S1x4x1024x1408 .bf16) (x : Vec Ideal S8192x1024 .f32) : Vec Ideal S8x1024 .f32 :=
  fun i => (∑ s : Fin 1024, dh dg du w ⟨s.val * 8 + (i 0).val, by have := (i 0).isLt; dsimp at this; omega⟩ (i 1)
    * unit (row x ⟨s.val * 8 + (i 0).val, by have := (i 0).isLt; dsimp at this; omega⟩) (i 1) : EReal)

theorem place6 (t : Fin cfg0.N) (X : Vec Ideal S8192x1024 .f32) (p : Fin 512) (e : Fin 1024) (h : 512 * t.val + p.val < 8192) :
    X ((win0_6.blk t).view.emb (ix2 p e)) = X (ix2 ⟨512 * t.val + p.val, h⟩ e) := by
  blk_ext [index6 t]

theorem place7 (t : Fin cfg0.N) (X : Vec Ideal S8192x1024 .bf16) (p : Fin 512) (e : Fin 1024) (h : 512 * t.val + p.val < 8192) :
    X ((win0_7.blk t).view.emb (ix2 p e)) = X (ix2 ⟨512 * t.val + p.val, h⟩ e) := by
  blk_ext [index7 t]

theorem place8 (t : Fin cfg0.N) (X : Vec Ideal S8x1024 .f32) (p : Fin 8) (e : Fin 1024) :
    X ((win0_8.blk t).view.emb (ix2 p e)) = X (ix2 p e) := by
  blk_ext [index8 t]

theorem blk0 (c : Dev nD) (t : Fin cfg0.N) (p : Fin 512) (l : Fin 2816) (h : 512 * t.val + p.val < 8192) :
    iblk m c 0 t (ix2 p l) = dgArg m c (ix2 ⟨512 * t.val + p.val, h⟩ l) := by
  blk_ext! [iblk, V_main_arg0, index0 t]

theorem blk1 (c : Dev nD) (t : Fin cfg0.N) (p : Fin 512) (l : Fin 2816) (h : 512 * t.val + p.val < 8192) :
    iblk m c 1 t (ix2 p l) = duArg m c (ix2 ⟨512 * t.val + p.val, h⟩ l) := by
  blk_ext! [iblk, V_main_arg1, index1 t]

theorem blk2 (c : Dev nD) (t : Fin cfg0.N) (q : Fin 4) (e : Fin 1024) (j : Fin 1408) :
    iblk m c 2 t (ix4 0 q e j) = wArg m c (ix4 0 q e j) := by
  blk_ext! [iblk, V_main_arg2, index2 t]

theorem blk3 (c : Dev nD) (t : Fin cfg0.N) (p : Fin 512) (l : Fin 1024) (h : 512 * t.val + p.val < 8192) :
    iblk m c 3 t (ix2 p l) = xArg m c (ix2 ⟨512 * t.val + p.val, h⟩ l) := by
  blk_ext! [iblk, V_main_arg3, index3 t]

theorem blk4 (c : Dev nD) (t : Fin cfg0.N) (e : Fin 1024) : iblk m c 4 t (ix2 0 e) = gainArg m c (ix2 0 e) := by
  blk_ext! [iblk, V_main_arg4, index4 t]

theorem blk5 (c : Dev nD) (t : Fin cfg0.N) (p : Fin 512) (l : Fin 1024) (h : 512 * t.val + p.val < 8192) :
    iblk m c 5 t (ix2 p l) = dresArg m c (ix2 ⟨512 * t.val + p.val, h⟩ l) := by
  blk_ext! [iblk, V_main_arg5, index5 t]

/-- The tile of a point of the grid. -/
theorem tile_eq (c : Dev nD) (t : Fin cfg0.N) (p : Fin 512) (e : Fin 1024) (h : 512 * t.val + p.val < 8192) :
    @Eq EReal (tile (iblk m c 0 t) (iblk m c 1 t) (iblk m c 2 t) (ix2 p e)) (dh (dgArg m c) (duArg m c) (wArg m c) ⟨512 * t.val + p.val, h⟩ e) := by
  refine (tile_at _ _ _ p e).trans ?_
  unfold dh
  refine congrArg₂ (fun a b : EReal => a + b) (congrArg₂ (fun a b : EReal => a + b) (congrArg₂ (fun a b : EReal => a + b) ?_ ?_) ?_) ?_
  all_goals
    refine Finset.sum_congr (M := EReal) rfl fun j _ => ?_
    first
      | rw [blk0 m c t p _ h, blk2]
      | rw [blk1 m c t p _ h, blk2]

theorem row_eq (c : Dev nD) (t : Fin cfg0.N) (p : Fin 512) (h : 512 * t.val + p.val < 8192) :
    (fun e => (iblk m c 3 t (ix2 p e) : EReal)) = row (xArg m c) ⟨512 * t.val + p.val, h⟩ :=
  funext fun e => blk3 m c t p e h

/-- What a point of the grid stores, entry by entry. -/
theorem stored (c : Dev nD) (t : Fin cfg0.N) (p : Fin 512) (e : Fin 1024) (h : 512 * t.val + p.val < 8192) :
    @Eq EReal (k0_pay3 (F := Ideal) (tile (iblk m c 0 t) (iblk m c 1 t) (iblk m c 2 t)) (iblk m c 3 t) (k0_pay8 (F := Ideal) (iblk m c 3 t)) (iblk m c 4 t) (iblk m c 5 t) (ix2 p e))
      (dxAt (dgArg m c) (duArg m c) (wArg m c) (xArg m c) (gainArg m c) (dresArg m c) ⟨512 * t.val + p.val, h⟩ e) := by
  refine (pay3_at _ _ _ _ p e).trans ?_
  unfold dxAt
  refine congrArg₂ (fun a b : EReal => a + b) (blk5 m c t p e h) ?_
  have hy : (fun j : Fin 1024 => (tile (iblk m c 0 t) (iblk m c 1 t) (iblk m c 2 t) (ix2 p j) * iblk m c 4 t (ix2 0 j) : EReal))
      = fun j => dh (dgArg m c) (duArg m c) (wArg m c) ⟨512 * t.val + p.val, h⟩ j * gainArg m c (ix2 0 j) :=
    funext fun j => congrArg₂ (fun a b : EReal => a * b) (tile_eq m c t p j h) (blk4 m c t j)
  exact congrArg₂ (fun r y => pull (unit r) y (scale r) e) (row_eq m c t p h) hy

theorem final6 (c : Dev nD) : (dats m 0 c).arrAt 6 cfg0.N = dx (dgArg m c) (duArg m c) (wArg m c) (xArg m c) (gainArg m c) (dresArg m c) :=
  (dats m 0 c).arrAt_eq_of_covers 6 _ (by decide +kernel) fun t hf y => by
    blk_simp
    rw [after0_6]
    have ht : t.val < 16 := t.isLt.trans_eq N_0
    obtain ⟨p, l, rfl⟩ : ∃ (p : Fin 512) (l : Fin 1024), y = ix2 p l := ⟨_, _, eq_ix2 (n0 := 512) (n1 := 1024) y⟩
    refine Eq.trans ?_ (place6 t _ p l (by omega)).symm
    by_cases h0 : t.val % 16 = 0
    · rw [outsAt0_A m c t h0]
      dsimp only
      rw [out_A_6]
      exact stored m c t p l _
    · rw [outsAt0_B m c t h0]
      dsimp only
      rw [out_B_6]
      exact stored m c t p l _

theorem final7 (c : Dev nD) : (dats m 0 c).arrAt 7 cfg0.N = dx16 (dgArg m c) (duArg m c) (wArg m c) (xArg m c) (gainArg m c) (dresArg m c) :=
  (dats m 0 c).arrAt_eq_of_covers 7 _ (by decide +kernel) fun t hf y => by
    blk_simp
    rw [after0_7]
    have ht : t.val < 16 := t.isLt.trans_eq N_0
    obtain ⟨p, l, rfl⟩ : ∃ (p : Fin 512) (l : Fin 1024), y = ix2 p l := ⟨_, _, eq_ix2 (n0 := 512) (n1 := 1024) y⟩
    refine Eq.trans ?_ (place7 t _ p l (by omega)).symm
    by_cases h0 : t.val % 16 = 0
    · rw [outsAt0_A m c t h0]
      dsimp only
      rw [out_A_7]
      exact stored m c t p l _
    · rw [outsAt0_B m c t h0]
      dsimp only
      rw [out_B_7]
      exact stored m c t p l _

/-- A point's share of the gain's gradient. -/
def shareAt (c : Dev nD) (t : Fin cfg0.N) : Vec Ideal S8x1024 .f32 := share (tile (iblk m c 0 t) (iblk m c 1 t) (iblk m c 2 t)) (iblk m c 3 t)

theorem shareAt_eq (c : Dev nD) (t : Fin cfg0.N) (i : Fin 8) (e : Fin 1024) (ht : t.val < 16) :
    @Eq EReal (shareAt m c t (ix2 i e))
      (∑ s : Fin 64, dh (dgArg m c) (duArg m c) (wArg m c) ⟨512 * t.val + (s.val * 8 + i.val), by omega⟩ e
        * unit (row (xArg m c) ⟨512 * t.val + (s.val * 8 + i.val), by omega⟩) e) := by
  unfold shareAt share
  refine Finset.sum_congr (M := EReal) rfl fun s _ => ?_
  exact congrArg₂ (fun a b : EReal => a * b) (tile_eq m c t ⟨s.val * 8 + i.val, by omega⟩ e (by dsimp only; omega))
    (congrArg (fun r => unit r e) (row_eq m c t ⟨s.val * 8 + i.val, by omega⟩ (by dsimp only; omega)))

theorem final8 (c : Dev nD) : (dats m 0 c).arrAt 8 cfg0.N = dgain (dgArg m c) (duArg m c) (wArg m c) (xArg m c) :=
  (dats m 0 c).arrAt_eq_of_covers 8 _ (by decide +kernel) fun t hf y => by
    blk_simp
    rw [after0_8]
    rw [Pipeline.eq_sum_fin_of_reset_step_apply_of_flush (fun n h => (outsAt0 m c n h).2.2) 16 (fun _ => 0)
      (fun t => shareAt m c t) (fun t h j => by
        rw [outsAt0_A m c t h]
        dsimp only
        rw [out_A_8]
        exact (pay5_at _ _ _ j).trans (congrArg (· + _) (pay6_at j))) (fun t h j => by
        rw [outsAt0_B m c t h]
        dsimp only
        rw [out_B_8]
        exact pay5_at _ _ _ j) t ((flush0_8 t).mp hf) y]
    obtain ⟨p, l, rfl⟩ : ∃ (p : Fin 8) (l : Fin 1024), y = ix2 p l := ⟨_, _, eq_ix2 (n0 := 8) (n1 := 1024) y⟩
    have ht : t.val < 16 := t.isLt.trans_eq N_0
    refine Eq.trans ?_ (place8 t _ p l).symm
    refine (zero_add (M := EReal) _).trans ?_
    unfold dgain
    simp only [ix2_0, ix2_1]
    refine (Finset.sum_congr (M := EReal) rfl fun s _ => shareAt_eq m c ⟨16 * (t.val / 16) + s.val, lt_of_lt_of_eq (by omega : _ < 16) N_0.symm⟩ p l (by dsimp only; omega)).trans ?_
    refine Fin.sum_mul_add_congr (M := EReal) fun s k hk => ?_
    have hq : ∀ h, (⟨512 * (16 * (t.val / 16) + s.val) + (k.val * 8 + p.val), h⟩ : Fin 8192) = ⟨(s.val * 64 + k.val) * 8 + p.val, by omega⟩ := fun h => Fin.ext (by dsimp only; omega)
    simp only [hq]

end Cert.FfnUpDgradIdeal.Array

end
-- ==== Proof.FfnUpDgradClaims.lean ====
/-
  The claims about the backward call of the gate and up projection and its norm: the call runs, and over the extended
  reals its three results are the reference's on finite arguments.
-/
module

public import proofs.«01_k».proof.Defs
public import proofs.«01_k».proof.Proof.Gen.Pre_up_dgrad_finite
public import proofs.«01_k».proof.Proof.Gen.FfnUpDgrad.Frame
public import proofs.«01_k».proof.Proof.Gen.FfnUpDgradIdeal.Frame
public import proofs.«01_k».proof.Proof.Gen.FfnUpDgradIdeal.Value
public import proofs.«01_k».proof.Proof.Gen.FfnUpDgradRefIdeal.Run
public import proofs.«01_k».proof.Proof.Gen.FfnUpDgradRefIdeal.Read
public import proofs.«01_k».proof.Proof.FfnReal
public import proofs.«01_k».proof.Proof.FfnUpDgradArray
public import Idealize.ShloMosaic.Adequacy

@[expose] public section

set_option maxRecDepth 16384

noncomputable section

namespace Cert.Proof.FfnUpDgrad

open Idealize.ShloMosaic Idealize.SL.Sem Cert.FfnUpDgradRefIdeal.Read Cert.FfnUpDgradIdeal.Array Cert.Proof.Reals Cert.Proof.RowNorm

/-- The precondition, read: every entry of the first five arguments is a real. -/
theorem finite (x0 x1 : FVec Ideal Cert.Pre_up_dgrad_finite.S8192x2816 .bf16) (x2 : FVec Ideal Cert.Pre_up_dgrad_finite.S1x4x1024x1408 .bf16)
    (x3 : FVec Ideal Cert.Pre_up_dgrad_finite.S8192x1024 .f32) (x4 : FVec Ideal Cert.Pre_up_dgrad_finite.S1x1024 .f32) (x5 : FVec Ideal Cert.Pre_up_dgrad_finite.S8192x1024 .f32)
    (h : Cert.Pre_up_dgrad_finite.fn (F := Ideal) x0 x1 x2 x3 x4 x5 = fun _ => 1#1) :
    (∀ i, IsReal (x0 i)) ∧ (∀ i, IsReal (x1 i)) ∧ (∀ i, IsReal (x2 i)) ∧ (∀ i, IsReal (x3 i)) ∧ (∀ i, IsReal (x4 i)) := by
  simp only [Cert.Pre_up_dgrad_finite.fn, Cert.Pre_up_dgrad_finite.fn_part1] at h
  have hj := Host.reduce_andi_all _ _ _ _ ix0 (congrFun h ix0)
  refine ⟨fun i => ?_, fun i => ?_, fun i => ?_, fun i => ?_, fun i => ?_⟩
  · obtain ⟨a, b, rfl⟩ : ∃ (a : Fin 8192) (b : Fin 2816), i = ix2 a b := ⟨_, _, eq_ix2 (n0 := 8192) (n1 := 2816) i⟩
    have hk := hj (ix1 0)
    pointwise at hk
    have e := bit_of_fold_univ _ hk (a, b)
    exact isReal_of_lt (of_bit e)
  · obtain ⟨a, b, rfl⟩ : ∃ (a : Fin 8192) (b : Fin 2816), i = ix2 a b := ⟨_, _, eq_ix2 (n0 := 8192) (n1 := 2816) i⟩
    have hk := hj (ix1 1)
    pointwise at hk
    have e := bit_of_fold_univ _ hk (a, b)
    exact isReal_of_lt (of_bit e)
  · have hk := hj (ix1 2)
    pointwise at hk
    exact isReal_of_lt (of_bit (bit_of_fold _ _ hk i (Finset.mem_filter.mpr ⟨Finset.mem_univ _, Subsingleton.elim _ _⟩)))
  · obtain ⟨a, b, rfl⟩ : ∃ (a : Fin 8192) (b : Fin 1024), i = ix2 a b := ⟨_, _, eq_ix2 (n0 := 8192) (n1 := 1024) i⟩
    have hk := hj (ix1 3)
    pointwise at hk
    have e := bit_of_fold_univ _ hk (a, b)
    exact isReal_of_lt (of_bit e)
  · obtain ⟨a, b, rfl⟩ : ∃ (a : Fin 1) (b : Fin 1024), i = ix2 a b := ⟨_, _, eq_ix2 (n0 := 1) (n1 := 1024) i⟩
    have hk := hj (ix1 4)
    pointwise at hk
    have e := bit_of_fold_univ _ hk (a, b)
    exact isReal_of_lt (of_bit e)

/-- A sum over a row of a gradient as the sums over its two halves. -/
theorem halves (f : Fin 2816 → EReal) :
    ∑ k, f k = (∑ j : Fin 1408, f ⟨0 + j.val, by omega⟩) + ∑ j : Fin 1408, f ⟨1408 + j.val, by omega⟩ := by
  refine (Fin.sum_univ_add (M := EReal) (a := 1408) (b := 1408) f).trans ?_
  refine congrArg₂ (fun a b : EReal => a + b) (Finset.sum_congr (M := EReal) rfl fun j _ => ?_) rfl
  exact congrArg f (Fin.ext (Nat.zero_add _).symm)

section Reference

variable (x0 x1 : Vec Ideal Cert.FfnUpDgradRefIdeal.S8192x2816 .bf16) (x2 : Vec Ideal Cert.FfnUpDgradRefIdeal.S1x4x1024x1408 .bf16)
variable (x3 : Vec Ideal Cert.FfnUpDgradRefIdeal.S8192x1024 .f32) (x4 : Vec Ideal Cert.FfnUpDgradRefIdeal.S1x1024 .f32) (x5 : Vec Ideal Cert.FfnUpDgradRefIdeal.S8192x1024 .f32)
variable (t : Fin 8192) (e : Fin 1024)

theorem dh_at : @Eq EReal (val_main_v26 (F := Ideal) x0 x1 x2 (ix2 t e)) (dh x0 x1 x2 t e) := by
  pointwise [val_main_v26, val_main_v6, val_main_v5, val_main_v3, val_main_v2, val_main_v1, val_main_v0]
  refine (congrArg₂ (fun a b : EReal => a + b) (halves _) (halves _)).trans ((add_assoc (G := EReal) _ _ _).symm.trans ?_)
  unfold dh
  have q0 : ∀ (j : Fin 1408) h h', (ix4 0 ⟨(0 + j.val) / 1408, h⟩ e ⟨(0 + j.val) % 1408, h'⟩ : Cert.FfnUpDgradRefIdeal.S1x4x1024x1408.Idx) = ix4 0 0 e j := fun j h h' =>
    congrArg₂ (fun (a : Fin 4) (b : Fin 1408) => ix4 (0 : Fin 1) a e b) (Fin.ext (by show (0 + j.val) / 1408 = 0; omega)) (Fin.ext (by show (0 + j.val) % 1408 = j.val; omega))
  have q1 : ∀ (j : Fin 1408) h h', (ix4 0 ⟨(1408 + j.val) / 1408, h⟩ e ⟨(1408 + j.val) % 1408, h'⟩ : Cert.FfnUpDgradRefIdeal.S1x4x1024x1408.Idx) = ix4 0 1 e j := fun j h h' =>
    congrArg₂ (fun (a : Fin 4) (b : Fin 1408) => ix4 (0 : Fin 1) a e b) (Fin.ext (by show (1408 + j.val) / 1408 = 1; omega)) (Fin.ext (by show (1408 + j.val) % 1408 = j.val; omega))
  have q2 : ∀ (j : Fin 1408) h h', (ix4 0 ⟨(2816 + (0 + j.val)) / 1408, h⟩ e ⟨(2816 + (0 + j.val)) % 1408, h'⟩ : Cert.FfnUpDgradRefIdeal.S1x4x1024x1408.Idx) = ix4 0 2 e j := fun j h h' =>
    congrArg₂ (fun (a : Fin 4) (b : Fin 1408) => ix4 (0 : Fin 1) a e b) (Fin.ext (by show (2816 + (0 + j.val)) / 1408 = 2; omega)) (Fin.ext (by show (2816 + (0 + j.val)) % 1408 = j.val; omega))
  have q3 : ∀ (j : Fin 1408) h h', (ix4 0 ⟨(2816 + (1408 + j.val)) / 1408, h⟩ e ⟨(2816 + (1408 + j.val)) % 1408, h'⟩ : Cert.FfnUpDgradRefIdeal.S1x4x1024x1408.Idx) = ix4 0 3 e j := fun j h h' =>
    congrArg₂ (fun (a : Fin 4) (b : Fin 1408) => ix4 (0 : Fin 1) a e b) (Fin.ext (by show (2816 + (1408 + j.val)) / 1408 = 3; omega)) (Fin.ext (by show (2816 + (1408 + j.val)) % 1408 = j.val; omega))
  refine congrArg₂ (fun a b : EReal => a + b) (congrArg₂ (fun a b : EReal => a + b) (congrArg₂ (fun a b : EReal => a + b) ?_ ?_) ?_) ?_
  · exact Finset.sum_congr (M := EReal) rfl fun j _ => congrArg (fun i => (x0 _ * x2 i : EReal)) (q0 j _ _)
  · exact Finset.sum_congr (M := EReal) rfl fun j _ => congrArg (fun i => (x0 _ * x2 i : EReal)) (q1 j _ _)
  · exact Finset.sum_congr (M := EReal) rfl fun j _ => congrArg (fun i => (x1 _ * x2 i : EReal)) (q2 j _ _)
  · exact Finset.sum_congr (M := EReal) rfl fun j _ => congrArg (fun i => (x1 _ * x2 i : EReal)) (q3 j _ _)

theorem mean_at (z : Fin 1) : @Eq EReal (val_main_v13 (F := Ideal) x3 (ix2 t z)) (mean (row x3 t)) := by
  unfold mean row
  pointwise [val_main_v13, val_main_v12, val_main_cst_1, val_main_v11, val_main_v10, val_main_cst_0, val_main_v9, val_main_v8, val_main_cst, val_main_v7]

theorem scale_at (z : Fin 1) : @Eq EReal (val_main_v14 (F := Ideal) x3 (ix2 t z)) (scale (row x3 t)) := by
  unfold scale
  rw [← mean_at x3 t z]
  rfl

theorem unit_at : @Eq EReal (val_main_v19 (F := Ideal) x3 (ix2 t e)) (unit (row x3 t) e) := by
  unfold unit
  rw [← scale_at x3 t 0]
  pointwise [val_main_v19, val_main_v18, row]

theorem in_at : @Eq EReal (val_main_v34 (F := Ideal) x0 x1 x2 x4 (ix2 t e)) (dh x0 x1 x2 t e * x4 (ix2 0 e)) := by
  rw [← dh_at]
  generalize hv : val_main_v26 (F := Ideal) x0 x1 x2 = v
  pointwise [val_main_v34, val_main_v32, val_main_v31, val_main_v27, val_main_v21, val_main_v4, hv]

theorem gain_at (i : Fin 8) : @Eq EReal (val_main_v33 (F := Ideal) x0 x1 x2 x3 (ix2 i e))
    (∑ s : Fin 1024, unit (row x3 ⟨s.val * 8 + i.val, by omega⟩) e * dh x0 x1 x2 ⟨s.val * 8 + i.val, by omega⟩ e) := by
  simp only [← dh_at, ← unit_at]
  generalize hv : val_main_v26 (F := Ideal) x0 x1 x2 = v
  generalize hw : val_main_v19 (F := Ideal) x3 = w
  pointwise [val_main_v33, val_main_v30, val_main_v29, val_main_v28, val_main_v27, val_main_v20, val_main_cst_3, val_main_cst_4, hv, hw]
  exact Fin.sum_univ_one (M := EReal) _

theorem dx_at : @Eq EReal (val_main_v49 (F := Ideal) x0 x1 x2 x3 x4 x5 (ix2 t e))
    (x5 (ix2 t e) + dh x0 x1 x2 t e * x4 (ix2 0 e) * scale (row x3 t)
        + row x3 t e * (∑ z : Fin 1, through (row x3 t) fun j => dh x0 x1 x2 t j * x4 (ix2 0 j))
      + (∑ z : Fin 1, through (row x3 t) fun j => dh x0 x1 x2 t j * x4 (ix2 0 j)) * row x3 t e) := by
  have hy := fun e => in_at x0 x1 x2 x4 t e
  have hr := fun z => scale_at x3 t z
  have hm := fun z => mean_at x3 t z
  generalize hv : val_main_v34 (F := Ideal) x0 x1 x2 x4 = v at hy
  generalize hw : val_main_v13 (F := Ideal) x3 = w at hm
  generalize hu : val_main_v14 (F := Ideal) x3 = u at hr
  pointwise [val_main_v49, val_main_v48, val_main_v47, val_main_v46, val_main_v45, val_main_v44, val_main_cst_7, val_main_v43, val_main_v42, val_main_cst_6, val_main_v41, val_main_v40, val_main_v39, val_main_v38, val_main_v37, val_main_v36, val_main_cst_5, val_main_v35, val_main_v17, val_main_v16, val_main_v15, val_main_cst_2, hv, hw, hu]
  simp only [hy, hr, hm]
  rfl

end Reference

theorem ref_dx (x0 x1 : Vec Ideal Cert.FfnUpDgradRefIdeal.S8192x2816 .bf16) (x2 : Vec Ideal Cert.FfnUpDgradRefIdeal.S1x4x1024x1408 .bf16)
    (x3 : Vec Ideal Cert.FfnUpDgradRefIdeal.S8192x1024 .f32) (x4 : Vec Ideal Cert.FfnUpDgradRefIdeal.S1x1024 .f32) (x5 : Vec Ideal Cert.FfnUpDgradRefIdeal.S8192x1024 .f32)
    (h : (∀ i, IsReal (x0 i)) ∧ (∀ i, IsReal (x1 i)) ∧ (∀ i, IsReal (x2 i)) ∧ (∀ i, IsReal (x3 i)) ∧ (∀ i, IsReal (x4 i))) :
    val_main_v49 (F := Ideal) x0 x1 x2 x3 x4 x5 = dx x0 x1 x2 x3 x4 x5 := by
  funext i
  obtain ⟨t, e, rfl⟩ : ∃ (t : Fin 8192) (e : Fin 1024), i = ix2 t e := ⟨_, _, eq_ix2 (n0 := 8192) (n1 := 1024) i⟩
  have hd : ∀ j, IsReal (dh x0 x1 x2 t j) := fun j =>
    (((IsReal.sum _ fun k => (h.1 _).mul (h.2.2.1 _)).add (IsReal.sum _ fun k => (h.1 _).mul (h.2.2.1 _))).add
      (IsReal.sum _ fun k => (h.2.1 _).mul (h.2.2.1 _))).add (IsReal.sum _ fun k => (h.2.1 _).mul (h.2.2.1 _))
  refine (dx_at x0 x1 x2 x3 x4 x5 t e).trans ?_
  rw [Fin.sum_univ_one (M := EReal), add_assoc (G := EReal), add_assoc (G := EReal)]
  refine (congrArg (fun a : EReal => x5 (ix2 t e) + a) ?_)
  rw [← add_assoc (G := EReal)]
  exact (pull_eq (x := row x3 t) (y := fun j => dh x0 x1 x2 t j * x4 (ix2 0 j)) (fun j => h.2.2.2.1 _) (fun j => (hd j).mul (h.2.2.2.2 _)) e).symm

theorem ref_gain (x0 x1 : Vec Ideal Cert.FfnUpDgradRefIdeal.S8192x2816 .bf16) (x2 : Vec Ideal Cert.FfnUpDgradRefIdeal.S1x4x1024x1408 .bf16)
    (x3 : Vec Ideal Cert.FfnUpDgradRefIdeal.S8192x1024 .f32) : val_main_v33 (F := Ideal) x0 x1 x2 x3 = dgain x0 x1 x2 x3 := by
  funext i
  obtain ⟨p, e, rfl⟩ : ∃ (p : Fin 8) (e : Fin 1024), i = ix2 p e := ⟨_, _, eq_ix2 (n0 := 8) (n1 := 1024) i⟩
  refine (gain_at x0 x1 x2 x3 e p).trans ?_
  unfold dgain
  exact Finset.sum_congr (M := EReal) rfl fun s _ => mul_comm (G := EReal) _ _

theorem frame : Cert.quiescent_FfnUpDgrad := fun m ρ _ => Cert.FfnUpDgrad.Gen.frame m ρ

theorem frame_ideal : Cert.quiescent_FfnUpDgradIdeal := fun m ρ _ => Cert.FfnUpDgradIdeal.Gen.frame m ρ

theorem frame_ideal_finite : Cert.quiescent_FfnUpDgradIdeal_pre_up_dgrad_finite := fun m ρ _ => Cert.FfnUpDgradIdeal.Gen.frame m ρ

theorem frame_ref : Cert.quiescent_FfnUpDgradRefIdeal := fun m ρ _ =>
  (θ_run Cert.FfnUpDgradRefIdeal.defs _ _).mono (fun r h => ⟨fun c => (h c).2.2.2, Idealize.ShloMosaic.sem_eq_zero_of_no_sems (by decide) r.2⟩)
    (Cert.FfnUpDgradRefIdeal.Value.run (F := Ideal) m ρ)

theorem frame_ref_finite : Cert.quiescent_FfnUpDgradRefIdeal_pre_up_dgrad_finite := fun m ρ _ => frame_ref m ρ trivial

theorem preserves : Cert.preserves_FfnUpDgrad_FfnUpDgradIdeal := trivial

/-- Both programs end with the three arrays of FfnUpDgradArray.lean, computed from arguments that agree. -/
theorem algebraic : Cert.algebraic_FfnUpDgradIdeal_FfnUpDgradRefIdeal_pre_up_dgrad_finite := by
  intro m ρ m' ρ' hpre hagree
  refine ⟨fun c => dx (dgArg m c) (duArg m c) (wArg m c) (xArg m c) (gainArg m c) (dresArg m c),
    fun c => dx16 (dgArg m c) (duArg m c) (wArg m c) (xArg m c) (gainArg m c) (dresArg m c),
    fun c => dgain (dgArg m c) (duArg m c) (wArg m c) (xArg m c), ?_, ?_⟩
  · exact (θ_run Cert.FfnUpDgradIdeal.defs _ _).mono
      (fun _ h c => ⟨(h c).1.trans (final6 m c), (h c).2.1.trans (final7 m c), (h c).2.2.1.trans (final8 m c), (h c).2.2.2⟩)
      (Cert.FfnUpDgradIdeal.Value.run_blocks m ρ)
  · refine (θ_run Cert.FfnUpDgradRefIdeal.defs _ _).mono
      (fun _ h c => ⟨(h c).1.trans ?_, (h c).2.1.trans ?_, (h c).2.2.1.trans ?_, (h c).2.2.2⟩)
      (Cert.FfnUpDgradRefIdeal.Value.run (F := Ideal) m' ρ')
    · rw [val_main_v49_eq, (hagree c).1, (hagree c).2.1, (hagree c).2.2.1, (hagree c).2.2.2.1, (hagree c).2.2.2.2.1, (hagree c).2.2.2.2.2]
      exact ref_dx _ _ _ _ _ _ (finite _ _ _ _ _ _ (hpre c))
    · rw [val_main_v50_eq, (hagree c).1, (hagree c).2.1, (hagree c).2.2.1, (hagree c).2.2.2.1, (hagree c).2.2.2.2.1, (hagree c).2.2.2.2.2]
      exact ref_dx _ _ _ _ _ _ (finite _ _ _ _ _ _ (hpre c))
    · rw [val_main_v33_eq, (hagree c).1, (hagree c).2.1, (hagree c).2.2.1, (hagree c).2.2.2.1]
      exact ref_gain _ _ _ _

end Cert.Proof.FfnUpDgrad

end
-- ==== Proof.FfnUpWgradArray.lean ====
/-
  The gradient of the gate and up weights, the call's result array as a function of its arguments over the extended reals.
-/
module

public import proofs.«01_k».proof.Proof.Gen.FfnUpWgradIdeal.Value
public import Idealize.ShloMosaic.Lib.Pointwise
public import Idealize.ShloMosaic.Lib.Pipeline.ValueKit.Point
public import Idealize.ShloMosaic.Lib.Pipeline.ValueKit.Acc

@[expose] public section

set_option maxRecDepth 16384

noncomputable section

namespace Cert.FfnUpWgradIdeal.Array

open Cert.FfnUpWgradIdeal Cert.FfnUpWgradIdeal.Gen Cert.FfnUpWgradIdeal.Value Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem index0 : ∀ t : Fin cfg0.N, win0_0.index t = ![t.val % 4, 0] := (by decide +kernel : ∀ t : Fin grid0.N, _)
theorem index1 : ∀ t : Fin cfg0.N, t.val < 8 → win0_1.index t = ![t.val % 4, t.val / 4] := (by decide +kernel : ∀ t : Fin grid0.N, _)
theorem index2 : ∀ t : Fin cfg0.N, 8 ≤ t.val → win0_2.index t = ![t.val % 4, t.val / 4 - 2] := (by decide +kernel : ∀ t : Fin grid0.N, _)
theorem index3 : ∀ t : Fin cfg0.N, win0_3.index t = ![t.val / 4, 0, 0] := (by decide +kernel : ∀ t : Fin grid0.N, _)

abbrev hArg (c : Dev nD) : Vec Ideal S8192x1024 .bf16 := m ((c.tc : Thread nD τ).loc main_arg0)
abbrev dgArg (c : Dev nD) : Vec Ideal S8192x2816 .bf16 := m ((c.tc : Thread nD τ).loc main_arg1)
abbrev duArg (c : Dev nD) : Vec Ideal S8192x2816 .bf16 := m ((c.tc : Thread nD τ).loc main_arg2)

/-- The four quarters of the gradients side by side: two of the gate's, then two of the up projection's. -/
def quarter (dg du : Vec Ideal S8192x2816 .bf16) (q : Fin 4) (t : Fin 8192) (j : Fin 1408) : EReal :=
  if h : q.val < 2 then dg (ix2 t ⟨1408 * q.val + j.val, by omega⟩) else du (ix2 t ⟨1408 * (q.val - 2) + j.val, by omega⟩)

/-- The gradient of the weights, quarter by quarter. -/
def grad (h : Vec Ideal S8192x1024 .bf16) (dg du : Vec Ideal S8192x2816 .bf16) : Vec Ideal S4x1024x1408 .f32 :=
  fun i => (∑ t : Fin 8192, h (ix2 t (i 1)) * quarter dg du (i 0) t (i 2) : EReal)

/-- One tile's contribution. -/
def term (x0 : Vec Ideal S2048x1024 .bf16) (x1 : Vec Ideal S2048x1408 .bf16) : Vec Ideal S1x1024x1408 .f32 :=
  fun i => (∑ k : Fin 2048, x0 (ix2 k (i 1)) * x1 (ix2 k (i 2)) : EReal)

theorem pay2_at (acc : Vec Ideal S1x1024x1408 .f32) (x0 : Vec Ideal S2048x1024 .bf16) (x1 : Vec Ideal S2048x1408 .bf16) (y : S1x1024x1408.Idx) :
    @Eq EReal (k0_pay2 acc x0 x1 y) (acc y + term x0 x1 y) := by
  obtain ⟨z, p, l, rfl⟩ : ∃ (z : Fin 1) (p : Fin 1024) (l : Fin 1408), y = ix3 z p l := ⟨_, _, _, eq_ix3 (n0 := 1) (n1 := 1024) (n2 := 1408) y⟩
  obtain rfl := Subsingleton.elim z 0
  unfold k0_pay2 term
  pointwise

theorem pay3_at (acc : Vec Ideal S1x1024x1408 .f32) (x0 : Vec Ideal S2048x1024 .bf16) (x1 : Vec Ideal S2048x1408 .bf16) (y : S1x1024x1408.Idx) :
    @Eq EReal (k0_pay3 acc x0 x1 y) (acc y + term x0 x1 y) := pay2_at acc x0 x1 y

theorem zero_at (y : S1x1024x1408.Idx) : @Eq EReal (k0_pay1 (F := Ideal) y) 0 := by
  obtain ⟨z, p, l, rfl⟩ : ∃ (z : Fin 1) (p : Fin 1024) (l : Fin 1408), y = ix3 z p l := ⟨_, _, _, eq_ix3 (n0 := 1) (n1 := 1024) (n2 := 1408) y⟩
  unfold k0_pay1
  pointwise

theorem hz2 : (![0, 0] : Fin 2 → Nat) = fun _ => 0 := funext fun a => by fin_cases a <;> rfl
theorem hz3 : (![0, 0, 0] : Fin 3 → Nat) = fun _ => 0 := funext fun a => by fin_cases a <;> rfl

section Cases
variable (d : Dev nD) (i : grid0.Coords) (a0 : Memref sig .tc .vmem S2048x1024 .bf16) (h0 : a0.IsWhole) (a1 : Memref sig .tc .vmem S2048x1408 .bf16) (h1 : a1.IsWhole)
  (a2 : Memref sig .tc .vmem S2048x1408 .bf16) (h2 : a2.IsWhole) (a3 : Memref sig .tc .vmem S1x1024x1408 .f32) (h3 : a3.IsWhole)
  (x0 : Vec Ideal S2048x1024 .bf16) (x1 : Vec Ideal S2048x1408 .bf16) (x2 : Vec Ideal S2048x1408 .bf16) (acc : Vec Ideal S1x1024x1408 .f32)

theorem out_A (c0 : cond0_0 i) (c1 : cond0_1 i) (c2 : ¬cond0_2 i) :
    out0_A_3 (F := Ideal) d i a0 h0 a1 h1 a2 h2 a3 h3 c0 c1 c2 x0 x1 x2 = k0_pay2 (k0_pay1 (F := Ideal)) x0 x1 := by
  unfold out0_A_3
  rw [View.read_writes_eq_canon _ _ _ (cover0_A_3 d i a0 h0 a1 h1 a2 h2 a3 h3 c0 c1 c2 x0 x1 x2)]
  unfold kernelRun0_A
  dsimp only
  try sl_unfold_words
  rw [View.canon_cons_unit_zero (S := S1x1024x1408) hz3, View.readCov_unit_zero (S := S1x1024x1408) _ hz3]
  simp only [View.readAt_eq_ld, h0.read_unread, h1.read_unread, h2.read_unread, h3.read_unread, View.ld_unit_zero (S := S2048x1024) hz2, View.ld_unit_zero (S := S2048x1408) hz2, View.ld_unit_zero (S := S1x1024x1408) hz3]

theorem out_B (c0 : ¬cond0_0 i) (c1 : cond0_1 i) (c2 : ¬cond0_2 i) :
    out0_B_3 (F := Ideal) d i a0 h0 a1 h1 a2 h2 a3 h3 c0 c1 c2 x0 x1 x2 acc = k0_pay2 acc x0 x1 := by
  unfold out0_B_3
  rw [View.read_writes_eq_canon _ _ _ (cover0_B_3 d i a0 h0 a1 h1 a2 h2 a3 h3 c0 c1 c2 x0 x1 x2 acc)]
  unfold kernelRun0_B
  dsimp only
  try sl_unfold_words
  rw [View.canon_unit_zero (S := S1x1024x1408) hz3]
  simp only [View.readAt_eq_ld, h0.read_unread, h1.read_unread, h2.read_unread, h3.read_unread, View.ld_unit_zero (S := S2048x1024) hz2, View.ld_unit_zero (S := S2048x1408) hz2, View.ld_unit_zero (S := S1x1024x1408) hz3]

theorem out_C (c0 : cond0_0 i) (c1 : ¬cond0_1 i) (c2 : cond0_2 i) :
    out0_C_3 (F := Ideal) d i a0 h0 a1 h1 a2 h2 a3 h3 c0 c1 c2 x0 x1 x2 = k0_pay3 (k0_pay1 (F := Ideal)) x0 x2 := by
  unfold out0_C_3
  rw [View.read_writes_eq_canon _ _ _ (cover0_C_3 d i a0 h0 a1 h1 a2 h2 a3 h3 c0 c1 c2 x0 x1 x2)]
  unfold kernelRun0_C
  dsimp only
  try sl_unfold_words
  rw [View.canon_cons_unit_zero (S := S1x1024x1408) hz3, View.readCov_unit_zero (S := S1x1024x1408) _ hz3]
  simp only [View.readAt_eq_ld, h0.read_unread, h1.read_unread, h2.read_unread, h3.read_unread, View.ld_unit_zero (S := S2048x1024) hz2, View.ld_unit_zero (S := S2048x1408) hz2, View.ld_unit_zero (S := S1x1024x1408) hz3]

theorem out_D (c0 : ¬cond0_0 i) (c1 : ¬cond0_1 i) (c2 : cond0_2 i) :
    out0_D_3 (F := Ideal) d i a0 h0 a1 h1 a2 h2 a3 h3 c0 c1 c2 x0 x1 x2 acc = k0_pay3 acc x0 x2 := by
  unfold out0_D_3
  rw [View.read_writes_eq_canon _ _ _ (cover0_D_3 d i a0 h0 a1 h1 a2 h2 a3 h3 c0 c1 c2 x0 x1 x2 acc)]
  unfold kernelRun0_D
  dsimp only
  try sl_unfold_words
  rw [View.canon_unit_zero (S := S1x1024x1408) hz3]
  simp only [View.readAt_eq_ld, h0.read_unread, h1.read_unread, h2.read_unread, h3.read_unread, View.ld_unit_zero (S := S2048x1024) hz2, View.ld_unit_zero (S := S2048x1408) hz2, View.ld_unit_zero (S := S1x1024x1408) hz3]

end Cases

theorem place (t : Fin cfg0.N) (X : Vec Ideal S4x1024x1408 .f32) (p : Fin 1024) (l : Fin 1408) (h : t.val / 4 < 4) :
    X ((win0_3.blk t).view.emb (ix3 0 p l)) = X (ix3 ⟨t.val / 4, h⟩ p l) := by
  blk_ext [index3 t]

theorem h_blk (c : Dev nD) (t : Fin cfg0.N) (k : Fin 2048) (p : Fin 1024) (h : 2048 * (t.val % 4) + k.val < 8192) :
    iblk m c 0 t (ix2 k p) = hArg m c (ix2 ⟨2048 * (t.val % 4) + k.val, h⟩ p) := by
  blk_ext! [iblk, V_main_arg0, index0 t]

theorem dg_blk (c : Dev nD) (t : Fin cfg0.N) (ht : t.val < 8) (k : Fin 2048) (l : Fin 1408) (h : 2048 * (t.val % 4) + k.val < 8192) (h' : 1408 * (t.val / 4) + l.val < 2816) :
    iblk m c 1 t (ix2 k l) = dgArg m c (ix2 ⟨2048 * (t.val % 4) + k.val, h⟩ ⟨1408 * (t.val / 4) + l.val, h'⟩) := by
  blk_ext! [iblk, V_main_arg1, index1 t ht]

theorem du_blk (c : Dev nD) (t : Fin cfg0.N) (ht : 8 ≤ t.val) (k : Fin 2048) (l : Fin 1408) (h : 2048 * (t.val % 4) + k.val < 8192) (h' : 1408 * (t.val / 4 - 2) + l.val < 2816) :
    iblk m c 2 t (ix2 k l) = duArg m c (ix2 ⟨2048 * (t.val % 4) + k.val, h⟩ ⟨1408 * (t.val / 4 - 2) + l.val, h'⟩) := by
  blk_ext! [iblk, V_main_arg2, index2 t ht]

/-- The contribution of a point of the grid. -/
def termAt (c : Dev nD) (t : Fin cfg0.N) : Vec Ideal S1x1024x1408 .f32 :=
  if t.val < 8 then term (iblk m c 0 t) (iblk m c 1 t) else term (iblk m c 0 t) (iblk m c 2 t)

theorem termAt_eq (c : Dev nD) (t : Fin cfg0.N) (p : Fin 1024) (l : Fin 1408) (hq : t.val / 4 < 4) :
    @Eq EReal (termAt m c t (ix3 0 p l))
      (∑ k : Fin 2048, hArg m c (ix2 ⟨2048 * (t.val % 4) + k.val, by omega⟩ p) * quarter (dgArg m c) (duArg m c) ⟨t.val / 4, hq⟩ ⟨2048 * (t.val % 4) + k.val, by omega⟩ l) := by
  unfold termAt
  by_cases ht : t.val < 8
  · rw [if_pos ht]
    unfold term quarter
    refine Finset.sum_congr (M := EReal) rfl fun k _ => ?_
    simp only [ix3_1, ix3_2]
    rw [dif_pos (by first | omega | (dsimp only; omega)), h_blk m c t k p (by omega), dg_blk m c t ht k l (by omega) (by omega)]
  · rw [if_neg ht]
    unfold term quarter
    refine Finset.sum_congr (M := EReal) rfl fun k _ => ?_
    simp only [ix3_1, ix3_2]
    rw [dif_neg (by first | omega | (dsimp only; omega)), h_blk m c t k p (by omega), du_blk m c t (by omega) k l (by omega) (by omega)]

/-- The result array holds the gradient. -/
theorem final (c : Dev nD) : (dats m 0 c).arrAt 3 cfg0.N = grad (hArg m c) (dgArg m c) (duArg m c) :=
  (dats m 0 c).arrAt_eq_of_covers 3 _ (by decide +kernel) fun t hf y => by
    blk_simp
    rw [after0_3]
    rw [Pipeline.eq_sum_fin_of_reset_step_apply_of_flush (fun n h => outsAt0 m c n h) 4 (fun _ => 0)
      (fun t => termAt m c t) (fun t h j => by
        unfold termAt
        by_cases ht : t.val < 8
        · rw [outsAt0_A m c t h ht (by omega), out_A, if_pos ht]
          exact (pay2_at _ _ _ j).trans (congrArg (· + _) (zero_at j))
        · rw [outsAt0_C m c t h ht (by omega), out_C, if_neg ht]
          exact (pay3_at _ _ _ j).trans (congrArg (· + _) (zero_at j))) (fun t h j => by
        unfold termAt
        by_cases ht : t.val < 8
        · rw [outsAt0_B m c t h ht (by omega), out_B, if_pos ht]
          exact pay2_at _ _ _ j
        · rw [outsAt0_D m c t h ht (by omega), out_D, if_neg ht]
          exact pay3_at _ _ _ j) t ((flush0_3 t).mp hf) y]
    obtain ⟨z, p, l, rfl⟩ : ∃ (z : Fin 1) (p : Fin 1024) (l : Fin 1408), y = ix3 z p l := ⟨_, _, _, eq_ix3 (n0 := 1) (n1 := 1024) (n2 := 1408) y⟩
    obtain rfl := Subsingleton.elim z 0
    have ht : t.val < 16 := t.isLt.trans_eq N_0
    refine Eq.trans ?_ (place t _ _ _ (by omega)).symm
    refine (zero_add (M := EReal) _).trans ?_
    unfold grad
    simp only [ix3_0, ix3_1, ix3_2]
    have hb : ∀ s : Fin 4, (4 * (t.val / 4) + s.val) / 4 < 4 := fun s => by omega
    refine (Finset.sum_congr (M := EReal) rfl fun s _ => termAt_eq m c ⟨4 * (t.val / 4) + s.val, lt_of_lt_of_eq (by omega : _ < 16) N_0.symm⟩ p l (hb s)).trans ?_
    refine Fin.sum_mul_add_congr (M := EReal) fun s k hk => ?_
    have hs : (4 * (t.val / 4) + s.val) % 4 = s.val := by omega
    have hq : (4 * (t.val / 4) + s.val) / 4 = t.val / 4 := by omega
    simp only [hs, hq, Nat.mul_comm 2048]

end Cert.FfnUpWgradIdeal.Array

end
-- ==== Proof.FfnUpWgradClaims.lean ====
/-
  The claims about the gradient of the gate and up weights: the call runs, and over the extended reals its result is the
  reference's.
-/
module

public import proofs.«01_k».proof.Defs
public import proofs.«01_k».proof.Proof.Gen.FfnUpWgrad.Frame
public import proofs.«01_k».proof.Proof.Gen.FfnUpWgradIdeal.Frame
public import proofs.«01_k».proof.Proof.Gen.FfnUpWgradIdeal.Value
public import proofs.«01_k».proof.Proof.Gen.FfnUpWgradRefIdeal.Run
public import proofs.«01_k».proof.Proof.Gen.FfnUpWgradRefIdeal.Read
public import proofs.«01_k».proof.Proof.FfnUpWgradArray
public import Idealize.ShloMosaic.Adequacy

@[expose] public section

set_option maxRecDepth 16384

noncomputable section

namespace Cert.Proof.FfnUpWgrad

open Idealize.ShloMosaic Idealize.SL.Sem Cert.FfnUpWgradRefIdeal.Read Cert.FfnUpWgradIdeal.Array

/-- The joined gradient at a column of one of the four quarters. -/
theorem joined_at (x1 x2 : Vec Ideal Cert.FfnUpWgradRefIdeal.S8192x2816 .bf16) (q : Fin 4) (t : Fin 8192) (j : Fin 1408) (c : Fin 5632)
    (hc : c.val = 1408 * q.val + j.val) :
    @Eq EReal (val_main_v1 (F := Ideal) x1 x2 (ix2 t c)) (quarter x1 x2 q t j) := by
  unfold quarter
  pointwise [val_main_v1, val_main_v0]
  by_cases h : q.val < 2
  · rw [dif_pos (by omega), dif_pos h]
    exact congrArg (fun c => x1 (ix2 t c)) (Fin.ext (by first | omega | (dsimp only; omega)))
  · rw [dif_neg (by omega), dif_neg h]
    exact congrArg (fun c => x2 (ix2 t c)) (Fin.ext (by first | omega | (dsimp only; omega)))

/-- The reference's gradient, cut into the four quarters. -/
theorem ref_eq (x0 : Vec Ideal Cert.FfnUpWgradRefIdeal.S8192x1024 .bf16) (x1 x2 : Vec Ideal Cert.FfnUpWgradRefIdeal.S8192x2816 .bf16) :
    val_main_v8 (F := Ideal) x0 x1 x2 = grad x0 x1 x2 := by
  funext i
  obtain ⟨q, p, l, rfl⟩ : ∃ (q : Fin 4) (p : Fin 1024) (l : Fin 1408), i = ix3 q p l := ⟨_, _, _, eq_ix3 (n0 := 4) (n1 := 1024) (n2 := 1408) i⟩
  unfold grad
  pointwise [val_main_v8, val_main_v7, val_main_v6, val_main_v5, val_main_v3]
  refine Finset.sum_congr (M := EReal) rfl fun t _ => ?_
  refine (mul_comm (G := EReal) _ _).trans ?_
  exact congrArg (x0 (ix2 t p) * ·) (joined_at x1 x2 q t l _ (by first | omega | (dsimp only; omega)))

theorem frame : Cert.quiescent_FfnUpWgrad := fun m ρ _ => Cert.FfnUpWgrad.Gen.frame m ρ

theorem frame_ideal : Cert.quiescent_FfnUpWgradIdeal := fun m ρ _ => Cert.FfnUpWgradIdeal.Gen.frame m ρ

theorem frame_ref : Cert.quiescent_FfnUpWgradRefIdeal := fun m ρ _ =>
  (θ_run Cert.FfnUpWgradRefIdeal.defs _ _).mono (fun r h => ⟨fun c => (h c).2, Idealize.ShloMosaic.sem_eq_zero_of_no_sems (by decide) r.2⟩)
    (Cert.FfnUpWgradRefIdeal.Value.run (F := Ideal) m ρ)

theorem preserves : Cert.preserves_FfnUpWgrad_FfnUpWgradIdeal := trivial

/-- Both programs end with the gradient of FfnUpWgradArray.lean, computed from arguments that agree. -/
theorem algebraic : Cert.algebraic_FfnUpWgradIdeal_FfnUpWgradRefIdeal := by
  intro m ρ m' ρ' _ hagree
  refine ⟨fun c => grad (hArg m c) (dgArg m c) (duArg m c), ?_, ?_⟩
  · exact (θ_run Cert.FfnUpWgradIdeal.defs _ _).mono (fun _ h c => ⟨(h c).1.trans (final m c), (h c).2⟩)
      (Cert.FfnUpWgradIdeal.Value.run_blocks m ρ)
  · refine (θ_run Cert.FfnUpWgradRefIdeal.defs _ _).mono (fun _ h c => ⟨(h c).1.trans ?_, (h c).2⟩)
      (Cert.FfnUpWgradRefIdeal.Value.run (F := Ideal) m' ρ')
    rw [val_main_v8_eq, (hagree c).1, (hagree c).2.1, (hagree c).2.2]
    exact ref_eq _ _ _

end Cert.Proof.FfnUpWgrad

end
-- ==== Proof.FfnDownWgradArray.lean ====
/-
  The gradient of the down weights, the call's result array as a function of its arguments over the extended reals.
-/
module

public import proofs.«01_k».proof.Proof.Gen.FfnDownWgradIdeal.Value
public import Idealize.ShloMosaic.Lib.Pointwise
public import Idealize.ShloMosaic.Lib.Pipeline.ValueKit.Point
public import Idealize.ShloMosaic.Lib.Pipeline.ValueKit.Acc

@[expose] public section

set_option maxRecDepth 16384

noncomputable section

namespace Cert.FfnDownWgradIdeal.Array

open Cert.FfnDownWgradIdeal Cert.FfnDownWgradIdeal.Gen Cert.FfnDownWgradIdeal.Value Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem index0 : ∀ t : Fin cfg0.N, win0_0.index t = ![t.val % 4, t.val / 4] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![t.val / 4, 0] := (by decide +kernel : ∀ t : Fin grid0.N, _)

abbrev aArg (c : Dev nD) : Vec Ideal S8192x2816 .bf16 := m ((c.tc : Thread nD τ).loc main_arg0)
abbrev dxArg (c : Dev nD) : Vec Ideal S8192x1024 .bf16 := m ((c.tc : Thread nD τ).loc main_arg1)

/-- The gradient of the weights of a product: every weight's column of inputs against its column of output gradients. -/
def grad (a : Vec Ideal S8192x2816 .bf16) (dx : Vec Ideal S8192x1024 .bf16) : Vec Ideal S2816x1024 .f32 :=
  fun i => (∑ t : Fin 8192, a (ix2 t (i 0)) * dx (ix2 t (i 1)) : EReal)

/-- One tile's contribution. -/
def term (x0 : Vec Ideal S2048x1408 .bf16) (x1 : Vec Ideal S2048x1024 .bf16) : Vec Ideal S1408x1024 .f32 :=
  fun i => (∑ k : Fin 2048, x0 (ix2 k (i 0)) * x1 (ix2 k (i 1)) : EReal)

theorem pay_at (acc : Vec Ideal S1408x1024 .f32) (x0 : Vec Ideal S2048x1408 .bf16) (x1 : Vec Ideal S2048x1024 .bf16) (y : S1408x1024.Idx) :
    @Eq EReal (k0_pay2 acc x0 x1 y) (acc y + term x0 x1 y) := by
  obtain ⟨p, l, rfl⟩ : ∃ (p : Fin 1408) (l : Fin 1024), y = ix2 p l := ⟨_, _, eq_ix2 (n0 := 1408) (n1 := 1024) y⟩
  unfold k0_pay2 term
  pointwise

theorem zero_at (y : S1408x1024.Idx) : @Eq EReal (k0_pay1 (F := Ideal) y) 0 := by
  unfold k0_pay1
  pointwise

theorem place (t : Fin cfg0.N) (X : Vec Ideal S2816x1024 .f32) (p : Fin 1408) (l : Fin 1024) (h : 1408 * (t.val / 4) + p.val < 2816) :
    X ((win0_2.blk t).view.emb (ix2 p l)) = X (ix2 ⟨1408 * (t.val / 4) + p.val, h⟩ l) := by
  blk_ext [index2 t]

theorem a_blk (c : Dev nD) (t : Fin cfg0.N) (k : Fin 2048) (p : Fin 1408) (h : 2048 * (t.val % 4) + k.val < 8192) (h' : 1408 * (t.val / 4) + p.val < 2816) :
    iblk m c 0 t (ix2 k p) = aArg m c (ix2 ⟨2048 * (t.val % 4) + k.val, h⟩ ⟨1408 * (t.val / 4) + p.val, h'⟩) := by
  blk_ext! [iblk, V_main_arg0, index0 t]

theorem dx_blk (c : Dev nD) (t : Fin cfg0.N) (k : Fin 2048) (l : Fin 1024) (h : 2048 * (t.val % 4) + k.val < 8192) :
    iblk m c 1 t (ix2 k l) = dxArg m c (ix2 ⟨2048 * (t.val % 4) + k.val, h⟩ l) := by
  blk_ext! [iblk, V_main_arg1, index1 t]

/-- The result array holds the gradient. -/
theorem final (c : Dev nD) : (dats m 0 c).arrAt 2 cfg0.N = grad (aArg m c) (dxArg m c) :=
  (dats m 0 c).arrAt_eq_of_covers 2 _ (by decide +kernel) fun t hf y => by
    blk_simp
    rw [after0_2]
    rw [Pipeline.eq_sum_fin_of_reset_step_apply_of_flush (fun n h => outsAt0 m c n h) 4 (fun _ => 0)
      (fun t => term (iblk m c 0 t) (iblk m c 1 t)) (fun t h j => by
        rw [outsAt0_A m c t h, out_A_2_eq]
        exact (pay_at _ _ _ j).trans (congrArg (· + _) (zero_at j))) (fun t h j => by
        rw [outsAt0_B m c t h, out_B_2_eq]
        exact pay_at _ _ _ j) t ((flush0_2 t).mp hf) y]
    obtain ⟨p, l, rfl⟩ : ∃ (p : Fin 1408) (l : Fin 1024), y = ix2 p l := ⟨_, _, eq_ix2 (n0 := 1408) (n1 := 1024) y⟩
    have ht : t.val < 8 := t.isLt.trans_eq N_0
    have hp := p.isLt
    have hd : t.val / 4 < 2 := by omega
    refine Eq.trans ?_ (place t _ _ _ (by omega)).symm
    refine (zero_add (M := EReal) _).trans ?_
    unfold term grad
    simp only [ix2_0, ix2_1]
    refine Fin.sum_mul_add_congr (M := EReal) fun s k hk => ?_
    have hs : (4 * (t.val / 4) + s.val) % 4 = s.val := by omega
    have hq : (4 * (t.val / 4) + s.val) / 4 = t.val / 4 := by omega
    rw [a_blk m c _ k p (by dsimp only; omega) (by dsimp only; omega), dx_blk m c _ k l (by dsimp only; omega)]
    simp only [hs, hq, Nat.mul_comm 2048]

end Cert.FfnDownWgradIdeal.Array

end
-- ==== Proof.FfnDownWgradClaims.lean ====
/-
  The claims about the gradient of the down weights: the call runs, and over the extended reals its result is the reference's.
-/
module

public import proofs.«01_k».proof.Defs
public import proofs.«01_k».proof.Proof.Gen.FfnDownWgrad.Frame
public import proofs.«01_k».proof.Proof.Gen.FfnDownWgradIdeal.Frame
public import proofs.«01_k».proof.Proof.Gen.FfnDownWgradIdeal.Value
public import proofs.«01_k».proof.Proof.Gen.FfnDownWgradRefIdeal.Run
public import proofs.«01_k».proof.Proof.Gen.FfnDownWgradRefIdeal.Read
public import proofs.«01_k».proof.Proof.FfnDownWgradArray
public import Idealize.ShloMosaic.Adequacy

@[expose] public section

set_option maxRecDepth 16384

noncomputable section

namespace Cert.Proof.FfnDownWgrad

open Idealize.ShloMosaic Idealize.SL.Sem Cert.FfnDownWgradRefIdeal.Read Cert.FfnDownWgradIdeal.Array

/-- The reference's gradient, transposed from the product the derivative makes. -/
theorem ref_eq (a : Vec Ideal Cert.FfnDownWgradRefIdeal.S8192x2816 .bf16) (dx : Vec Ideal Cert.FfnDownWgradRefIdeal.S8192x1024 .bf16) :
    val_main_v5 (F := Ideal) a dx = grad a dx := by
  funext i
  obtain ⟨p, l, rfl⟩ : ∃ (p : Fin 2816) (l : Fin 1024), i = ix2 p l := ⟨_, _, eq_ix2 (n0 := 2816) (n1 := 1024) i⟩
  unfold grad
  pointwise [val_main_v5, val_main_v4, val_main_v3, val_main_v1]
  exact Finset.sum_congr (M := EReal) rfl fun t _ => mul_comm (G := EReal) _ _

theorem frame : Cert.quiescent_FfnDownWgrad := fun m ρ _ => Cert.FfnDownWgrad.Gen.frame m ρ

theorem frame_ideal : Cert.quiescent_FfnDownWgradIdeal := fun m ρ _ => Cert.FfnDownWgradIdeal.Gen.frame m ρ

theorem frame_ref : Cert.quiescent_FfnDownWgradRefIdeal := fun m ρ _ =>
  (θ_run Cert.FfnDownWgradRefIdeal.defs _ _).mono (fun r h => ⟨fun c => (h c).2, Idealize.ShloMosaic.sem_eq_zero_of_no_sems (by decide) r.2⟩)
    (Cert.FfnDownWgradRefIdeal.Value.run (F := Ideal) m ρ)

theorem preserves : Cert.preserves_FfnDownWgrad_FfnDownWgradIdeal := trivial

/-- Both programs end with the gradient of FfnDownWgradArray.lean, computed from arguments that agree. -/
theorem algebraic : Cert.algebraic_FfnDownWgradIdeal_FfnDownWgradRefIdeal := by
  intro m ρ m' ρ' _ hagree
  refine ⟨fun c => grad (aArg m c) (dxArg m c), ?_, ?_⟩
  · exact (θ_run Cert.FfnDownWgradIdeal.defs _ _).mono (fun _ h c => ⟨(h c).1.trans (final m c), (h c).2⟩)
      (Cert.FfnDownWgradIdeal.Value.run_blocks m ρ)
  · refine (θ_run Cert.FfnDownWgradRefIdeal.defs _ _).mono (fun _ h c => ⟨(h c).1.trans ?_, (h c).2⟩)
      (Cert.FfnDownWgradRefIdeal.Value.run (F := Ideal) m' ρ')
    rw [val_main_v5_eq, (hagree c).1, (hagree c).2]
    exact ref_eq _ _

end Cert.Proof.FfnDownWgrad

end
-- ==== Proof.FfnUpArray.lean ====
/-
  The feed-forward block's gate and up products with what is kept for the backward call: the call's three result arrays as
  functions of its arguments over the extended reals.
-/
module

public import proofs.«01_k».proof.Proof.Gen.FfnUpIdeal.Value
public import proofs.«01_k».proof.Proof.FfnReal
public import Idealize.ShloMosaic.Lib.Pointwise
public import Idealize.ShloMosaic.Lib.Pipeline.ValueKit.Point
public import Idealize.ShloMosaic.Lib.Pipeline.ValueKit.Acc

@[expose] public section

set_option maxRecDepth 16384

noncomputable section

namespace Cert.FfnUpIdeal.Array

open Cert.FfnUpIdeal Cert.FfnUpIdeal.Gen Cert.FfnUpIdeal.Value Idealize.ShloMosaic Idealize.ShloMosaic.TcCoe Idealize.SL.Sem Cert.Proof.Reals
open Idealize.ShloMosaic.Pipeline (Dat)

variable (m : (ℓ : Loc nD τ sig) → Buf (Elt Ideal) ℓ) (ρ : Dev nD → PrngReg)

theorem index0 : ∀ t : Fin cfg0.N, win0_0.index t = ![t.val % 16, 0] := (by decide +kernel : ∀ t : Fin grid0.N, _)
theorem index1 : ∀ t : Fin cfg0.N, win0_1.index t = ![0, t.val / 16, 0, 0] := (by decide +kernel : ∀ t : Fin grid0.N, _)
theorem index2 : ∀ t : Fin cfg0.N, win0_2.index t = ![0, 2 + t.val / 16, 0, 0] := (by decide +kernel : ∀ t : Fin grid0.N, _)
theorem index3 : ∀ t : Fin cfg0.N, win0_3.index t = ![t.val % 16, t.val / 16] := (by decide +kernel : ∀ t : Fin grid0.N, _)
theorem index4 : ∀ t : Fin cfg0.N, win0_4.index t = ![t.val % 16, t.val / 16] := (by decide +kernel : ∀ t : Fin grid0.N, _)
theorem index5 : ∀ t : Fin cfg0.N, win0_5.index t = ![t.val % 16, t.val / 16] := (by decide +kernel : ∀ t : Fin grid0.N, _)

abbrev hArg (c : Dev nD) : Vec Ideal S8192x1024 .bf16 := m ((c.tc : Thread nD τ).loc main_arg0)
abbrev wArg (c : Dev nD) : Vec Ideal S1x4x1024x1408 .bf16 := m ((c.tc : Thread nD τ).loc main_arg1)

/-- An entry of the product with one of the four quarters of the weights. -/
def proj (h : Vec Ideal S8192x1024 .bf16) (w : Vec Ideal S1x4x1024x1408 .bf16) (q : Fin 4) (t : Fin 8192) (j : Fin 1408) : EReal :=
  ∑ k : Fin 1024, h (ix2 t k) * w (ix4 0 q k j)

/-- The gate: the first two quarters side by side. -/
def gate (h : Vec Ideal S8192x1024 .bf16) (w : Vec Ideal S1x4x1024x1408 .bf16) (t : Fin 8192) (c : Fin 2816) : EReal :=
  proj h w ⟨c.val / 1408, by omega⟩ t ⟨c.val % 1408, by omega⟩

/-- The up projection: the last two quarters side by side. -/
def up (h : Vec Ideal S8192x1024 .bf16) (w : Vec Ideal S1x4x1024x1408 .bf16) (t : Fin 8192) (c : Fin 2816) : EReal :=
  proj h w ⟨2 + c.val / 1408, by omega⟩ t ⟨c.val % 1408, by omega⟩

/-- The derivative of the gated product by the up projection. -/
def byUp (h : Vec Ideal S8192x1024 .bf16) (w : Vec Ideal S1x4x1024x1408 .bf16) : Vec Ideal S8192x2816 .bf16 :=
  fun i => (gate h w (i 0) (i 1) * sigmoid (gate h w (i 0) (i 1)) : EReal)

/-- The gated product. -/
def act (h : Vec Ideal S8192x1024 .bf16) (w : Vec Ideal S1x4x1024x1408 .bf16) : Vec Ideal S8192x2816 .bf16 :=
  fun i => (gate h w (i 0) (i 1) * sigmoid (gate h w (i 0) (i 1)) * up h w (i 0) (i 1) : EReal)

/-- The derivative of the gated product by the gate. -/
def byGate (h : Vec Ideal S8192x1024 .bf16) (w : Vec Ideal S1x4x1024x1408 .bf16) : Vec Ideal S8192x2816 .bf16 :=
  fun i => (gate h w (i 0) (i 1) * sigmoid (gate h w (i 0) (i 1)) * up h w (i 0) (i 1)
    + sigmoid (gate h w (i 0) (i 1)) * (up h w (i 0) (i 1) - gate h w (i 0) (i 1) * sigmoid (gate h w (i 0) (i 1)) * up h w (i 0) (i 1)) : EReal)

/-- An entry of one tile's product. -/
def tile (x0 : Vec Ideal S512x1024 .bf16) (x1 : Vec Ideal S1x1x1024x1408 .bf16) (p : Fin 512) (l : Fin 1408) : EReal :=
  ∑ k : Fin 1024, x0 (ix2 p k) * x1 (ix4 0 0 k l)

theorem pay1_at (x0 : Vec Ideal S512x1024 .bf16) (x1 : Vec Ideal S1x1x1024x1408 .bf16) (p : Fin 512) (l : Fin 1408) :
    @Eq EReal (k0_pay1 x0 x1 (ix2 p l)) (tile x0 x1 p l) := by
  unfold k0_pay1 tile
  pointwise

theorem pay2_at (x0 : Vec Ideal S512x1024 .bf16) (x1 : Vec Ideal S1x1x1024x1408 .bf16) (p : Fin 512) (l : Fin 1408) :
    @Eq EReal (k0_pay2 x0 x1 (ix2 p l)) (tile x0 x1 p l) := pay1_at x0 x1 p l

theorem pay3_at (x0 : Vec Ideal S512x1024 .bf16) (x1 : Vec Ideal S1x1x1024x1408 .bf16) (p : Fin 512) (l : Fin 1408) :
    @Eq EReal (k0_pay3 x0 x1 (ix2 p l)) (sigmoid (tile x0 x1 p l)) := by
  unfold k0_pay3
  rw [← pay1_at]
  generalize k0_pay1 (F := Ideal) x0 x1 = y
  unfold sigmoid
  pointwise
  rw [zero_sub]

theorem pay7_at (x0 : Vec Ideal S512x1024 .bf16) (x1 : Vec Ideal S1x1x1024x1408 .bf16) (p : Fin 512) (l : Fin 1408) :
    @Eq EReal (k0_pay7 x0 x1 (ix2 p l)) (tile x0 x1 p l * sigmoid (tile x0 x1 p l)) := by
  rw [← pay3_at, ← pay1_at]
  rfl

theorem pay8_at (x0 : Vec Ideal S512x1024 .bf16) (x1 x2 : Vec Ideal S1x1x1024x1408 .bf16) (p : Fin 512) (l : Fin 1408) :
    @Eq EReal (k0_pay8 x0 x1 x2 (ix2 p l)) (tile x0 x1 p l * sigmoid (tile x0 x1 p l) * tile x0 x2 p l) := by
  rw [← pay3_at, ← pay1_at, ← pay2_at]
  rfl

theorem pay6_at (x0 : Vec Ideal S512x1024 .bf16) (x1 x2 : Vec Ideal S1x1x1024x1408 .bf16) (p : Fin 512) (l : Fin 1408) :
    @Eq EReal (k0_pay6 x0 x1 x2 (ix2 p l)) (tile x0 x1 p l * sigmoid (tile x0 x1 p l) * tile x0 x2 p l
      + sigmoid (tile x0 x1 p l) * (tile x0 x2 p l - tile x0 x1 p l * sigmoid (tile x0 x1 p l) * tile x0 x2 p l)) := by
  rw [← pay3_at, ← pay1_at, ← pay2_at]
  rfl

theorem h_blk (c : Dev nD) (t : Fin cfg0.N) (p : Fin 512) (k : Fin 1024) (h : 512 * (t.val % 16) + p.val < 8192) :
    iblk m c 0 t (ix2 p k) = hArg m c (ix2 ⟨512 * (t.val % 16) + p.val, h⟩ k) := by
  blk_ext! [iblk, V_main_arg0, index0 t]

theorem wg_blk (c : Dev nD) (t : Fin cfg0.N) (k : Fin 1024) (l : Fin 1408) (h : t.val / 16 < 4) :
    iblk m c 1 t (ix4 0 0 k l) = wArg m c (ix4 0 ⟨t.val / 16, h⟩ k l) := by
  blk_ext! [iblk, V_main_arg1, index1 t]

theorem wu_blk (c : Dev nD) (t : Fin cfg0.N) (k : Fin 1024) (l : Fin 1408) (h : 2 + t.val / 16 < 4) :
    iblk m c 2 t (ix4 0 0 k l) = wArg m c (ix4 0 ⟨2 + t.val / 16, h⟩ k l) := by
  blk_ext! [iblk, V_main_arg1, index2 t]

theorem place3 (t : Fin cfg0.N) (X : Vec Ideal S8192x2816 .bf16) (p : Fin 512) (l : Fin 1408) (h : 512 * (t.val % 16) + p.val < 8192) (h' : 1408 * (t.val / 16) + l.val < 2816) :
    X ((win0_3.blk t).view.emb (ix2 p l)) = X (ix2 ⟨512 * (t.val % 16) + p.val, h⟩ ⟨1408 * (t.val / 16) + l.val, h'⟩) := by
  blk_ext [index3 t]

theorem place4 (t : Fin cfg0.N) (X : Vec Ideal S8192x2816 .bf16) (p : Fin 512) (l : Fin 1408) (h : 512 * (t.val % 16) + p.val < 8192) (h' : 1408 * (t.val / 16) + l.val < 2816) :
    X ((win0_4.blk t).view.emb (ix2 p l)) = X (ix2 ⟨512 * (t.val % 16) + p.val, h⟩ ⟨1408 * (t.val / 16) + l.val, h'⟩) := by
  blk_ext [index4 t]

theorem place5 (t : Fin cfg0.N) (X : Vec Ideal S8192x2816 .bf16) (p : Fin 512) (l : Fin 1408) (h : 512 * (t.val % 16) + p.val < 8192) (h' : 1408 * (t.val / 16) + l.val < 2816) :
    X ((win0_5.blk t).view.emb (ix2 p l)) = X (ix2 ⟨512 * (t.val % 16) + p.val, h⟩ ⟨1408 * (t.val / 16) + l.val, h'⟩) := by
  blk_ext [index5 t]

theorem gate_tile (c : Dev nD) (t : Fin cfg0.N) (p : Fin 512) (l : Fin 1408) (h : 512 * (t.val % 16) + p.val < 8192) (h' : 1408 * (t.val / 16) + l.val < 2816) :
    tile (iblk m c 0 t) (iblk m c 1 t) p l = gate (hArg m c) (wArg m c) ⟨512 * (t.val % 16) + p.val, h⟩ ⟨1408 * (t.val / 16) + l.val, h'⟩ := by
  unfold tile gate proj
  have hq : (1408 * (t.val / 16) + l.val) / 1408 = t.val / 16 := by omega
  have hl : (1408 * (t.val / 16) + l.val) % 1408 = l.val := by omega
  refine Finset.sum_congr (M := EReal) rfl fun k _ => ?_
  simp only [hq, hl]
  rw [h_blk m c t p k h, wg_blk m c t k l (by omega)]

theorem up_tile (c : Dev nD) (t : Fin cfg0.N) (p : Fin 512) (l : Fin 1408) (h : 512 * (t.val % 16) + p.val < 8192) (h' : 1408 * (t.val / 16) + l.val < 2816) :
    tile (iblk m c 0 t) (iblk m c 2 t) p l = up (hArg m c) (wArg m c) ⟨512 * (t.val % 16) + p.val, h⟩ ⟨1408 * (t.val / 16) + l.val, h'⟩ := by
  unfold tile up proj
  have hq : (1408 * (t.val / 16) + l.val) / 1408 = t.val / 16 := by omega
  have hl : (1408 * (t.val / 16) + l.val) % 1408 = l.val := by omega
  refine Finset.sum_congr (M := EReal) rfl fun k _ => ?_
  simp only [hq, hl]
  rw [h_blk m c t p k h, wu_blk m c t k l (by omega)]

theorem hz2 : (![0, 0] : Fin 2 → Nat) = 0 := by decide
theorem hz4 : (![0, 0, 0, 0] : Fin 4 → Nat) = 0 := by decide

theorem final3 (c : Dev nD) : (dats m 0 c).arrAt 3 cfg0.N = byGate (hArg m c) (wArg m c) :=
  (dats m 0 c).arrAt_eq_of_covers 3 _ (by decide +kernel) fun t hf y => by
    blk_simp
    rw [after0_3]
    obtain ⟨p, l, rfl⟩ : ∃ (p : Fin 512) (l : Fin 1408), y = ix2 p l := ⟨_, _, eq_ix2 (n0 := 512) (n1 := 1408) y⟩
    have ht : t.val < 32 := t.isLt.trans_eq N_0
    refine Eq.trans ?_ (place3 t _ _ _ (by omega) (by omega)).symm
    unfold out0_3 byGate
    rw [View.canon_unit_zero (S := S512x1408) hz2]
    simp only [View.ld_unit_zero (S := S512x1024) hz2, View.ld_unit_zero (S := S1x1x1024x1408) hz4, ix2_0, ix2_1]
    refine (pay6_at _ _ _ p l).trans ?_
    rw [gate_tile m c t p l (by omega) (by omega), up_tile m c t p l (by omega) (by omega)]

theorem final4 (c : Dev nD) : (dats m 0 c).arrAt 4 cfg0.N = byUp (hArg m c) (wArg m c) :=
  (dats m 0 c).arrAt_eq_of_covers 4 _ (by decide +kernel) fun t hf y => by
    blk_simp
    rw [after0_4]
    obtain ⟨p, l, rfl⟩ : ∃ (p : Fin 512) (l : Fin 1408), y = ix2 p l := ⟨_, _, eq_ix2 (n0 := 512) (n1 := 1408) y⟩
    have ht : t.val < 32 := t.isLt.trans_eq N_0
    refine Eq.trans ?_ (place4 t _ _ _ (by omega) (by omega)).symm
    unfold out0_4 byUp
    rw [View.canon_unit_zero (S := S512x1408) hz2]
    simp only [View.ld_unit_zero (S := S512x1024) hz2, View.ld_unit_zero (S := S1x1x1024x1408) hz4, ix2_0, ix2_1]
    refine (pay7_at _ _ p l).trans ?_
    rw [gate_tile m c t p l (by omega) (by omega)]

theorem final5 (c : Dev nD) : (dats m 0 c).arrAt 5 cfg0.N = act (hArg m c) (wArg m c) :=
  (dats m 0 c).arrAt_eq_of_covers 5 _ (by decide +kernel) fun t hf y => by
    blk_simp
    rw [after0_5]
    obtain ⟨p, l, rfl⟩ : ∃ (p : Fin 512) (l : Fin 1408), y = ix2 p l := ⟨_, _, eq_ix2 (n0 := 512) (n1 := 1408) y⟩
    have ht : t.val < 32 := t.isLt.trans_eq N_0
    refine Eq.trans ?_ (place5 t _ _ _ (by omega) (by omega)).symm
    unfold out0_5 act
    rw [View.canon_unit_zero (S := S512x1408) hz2]
    simp only [View.ld_unit_zero (S := S512x1024) hz2, View.ld_unit_zero (S := S1x1x1024x1408) hz4, ix2_0, ix2_1]
    refine (pay8_at _ _ _ p l).trans ?_
    rw [gate_tile m c t p l (by omega) (by omega), up_tile m c t p l (by omega) (by omega)]

end Cert.FfnUpIdeal.Array

end
-- ==== Proof.FfnUpClaims.lean ====
/-
  The claims about the feed-forward block's gate and up products: the call runs, and over the extended reals its three
  results are the reference's on finite arguments.
-/
module

public import proofs.«01_k».proof.Defs
public import proofs.«01_k».proof.Proof.Gen.Pre_up_finite
public import proofs.«01_k».proof.Proof.Gen.FfnUp.Frame
public import proofs.«01_k».proof.Proof.Gen.FfnUpIdeal.Frame
public import proofs.«01_k».proof.Proof.Gen.FfnUpIdeal.Value
public import proofs.«01_k».proof.Proof.Gen.FfnUpRefIdeal.Run
public import proofs.«01_k».proof.Proof.Gen.FfnUpRefIdeal.Read
public import proofs.«01_k».proof.Proof.FfnReal
public import proofs.«01_k».proof.Proof.FfnUpArray
public import Idealize.ShloMosaic.Adequacy

@[expose] public section

set_option maxRecDepth 16384

noncomputable section

namespace Cert.Proof.FfnUp

open Idealize.ShloMosaic Idealize.SL.Sem Cert.FfnUpRefIdeal.Read Cert.FfnUpIdeal.Array Cert.Proof.Reals

/-- The precondition, read: every entry of both arguments is a real. -/
theorem finite (x0 : FVec Ideal Cert.Pre_up_finite.S8192x1024 .bf16) (x1 : FVec Ideal Cert.Pre_up_finite.S1x4x1024x1408 .bf16)
    (h : Cert.Pre_up_finite.fn (F := Ideal) x0 x1 = fun _ => 1#1) : (∀ i, IsReal (x0 i)) ∧ (∀ i, IsReal (x1 i)) := by
  simp only [Cert.Pre_up_finite.fn] at h
  have hj := Host.reduce_andi_all _ _ _ _ ix0 (congrFun h ix0)
  constructor
  · intro i
    have h0 := hj (ix1 0)
    pointwise at h0
    obtain ⟨a, b, rfl⟩ : ∃ (a : Fin 8192) (b : Fin 1024), i = ix2 a b := ⟨_, _, eq_ix2 (n0 := 8192) (n1 := 1024) i⟩
    have e := bit_of_fold_univ _ h0 (a, b)
    exact isReal_of_lt (of_bit e)
  · intro i
    have h1 := hj (ix1 1)
    pointwise at h1
    exact isReal_of_lt (of_bit (bit_of_fold _ _ h1 i (Finset.mem_filter.mpr ⟨Finset.mem_univ _, Subsingleton.elim _ _⟩)))

section Reference

variable (x0 : Vec Ideal Cert.FfnUpRefIdeal.S8192x1024 .bf16) (x1 : Vec Ideal Cert.FfnUpRefIdeal.S1x4x1024x1408 .bf16)
variable (t : Fin 8192) (c : Fin 2816)

theorem proj_at (d : Fin 5632) (q : Fin 4) (j : Fin 1408) (hq : d.val / 1408 = q.val) (hj : d.val % 1408 = j.val) :
    @Eq EReal (val_main_v5 (F := Ideal) x0 x1 (ix2 t d)) (proj x0 x1 q t j) := by
  unfold proj
  pointwise [val_main_v5, val_main_v4, val_main_v3, val_main_v2, val_main_v1, val_main_v0]
  have eq : ∀ h, (⟨d.val / 1408, h⟩ : Fin 4) = q := fun h => Fin.ext hq
  have ej : ∀ h, (⟨d.val % 1408, h⟩ : Fin 1408) = j := fun h => Fin.ext hj
  simp only [eq, ej]

theorem gate_at : @Eq EReal (val_main_v6 (F := Ideal) x0 x1 (ix2 t c)) (gate x0 x1 t c) := by
  unfold gate
  rw [← proj_at x0 x1 t ⟨c.val, by omega⟩ _ _ rfl rfl]
  pointwise [val_main_v6]

theorem up_at : @Eq EReal (val_main_v7 (F := Ideal) x0 x1 (ix2 t c)) (up x0 x1 t c) := by
  unfold up
  rw [← proj_at x0 x1 t ⟨2816 + c.val, by omega⟩ _ _ (by first | omega | (dsimp only; omega)) (by first | omega | (dsimp only; omega))]
  pointwise [val_main_v7]

theorem sigmoid_at : @Eq EReal (val_main_v8_2 (F := Ideal) x0 x1 (ix2 t c)) (sigmoid (gate x0 x1 t c)) := by
  rw [← gate_at]
  unfold sigmoid
  pointwise [val_main_v8_2, val_main_call0_v4, val_main_call0_v3, val_main_call0_v2, val_main_call0_v1, val_main_call0_v0, val_main_call0_cst, val_main_call0_cst_0]

theorem one_at : @Eq EReal (val_main_v10 (F := Ideal) (ix2 t c)) 1 := by
  pointwise [val_main_v10, val_main_cst]

theorem byUp_at : @Eq EReal (val_main_v15 (F := Ideal) x0 x1 (ix2 t c)) (gate x0 x1 t c * sigmoid (gate x0 x1 t c) * 1) := by
  rw [← sigmoid_at, ← gate_at, ← one_at t c]
  rfl

theorem act_at : @Eq EReal (val_main_v16 (F := Ideal) x0 x1 (ix2 t c)) (gate x0 x1 t c * sigmoid (gate x0 x1 t c) * up x0 x1 t c) := by
  rw [← sigmoid_at, ← gate_at, ← up_at]
  rfl

theorem one_at' : @Eq EReal (val_main_call0_v6 (F := Ideal) (ix2 t c)) 1 := by
  pointwise [val_main_call0_v6, val_main_call0_cst_1]

theorem byGate_at : @Eq EReal (val_main_v14 (F := Ideal) x0 x1 (ix2 t c))
    (1 * up x0 x1 t c * sigmoid (gate x0 x1 t c) + gate x0 x1 t c * (1 * up x0 x1 t c) * (sigmoid (gate x0 x1 t c) * (1 - sigmoid (gate x0 x1 t c)))) := by
  rw [← sigmoid_at, ← gate_at, ← up_at]
  have e : @Eq EReal (val_main_v14 (F := Ideal) x0 x1 (ix2 t c))
      ((val_main_v10 (F := Ideal) (ix2 t c) : EReal) * val_main_v7 (F := Ideal) x0 x1 (ix2 t c) * val_main_v8_2 (F := Ideal) x0 x1 (ix2 t c)
        + val_main_v6 (F := Ideal) x0 x1 (ix2 t c) * ((val_main_v10 (F := Ideal) (ix2 t c) : EReal) * val_main_v7 (F := Ideal) x0 x1 (ix2 t c))
          * ((val_main_v8_2 (F := Ideal) x0 x1 (ix2 t c) : EReal) * ((val_main_call0_v6 (F := Ideal) (ix2 t c) : EReal) - val_main_v8_2 (F := Ideal) x0 x1 (ix2 t c)))) := rfl
  rw [e, one_at, one_at']

end Reference

theorem ref_up (x0 : Vec Ideal Cert.FfnUpRefIdeal.S8192x1024 .bf16) (x1 : Vec Ideal Cert.FfnUpRefIdeal.S1x4x1024x1408 .bf16) :
    val_main_v15 (F := Ideal) x0 x1 = byUp x0 x1 := by
  funext i
  obtain ⟨t, c, rfl⟩ : ∃ (t : Fin 8192) (c : Fin 2816), i = ix2 t c := ⟨_, _, eq_ix2 (n0 := 8192) (n1 := 2816) i⟩
  exact (byUp_at x0 x1 t c).trans (mul_one _)

theorem ref_act (x0 : Vec Ideal Cert.FfnUpRefIdeal.S8192x1024 .bf16) (x1 : Vec Ideal Cert.FfnUpRefIdeal.S1x4x1024x1408 .bf16) :
    val_main_v16 (F := Ideal) x0 x1 = act x0 x1 := by
  funext i
  obtain ⟨t, c, rfl⟩ : ∃ (t : Fin 8192) (c : Fin 2816), i = ix2 t c := ⟨_, _, eq_ix2 (n0 := 8192) (n1 := 2816) i⟩
  exact act_at x0 x1 t c

theorem ref_gate (x0 : Vec Ideal Cert.FfnUpRefIdeal.S8192x1024 .bf16) (x1 : Vec Ideal Cert.FfnUpRefIdeal.S1x4x1024x1408 .bf16)
    (h0 : ∀ i, IsReal (x0 i)) (h1 : ∀ i, IsReal (x1 i)) : val_main_v14 (F := Ideal) x0 x1 = byGate x0 x1 := by
  funext i
  obtain ⟨t, c, rfl⟩ : ∃ (t : Fin 8192) (c : Fin 2816), i = ix2 t c := ⟨_, _, eq_ix2 (n0 := 8192) (n1 := 2816) i⟩
  have hp : ∀ q t j, IsReal (proj x0 x1 q t j) := fun q t j => IsReal.sum _ fun k => (h0 _).mul (h1 _)
  exact (byGate_at x0 x1 t c).trans (gate_derivative (hp _ _ _) (hp _ _ _)).symm

theorem frame : Cert.quiescent_FfnUp := fun m ρ _ => Cert.FfnUp.Gen.frame m ρ

theorem frame_ideal : Cert.quiescent_FfnUpIdeal := fun m ρ _ => Cert.FfnUpIdeal.Gen.frame m ρ

theorem frame_ideal_finite : Cert.quiescent_FfnUpIdeal_pre_up_finite := fun m ρ _ => Cert.FfnUpIdeal.Gen.frame m ρ

theorem frame_ref : Cert.quiescent_FfnUpRefIdeal := fun m ρ _ =>
  (θ_run Cert.FfnUpRefIdeal.defs _ _).mono (fun r h => ⟨fun c => (h c).2.2.2, Idealize.ShloMosaic.sem_eq_zero_of_no_sems (by decide) r.2⟩)
    (Cert.FfnUpRefIdeal.Value.run (F := Ideal) m ρ)

theorem frame_ref_finite : Cert.quiescent_FfnUpRefIdeal_pre_up_finite := fun m ρ _ => frame_ref m ρ trivial

theorem preserves : Cert.preserves_FfnUp_FfnUpIdeal := trivial

/-- Both programs end with the three arrays of FfnUpArray.lean, computed from arguments that agree. -/
theorem algebraic : Cert.algebraic_FfnUpIdeal_FfnUpRefIdeal_pre_up_finite := by
  intro m ρ m' ρ' hpre hagree
  refine ⟨fun c => byGate (hArg m c) (wArg m c), fun c => byUp (hArg m c) (wArg m c), fun c => act (hArg m c) (wArg m c), ?_, ?_⟩
  · exact (θ_run Cert.FfnUpIdeal.defs _ _).mono
      (fun _ h c => ⟨(h c).1.trans (final3 m c), (h c).2.1.trans (final4 m c), (h c).2.2.1.trans (final5 m c), (h c).2.2.2⟩)
      (Cert.FfnUpIdeal.Value.run_blocks m ρ)
  · refine (θ_run Cert.FfnUpRefIdeal.defs _ _).mono
      (fun _ h c => ⟨(h c).1.trans ?_, (h c).2.1.trans ?_, (h c).2.2.1.trans ?_, (h c).2.2.2⟩)
      (Cert.FfnUpRefIdeal.Value.run (F := Ideal) m' ρ')
    · rw [val_main_v14_eq, (hagree c).1, (hagree c).2]
      exact ref_gate _ _ (finite _ _ (hpre c)).1 (finite _ _ (hpre c)).2
    · rw [val_main_v15_eq, (hagree c).1, (hagree c).2]
      exact ref_up _ _
    · rw [val_main_v16_eq, (hagree c).1, (hagree c).2]
      exact ref_act _ _

end Cert.Proof.FfnUp

end
-- ==== Proof.FfnDownArray.lean ====
/-
  The residual addition of the down projection with the next norm: the call's two result arrays as functions of its arguments
  over the extended reals.
-/
module

public import proofs.«01_k».proof.Proof.Gen.FfnDownIdeal.Value
public import proofs.«01_k».proof.Proof.FfnReal
public import proofs.«01_k».proof.Proof.RowNorm
public import Idealize.ShloMosaic.Lib.Pointwise
public import Idealize.ShloMosaic.Lib.Pipeline.ValueKit.Point
public import Idealize.ShloMosaic.Lib.Pipeline.ValueKit.Acc
public import Idealize.ShloMosaic.Lib.StableHlo.ReadAt

@[expose] public section

set_option maxRecDepth 16384

noncomputable section

namespace Cert.FfnDownIdeal.Array

open Cert.FfnDownIdeal Cert.FfnDownIdeal.Gen Cert.FfnDownIdeal.Value Idealize.ShloMosaic Idealize.ShloMosaic.TcCoe Idealize.SL.Sem Cert.Proof Cert.Proof.Reals
open Idealize.ShloMosaic.Pipeline (Dat)

variable (m : (ℓ : Loc nD τ sig) → Buf (Elt Ideal) ℓ) (ρ : Dev nD → PrngReg)

theorem index0 : ∀ t : Fin cfg0.N, win0_0.index t = ![t.val, 0] := (by decide +kernel : ∀ t : Fin grid0.N, _)
theorem index1 : ∀ t : Fin cfg0.N, win0_1.index t = ![0, 0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)

abbrev aArg (c : Dev nD) : Vec Ideal S8192x2816 .bf16 := m ((c.tc : Thread nD τ).loc main_arg0)
abbrev wArg (c : Dev nD) : Vec Ideal S1x2816x1024 .bf16 := m ((c.tc : Thread nD τ).loc main_arg1)
abbrev resArg (c : Dev nD) : Vec Ideal S8192x1024 .f32 := m ((c.tc : Thread nD τ).loc main_arg2)
abbrev gainArg (c : Dev nD) : Vec Ideal S1x1024 .f32 := m ((c.tc : Thread nD τ).loc main_arg3)

/-- A row of the residual stream after the product is added. -/
def row (a : Vec Ideal S8192x2816 .bf16) (w : Vec Ideal S1x2816x1024 .bf16) (res : Vec Ideal S8192x1024 .f32) (t : Fin 8192) (j : Fin 1024) : EReal :=
  res (ix2 t j) + ∑ k : Fin 2816, a (ix2 t k) * w (ix3 0 k j)

/-- The residual stream. -/
def stream (a : Vec Ideal S8192x2816 .bf16) (w : Vec Ideal S1x2816x1024 .bf16) (res : Vec Ideal S8192x1024 .f32) : Vec Ideal S8192x1024 .f32 :=
  fun i => row a w res (i 0) (i 1)

/-- The normed residual stream. -/
def normed (a : Vec Ideal S8192x2816 .bf16) (w : Vec Ideal S1x2816x1024 .bf16) (res : Vec Ideal S8192x1024 .f32) (gain : Vec Ideal S1x1024 .f32) :
    Vec Ideal S8192x1024 .bf16 :=
  fun i => (row a w res (i 0) (i 1) * RowNorm.scale (row a w res (i 0)) * gain (ix2 0 (i 1)) : EReal)

/-- A row of one tile's product added to its rows. -/
def tile (x0 : Vec Ideal S1024x1024 .f32) (x1 : Vec Ideal S1024x2816 .bf16) (x2 : Vec Ideal S1x2816x1024 .bf16) (p l : Fin 1024) : EReal :=
  x0 (ix2 p l) + ∑ k : Fin 2816, x1 (ix2 p k) * x2 (ix3 0 k l)

theorem pay1_at (x0 : Vec Ideal S1024x1024 .f32) (x1 : Vec Ideal S1024x2816 .bf16) (x2 : Vec Ideal S1x2816x1024 .bf16) (p l : Fin 1024) :
    @Eq EReal (k0_pay1 x0 x1 x2 (ix2 p l)) (tile x0 x1 x2 p l) := by
  unfold k0_pay1 tile
  pointwise

theorem pay2_at (x0 : Vec Ideal S1024x1024 .f32) (x1 : Vec Ideal S1024x2816 .bf16) (x2 : Vec Ideal S1x2816x1024 .bf16) (x3 : Vec Ideal S1x1024 .f32)
    (p l : Fin 1024) :
    @Eq EReal (k0_pay2 x0 x1 x2 x3 (ix2 p l)) (tile x0 x1 x2 p l * RowNorm.scale (tile x0 x1 x2 p) * x3 (ix2 0 l)) := by
  have e : tile x0 x1 x2 p = fun l => (k0_pay1 (F := Ideal) x0 x1 x2 (ix2 p l) : EReal) := funext fun l => (pay1_at x0 x1 x2 p l).symm
  rw [e]
  unfold k0_pay2 RowNorm.scale RowNorm.mean
  generalize k0_pay1 (F := Ideal) x0 x1 x2 = y
  pointwise

theorem a_blk (c : Dev nD) (t : Fin cfg0.N) (p : Fin 1024) (k : Fin 2816) (h : 1024 * t.val + p.val < 8192) :
    iblk m c 0 t (ix2 p k) = aArg m c (ix2 ⟨1024 * t.val + p.val, h⟩ k) := by
  blk_ext! [iblk, V_main_arg0, index0 t]

theorem w_blk (c : Dev nD) (t : Fin cfg0.N) (k : Fin 2816) (l : Fin 1024) : iblk m c 1 t (ix3 0 k l) = wArg m c (ix3 0 k l) := by
  blk_ext! [iblk, V_main_arg1, index1 t]

theorem res_blk (c : Dev nD) (t : Fin cfg0.N) (p l : Fin 1024) (h : 1024 * t.val + p.val < 8192) :
    iblk m c 2 t (ix2 p l) = resArg m c (ix2 ⟨1024 * t.val + p.val, h⟩ l) := by
  blk_ext! [iblk, V_main_arg2, index2 t]

theorem gain_blk (c : Dev nD) (t : Fin cfg0.N) (l : Fin 1024) : iblk m c 3 t (ix2 0 l) = gainArg m c (ix2 0 l) := by
  blk_ext! [iblk, V_main_arg3, index3 t]

theorem place4 (t : Fin cfg0.N) (X : Vec Ideal S8192x1024 .f32) (p l : Fin 1024) (h : 1024 * t.val + p.val < 8192) :
    X ((win0_4.blk t).view.emb (ix2 p l)) = X (ix2 ⟨1024 * t.val + p.val, h⟩ l) := by
  blk_ext [index4 t]

theorem place5 (t : Fin cfg0.N) (X : Vec Ideal S8192x1024 .bf16) (p l : Fin 1024) (h : 1024 * t.val + p.val < 8192) :
    X ((win0_5.blk t).view.emb (ix2 p l)) = X (ix2 ⟨1024 * t.val + p.val, h⟩ l) := by
  blk_ext [index5 t]

theorem row_tile (c : Dev nD) (t : Fin cfg0.N) (p : Fin 1024) (h : 1024 * t.val + p.val < 8192) :
    tile (iblk m c 2 t) (iblk m c 0 t) (iblk m c 1 t) p = row (aArg m c) (wArg m c) (resArg m c) ⟨1024 * t.val + p.val, h⟩ := by
  funext l
  unfold tile row
  rw [res_blk m c t p l h]
  refine congrArg (fun b : EReal => (resArg m c (ix2 ⟨1024 * t.val + p.val, h⟩ l) : EReal) + b) ?_
  refine Finset.sum_congr (M := EReal) rfl fun k _ => ?_
  rw [a_blk m c t p k h, w_blk m c t k l]

theorem hz2 : (![0, 0] : Fin 2 → Nat) = 0 := by decide
theorem hz3 : (![0, 0, 0] : Fin 3 → Nat) = 0 := by decide

theorem final4 (c : Dev nD) : (dats m 0 c).arrAt 4 cfg0.N = stream (aArg m c) (wArg m c) (resArg m c) :=
  (dats m 0 c).arrAt_eq_of_covers 4 _ (by decide +kernel) fun t hf y => by
    blk_simp
    rw [after0_4]
    obtain ⟨p, l, rfl⟩ : ∃ (p l : Fin 1024), y = ix2 p l := ⟨_, _, eq_ix2 (n0 := 1024) (n1 := 1024) y⟩
    have ht : t.val < 8 := t.isLt.trans_eq N_0
    refine Eq.trans ?_ (place4 t _ _ _ (by omega)).symm
    unfold out0_4 stream
    rw [View.canon_unit_zero (S := S1024x1024) hz2]
    simp only [View.ld_unit_zero (S := S1024x1024) hz2, View.ld_unit_zero (S := S1024x2816) hz2, View.ld_unit_zero (S := S1x2816x1024) hz3, View.ld_unit_zero (S := S1x1024) hz2, ix2_0, ix2_1]
    refine (pay1_at _ _ _ p l).trans ?_
    rw [row_tile m c t p (by omega)]

theorem final5 (c : Dev nD) : (dats m 0 c).arrAt 5 cfg0.N = normed (aArg m c) (wArg m c) (resArg m c) (gainArg m c) :=
  (dats m 0 c).arrAt_eq_of_covers 5 _ (by decide +kernel) fun t hf y => by
    blk_simp
    rw [after0_5]
    obtain ⟨p, l, rfl⟩ : ∃ (p l : Fin 1024), y = ix2 p l := ⟨_, _, eq_ix2 (n0 := 1024) (n1 := 1024) y⟩
    have ht : t.val < 8 := t.isLt.trans_eq N_0
    refine Eq.trans ?_ (place5 t _ _ _ (by omega)).symm
    unfold out0_5 normed
    rw [View.canon_unit_zero (S := S1024x1024) hz2]
    simp only [View.ld_unit_zero (S := S1024x1024) hz2, View.ld_unit_zero (S := S1024x2816) hz2, View.ld_unit_zero (S := S1x2816x1024) hz3, View.ld_unit_zero (S := S1x1024) hz2, ix2_0, ix2_1]
    refine (pay2_at _ _ _ _ p l).trans ?_
    rw [row_tile m c t p (by omega), gain_blk m c t l]

end Cert.FfnDownIdeal.Array

end
-- ==== Proof.FfnDownClaims.lean ====
/-
  The claims about the residual addition of the down projection with the next norm: the call runs, and over the extended reals
  its two results are the reference's.
-/
module

public import proofs.«01_k».proof.Defs
public import proofs.«01_k».proof.Proof.Gen.FfnDown.Frame
public import proofs.«01_k».proof.Proof.Gen.FfnDownIdeal.Frame
public import proofs.«01_k».proof.Proof.Gen.FfnDownIdeal.Value
public import proofs.«01_k».proof.Proof.Gen.FfnDownRefIdeal.Run
public import proofs.«01_k».proof.Proof.Gen.FfnDownRefIdeal.Read
public import proofs.«01_k».proof.Proof.FfnReal
public import proofs.«01_k».proof.Proof.RowNorm
public import proofs.«01_k».proof.Proof.FfnDownArray
public import Idealize.ShloMosaic.Adequacy

@[expose] public section

set_option maxRecDepth 16384

noncomputable section

namespace Cert.Proof.FfnDown

open Idealize.ShloMosaic Idealize.SL.Sem Cert.FfnDownRefIdeal.Read Cert.FfnDownIdeal.Array Cert.Proof.Reals

section Reference

variable (x0 : Vec Ideal Cert.FfnDownRefIdeal.S8192x2816 .bf16) (x1 : Vec Ideal Cert.FfnDownRefIdeal.S1x2816x1024 .bf16)
variable (x2 : Vec Ideal Cert.FfnDownRefIdeal.S8192x1024 .f32) (x3 : Vec Ideal Cert.FfnDownRefIdeal.S1x1024 .f32)

theorem row_at (t : Fin 8192) (l : Fin 1024) : @Eq EReal (val_main_v4 (F := Ideal) x0 x1 x2 (ix2 t l)) (row x0 x1 x2 t l) := by
  unfold row
  pointwise [val_main_v4, val_main_v3, val_main_v2, val_main_v1, val_main_v0]

theorem normed_at (t : Fin 8192) (l : Fin 1024) : @Eq EReal (val_main_v17 (F := Ideal) x0 x1 x2 x3 (ix2 t l))
    (row x0 x1 x2 t l * RowNorm.scale (row x0 x1 x2 t) * x3 (ix2 0 l)) := by
  have e : row x0 x1 x2 t = fun l => (val_main_v4 (F := Ideal) x0 x1 x2 (ix2 t l) : EReal) := funext fun l => (row_at x0 x1 x2 t l).symm
  rw [e]
  unfold RowNorm.scale RowNorm.mean
  pointwise [val_main_v17, val_main_v16, val_main_v15, val_main_v14, val_main_v13, val_main_v12, val_main_v11, val_main_v10, val_main_v9, val_main_v8,
    val_main_v7, val_main_v6, val_main_v5, val_main_cst, val_main_cst_0, val_main_cst_1]

end Reference

theorem ref_stream (x0 : Vec Ideal Cert.FfnDownRefIdeal.S8192x2816 .bf16) (x1 : Vec Ideal Cert.FfnDownRefIdeal.S1x2816x1024 .bf16) (x2 : Vec Ideal Cert.FfnDownRefIdeal.S8192x1024 .f32) :
    val_main_v4 (F := Ideal) x0 x1 x2 = stream x0 x1 x2 := by
  funext i
  obtain ⟨t, l, rfl⟩ : ∃ (t : Fin 8192) (l : Fin 1024), i = ix2 t l := ⟨_, _, eq_ix2 (n0 := 8192) (n1 := 1024) i⟩
  exact row_at x0 x1 x2 t l

theorem ref_normed (x0 : Vec Ideal Cert.FfnDownRefIdeal.S8192x2816 .bf16) (x1 : Vec Ideal Cert.FfnDownRefIdeal.S1x2816x1024 .bf16) (x2 : Vec Ideal Cert.FfnDownRefIdeal.S8192x1024 .f32)
    (x3 : Vec Ideal Cert.FfnDownRefIdeal.S1x1024 .f32) : val_main_v17 (F := Ideal) x0 x1 x2 x3 = normed x0 x1 x2 x3 := by
  funext i
  obtain ⟨t, l, rfl⟩ : ∃ (t : Fin 8192) (l : Fin 1024), i = ix2 t l := ⟨_, _, eq_ix2 (n0 := 8192) (n1 := 1024) i⟩
  exact normed_at x0 x1 x2 x3 t l

theorem frame : Cert.quiescent_FfnDown := fun m ρ _ => Cert.FfnDown.Gen.frame m ρ

theorem frame_ideal : Cert.quiescent_FfnDownIdeal := fun m ρ _ => Cert.FfnDownIdeal.Gen.frame m ρ

theorem frame_ref : Cert.quiescent_FfnDownRefIdeal := fun m ρ _ =>
  (θ_run Cert.FfnDownRefIdeal.defs _ _).mono (fun r h => ⟨fun c => (h c).2.2, Idealize.ShloMosaic.sem_eq_zero_of_no_sems (by decide) r.2⟩)
    (Cert.FfnDownRefIdeal.Value.run (F := Ideal) m ρ)

theorem preserves : Cert.preserves_FfnDown_FfnDownIdeal := trivial

/-- Both programs end with the two arrays of FfnDownArray.lean, computed from arguments that agree. -/
theorem algebraic : Cert.algebraic_FfnDownIdeal_FfnDownRefIdeal := by
  intro m ρ m' ρ' hpre hagree
  refine ⟨fun c => stream (aArg m c) (wArg m c) (resArg m c), fun c => normed (aArg m c) (wArg m c) (resArg m c) (gainArg m c), ?_, ?_⟩
  · exact (θ_run Cert.FfnDownIdeal.defs _ _).mono
      (fun _ h c => ⟨(h c).1.trans (final4 m c), (h c).2.1.trans (final5 m c), (h c).2.2⟩)
      (Cert.FfnDownIdeal.Value.run_blocks m ρ)
  · refine (θ_run Cert.FfnDownRefIdeal.defs _ _).mono
      (fun _ h c => ⟨(h c).1.trans ?_, (h c).2.1.trans ?_, (h c).2.2⟩)
      (Cert.FfnDownRefIdeal.Value.run (F := Ideal) m' ρ')
    · rw [val_main_v4_eq, (hagree c).1, (hagree c).2.1, (hagree c).2.2.1]
      exact ref_stream _ _ _
    · rw [val_main_v17_eq, (hagree c).1, (hagree c).2.1, (hagree c).2.2.1, (hagree c).2.2.2]
      exact ref_normed _ _ _ _

end Cert.Proof.FfnDown

end
-- ==== Proof.FfnDownLossArray.lean ====
/-
  The feed-forward block's down product with the loss: the call's three result arrays as functions of its arguments over
  the extended reals.
-/
module

public import proofs.«01_k».proof.Proof.Gen.FfnDownLossIdeal.Value
public import proofs.«01_k».proof.Proof.FfnReal
public import Idealize.ShloMosaic.Lib.Pointwise
public import Idealize.ShloMosaic.Lib.Pipeline.ValueKit.Point
public import Idealize.ShloMosaic.Lib.Pipeline.ValueKit.Acc
public import Idealize.ShloMosaic.Lib.StableHlo.ReadAt

@[expose] public section

set_option maxRecDepth 16384

noncomputable section

namespace Cert.FfnDownLossIdeal.Array

open Cert.FfnDownLossIdeal Cert.FfnDownLossIdeal.Gen Cert.FfnDownLossIdeal.Value Idealize.ShloMosaic Idealize.ShloMosaic.TcCoe Idealize.SL.Sem Cert.Proof.Reals
open Idealize.ShloMosaic.Pipeline (Dat)

variable (m : (ℓ : Loc nD τ sig) → Buf (Elt Ideal) ℓ) (ρ : Dev nD → PrngReg)

theorem index0 : ∀ t : Fin cfg0.N, win0_0.index t = ![t.val, 0] := (by decide +kernel : ∀ t : Fin grid0.N, _)
theorem index1 : ∀ t : Fin cfg0.N, win0_1.index t = ![0, 0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![0, 0] := (by decide +kernel : ∀ t : Fin grid0.N, _)

abbrev aArg (c : Dev nD) : Vec Ideal S8192x2816 .bf16 := m ((c.tc : Thread nD τ).loc main_arg0)
abbrev wArg (c : Dev nD) : Vec Ideal S1x2816x1024 .bf16 := m ((c.tc : Thread nD τ).loc main_arg1)
abbrev resArg (c : Dev nD) : Vec Ideal S8192x1024 .f32 := m ((c.tc : Thread nD τ).loc main_arg2)
abbrev tgtArg (c : Dev nD) : Vec Ideal S8192x1024 .f32 := m ((c.tc : Thread nD τ).loc main_arg3)

/-- How far the residual stream, after the product is added, is from the target. -/
def miss (a : Vec Ideal S8192x2816 .bf16) (w : Vec Ideal S1x2816x1024 .bf16) (res tgt : Vec Ideal S8192x1024 .f32) (t : Fin 8192) (j : Fin 1024) : EReal :=
  res (ix2 t j) + (∑ k : Fin 2816, a (ix2 t k) * w (ix3 0 k j)) - tgt (ix2 t j)

/-- The loss's gradient at the stream: the miss over the width. -/
def lossGrad (a : Vec Ideal S8192x2816 .bf16) (w : Vec Ideal S1x2816x1024 .bf16) (res tgt : Vec Ideal S8192x1024 .f32) : Vec Ideal S8192x1024 .f32 :=
  fun i => (miss a w res tgt (i 0) (i 1) * Ideal.ofBits .f32 0x3A800000#32 : EReal)

/-- The same, kept in the short format. -/
def lossGrad16 (a : Vec Ideal S8192x2816 .bf16) (w : Vec Ideal S1x2816x1024 .bf16) (res tgt : Vec Ideal S8192x1024 .f32) : Vec Ideal S8192x1024 .bf16 :=
  lossGrad a w res tgt

/-- Half the mean square of the miss. -/
def loss (a : Vec Ideal S8192x2816 .bf16) (w : Vec Ideal S1x2816x1024 .bf16) (res tgt : Vec Ideal S8192x1024 .f32) : Vec Ideal S1x1 .f32 :=
  fun _ => ((∑ t : Fin 8192, ∑ j : Fin 1024, miss a w res tgt t j * miss a w res tgt t j) * Ideal.ofBits .f32 0x3A000000#32 : EReal)

/-- An entry of a tile's miss. -/
def tile (x0 : Vec Ideal S1024x2816 .bf16) (x1 : Vec Ideal S1x2816x1024 .bf16) (x2 x3 : Vec Ideal S1024x1024 .f32) (p l : Fin 1024) : EReal :=
  x2 (ix2 p l) + (∑ k : Fin 2816, x0 (ix2 p k) * x1 (ix3 0 k l)) - x3 (ix2 p l)

/-- A tile's squares, gathered over every eighth row. -/
def share (x0 : Vec Ideal S1024x2816 .bf16) (x1 : Vec Ideal S1x2816x1024 .bf16) (x2 x3 : Vec Ideal S1024x1024 .f32) : Vec Ideal S8x1024 .f32 :=
  fun y => (∑ s : Fin 128, tile x0 x1 x2 x3 ⟨s.val * 8 + (y 0).val, by have := (y 0).isLt; change _ < 8 at this; omega⟩ (y 1)
    * tile x0 x1 x2 x3 ⟨s.val * 8 + (y 0).val, by have := (y 0).isLt; change _ < 8 at this; omega⟩ (y 1) : EReal)

section Payloads
variable (x0 : Vec Ideal S1024x2816 .bf16) (x1 : Vec Ideal S1x2816x1024 .bf16) (x2 x3 : Vec Ideal S1024x1024 .f32)

theorem pay2_at (p l : Fin 1024) : @Eq EReal (k0_pay2 x2 x0 x1 x3 (ix2 p l)) (tile x0 x1 x2 x3 p l) := by
  unfold k0_pay2 tile
  pointwise

theorem pay3_at (p l : Fin 1024) : @Eq EReal (k0_pay3 x2 x0 x1 x3 (ix2 p l)) (tile x0 x1 x2 x3 p l * Ideal.ofBits .f32 0x3A800000#32) := by
  rw [← pay2_at]
  unfold k0_pay3
  generalize k0_pay2 (F := Ideal) x2 x0 x1 x3 = y
  pointwise

theorem pay4_at (p l : Fin 1024) : @Eq EReal (k0_pay4 x2 x0 x1 x3 (ix2 p l)) (tile x0 x1 x2 x3 p l * Ideal.ofBits .f32 0x3A800000#32) :=
  pay3_at x0 x1 x2 x3 p l

theorem tile_row (l : Fin 1024) : (fun p => tile x0 x1 x2 x3 p l) = fun p => (k0_pay2 (F := Ideal) x2 x0 x1 x3 (ix2 p l) : EReal) :=
  funext fun p => (pay2_at x0 x1 x2 x3 p l).symm

theorem pay5_at (acc : Vec Ideal S8x1024 .f32) (y : S8x1024.Idx) : @Eq EReal (k0_pay5 x2 x0 x1 x3 acc y) (acc y + share x0 x1 x2 x3 y) := by
  obtain ⟨i, l, rfl⟩ : ∃ (i : Fin 8) (l : Fin 1024), y = ix2 i l := ⟨_, _, eq_ix2 (n0 := 8) (n1 := 1024) y⟩
  unfold share
  simp only [ix2_0, ix2_1, ← pay2_at]
  unfold k0_pay5
  generalize k0_pay2 (F := Ideal) x2 x0 x1 x3 = z
  pointwise

theorem pay1_at (y : S8x1024.Idx) : @Eq EReal (k0_pay1 (F := Ideal) y) 0 := by
  obtain ⟨i, l, rfl⟩ : ∃ (i : Fin 8) (l : Fin 1024), y = ix2 i l := ⟨_, _, eq_ix2 (n0 := 8) (n1 := 1024) y⟩
  unfold k0_pay1
  pointwise

theorem pay6_at (v : Vec Ideal S8x1024 .f32) : @Eq EReal (k0_pay6 v (ix2 0 0)) ((∑ i : Fin 8, ∑ l : Fin 1024, v (ix2 i l)) * Ideal.ofBits .f32 0x3A000000#32) := by
  unfold k0_pay6
  pointwise

end Payloads

theorem hz2 : (![0, 0] : Fin 2 → Nat) = 0 := by decide
theorem hz3 : (![0, 0, 0] : Fin 3 → Nat) = 0 := by decide

section Cases
variable (d : Dev nD) (i : grid0.Coords) (a0 : Memref sig .tc .vmem S1024x2816 .bf16) (h0 : a0.IsWhole) (a1 : Memref sig .tc .vmem S1x2816x1024 .bf16) (h1 : a1.IsWhole)
  (a2 : Memref sig .tc .vmem S1024x1024 .f32) (h2 : a2.IsWhole) (a3 : Memref sig .tc .vmem S1024x1024 .f32) (h3 : a3.IsWhole)
  (a4 : Memref sig .tc .vmem S1024x1024 .f32) (h4 : a4.IsWhole) (a5 : Memref sig .tc .vmem S1024x1024 .bf16) (h5 : a5.IsWhole)
  (a6 : Memref sig .tc .vmem S1x1 .f32) (h6 : a6.IsWhole) (a7 : Memref sig .tc .vmem S8x1024 .f32) (h7 : a7.IsWhole)
  (x0 : Vec Ideal S1024x2816 .bf16) (x1 : Vec Ideal S1x2816x1024 .bf16) (x2 x3 : Vec Ideal S1024x1024 .f32) (xs : Vec Ideal S8x1024 .f32)

theorem out_A_4 (c : cond0_0 i) (c' : ¬cond0_1 i) : out0_A_4 (F := Ideal) d i a0 h0 a1 h1 a2 h2 a3 h3 a4 h4 a5 h5 a6 h6 a7 h7 c c' x0 x1 x2 x3 = k0_pay3 x2 x0 x1 x3 := by
  unfold out0_A_4
  rw [View.read_writes_eq_canon _ _ _ (cover0_A_4 d i a0 h0 a1 h1 a2 h2 a3 h3 a4 h4 a5 h5 a6 h6 a7 h7 c c' x0 x1 x2 x3)]
  unfold kernelRun0_A
  dsimp only
  try sl_unfold_words
  rw [View.canon_unit_zero (S := S1024x1024) hz2]
  simp only [View.readAt_eq_ld, h0.read_unread, h1.read_unread, h2.read_unread, h3.read_unread, h7.read_unread, View.ld_unit_zero (S := S1024x2816) hz2, View.ld_unit_zero (S := S1x2816x1024) hz3, View.ld_unit_zero (S := S1024x1024) hz2, View.ld_unit_zero (S := S8x1024) hz2]

theorem out_A_5 (c : cond0_0 i) (c' : ¬cond0_1 i) : out0_A_5 (F := Ideal) d i a0 h0 a1 h1 a2 h2 a3 h3 a4 h4 a5 h5 a6 h6 a7 h7 c c' x0 x1 x2 x3 = k0_pay4 x2 x0 x1 x3 := by
  unfold out0_A_5
  rw [View.read_writes_eq_canon _ _ _ (cover0_A_5 d i a0 h0 a1 h1 a2 h2 a3 h3 a4 h4 a5 h5 a6 h6 a7 h7 c c' x0 x1 x2 x3)]
  unfold kernelRun0_A
  dsimp only
  try sl_unfold_words
  rw [View.canon_unit_zero (S := S1024x1024) hz2]
  simp only [View.readAt_eq_ld, h0.read_unread, h1.read_unread, h2.read_unread, h3.read_unread, h7.read_unread, View.ld_unit_zero (S := S1024x2816) hz2, View.ld_unit_zero (S := S1x2816x1024) hz3, View.ld_unit_zero (S := S1024x1024) hz2, View.ld_unit_zero (S := S8x1024) hz2]

theorem scratch_A (c : cond0_0 i) (c' : ¬cond0_1 i) : sout0_A_0 (F := Ideal) d i a0 h0 a1 h1 a2 h2 a3 h3 a4 h4 a5 h5 a6 h6 a7 h7 c c' x0 x1 x2 x3 = k0_pay5 x2 x0 x1 x3 (k0_pay1 (F := Ideal)) := by
  unfold sout0_A_0
  rw [View.read_writes_eq_canon _ _ _ (scover0_A_0 d i a0 h0 a1 h1 a2 h2 a3 h3 a4 h4 a5 h5 a6 h6 a7 h7 c c' x0 x1 x2 x3)]
  unfold kernelRun0_A
  dsimp only
  try sl_unfold_words
  rw [View.canon_cons_unit_zero (S := S8x1024) hz2, View.readCov_unit_zero (S := S8x1024) _ hz2]
  simp only [View.readAt_eq_ld, h0.read_unread, h1.read_unread, h2.read_unread, h3.read_unread, h7.read_unread, View.ld_unit_zero (S := S1024x2816) hz2, View.ld_unit_zero (S := S1x2816x1024) hz3, View.ld_unit_zero (S := S1024x1024) hz2, View.ld_unit_zero (S := S8x1024) hz2]

theorem out_B_4 (c : ¬cond0_0 i) (c' : ¬cond0_1 i) : out0_B_4 (F := Ideal) d i a0 h0 a1 h1 a2 h2 a3 h3 a4 h4 a5 h5 a6 h6 a7 h7 c c' x0 x1 x2 x3 xs = k0_pay3 x2 x0 x1 x3 := by
  unfold out0_B_4
  rw [View.read_writes_eq_canon _ _ _ (cover0_B_4 d i a0 h0 a1 h1 a2 h2 a3 h3 a4 h4 a5 h5 a6 h6 a7 h7 c c' x0 x1 x2 x3 xs)]
  unfold kernelRun0_B
  dsimp only
  try sl_unfold_words
  rw [View.canon_unit_zero (S := S1024x1024) hz2]
  simp only [View.readAt_eq_ld, h0.read_unread, h1.read_unread, h2.read_unread, h3.read_unread, h7.read_unread, View.ld_unit_zero (S := S1024x2816) hz2, View.ld_unit_zero (S := S1x2816x1024) hz3, View.ld_unit_zero (S := S1024x1024) hz2, View.ld_unit_zero (S := S8x1024) hz2]

theorem out_B_5 (c : ¬cond0_0 i) (c' : ¬cond0_1 i) : out0_B_5 (F := Ideal) d i a0 h0 a1 h1 a2 h2 a3 h3 a4 h4 a5 h5 a6 h6 a7 h7 c c' x0 x1 x2 x3 xs = k0_pay4 x2 x0 x1 x3 := by
  unfold out0_B_5
  rw [View.read_writes_eq_canon _ _ _ (cover0_B_5 d i a0 h0 a1 h1 a2 h2 a3 h3 a4 h4 a5 h5 a6 h6 a7 h7 c c' x0 x1 x2 x3 xs)]
  unfold kernelRun0_B
  dsimp only
  try sl_unfold_words
  rw [View.canon_unit_zero (S := S1024x1024) hz2]
  simp only [View.readAt_eq_ld, h0.read_unread, h1.read_unread, h2.read_unread, h3.read_unread, h7.read_unread, View.ld_unit_zero (S := S1024x2816) hz2, View.ld_unit_zero (S := S1x2816x1024) hz3, View.ld_unit_zero (S := S1024x1024) hz2, View.ld_unit_zero (S := S8x1024) hz2]

theorem scratch_B (c : ¬cond0_0 i) (c' : ¬cond0_1 i) : sout0_B_0 (F := Ideal) d i a0 h0 a1 h1 a2 h2 a3 h3 a4 h4 a5 h5 a6 h6 a7 h7 c c' x0 x1 x2 x3 xs = k0_pay5 x2 x0 x1 x3 xs := by
  unfold sout0_B_0
  rw [View.read_writes_eq_canon _ _ _ (scover0_B_0 d i a0 h0 a1 h1 a2 h2 a3 h3 a4 h4 a5 h5 a6 h6 a7 h7 c c' x0 x1 x2 x3 xs)]
  unfold kernelRun0_B
  dsimp only
  try sl_unfold_words
  rw [View.canon_unit_zero (S := S8x1024) hz2]
  simp only [View.readAt_eq_ld, h0.read_unread, h1.read_unread, h2.read_unread, h3.read_unread, h7.read_unread, View.ld_unit_zero (S := S1024x2816) hz2, View.ld_unit_zero (S := S1x2816x1024) hz3, View.ld_unit_zero (S := S1024x1024) hz2, View.ld_unit_zero (S := S8x1024) hz2]

theorem out_C_4 (c : ¬cond0_0 i) (c' : cond0_1 i) : out0_C_4 (F := Ideal) d i a0 h0 a1 h1 a2 h2 a3 h3 a4 h4 a5 h5 a6 h6 a7 h7 c c' x0 x1 x2 x3 xs = k0_pay3 x2 x0 x1 x3 := by
  unfold out0_C_4
  rw [View.read_writes_eq_canon _ _ _ (cover0_C_4 d i a0 h0 a1 h1 a2 h2 a3 h3 a4 h4 a5 h5 a6 h6 a7 h7 c c' x0 x1 x2 x3 xs)]
  unfold kernelRun0_C
  dsimp only
  try sl_unfold_words
  rw [View.canon_unit_zero (S := S1024x1024) hz2]
  simp only [View.readAt_eq_ld, h0.read_unread, h1.read_unread, h2.read_unread, h3.read_unread, h7.read_unread, View.ld_unit_zero (S := S1024x2816) hz2, View.ld_unit_zero (S := S1x2816x1024) hz3, View.ld_unit_zero (S := S1024x1024) hz2, View.ld_unit_zero (S := S8x1024) hz2]

theorem out_C_5 (c : ¬cond0_0 i) (c' : cond0_1 i) : out0_C_5 (F := Ideal) d i a0 h0 a1 h1 a2 h2 a3 h3 a4 h4 a5 h5 a6 h6 a7 h7 c c' x0 x1 x2 x3 xs = k0_pay4 x2 x0 x1 x3 := by
  unfold out0_C_5
  rw [View.read_writes_eq_canon _ _ _ (cover0_C_5 d i a0 h0 a1 h1 a2 h2 a3 h3 a4 h4 a5 h5 a6 h6 a7 h7 c c' x0 x1 x2 x3 xs)]
  unfold kernelRun0_C
  dsimp only
  try sl_unfold_words
  rw [View.canon_unit_zero (S := S1024x1024) hz2]
  simp only [View.readAt_eq_ld, h0.read_unread, h1.read_unread, h2.read_unread, h3.read_unread, h7.read_unread, View.ld_unit_zero (S := S1024x2816) hz2, View.ld_unit_zero (S := S1x2816x1024) hz3, View.ld_unit_zero (S := S1024x1024) hz2, View.ld_unit_zero (S := S8x1024) hz2]

theorem scratch_C (c : ¬cond0_0 i) (c' : cond0_1 i) : sout0_C_0 (F := Ideal) d i a0 h0 a1 h1 a2 h2 a3 h3 a4 h4 a5 h5 a6 h6 a7 h7 c c' x0 x1 x2 x3 xs = k0_pay5 x2 x0 x1 x3 xs := by
  unfold sout0_C_0
  rw [View.read_writes_eq_canon _ _ _ (scover0_C_0 d i a0 h0 a1 h1 a2 h2 a3 h3 a4 h4 a5 h5 a6 h6 a7 h7 c c' x0 x1 x2 x3 xs)]
  unfold kernelRun0_C
  dsimp only
  try sl_unfold_words
  rw [View.canon_unit_zero (S := S8x1024) hz2]
  simp only [View.readAt_eq_ld, h0.read_unread, h1.read_unread, h2.read_unread, h3.read_unread, h7.read_unread, View.ld_unit_zero (S := S1024x2816) hz2, View.ld_unit_zero (S := S1x2816x1024) hz3, View.ld_unit_zero (S := S1024x1024) hz2, View.ld_unit_zero (S := S8x1024) hz2]

theorem out_C_6 (c : ¬cond0_0 i) (c' : cond0_1 i) : out0_C_6 (F := Ideal) d i a0 h0 a1 h1 a2 h2 a3 h3 a4 h4 a5 h5 a6 h6 a7 h7 c c' x0 x1 x2 x3 xs = k0_pay6 (F := Ideal) (k0_pay5 (F := Ideal) x2 x0 x1 x3 xs) := by
  unfold out0_C_6
  rw [View.read_writes_eq_canon _ _ _ (cover0_C_6 d i a0 h0 a1 h1 a2 h2 a3 h3 a4 h4 a5 h5 a6 h6 a7 h7 c c' x0 x1 x2 x3 xs)]
  unfold kernelRun0_C
  dsimp only
  try sl_unfold_words
  rw [View.canon_unit_zero (S := S1x1) hz2, View.readCov_unit_zero (S := S8x1024) _ hz2]
  simp only [View.readAt_eq_ld, h0.read_unread, h1.read_unread, h2.read_unread, h3.read_unread, h7.read_unread, View.ld_unit_zero (S := S1024x2816) hz2, View.ld_unit_zero (S := S1x2816x1024) hz3, View.ld_unit_zero (S := S1024x1024) hz2, View.ld_unit_zero (S := S8x1024) hz2]

end Cases

theorem a_blk (c : Dev nD) (t : Fin cfg0.N) (p : Fin 1024) (k : Fin 2816) (h : 1024 * t.val + p.val < 8192) :
    iblk m c 0 t (ix2 p k) = aArg m c (ix2 ⟨1024 * t.val + p.val, h⟩ k) := by
  blk_ext! [iblk, V_main_arg0, index0 t]

theorem w_blk (c : Dev nD) (t : Fin cfg0.N) (k : Fin 2816) (l : Fin 1024) : iblk m c 1 t (ix3 0 k l) = wArg m c (ix3 0 k l) := by
  blk_ext! [iblk, V_main_arg1, index1 t]

theorem res_blk (c : Dev nD) (t : Fin cfg0.N) (p l : Fin 1024) (h : 1024 * t.val + p.val < 8192) :
    iblk m c 2 t (ix2 p l) = resArg m c (ix2 ⟨1024 * t.val + p.val, h⟩ l) := by
  blk_ext! [iblk, V_main_arg2, index2 t]

theorem tgt_blk (c : Dev nD) (t : Fin cfg0.N) (p l : Fin 1024) (h : 1024 * t.val + p.val < 8192) :
    iblk m c 3 t (ix2 p l) = tgtArg m c (ix2 ⟨1024 * t.val + p.val, h⟩ l) := by
  blk_ext! [iblk, V_main_arg3, index3 t]

theorem place4 (t : Fin cfg0.N) (X : Vec Ideal S8192x1024 .f32) (p l : Fin 1024) (h : 1024 * t.val + p.val < 8192) :
    X ((win0_4.blk t).view.emb (ix2 p l)) = X (ix2 ⟨1024 * t.val + p.val, h⟩ l) := by
  blk_ext [index4 t]

theorem place5 (t : Fin cfg0.N) (X : Vec Ideal S8192x1024 .bf16) (p l : Fin 1024) (h : 1024 * t.val + p.val < 8192) :
    X ((win0_5.blk t).view.emb (ix2 p l)) = X (ix2 ⟨1024 * t.val + p.val, h⟩ l) := by
  blk_ext [index5 t]

/-- A tile's miss is the rows' miss. -/
theorem miss_tile (c : Dev nD) (t : Fin cfg0.N) (p l : Fin 1024) (h : 1024 * t.val + p.val < 8192) :
    tile (iblk m c 0 t) (iblk m c 1 t) (iblk m c 2 t) (iblk m c 3 t) p l
      = miss (aArg m c) (wArg m c) (resArg m c) (tgtArg m c) ⟨1024 * t.val + p.val, h⟩ l := by
  unfold tile miss
  rw [res_blk m c t p l h, tgt_blk m c t p l h]
  refine congrArg (fun b : EReal => (resArg m c (ix2 ⟨1024 * t.val + p.val, h⟩ l) : EReal) + b - tgtArg m c (ix2 ⟨1024 * t.val + p.val, h⟩ l)) ?_
  refine Finset.sum_congr (M := EReal) rfl fun k _ => ?_
  rw [a_blk m c t p k h, w_blk m c t k l]

theorem final4 (c : Dev nD) : (dats m 0 c).arrAt 4 cfg0.N = lossGrad (aArg m c) (wArg m c) (resArg m c) (tgtArg m c) :=
  (dats m 0 c).arrAt_eq_of_covers 4 _ (by decide +kernel) fun t hf y => by
    blk_simp
    rw [after0_4]
    have ht : t.val < 8 := t.isLt.trans_eq N_0
    obtain ⟨p, l, rfl⟩ : ∃ (p l : Fin 1024), y = ix2 p l := ⟨_, _, eq_ix2 (n0 := 1024) (n1 := 1024) y⟩
    refine Eq.trans ?_ (place4 t _ p l (by omega)).symm
    by_cases h0 : t.val % 8 = 0
    · have h1 : ¬t.val % 8 = 7 := by omega
      rw [outsAt0_A m c t h0 h1]
      dsimp only
      rw [out_A_4]
      exact (pay3_at _ _ _ _ p l).trans (congrArg (· * _) (miss_tile m c t p l _))
    by_cases h1 : t.val % 8 = 7
    · rw [outsAt0_C m c t h0 h1]
      dsimp only
      rw [out_C_4]
      exact (pay3_at _ _ _ _ p l).trans (congrArg (· * _) (miss_tile m c t p l _))
    · rw [outsAt0_B m c t h0 h1]
      dsimp only
      rw [out_B_4]
      exact (pay3_at _ _ _ _ p l).trans (congrArg (· * _) (miss_tile m c t p l _))

theorem final5 (c : Dev nD) : (dats m 0 c).arrAt 5 cfg0.N = lossGrad16 (aArg m c) (wArg m c) (resArg m c) (tgtArg m c) :=
  (dats m 0 c).arrAt_eq_of_covers 5 _ (by decide +kernel) fun t hf y => by
    blk_simp
    rw [after0_5]
    have ht : t.val < 8 := t.isLt.trans_eq N_0
    obtain ⟨p, l, rfl⟩ : ∃ (p l : Fin 1024), y = ix2 p l := ⟨_, _, eq_ix2 (n0 := 1024) (n1 := 1024) y⟩
    refine Eq.trans ?_ (place5 t _ p l (by omega)).symm
    by_cases h0 : t.val % 8 = 0
    · have h1 : ¬t.val % 8 = 7 := by omega
      rw [outsAt0_A m c t h0 h1]
      dsimp only
      rw [out_A_5]
      exact (pay4_at _ _ _ _ p l).trans (congrArg (· * _) (miss_tile m c t p l _))
    by_cases h1 : t.val % 8 = 7
    · rw [outsAt0_C m c t h0 h1]
      dsimp only
      rw [out_C_5]
      exact (pay4_at _ _ _ _ p l).trans (congrArg (· * _) (miss_tile m c t p l _))
    · rw [outsAt0_B m c t h0 h1]
      dsimp only
      rw [out_B_5]
      exact (pay4_at _ _ _ _ p l).trans (congrArg (· * _) (miss_tile m c t p l _))

/-- A point's share of the squares. -/
def shareAt (c : Dev nD) (t : Fin cfg0.N) : Vec Ideal S8x1024 .f32 := share (iblk m c 0 t) (iblk m c 1 t) (iblk m c 2 t) (iblk m c 3 t)

/-- After the last point the carried buffer holds the squares of all rows. -/
theorem held (c : Dev nD) (t : Fin cfg0.N) (h : t.val % 8 = 7) (y : S8x1024.Idx) :
    @Eq EReal ((outsAt0 m c t.val t.isLt).2.2.2 y) (∑ s : Fin 8, shareAt m c ⟨8 * (t.val / 8) + s.val, Pipeline.run_point_lt_of_flush t h s⟩ y) := by
  rw [Pipeline.eq_sum_fin_of_reset_step_apply_of_flush (fun n h => (outsAt0 m c n h).2.2.2) 8 (fun _ => 0)
    (fun t => shareAt m c t) (fun t h j => by
      rw [outsAt0_A m c t h (by omega)]
      dsimp only
      rw [scratch_A]
      exact (pay5_at _ _ _ _ _ j).trans (congrArg (· + _) (pay1_at j))) (fun t h j => by
      by_cases h1 : t.val % 8 = 7
      · rw [outsAt0_C m c t h h1]
        dsimp only
        rw [scratch_C]
        exact pay5_at _ _ _ _ _ j
      · rw [outsAt0_B m c t h h1]
        dsimp only
        rw [scratch_B]
        exact pay5_at _ _ _ _ _ j) t h y]
  exact zero_add (M := EReal) _

theorem share_eq (c : Dev nD) (t : Fin cfg0.N) (i : Fin 8) (l : Fin 1024) (n : Fin 8) (h : t.val = n.val) :
    @Eq EReal (shareAt m c t (ix2 i l))
      (∑ k : Fin 128, miss (aArg m c) (wArg m c) (resArg m c) (tgtArg m c) ⟨1024 * n.val + (k.val * 8 + i.val), by omega⟩ l
        * miss (aArg m c) (wArg m c) (resArg m c) (tgtArg m c) ⟨1024 * n.val + (k.val * 8 + i.val), by omega⟩ l) := by
  unfold shareAt share
  simp only [ix2_0, ix2_1]
  refine Finset.sum_congr (M := EReal) rfl fun k _ => ?_
  rw [miss_tile m c t ⟨k.val * 8 + i.val, by omega⟩ l (by dsimp only; omega)]
  simp only [h]

/-- The sum over all rows, gathered by tile and by residue modulo eight. -/
theorem regroup (f : Fin 8192 → Fin 1024 → EReal) :
    (∑ i : Fin 8, ∑ l : Fin 1024, ∑ s : Fin 8, ∑ k : Fin 128, f ⟨1024 * s.val + (k.val * 8 + i.val), by omega⟩ l) = ∑ t : Fin 8192, ∑ l : Fin 1024, f t l := by
  have e1 : ∀ i : Fin 8, (∑ l : Fin 1024, ∑ s : Fin 8, ∑ k : Fin 128, f ⟨1024 * s.val + (k.val * 8 + i.val), by omega⟩ l)
      = ∑ s : Fin 8, ∑ k : Fin 128, ∑ l : Fin 1024, f ⟨1024 * s.val + (k.val * 8 + i.val), by omega⟩ l := fun i =>
    (Finset.sum_comm (β := EReal)).trans (Finset.sum_congr (M := EReal) rfl fun s _ => Finset.sum_comm (β := EReal))
  refine (Finset.sum_congr (M := EReal) rfl fun i _ => e1 i).trans ?_
  refine (Finset.sum_comm (β := EReal)).trans ?_
  have e2 : ∀ s : Fin 8, (∑ i : Fin 8, ∑ k : Fin 128, ∑ l : Fin 1024, f ⟨1024 * s.val + (k.val * 8 + i.val), by omega⟩ l)
      = ∑ r : Fin 1024, ∑ l : Fin 1024, f ⟨1024 * s.val + r.val, by omega⟩ l := fun s =>
    (Finset.sum_comm (β := EReal)).trans
      (Fin.sum_mul_add_congr (M := EReal) (S := 128) (n := 8) (L := 1024) (f := fun r : Fin 1024 => ∑ l : Fin 1024, f ⟨1024 * s.val + r.val, by omega⟩ l)
        fun k i _ => rfl)
  refine (Finset.sum_congr (M := EReal) rfl fun s _ => e2 s).trans ?_
  refine Fin.sum_mul_add_congr (M := EReal) fun s r hr => ?_
  have hq : ∀ h, (⟨1024 * s.val + r.val, h⟩ : Fin 8192) = ⟨s.val * 1024 + r.val, hr⟩ := fun h => Fin.ext (by dsimp only; omega)
  simp only [hq]

theorem final6 (c : Dev nD) : (dats m 0 c).arrAt 6 cfg0.N = loss (aArg m c) (wArg m c) (resArg m c) (tgtArg m c) :=
  (dats m 0 c).arrAt_eq_of_covers 6 _ (by decide +kernel) fun t hf y => by
    blk_simp
    rw [after0_6]
    have ht : t.val < 8 := t.isLt.trans_eq N_0
    have h1 : t.val % 8 = 7 := (flush0_6 t).mp hf
    have h0 : ¬t.val % 8 = 0 := by omega
    have e : (outsAt0 m c t.val t.isLt).2.2.1 = k0_pay6 (F := Ideal) (outsAt0 m c t.val t.isLt).2.2.2 := by
      rw [outsAt0_C m c t h0 h1]
      dsimp only
      rw [out_C_6, scratch_C]
    rw [e]
    obtain ⟨p, l, rfl⟩ : ∃ (p l : Fin 1), y = ix2 p l := ⟨_, _, eq_ix2 (n0 := 1) (n1 := 1) y⟩
    obtain rfl : p = 0 := Subsingleton.elim _ _
    obtain rfl : l = 0 := Subsingleton.elim _ _
    refine (pay6_at _).trans ?_
    unfold loss
    refine congrArg (fun a : EReal => a * Ideal.ofBits .f32 0x3A000000#32) ?_
    rw [← regroup]
    refine Finset.sum_congr (M := EReal) rfl fun i _ => Finset.sum_congr (M := EReal) rfl fun l _ => ?_
    refine (held m c t h1 _).trans ?_
    exact Finset.sum_congr (M := EReal) rfl fun s _ => share_eq m c _ i l s (by dsimp only; omega)

end Cert.FfnDownLossIdeal.Array

end
-- ==== Proof.FfnDownLossClaims.lean ====
/-
  The claims about the feed-forward block's down product with the loss: the call runs, and over the extended reals its
  three results are the reference's.
-/
module

public import proofs.«01_k».proof.Defs
public import proofs.«01_k».proof.Proof.Gen.FfnDownLoss.Frame
public import proofs.«01_k».proof.Proof.Gen.FfnDownLossIdeal.Frame
public import proofs.«01_k».proof.Proof.Gen.FfnDownLossIdeal.Value
public import proofs.«01_k».proof.Proof.Gen.FfnDownLossRefIdeal.Run
public import proofs.«01_k».proof.Proof.Gen.FfnDownLossRefIdeal.Read
public import proofs.«01_k».proof.Proof.FfnReal
public import proofs.«01_k».proof.Proof.FfnDownLossArray
public import Idealize.ShloMosaic.Adequacy

@[expose] public section

set_option maxRecDepth 16384

noncomputable section

namespace Cert.Proof.FfnDownLoss

open Idealize.ShloMosaic Idealize.SL.Sem Cert.FfnDownLossRefIdeal.Read Cert.FfnDownLossIdeal.Array Cert.Proof.Reals

theorem two : Ideal.ofBits .f32 0x40000000#32 = ((2 : ℝ) : EReal) := by
  simp [Ideal.ofBits, Ideal.ieee]
  rw [← EReal.coe_mul]
  norm_num

theorem half : Ideal.ofBits .f32 0x3F000000#32 = ((1 / 2 : ℝ) : EReal) := by
  simp [Ideal.ofBits, Ideal.ieee]
  rw [← EReal.coe_mul]
  norm_num

theorem one : Ideal.ofBits .f32 0x3F800000#32 = ((1 : ℝ) : EReal) := by
  simp [Ideal.ofBits, Ideal.ieee]
  rw [← EReal.coe_mul]
  norm_num

theorem width : Ideal.ofBits .f32 0x44800000#32 = ((1024 : ℝ) : EReal) := by
  simp [Ideal.ofBits, Ideal.ieee]
  rw [← EReal.coe_mul]
  norm_num

theorem per : Ideal.ofBits .f32 0x3A800000#32 = ((1 / 1024 : ℝ) : EReal) := by
  simp [Ideal.ofBits, Ideal.ieee]
  rw [← EReal.coe_mul]
  norm_num

theorem perHalf : Ideal.ofBits .f32 0x3A000000#32 = ((1 / 2048 : ℝ) : EReal) := by
  simp [Ideal.ofBits, Ideal.ieee]
  rw [← EReal.coe_mul]
  norm_num

/-- A product by a real taken out of a sum of squares. -/
theorem sum_mul {n : ℕ} (f : Fin n → EReal) (hf : ∀ i, 0 ≤ f i) (r : EReal) : (∑ i, f i) * r = ∑ i, f i * r := by
  induction n with
  | zero => simp
  | succ n ih =>
    rw [Fin.sum_univ_succ (M := EReal), Fin.sum_univ_succ (M := EReal),
      EReal.right_distrib_of_nonneg (hf 0) (Finset.sum_nonneg fun i _ => hf i.succ), ih _ fun i => hf i.succ]

theorem square_nonneg (x : EReal) : 0 ≤ x * x := by
  rcases le_total 0 x with h | h
  · exact mul_nonneg h h
  · have := EReal.mul_nonneg_iff (a := x) (b := x)
    exact this.mpr (.inr ⟨h, h⟩)

theorem over (a : EReal) : Ideal.div a (Ideal.ofBits .f32 0x44800000#32) = a * ((1 / 1024 : ℝ) : EReal) := by
  rw [width]
  unfold Ideal.div
  rw [if_neg (by exact_mod_cast (by norm_num : (1024 : ℝ) ≠ 0)), ← EReal.coe_inv]
  norm_num

theorem miss_at (x0 : Vec Ideal Cert.FfnDownLossRefIdeal.S8192x2816 .bf16) (x1 : Vec Ideal Cert.FfnDownLossRefIdeal.S1x2816x1024 .bf16) (x2 x3 : Vec Ideal Cert.FfnDownLossRefIdeal.S8192x1024 .f32) (t : Fin 8192) (j : Fin 1024) : @Eq EReal (val_main_v5 (F := Ideal) x0 x1 x2 x3 (ix2 t j)) (miss x0 x1 x2 x3 t j) := by
  unfold miss
  pointwise [val_main_v5, val_main_v4, val_main_v3, val_main_v2, val_main_v1, val_main_v0]

theorem ref_lossGrad (x0 : Vec Ideal Cert.FfnDownLossRefIdeal.S8192x2816 .bf16) (x1 : Vec Ideal Cert.FfnDownLossRefIdeal.S1x2816x1024 .bf16) (x2 x3 : Vec Ideal Cert.FfnDownLossRefIdeal.S8192x1024 .f32) : val_main_v19 (F := Ideal) x0 x1 x2 x3 = lossGrad x0 x1 x2 x3 := by
  funext i
  obtain ⟨t, j, rfl⟩ : ∃ (t : Fin 8192) (j : Fin 1024), i = ix2 t j := ⟨_, _, eq_ix2 (n0 := 8192) (n1 := 1024) i⟩
  have e : @Eq EReal (val_main_v19 (F := Ideal) x0 x1 x2 x3 (ix2 t j))
      (Ideal.div (Ideal.ofBits .f32 0x3F000000#32 * Ideal.ofBits .f32 0x3F800000#32) (Ideal.ofBits .f32 0x44800000#32)
        * (Ideal.ofBits .f32 0x40000000#32 * miss x0 x1 x2 x3 t j)) := by
    rw [← miss_at]
    pointwise [val_main_v19, val_main_v18, val_main_v17, val_main_v16, val_main_cst_6, val_main_v15, val_main_v14, val_main_cst_5, val_main_cst_4, val_main_v8, val_main_v7, val_main_cst]
  refine e.trans ?_
  unfold lossGrad
  simp only [ix2_0, ix2_1]
  rw [over, half, one, two, per, ← mul_assoc, ← EReal.coe_mul, ← EReal.coe_mul, ← EReal.coe_mul, mul_comm (G := EReal)]
  norm_num

theorem ref_loss (x0 : Vec Ideal Cert.FfnDownLossRefIdeal.S8192x2816 .bf16) (x1 : Vec Ideal Cert.FfnDownLossRefIdeal.S1x2816x1024 .bf16) (x2 x3 : Vec Ideal Cert.FfnDownLossRefIdeal.S8192x1024 .f32) : val_main_v21 (F := Ideal) x0 x1 x2 x3 = loss x0 x1 x2 x3 := by
  funext i
  obtain ⟨p, l, rfl⟩ : ∃ (p l : Fin 1), i = ix2 p l := ⟨_, _, eq_ix2 (n0 := 1) (n1 := 1) i⟩
  have e : @Eq EReal (val_main_v21 (F := Ideal) x0 x1 x2 x3 (ix2 p l))
      (Ideal.ofBits .f32 0x3F000000#32 * ∑ t : Fin 8192, Ideal.div (∑ j : Fin 1024, miss x0 x1 x2 x3 t j * miss x0 x1 x2 x3 t j) (Ideal.ofBits .f32 0x44800000#32)) := by
    simp only [← miss_at]
    pointwise [val_main_v21, val_main_v13, val_main_cst_3, val_main_v12, val_main_cst_2, val_main_v11, val_main_v10, val_main_cst_1, val_main_v9, val_main_cst_0, val_main_v6]
  refine e.trans ?_
  unfold loss
  simp only [over]
  rw [half, perHalf, ← sum_mul _ fun t => Finset.sum_nonneg fun j _ => square_nonneg _, mul_comm (G := EReal), mul_assoc, ← EReal.coe_mul]
  norm_num

theorem frame : Cert.quiescent_FfnDownLoss := fun m ρ _ => Cert.FfnDownLoss.Gen.frame m ρ

theorem frame_ideal : Cert.quiescent_FfnDownLossIdeal := fun m ρ _ => Cert.FfnDownLossIdeal.Gen.frame m ρ

theorem frame_ref : Cert.quiescent_FfnDownLossRefIdeal := fun m ρ _ =>
  (θ_run Cert.FfnDownLossRefIdeal.defs _ _).mono (fun r h => ⟨fun c => (h c).2.2.2, Idealize.ShloMosaic.sem_eq_zero_of_no_sems (by decide) r.2⟩)
    (Cert.FfnDownLossRefIdeal.Value.run (F := Ideal) m ρ)

theorem preserves : Cert.preserves_FfnDownLoss_FfnDownLossIdeal := trivial

/-- Both programs end with the three arrays of FfnDownLossArray.lean, computed from arguments that agree. -/
theorem algebraic : Cert.algebraic_FfnDownLossIdeal_FfnDownLossRefIdeal := by
  intro m ρ m' ρ' hpre hagree
  refine ⟨fun c => lossGrad (aArg m c) (wArg m c) (resArg m c) (tgtArg m c), fun c => lossGrad16 (aArg m c) (wArg m c) (resArg m c) (tgtArg m c), fun c => loss (aArg m c) (wArg m c) (resArg m c) (tgtArg m c), ?_, ?_⟩
  · exact (θ_run Cert.FfnDownLossIdeal.defs _ _).mono
      (fun _ h c => ⟨(h c).1.trans (final4 m c), (h c).2.1.trans (final5 m c), (h c).2.2.1.trans (final6 m c), (h c).2.2.2⟩)
      (Cert.FfnDownLossIdeal.Value.run_blocks m ρ)
  · refine (θ_run Cert.FfnDownLossRefIdeal.defs _ _).mono
      (fun _ h c => ⟨(h c).1.trans ?_, (h c).2.1.trans ?_, (h c).2.2.1.trans ?_, (h c).2.2.2⟩)
      (Cert.FfnDownLossRefIdeal.Value.run (F := Ideal) m' ρ')
    · rw [val_main_v19_eq, (hagree c).1, (hagree c).2.1, (hagree c).2.2.1, (hagree c).2.2.2]
      exact ref_lossGrad _ _ _ _
    · rw [val_main_v20_eq, (hagree c).1, (hagree c).2.1, (hagree c).2.2.1, (hagree c).2.2.2]
      exact ref_lossGrad _ _ _ _
    · rw [val_main_v21_eq, (hagree c).1, (hagree c).2.1, (hagree c).2.2.1, (hagree c).2.2.2]
      exact ref_loss _ _ _ _

end Cert.Proof.FfnDownLoss

end
-- ==== Proof.ConvInArray.lean ====
/-
  The convolution mixer's norm and its product with the joined input weights: the call's two result arrays as functions of
  its arguments over the extended reals.
-/
module

public import proofs.«01_k».proof.Proof.Gen.ConvInIdeal.Value
public import proofs.«01_k».proof.Proof.FfnReal
public import proofs.«01_k».proof.Proof.RowNorm
public import Idealize.ShloMosaic.Lib.Pointwise
public import Idealize.ShloMosaic.Lib.Pipeline.ValueKit.Point
public import Idealize.ShloMosaic.Lib.Pipeline.ValueKit.Acc
public import Idealize.ShloMosaic.Lib.StableHlo.ReadAt

@[expose] public section

set_option maxRecDepth 16384

noncomputable section

namespace Cert.ConvInIdeal.Array

open Cert.ConvInIdeal Cert.ConvInIdeal.Gen Cert.ConvInIdeal.Value Idealize.ShloMosaic Idealize.ShloMosaic.TcCoe Idealize.SL.Sem Cert.Proof Cert.Proof.Reals
open Idealize.ShloMosaic.Pipeline (Dat)

variable (m : (ℓ : Loc nD τ sig) → Buf (Elt Ideal) ℓ) (ρ : Dev nD → PrngReg)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0, 0, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)

abbrev xArg (c : Dev nD) : Vec Ideal S8192x1024 .f32 := m ((c.tc : Thread nD τ).loc main_arg0)
abbrev gArg (c : Dev nD) : Vec Ideal S1x1024 .f32 := m ((c.tc : Thread nD τ).loc main_arg1)
abbrev wArg (c : Dev nD) : Vec Ideal S1x4x1024x768 .bf16 := m ((c.tc : Thread nD τ).loc main_arg2)

/-- The rows scaled to mean square one, with the gain. -/
def normed (x : Vec Ideal S8192x1024 .f32) (g : Vec Ideal S1x1024 .f32) : Vec Ideal S8192x1024 .bf16 :=
  fun i => (RowNorm.unit (fun e => x (ix2 (i 0) e)) (i 1) * g (ix2 0 (i 1)) : EReal)

/-- The four parts of the weights side by side. -/
def joined (w : Vec Ideal S1x4x1024x768 .bf16) : Vec Ideal S1024x3072 .bf16 :=
  fun i => w (ix4 0 ⟨(i 1).val / 768, by have := (i 1).isLt; change _ < 3072 at this; omega⟩ (i 0) ⟨(i 1).val % 768, Nat.mod_lt _ (by decide)⟩)

/-- The product of the normed rows with the joined weights. -/
def mixed (x : Vec Ideal S8192x1024 .f32) (g : Vec Ideal S1x1024 .f32) (w : Vec Ideal S1x4x1024x768 .bf16) : Vec Ideal S8192x3072 .bf16 :=
  fun i => (∑ k : Fin 1024, normed x g (ix2 (i 0) k) * joined w (ix2 k (i 1)) : EReal)

theorem joined_at (w : Vec Ideal S1x4x1024x768 .bf16) (q : Fin 4) (k : Fin 1024) (l : Fin 768) (j : Fin 3072) (h : j.val = 768 * q.val + l.val) :
    joined w (ix2 k j) = w (ix4 0 q k l) := by
  unfold joined
  simp only [ix2_0, ix2_1]
  have e1 : ∀ h, (⟨j.val / 768, h⟩ : Fin 4) = q := fun _ => Fin.ext (by first | omega | (dsimp only; omega))
  have e2 : ∀ h, (⟨j.val % 768, h⟩ : Fin 768) = l := fun _ => Fin.ext (by first | omega | (dsimp only; omega))
  rw [e1, e2]

theorem pay1_at (x : Vec Ideal S1x1x1024x768 .bf16) (k : Fin 1024) (l : Fin 768) : @Eq EReal (k0_pay1 x (ix2 k l)) (x (ix4 0 0 k l)) := by
  unfold k0_pay1
  pointwise

theorem pay2_at (x : Vec Ideal S1x1x1024x768 .bf16) (k : Fin 1024) (l : Fin 768) : @Eq EReal (k0_pay2 x (ix2 k l)) (x (ix4 0 0 k l)) := by
  unfold k0_pay2
  pointwise

theorem pay3_at (x : Vec Ideal S1x1x1024x768 .bf16) (k : Fin 1024) (l : Fin 768) : @Eq EReal (k0_pay3 x (ix2 k l)) (x (ix4 0 0 k l)) := by
  unfold k0_pay3
  pointwise

theorem pay4_at (x : Vec Ideal S1x1x1024x768 .bf16) (k : Fin 1024) (l : Fin 768) : @Eq EReal (k0_pay4 x (ix2 k l)) (x (ix4 0 0 k l)) := by
  unfold k0_pay4
  pointwise

theorem pay5_at (x : Vec Ideal S512x1024 .f32) (g : Vec Ideal S1x1024 .f32) (p : Fin 512) (l : Fin 1024) :
    @Eq EReal (k0_pay5 x g (ix2 p l)) (RowNorm.unit (fun e => x (ix2 p e)) l * g (ix2 0 l)) := by
  unfold k0_pay5 RowNorm.unit RowNorm.scale RowNorm.mean
  pointwise

theorem pay6_at (x : Vec Ideal S512x1024 .f32) (g : Vec Ideal S1x1024 .f32) (w : Vec Ideal S1024x3072 .bf16) (p : Fin 512) (l : Fin 3072) :
    @Eq EReal (k0_pay6 x g w (ix2 p l)) (∑ k : Fin 1024, (k0_pay5 (F := Ideal) x g (ix2 p k) : EReal) * w (ix2 k l)) := by
  unfold k0_pay6
  generalize k0_pay5 (F := Ideal) x g = y
  pointwise

theorem hz2 : (![0, 0] : Fin 2 → Nat) = 0 := by decide
theorem hz3 : (![0, 0, 0] : Fin 3 → Nat) = 0 := by decide
theorem hz4 : (![0, 0, 0, 0] : Fin 4 → Nat) = 0 := by decide

/-- A part's piece of the carried buffer. -/
theorem piece (w : Vec Ideal S1x4x1024x768 .bf16) (y : S1024x3072.Idx) (q : Fin 4) (o z : ℕ) (ho : o = 768 * q.val) (hz : z = q.val)
    (inb : ∀ a, (![0, z, 0, 0] : Fin 4 → ℕ) a + S1x1x1024x768.size a ≤ S1x4x1024x768.size a)
    (pay : Vec Ideal S1x1x1024x768 .bf16 → FVec Ideal S1024x768 .bf16) (hp : ∀ x k l, @Eq EReal (pay x (ix2 k l)) (x (ix4 0 0 k l))) :
    View.TileAt y ![0, o] S1024x768.size (pay (View.ld w (Rect.unit ![0, z, 0, 0] S1x1x1024x768.size inb))) (joined w y) := by
  intro x hx
  obtain ⟨k, l, rfl⟩ : ∃ (k : Fin 1024) (l : Fin 768), x = ix2 k l := ⟨_, _, eq_ix2 (n0 := 1024) (n1 := 768) x⟩
  obtain ⟨a, j, rfl⟩ : ∃ (a : Fin 1024) (j : Fin 3072), y = ix2 a j := ⟨_, _, eq_ix2 (n0 := 1024) (n1 := 3072) y⟩
  have e0 : a.val = 0 + k.val := hx 0
  have e1 : j.val = o + l.val := hx 1
  obtain rfl : a = k := Fin.ext (by omega)
  rw [joined_at w q a l j (by omega)]
  refine (hp _ a l).trans ?_
  exact View.ld_unit_apply_of _ _ _ _ _ (ix4 0 q a l) fun b => match b with
    | 0 => rfl
    | 1 => hz.symm
    | 2 => (Nat.zero_add _).symm
    | 3 => (Nat.zero_add _).symm

section Cases
variable (d : Dev nD) (i : grid0.Coords) (a0 : Memref sig .tc .vmem S512x1024 .f32) (h0 : a0.IsWhole) (a1 : Memref sig .tc .vmem S1x1024 .f32) (h1 : a1.IsWhole)
  (a2 : Memref sig .tc .vmem S1x4x1024x768 .bf16) (h2 : a2.IsWhole) (a3 : Memref sig .tc .vmem S512x1024 .bf16) (h3 : a3.IsWhole)
  (a4 : Memref sig .tc .vmem S512x3072 .bf16) (h4 : a4.IsWhole) (a5 : Memref sig .tc .vmem S1024x3072 .bf16) (h5 : a5.IsWhole)
  (x0 : Vec Ideal S512x1024 .f32) (x1 : Vec Ideal S1x1024 .f32) (x2 : Vec Ideal S1x4x1024x768 .bf16) (xs : Vec Ideal S1024x3072 .bf16)

/-- The first point fills the carried buffer with the joined weights. -/
theorem scratch_A (c : cond0_0 i) : sout0_A_0 (F := Ideal) d i a0 h0 a1 h1 a2 h2 a3 h3 a4 h4 a5 h5 c x0 x1 x2 = joined x2 := by
  unfold sout0_A_0
  have hc := scover0_A_0 (F := Ideal) d i a0 h0 a1 h1 a2 h2 a3 h3 a4 h4 a5 h5 c x0 x1 x2
  rw [View.read_writes_eq_canon _ _ _ hc]
  funext y
  refine View.canon_eq_of_allAt _ y _ (hc y) ?_
  unfold kernelRun0_A
  dsimp only
  try sl_unfold_words
  simp only [View.readAt_eq_ld, h0.read_unread, h1.read_unread, h2.read_unread]
  exact View.allAt_cons_unit _ _ _ _ _ (piece x2 y 3 _ _ rfl rfl _ _ pay4_at) <| View.allAt_cons_unit _ _ _ _ _ (piece x2 y 2 _ _ rfl rfl _ _ pay3_at) <|
    View.allAt_cons_unit _ _ _ _ _ (piece x2 y 1 _ _ rfl rfl _ _ pay2_at) <| View.allAt_cons_unit _ _ _ _ _ (piece x2 y 0 _ _ rfl rfl _ _ pay1_at) <|
    View.allAt_nil _ _

theorem out_A_3 (c : cond0_0 i) : out0_A_3 (F := Ideal) d i a0 h0 a1 h1 a2 h2 a3 h3 a4 h4 a5 h5 c x0 x1 x2 = k0_pay5 x0 x1 := by
  unfold out0_A_3
  rw [View.read_writes_eq_canon _ _ _ (cover0_A_3 d i a0 h0 a1 h1 a2 h2 a3 h3 a4 h4 a5 h5 c x0 x1 x2)]
  unfold kernelRun0_A
  dsimp only
  try sl_unfold_words
  rw [View.canon_unit_zero (S := S512x1024) hz2]
  simp only [View.readAt_eq_ld, h0.read_unread, h1.read_unread, View.ld_unit_zero (S := S512x1024) hz2, View.ld_unit_zero (S := S1x1024) hz2]

theorem out_A_4 (c : cond0_0 i) : out0_A_4 (F := Ideal) d i a0 h0 a1 h1 a2 h2 a3 h3 a4 h4 a5 h5 c x0 x1 x2 = k0_pay6 x0 x1 (joined x2) := by
  rw [← scratch_A d i a0 h0 a1 h1 a2 h2 a3 h3 a4 h4 a5 h5 x0 x1 x2 c]
  unfold out0_A_4 sout0_A_0
  have hc := scover0_A_0 (F := Ideal) d i a0 h0 a1 h1 a2 h2 a3 h3 a4 h4 a5 h5 c x0 x1 x2
  rw [View.read_writes_eq_canon _ _ _ hc, View.read_writes_eq_canon _ _ _ (cover0_A_4 d i a0 h0 a1 h1 a2 h2 a3 h3 a4 h4 a5 h5 c x0 x1 x2)]
  unfold kernelRun0_A
  dsimp only
  try sl_unfold_words
  rw [View.canon_unit_zero (S := S512x3072) hz2]
  simp only [View.readAt_eq_ld, h0.read_unread, h1.read_unread, h2.read_unread, View.ld_unit_zero (S := S512x1024) hz2, View.ld_unit_zero (S := S1x1024) hz2]
  exact congrArg (k0_pay6 (F := Ideal) x0 x1) ((View.readCov_eq_canon' _ _ _).trans (View.ld_unit_zero (S := S1024x3072) hz2 _ _))

theorem out_B_3 (c : ¬cond0_0 i) : out0_B_3 (F := Ideal) d i a0 h0 a1 h1 a2 h2 a3 h3 a4 h4 a5 h5 c x0 x1 x2 xs = k0_pay5 x0 x1 := by
  unfold out0_B_3
  rw [View.read_writes_eq_canon _ _ _ (cover0_B_3 d i a0 h0 a1 h1 a2 h2 a3 h3 a4 h4 a5 h5 c x0 x1 x2 xs)]
  unfold kernelRun0_B
  dsimp only
  try sl_unfold_words
  rw [View.canon_unit_zero (S := S512x1024) hz2]
  simp only [View.readAt_eq_ld, h0.read_unread, h1.read_unread, View.ld_unit_zero (S := S512x1024) hz2, View.ld_unit_zero (S := S1x1024) hz2]

theorem out_B_4 (c : ¬cond0_0 i) : out0_B_4 (F := Ideal) d i a0 h0 a1 h1 a2 h2 a3 h3 a4 h4 a5 h5 c x0 x1 x2 xs = k0_pay6 x0 x1 xs := by
  unfold out0_B_4
  rw [View.read_writes_eq_canon _ _ _ (cover0_B_4 d i a0 h0 a1 h1 a2 h2 a3 h3 a4 h4 a5 h5 c x0 x1 x2 xs)]
  unfold kernelRun0_B
  dsimp only
  try sl_unfold_words
  rw [View.canon_unit_zero (S := S512x3072) hz2]
  simp only [View.readAt_eq_ld, h0.read_unread, h1.read_unread, h5.read_unread, View.ld_unit_zero (S := S512x1024) hz2, View.ld_unit_zero (S := S1x1024) hz2, View.ld_unit_zero (S := S1024x3072) hz2]

end Cases

theorem x_blk (c : Dev nD) (t : Fin cfg0.N) (p : Fin 512) (k : Fin 1024) (h : 512 * t.val + p.val < 8192) :
    iblk m c 0 t (ix2 p k) = xArg m c (ix2 ⟨512 * t.val + p.val, h⟩ k) := by
  blk_ext! [iblk, V_main_arg0, index0 t]

theorem g_blk (c : Dev nD) (t : Fin cfg0.N) (k : Fin 1024) : iblk m c 1 t (ix2 0 k) = gArg m c (ix2 0 k) := by
  blk_ext! [iblk, V_main_arg1, index1 t]

theorem w_blk (c : Dev nD) (t : Fin cfg0.N) (q : Fin 4) (k : Fin 1024) (l : Fin 768) :
    iblk m c 2 t (ix4 0 q k l) = wArg m c (ix4 0 q k l) := by
  blk_ext! [iblk, V_main_arg2, index2 t]

theorem joined_blk (c : Dev nD) (t : Fin cfg0.N) : joined (iblk m c 2 t) = joined (wArg m c) := funext fun i => w_blk m c t _ _ _

/-- The carried buffer holds the joined weights after every point. -/
theorem held (c : Dev nD) (n : ℕ) (h : n < cfg0.N) : (outsAt0 m c n h).2.2 = joined (wArg m c) := by
  induction n with
  | zero =>
    refine (congrArg (fun x => x.2.2) (outsAt0_A m c ⟨0, h⟩ (Nat.zero_mod _))).trans ?_
    dsimp only
    rw [scratch_A, joined_blk]
  | succ n ih =>
    have hN : n + 1 < 16 := lt_of_lt_of_eq h N_0
    refine (congrArg (fun x => x.2.2) (outsAt0_B m c ⟨n + 1, h⟩ (by dsimp only; omega))).trans ?_
    dsimp only
    unfold sout0_B_0
    exact ih (Nat.lt_of_succ_lt h)

theorem place3 (t : Fin cfg0.N) (X : Vec Ideal S8192x1024 .bf16) (p : Fin 512) (l : Fin 1024) (h : 512 * t.val + p.val < 8192) :
    X ((win0_3.blk t).view.emb (ix2 p l)) = X (ix2 ⟨512 * t.val + p.val, h⟩ l) := by
  blk_ext [index3 t]

theorem place4 (t : Fin cfg0.N) (X : Vec Ideal S8192x3072 .bf16) (p : Fin 512) (l : Fin 3072) (h : 512 * t.val + p.val < 8192) :
    X ((win0_4.blk t).view.emb (ix2 p l)) = X (ix2 ⟨512 * t.val + p.val, h⟩ l) := by
  blk_ext [index4 t]

/-- What a point of the grid stores of the normed rows, entry by entry, -/
theorem stored3 (c : Dev nD) (t : Fin cfg0.N) (p : Fin 512) (l : Fin 1024) (h : 512 * t.val + p.val < 8192) :
    @Eq EReal (k0_pay5 (F := Ideal) (iblk m c 0 t) (iblk m c 1 t) (ix2 p l)) (normed (xArg m c) (gArg m c) (ix2 ⟨512 * t.val + p.val, h⟩ l)) := by
  refine (pay5_at _ _ p l).trans ?_
  unfold normed
  simp only [ix2_0, ix2_1]
  rw [g_blk m c t l, show (fun e : Fin 1024 => (iblk m c 0 t (ix2 p e) : EReal)) = fun e => xArg m c (ix2 ⟨512 * t.val + p.val, h⟩ e) from
    funext fun e => x_blk m c t p e h]

/-- and of the product. -/
theorem stored4 (c : Dev nD) (t : Fin cfg0.N) (p : Fin 512) (l : Fin 3072) (h : 512 * t.val + p.val < 8192) :
    @Eq EReal (k0_pay6 (F := Ideal) (iblk m c 0 t) (iblk m c 1 t) (joined (wArg m c)) (ix2 p l))
      (mixed (xArg m c) (gArg m c) (wArg m c) (ix2 ⟨512 * t.val + p.val, h⟩ l)) := by
  refine (pay6_at _ _ _ p l).trans ?_
  unfold mixed
  simp only [ix2_0, ix2_1]
  exact Finset.sum_congr (M := EReal) rfl fun k _ => congrArg (· * _) (stored3 m c t p k h)

theorem final3 (c : Dev nD) : (dats m 0 c).arrAt 3 cfg0.N = normed (xArg m c) (gArg m c) :=
  (dats m 0 c).arrAt_eq_of_covers 3 _ (by decide +kernel) fun t hf y => by
    blk_simp
    rw [after0_3]
    have ht : t.val < 16 := t.isLt.trans_eq N_0
    obtain ⟨p, l, rfl⟩ : ∃ (p : Fin 512) (l : Fin 1024), y = ix2 p l := ⟨_, _, eq_ix2 (n0 := 512) (n1 := 1024) y⟩
    refine Eq.trans ?_ (place3 t _ p l (by omega)).symm
    by_cases h0 : t.val % 16 = 0
    · rw [outsAt0_A m c t h0]
      dsimp only
      rw [out_A_3]
      exact stored3 m c t p l _
    · rw [outsAt0_B m c t h0]
      dsimp only
      rw [out_B_3]
      exact stored3 m c t p l _

theorem final4 (c : Dev nD) : (dats m 0 c).arrAt 4 cfg0.N = mixed (xArg m c) (gArg m c) (wArg m c) :=
  (dats m 0 c).arrAt_eq_of_covers 4 _ (by decide +kernel) fun t hf y => by
    blk_simp
    rw [after0_4]
    have ht : t.val < 16 := t.isLt.trans_eq N_0
    obtain ⟨p, l, rfl⟩ : ∃ (p : Fin 512) (l : Fin 3072), y = ix2 p l := ⟨_, _, eq_ix2 (n0 := 512) (n1 := 3072) y⟩
    refine Eq.trans ?_ (place4 t _ p l (by omega)).symm
    by_cases h0 : t.val % 16 = 0
    · rw [outsAt0_A m c t h0]
      dsimp only
      rw [out_A_4, joined_blk]
      exact stored4 m c t p l _
    · rw [outsAt0_B m c t h0]
      dsimp only
      rw [out_B_4, held]
      exact stored4 m c t p l _

end Cert.ConvInIdeal.Array

end
-- ==== Proof.ConvInClaims.lean ====
/-
  The claims about the convolution mixer's norm and its product with the joined input weights: the call runs, and over the
  extended reals its two results are the reference's.
-/
module

public import proofs.«01_k».proof.Defs
public import proofs.«01_k».proof.Proof.Gen.ConvIn.Frame
public import proofs.«01_k».proof.Proof.Gen.ConvInIdeal.Frame
public import proofs.«01_k».proof.Proof.Gen.ConvInIdeal.Value
public import proofs.«01_k».proof.Proof.Gen.ConvInRefIdeal.Run
public import proofs.«01_k».proof.Proof.Gen.ConvInRefIdeal.Read
public import proofs.«01_k».proof.Proof.FfnReal
public import proofs.«01_k».proof.Proof.ConvInArray
public import Idealize.ShloMosaic.Adequacy

@[expose] public section

set_option maxRecDepth 16384

noncomputable section

namespace Cert.Proof.ConvIn

open Idealize.ShloMosaic Idealize.SL.Sem Cert.ConvInRefIdeal.Read Cert.ConvInIdeal.Array Cert.Proof Cert.Proof.Reals

theorem normed_at (x0 : Vec Ideal Cert.ConvInRefIdeal.S8192x1024 .f32) (x1 : Vec Ideal Cert.ConvInRefIdeal.S1x1024 .f32) (t : Fin 8192) (e : Fin 1024) :
    @Eq EReal (val_main_v11 (F := Ideal) x0 x1 (ix2 t e)) (normed x0 x1 (ix2 t e)) := by
  unfold normed RowNorm.unit RowNorm.scale RowNorm.mean
  simp only [ix2_0, ix2_1]
  pointwise [val_main_v11, val_main_v10, val_main_v9, val_main_v8, val_main_v7, val_main_v6, val_main_v5, val_main_cst_1, val_main_v4, val_main_v3, val_main_cst_0, val_main_v2, val_main_v1, val_main_cst, val_main_v0]

theorem ref_normed (x0 : Vec Ideal Cert.ConvInRefIdeal.S8192x1024 .f32) (x1 : Vec Ideal Cert.ConvInRefIdeal.S1x1024 .f32) : val_main_v12 (F := Ideal) x0 x1 = normed x0 x1 := by
  funext i
  obtain ⟨t, e, rfl⟩ : ∃ (t : Fin 8192) (e : Fin 1024), i = ix2 t e := ⟨_, _, eq_ix2 (n0 := 8192) (n1 := 1024) i⟩
  exact normed_at x0 x1 t e

theorem ref_mixed (x0 : Vec Ideal Cert.ConvInRefIdeal.S8192x1024 .f32) (x1 : Vec Ideal Cert.ConvInRefIdeal.S1x1024 .f32) (x2 : Vec Ideal Cert.ConvInRefIdeal.S1x4x1024x768 .bf16) : val_main_v18 (F := Ideal) x0 x1 x2 = mixed x0 x1 x2 := by
  funext i
  obtain ⟨t, d, rfl⟩ : ∃ (t : Fin 8192) (d : Fin 3072), i = ix2 t d := ⟨_, _, eq_ix2 (n0 := 8192) (n1 := 3072) i⟩
  unfold mixed joined
  simp only [ix2_0, ix2_1, ← normed_at]
  generalize hv : val_main_v11 (F := Ideal) x0 x1 = v
  pointwise [val_main_v18, val_main_v17, val_main_v16, val_main_v15, val_main_v14, val_main_v13, hv]

theorem frame : Cert.quiescent_ConvIn := fun m ρ _ => Cert.ConvIn.Gen.frame m ρ

theorem frame_ideal : Cert.quiescent_ConvInIdeal := fun m ρ _ => Cert.ConvInIdeal.Gen.frame m ρ

theorem frame_ref : Cert.quiescent_ConvInRefIdeal := fun m ρ _ =>
  (θ_run Cert.ConvInRefIdeal.defs _ _).mono (fun r h => ⟨fun c => (h c).2.2, Idealize.ShloMosaic.sem_eq_zero_of_no_sems (by decide) r.2⟩)
    (Cert.ConvInRefIdeal.Value.run (F := Ideal) m ρ)

theorem preserves : Cert.preserves_ConvIn_ConvInIdeal := trivial

/-- Both programs end with the two arrays of ConvInArray.lean, computed from arguments that agree. -/
theorem algebraic : Cert.algebraic_ConvInIdeal_ConvInRefIdeal := by
  intro m ρ m' ρ' hpre hagree
  refine ⟨fun c => normed (xArg m c) (gArg m c), fun c => mixed (xArg m c) (gArg m c) (wArg m c), ?_, ?_⟩
  · exact (θ_run Cert.ConvInIdeal.defs _ _).mono
      (fun _ h c => ⟨(h c).1.trans (final3 m c), (h c).2.1.trans (final4 m c), (h c).2.2⟩)
      (Cert.ConvInIdeal.Value.run_blocks m ρ)
  · refine (θ_run Cert.ConvInRefIdeal.defs _ _).mono
      (fun _ h c => ⟨(h c).1.trans ?_, (h c).2.1.trans ?_, (h c).2.2⟩)
      (Cert.ConvInRefIdeal.Value.run (F := Ideal) m' ρ')
    · rw [val_main_v12_eq, (hagree c).1, (hagree c).2.1]
      exact ref_normed _ _
    · rw [val_main_v18_eq, (hagree c).1, (hagree c).2.1, (hagree c).2.2]
      exact ref_mixed _ _ _

end Cert.Proof.ConvIn

end
-- ==== Proof.ConvInDgradArray.lean ====
/-
  The gradient of the convolution block's projection's input carried through the norm, the call's result arrays as functions of its
  arguments over the extended reals.
-/
module

public import proofs.«01_k».proof.Proof.Gen.ConvInDgradIdeal.Value
public import proofs.«01_k».proof.Proof.RowNorm
public import Idealize.ShloMosaic.Lib.Pointwise
public import Idealize.ShloMosaic.Lib.Pipeline.ValueKit.Point
public import Idealize.ShloMosaic.Lib.Pipeline.ValueKit.Acc
public import Idealize.ShloMosaic.Lib.Pipeline.ValueKit.Tiles

@[expose] public section

set_option maxRecDepth 16384

noncomputable section

namespace Cert.ConvInDgradIdeal.Array

open Cert.ConvInDgradIdeal Cert.ConvInDgradIdeal.Gen Cert.ConvInDgradIdeal.Value Idealize.ShloMosaic Idealize.ShloMosaic.TcCoe Idealize.SL.Sem
open Idealize.ShloMosaic.Pipeline (Dat)
open Cert.Proof.RowNorm

theorem pay27_at (x : Vec Ideal S512x1024 .f32) (p : Fin 512) :
    @Eq EReal (k0_pay27 (F := Ideal) x (ix1 p)) (∑ e : Fin 1024, x (ix2 p e) * x (ix2 p e)) := by
  unfold k0_pay27
  pointwise

theorem pay1_at (x : Vec Ideal S512x1024 .f32) (p : Fin 512) (z : Fin 1) :
    @Eq EReal (k0_pay1 (F := Ideal) (k0_pay27 (F := Ideal) x) (ix2 p z)) (scale fun e => x (ix2 p e)) := by
  unfold scale mean
  rw [← pay27_at]
  unfold k0_pay1
  generalize k0_pay27 (F := Ideal) x = s
  pointwise

theorem pay2_at (x : Vec Ideal S512x1024 .f32) (p : Fin 512) (e : Fin 1024) :
    @Eq EReal (k0_pay2 x (k0_pay27 (F := Ideal) x) (ix2 p e)) (unit (fun e => x (ix2 p e)) e) := by
  unfold unit
  rw [← pay1_at x p 0]
  unfold k0_pay2
  generalize k0_pay1 (F := Ideal) (k0_pay27 (F := Ideal) x) = s
  pointwise

theorem unit_row (x : Vec Ideal S512x1024 .f32) (p : Fin 512) :
    unit (fun e => x (ix2 p e)) = fun e => k0_pay2 x (k0_pay27 (F := Ideal) x) (ix2 p e) := funext fun e => (pay2_at x p e).symm

theorem pay3_at (d x : Vec Ideal S512x1024 .f32) (g : Vec Ideal S1x1024 .f32) (r : Vec Ideal S512x1024 .f32) (p : Fin 512) (e : Fin 1024) :
    @Eq EReal (k0_pay3 d x (k0_pay27 (F := Ideal) x) g r (ix2 p e))
      (r (ix2 p e) + pull (unit fun e => x (ix2 p e)) (fun e => d (ix2 p e) * g (ix2 0 e)) (scale fun e => x (ix2 p e)) e) := by
  unfold pull
  rw [unit_row, ← pay1_at x p 0]
  unfold k0_pay3
  generalize k0_pay2 (F := Ideal) x (k0_pay27 (F := Ideal) x) = u
  generalize k0_pay1 (F := Ideal) (k0_pay27 (F := Ideal) x) = s
  pointwise

/-- One tile's share of the gain's gradient. -/
def share (d x : Vec Ideal S512x1024 .f32) : Vec Ideal S8x1024 .f32 :=
  fun y => (∑ s : Fin 64, d (ix2 ⟨s.val * 8 + (y 0).val, by have := (y 0).isLt; dsimp at this; omega⟩ (y 1))
    * unit (fun e => x (ix2 ⟨s.val * 8 + (y 0).val, by have := (y 0).isLt; dsimp at this; omega⟩ e)) (y 1) : EReal)

theorem pay4_at (d x : Vec Ideal S512x1024 .f32) (acc : Vec Ideal S8x1024 .f32) (y : S8x1024.Idx) :
    @Eq EReal (k0_pay4 d x (k0_pay27 (F := Ideal) x) acc y) (acc y + share d x y) := by
  obtain ⟨p, l, rfl⟩ : ∃ (p : Fin 8) (l : Fin 1024), y = ix2 p l := ⟨_, _, eq_ix2 (n0 := 8) (n1 := 1024) y⟩
  unfold share
  simp only [unit_row, ix2_0, ix2_1]
  unfold k0_pay4
  generalize k0_pay2 (F := Ideal) x (k0_pay27 (F := Ideal) x) = u
  pointwise

theorem pay26_at (v4 : Vec Ideal S512x256 .bf16) (v6 : Vec Ideal S1024x256 .bf16) (v8 : Vec Ideal S512x256 .bf16) (v10 : Vec Ideal S1024x256 .bf16) (v12 : Vec Ideal S512x256 .bf16) (v14 : Vec Ideal S1024x256 .bf16) (v16 : Vec Ideal S512x256 .bf16) (v18 : Vec Ideal S1024x256 .bf16) (v20 : Vec Ideal S512x256 .bf16) (v22 : Vec Ideal S1024x256 .bf16) (v24 : Vec Ideal S512x256 .bf16) (v26 : Vec Ideal S1024x256 .bf16) (v28 : Vec Ideal S512x256 .bf16) (v30 : Vec Ideal S1024x256 .bf16) (v32 : Vec Ideal S512x256 .bf16) (v34 : Vec Ideal S1024x256 .bf16) (v36 : Vec Ideal S512x256 .bf16) (v38 : Vec Ideal S1024x256 .bf16) (v40 : Vec Ideal S512x256 .bf16) (v42 : Vec Ideal S1024x256 .bf16) (v43 : Vec Ideal S1x512x256 .bf16) (v45 : Vec Ideal S1x1x1024x256 .bf16) (v47 : Vec Ideal S1x512x256 .bf16) (v49 : Vec Ideal S1x1x1024x256 .bf16) (p : Fin 512) (e : Fin 1024) :
    @Eq EReal (k0_pay26 v4 v6 v8 v10 v12 v14 v16 v18 v20 v22 v24 v26 v28 v30 v32 v34 v36 v38 v40 v42 v43 v45 v47 v49 (ix2 p e))
      ((∑ j : Fin 256, v4 (ix2 p j) * v6 (ix2 e j))
        + (∑ j : Fin 256, v8 (ix2 p j) * v10 (ix2 e j))
        + (∑ j : Fin 256, v12 (ix2 p j) * v14 (ix2 e j))
        + (∑ j : Fin 256, v16 (ix2 p j) * v18 (ix2 e j))
        + (∑ j : Fin 256, v20 (ix2 p j) * v22 (ix2 e j))
        + (∑ j : Fin 256, v24 (ix2 p j) * v26 (ix2 e j))
        + (∑ j : Fin 256, v28 (ix2 p j) * v30 (ix2 e j))
        + (∑ j : Fin 256, v32 (ix2 p j) * v34 (ix2 e j))
        + (∑ j : Fin 256, v36 (ix2 p j) * v38 (ix2 e j))
        + (∑ j : Fin 256, v40 (ix2 p j) * v42 (ix2 e j))
        + (∑ j : Fin 256, v43 (ix3 0 p j) * v45 (ix4 0 0 e j))
        + (∑ j : Fin 256, v47 (ix3 0 p j) * v49 (ix4 0 0 e j))) := by
  unfold k0_pay26
  pointwise

theorem pay5_at (y : S8x1024.Idx) : @Eq EReal (k0_pay5 (F := Ideal) y) 0 := by
  obtain ⟨p, l, rfl⟩ : ∃ (p : Fin 8) (l : Fin 1024), y = ix2 p l := ⟨_, _, eq_ix2 (n0 := 8) (n1 := 1024) y⟩
  unfold k0_pay5
  pointwise

/-- The products of a tile: the column pieces of the gradient with the pieces of the weights. -/
def tile (x0 : Vec Ideal S3x512x1024 .bf16) (x1 : Vec Ideal S1x4x1024x768 .bf16) : FVec Ideal S512x1024 .f32 :=
  k0_pay26 (F := Ideal) (k0_pay6 (F := Ideal) (View.ld x0 (Rect.unit (s := S3x512x1024) ![0, 0, 0] S1x512x256.size inb_S3x512x1024_S1x512x256_0_0_0)))
    (k0_pay7 (F := Ideal) (View.ld x1 (Rect.unit (s := S1x4x1024x768) ![0, 0, 0, 0] S1x1x1024x256.size inb_S1x4x1024x768_S1x1x1024x256_0_0_0_0)))
    (k0_pay8 (F := Ideal) (View.ld x0 (Rect.unit (s := S3x512x1024) ![0, 0, 256] S1x512x256.size inb_S3x512x1024_S1x512x256_0_0_256)))
    (k0_pay9 (F := Ideal) (View.ld x1 (Rect.unit (s := S1x4x1024x768) ![0, 0, 0, 256] S1x1x1024x256.size inb_S1x4x1024x768_S1x1x1024x256_0_0_0_256)))
    (k0_pay10 (F := Ideal) (View.ld x0 (Rect.unit (s := S3x512x1024) ![0, 0, 512] S1x512x256.size inb_S3x512x1024_S1x512x256_0_0_512)))
    (k0_pay11 (F := Ideal) (View.ld x1 (Rect.unit (s := S1x4x1024x768) ![0, 0, 0, 512] S1x1x1024x256.size inb_S1x4x1024x768_S1x1x1024x256_0_0_0_512)))
    (k0_pay12 (F := Ideal) (View.ld x0 (Rect.unit (s := S3x512x1024) ![0, 0, 768] S1x512x256.size inb_S3x512x1024_S1x512x256_0_0_768)))
    (k0_pay13 (F := Ideal) (View.ld x1 (Rect.unit (s := S1x4x1024x768) ![0, 1, 0, 0] S1x1x1024x256.size inb_S1x4x1024x768_S1x1x1024x256_0_1_0_0)))
    (k0_pay14 (F := Ideal) (View.ld x0 (Rect.unit (s := S3x512x1024) ![1, 0, 0] S1x512x256.size inb_S3x512x1024_S1x512x256_1_0_0)))
    (k0_pay15 (F := Ideal) (View.ld x1 (Rect.unit (s := S1x4x1024x768) ![0, 1, 0, 256] S1x1x1024x256.size inb_S1x4x1024x768_S1x1x1024x256_0_1_0_256)))
    (k0_pay16 (F := Ideal) (View.ld x0 (Rect.unit (s := S3x512x1024) ![1, 0, 256] S1x512x256.size inb_S3x512x1024_S1x512x256_1_0_256)))
    (k0_pay17 (F := Ideal) (View.ld x1 (Rect.unit (s := S1x4x1024x768) ![0, 1, 0, 512] S1x1x1024x256.size inb_S1x4x1024x768_S1x1x1024x256_0_1_0_512)))
    (k0_pay18 (F := Ideal) (View.ld x0 (Rect.unit (s := S3x512x1024) ![1, 0, 512] S1x512x256.size inb_S3x512x1024_S1x512x256_1_0_512)))
    (k0_pay19 (F := Ideal) (View.ld x1 (Rect.unit (s := S1x4x1024x768) ![0, 2, 0, 0] S1x1x1024x256.size inb_S1x4x1024x768_S1x1x1024x256_0_2_0_0)))
    (k0_pay20 (F := Ideal) (View.ld x0 (Rect.unit (s := S3x512x1024) ![1, 0, 768] S1x512x256.size inb_S3x512x1024_S1x512x256_1_0_768)))
    (k0_pay21 (F := Ideal) (View.ld x1 (Rect.unit (s := S1x4x1024x768) ![0, 2, 0, 256] S1x1x1024x256.size inb_S1x4x1024x768_S1x1x1024x256_0_2_0_256)))
    (k0_pay22 (F := Ideal) (View.ld x0 (Rect.unit (s := S3x512x1024) ![2, 0, 0] S1x512x256.size inb_S3x512x1024_S1x512x256_2_0_0)))
    (k0_pay23 (F := Ideal) (View.ld x1 (Rect.unit (s := S1x4x1024x768) ![0, 2, 0, 512] S1x1x1024x256.size inb_S1x4x1024x768_S1x1x1024x256_0_2_0_512)))
    (k0_pay24 (F := Ideal) (View.ld x0 (Rect.unit (s := S3x512x1024) ![2, 0, 256] S1x512x256.size inb_S3x512x1024_S1x512x256_2_0_256)))
    (k0_pay25 (F := Ideal) (View.ld x1 (Rect.unit (s := S1x4x1024x768) ![0, 3, 0, 0] S1x1x1024x256.size inb_S1x4x1024x768_S1x1x1024x256_0_3_0_0)))
    (View.ld x0 (Rect.unit (s := S3x512x1024) ![2, 0, 512] S1x512x256.size inb_S3x512x1024_S1x512x256_2_0_512))
    (View.ld x1 (Rect.unit (s := S1x4x1024x768) ![0, 3, 0, 256] S1x1x1024x256.size inb_S1x4x1024x768_S1x1x1024x256_0_3_0_256))
    (View.ld x0 (Rect.unit (s := S3x512x1024) ![2, 0, 768] S1x512x256.size inb_S3x512x1024_S1x512x256_2_0_768))
    (View.ld x1 (Rect.unit (s := S1x4x1024x768) ![0, 3, 0, 512] S1x1x1024x256.size inb_S1x4x1024x768_S1x1x1024x256_0_3_0_512))

theorem ld_act (k : Fin 3) (o : ℕ) (ho : o + 256 ≤ 1024) (x : Vec Ideal S3x512x1024 .bf16) (inb) (p : Fin 512) (j : Fin 256) :
    View.ld x (Rect.unit (s := S3x512x1024) ![k.val, 0, o] S1x512x256.size inb) (ix3 (0 : Fin 1) p j) = x (ix3 k p ⟨o + j.val, by omega⟩) := by
  refine View.ld_unit_apply_of _ _ _ _ _ (ix3 k p ⟨o + j.val, by omega⟩) fun b => ?_
  match b with
  | ⟨0, _⟩ => show k.val = k.val + 0; omega
  | ⟨1, _⟩ => show p.val = 0 + p.val; omega
  | ⟨2, _⟩ => show o + j.val = o + j.val; rfl

theorem ld_w (q : Fin 4) (o : ℕ) (ho : o + 256 ≤ 768) (x : Vec Ideal S1x4x1024x768 .bf16) (inb) (e : Fin 1024) (j : Fin 256) :
    View.ld x (Rect.unit (s := S1x4x1024x768) ![0, q.val, 0, o] S1x1x1024x256.size inb) (ix4 (0 : Fin 1) (0 : Fin 1) e j) = x (ix4 0 q e ⟨o + j.val, by omega⟩) := by
  refine View.ld_unit_apply_of _ _ _ _ _ (ix4 0 q e ⟨o + j.val, by omega⟩) fun b => ?_
  match b with
  | ⟨0, _⟩ => show 0 = 0 + 0; omega
  | ⟨1, _⟩ => show q.val = q.val + 0; omega
  | ⟨2, _⟩ => show e.val = 0 + e.val; omega
  | ⟨3, _⟩ => show o + j.val = o + j.val; rfl

theorem cast_act (v : Vec Ideal S1x512x256 .bf16) (p : Fin 512) (j : Fin 256) : k0_pay6 (F := Ideal) v (ix2 p j) = v (ix3 0 p j) := by
  unfold k0_pay6
  pointwise

theorem cast_w (v : Vec Ideal S1x1x1024x256 .bf16) (e : Fin 1024) (j : Fin 256) : k0_pay7 (F := Ideal) v (ix2 e j) = v (ix4 0 0 e j) := by
  unfold k0_pay7
  pointwise

theorem part_at (k : Fin 3) (o : ℕ) (ho : o + 256 ≤ 1024) (q : Fin 4) (o' : ℕ) (ho' : o' + 256 ≤ 768) (x : Vec Ideal S3x512x1024 .bf16) (w : Vec Ideal S1x4x1024x768 .bf16)
    (inb) (inb') (p : Fin 512) (e : Fin 1024) :
    @Eq EReal (∑ j : Fin 256, View.ld x (Rect.unit (s := S3x512x1024) ![k.val, 0, o] S1x512x256.size inb) (ix3 (0 : Fin 1) p j)
        * View.ld w (Rect.unit (s := S1x4x1024x768) ![0, q.val, 0, o'] S1x1x1024x256.size inb') (ix4 (0 : Fin 1) (0 : Fin 1) e j) : EReal)
      (∑ j : Fin 256, x (ix3 k p ⟨o + j.val, by omega⟩) * w (ix4 0 q e ⟨o' + j.val, by omega⟩) : EReal) :=
  Finset.sum_congr (M := EReal) rfl fun j _ => congrArg₂ (fun a b : EReal => a * b) (ld_act k o ho x inb p j) (ld_w q o' ho' w inb' e j)

theorem cast_part_at (k : Fin 3) (o : ℕ) (ho : o + 256 ≤ 1024) (q : Fin 4) (o' : ℕ) (ho' : o' + 256 ≤ 768) (x : Vec Ideal S3x512x1024 .bf16) (w : Vec Ideal S1x4x1024x768 .bf16)
    (inb) (inb') (p : Fin 512) (e : Fin 1024) :
    @Eq EReal (∑ j : Fin 256, k0_pay6 (F := Ideal) (View.ld x (Rect.unit (s := S3x512x1024) ![k.val, 0, o] S1x512x256.size inb)) (ix2 p j)
        * k0_pay7 (F := Ideal) (View.ld w (Rect.unit (s := S1x4x1024x768) ![0, q.val, 0, o'] S1x1x1024x256.size inb')) (ix2 e j) : EReal)
      (∑ j : Fin 256, x (ix3 k p ⟨o + j.val, by omega⟩) * w (ix4 0 q e ⟨o' + j.val, by omega⟩) : EReal) :=
  (Finset.sum_congr (M := EReal) rfl fun j _ => congrArg₂ (fun a b : EReal => a * b) (cast_act _ p j) (cast_w _ e j)).trans (part_at k o ho q o' ho' x w inb inb' p e)

theorem tile_at (x0 : Vec Ideal S3x512x1024 .bf16) (x1 : Vec Ideal S1x4x1024x768 .bf16) (p : Fin 512) (e : Fin 1024) :
    @Eq EReal (tile x0 x1 (ix2 p e))
      ((∑ j : Fin 256, x0 (ix3 0 p ⟨0 + j.val, by omega⟩) * x1 (ix4 0 0 e ⟨0 + j.val, by omega⟩))
        + (∑ j : Fin 256, x0 (ix3 0 p ⟨256 + j.val, by omega⟩) * x1 (ix4 0 0 e ⟨256 + j.val, by omega⟩))
        + (∑ j : Fin 256, x0 (ix3 0 p ⟨512 + j.val, by omega⟩) * x1 (ix4 0 0 e ⟨512 + j.val, by omega⟩))
        + (∑ j : Fin 256, x0 (ix3 0 p ⟨768 + j.val, by omega⟩) * x1 (ix4 0 1 e ⟨0 + j.val, by omega⟩))
        + (∑ j : Fin 256, x0 (ix3 1 p ⟨0 + j.val, by omega⟩) * x1 (ix4 0 1 e ⟨256 + j.val, by omega⟩))
        + (∑ j : Fin 256, x0 (ix3 1 p ⟨256 + j.val, by omega⟩) * x1 (ix4 0 1 e ⟨512 + j.val, by omega⟩))
        + (∑ j : Fin 256, x0 (ix3 1 p ⟨512 + j.val, by omega⟩) * x1 (ix4 0 2 e ⟨0 + j.val, by omega⟩))
        + (∑ j : Fin 256, x0 (ix3 1 p ⟨768 + j.val, by omega⟩) * x1 (ix4 0 2 e ⟨256 + j.val, by omega⟩))
        + (∑ j : Fin 256, x0 (ix3 2 p ⟨0 + j.val, by omega⟩) * x1 (ix4 0 2 e ⟨512 + j.val, by omega⟩))
        + (∑ j : Fin 256, x0 (ix3 2 p ⟨256 + j.val, by omega⟩) * x1 (ix4 0 3 e ⟨0 + j.val, by omega⟩))
        + (∑ j : Fin 256, x0 (ix3 2 p ⟨512 + j.val, by omega⟩) * x1 (ix4 0 3 e ⟨256 + j.val, by omega⟩))
        + (∑ j : Fin 256, x0 (ix3 2 p ⟨768 + j.val, by omega⟩) * x1 (ix4 0 3 e ⟨512 + j.val, by omega⟩))) :=
  (pay26_at _ _ _ _ _ _ _ _ _ _ _ _ _ _ _ _ _ _ _ _ _ _ _ _ p e).trans
    (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (cast_part_at 0 0 (by omega) 0 0 (by omega) x0 x1 inb_S3x512x1024_S1x512x256_0_0_0 inb_S1x4x1024x768_S1x1x1024x256_0_0_0_0 p e)
      (cast_part_at 0 256 (by omega) 0 256 (by omega) x0 x1 inb_S3x512x1024_S1x512x256_0_0_256 inb_S1x4x1024x768_S1x1x1024x256_0_0_0_256 p e))
      (cast_part_at 0 512 (by omega) 0 512 (by omega) x0 x1 inb_S3x512x1024_S1x512x256_0_0_512 inb_S1x4x1024x768_S1x1x1024x256_0_0_0_512 p e))
      (cast_part_at 0 768 (by omega) 1 0 (by omega) x0 x1 inb_S3x512x1024_S1x512x256_0_0_768 inb_S1x4x1024x768_S1x1x1024x256_0_1_0_0 p e))
      (cast_part_at 1 0 (by omega) 1 256 (by omega) x0 x1 inb_S3x512x1024_S1x512x256_1_0_0 inb_S1x4x1024x768_S1x1x1024x256_0_1_0_256 p e))
      (cast_part_at 1 256 (by omega) 1 512 (by omega) x0 x1 inb_S3x512x1024_S1x512x256_1_0_256 inb_S1x4x1024x768_S1x1x1024x256_0_1_0_512 p e))
      (cast_part_at 1 512 (by omega) 2 0 (by omega) x0 x1 inb_S3x512x1024_S1x512x256_1_0_512 inb_S1x4x1024x768_S1x1x1024x256_0_2_0_0 p e))
      (cast_part_at 1 768 (by omega) 2 256 (by omega) x0 x1 inb_S3x512x1024_S1x512x256_1_0_768 inb_S1x4x1024x768_S1x1x1024x256_0_2_0_256 p e))
      (cast_part_at 2 0 (by omega) 2 512 (by omega) x0 x1 inb_S3x512x1024_S1x512x256_2_0_0 inb_S1x4x1024x768_S1x1x1024x256_0_2_0_512 p e))
      (cast_part_at 2 256 (by omega) 3 0 (by omega) x0 x1 inb_S3x512x1024_S1x512x256_2_0_256 inb_S1x4x1024x768_S1x1x1024x256_0_3_0_0 p e))
      (part_at 2 512 (by omega) 3 256 (by omega) x0 x1 inb_S3x512x1024_S1x512x256_2_0_512 inb_S1x4x1024x768_S1x1x1024x256_0_3_0_256 p e))
      (part_at 2 768 (by omega) 3 512 (by omega) x0 x1 inb_S3x512x1024_S1x512x256_2_0_768 inb_S1x4x1024x768_S1x1x1024x256_0_3_0_512 p e))

theorem hz2 : (![0, 0] : Fin 2 → Nat) = fun _ => 0 := funext fun a => by fin_cases a <;> rfl

section Cases
variable (d : Dev nD) (i : grid0.Coords) (a0 : Memref sig .tc .vmem S3x512x1024 .bf16) (h0 : a0.IsWhole) (a1 : Memref sig .tc .vmem S1x4x1024x768 .bf16) (h1 : a1.IsWhole) (a2 : Memref sig .tc .vmem S512x1024 .f32) (h2 : a2.IsWhole) (a3 : Memref sig .tc .vmem S1x1024 .f32) (h3 : a3.IsWhole) (a4 : Memref sig .tc .vmem S512x1024 .f32) (h4 : a4.IsWhole) (a5 : Memref sig .tc .vmem S512x1024 .f32) (h5 : a5.IsWhole) (a6 : Memref sig .tc .vmem S8x1024 .f32) (h6 : a6.IsWhole)
  (x0 : Vec Ideal S3x512x1024 .bf16) (x1 : Vec Ideal S1x4x1024x768 .bf16) (x2 : Vec Ideal S512x1024 .f32) (x3 : Vec Ideal S1x1024 .f32) (x4 : Vec Ideal S512x1024 .f32) (acc : Vec Ideal S8x1024 .f32)

theorem out_A_5 (c : cond0_0 i) :
    out0_A_5 (F := Ideal) d i a0 h0 a1 h1 a2 h2 a3 h3 a4 h4 a5 h5 a6 h6 c x0 x1 x2 x3 x4 = k0_pay3 (F := Ideal) (tile x0 x1) x2 (k0_pay27 (F := Ideal) x2) x3 x4 := by
  unfold out0_A_5
  rw [View.read_writes_eq_canon _ _ _ (cover0_A_5 d i a0 h0 a1 h1 a2 h2 a3 h3 a4 h4 a5 h5 a6 h6 c x0 x1 x2 x3 x4)]
  unfold kernelRun0_A tile
  dsimp only
  try sl_unfold_words
  rw [View.canon_unit_zero (S := S512x1024) hz2]
  simp only [View.readAt_eq_ld, h0.read_unread, h1.read_unread, h2.read_unread, h3.read_unread, h4.read_unread, h5.read_unread, h6.read_unread, View.ld_unit_zero (S := S512x1024) hz2, View.ld_unit_zero (S := S1x1024) hz2, View.ld_unit_zero (S := S8x1024) hz2]

theorem out_A_6 (c : cond0_0 i) :
    out0_A_6 (F := Ideal) d i a0 h0 a1 h1 a2 h2 a3 h3 a4 h4 a5 h5 a6 h6 c x0 x1 x2 x3 x4 = k0_pay4 (F := Ideal) (tile x0 x1) x2 (k0_pay27 (F := Ideal) x2) (k0_pay5 (F := Ideal)) := by
  unfold out0_A_6
  rw [View.read_writes_eq_canon _ _ _ (cover0_A_6 d i a0 h0 a1 h1 a2 h2 a3 h3 a4 h4 a5 h5 a6 h6 c x0 x1 x2 x3 x4)]
  unfold kernelRun0_A tile
  dsimp only
  try sl_unfold_words
  rw [View.canon_cons_unit_zero (S := S8x1024) hz2, View.readCov_unit_zero (S := S8x1024) _ hz2]
  simp only [View.readAt_eq_ld, h0.read_unread, h1.read_unread, h2.read_unread, h3.read_unread, h4.read_unread, h5.read_unread, h6.read_unread, View.ld_unit_zero (S := S512x1024) hz2, View.ld_unit_zero (S := S1x1024) hz2, View.ld_unit_zero (S := S8x1024) hz2]

theorem out_B_5 (c : ¬cond0_0 i) :
    out0_B_5 (F := Ideal) d i a0 h0 a1 h1 a2 h2 a3 h3 a4 h4 a5 h5 a6 h6 c x0 x1 x2 x3 x4 acc = k0_pay3 (F := Ideal) (tile x0 x1) x2 (k0_pay27 (F := Ideal) x2) x3 x4 := by
  unfold out0_B_5
  rw [View.read_writes_eq_canon _ _ _ (cover0_B_5 d i a0 h0 a1 h1 a2 h2 a3 h3 a4 h4 a5 h5 a6 h6 c x0 x1 x2 x3 x4 acc)]
  unfold kernelRun0_B tile
  dsimp only
  try sl_unfold_words
  rw [View.canon_unit_zero (S := S512x1024) hz2]
  simp only [View.readAt_eq_ld, h0.read_unread, h1.read_unread, h2.read_unread, h3.read_unread, h4.read_unread, h5.read_unread, h6.read_unread, View.ld_unit_zero (S := S512x1024) hz2, View.ld_unit_zero (S := S1x1024) hz2, View.ld_unit_zero (S := S8x1024) hz2]

theorem out_B_6 (c : ¬cond0_0 i) :
    out0_B_6 (F := Ideal) d i a0 h0 a1 h1 a2 h2 a3 h3 a4 h4 a5 h5 a6 h6 c x0 x1 x2 x3 x4 acc = k0_pay4 (F := Ideal) (tile x0 x1) x2 (k0_pay27 (F := Ideal) x2) acc := by
  unfold out0_B_6
  rw [View.read_writes_eq_canon _ _ _ (cover0_B_6 d i a0 h0 a1 h1 a2 h2 a3 h3 a4 h4 a5 h5 a6 h6 c x0 x1 x2 x3 x4 acc)]
  unfold kernelRun0_B tile
  dsimp only
  try sl_unfold_words
  rw [View.canon_unit_zero (S := S8x1024) hz2]
  simp only [View.readAt_eq_ld, h0.read_unread, h1.read_unread, h2.read_unread, h3.read_unread, h4.read_unread, h5.read_unread, h6.read_unread, View.ld_unit_zero (S := S512x1024) hz2, View.ld_unit_zero (S := S1x1024) hz2, View.ld_unit_zero (S := S8x1024) hz2]

end Cases

variable (m : (ℓ : Loc nD τ sig) → Buf (Elt Ideal) ℓ) (ρ : Dev nD → PrngReg)

theorem index0 : ∀ t : Fin cfg0.N, win0_0.index t = ![0, t.val, 0] := (by decide +kernel : ∀ t : Fin grid0.N, _)
theorem index1 : ∀ t : Fin cfg0.N, win0_1.index t = ![0, 0, 0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![0, 0] := (by decide +kernel : ∀ t : Fin grid0.N, _)

abbrev dArg (c : Dev nD) : Vec Ideal S3x8192x1024 .bf16 := m ((c.tc : Thread nD τ).loc main_arg0)
abbrev wArg (c : Dev nD) : Vec Ideal S1x4x1024x768 .bf16 := m ((c.tc : Thread nD τ).loc main_arg1)
abbrev xArg (c : Dev nD) : Vec Ideal S8192x1024 .f32 := m ((c.tc : Thread nD τ).loc main_arg2)
abbrev gainArg (c : Dev nD) : Vec Ideal S1x1024 .f32 := m ((c.tc : Thread nD τ).loc main_arg3)
abbrev dresArg (c : Dev nD) : Vec Ideal S8192x1024 .f32 := m ((c.tc : Thread nD τ).loc main_arg4)

/-- The gradient at the projection's input: the column pieces of the gradient with the pieces of the weights. -/
def dh (d : Vec Ideal S3x8192x1024 .bf16) (w : Vec Ideal S1x4x1024x768 .bf16) (t : Fin 8192) (e : Fin 1024) : EReal :=
  (∑ j : Fin 256, d (ix3 0 t ⟨0 + j.val, by omega⟩) * w (ix4 0 0 e ⟨0 + j.val, by omega⟩))
        + (∑ j : Fin 256, d (ix3 0 t ⟨256 + j.val, by omega⟩) * w (ix4 0 0 e ⟨256 + j.val, by omega⟩))
        + (∑ j : Fin 256, d (ix3 0 t ⟨512 + j.val, by omega⟩) * w (ix4 0 0 e ⟨512 + j.val, by omega⟩))
        + (∑ j : Fin 256, d (ix3 0 t ⟨768 + j.val, by omega⟩) * w (ix4 0 1 e ⟨0 + j.val, by omega⟩))
        + (∑ j : Fin 256, d (ix3 1 t ⟨0 + j.val, by omega⟩) * w (ix4 0 1 e ⟨256 + j.val, by omega⟩))
        + (∑ j : Fin 256, d (ix3 1 t ⟨256 + j.val, by omega⟩) * w (ix4 0 1 e ⟨512 + j.val, by omega⟩))
        + (∑ j : Fin 256, d (ix3 1 t ⟨512 + j.val, by omega⟩) * w (ix4 0 2 e ⟨0 + j.val, by omega⟩))
        + (∑ j : Fin 256, d (ix3 1 t ⟨768 + j.val, by omega⟩) * w (ix4 0 2 e ⟨256 + j.val, by omega⟩))
        + (∑ j : Fin 256, d (ix3 2 t ⟨0 + j.val, by omega⟩) * w (ix4 0 2 e ⟨512 + j.val, by omega⟩))
        + (∑ j : Fin 256, d (ix3 2 t ⟨256 + j.val, by omega⟩) * w (ix4 0 3 e ⟨0 + j.val, by omega⟩))
        + (∑ j : Fin 256, d (ix3 2 t ⟨512 + j.val, by omega⟩) * w (ix4 0 3 e ⟨256 + j.val, by omega⟩))
        + (∑ j : Fin 256, d (ix3 2 t ⟨768 + j.val, by omega⟩) * w (ix4 0 3 e ⟨512 + j.val, by omega⟩))

/-- A row of the array the norm was taken of. -/
def row (x : Vec Ideal S8192x1024 .f32) (t : Fin 8192) (e : Fin 1024) : EReal := x (ix2 t e)

/-- The gradient of a row before the norm, with the residual's gradient. -/
def dxAt (d : Vec Ideal S3x8192x1024 .bf16) (w : Vec Ideal S1x4x1024x768 .bf16) (x : Vec Ideal S8192x1024 .f32) (gain : Vec Ideal S1x1024 .f32)
    (dres : Vec Ideal S8192x1024 .f32) (t : Fin 8192) (e : Fin 1024) : EReal :=
  dres (ix2 t e) + pull (unit (row x t)) (fun j => dh d w t j * gain (ix2 0 j)) (scale (row x t)) e

def dx (d : Vec Ideal S3x8192x1024 .bf16) (w : Vec Ideal S1x4x1024x768 .bf16) (x : Vec Ideal S8192x1024 .f32) (gain : Vec Ideal S1x1024 .f32)
    (dres : Vec Ideal S8192x1024 .f32) : Vec Ideal S8192x1024 .f32 := fun i => dxAt d w x gain dres (i 0) (i 1)

/-- The gain's gradient in eight partial sums: the rows of one residue modulo eight each. -/
def dgain (d : Vec Ideal S3x8192x1024 .bf16) (w : Vec Ideal S1x4x1024x768 .bf16) (x : Vec Ideal S8192x1024 .f32) : Vec Ideal S8x1024 .f32 :=
  fun i => (∑ s : Fin 1024, dh d w ⟨s.val * 8 + (i 0).val, by have := (i 0).isLt; dsimp at this; omega⟩ (i 1)
    * unit (row x ⟨s.val * 8 + (i 0).val, by have := (i 0).isLt; dsimp at this; omega⟩) (i 1) : EReal)

theorem place5 (t : Fin cfg0.N) (X : Vec Ideal S8192x1024 .f32) (p : Fin 512) (e : Fin 1024) (h : 512 * t.val + p.val < 8192) :
    X ((win0_5.blk t).view.emb (ix2 p e)) = X (ix2 ⟨512 * t.val + p.val, h⟩ e) := by
  blk_ext [index5 t]

theorem place6 (t : Fin cfg0.N) (X : Vec Ideal S8x1024 .f32) (p : Fin 8) (e : Fin 1024) :
    X ((win0_6.blk t).view.emb (ix2 p e)) = X (ix2 p e) := by
  blk_ext [index6 t]

theorem blk0 (c : Dev nD) (t : Fin cfg0.N) (k : Fin 3) (p : Fin 512) (l : Fin 1024) (h : 512 * t.val + p.val < 8192) :
    iblk m c 0 t (ix3 k p l) = dArg m c (ix3 k ⟨512 * t.val + p.val, h⟩ l) := by
  blk_ext! [iblk, V_main_arg0, index0 t]

theorem blk1 (c : Dev nD) (t : Fin cfg0.N) (q : Fin 4) (e : Fin 1024) (j : Fin 768) :
    iblk m c 1 t (ix4 0 q e j) = wArg m c (ix4 0 q e j) := by
  blk_ext! [iblk, V_main_arg1, index1 t]

theorem blk2 (c : Dev nD) (t : Fin cfg0.N) (p : Fin 512) (l : Fin 1024) (h : 512 * t.val + p.val < 8192) :
    iblk m c 2 t (ix2 p l) = xArg m c (ix2 ⟨512 * t.val + p.val, h⟩ l) := by
  blk_ext! [iblk, V_main_arg2, index2 t]

theorem blk3 (c : Dev nD) (t : Fin cfg0.N) (e : Fin 1024) : iblk m c 3 t (ix2 0 e) = gainArg m c (ix2 0 e) := by
  blk_ext! [iblk, V_main_arg3, index3 t]

theorem blk4 (c : Dev nD) (t : Fin cfg0.N) (p : Fin 512) (l : Fin 1024) (h : 512 * t.val + p.val < 8192) :
    iblk m c 4 t (ix2 p l) = dresArg m c (ix2 ⟨512 * t.val + p.val, h⟩ l) := by
  blk_ext! [iblk, V_main_arg4, index4 t]

/-- The tile of a point of the grid. -/
theorem tile_eq (c : Dev nD) (t : Fin cfg0.N) (p : Fin 512) (e : Fin 1024) (h : 512 * t.val + p.val < 8192) :
    @Eq EReal (tile (iblk m c 0 t) (iblk m c 1 t) (ix2 p e)) (dh (dArg m c) (wArg m c) ⟨512 * t.val + p.val, h⟩ e) := by
  refine (tile_at _ _ p e).trans ?_
  unfold dh
  refine (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) ?_ ?_) ?_) ?_) ?_) ?_) ?_) ?_) ?_) ?_) ?_) ?_)
  all_goals
    refine Finset.sum_congr (M := EReal) rfl fun j _ => ?_
    rw [blk0 m c t _ p _ h, blk1]

theorem row_eq (c : Dev nD) (t : Fin cfg0.N) (p : Fin 512) (h : 512 * t.val + p.val < 8192) :
    (fun e => (iblk m c 2 t (ix2 p e) : EReal)) = row (xArg m c) ⟨512 * t.val + p.val, h⟩ :=
  funext fun e => blk2 m c t p e h

/-- What a point of the grid stores, entry by entry. -/
theorem stored (c : Dev nD) (t : Fin cfg0.N) (p : Fin 512) (e : Fin 1024) (h : 512 * t.val + p.val < 8192) :
    @Eq EReal (k0_pay3 (F := Ideal) (tile (iblk m c 0 t) (iblk m c 1 t)) (iblk m c 2 t) (k0_pay27 (F := Ideal) (iblk m c 2 t)) (iblk m c 3 t) (iblk m c 4 t) (ix2 p e))
      (dxAt (dArg m c) (wArg m c) (xArg m c) (gainArg m c) (dresArg m c) ⟨512 * t.val + p.val, h⟩ e) := by
  refine (pay3_at _ _ _ _ p e).trans ?_
  unfold dxAt
  refine congrArg₂ (fun a b : EReal => a + b) (blk4 m c t p e h) ?_
  have hy : (fun j : Fin 1024 => (tile (iblk m c 0 t) (iblk m c 1 t) (ix2 p j) * iblk m c 3 t (ix2 0 j) : EReal))
      = fun j => dh (dArg m c) (wArg m c) ⟨512 * t.val + p.val, h⟩ j * gainArg m c (ix2 0 j) :=
    funext fun j => congrArg₂ (fun a b : EReal => a * b) (tile_eq m c t p j h) (blk3 m c t j)
  exact congrArg₂ (fun r y => pull (unit r) y (scale r) e) (row_eq m c t p h) hy

theorem final5 (c : Dev nD) : (dats m 0 c).arrAt 5 cfg0.N = dx (dArg m c) (wArg m c) (xArg m c) (gainArg m c) (dresArg m c) :=
  (dats m 0 c).arrAt_eq_of_covers 5 _ (by decide +kernel) fun t hf y => by
    blk_simp
    rw [after0_5]
    have ht : t.val < 16 := t.isLt.trans_eq N_0
    obtain ⟨p, l, rfl⟩ : ∃ (p : Fin 512) (l : Fin 1024), y = ix2 p l := ⟨_, _, eq_ix2 (n0 := 512) (n1 := 1024) y⟩
    refine Eq.trans ?_ (place5 t _ p l (by omega)).symm
    by_cases h0 : t.val % 16 = 0
    · rw [outsAt0_A m c t h0]
      dsimp only
      rw [out_A_5]
      exact stored m c t p l _
    · rw [outsAt0_B m c t h0]
      dsimp only
      rw [out_B_5]
      exact stored m c t p l _

/-- A point's share of the gain's gradient. -/
def shareAt (c : Dev nD) (t : Fin cfg0.N) : Vec Ideal S8x1024 .f32 := share (tile (iblk m c 0 t) (iblk m c 1 t)) (iblk m c 2 t)

theorem shareAt_eq (c : Dev nD) (t : Fin cfg0.N) (i : Fin 8) (e : Fin 1024) (ht : t.val < 16) :
    @Eq EReal (shareAt m c t (ix2 i e))
      (∑ s : Fin 64, dh (dArg m c) (wArg m c) ⟨512 * t.val + (s.val * 8 + i.val), by omega⟩ e
        * unit (row (xArg m c) ⟨512 * t.val + (s.val * 8 + i.val), by omega⟩) e) := by
  unfold shareAt share
  refine Finset.sum_congr (M := EReal) rfl fun s _ => ?_
  exact congrArg₂ (fun a b : EReal => a * b) (tile_eq m c t ⟨s.val * 8 + i.val, by omega⟩ e (by dsimp only; omega))
    (congrArg (fun r => unit r e) (row_eq m c t ⟨s.val * 8 + i.val, by omega⟩ (by dsimp only; omega)))

theorem final6 (c : Dev nD) : (dats m 0 c).arrAt 6 cfg0.N = dgain (dArg m c) (wArg m c) (xArg m c) :=
  (dats m 0 c).arrAt_eq_of_covers 6 _ (by decide +kernel) fun t hf y => by
    blk_simp
    rw [after0_6]
    rw [Pipeline.eq_sum_fin_of_reset_step_apply_of_flush (fun n h => (outsAt0 m c n h).2) 16 (fun _ => 0)
      (fun t => shareAt m c t) (fun t h j => by
        rw [outsAt0_A m c t h]
        dsimp only
        rw [out_A_6]
        exact (pay4_at _ _ _ j).trans (congrArg (· + _) (pay5_at j))) (fun t h j => by
        rw [outsAt0_B m c t h]
        dsimp only
        rw [out_B_6]
        exact pay4_at _ _ _ j) t ((flush0_6 t).mp hf) y]
    obtain ⟨p, l, rfl⟩ : ∃ (p : Fin 8) (l : Fin 1024), y = ix2 p l := ⟨_, _, eq_ix2 (n0 := 8) (n1 := 1024) y⟩
    have ht : t.val < 16 := t.isLt.trans_eq N_0
    refine Eq.trans ?_ (place6 t _ p l).symm
    refine (zero_add (M := EReal) _).trans ?_
    unfold dgain
    simp only [ix2_0, ix2_1]
    refine (Finset.sum_congr (M := EReal) rfl fun s _ => shareAt_eq m c ⟨16 * (t.val / 16) + s.val, lt_of_lt_of_eq (by omega : _ < 16) N_0.symm⟩ p l (by dsimp only; omega)).trans ?_
    refine Fin.sum_mul_add_congr (M := EReal) fun s k hk => ?_
    have hq : ∀ h, (⟨512 * (16 * (t.val / 16) + s.val) + (k.val * 8 + p.val), h⟩ : Fin 8192) = ⟨(s.val * 64 + k.val) * 8 + p.val, by omega⟩ := fun h => Fin.ext (by dsimp only; omega)
    simp only [hq]

end Cert.ConvInDgradIdeal.Array

end
-- ==== Proof.ConvInDgradClaims.lean ====
/-
  The claims about the backward call of the convolution block's projection and its norm: the call runs, and over the extended
  reals its two results are the reference's on finite arguments.
-/
module

public import proofs.«01_k».proof.Defs
public import proofs.«01_k».proof.Proof.Gen.Pre_conv_in_dgrad_finite
public import proofs.«01_k».proof.Proof.Gen.ConvInDgrad.Frame
public import proofs.«01_k».proof.Proof.Gen.ConvInDgradIdeal.Frame
public import proofs.«01_k».proof.Proof.Gen.ConvInDgradIdeal.Value
public import proofs.«01_k».proof.Proof.Gen.ConvInDgradRefIdeal.Run
public import proofs.«01_k».proof.Proof.Gen.ConvInDgradRefIdeal.Read
public import proofs.«01_k».proof.Proof.FfnReal
public import proofs.«01_k».proof.Proof.ConvInDgradArray
public import Idealize.ShloMosaic.Adequacy

@[expose] public section

set_option maxRecDepth 16384

noncomputable section

namespace Cert.Proof.ConvInDgrad

open Idealize.ShloMosaic Idealize.SL.Sem Cert.ConvInDgradRefIdeal.Read Cert.ConvInDgradIdeal.Array Cert.Proof.Reals Cert.Proof.RowNorm

/-- The precondition, read: every entry of the first four arguments is a real. -/
theorem finite (x0 : FVec Ideal Cert.Pre_conv_in_dgrad_finite.S3x8192x1024 .bf16) (x1 : FVec Ideal Cert.Pre_conv_in_dgrad_finite.S1x4x1024x768 .bf16)
    (x2 : FVec Ideal Cert.Pre_conv_in_dgrad_finite.S8192x1024 .f32) (x3 : FVec Ideal Cert.Pre_conv_in_dgrad_finite.S1x1024 .f32) (x4 : FVec Ideal Cert.Pre_conv_in_dgrad_finite.S8192x1024 .f32)
    (h : Cert.Pre_conv_in_dgrad_finite.fn (F := Ideal) x0 x1 x2 x3 x4 = fun _ => 1#1) :
    (∀ i, IsReal (x0 i)) ∧ (∀ i, IsReal (x1 i)) ∧ (∀ i, IsReal (x2 i)) ∧ (∀ i, IsReal (x3 i)) := by
  simp only [Cert.Pre_conv_in_dgrad_finite.fn, Cert.Pre_conv_in_dgrad_finite.fn_part1] at h
  have hj := Host.reduce_andi_all _ _ _ _ ix0 (congrFun h ix0)
  refine ⟨fun i => ?_, fun i => ?_, fun i => ?_, fun i => ?_⟩
  · obtain ⟨k, a, b, rfl⟩ : ∃ (k : Fin 3) (a : Fin 8192) (b : Fin 1024), i = ix3 k a b := ⟨_, _, _, eq_ix3 (n0 := 3) (n1 := 8192) (n2 := 1024) i⟩
    have hk := hj (ix1 0)
    pointwise at hk
    have e := bit_of_fold_univ _ hk (k, a, b)
    exact isReal_of_lt (of_bit e)
  · have hk := hj (ix1 1)
    pointwise at hk
    exact isReal_of_lt (of_bit (bit_of_fold _ _ hk i (Finset.mem_filter.mpr ⟨Finset.mem_univ _, Subsingleton.elim _ _⟩)))
  · obtain ⟨a, b, rfl⟩ : ∃ (a : Fin 8192) (b : Fin 1024), i = ix2 a b := ⟨_, _, eq_ix2 (n0 := 8192) (n1 := 1024) i⟩
    have hk := hj (ix1 2)
    pointwise at hk
    have e := bit_of_fold_univ _ hk (a, b)
    exact isReal_of_lt (of_bit e)
  · obtain ⟨a, b, rfl⟩ : ∃ (a : Fin 1) (b : Fin 1024), i = ix2 a b := ⟨_, _, eq_ix2 (n0 := 1) (n1 := 1024) i⟩
    have hk := hj (ix1 3)
    pointwise at hk
    have e := bit_of_fold_univ _ hk (a, b)
    exact isReal_of_lt (of_bit e)

/-- A sum over a row of the gradient as the sums over its twelve pieces. -/
theorem pieces (f : Fin 3072 → EReal) :
    ∑ k, f k = (∑ j : Fin 256, f ⟨0 + j.val, by omega⟩)
      + (∑ j : Fin 256, f ⟨256 + j.val, by omega⟩)
      + (∑ j : Fin 256, f ⟨512 + j.val, by omega⟩)
      + (∑ j : Fin 256, f ⟨768 + j.val, by omega⟩)
      + (∑ j : Fin 256, f ⟨1024 + j.val, by omega⟩)
      + (∑ j : Fin 256, f ⟨1280 + j.val, by omega⟩)
      + (∑ j : Fin 256, f ⟨1536 + j.val, by omega⟩)
      + (∑ j : Fin 256, f ⟨1792 + j.val, by omega⟩)
      + (∑ j : Fin 256, f ⟨2048 + j.val, by omega⟩)
      + (∑ j : Fin 256, f ⟨2304 + j.val, by omega⟩)
      + (∑ j : Fin 256, f ⟨2560 + j.val, by omega⟩)
      + (∑ j : Fin 256, f ⟨2816 + j.val, by omega⟩) := by
  refine (Fin.sum_univ_add (M := EReal) (a := 2816) (b := 256) f).trans ?_
  refine congrArg₂ (fun a b : EReal => a + b) ?_ rfl
  refine (Fin.sum_univ_add (M := EReal) (a := 2560) (b := 256) _).trans ?_
  refine congrArg₂ (fun a b : EReal => a + b) ?_ rfl
  refine (Fin.sum_univ_add (M := EReal) (a := 2304) (b := 256) _).trans ?_
  refine congrArg₂ (fun a b : EReal => a + b) ?_ rfl
  refine (Fin.sum_univ_add (M := EReal) (a := 2048) (b := 256) _).trans ?_
  refine congrArg₂ (fun a b : EReal => a + b) ?_ rfl
  refine (Fin.sum_univ_add (M := EReal) (a := 1792) (b := 256) _).trans ?_
  refine congrArg₂ (fun a b : EReal => a + b) ?_ rfl
  refine (Fin.sum_univ_add (M := EReal) (a := 1536) (b := 256) _).trans ?_
  refine congrArg₂ (fun a b : EReal => a + b) ?_ rfl
  refine (Fin.sum_univ_add (M := EReal) (a := 1280) (b := 256) _).trans ?_
  refine congrArg₂ (fun a b : EReal => a + b) ?_ rfl
  refine (Fin.sum_univ_add (M := EReal) (a := 1024) (b := 256) _).trans ?_
  refine congrArg₂ (fun a b : EReal => a + b) ?_ rfl
  refine (Fin.sum_univ_add (M := EReal) (a := 768) (b := 256) _).trans ?_
  refine congrArg₂ (fun a b : EReal => a + b) ?_ rfl
  refine (Fin.sum_univ_add (M := EReal) (a := 512) (b := 256) _).trans ?_
  refine congrArg₂ (fun a b : EReal => a + b) ?_ rfl
  refine (Fin.sum_univ_add (M := EReal) (a := 256) (b := 256) _).trans ?_
  refine congrArg₂ (fun a b : EReal => a + b) (Finset.sum_congr (M := EReal) rfl fun j _ => ?_) rfl
  exact congrArg f (Fin.ext (Nat.zero_add _).symm)

/-- Column `k` of the four weight parts laid side by side. -/
theorem column (k : ℕ) (q : Fin 4) (l : Fin 768) (hk : k = q.val * 768 + l.val) (e : Fin 1024) (h h') :
    (ix4 0 ⟨k / 768, h⟩ e ⟨k % 768, h'⟩ : Cert.ConvInDgradRefIdeal.S1x4x1024x768.Idx) = ix4 0 q e l :=
  congrArg₂ (fun (a : Fin 4) (b : Fin 768) => ix4 (0 : Fin 1) a e b) (Fin.ext (by dsimp only; omega)) (Fin.ext (by dsimp only; omega))

section Reference

variable (x0 : Vec Ideal Cert.ConvInDgradRefIdeal.S3x8192x1024 .bf16) (x1 : Vec Ideal Cert.ConvInDgradRefIdeal.S1x4x1024x768 .bf16)
    (x2 : Vec Ideal Cert.ConvInDgradRefIdeal.S8192x1024 .f32) (x3 : Vec Ideal Cert.ConvInDgradRefIdeal.S1x1024 .f32) (x4 : Vec Ideal Cert.ConvInDgradRefIdeal.S8192x1024 .f32)
variable (t : Fin 8192) (e : Fin 1024)

theorem dh_at : @Eq EReal (val_main_v32 (F := Ideal) x0 x1 (ix2 t e)) (dh x0 x1 t e) := by
  pointwise [val_main_v32, val_main_v31, val_main_v10, val_main_v9, val_main_v8, val_main_v7, val_main_v6, val_main_v5, val_main_v4, val_main_v3, val_main_v2, val_main_v1, val_main_v0]
  refine (pieces _).trans ?_
  unfold dh
  refine (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) ?_ ?_) ?_) ?_) ?_) ?_) ?_) ?_) ?_) ?_) ?_) ?_)
  · refine Finset.sum_congr (M := EReal) rfl fun j _ => ?_
    dsimp only
    rw [dif_pos (by omega : 0 + j.val < 1024)]
    exact congrArg₂ (fun (l : Fin 1024) i => (x0 (ix3 0 t l) * x1 i : EReal)) (Fin.ext (by show 0 + j.val = 0 + j.val; omega))
      (column (0 + j.val) 0 ⟨0 + j.val, by omega⟩ (by show 0 + j.val = 0 * 768 + (0 + j.val); omega) e _ _)
  · refine Finset.sum_congr (M := EReal) rfl fun j _ => ?_
    dsimp only
    rw [dif_pos (by omega : 256 + j.val < 1024)]
    exact congrArg₂ (fun (l : Fin 1024) i => (x0 (ix3 0 t l) * x1 i : EReal)) (Fin.ext (by show 256 + j.val = 256 + j.val; omega))
      (column (256 + j.val) 0 ⟨256 + j.val, by omega⟩ (by show 256 + j.val = 0 * 768 + (256 + j.val); omega) e _ _)
  · refine Finset.sum_congr (M := EReal) rfl fun j _ => ?_
    dsimp only
    rw [dif_pos (by omega : 512 + j.val < 1024)]
    exact congrArg₂ (fun (l : Fin 1024) i => (x0 (ix3 0 t l) * x1 i : EReal)) (Fin.ext (by show 512 + j.val = 512 + j.val; omega))
      (column (512 + j.val) 0 ⟨512 + j.val, by omega⟩ (by show 512 + j.val = 0 * 768 + (512 + j.val); omega) e _ _)
  · refine Finset.sum_congr (M := EReal) rfl fun j _ => ?_
    dsimp only
    rw [dif_pos (by omega : 768 + j.val < 1024)]
    exact congrArg₂ (fun (l : Fin 1024) i => (x0 (ix3 0 t l) * x1 i : EReal)) (Fin.ext (by show 768 + j.val = 768 + j.val; omega))
      (column (768 + j.val) 1 ⟨0 + j.val, by omega⟩ (by show 768 + j.val = 1 * 768 + (0 + j.val); omega) e _ _)
  · refine Finset.sum_congr (M := EReal) rfl fun j _ => ?_
    dsimp only
    rw [dif_neg (by omega : ¬1024 + j.val < 1024), dif_pos (by omega : 1024 + j.val - 1024 < 1024)]
    exact congrArg₂ (fun (l : Fin 1024) i => (x0 (ix3 1 t l) * x1 i : EReal)) (Fin.ext (by show 1024 + j.val - 1024 = 0 + j.val; omega))
      (column (1024 + j.val) 1 ⟨256 + j.val, by omega⟩ (by show 1024 + j.val = 1 * 768 + (256 + j.val); omega) e _ _)
  · refine Finset.sum_congr (M := EReal) rfl fun j _ => ?_
    dsimp only
    rw [dif_neg (by omega : ¬1280 + j.val < 1024), dif_pos (by omega : 1280 + j.val - 1024 < 1024)]
    exact congrArg₂ (fun (l : Fin 1024) i => (x0 (ix3 1 t l) * x1 i : EReal)) (Fin.ext (by show 1280 + j.val - 1024 = 256 + j.val; omega))
      (column (1280 + j.val) 1 ⟨512 + j.val, by omega⟩ (by show 1280 + j.val = 1 * 768 + (512 + j.val); omega) e _ _)
  · refine Finset.sum_congr (M := EReal) rfl fun j _ => ?_
    dsimp only
    rw [dif_neg (by omega : ¬1536 + j.val < 1024), dif_pos (by omega : 1536 + j.val - 1024 < 1024)]
    exact congrArg₂ (fun (l : Fin 1024) i => (x0 (ix3 1 t l) * x1 i : EReal)) (Fin.ext (by show 1536 + j.val - 1024 = 512 + j.val; omega))
      (column (1536 + j.val) 2 ⟨0 + j.val, by omega⟩ (by show 1536 + j.val = 2 * 768 + (0 + j.val); omega) e _ _)
  · refine Finset.sum_congr (M := EReal) rfl fun j _ => ?_
    dsimp only
    rw [dif_neg (by omega : ¬1792 + j.val < 1024), dif_pos (by omega : 1792 + j.val - 1024 < 1024)]
    exact congrArg₂ (fun (l : Fin 1024) i => (x0 (ix3 1 t l) * x1 i : EReal)) (Fin.ext (by show 1792 + j.val - 1024 = 768 + j.val; omega))
      (column (1792 + j.val) 2 ⟨256 + j.val, by omega⟩ (by show 1792 + j.val = 2 * 768 + (256 + j.val); omega) e _ _)
  · refine Finset.sum_congr (M := EReal) rfl fun j _ => ?_
    dsimp only
    rw [dif_neg (by omega : ¬2048 + j.val < 1024), dif_neg (by omega : ¬2048 + j.val - 1024 < 1024)]
    exact congrArg₂ (fun (l : Fin 1024) i => (x0 (ix3 2 t l) * x1 i : EReal)) (Fin.ext (by show 2048 + j.val - 1024 - 1024 = 0 + j.val; omega))
      (column (2048 + j.val) 2 ⟨512 + j.val, by omega⟩ (by show 2048 + j.val = 2 * 768 + (512 + j.val); omega) e _ _)
  · refine Finset.sum_congr (M := EReal) rfl fun j _ => ?_
    dsimp only
    rw [dif_neg (by omega : ¬2304 + j.val < 1024), dif_neg (by omega : ¬2304 + j.val - 1024 < 1024)]
    exact congrArg₂ (fun (l : Fin 1024) i => (x0 (ix3 2 t l) * x1 i : EReal)) (Fin.ext (by show 2304 + j.val - 1024 - 1024 = 256 + j.val; omega))
      (column (2304 + j.val) 3 ⟨0 + j.val, by omega⟩ (by show 2304 + j.val = 3 * 768 + (0 + j.val); omega) e _ _)
  · refine Finset.sum_congr (M := EReal) rfl fun j _ => ?_
    dsimp only
    rw [dif_neg (by omega : ¬2560 + j.val < 1024), dif_neg (by omega : ¬2560 + j.val - 1024 < 1024)]
    exact congrArg₂ (fun (l : Fin 1024) i => (x0 (ix3 2 t l) * x1 i : EReal)) (Fin.ext (by show 2560 + j.val - 1024 - 1024 = 512 + j.val; omega))
      (column (2560 + j.val) 3 ⟨256 + j.val, by omega⟩ (by show 2560 + j.val = 3 * 768 + (256 + j.val); omega) e _ _)
  · refine Finset.sum_congr (M := EReal) rfl fun j _ => ?_
    dsimp only
    rw [dif_neg (by omega : ¬2816 + j.val < 1024), dif_neg (by omega : ¬2816 + j.val - 1024 < 1024)]
    exact congrArg₂ (fun (l : Fin 1024) i => (x0 (ix3 2 t l) * x1 i : EReal)) (Fin.ext (by show 2816 + j.val - 1024 - 1024 = 768 + j.val; omega))
      (column (2816 + j.val) 3 ⟨512 + j.val, by omega⟩ (by show 2816 + j.val = 3 * 768 + (512 + j.val); omega) e _ _)

theorem mean_at (z : Fin 1) : @Eq EReal (val_main_v18 (F := Ideal) x2 (ix2 t z)) (mean (row x2 t)) := by
  unfold mean row
  pointwise [val_main_v18, val_main_v17, val_main_cst_1, val_main_v16, val_main_v15, val_main_cst_0, val_main_v14, val_main_v13, val_main_cst, val_main_v12]

theorem scale_at (z : Fin 1) : @Eq EReal (val_main_v19 (F := Ideal) x2 (ix2 t z)) (scale (row x2 t)) := by
  unfold scale
  rw [← mean_at x2 t z]
  rfl

theorem unit_at : @Eq EReal (val_main_v24 (F := Ideal) x2 (ix2 t e)) (unit (row x2 t) e) := by
  unfold unit
  rw [← scale_at x2 t 0]
  pointwise [val_main_v24, val_main_v23, row]

theorem in_at : @Eq EReal (val_main_v40 (F := Ideal) x0 x1 x3 (ix2 t e)) (dh x0 x1 t e * x3 (ix2 0 e)) := by
  rw [← dh_at]
  generalize hv : val_main_v32 (F := Ideal) x0 x1 = v
  pointwise [val_main_v40, val_main_v38, val_main_v37, val_main_v33, val_main_v26, val_main_v11, hv]

theorem gain_at (i : Fin 8) : @Eq EReal (val_main_v39 (F := Ideal) x0 x1 x2 (ix2 i e))
    (∑ s : Fin 1024, unit (row x2 ⟨s.val * 8 + i.val, by omega⟩) e * dh x0 x1 ⟨s.val * 8 + i.val, by omega⟩ e) := by
  simp only [← dh_at, ← unit_at]
  generalize hv : val_main_v32 (F := Ideal) x0 x1 = v
  generalize hw : val_main_v24 (F := Ideal) x2 = w
  pointwise [val_main_v39, val_main_v36, val_main_v35, val_main_v34, val_main_v33, val_main_v25, val_main_cst_3, val_main_cst_4, hv, hw]
  exact Fin.sum_univ_one (M := EReal) _

theorem dx_at : @Eq EReal (val_main_v55 (F := Ideal) x0 x1 x2 x3 x4 (ix2 t e))
    (x4 (ix2 t e) + dh x0 x1 t e * x3 (ix2 0 e) * scale (row x2 t)
        + row x2 t e * (∑ z : Fin 1, through (row x2 t) fun j => dh x0 x1 t j * x3 (ix2 0 j))
      + (∑ z : Fin 1, through (row x2 t) fun j => dh x0 x1 t j * x3 (ix2 0 j)) * row x2 t e) := by
  have hy := fun e => in_at x0 x1 x3 t e
  have hr := fun z => scale_at x2 t z
  have hm := fun z => mean_at x2 t z
  generalize hv : val_main_v40 (F := Ideal) x0 x1 x3 = v at hy
  generalize hw : val_main_v18 (F := Ideal) x2 = w at hm
  generalize hu : val_main_v19 (F := Ideal) x2 = u at hr
  pointwise [val_main_v55, val_main_v54, val_main_v53, val_main_v52, val_main_v51, val_main_v50, val_main_cst_7, val_main_v49, val_main_v48, val_main_cst_6, val_main_v47, val_main_v46, val_main_v45, val_main_v44, val_main_v43, val_main_v42, val_main_cst_5, val_main_v41, val_main_v22, val_main_v21, val_main_v20, val_main_cst_2, hv, hw, hu]
  simp only [hy, hr, hm]
  rfl

end Reference

theorem ref_dx (x0 : Vec Ideal Cert.ConvInDgradRefIdeal.S3x8192x1024 .bf16) (x1 : Vec Ideal Cert.ConvInDgradRefIdeal.S1x4x1024x768 .bf16)
    (x2 : Vec Ideal Cert.ConvInDgradRefIdeal.S8192x1024 .f32) (x3 : Vec Ideal Cert.ConvInDgradRefIdeal.S1x1024 .f32) (x4 : Vec Ideal Cert.ConvInDgradRefIdeal.S8192x1024 .f32)
    (h : (∀ i, IsReal (x0 i)) ∧ (∀ i, IsReal (x1 i)) ∧ (∀ i, IsReal (x2 i)) ∧ (∀ i, IsReal (x3 i))) :
    val_main_v55 (F := Ideal) x0 x1 x2 x3 x4 = dx x0 x1 x2 x3 x4 := by
  funext i
  obtain ⟨t, e, rfl⟩ : ∃ (t : Fin 8192) (e : Fin 1024), i = ix2 t e := ⟨_, _, eq_ix2 (n0 := 8192) (n1 := 1024) i⟩
  have hd : ∀ j, IsReal (dh x0 x1 t j) := fun j =>
    ((((((((((((IsReal.sum _ fun k => (h.1 _).mul (h.2.1 _)).add (IsReal.sum _ fun k => (h.1 _).mul (h.2.1 _))).add (IsReal.sum _ fun k => (h.1 _).mul (h.2.1 _))).add (IsReal.sum _ fun k => (h.1 _).mul (h.2.1 _))).add (IsReal.sum _ fun k => (h.1 _).mul (h.2.1 _))).add (IsReal.sum _ fun k => (h.1 _).mul (h.2.1 _))).add (IsReal.sum _ fun k => (h.1 _).mul (h.2.1 _))).add (IsReal.sum _ fun k => (h.1 _).mul (h.2.1 _))).add (IsReal.sum _ fun k => (h.1 _).mul (h.2.1 _))).add (IsReal.sum _ fun k => (h.1 _).mul (h.2.1 _))).add (IsReal.sum _ fun k => (h.1 _).mul (h.2.1 _))).add (IsReal.sum _ fun k => (h.1 _).mul (h.2.1 _)))
  refine (dx_at x0 x1 x2 x3 x4 t e).trans ?_
  rw [Fin.sum_univ_one (M := EReal), add_assoc (G := EReal), add_assoc (G := EReal)]
  refine (congrArg (fun a : EReal => x4 (ix2 t e) + a) ?_)
  rw [← add_assoc (G := EReal)]
  exact (pull_eq (x := row x2 t) (y := fun j => dh x0 x1 t j * x3 (ix2 0 j)) (fun j => h.2.2.1 _) (fun j => (hd j).mul (h.2.2.2 _)) e).symm

theorem ref_gain (x0 : Vec Ideal Cert.ConvInDgradRefIdeal.S3x8192x1024 .bf16) (x1 : Vec Ideal Cert.ConvInDgradRefIdeal.S1x4x1024x768 .bf16) (x2 : Vec Ideal Cert.ConvInDgradRefIdeal.S8192x1024 .f32) :
    val_main_v39 (F := Ideal) x0 x1 x2 = dgain x0 x1 x2 := by
  funext i
  obtain ⟨p, e, rfl⟩ : ∃ (p : Fin 8) (e : Fin 1024), i = ix2 p e := ⟨_, _, eq_ix2 (n0 := 8) (n1 := 1024) i⟩
  refine (gain_at x0 x1 x2 e p).trans ?_
  unfold dgain
  exact Finset.sum_congr (M := EReal) rfl fun s _ => mul_comm (G := EReal) _ _

theorem frame : Cert.quiescent_ConvInDgrad := fun m ρ _ => Cert.ConvInDgrad.Gen.frame m ρ

theorem frame_ideal : Cert.quiescent_ConvInDgradIdeal := fun m ρ _ => Cert.ConvInDgradIdeal.Gen.frame m ρ

theorem frame_ideal_finite : Cert.quiescent_ConvInDgradIdeal_pre_conv_in_dgrad_finite := fun m ρ _ => Cert.ConvInDgradIdeal.Gen.frame m ρ

theorem frame_ref : Cert.quiescent_ConvInDgradRefIdeal := fun m ρ _ =>
  (θ_run Cert.ConvInDgradRefIdeal.defs _ _).mono (fun r h => ⟨fun c => (h c).2.2, Idealize.ShloMosaic.sem_eq_zero_of_no_sems (by decide) r.2⟩)
    (Cert.ConvInDgradRefIdeal.Value.run (F := Ideal) m ρ)

theorem frame_ref_finite : Cert.quiescent_ConvInDgradRefIdeal_pre_conv_in_dgrad_finite := fun m ρ _ => frame_ref m ρ trivial

theorem preserves : Cert.preserves_ConvInDgrad_ConvInDgradIdeal := trivial

/-- Both programs end with the two arrays of ConvInDgradArray.lean, computed from arguments that agree. -/
theorem algebraic : Cert.algebraic_ConvInDgradIdeal_ConvInDgradRefIdeal_pre_conv_in_dgrad_finite := by
  intro m ρ m' ρ' hpre hagree
  refine ⟨fun c => dx (dArg m c) (wArg m c) (xArg m c) (gainArg m c) (dresArg m c),
    fun c => dgain (dArg m c) (wArg m c) (xArg m c), ?_, ?_⟩
  · exact (θ_run Cert.ConvInDgradIdeal.defs _ _).mono
      (fun _ h c => ⟨(h c).1.trans (final5 m c), (h c).2.1.trans (final6 m c), (h c).2.2⟩)
      (Cert.ConvInDgradIdeal.Value.run_blocks m ρ)
  · refine (θ_run Cert.ConvInDgradRefIdeal.defs _ _).mono
      (fun _ h c => ⟨(h c).1.trans ?_, (h c).2.1.trans ?_, (h c).2.2⟩)
      (Cert.ConvInDgradRefIdeal.Value.run (F := Ideal) m' ρ')
    · rw [val_main_v55_eq, (hagree c).1, (hagree c).2.1, (hagree c).2.2.1, (hagree c).2.2.2.1, (hagree c).2.2.2.2]
      exact ref_dx _ _ _ _ _ (finite _ _ _ _ _ (hpre c))
    · rw [val_main_v39_eq, (hagree c).1, (hagree c).2.1, (hagree c).2.2.1]
      exact ref_gain _ _ _

end Cert.Proof.ConvInDgrad

end
-- ==== Proof.Pieces.lean ====
/-
  Pieces stored side by side over an earlier fill of the whole.
-/
module

public import Idealize.ShloMosaic.Lib.Pipeline.ValueKit.Tiles
public import Idealize.ShloMosaic.Lib.Pipeline.ReadBack

@[expose] public section

noncomputable section

namespace Cert.Proof.Pieces

open Idealize.ShloMosaic

variable {Val : EltTy → Type} {S : Shape} {e : EltTy}

/-- Where one of the later stores holds `y`, and all of them that do have the value `v` there, the contents at `y` are `v`,
    whatever the first store was. -/
theorem canon_over [∀ e, Nonempty (Val e)] (y : S.Idx) (v : Val e) : ∀ L : List (View.Piece Val S e),
    (∃ p ∈ L.dropLast, y ∈ p.1.set) → View.AllAt L.dropLast y v → View.canon L y = v
  | [], hc, _ => by
    obtain ⟨p, hp, _⟩ := hc
    exact absurd hp (by simp)
  | [p], hc, _ => by
    obtain ⟨p, hp, _⟩ := hc
    exact absurd hp (by simp)
  | p :: q :: L, hc, h => by
    rw [List.dropLast_cons₂] at hc h
    by_cases hm : y ∈ p.1.set
    · obtain ⟨x, rfl⟩ := p.1.exists_idx_of_mem hm
      rw [show p.1.idx x = p.1.emb x from rfl, View.canon_cons_emb]
      exact h p List.mem_cons_self x rfl
    · rw [View.canon_cons_of_not_mem _ _ hm]
      refine canon_over y v (q :: L) ?_ fun r hr => h r (List.mem_cons_of_mem _ hr)
      obtain ⟨r, hr, hy⟩ := hc
      rcases List.mem_cons.mp hr with rfl | hr'
      · exact absurd hy hm
      · exact ⟨r, hr', hy⟩

end Cert.Proof.Pieces

end
-- ==== Proof.ConvInWgradArray.lean ====
/-
  The gradient of the convolution mixer's joined input weights: the call's result array as a function of its arguments over
  the extended reals.
-/
module

public import proofs.«01_k».proof.Proof.Gen.ConvInWgradIdeal.Value
public import proofs.«01_k».proof.Proof.FfnReal
public import proofs.«01_k».proof.Proof.Pieces
public import Idealize.ShloMosaic.Lib.Pointwise
public import Idealize.ShloMosaic.Lib.Pipeline.ValueKit.Point
public import Idealize.ShloMosaic.Lib.Pipeline.ValueKit.Acc
public import Idealize.ShloMosaic.Lib.StableHlo.ReadAt

@[expose] public section

set_option maxRecDepth 16384

noncomputable section

namespace Cert.ConvInWgradIdeal.Array

open Cert.ConvInWgradIdeal Cert.ConvInWgradIdeal.Gen Cert.ConvInWgradIdeal.Value Idealize.ShloMosaic Idealize.ShloMosaic.TcCoe Idealize.SL.Sem Cert.Proof Cert.Proof.Reals
open Idealize.ShloMosaic.Pipeline (Dat)

variable (m : (ℓ : Loc nD τ sig) → Buf (Elt Ideal) ℓ) (ρ : Dev nD → PrngReg)

theorem index0 : ∀ t : Fin cfg0.N, win0_0.index t = ![t.val, 0] := (by decide +kernel : ∀ t : Fin grid0.N, _)
theorem index1 : ∀ t : Fin cfg0.N, win0_1.index t = ![0, t.val, 0] := (by decide +kernel : ∀ t : Fin grid0.N, _)
theorem index2 : ∀ t : Fin cfg0.N, win0_2.index t = ![0, 0, 0] := (by decide +kernel : ∀ t : Fin grid0.N, _)

abbrev hArg (c : Dev nD) : Vec Ideal S8192x1024 .bf16 := m ((c.tc : Thread nD τ).loc main_arg0)
abbrev dArg (c : Dev nD) : Vec Ideal S3x8192x1024 .bf16 := m ((c.tc : Thread nD τ).loc main_arg1)

/-- Of the three gradients side by side: which one holds column `l` of part `q` of the weights, -/
def which (q : Fin 4) (l : Fin 768) : Fin 3 := ⟨(q.val * 768 + l.val) / 1024, by omega⟩

/-- and at which of its columns. -/
def col (q : Fin 4) (l : Fin 768) : Fin 1024 := ⟨(q.val * 768 + l.val) % 1024, by omega⟩

theorem which_eq (q : Fin 4) (l : Fin 768) (g : Fin 3) (j : Fin 1024) (h : q.val * 768 + l.val = 1024 * g.val + j.val) : which q l = g :=
  Fin.ext (by unfold which; dsimp only; omega)

theorem col_eq (q : Fin 4) (l : Fin 768) (g : Fin 3) (j : Fin 1024) (h : q.val * 768 + l.val = 1024 * g.val + j.val) : col q l = j :=
  Fin.ext (by unfold col; dsimp only; omega)

/-- The gradient of the weights of a product, in four parts side by side. -/
def grad (a : Vec Ideal S8192x1024 .bf16) (d : Vec Ideal S3x8192x1024 .bf16) : Vec Ideal S4x1024x768 .f32 :=
  fun i => (∑ t : Fin 8192, a (ix2 t (i 1)) * d (ix3 (which (i 0) (i 2)) t (col (i 0) (i 2))) : EReal)

/-- One tile's contribution. -/
def term (x0 : Vec Ideal S512x1024 .bf16) (x1 : Vec Ideal S3x512x1024 .bf16) : Vec Ideal S4x1024x768 .f32 :=
  fun i => (∑ k : Fin 512, x0 (ix2 k (i 1)) * x1 (ix3 (which (i 0) (i 2)) k (col (i 0) (i 2))) : EReal)

/-- What a piece of 256 columns adds: the tile's product at column `j` of one of the three gradients. -/
def prod (x0 : Vec Ideal S512x1024 .bf16) (x : Vec Ideal S1x512x1024 .bf16) (p j : Fin 1024) : EReal :=
  ∑ k : Fin 512, x0 (ix2 k p) * x (ix3 0 k j)

theorem pay4_at (x0 : Vec Ideal S512x1024 .bf16) (x : Vec Ideal S1x512x1024 .bf16) (p j : Fin 1024) :
    @Eq EReal (k0_pay4 x0 x (ix2 p j)) (prod x0 x p j) := by
  unfold k0_pay4 prod
  pointwise

theorem pay9_at (x0 : Vec Ideal S512x1024 .bf16) (x : Vec Ideal S1x512x1024 .bf16) (p j : Fin 1024) :
    @Eq EReal (k0_pay9 x0 x (ix2 p j)) (prod x0 x p j) := by
  unfold k0_pay9 prod
  pointwise

theorem pay15_at (x0 : Vec Ideal S512x1024 .bf16) (x : Vec Ideal S1x512x1024 .bf16) (p j : Fin 1024) :
    @Eq EReal (k0_pay15 x0 x (ix2 p j)) (prod x0 x p j) := by
  unfold k0_pay15 prod
  pointwise

theorem piece0_at (x0 : Vec Ideal S512x1024 .bf16) (x : Vec Ideal S1x512x1024 .bf16) (w : Vec Ideal S1x1024x256 .f32) (p : Fin 1024) (l : Fin 256) :
    @Eq EReal (k0_pay5 x0 x w (ix3 0 p l)) (w (ix3 0 p l) + prod x0 x p ⟨0 + l.val, by omega⟩) := by
  rw [← pay4_at]
  unfold k0_pay5
  generalize k0_pay4 (F := Ideal) x0 x = z
  pointwise

theorem piece1_at (x0 : Vec Ideal S512x1024 .bf16) (x : Vec Ideal S1x512x1024 .bf16) (w : Vec Ideal S1x1024x256 .f32) (p : Fin 1024) (l : Fin 256) :
    @Eq EReal (k0_pay6 x0 x w (ix3 0 p l)) (w (ix3 0 p l) + prod x0 x p ⟨256 + l.val, by omega⟩) := by
  rw [← pay4_at]
  unfold k0_pay6
  generalize k0_pay4 (F := Ideal) x0 x = z
  pointwise

theorem piece2_at (x0 : Vec Ideal S512x1024 .bf16) (x : Vec Ideal S1x512x1024 .bf16) (w : Vec Ideal S1x1024x256 .f32) (p : Fin 1024) (l : Fin 256) :
    @Eq EReal (k0_pay7 x0 x w (ix3 0 p l)) (w (ix3 0 p l) + prod x0 x p ⟨512 + l.val, by omega⟩) := by
  rw [← pay4_at]
  unfold k0_pay7
  generalize k0_pay4 (F := Ideal) x0 x = z
  pointwise

theorem piece3_at (x0 : Vec Ideal S512x1024 .bf16) (x : Vec Ideal S1x512x1024 .bf16) (w : Vec Ideal S1x1024x256 .f32) (p : Fin 1024) (l : Fin 256) :
    @Eq EReal (k0_pay8 (k0_pay4 x0 x) w (ix3 0 p l)) (w (ix3 0 p l) + prod x0 x p ⟨768 + l.val, by omega⟩) := by
  rw [← pay4_at]
  unfold k0_pay8
  generalize k0_pay4 (F := Ideal) x0 x = z
  pointwise

theorem piece4_at (x0 : Vec Ideal S512x1024 .bf16) (x : Vec Ideal S1x512x1024 .bf16) (w : Vec Ideal S1x1024x256 .f32) (p : Fin 1024) (l : Fin 256) :
    @Eq EReal (k0_pay10 x0 x w (ix3 0 p l)) (w (ix3 0 p l) + prod x0 x p ⟨0 + l.val, by omega⟩) := by
  rw [← pay9_at]
  unfold k0_pay10
  generalize k0_pay9 (F := Ideal) x0 x = z
  pointwise

theorem piece5_at (x0 : Vec Ideal S512x1024 .bf16) (x : Vec Ideal S1x512x1024 .bf16) (w : Vec Ideal S1x1024x256 .f32) (p : Fin 1024) (l : Fin 256) :
    @Eq EReal (k0_pay11 x0 x w (ix3 0 p l)) (w (ix3 0 p l) + prod x0 x p ⟨256 + l.val, by omega⟩) := by
  rw [← pay9_at]
  unfold k0_pay11
  generalize k0_pay9 (F := Ideal) x0 x = z
  pointwise

theorem piece6_at (x0 : Vec Ideal S512x1024 .bf16) (x : Vec Ideal S1x512x1024 .bf16) (w : Vec Ideal S1x1024x256 .f32) (p : Fin 1024) (l : Fin 256) :
    @Eq EReal (k0_pay13 (k0_pay12 x0 x w) (ix3 0 p l)) (w (ix3 0 p l) + prod x0 x p ⟨512 + l.val, by omega⟩) := by
  rw [← pay9_at]
  unfold k0_pay13 k0_pay12
  generalize k0_pay9 (F := Ideal) x0 x = z
  pointwise

theorem piece7_at (x0 : Vec Ideal S512x1024 .bf16) (x : Vec Ideal S1x512x1024 .bf16) (w : Vec Ideal S1x1024x256 .f32) (p : Fin 1024) (l : Fin 256) :
    @Eq EReal (k0_pay14 (k0_pay9 x0 x) w (ix3 0 p l)) (w (ix3 0 p l) + prod x0 x p ⟨768 + l.val, by omega⟩) := by
  rw [← pay9_at]
  unfold k0_pay14
  generalize k0_pay9 (F := Ideal) x0 x = z
  pointwise

theorem piece8_at (x0 : Vec Ideal S512x1024 .bf16) (x : Vec Ideal S1x512x1024 .bf16) (w : Vec Ideal S1x1024x256 .f32) (p : Fin 1024) (l : Fin 256) :
    @Eq EReal (k0_pay16 x0 x w (ix3 0 p l)) (w (ix3 0 p l) + prod x0 x p ⟨0 + l.val, by omega⟩) := by
  rw [← pay15_at]
  unfold k0_pay16
  generalize k0_pay15 (F := Ideal) x0 x = z
  pointwise

theorem piece9_at (x0 : Vec Ideal S512x1024 .bf16) (x : Vec Ideal S1x512x1024 .bf16) (w : Vec Ideal S1x1024x256 .f32) (p : Fin 1024) (l : Fin 256) :
    @Eq EReal (k0_pay17 x0 x w (ix3 0 p l)) (w (ix3 0 p l) + prod x0 x p ⟨256 + l.val, by omega⟩) := by
  rw [← pay15_at]
  unfold k0_pay17
  generalize k0_pay15 (F := Ideal) x0 x = z
  pointwise

theorem piece10_at (x0 : Vec Ideal S512x1024 .bf16) (x : Vec Ideal S1x512x1024 .bf16) (w : Vec Ideal S1x1024x256 .f32) (p : Fin 1024) (l : Fin 256) :
    @Eq EReal (k0_pay1 (k0_pay18 x0 x w) (ix3 0 p l)) (w (ix3 0 p l) + prod x0 x p ⟨512 + l.val, by omega⟩) := by
  rw [← pay15_at]
  unfold k0_pay1 k0_pay18
  generalize k0_pay15 (F := Ideal) x0 x = z
  pointwise

theorem piece11_at (x0 : Vec Ideal S512x1024 .bf16) (x : Vec Ideal S1x512x1024 .bf16) (w : Vec Ideal S1x1024x256 .f32) (p : Fin 1024) (l : Fin 256) :
    @Eq EReal (k0_pay2 (k0_pay15 x0 x) w (ix3 0 p l)) (w (ix3 0 p l) + prod x0 x p ⟨768 + l.val, by omega⟩) := by
  rw [← pay15_at]
  unfold k0_pay2
  generalize k0_pay15 (F := Ideal) x0 x = z
  pointwise

theorem zero_at (y : S4x1024x768.Idx) : @Eq EReal (k0_pay3 (F := Ideal) y) 0 := by
  unfold k0_pay3
  pointwise

theorem hz2 : (![0, 0] : Fin 2 → Nat) = 0 := by decide
theorem hz3 : (![0, 0, 0] : Fin 3 → Nat) = 0 := by decide

/-- A piece of the result: what was there with the tile's contribution. -/
theorem piece (x0 : Vec Ideal S512x1024 .bf16) (x1 : Vec Ideal S3x512x1024 .bf16) (b : Vec Ideal S4x1024x768 .f32) (q : Fin 4) (g : Fin 3) (r z n o : ℕ)
    (hr : r = q.val) (hn : n = g.val) (ho : o + 256 ≤ 1024) (hc : q.val * 768 + z = 1024 * g.val + o)
    (inb : ∀ a, (![r, 0, z] : Fin 3 → ℕ) a + S1x1024x256.size a ≤ S4x1024x768.size a)
    (inb' : ∀ a, (![n, 0, 0] : Fin 3 → ℕ) a + S1x512x1024.size a ≤ S3x512x1024.size a)
    (pay : Vec Ideal S1x512x1024 .bf16 → Vec Ideal S1x1024x256 .f32 → FVec Ideal S1x1024x256 .f32)
    (hp : ∀ x w p (l : Fin 256), @Eq EReal (pay x w (ix3 0 p l)) (w (ix3 0 p l) + prod x0 x p ⟨o + l.val, by omega⟩)) (y : S4x1024x768.Idx) :
    View.TileAt y ![r, 0, z] S1x1024x256.size
      (pay (View.ld x1 (Rect.unit ![n, 0, 0] S1x512x1024.size inb')) (View.ld b (Rect.unit ![r, 0, z] S1x1024x256.size inb))) (b y + term x0 x1 y : EReal) := by
  intro x hx
  obtain ⟨u, p, l, rfl⟩ : ∃ (u : Fin 1) (p : Fin 1024) (l : Fin 256), x = ix3 u p l := ⟨_, _, _, eq_ix3 (n0 := 1) (n1 := 1024) (n2 := 256) x⟩
  obtain ⟨q', p', l', rfl⟩ : ∃ (q' : Fin 4) (p' : Fin 1024) (l' : Fin 768), y = ix3 q' p' l' := ⟨_, _, _, eq_ix3 (n0 := 4) (n1 := 1024) (n2 := 768) y⟩
  obtain rfl : u = 0 := Subsingleton.elim _ _
  have e0 : q'.val = r + 0 := hx 0
  have e1 : p'.val = 0 + p.val := hx 1
  have e2 : l'.val = z + l.val := hx 2
  obtain rfl : q' = q := Fin.ext (by omega)
  obtain rfl : p' = p := Fin.ext (by omega)
  refine (hp _ _ p' l).trans (congrArg₂ (fun a b : EReal => a + b) ?_ ?_)
  · exact View.ld_unit_apply_of _ _ _ _ _ (ix3 q' p' l') fun a => match a with
      | 0 => e0
      | 1 => e1
      | 2 => e2
  · unfold prod term
    simp only [ix3_0, ix3_1, ix3_2]
    have ej : q'.val * 768 + l'.val = 1024 * g.val + (⟨o + l.val, by omega⟩ : Fin 1024).val := by dsimp only; omega
    rw [which_eq q' l' g _ ej, col_eq q' l' g _ ej]
    refine Finset.sum_congr (M := EReal) rfl fun k _ => congrArg (fun a : EReal => (x0 (ix2 k p') : EReal) * a) ?_
    exact View.ld_unit_apply_of _ _ _ _ _ (ix3 g k ⟨o + l.val, by omega⟩) fun a => match a with
      | 0 => hn.symm
      | 1 => (Nat.zero_add _).symm
      | 2 => (Nat.zero_add _).symm

section Cases
variable (d : Dev nD) (i : grid0.Coords) (a0 : Memref sig .tc .vmem S512x1024 .bf16) (h0 : a0.IsWhole) (a1 : Memref sig .tc .vmem S3x512x1024 .bf16) (h1 : a1.IsWhole)
  (a2 : Memref sig .tc .vmem S4x1024x768 .f32) (h2 : a2.IsWhole)
  (x0 : Vec Ideal S512x1024 .bf16) (x1 : Vec Ideal S3x512x1024 .bf16) (acc : Vec Ideal S4x1024x768 .f32)

theorem out_A (c : cond0_0 i) (y : S4x1024x768.Idx) :
    @Eq EReal (out0_A_2 (F := Ideal) d i a0 h0 a1 h1 a2 h2 c x0 x1 y) (k0_pay3 (F := Ideal) y + term x0 x1 y) := by
  unfold out0_A_2
  rw [View.read_writes_eq_canon _ _ _ (cover0_A_2 (F := Ideal) d i a0 h0 a1 h1 a2 h2 c x0 x1)]
  unfold kernelRun0_A
  dsimp only
  try sl_unfold_words
  simp (disch := decide) only [↓View.readCov_skip, View.readCov_fill]
  simp only [View.readAt_eq_ld, h0.read_unread, h1.read_unread, View.ld_unit_zero (S := S512x1024) hz2]
  refine Pieces.canon_over y _ _ ?_ ?_
  · exact View.cover_of_tiled (s := S4x1024x768) _ ![1, 1024, 256] (by rfl) y
  simp only [List.dropLast_cons₂, List.dropLast_singleton]
  exact View.allAt_cons_unit _ _ _ _ _ (piece x0 x1 _ 3 2 3 512 2 768 rfl rfl (by decide) rfl _ _ (fun x w => k0_pay2 (k0_pay15 x0 x) w) (piece11_at x0) y) <|
    View.allAt_cons_unit _ _ _ _ _ (piece x0 x1 _ 3 2 3 256 2 512 rfl rfl (by decide) rfl _ _ (fun x w => k0_pay1 (k0_pay18 x0 x w)) (piece10_at x0) y) <|
    View.allAt_cons_unit _ _ _ _ _ (piece x0 x1 _ 3 2 3 0 2 256 rfl rfl (by decide) rfl _ _ (fun x w => k0_pay17 x0 x w) (piece9_at x0) y) <|
    View.allAt_cons_unit _ _ _ _ _ (piece x0 x1 _ 2 2 2 512 2 0 rfl rfl (by decide) rfl _ _ (fun x w => k0_pay16 x0 x w) (piece8_at x0) y) <|
    View.allAt_cons_unit _ _ _ _ _ (piece x0 x1 _ 2 1 2 256 1 768 rfl rfl (by decide) rfl _ _ (fun x w => k0_pay14 (k0_pay9 x0 x) w) (piece7_at x0) y) <|
    View.allAt_cons_unit _ _ _ _ _ (piece x0 x1 _ 2 1 2 0 1 512 rfl rfl (by decide) rfl _ _ (fun x w => k0_pay13 (k0_pay12 x0 x w)) (piece6_at x0) y) <|
    View.allAt_cons_unit _ _ _ _ _ (piece x0 x1 _ 1 1 1 512 1 256 rfl rfl (by decide) rfl _ _ (fun x w => k0_pay11 x0 x w) (piece5_at x0) y) <|
    View.allAt_cons_unit _ _ _ _ _ (piece x0 x1 _ 1 1 1 256 1 0 rfl rfl (by decide) rfl _ _ (fun x w => k0_pay10 x0 x w) (piece4_at x0) y) <|
    View.allAt_cons_unit _ _ _ _ _ (piece x0 x1 _ 1 0 1 0 0 768 rfl rfl (by decide) rfl _ _ (fun x w => k0_pay8 (k0_pay4 x0 x) w) (piece3_at x0) y) <|
    View.allAt_cons_unit _ _ _ _ _ (piece x0 x1 _ 0 0 0 512 0 512 rfl rfl (by decide) rfl _ _ (fun x w => k0_pay7 x0 x w) (piece2_at x0) y) <|
    View.allAt_cons_unit _ _ _ _ _ (piece x0 x1 _ 0 0 0 256 0 256 rfl rfl (by decide) rfl _ _ (fun x w => k0_pay6 x0 x w) (piece1_at x0) y) <|
    View.allAt_cons_unit _ _ _ _ _ (piece x0 x1 _ 0 0 0 0 0 0 rfl rfl (by decide) rfl _ _ (fun x w => k0_pay5 x0 x w) (piece0_at x0) y) <|
    View.allAt_nil _ _

theorem out_B (c : ¬cond0_0 i) (y : S4x1024x768.Idx) :
    @Eq EReal (out0_B_2 (F := Ideal) d i a0 h0 a1 h1 a2 h2 c x0 x1 acc y) (acc y + term x0 x1 y) := by
  unfold out0_B_2
  have hc := cover0_B_2 (F := Ideal) d i a0 h0 a1 h1 a2 h2 c x0 x1 acc
  rw [View.read_writes_eq_canon _ _ _ hc]
  refine View.canon_eq_of_allAt _ y _ (hc y) ?_
  unfold kernelRun0_B
  dsimp only
  try sl_unfold_words
  simp only [View.readAt_eq_ld, h0.read_unread, h1.read_unread, h2.read_unread, View.ld_unit_zero (S := S512x1024) hz2]
  exact View.allAt_cons_unit _ _ _ _ _ (piece x0 x1 acc 3 2 3 512 2 768 rfl rfl (by decide) rfl _ _ (fun x w => k0_pay2 (k0_pay15 x0 x) w) (piece11_at x0) y) <|
    View.allAt_cons_unit _ _ _ _ _ (piece x0 x1 acc 3 2 3 256 2 512 rfl rfl (by decide) rfl _ _ (fun x w => k0_pay1 (k0_pay18 x0 x w)) (piece10_at x0) y) <|
    View.allAt_cons_unit _ _ _ _ _ (piece x0 x1 acc 3 2 3 0 2 256 rfl rfl (by decide) rfl _ _ (fun x w => k0_pay17 x0 x w) (piece9_at x0) y) <|
    View.allAt_cons_unit _ _ _ _ _ (piece x0 x1 acc 2 2 2 512 2 0 rfl rfl (by decide) rfl _ _ (fun x w => k0_pay16 x0 x w) (piece8_at x0) y) <|
    View.allAt_cons_unit _ _ _ _ _ (piece x0 x1 acc 2 1 2 256 1 768 rfl rfl (by decide) rfl _ _ (fun x w => k0_pay14 (k0_pay9 x0 x) w) (piece7_at x0) y) <|
    View.allAt_cons_unit _ _ _ _ _ (piece x0 x1 acc 2 1 2 0 1 512 rfl rfl (by decide) rfl _ _ (fun x w => k0_pay13 (k0_pay12 x0 x w)) (piece6_at x0) y) <|
    View.allAt_cons_unit _ _ _ _ _ (piece x0 x1 acc 1 1 1 512 1 256 rfl rfl (by decide) rfl _ _ (fun x w => k0_pay11 x0 x w) (piece5_at x0) y) <|
    View.allAt_cons_unit _ _ _ _ _ (piece x0 x1 acc 1 1 1 256 1 0 rfl rfl (by decide) rfl _ _ (fun x w => k0_pay10 x0 x w) (piece4_at x0) y) <|
    View.allAt_cons_unit _ _ _ _ _ (piece x0 x1 acc 1 0 1 0 0 768 rfl rfl (by decide) rfl _ _ (fun x w => k0_pay8 (k0_pay4 x0 x) w) (piece3_at x0) y) <|
    View.allAt_cons_unit _ _ _ _ _ (piece x0 x1 acc 0 0 0 512 0 512 rfl rfl (by decide) rfl _ _ (fun x w => k0_pay7 x0 x w) (piece2_at x0) y) <|
    View.allAt_cons_unit _ _ _ _ _ (piece x0 x1 acc 0 0 0 256 0 256 rfl rfl (by decide) rfl _ _ (fun x w => k0_pay6 x0 x w) (piece1_at x0) y) <|
    View.allAt_cons_unit _ _ _ _ _ (piece x0 x1 acc 0 0 0 0 0 0 rfl rfl (by decide) rfl _ _ (fun x w => k0_pay5 x0 x w) (piece0_at x0) y) <|
    View.allAt_nil _ _

end Cases

theorem place (t : Fin cfg0.N) (X : Vec Ideal S4x1024x768 .f32) (q : Fin 4) (p : Fin 1024) (l : Fin 768) :
    X ((win0_2.blk t).view.emb (ix3 q p l)) = X (ix3 q p l) := by
  blk_ext [index2 t]

theorem h_blk (c : Dev nD) (t : Fin cfg0.N) (k : Fin 512) (p : Fin 1024) (h : 512 * t.val + k.val < 8192) :
    iblk m c 0 t (ix2 k p) = hArg m c (ix2 ⟨512 * t.val + k.val, h⟩ p) := by
  blk_ext! [iblk, V_main_arg0, index0 t]

theorem d_blk (c : Dev nD) (t : Fin cfg0.N) (g : Fin 3) (k : Fin 512) (l : Fin 1024) (h : 512 * t.val + k.val < 8192) :
    iblk m c 1 t (ix3 g k l) = dArg m c (ix3 g ⟨512 * t.val + k.val, h⟩ l) := by
  blk_ext! [iblk, V_main_arg1, index1 t]

/-- The result array holds the gradient. -/
theorem final (c : Dev nD) : (dats m 0 c).arrAt 2 cfg0.N = grad (hArg m c) (dArg m c) :=
  (dats m 0 c).arrAt_eq_of_covers 2 _ (by decide +kernel) fun t hf y => by
    blk_simp
    rw [after0_2]
    rw [Pipeline.eq_sum_fin_of_reset_step_apply_of_flush (fun n h => outsAt0 m c n h) 16 (fun _ => 0)
      (fun t => term (iblk m c 0 t) (iblk m c 1 t)) (fun t h j => by
        rw [outsAt0_A m c t h]
        exact (out_A _ _ _ _ _ _ _ _ _ _ _ j).trans (congrArg (· + _) (zero_at j))) (fun t h j => by
        rw [outsAt0_B m c t h]
        exact out_B _ _ _ _ _ _ _ _ _ _ _ _ j) t ((flush0_2 t).mp hf) y]
    obtain ⟨q, p, l, rfl⟩ : ∃ (q : Fin 4) (p : Fin 1024) (l : Fin 768), y = ix3 q p l := ⟨_, _, _, eq_ix3 (n0 := 4) (n1 := 1024) (n2 := 768) y⟩
    have ht : t.val < 16 := t.isLt.trans_eq N_0
    refine Eq.trans ?_ (place t _ _ _ _).symm
    refine (zero_add (M := EReal) _).trans ?_
    unfold term grad
    simp only [ix3_0, ix3_1, ix3_2]
    refine Fin.sum_mul_add_congr (M := EReal) fun s k hk => ?_
    have hq : 16 * (t.val / 16) + s.val = s.val := by omega
    rw [h_blk m c _ k p (by dsimp only; omega), d_blk m c _ _ k _ (by dsimp only; omega)]
    simp only [hq, Nat.mul_comm 512]

end Cert.ConvInWgradIdeal.Array

end
-- ==== Proof.ConvInWgradClaims.lean ====
/-
  The claims about the gradient of the convolution mixer's joined input weights: the call runs, and over the extended reals
  its result is the reference's.
-/
module

public import proofs.«01_k».proof.Defs
public import proofs.«01_k».proof.Proof.Gen.ConvInWgrad.Frame
public import proofs.«01_k».proof.Proof.Gen.ConvInWgradIdeal.Frame
public import proofs.«01_k».proof.Proof.Gen.ConvInWgradIdeal.Value
public import proofs.«01_k».proof.Proof.Gen.ConvInWgradRefIdeal.Run
public import proofs.«01_k».proof.Proof.Gen.ConvInWgradRefIdeal.Read
public import proofs.«01_k».proof.Proof.FfnReal
public import proofs.«01_k».proof.Proof.ConvInWgradArray
public import Idealize.ShloMosaic.Adequacy

@[expose] public section

set_option maxRecDepth 16384

noncomputable section

namespace Cert.Proof.ConvInWgrad

open Idealize.ShloMosaic Idealize.SL.Sem Cert.ConvInWgradRefIdeal.Read Cert.ConvInWgradIdeal.Array Cert.Proof.Reals

/-- The three gradients side by side, read at a column of the first, the second or the third. -/
theorem joined_at (x1 : Vec Ideal Cert.ConvInWgradRefIdeal.S3x8192x1024 .bf16) (t : Fin 8192) (j : Fin 3072) (g : Fin 3) (b : Fin 1024)
    (h : j.val = 1024 * g.val + b.val) : @Eq EReal (val_main_v6 (F := Ideal) x1 (ix2 t j)) (x1 (ix3 g t b)) := by
  pointwise [val_main_v6, val_main_v5, val_main_v4, val_main_v3, val_main_v2, val_main_v1, val_main_v0]
  have hg := g.isLt
  obtain hg | hg | hg : g.val = 0 ∨ g.val = 1 ∨ g.val = 2 := by omega
  · obtain rfl : g = 0 := Fin.ext hg
    rw [dif_pos (show j.val < 1024 by omega)]
    exact congrArg (fun a => x1 (ix3 0 t a)) (Fin.ext (by dsimp only; omega))
  · obtain rfl : g = 1 := Fin.ext hg
    rw [dif_neg (show ¬j.val < 1024 by omega), dif_pos (show j.val - 1024 < 1024 by omega)]
    exact congrArg (fun a => x1 (ix3 1 t a)) (Fin.ext (by dsimp only; omega))
  · obtain rfl : g = 2 := Fin.ext hg
    rw [dif_neg (show ¬j.val < 1024 by omega), dif_neg (show ¬j.val - 1024 < 1024 by omega)]
    exact congrArg (fun a => x1 (ix3 2 t a)) (Fin.ext (by dsimp only; omega))

theorem ref_grad (x0 : Vec Ideal Cert.ConvInWgradRefIdeal.S8192x1024 .bf16) (x1 : Vec Ideal Cert.ConvInWgradRefIdeal.S3x8192x1024 .bf16) :
    val_main_v14 (F := Ideal) x0 x1 = grad x0 x1 := by
  funext i
  obtain ⟨q, p, l, rfl⟩ : ∃ (q : Fin 4) (p : Fin 1024) (l : Fin 768), i = ix3 q p l := ⟨_, _, _, eq_ix3 (n0 := 4) (n1 := 1024) (n2 := 768) i⟩
  have e : @Eq EReal (val_main_v14 (F := Ideal) x0 x1 (ix3 q p l))
      (∑ t : Fin 8192, (val_main_v6 (F := Ideal) x1 (ix2 t ⟨q.val * 768 + l.val, by omega⟩) : EReal) * x0 (ix2 t p)) := by
    pointwise [val_main_v14, val_main_v13, val_main_v12, val_main_v11, val_main_v10, val_main_v8]
  refine e.trans ?_
  unfold grad
  simp only [ix3_0, ix3_1, ix3_2]
  refine Finset.sum_congr (M := EReal) rfl fun t _ => ?_
  rw [joined_at x1 t _ (which q l) (col q l) (by unfold which col; dsimp only; omega)]
  exact mul_comm (G := EReal) _ _

theorem frame : Cert.quiescent_ConvInWgrad := fun m ρ _ => Cert.ConvInWgrad.Gen.frame m ρ

theorem frame_ideal : Cert.quiescent_ConvInWgradIdeal := fun m ρ _ => Cert.ConvInWgradIdeal.Gen.frame m ρ

theorem frame_ref : Cert.quiescent_ConvInWgradRefIdeal := fun m ρ _ =>
  (θ_run Cert.ConvInWgradRefIdeal.defs _ _).mono (fun r h => ⟨fun c => (h c).2, Idealize.ShloMosaic.sem_eq_zero_of_no_sems (by decide) r.2⟩)
    (Cert.ConvInWgradRefIdeal.Value.run (F := Ideal) m ρ)

theorem preserves : Cert.preserves_ConvInWgrad_ConvInWgradIdeal := trivial

/-- Both programs end with the array of ConvInWgradArray.lean, computed from arguments that agree. -/
theorem algebraic : Cert.algebraic_ConvInWgradIdeal_ConvInWgradRefIdeal := by
  intro m ρ m' ρ' hpre hagree
  refine ⟨fun c => grad (hArg m c) (dArg m c), ?_, ?_⟩
  · exact (θ_run Cert.ConvInWgradIdeal.defs _ _).mono
      (fun _ h c => ⟨(h c).1.trans (final m c), (h c).2⟩)
      (Cert.ConvInWgradIdeal.Value.run_blocks m ρ)
  · refine (θ_run Cert.ConvInWgradRefIdeal.defs _ _).mono
      (fun _ h c => ⟨(h c).1.trans ?_, (h c).2⟩)
      (Cert.ConvInWgradRefIdeal.Value.run (F := Ideal) m' ρ')
    · rw [val_main_v14_eq, (hagree c).1, (hagree c).2]
      exact ref_grad _ _

end Cert.Proof.ConvInWgrad

end
-- ==== Proof.QkvArray.lean ====
/-
  The product of the normed stream with the attention's joined weights: the call's result array as a function of its
  arguments over the extended reals.
-/
module

public import proofs.«01_k».proof.Proof.Gen.QkvIdeal.Value
public import proofs.«01_k».proof.Proof.FfnReal
public import Idealize.ShloMosaic.Lib.Pointwise
public import Idealize.ShloMosaic.Lib.Pipeline.ValueKit.Point
public import Idealize.ShloMosaic.Lib.Pipeline.ValueKit.Acc
public import Idealize.ShloMosaic.Lib.StableHlo.ReadAt

@[expose] public section

set_option maxRecDepth 16384

noncomputable section

namespace Cert.QkvIdeal.Array

open Cert.QkvIdeal Cert.QkvIdeal.Gen Cert.QkvIdeal.Value Idealize.ShloMosaic Idealize.ShloMosaic.TcCoe Idealize.SL.Sem Cert.Proof.Reals
open Idealize.ShloMosaic.Pipeline (Dat)

variable (m : (ℓ : Loc nD τ sig) → Buf (Elt Ideal) ℓ) (ρ : Dev nD → PrngReg)

theorem index0 : ∀ t : Fin cfg0.N, win0_0.index t = ![t.val, 0] := (by decide +kernel : ∀ t : Fin grid0.N, _)
theorem index1 : ∀ t : Fin cfg0.N, win0_1.index t = ![0, 0, 0, 0] := (by decide +kernel : ∀ t : Fin grid0.N, _)
theorem index2 : ∀ t : Fin cfg0.N, win0_2.index t = ![t.val, 0] := (by decide +kernel : ∀ t : Fin grid0.N, _)

abbrev aArg (c : Dev nD) : Vec Ideal S8192x1024 .bf16 := m ((c.tc : Thread nD τ).loc main_arg0)
abbrev wArg (c : Dev nD) : Vec Ideal S1x4x1024x384 .bf16 := m ((c.tc : Thread nD τ).loc main_arg1)

/-- The four parts of the weights side by side. -/
def joined (w : Vec Ideal S1x4x1024x384 .bf16) : Vec Ideal S1024x1536 .bf16 :=
  fun i => w (ix4 0 ⟨(i 1).val / 384, by have := (i 1).isLt; change _ < 1536 at this; omega⟩ (i 0) ⟨(i 1).val % 384, Nat.mod_lt _ (by decide)⟩)

/-- The product with the joined weights. -/
def heads (a : Vec Ideal S8192x1024 .bf16) (w : Vec Ideal S1x4x1024x384 .bf16) : Vec Ideal S8192x1536 .bf16 :=
  fun i => (∑ k : Fin 1024, a (ix2 (i 0) k) * joined w (ix2 k (i 1)) : EReal)

theorem joined_at (w : Vec Ideal S1x4x1024x384 .bf16) (q : Fin 4) (k : Fin 1024) (l : Fin 384) (j : Fin 1536) (h : j.val = 384 * q.val + l.val) :
    joined w (ix2 k j) = w (ix4 0 q k l) := by
  unfold joined
  simp only [ix2_0, ix2_1]
  have e1 : ∀ h, (⟨j.val / 384, h⟩ : Fin 4) = q := fun _ => Fin.ext (by first | omega | (dsimp only; omega))
  have e2 : ∀ h, (⟨j.val % 384, h⟩ : Fin 384) = l := fun _ => Fin.ext (by first | omega | (dsimp only; omega))
  rw [e1, e2]

theorem pay1_at (x : Vec Ideal S1x1x1024x384 .bf16) (k : Fin 1024) (l : Fin 384) : @Eq EReal (k0_pay1 x (ix2 k l)) (x (ix4 0 0 k l)) := by
  unfold k0_pay1
  pointwise

theorem pay2_at (x : Vec Ideal S1x1x1024x384 .bf16) (k : Fin 1024) (l : Fin 384) : @Eq EReal (k0_pay2 x (ix2 k l)) (x (ix4 0 0 k l)) := by
  unfold k0_pay2
  pointwise

theorem pay3_at (x : Vec Ideal S1x1x1024x384 .bf16) (k : Fin 1024) (l : Fin 384) : @Eq EReal (k0_pay3 x (ix2 k l)) (x (ix4 0 0 k l)) := by
  unfold k0_pay3
  pointwise

theorem pay4_at (x : Vec Ideal S1x1x1024x384 .bf16) (k : Fin 1024) (l : Fin 384) : @Eq EReal (k0_pay4 x (ix2 k l)) (x (ix4 0 0 k l)) := by
  unfold k0_pay4
  pointwise

theorem pay5_at (x0 : Vec Ideal S1024x1024 .bf16) (x1 : Vec Ideal S1024x1536 .bf16) (p : Fin 1024) (l : Fin 1536) :
    @Eq EReal (k0_pay5 x0 x1 (ix2 p l)) (∑ k : Fin 1024, x0 (ix2 p k) * x1 (ix2 k l)) := by
  unfold k0_pay5
  pointwise

theorem hz2 : (![0, 0] : Fin 2 → Nat) = 0 := by decide
theorem hz3 : (![0, 0, 0] : Fin 3 → Nat) = 0 := by decide
theorem hz4 : (![0, 0, 0, 0] : Fin 4 → Nat) = 0 := by decide

/-- A part's piece of the carried buffer. -/
theorem piece (w : Vec Ideal S1x4x1024x384 .bf16) (y : S1024x1536.Idx) (q : Fin 4) (o z : ℕ) (ho : o = 384 * q.val) (hz : z = q.val)
    (inb : ∀ a, (![0, z, 0, 0] : Fin 4 → ℕ) a + S1x1x1024x384.size a ≤ S1x4x1024x384.size a)
    (pay : Vec Ideal S1x1x1024x384 .bf16 → FVec Ideal S1024x384 .bf16) (hp : ∀ x k l, @Eq EReal (pay x (ix2 k l)) (x (ix4 0 0 k l))) :
    View.TileAt y ![0, o] S1024x384.size (pay (View.ld w (Rect.unit ![0, z, 0, 0] S1x1x1024x384.size inb))) (joined w y) := by
  intro x hx
  obtain ⟨k, l, rfl⟩ : ∃ (k : Fin 1024) (l : Fin 384), x = ix2 k l := ⟨_, _, eq_ix2 (n0 := 1024) (n1 := 384) x⟩
  obtain ⟨a, j, rfl⟩ : ∃ (a : Fin 1024) (j : Fin 1536), y = ix2 a j := ⟨_, _, eq_ix2 (n0 := 1024) (n1 := 1536) y⟩
  have e0 : a.val = 0 + k.val := hx 0
  have e1 : j.val = o + l.val := hx 1
  obtain rfl : a = k := Fin.ext (by omega)
  rw [joined_at w q a l j (by omega)]
  refine (hp _ a l).trans ?_
  exact View.ld_unit_apply_of _ _ _ _ _ (ix4 0 q a l) fun b => match b with
    | 0 => rfl
    | 1 => hz.symm
    | 2 => (Nat.zero_add _).symm
    | 3 => (Nat.zero_add _).symm

section Cases
variable (d : Dev nD) (i : grid0.Coords) (a0 : Memref sig .tc .vmem S1024x1024 .bf16) (h0 : a0.IsWhole) (a1 : Memref sig .tc .vmem S1x4x1024x384 .bf16) (h1 : a1.IsWhole)
  (a2 : Memref sig .tc .vmem S1024x1536 .bf16) (h2 : a2.IsWhole) (a3 : Memref sig .tc .vmem S1024x1536 .bf16) (h3 : a3.IsWhole)
  (x0 : Vec Ideal S1024x1024 .bf16) (x1 : Vec Ideal S1x4x1024x384 .bf16) (xs : Vec Ideal S1024x1536 .bf16)

/-- The first point fills the carried buffer with the joined weights. -/
theorem scratch_A (c : cond0_0 i) : sout0_A_0 (F := Ideal) d i a0 h0 a1 h1 a2 h2 a3 h3 c x0 x1 = joined x1 := by
  unfold sout0_A_0
  have hc := scover0_A_0 (F := Ideal) d i a0 h0 a1 h1 a2 h2 a3 h3 c x0 x1
  rw [View.read_writes_eq_canon _ _ _ hc]
  funext y
  refine View.canon_eq_of_allAt _ y _ (hc y) ?_
  unfold kernelRun0_A
  dsimp only
  try sl_unfold_words
  simp only [View.readAt_eq_ld, h0.read_unread, h1.read_unread]
  exact View.allAt_cons_unit _ _ _ _ _ (piece x1 y 3 _ _ rfl rfl _ _ pay4_at) <| View.allAt_cons_unit _ _ _ _ _ (piece x1 y 2 _ _ rfl rfl _ _ pay3_at) <|
    View.allAt_cons_unit _ _ _ _ _ (piece x1 y 1 _ _ rfl rfl _ _ pay2_at) <| View.allAt_cons_unit _ _ _ _ _ (piece x1 y 0 _ _ rfl rfl _ _ pay1_at) <|
    View.allAt_nil _ _

theorem out_A (c : cond0_0 i) : out0_A_2 (F := Ideal) d i a0 h0 a1 h1 a2 h2 a3 h3 c x0 x1 = k0_pay5 x0 (joined x1) := by
  rw [← scratch_A d i a0 h0 a1 h1 a2 h2 a3 h3 x0 x1 c]
  unfold out0_A_2 sout0_A_0
  have hc := scover0_A_0 (F := Ideal) d i a0 h0 a1 h1 a2 h2 a3 h3 c x0 x1
  rw [View.read_writes_eq_canon _ _ _ hc, View.read_writes_eq_canon _ _ _ (cover0_A_2 d i a0 h0 a1 h1 a2 h2 a3 h3 c x0 x1)]
  unfold kernelRun0_A
  dsimp only
  try sl_unfold_words
  rw [View.canon_unit_zero (S := S1024x1536) hz2]
  simp only [View.readAt_eq_ld, h0.read_unread, h1.read_unread, View.ld_unit_zero (S := S1024x1024) hz2]
  exact congrArg (k0_pay5 (F := Ideal) x0) ((View.readCov_eq_canon' _ _ _).trans (View.ld_unit_zero (S := S1024x1536) hz2 _ _))

theorem out_B (c : ¬cond0_0 i) : out0_B_2 (F := Ideal) d i a0 h0 a1 h1 a2 h2 a3 h3 c x0 x1 xs = k0_pay5 x0 xs := by
  unfold out0_B_2
  rw [View.read_writes_eq_canon _ _ _ (cover0_B_2 d i a0 h0 a1 h1 a2 h2 a3 h3 c x0 x1 xs)]
  unfold kernelRun0_B
  dsimp only
  try sl_unfold_words
  rw [View.canon_unit_zero (S := S1024x1536) hz2]
  simp only [View.readAt_eq_ld, h0.read_unread, h1.read_unread, h3.read_unread, View.ld_unit_zero (S := S1024x1024) hz2, View.ld_unit_zero (S := S1024x1536) hz2]

end Cases

theorem a_blk (c : Dev nD) (t : Fin cfg0.N) (p k : Fin 1024) (h : 1024 * t.val + p.val < 8192) :
    iblk m c 0 t (ix2 p k) = aArg m c (ix2 ⟨1024 * t.val + p.val, h⟩ k) := by
  blk_ext! [iblk, V_main_arg0, index0 t]

theorem w_blk (c : Dev nD) (t : Fin cfg0.N) (q : Fin 4) (k : Fin 1024) (l : Fin 384) :
    iblk m c 1 t (ix4 0 q k l) = wArg m c (ix4 0 q k l) := by
  blk_ext! [iblk, V_main_arg1, index1 t]

theorem joined_blk (c : Dev nD) (t : Fin cfg0.N) : joined (iblk m c 1 t) = joined (wArg m c) := funext fun i => w_blk m c t _ _ _

/-- The carried buffer holds the joined weights after every point. -/
theorem held (c : Dev nD) (n : ℕ) (h : n < cfg0.N) : (outsAt0 m c n h).2 = joined (wArg m c) := by
  induction n with
  | zero =>
    refine (congrArg Prod.snd (outsAt0_A m c ⟨0, h⟩ (Nat.zero_mod _))).trans ?_
    dsimp only
    rw [scratch_A, joined_blk]
  | succ n ih =>
    have hN : n + 1 < 8 := lt_of_lt_of_eq h N_0
    refine (congrArg Prod.snd (outsAt0_B m c ⟨n + 1, h⟩ (by dsimp only; omega))).trans ?_
    dsimp only
    unfold sout0_B_0
    exact ih (Nat.lt_of_succ_lt h)

theorem place2 (t : Fin cfg0.N) (X : Vec Ideal S8192x1536 .bf16) (p : Fin 1024) (l : Fin 1536) (h : 1024 * t.val + p.val < 8192) :
    X ((win0_2.blk t).view.emb (ix2 p l)) = X (ix2 ⟨1024 * t.val + p.val, h⟩ l) := by
  blk_ext [index2 t]

/-- What a point of the grid stores, entry by entry. -/
theorem stored (c : Dev nD) (t : Fin cfg0.N) (p : Fin 1024) (l : Fin 1536) (h : 1024 * t.val + p.val < 8192) :
    @Eq EReal (k0_pay5 (F := Ideal) (iblk m c 0 t) (joined (wArg m c)) (ix2 p l)) (heads (aArg m c) (wArg m c) (ix2 ⟨1024 * t.val + p.val, h⟩ l)) := by
  refine (pay5_at _ _ p l).trans ?_
  unfold heads
  simp only [ix2_0, ix2_1]
  refine Finset.sum_congr (M := EReal) rfl fun k _ => ?_
  rw [a_blk m c t p k h]

theorem final2 (c : Dev nD) : (dats m 0 c).arrAt 2 cfg0.N = heads (aArg m c) (wArg m c) :=
  (dats m 0 c).arrAt_eq_of_covers 2 _ (by decide +kernel) fun t hf y => by
    blk_simp
    rw [after0_2]
    have ht : t.val < 8 := t.isLt.trans_eq N_0
    obtain ⟨p, l, rfl⟩ : ∃ (p : Fin 1024) (l : Fin 1536), y = ix2 p l := ⟨_, _, eq_ix2 (n0 := 1024) (n1 := 1536) y⟩
    refine Eq.trans ?_ (place2 t _ p l (by omega)).symm
    by_cases h0 : t.val % 8 = 0
    · rw [outsAt0_A m c t h0]
      dsimp only
      rw [out_A, joined_blk]
      exact stored m c t p l _
    · rw [outsAt0_B m c t h0]
      dsimp only
      rw [out_B, held]
      exact stored m c t p l _

end Cert.QkvIdeal.Array

end
-- ==== Proof.QkvClaims.lean ====
/-
  The claims about the product of the normed stream with the attention's joined weights: the call runs, and over the
  extended reals its result is the reference's.
-/
module

public import proofs.«01_k».proof.Defs
public import proofs.«01_k».proof.Proof.Gen.Qkv.Frame
public import proofs.«01_k».proof.Proof.Gen.QkvIdeal.Frame
public import proofs.«01_k».proof.Proof.Gen.QkvIdeal.Value
public import proofs.«01_k».proof.Proof.Gen.QkvRefIdeal.Run
public import proofs.«01_k».proof.Proof.Gen.QkvRefIdeal.Read
public import proofs.«01_k».proof.Proof.FfnReal
public import proofs.«01_k».proof.Proof.QkvArray
public import Idealize.ShloMosaic.Adequacy

@[expose] public section

set_option maxRecDepth 16384

noncomputable section

namespace Cert.Proof.Qkv

open Idealize.ShloMosaic Idealize.SL.Sem Cert.QkvRefIdeal.Read Cert.QkvIdeal.Array Cert.Proof.Reals

theorem ref_heads (x0 : Vec Ideal Cert.QkvRefIdeal.S8192x1024 .bf16) (x1 : Vec Ideal Cert.QkvRefIdeal.S1x4x1024x384 .bf16) :
    val_main_v6 (F := Ideal) x0 x1 = heads x0 x1 := by
  funext i
  obtain ⟨t, d, rfl⟩ : ∃ (t : Fin 8192) (d : Fin 1536), i = ix2 t d := ⟨_, _, eq_ix2 (n0 := 8192) (n1 := 1536) i⟩
  unfold heads joined
  simp only [ix2_0, ix2_1]
  pointwise [val_main_v6, val_main_v5, val_main_v4, val_main_v3, val_main_v2, val_main_v1, val_main_v0]

theorem frame : Cert.quiescent_Qkv := fun m ρ _ => Cert.Qkv.Gen.frame m ρ

theorem frame_ideal : Cert.quiescent_QkvIdeal := fun m ρ _ => Cert.QkvIdeal.Gen.frame m ρ

theorem frame_ref : Cert.quiescent_QkvRefIdeal := fun m ρ _ =>
  (θ_run Cert.QkvRefIdeal.defs _ _).mono (fun r h => ⟨fun c => (h c).2, Idealize.ShloMosaic.sem_eq_zero_of_no_sems (by decide) r.2⟩)
    (Cert.QkvRefIdeal.Value.run (F := Ideal) m ρ)

theorem preserves : Cert.preserves_Qkv_QkvIdeal := trivial

/-- Both programs end with the array of QkvArray.lean, computed from arguments that agree. -/
theorem algebraic : Cert.algebraic_QkvIdeal_QkvRefIdeal := by
  intro m ρ m' ρ' hpre hagree
  refine ⟨fun c => heads (aArg m c) (wArg m c), ?_, ?_⟩
  · exact (θ_run Cert.QkvIdeal.defs _ _).mono
      (fun _ h c => ⟨(h c).1.trans (final2 m c), (h c).2⟩)
      (Cert.QkvIdeal.Value.run_blocks m ρ)
  · refine (θ_run Cert.QkvRefIdeal.defs _ _).mono
      (fun _ h c => ⟨(h c).1.trans ?_, (h c).2⟩)
      (Cert.QkvRefIdeal.Value.run (F := Ideal) m' ρ')
    · rw [val_main_v6_eq, (hagree c).1, (hagree c).2]
      exact ref_heads _ _

end Cert.Proof.Qkv

end
-- ==== Proof.QkvDgradArray.lean ====
/-
  The gradient of the attention projection's input carried through the norm, the call's result arrays as functions of its
  arguments over the extended reals.
-/
module

public import proofs.«01_k».proof.Proof.Gen.QkvDgradIdeal.Value
public import proofs.«01_k».proof.Proof.RowNorm
public import Idealize.ShloMosaic.Lib.Pointwise
public import Idealize.ShloMosaic.Lib.Pipeline.ValueKit.Point
public import Idealize.ShloMosaic.Lib.Pipeline.ValueKit.Acc
public import Idealize.ShloMosaic.Lib.Pipeline.ValueKit.Tiles

@[expose] public section

set_option maxRecDepth 16384

noncomputable section

namespace Cert.QkvDgradIdeal.Array

open Cert.QkvDgradIdeal Cert.QkvDgradIdeal.Gen Cert.QkvDgradIdeal.Value Idealize.ShloMosaic Idealize.ShloMosaic.TcCoe Idealize.SL.Sem
open Idealize.ShloMosaic.Pipeline (Dat)
open Cert.Proof.RowNorm

theorem pay8_at (x : Vec Ideal S512x1024 .f32) (p : Fin 512) :
    @Eq EReal (k0_pay8 (F := Ideal) x (ix1 p)) (∑ e : Fin 1024, x (ix2 p e) * x (ix2 p e)) := by
  unfold k0_pay8
  pointwise

theorem pay1_at (x : Vec Ideal S512x1024 .f32) (p : Fin 512) (z : Fin 1) :
    @Eq EReal (k0_pay1 (F := Ideal) (k0_pay8 (F := Ideal) x) (ix2 p z)) (scale fun e => x (ix2 p e)) := by
  unfold scale mean
  rw [← pay8_at]
  unfold k0_pay1
  generalize k0_pay8 (F := Ideal) x = s
  pointwise

theorem pay2_at (x : Vec Ideal S512x1024 .f32) (p : Fin 512) (e : Fin 1024) :
    @Eq EReal (k0_pay2 x (k0_pay8 (F := Ideal) x) (ix2 p e)) (unit (fun e => x (ix2 p e)) e) := by
  unfold unit
  rw [← pay1_at x p 0]
  unfold k0_pay2
  generalize k0_pay1 (F := Ideal) (k0_pay8 (F := Ideal) x) = s
  pointwise

theorem unit_row (x : Vec Ideal S512x1024 .f32) (p : Fin 512) :
    unit (fun e => x (ix2 p e)) = fun e => k0_pay2 x (k0_pay8 (F := Ideal) x) (ix2 p e) := funext fun e => (pay2_at x p e).symm

theorem pay3_at (d x : Vec Ideal S512x1024 .f32) (g : Vec Ideal S1x1024 .f32) (r : Vec Ideal S512x1024 .f32) (p : Fin 512) (e : Fin 1024) :
    @Eq EReal (k0_pay3 d x (k0_pay8 (F := Ideal) x) g r (ix2 p e))
      (r (ix2 p e) + pull (unit fun e => x (ix2 p e)) (fun e => d (ix2 p e) * g (ix2 0 e)) (scale fun e => x (ix2 p e)) e) := by
  unfold pull
  rw [unit_row, ← pay1_at x p 0]
  unfold k0_pay3
  generalize k0_pay2 (F := Ideal) x (k0_pay8 (F := Ideal) x) = u
  generalize k0_pay1 (F := Ideal) (k0_pay8 (F := Ideal) x) = s
  pointwise

theorem pay4_at (d x : Vec Ideal S512x1024 .f32) (g : Vec Ideal S1x1024 .f32) (r : Vec Ideal S512x1024 .f32) (p : Fin 512) (e : Fin 1024) :
    @Eq EReal (k0_pay4 d x (k0_pay8 (F := Ideal) x) g r (ix2 p e))
      (r (ix2 p e) + pull (unit fun e => x (ix2 p e)) (fun e => d (ix2 p e) * g (ix2 0 e)) (scale fun e => x (ix2 p e)) e) := pay3_at d x g r p e

/-- One tile's share of the gain's gradient. -/
def share (d x : Vec Ideal S512x1024 .f32) : Vec Ideal S8x1024 .f32 :=
  fun y => (∑ s : Fin 64, d (ix2 ⟨s.val * 8 + (y 0).val, by have := (y 0).isLt; dsimp at this; omega⟩ (y 1))
    * unit (fun e => x (ix2 ⟨s.val * 8 + (y 0).val, by have := (y 0).isLt; dsimp at this; omega⟩ e)) (y 1) : EReal)

theorem pay5_at (d x : Vec Ideal S512x1024 .f32) (acc : Vec Ideal S8x1024 .f32) (y : S8x1024.Idx) :
    @Eq EReal (k0_pay5 d x (k0_pay8 (F := Ideal) x) acc y) (acc y + share d x y) := by
  obtain ⟨p, l, rfl⟩ : ∃ (p : Fin 8) (l : Fin 1024), y = ix2 p l := ⟨_, _, eq_ix2 (n0 := 8) (n1 := 1024) y⟩
  unfold share
  simp only [unit_row, ix2_0, ix2_1]
  unfold k0_pay5
  generalize k0_pay2 (F := Ideal) x (k0_pay8 (F := Ideal) x) = u
  pointwise

theorem pay7_at (v3 : Vec Ideal S512x384 .bf16) (v4 : Vec Ideal S1x1x1024x384 .bf16) (v6 : Vec Ideal S512x384 .bf16) (v7 : Vec Ideal S1x1x1024x384 .bf16) (v9 : Vec Ideal S512x384 .bf16) (v10 : Vec Ideal S1x1x1024x384 .bf16) (v12 : Vec Ideal S512x384 .bf16) (v13 : Vec Ideal S1x1x1024x384 .bf16) (p : Fin 512) (e : Fin 1024) :
    @Eq EReal (k0_pay7 v3 v4 v6 v7 v9 v10 v12 v13 (ix2 p e))
      ((∑ j : Fin 384, v3 (ix2 p j) * v4 (ix4 0 0 e j))
        + (∑ j : Fin 384, v6 (ix2 p j) * v7 (ix4 0 0 e j))
        + (∑ j : Fin 384, v9 (ix2 p j) * v10 (ix4 0 0 e j))
        + (∑ j : Fin 384, v12 (ix2 p j) * v13 (ix4 0 0 e j))) := by
  unfold k0_pay7
  pointwise

theorem pay6_at (y : S8x1024.Idx) : @Eq EReal (k0_pay6 (F := Ideal) y) 0 := by
  obtain ⟨p, l, rfl⟩ : ∃ (p : Fin 8) (l : Fin 1024), y = ix2 p l := ⟨_, _, eq_ix2 (n0 := 8) (n1 := 1024) y⟩
  unfold k0_pay6
  pointwise

/-- The products of a tile: the column pieces of the gradient with the pieces of the weights. -/
def tile (x0 : Vec Ideal S512x1536 .bf16) (x1 : Vec Ideal S1x4x1024x384 .bf16) : FVec Ideal S512x1024 .f32 :=
  k0_pay7 (F := Ideal) (View.ld x0 (Rect.unit (s := S512x1536) ![0, 0] S512x384.size inb_S512x1536_S512x384_0_0))
    (View.ld x1 (Rect.unit (s := S1x4x1024x384) ![0, 0, 0, 0] S1x1x1024x384.size inb_S1x4x1024x384_S1x1x1024x384_0_0_0_0))
    (View.ld x0 (Rect.unit (s := S512x1536) ![0, 384] S512x384.size inb_S512x1536_S512x384_0_384))
    (View.ld x1 (Rect.unit (s := S1x4x1024x384) ![0, 1, 0, 0] S1x1x1024x384.size inb_S1x4x1024x384_S1x1x1024x384_0_1_0_0))
    (View.ld x0 (Rect.unit (s := S512x1536) ![0, 768] S512x384.size inb_S512x1536_S512x384_0_768))
    (View.ld x1 (Rect.unit (s := S1x4x1024x384) ![0, 2, 0, 0] S1x1x1024x384.size inb_S1x4x1024x384_S1x1x1024x384_0_2_0_0))
    (View.ld x0 (Rect.unit (s := S512x1536) ![0, 1152] S512x384.size inb_S512x1536_S512x384_0_1152))
    (View.ld x1 (Rect.unit (s := S1x4x1024x384) ![0, 3, 0, 0] S1x1x1024x384.size inb_S1x4x1024x384_S1x1x1024x384_0_3_0_0))

theorem ld_cols (o : ℕ) (ho : o + 384 ≤ 1536) (x : Vec Ideal S512x1536 .bf16) (inb) (p : Fin 512) (j : Fin 384) :
    View.ld x (Rect.unit (s := S512x1536) ![0, o] S512x384.size inb) (ix2 p j) = x (ix2 p ⟨o + j.val, by omega⟩) := by
  refine View.ld_unit_apply_of _ _ _ _ _ (ix2 p ⟨o + j.val, by omega⟩) fun b => ?_
  match b with
  | ⟨0, _⟩ => show p.val = 0 + p.val; omega
  | ⟨1, _⟩ => show o + j.val = o + j.val; rfl

theorem ld_quarter (q : Fin 4) (x : Vec Ideal S1x4x1024x384 .bf16) (inb) (e : Fin 1024) (j : Fin 384) :
    View.ld x (Rect.unit (s := S1x4x1024x384) ![0, q.val, 0, 0] S1x1x1024x384.size inb) (ix4 (0 : Fin 1) (0 : Fin 1) e j) = x (ix4 0 q e j) := by
  refine View.ld_unit_apply_of _ _ _ _ _ (ix4 0 q e j) fun b => ?_
  match b with
  | ⟨0, _⟩ => show 0 = 0 + 0; omega
  | ⟨1, _⟩ => show q.val = q.val + 0; omega
  | ⟨2, _⟩ => show e.val = 0 + e.val; omega
  | ⟨3, _⟩ => show j.val = 0 + j.val; omega

theorem part_at (o : ℕ) (ho : o + 384 ≤ 1536) (q : Fin 4) (x : Vec Ideal S512x1536 .bf16) (w : Vec Ideal S1x4x1024x384 .bf16) (inb) (inb') (p : Fin 512) (e : Fin 1024) :
    @Eq EReal (∑ j : Fin 384, View.ld x (Rect.unit (s := S512x1536) ![0, o] S512x384.size inb) (ix2 p j)
        * View.ld w (Rect.unit (s := S1x4x1024x384) ![0, q.val, 0, 0] S1x1x1024x384.size inb') (ix4 (0 : Fin 1) (0 : Fin 1) e j) : EReal)
      (∑ j : Fin 384, x (ix2 p ⟨o + j.val, by omega⟩) * w (ix4 0 q e j) : EReal) :=
  Finset.sum_congr (M := EReal) rfl fun j _ => congrArg₂ (fun a b : EReal => a * b) (ld_cols o ho x inb p j) (ld_quarter q w inb' e j)

theorem tile_at (x0 : Vec Ideal S512x1536 .bf16) (x1 : Vec Ideal S1x4x1024x384 .bf16) (p : Fin 512) (e : Fin 1024) :
    @Eq EReal (tile x0 x1 (ix2 p e))
      ((∑ j : Fin 384, x0 (ix2 p ⟨0 + j.val, by omega⟩) * x1 (ix4 0 0 e j))
        + (∑ j : Fin 384, x0 (ix2 p ⟨384 + j.val, by omega⟩) * x1 (ix4 0 1 e j))
        + (∑ j : Fin 384, x0 (ix2 p ⟨768 + j.val, by omega⟩) * x1 (ix4 0 2 e j))
        + (∑ j : Fin 384, x0 (ix2 p ⟨1152 + j.val, by omega⟩) * x1 (ix4 0 3 e j))) :=
  (pay7_at _ _ _ _ _ _ _ _ p e).trans
    (congrArg₂ (fun a b : EReal => a + b) (congrArg₂ (fun a b : EReal => a + b) (congrArg₂ (fun a b : EReal => a + b) (part_at 0 (by omega) 0 x0 x1 inb_S512x1536_S512x384_0_0 inb_S1x4x1024x384_S1x1x1024x384_0_0_0_0 p e)
      (part_at 384 (by omega) 1 x0 x1 inb_S512x1536_S512x384_0_384 inb_S1x4x1024x384_S1x1x1024x384_0_1_0_0 p e))
      (part_at 768 (by omega) 2 x0 x1 inb_S512x1536_S512x384_0_768 inb_S1x4x1024x384_S1x1x1024x384_0_2_0_0 p e))
      (part_at 1152 (by omega) 3 x0 x1 inb_S512x1536_S512x384_0_1152 inb_S1x4x1024x384_S1x1x1024x384_0_3_0_0 p e))

theorem hz2 : (![0, 0] : Fin 2 → Nat) = fun _ => 0 := funext fun a => by fin_cases a <;> rfl

section Cases
variable (d : Dev nD) (i : grid0.Coords) (a0 : Memref sig .tc .vmem S512x1536 .bf16) (h0 : a0.IsWhole) (a1 : Memref sig .tc .vmem S1x4x1024x384 .bf16) (h1 : a1.IsWhole) (a2 : Memref sig .tc .vmem S512x1024 .f32) (h2 : a2.IsWhole) (a3 : Memref sig .tc .vmem S1x1024 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .bf16) (h6 : a6.IsWhole) (a7 : Memref sig .tc .vmem S8x1024 .f32) (h7 : a7.IsWhole)
  (x0 : Vec Ideal S512x1536 .bf16) (x1 : Vec Ideal S1x4x1024x384 .bf16) (x2 : Vec Ideal S512x1024 .f32) (x3 : Vec Ideal S1x1024 .f32) (x4 : Vec Ideal S512x1024 .f32) (acc : Vec Ideal S8x1024 .f32)

theorem out_A_5 (c : cond0_0 i) :
    out0_A_5 (F := Ideal) d i a0 h0 a1 h1 a2 h2 a3 h3 a4 h4 a5 h5 a6 h6 a7 h7 c x0 x1 x2 x3 x4 = k0_pay3 (F := Ideal) (tile x0 x1) x2 (k0_pay8 (F := Ideal) x2) x3 x4 := by
  unfold out0_A_5
  rw [View.read_writes_eq_canon _ _ _ (cover0_A_5 d i a0 h0 a1 h1 a2 h2 a3 h3 a4 h4 a5 h5 a6 h6 a7 h7 c x0 x1 x2 x3 x4)]
  unfold kernelRun0_A tile
  dsimp only
  try sl_unfold_words
  rw [View.canon_unit_zero (S := S512x1024) hz2]
  simp only [View.readAt_eq_ld, h0.read_unread, h1.read_unread, h2.read_unread, h3.read_unread, h4.read_unread, h5.read_unread, h6.read_unread, h7.read_unread, View.ld_unit_zero (S := S512x1024) hz2, View.ld_unit_zero (S := S1x1024) hz2, View.ld_unit_zero (S := S8x1024) hz2]

theorem out_A_6 (c : cond0_0 i) :
    out0_A_6 (F := Ideal) d i a0 h0 a1 h1 a2 h2 a3 h3 a4 h4 a5 h5 a6 h6 a7 h7 c x0 x1 x2 x3 x4 = k0_pay4 (F := Ideal) (tile x0 x1) x2 (k0_pay8 (F := Ideal) x2) x3 x4 := by
  unfold out0_A_6
  rw [View.read_writes_eq_canon _ _ _ (cover0_A_6 d i a0 h0 a1 h1 a2 h2 a3 h3 a4 h4 a5 h5 a6 h6 a7 h7 c x0 x1 x2 x3 x4)]
  unfold kernelRun0_A tile
  dsimp only
  try sl_unfold_words
  rw [View.canon_unit_zero (S := S512x1024) hz2]
  simp only [View.readAt_eq_ld, h0.read_unread, h1.read_unread, h2.read_unread, h3.read_unread, h4.read_unread, h5.read_unread, h6.read_unread, h7.read_unread, View.ld_unit_zero (S := S512x1024) hz2, View.ld_unit_zero (S := S1x1024) hz2, View.ld_unit_zero (S := S8x1024) hz2]

theorem out_A_7 (c : cond0_0 i) :
    out0_A_7 (F := Ideal) d i a0 h0 a1 h1 a2 h2 a3 h3 a4 h4 a5 h5 a6 h6 a7 h7 c x0 x1 x2 x3 x4 = k0_pay5 (F := Ideal) (tile x0 x1) x2 (k0_pay8 (F := Ideal) x2) (k0_pay6 (F := Ideal)) := by
  unfold out0_A_7
  rw [View.read_writes_eq_canon _ _ _ (cover0_A_7 d i a0 h0 a1 h1 a2 h2 a3 h3 a4 h4 a5 h5 a6 h6 a7 h7 c x0 x1 x2 x3 x4)]
  unfold kernelRun0_A tile
  dsimp only
  try sl_unfold_words
  rw [View.canon_cons_unit_zero (S := S8x1024) hz2, View.readCov_unit_zero (S := S8x1024) _ hz2]
  simp only [View.readAt_eq_ld, h0.read_unread, h1.read_unread, h2.read_unread, h3.read_unread, h4.read_unread, h5.read_unread, h6.read_unread, h7.read_unread, View.ld_unit_zero (S := S512x1024) hz2, View.ld_unit_zero (S := S1x1024) hz2, View.ld_unit_zero (S := S8x1024) hz2]

theorem out_B_5 (c : ¬cond0_0 i) :
    out0_B_5 (F := Ideal) d i a0 h0 a1 h1 a2 h2 a3 h3 a4 h4 a5 h5 a6 h6 a7 h7 c x0 x1 x2 x3 x4 acc = k0_pay3 (F := Ideal) (tile x0 x1) x2 (k0_pay8 (F := Ideal) x2) x3 x4 := by
  unfold out0_B_5
  rw [View.read_writes_eq_canon _ _ _ (cover0_B_5 d i a0 h0 a1 h1 a2 h2 a3 h3 a4 h4 a5 h5 a6 h6 a7 h7 c x0 x1 x2 x3 x4 acc)]
  unfold kernelRun0_B tile
  dsimp only
  try sl_unfold_words
  rw [View.canon_unit_zero (S := S512x1024) hz2]
  simp only [View.readAt_eq_ld, h0.read_unread, h1.read_unread, h2.read_unread, h3.read_unread, h4.read_unread, h5.read_unread, h6.read_unread, h7.read_unread, View.ld_unit_zero (S := S512x1024) hz2, View.ld_unit_zero (S := S1x1024) hz2, View.ld_unit_zero (S := S8x1024) hz2]

theorem out_B_6 (c : ¬cond0_0 i) :
    out0_B_6 (F := Ideal) d i a0 h0 a1 h1 a2 h2 a3 h3 a4 h4 a5 h5 a6 h6 a7 h7 c x0 x1 x2 x3 x4 acc = k0_pay4 (F := Ideal) (tile x0 x1) x2 (k0_pay8 (F := Ideal) x2) x3 x4 := by
  unfold out0_B_6
  rw [View.read_writes_eq_canon _ _ _ (cover0_B_6 d i a0 h0 a1 h1 a2 h2 a3 h3 a4 h4 a5 h5 a6 h6 a7 h7 c x0 x1 x2 x3 x4 acc)]
  unfold kernelRun0_B tile
  dsimp only
  try sl_unfold_words
  rw [View.canon_unit_zero (S := S512x1024) hz2]
  simp only [View.readAt_eq_ld, h0.read_unread, h1.read_unread, h2.read_unread, h3.read_unread, h4.read_unread, h5.read_unread, h6.read_unread, h7.read_unread, View.ld_unit_zero (S := S512x1024) hz2, View.ld_unit_zero (S := S1x1024) hz2, View.ld_unit_zero (S := S8x1024) hz2]

theorem out_B_7 (c : ¬cond0_0 i) :
    out0_B_7 (F := Ideal) d i a0 h0 a1 h1 a2 h2 a3 h3 a4 h4 a5 h5 a6 h6 a7 h7 c x0 x1 x2 x3 x4 acc = k0_pay5 (F := Ideal) (tile x0 x1) x2 (k0_pay8 (F := Ideal) x2) acc := by
  unfold out0_B_7
  rw [View.read_writes_eq_canon _ _ _ (cover0_B_7 d i a0 h0 a1 h1 a2 h2 a3 h3 a4 h4 a5 h5 a6 h6 a7 h7 c x0 x1 x2 x3 x4 acc)]
  unfold kernelRun0_B tile
  dsimp only
  try sl_unfold_words
  rw [View.canon_unit_zero (S := S8x1024) hz2]
  simp only [View.readAt_eq_ld, h0.read_unread, h1.read_unread, h2.read_unread, h3.read_unread, h4.read_unread, h5.read_unread, h6.read_unread, h7.read_unread, View.ld_unit_zero (S := S512x1024) hz2, View.ld_unit_zero (S := S1x1024) hz2, View.ld_unit_zero (S := S8x1024) hz2]

end Cases

variable (m : (ℓ : Loc nD τ sig) → Buf (Elt Ideal) ℓ) (ρ : Dev nD → PrngReg)

theorem index0 : ∀ t : Fin cfg0.N, win0_0.index t = ![t.val, 0] := (by decide +kernel : ∀ t : Fin grid0.N, _)
theorem index1 : ∀ t : Fin cfg0.N, win0_1.index t = ![0, 0, 0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![0, 0] := (by decide +kernel : ∀ t : Fin grid0.N, _)

abbrev dArg (c : Dev nD) : Vec Ideal S8192x1536 .bf16 := m ((c.tc : Thread nD τ).loc main_arg0)
abbrev wArg (c : Dev nD) : Vec Ideal S1x4x1024x384 .bf16 := m ((c.tc : Thread nD τ).loc main_arg1)
abbrev xArg (c : Dev nD) : Vec Ideal S8192x1024 .f32 := m ((c.tc : Thread nD τ).loc main_arg2)
abbrev gainArg (c : Dev nD) : Vec Ideal S1x1024 .f32 := m ((c.tc : Thread nD τ).loc main_arg3)
abbrev dresArg (c : Dev nD) : Vec Ideal S8192x1024 .f32 := m ((c.tc : Thread nD τ).loc main_arg4)

/-- The gradient at the projection's input: the column pieces of the gradient with the pieces of the weights. -/
def dh (d : Vec Ideal S8192x1536 .bf16) (w : Vec Ideal S1x4x1024x384 .bf16) (t : Fin 8192) (e : Fin 1024) : EReal :=
  (∑ j : Fin 384, d (ix2 t ⟨0 + j.val, by omega⟩) * w (ix4 0 0 e j))
        + (∑ j : Fin 384, d (ix2 t ⟨384 + j.val, by omega⟩) * w (ix4 0 1 e j))
        + (∑ j : Fin 384, d (ix2 t ⟨768 + j.val, by omega⟩) * w (ix4 0 2 e j))
        + (∑ j : Fin 384, d (ix2 t ⟨1152 + j.val, by omega⟩) * w (ix4 0 3 e j))

/-- A row of the array the norm was taken of. -/
def row (x : Vec Ideal S8192x1024 .f32) (t : Fin 8192) (e : Fin 1024) : EReal := x (ix2 t e)

/-- The gradient of a row before the norm, with the residual's gradient. -/
def dxAt (d : Vec Ideal S8192x1536 .bf16) (w : Vec Ideal S1x4x1024x384 .bf16) (x : Vec Ideal S8192x1024 .f32) (gain : Vec Ideal S1x1024 .f32)
    (dres : Vec Ideal S8192x1024 .f32) (t : Fin 8192) (e : Fin 1024) : EReal :=
  dres (ix2 t e) + pull (unit (row x t)) (fun j => dh d w t j * gain (ix2 0 j)) (scale (row x t)) e

def dx (d : Vec Ideal S8192x1536 .bf16) (w : Vec Ideal S1x4x1024x384 .bf16) (x : Vec Ideal S8192x1024 .f32) (gain : Vec Ideal S1x1024 .f32)
    (dres : Vec Ideal S8192x1024 .f32) : Vec Ideal S8192x1024 .f32 := fun i => dxAt d w x gain dres (i 0) (i 1)

def dx16 (d : Vec Ideal S8192x1536 .bf16) (w : Vec Ideal S1x4x1024x384 .bf16) (x : Vec Ideal S8192x1024 .f32) (gain : Vec Ideal S1x1024 .f32)
    (dres : Vec Ideal S8192x1024 .f32) : Vec Ideal S8192x1024 .bf16 := fun i => dxAt d w x gain dres (i 0) (i 1)

/-- The gain's gradient in eight partial sums: the rows of one residue modulo eight each. -/
def dgain (d : Vec Ideal S8192x1536 .bf16) (w : Vec Ideal S1x4x1024x384 .bf16) (x : Vec Ideal S8192x1024 .f32) : Vec Ideal S8x1024 .f32 :=
  fun i => (∑ s : Fin 1024, dh d w ⟨s.val * 8 + (i 0).val, by have := (i 0).isLt; dsimp at this; omega⟩ (i 1)
    * unit (row x ⟨s.val * 8 + (i 0).val, by have := (i 0).isLt; dsimp at this; omega⟩) (i 1) : EReal)

theorem place5 (t : Fin cfg0.N) (X : Vec Ideal S8192x1024 .f32) (p : Fin 512) (e : Fin 1024) (h : 512 * t.val + p.val < 8192) :
    X ((win0_5.blk t).view.emb (ix2 p e)) = X (ix2 ⟨512 * t.val + p.val, h⟩ e) := by
  blk_ext [index5 t]

theorem place6 (t : Fin cfg0.N) (X : Vec Ideal S8192x1024 .bf16) (p : Fin 512) (e : Fin 1024) (h : 512 * t.val + p.val < 8192) :
    X ((win0_6.blk t).view.emb (ix2 p e)) = X (ix2 ⟨512 * t.val + p.val, h⟩ e) := by
  blk_ext [index6 t]

theorem place7 (t : Fin cfg0.N) (X : Vec Ideal S8x1024 .f32) (p : Fin 8) (e : Fin 1024) :
    X ((win0_7.blk t).view.emb (ix2 p e)) = X (ix2 p e) := by
  blk_ext [index7 t]

theorem blk0 (c : Dev nD) (t : Fin cfg0.N) (p : Fin 512) (l : Fin 1536) (h : 512 * t.val + p.val < 8192) :
    iblk m c 0 t (ix2 p l) = dArg m c (ix2 ⟨512 * t.val + p.val, h⟩ l) := by
  blk_ext! [iblk, V_main_arg0, index0 t]

theorem blk1 (c : Dev nD) (t : Fin cfg0.N) (q : Fin 4) (e : Fin 1024) (j : Fin 384) :
    iblk m c 1 t (ix4 0 q e j) = wArg m c (ix4 0 q e j) := by
  blk_ext! [iblk, V_main_arg1, index1 t]

theorem blk2 (c : Dev nD) (t : Fin cfg0.N) (p : Fin 512) (l : Fin 1024) (h : 512 * t.val + p.val < 8192) :
    iblk m c 2 t (ix2 p l) = xArg m c (ix2 ⟨512 * t.val + p.val, h⟩ l) := by
  blk_ext! [iblk, V_main_arg2, index2 t]

theorem blk3 (c : Dev nD) (t : Fin cfg0.N) (e : Fin 1024) : iblk m c 3 t (ix2 0 e) = gainArg m c (ix2 0 e) := by
  blk_ext! [iblk, V_main_arg3, index3 t]

theorem blk4 (c : Dev nD) (t : Fin cfg0.N) (p : Fin 512) (l : Fin 1024) (h : 512 * t.val + p.val < 8192) :
    iblk m c 4 t (ix2 p l) = dresArg m c (ix2 ⟨512 * t.val + p.val, h⟩ l) := by
  blk_ext! [iblk, V_main_arg4, index4 t]

/-- The tile of a point of the grid. -/
theorem tile_eq (c : Dev nD) (t : Fin cfg0.N) (p : Fin 512) (e : Fin 1024) (h : 512 * t.val + p.val < 8192) :
    @Eq EReal (tile (iblk m c 0 t) (iblk m c 1 t) (ix2 p e)) (dh (dArg m c) (wArg m c) ⟨512 * t.val + p.val, h⟩ e) := by
  refine (tile_at _ _ p e).trans ?_
  unfold dh
  refine (congrArg₂ (fun a b : EReal => a + b) (congrArg₂ (fun a b : EReal => a + b) (congrArg₂ (fun a b : EReal => a + b) ?_ ?_) ?_) ?_)
  all_goals
    refine Finset.sum_congr (M := EReal) rfl fun j _ => ?_
    rw [blk0 m c t p _ h, blk1]

theorem row_eq (c : Dev nD) (t : Fin cfg0.N) (p : Fin 512) (h : 512 * t.val + p.val < 8192) :
    (fun e => (iblk m c 2 t (ix2 p e) : EReal)) = row (xArg m c) ⟨512 * t.val + p.val, h⟩ :=
  funext fun e => blk2 m c t p e h

/-- What a point of the grid stores, entry by entry. -/
theorem stored (c : Dev nD) (t : Fin cfg0.N) (p : Fin 512) (e : Fin 1024) (h : 512 * t.val + p.val < 8192) :
    @Eq EReal (k0_pay3 (F := Ideal) (tile (iblk m c 0 t) (iblk m c 1 t)) (iblk m c 2 t) (k0_pay8 (F := Ideal) (iblk m c 2 t)) (iblk m c 3 t) (iblk m c 4 t) (ix2 p e))
      (dxAt (dArg m c) (wArg m c) (xArg m c) (gainArg m c) (dresArg m c) ⟨512 * t.val + p.val, h⟩ e) := by
  refine (pay3_at _ _ _ _ p e).trans ?_
  unfold dxAt
  refine congrArg₂ (fun a b : EReal => a + b) (blk4 m c t p e h) ?_
  have hy : (fun j : Fin 1024 => (tile (iblk m c 0 t) (iblk m c 1 t) (ix2 p j) * iblk m c 3 t (ix2 0 j) : EReal))
      = fun j => dh (dArg m c) (wArg m c) ⟨512 * t.val + p.val, h⟩ j * gainArg m c (ix2 0 j) :=
    funext fun j => congrArg₂ (fun a b : EReal => a * b) (tile_eq m c t p j h) (blk3 m c t j)
  exact congrArg₂ (fun r y => pull (unit r) y (scale r) e) (row_eq m c t p h) hy

theorem final5 (c : Dev nD) : (dats m 0 c).arrAt 5 cfg0.N = dx (dArg m c) (wArg m c) (xArg m c) (gainArg m c) (dresArg m c) :=
  (dats m 0 c).arrAt_eq_of_covers 5 _ (by decide +kernel) fun t hf y => by
    blk_simp
    rw [after0_5]
    have ht : t.val < 16 := t.isLt.trans_eq N_0
    obtain ⟨p, l, rfl⟩ : ∃ (p : Fin 512) (l : Fin 1024), y = ix2 p l := ⟨_, _, eq_ix2 (n0 := 512) (n1 := 1024) y⟩
    refine Eq.trans ?_ (place5 t _ p l (by omega)).symm
    by_cases h0 : t.val % 16 = 0
    · rw [outsAt0_A m c t h0]
      dsimp only
      rw [out_A_5]
      exact stored m c t p l _
    · rw [outsAt0_B m c t h0]
      dsimp only
      rw [out_B_5]
      exact stored m c t p l _

theorem final6 (c : Dev nD) : (dats m 0 c).arrAt 6 cfg0.N = dx16 (dArg m c) (wArg m c) (xArg m c) (gainArg m c) (dresArg m c) :=
  (dats m 0 c).arrAt_eq_of_covers 6 _ (by decide +kernel) fun t hf y => by
    blk_simp
    rw [after0_6]
    have ht : t.val < 16 := t.isLt.trans_eq N_0
    obtain ⟨p, l, rfl⟩ : ∃ (p : Fin 512) (l : Fin 1024), y = ix2 p l := ⟨_, _, eq_ix2 (n0 := 512) (n1 := 1024) y⟩
    refine Eq.trans ?_ (place6 t _ p l (by omega)).symm
    by_cases h0 : t.val % 16 = 0
    · rw [outsAt0_A m c t h0]
      dsimp only
      rw [out_A_6]
      exact stored m c t p l _
    · rw [outsAt0_B m c t h0]
      dsimp only
      rw [out_B_6]
      exact stored m c t p l _

/-- A point's share of the gain's gradient. -/
def shareAt (c : Dev nD) (t : Fin cfg0.N) : Vec Ideal S8x1024 .f32 := share (tile (iblk m c 0 t) (iblk m c 1 t)) (iblk m c 2 t)

theorem shareAt_eq (c : Dev nD) (t : Fin cfg0.N) (i : Fin 8) (e : Fin 1024) (ht : t.val < 16) :
    @Eq EReal (shareAt m c t (ix2 i e))
      (∑ s : Fin 64, dh (dArg m c) (wArg m c) ⟨512 * t.val + (s.val * 8 + i.val), by omega⟩ e
        * unit (row (xArg m c) ⟨512 * t.val + (s.val * 8 + i.val), by omega⟩) e) := by
  unfold shareAt share
  refine Finset.sum_congr (M := EReal) rfl fun s _ => ?_
  exact congrArg₂ (fun a b : EReal => a * b) (tile_eq m c t ⟨s.val * 8 + i.val, by omega⟩ e (by dsimp only; omega))
    (congrArg (fun r => unit r e) (row_eq m c t ⟨s.val * 8 + i.val, by omega⟩ (by dsimp only; omega)))

theorem final7 (c : Dev nD) : (dats m 0 c).arrAt 7 cfg0.N = dgain (dArg m c) (wArg m c) (xArg m c) :=
  (dats m 0 c).arrAt_eq_of_covers 7 _ (by decide +kernel) fun t hf y => by
    blk_simp
    rw [after0_7]
    rw [Pipeline.eq_sum_fin_of_reset_step_apply_of_flush (fun n h => (outsAt0 m c n h).2.2) 16 (fun _ => 0)
      (fun t => shareAt m c t) (fun t h j => by
        rw [outsAt0_A m c t h]
        dsimp only
        rw [out_A_7]
        exact (pay5_at _ _ _ j).trans (congrArg (· + _) (pay6_at j))) (fun t h j => by
        rw [outsAt0_B m c t h]
        dsimp only
        rw [out_B_7]
        exact pay5_at _ _ _ j) t ((flush0_7 t).mp hf) y]
    obtain ⟨p, l, rfl⟩ : ∃ (p : Fin 8) (l : Fin 1024), y = ix2 p l := ⟨_, _, eq_ix2 (n0 := 8) (n1 := 1024) y⟩
    have ht : t.val < 16 := t.isLt.trans_eq N_0
    refine Eq.trans ?_ (place7 t _ p l).symm
    refine (zero_add (M := EReal) _).trans ?_
    unfold dgain
    simp only [ix2_0, ix2_1]
    refine (Finset.sum_congr (M := EReal) rfl fun s _ => shareAt_eq m c ⟨16 * (t.val / 16) + s.val, lt_of_lt_of_eq (by omega : _ < 16) N_0.symm⟩ p l (by dsimp only; omega)).trans ?_
    refine Fin.sum_mul_add_congr (M := EReal) fun s k hk => ?_
    have hq : ∀ h, (⟨512 * (16 * (t.val / 16) + s.val) + (k.val * 8 + p.val), h⟩ : Fin 8192) = ⟨(s.val * 64 + k.val) * 8 + p.val, by omega⟩ := fun h => Fin.ext (by dsimp only; omega)
    simp only [hq]

end Cert.QkvDgradIdeal.Array

end
-- ==== Proof.QkvDgradClaims.lean ====
/-
  The claims about the backward call of the attention projection and its norm: the call runs, and over the extended
  reals its three results are the reference's on finite arguments.
-/
module

public import proofs.«01_k».proof.Defs
public import proofs.«01_k».proof.Proof.Gen.Pre_qkv_dgrad_finite
public import proofs.«01_k».proof.Proof.Gen.QkvDgrad.Frame
public import proofs.«01_k».proof.Proof.Gen.QkvDgradIdeal.Frame
public import proofs.«01_k».proof.Proof.Gen.QkvDgradIdeal.Value
public import proofs.«01_k».proof.Proof.Gen.QkvDgradRefIdeal.Run
public import proofs.«01_k».proof.Proof.Gen.QkvDgradRefIdeal.Read
public import proofs.«01_k».proof.Proof.FfnReal
public import proofs.«01_k».proof.Proof.QkvDgradArray
public import Idealize.ShloMosaic.Adequacy

@[expose] public section

set_option maxRecDepth 16384

noncomputable section

namespace Cert.Proof.QkvDgrad

open Idealize.ShloMosaic Idealize.SL.Sem Cert.QkvDgradRefIdeal.Read Cert.QkvDgradIdeal.Array Cert.Proof.Reals Cert.Proof.RowNorm

/-- The precondition, read: every entry of the first four arguments is a real. -/
theorem finite (x0 : FVec Ideal Cert.Pre_qkv_dgrad_finite.S8192x1536 .bf16) (x1 : FVec Ideal Cert.Pre_qkv_dgrad_finite.S1x4x1024x384 .bf16)
    (x2 : FVec Ideal Cert.Pre_qkv_dgrad_finite.S8192x1024 .f32) (x3 : FVec Ideal Cert.Pre_qkv_dgrad_finite.S1x1024 .f32) (x4 : FVec Ideal Cert.Pre_qkv_dgrad_finite.S8192x1024 .f32)
    (h : Cert.Pre_qkv_dgrad_finite.fn (F := Ideal) x0 x1 x2 x3 x4 = fun _ => 1#1) :
    (∀ i, IsReal (x0 i)) ∧ (∀ i, IsReal (x1 i)) ∧ (∀ i, IsReal (x2 i)) ∧ (∀ i, IsReal (x3 i)) := by
  simp only [Cert.Pre_qkv_dgrad_finite.fn, Cert.Pre_qkv_dgrad_finite.fn_part1] at h
  have hj := Host.reduce_andi_all _ _ _ _ ix0 (congrFun h ix0)
  refine ⟨fun i => ?_, fun i => ?_, fun i => ?_, fun i => ?_⟩
  · obtain ⟨a, b, rfl⟩ : ∃ (a : Fin 8192) (b : Fin 1536), i = ix2 a b := ⟨_, _, eq_ix2 (n0 := 8192) (n1 := 1536) i⟩
    have hk := hj (ix1 0)
    pointwise at hk
    have e := bit_of_fold_univ _ hk (a, b)
    exact isReal_of_lt (of_bit e)
  · have hk := hj (ix1 1)
    pointwise at hk
    exact isReal_of_lt (of_bit (bit_of_fold _ _ hk i (Finset.mem_filter.mpr ⟨Finset.mem_univ _, Subsingleton.elim _ _⟩)))
  · obtain ⟨a, b, rfl⟩ : ∃ (a : Fin 8192) (b : Fin 1024), i = ix2 a b := ⟨_, _, eq_ix2 (n0 := 8192) (n1 := 1024) i⟩
    have hk := hj (ix1 2)
    pointwise at hk
    have e := bit_of_fold_univ _ hk (a, b)
    exact isReal_of_lt (of_bit e)
  · obtain ⟨a, b, rfl⟩ : ∃ (a : Fin 1) (b : Fin 1024), i = ix2 a b := ⟨_, _, eq_ix2 (n0 := 1) (n1 := 1024) i⟩
    have hk := hj (ix1 3)
    pointwise at hk
    have e := bit_of_fold_univ _ hk (a, b)
    exact isReal_of_lt (of_bit e)

/-- A sum over a row of the gradient as the sums over its four pieces. -/
theorem pieces (f : Fin 1536 → EReal) :
    ∑ k, f k = (∑ j : Fin 384, f ⟨0 + j.val, by omega⟩) + (∑ j : Fin 384, f ⟨384 + j.val, by omega⟩)
      + (∑ j : Fin 384, f ⟨768 + j.val, by omega⟩) + ∑ j : Fin 384, f ⟨1152 + j.val, by omega⟩ := by
  refine (Fin.sum_univ_add (M := EReal) (a := 1152) (b := 384) f).trans ?_
  refine congrArg₂ (fun a b : EReal => a + b) ?_ rfl
  refine (Fin.sum_univ_add (M := EReal) (a := 768) (b := 384) _).trans ?_
  refine congrArg₂ (fun a b : EReal => a + b) ?_ rfl
  refine (Fin.sum_univ_add (M := EReal) (a := 384) (b := 384) _).trans ?_
  refine congrArg₂ (fun a b : EReal => a + b) (Finset.sum_congr (M := EReal) rfl fun j _ => ?_) rfl
  exact congrArg f (Fin.ext (Nat.zero_add _).symm)

/-- Column `k` of the four weight parts laid side by side. -/
theorem column (k : ℕ) (q : Fin 4) (l : Fin 384) (hk : k = q.val * 384 + l.val) (e : Fin 1024) (h h') :
    (ix4 0 ⟨k / 384, h⟩ e ⟨k % 384, h'⟩ : Cert.QkvDgradRefIdeal.S1x4x1024x384.Idx) = ix4 0 q e l :=
  congrArg₂ (fun (a : Fin 4) (b : Fin 384) => ix4 (0 : Fin 1) a e b) (Fin.ext (by dsimp only; omega)) (Fin.ext (by dsimp only; omega))

section Reference

variable (x0 : Vec Ideal Cert.QkvDgradRefIdeal.S8192x1536 .bf16) (x1 : Vec Ideal Cert.QkvDgradRefIdeal.S1x4x1024x384 .bf16)
    (x2 : Vec Ideal Cert.QkvDgradRefIdeal.S8192x1024 .f32) (x3 : Vec Ideal Cert.QkvDgradRefIdeal.S1x1024 .f32) (x4 : Vec Ideal Cert.QkvDgradRefIdeal.S8192x1024 .f32)
variable (t : Fin 8192) (e : Fin 1024)

theorem dh_at : @Eq EReal (val_main_v25 (F := Ideal) x0 x1 (ix2 t e)) (dh x0 x1 t e) := by
  pointwise [val_main_v25, val_main_v24, val_main_v3, val_main_v2, val_main_v1, val_main_v0]
  refine (pieces _).trans ?_
  unfold dh
  refine congrArg₂ (fun a b : EReal => a + b) (congrArg₂ (fun a b : EReal => a + b) (congrArg₂ (fun a b : EReal => a + b) ?_ ?_) ?_) ?_
  · exact Finset.sum_congr (M := EReal) rfl fun j _ => congrArg (fun i => (x0 _ * x1 i : EReal)) (column (0 + j.val) 0 j (by show 0 + j.val = 0 * 384 + j.val; omega) e _ _)
  · exact Finset.sum_congr (M := EReal) rfl fun j _ => congrArg (fun i => (x0 _ * x1 i : EReal)) (column (384 + j.val) 1 j (by show 384 + j.val = 1 * 384 + j.val; omega) e _ _)
  · exact Finset.sum_congr (M := EReal) rfl fun j _ => congrArg (fun i => (x0 _ * x1 i : EReal)) (column (768 + j.val) 2 j (by show 768 + j.val = 2 * 384 + j.val; omega) e _ _)
  · exact Finset.sum_congr (M := EReal) rfl fun j _ => congrArg (fun i => (x0 _ * x1 i : EReal)) (column (1152 + j.val) 3 j (by show 1152 + j.val = 3 * 384 + j.val; omega) e _ _)

theorem mean_at (z : Fin 1) : @Eq EReal (val_main_v11 (F := Ideal) x2 (ix2 t z)) (mean (row x2 t)) := by
  unfold mean row
  pointwise [val_main_v11, val_main_v10, val_main_cst_1, val_main_v9, val_main_v8, val_main_cst_0, val_main_v7, val_main_v6, val_main_cst, val_main_v5]

theorem scale_at (z : Fin 1) : @Eq EReal (val_main_v12 (F := Ideal) x2 (ix2 t z)) (scale (row x2 t)) := by
  unfold scale
  rw [← mean_at x2 t z]
  rfl

theorem unit_at : @Eq EReal (val_main_v17 (F := Ideal) x2 (ix2 t e)) (unit (row x2 t) e) := by
  unfold unit
  rw [← scale_at x2 t 0]
  pointwise [val_main_v17, val_main_v16, row]

theorem in_at : @Eq EReal (val_main_v33 (F := Ideal) x0 x1 x3 (ix2 t e)) (dh x0 x1 t e * x3 (ix2 0 e)) := by
  rw [← dh_at]
  generalize hv : val_main_v25 (F := Ideal) x0 x1 = v
  pointwise [val_main_v33, val_main_v31, val_main_v30, val_main_v26, val_main_v19, val_main_v4, hv]

theorem gain_at (i : Fin 8) : @Eq EReal (val_main_v32 (F := Ideal) x0 x1 x2 (ix2 i e))
    (∑ s : Fin 1024, unit (row x2 ⟨s.val * 8 + i.val, by omega⟩) e * dh x0 x1 ⟨s.val * 8 + i.val, by omega⟩ e) := by
  simp only [← dh_at, ← unit_at]
  generalize hv : val_main_v25 (F := Ideal) x0 x1 = v
  generalize hw : val_main_v17 (F := Ideal) x2 = w
  pointwise [val_main_v32, val_main_v29, val_main_v28, val_main_v27, val_main_v26, val_main_v18, val_main_cst_3, val_main_cst_4, hv, hw]
  exact Fin.sum_univ_one (M := EReal) _

theorem dx_at : @Eq EReal (val_main_v48 (F := Ideal) x0 x1 x2 x3 x4 (ix2 t e))
    (x4 (ix2 t e) + dh x0 x1 t e * x3 (ix2 0 e) * scale (row x2 t)
        + row x2 t e * (∑ z : Fin 1, through (row x2 t) fun j => dh x0 x1 t j * x3 (ix2 0 j))
      + (∑ z : Fin 1, through (row x2 t) fun j => dh x0 x1 t j * x3 (ix2 0 j)) * row x2 t e) := by
  have hy := fun e => in_at x0 x1 x3 t e
  have hr := fun z => scale_at x2 t z
  have hm := fun z => mean_at x2 t z
  generalize hv : val_main_v33 (F := Ideal) x0 x1 x3 = v at hy
  generalize hw : val_main_v11 (F := Ideal) x2 = w at hm
  generalize hu : val_main_v12 (F := Ideal) x2 = u at hr
  pointwise [val_main_v48, val_main_v47, val_main_v46, val_main_v45, val_main_v44, val_main_v43, val_main_cst_7, val_main_v42, val_main_v41, val_main_cst_6, val_main_v40, val_main_v39, val_main_v38, val_main_v37, val_main_v36, val_main_v35, val_main_cst_5, val_main_v34, val_main_v15, val_main_v14, val_main_v13, val_main_cst_2, hv, hw, hu]
  simp only [hy, hr, hm]
  rfl

end Reference

theorem ref_dx (x0 : Vec Ideal Cert.QkvDgradRefIdeal.S8192x1536 .bf16) (x1 : Vec Ideal Cert.QkvDgradRefIdeal.S1x4x1024x384 .bf16)
    (x2 : Vec Ideal Cert.QkvDgradRefIdeal.S8192x1024 .f32) (x3 : Vec Ideal Cert.QkvDgradRefIdeal.S1x1024 .f32) (x4 : Vec Ideal Cert.QkvDgradRefIdeal.S8192x1024 .f32)
    (h : (∀ i, IsReal (x0 i)) ∧ (∀ i, IsReal (x1 i)) ∧ (∀ i, IsReal (x2 i)) ∧ (∀ i, IsReal (x3 i))) :
    val_main_v48 (F := Ideal) x0 x1 x2 x3 x4 = dx x0 x1 x2 x3 x4 := by
  funext i
  obtain ⟨t, e, rfl⟩ : ∃ (t : Fin 8192) (e : Fin 1024), i = ix2 t e := ⟨_, _, eq_ix2 (n0 := 8192) (n1 := 1024) i⟩
  have hd : ∀ j, IsReal (dh x0 x1 t j) := fun j =>
    ((((IsReal.sum _ fun k => (h.1 _).mul (h.2.1 _)).add (IsReal.sum _ fun k => (h.1 _).mul (h.2.1 _))).add (IsReal.sum _ fun k => (h.1 _).mul (h.2.1 _))).add (IsReal.sum _ fun k => (h.1 _).mul (h.2.1 _)))
  refine (dx_at x0 x1 x2 x3 x4 t e).trans ?_
  rw [Fin.sum_univ_one (M := EReal), add_assoc (G := EReal), add_assoc (G := EReal)]
  refine (congrArg (fun a : EReal => x4 (ix2 t e) + a) ?_)
  rw [← add_assoc (G := EReal)]
  exact (pull_eq (x := row x2 t) (y := fun j => dh x0 x1 t j * x3 (ix2 0 j)) (fun j => h.2.2.1 _) (fun j => (hd j).mul (h.2.2.2 _)) e).symm

theorem ref_gain (x0 : Vec Ideal Cert.QkvDgradRefIdeal.S8192x1536 .bf16) (x1 : Vec Ideal Cert.QkvDgradRefIdeal.S1x4x1024x384 .bf16) (x2 : Vec Ideal Cert.QkvDgradRefIdeal.S8192x1024 .f32) :
    val_main_v32 (F := Ideal) x0 x1 x2 = dgain x0 x1 x2 := by
  funext i
  obtain ⟨p, e, rfl⟩ : ∃ (p : Fin 8) (e : Fin 1024), i = ix2 p e := ⟨_, _, eq_ix2 (n0 := 8) (n1 := 1024) i⟩
  refine (gain_at x0 x1 x2 e p).trans ?_
  unfold dgain
  exact Finset.sum_congr (M := EReal) rfl fun s _ => mul_comm (G := EReal) _ _

theorem frame : Cert.quiescent_QkvDgrad := fun m ρ _ => Cert.QkvDgrad.Gen.frame m ρ

theorem frame_ideal : Cert.quiescent_QkvDgradIdeal := fun m ρ _ => Cert.QkvDgradIdeal.Gen.frame m ρ

theorem frame_ideal_finite : Cert.quiescent_QkvDgradIdeal_pre_qkv_dgrad_finite := fun m ρ _ => Cert.QkvDgradIdeal.Gen.frame m ρ

theorem frame_ref : Cert.quiescent_QkvDgradRefIdeal := fun m ρ _ =>
  (θ_run Cert.QkvDgradRefIdeal.defs _ _).mono (fun r h => ⟨fun c => (h c).2.2.2, Idealize.ShloMosaic.sem_eq_zero_of_no_sems (by decide) r.2⟩)
    (Cert.QkvDgradRefIdeal.Value.run (F := Ideal) m ρ)

theorem frame_ref_finite : Cert.quiescent_QkvDgradRefIdeal_pre_qkv_dgrad_finite := fun m ρ _ => frame_ref m ρ trivial

theorem preserves : Cert.preserves_QkvDgrad_QkvDgradIdeal := trivial

/-- Both programs end with the three arrays of QkvDgradArray.lean, computed from arguments that agree. -/
theorem algebraic : Cert.algebraic_QkvDgradIdeal_QkvDgradRefIdeal_pre_qkv_dgrad_finite := by
  intro m ρ m' ρ' hpre hagree
  refine ⟨fun c => dx (dArg m c) (wArg m c) (xArg m c) (gainArg m c) (dresArg m c),
    fun c => dx16 (dArg m c) (wArg m c) (xArg m c) (gainArg m c) (dresArg m c),
    fun c => dgain (dArg m c) (wArg m c) (xArg m c), ?_, ?_⟩
  · exact (θ_run Cert.QkvDgradIdeal.defs _ _).mono
      (fun _ h c => ⟨(h c).1.trans (final5 m c), (h c).2.1.trans (final6 m c), (h c).2.2.1.trans (final7 m c), (h c).2.2.2⟩)
      (Cert.QkvDgradIdeal.Value.run_blocks m ρ)
  · refine (θ_run Cert.QkvDgradRefIdeal.defs _ _).mono
      (fun _ h c => ⟨(h c).1.trans ?_, (h c).2.1.trans ?_, (h c).2.2.1.trans ?_, (h c).2.2.2⟩)
      (Cert.QkvDgradRefIdeal.Value.run (F := Ideal) m' ρ')
    · rw [val_main_v48_eq, (hagree c).1, (hagree c).2.1, (hagree c).2.2.1, (hagree c).2.2.2.1, (hagree c).2.2.2.2]
      exact ref_dx _ _ _ _ _ (finite _ _ _ _ _ (hpre c))
    · rw [val_main_v49_eq, (hagree c).1, (hagree c).2.1, (hagree c).2.2.1, (hagree c).2.2.2.1, (hagree c).2.2.2.2]
      exact ref_dx _ _ _ _ _ (finite _ _ _ _ _ (hpre c))
    · rw [val_main_v32_eq, (hagree c).1, (hagree c).2.1, (hagree c).2.2.1]
      exact ref_gain _ _ _

end Cert.Proof.QkvDgrad

end
-- ==== Proof.QkvWgradArray.lean ====
/-
  The gradient of the attention's joined weights: the call's result array as a function of its arguments over the
  extended reals.
-/
module

public import proofs.«01_k».proof.Proof.Gen.QkvWgradIdeal.Value
public import proofs.«01_k».proof.Proof.FfnReal
public import proofs.«01_k».proof.Proof.Pieces
public import Idealize.ShloMosaic.Lib.Pointwise
public import Idealize.ShloMosaic.Lib.Pipeline.ValueKit.Point
public import Idealize.ShloMosaic.Lib.Pipeline.ValueKit.Acc
public import Idealize.ShloMosaic.Lib.StableHlo.ReadAt

@[expose] public section

set_option maxRecDepth 16384

noncomputable section

namespace Cert.QkvWgradIdeal.Array

open Cert.QkvWgradIdeal Cert.QkvWgradIdeal.Gen Cert.QkvWgradIdeal.Value Idealize.ShloMosaic Idealize.ShloMosaic.TcCoe Idealize.SL.Sem Cert.Proof Cert.Proof.Reals
open Idealize.ShloMosaic.Pipeline (Dat)

variable (m : (ℓ : Loc nD τ sig) → Buf (Elt Ideal) ℓ) (ρ : Dev nD → PrngReg)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0, 0] := (by decide +kernel : ∀ t : Fin grid0.N, _)

abbrev hArg (c : Dev nD) : Vec Ideal S8192x1024 .bf16 := m ((c.tc : Thread nD τ).loc main_arg0)
abbrev dArg (c : Dev nD) : Vec Ideal S8192x1536 .bf16 := m ((c.tc : Thread nD τ).loc main_arg1)

/-- The column of the joined weights that column `l` of part `q` is. -/
def col (q : Fin 4) (l : Fin 384) : Fin 1536 := ⟨q.val * 384 + l.val, by omega⟩

/-- The gradient of the weights of a product, in four parts side by side. -/
def grad (a : Vec Ideal S8192x1024 .bf16) (d : Vec Ideal S8192x1536 .bf16) : Vec Ideal S4x1024x384 .f32 :=
  fun i => (∑ t : Fin 8192, a (ix2 t (i 1)) * d (ix2 t (col (i 0) (i 2))) : EReal)

/-- One tile's contribution. -/
def term (x0 : Vec Ideal S2048x1024 .bf16) (x1 : Vec Ideal S2048x1536 .bf16) : Vec Ideal S4x1024x384 .f32 :=
  fun i => (∑ k : Fin 2048, x0 (ix2 k (i 1)) * x1 (ix2 k (col (i 0) (i 2))) : EReal)

theorem pay3_at (x0 : Vec Ideal S2048x1024 .bf16) (x1 : Vec Ideal S2048x1536 .bf16) (p : Fin 1024) (j : Fin 1536) :
    @Eq EReal (k0_pay3 x0 x1 (ix2 p j)) (∑ k : Fin 2048, x0 (ix2 k p) * x1 (ix2 k j)) := by
  unfold k0_pay3
  pointwise

theorem pay4_at (x0 : Vec Ideal S2048x1024 .bf16) (x1 : Vec Ideal S2048x1536 .bf16) (y : Vec Ideal S1x1024x384 .f32) (p : Fin 1024) (l : Fin 384) :
    @Eq EReal (k0_pay4 x0 x1 y (ix3 0 p l)) (y (ix3 0 p l) + term x0 x1 (ix3 0 p l)) := by
  refine Eq.trans ?_ (congrArg (fun b : EReal => (y (ix3 0 p l) : EReal) + b) (pay3_at x0 x1 p (col 0 l)))
  unfold k0_pay4 col
  generalize k0_pay3 (F := Ideal) x0 x1 = z
  pointwise

theorem pay5_at (x0 : Vec Ideal S2048x1024 .bf16) (x1 : Vec Ideal S2048x1536 .bf16) (y : Vec Ideal S1x1024x384 .f32) (p : Fin 1024) (l : Fin 384) :
    @Eq EReal (k0_pay5 x0 x1 y (ix3 0 p l)) (y (ix3 0 p l) + term x0 x1 (ix3 1 p l)) := by
  refine Eq.trans ?_ (congrArg (fun b : EReal => (y (ix3 0 p l) : EReal) + b) (pay3_at x0 x1 p (col 1 l)))
  unfold k0_pay5 col
  generalize k0_pay3 (F := Ideal) x0 x1 = z
  pointwise

theorem pay6_at (x0 : Vec Ideal S2048x1024 .bf16) (x1 : Vec Ideal S2048x1536 .bf16) (y : Vec Ideal S1x1024x384 .f32) (p : Fin 1024) (l : Fin 384) :
    @Eq EReal (k0_pay6 x0 x1 y (ix3 0 p l)) (y (ix3 0 p l) + term x0 x1 (ix3 2 p l)) := by
  refine Eq.trans ?_ (congrArg (fun b : EReal => (y (ix3 0 p l) : EReal) + b) (pay3_at x0 x1 p (col 2 l)))
  unfold k0_pay6 col
  generalize k0_pay3 (F := Ideal) x0 x1 = z
  pointwise

theorem pay1_at (x0 : Vec Ideal S2048x1024 .bf16) (x1 : Vec Ideal S2048x1536 .bf16) (y : Vec Ideal S1x1024x384 .f32) (p : Fin 1024) (l : Fin 384) :
    @Eq EReal (k0_pay1 (k0_pay3 x0 x1) y (ix3 0 p l)) (y (ix3 0 p l) + term x0 x1 (ix3 3 p l)) := by
  refine Eq.trans ?_ (congrArg (fun b : EReal => (y (ix3 0 p l) : EReal) + b) (pay3_at x0 x1 p (col 3 l)))
  unfold k0_pay1 col
  generalize k0_pay3 (F := Ideal) x0 x1 = z
  pointwise

theorem zero_at (y : S4x1024x384.Idx) : @Eq EReal (k0_pay2 (F := Ideal) y) 0 := by
  unfold k0_pay2
  pointwise

theorem hz2 : (![0, 0] : Fin 2 → Nat) = 0 := by decide
theorem hz3 : (![0, 0, 0] : Fin 3 → Nat) = 0 := by decide

/-- A part's piece of the result: what was there with the tile's contribution. -/
theorem piece (x0 : Vec Ideal S2048x1024 .bf16) (x1 : Vec Ideal S2048x1536 .bf16) (b : Vec Ideal S4x1024x384 .f32) (q : Fin 4) (z : ℕ) (hz : z = q.val)
    (inb : ∀ a, (![z, 0, 0] : Fin 3 → ℕ) a + S1x1024x384.size a ≤ S4x1024x384.size a)
    (pay : Vec Ideal S1x1024x384 .f32 → FVec Ideal S1x1024x384 .f32)
    (hp : ∀ w p l, @Eq EReal (pay w (ix3 0 p l)) (w (ix3 0 p l) + term x0 x1 (ix3 q p l))) (y : S4x1024x384.Idx) :
    View.TileAt y ![z, 0, 0] S1x1024x384.size (pay (View.ld b (Rect.unit ![z, 0, 0] S1x1024x384.size inb))) (b y + term x0 x1 y : EReal) := by
  intro x hx
  obtain ⟨u, p, l, rfl⟩ : ∃ (u : Fin 1) (p : Fin 1024) (l : Fin 384), x = ix3 u p l := ⟨_, _, _, eq_ix3 (n0 := 1) (n1 := 1024) (n2 := 384) x⟩
  obtain ⟨q', p', l', rfl⟩ : ∃ (q' : Fin 4) (p' : Fin 1024) (l' : Fin 384), y = ix3 q' p' l' := ⟨_, _, _, eq_ix3 (n0 := 4) (n1 := 1024) (n2 := 384) y⟩
  obtain rfl : u = 0 := Subsingleton.elim _ _
  have e0 : q'.val = z + 0 := hx 0
  have e1 : p'.val = 0 + p.val := hx 1
  have e2 : l'.val = 0 + l.val := hx 2
  obtain rfl : q' = q := Fin.ext (by omega)
  obtain rfl : p' = p := Fin.ext (by omega)
  obtain rfl : l' = l := Fin.ext (by omega)
  refine (hp _ p' l').trans (congrArg (fun a : EReal => a + term x0 x1 (ix3 q' p' l')) ?_)
  exact View.ld_unit_apply_of _ _ _ _ _ (ix3 q' p' l') fun a => match a with
    | 0 => e0
    | 1 => e1
    | 2 => e2

section Cases
variable (d : Dev nD) (i : grid0.Coords) (a0 : Memref sig .tc .vmem S2048x1024 .bf16) (h0 : a0.IsWhole) (a1 : Memref sig .tc .vmem S2048x1536 .bf16) (h1 : a1.IsWhole)
  (a2 : Memref sig .tc .vmem S4x1024x384 .f32) (h2 : a2.IsWhole)
  (x0 : Vec Ideal S2048x1024 .bf16) (x1 : Vec Ideal S2048x1536 .bf16) (acc : Vec Ideal S4x1024x384 .f32)

theorem out_A (c : cond0_0 i) (y : S4x1024x384.Idx) :
    @Eq EReal (out0_A_2 (F := Ideal) d i a0 h0 a1 h1 a2 h2 c x0 x1 y) (k0_pay2 (F := Ideal) y + term x0 x1 y) := by
  unfold out0_A_2
  rw [View.read_writes_eq_canon _ _ _ (cover0_A_2 (F := Ideal) d i a0 h0 a1 h1 a2 h2 c x0 x1)]
  unfold kernelRun0_A
  dsimp only
  try sl_unfold_words
  simp only [View.readAt_eq_ld, h0.read_unread, h1.read_unread, View.ld_unit_zero (S := S2048x1024) hz2, View.ld_unit_zero (S := S2048x1536) hz2]
  simp (disch := decide) only [↓View.readCov_skip, View.readCov_fill]
  refine Pieces.canon_over y _ _ ?_ ?_
  · exact View.cover_of_tiled (s := S4x1024x384) _ ![1, 1024, 384] (by rfl) y
  simp only [List.dropLast_cons₂, List.dropLast_singleton]
  exact View.allAt_cons_unit _ _ _ _ _ (piece x0 x1 _ 3 _ rfl _ _ (pay1_at x0 x1) y) <| View.allAt_cons_unit _ _ _ _ _ (piece x0 x1 _ 2 _ rfl _ _ (pay6_at x0 x1) y) <|
    View.allAt_cons_unit _ _ _ _ _ (piece x0 x1 _ 1 _ rfl _ _ (pay5_at x0 x1) y) <| View.allAt_cons_unit _ _ _ _ _ (piece x0 x1 _ 0 _ rfl _ _ (pay4_at x0 x1) y) <|
    View.allAt_nil _ _

theorem out_B (c : ¬cond0_0 i) (y : S4x1024x384.Idx) :
    @Eq EReal (out0_B_2 (F := Ideal) d i a0 h0 a1 h1 a2 h2 c x0 x1 acc y) (acc y + term x0 x1 y) := by
  unfold out0_B_2
  have hc := cover0_B_2 (F := Ideal) d i a0 h0 a1 h1 a2 h2 c x0 x1 acc
  rw [View.read_writes_eq_canon _ _ _ hc]
  refine View.canon_eq_of_allAt _ y _ (hc y) ?_
  unfold kernelRun0_B
  dsimp only
  try sl_unfold_words
  simp only [View.readAt_eq_ld, h0.read_unread, h1.read_unread, h2.read_unread, View.ld_unit_zero (S := S2048x1024) hz2, View.ld_unit_zero (S := S2048x1536) hz2]
  exact View.allAt_cons_unit _ _ _ _ _ (piece x0 x1 acc 3 _ rfl _ _ (pay1_at x0 x1) y) <| View.allAt_cons_unit _ _ _ _ _ (piece x0 x1 acc 2 _ rfl _ _ (pay6_at x0 x1) y) <|
    View.allAt_cons_unit _ _ _ _ _ (piece x0 x1 acc 1 _ rfl _ _ (pay5_at x0 x1) y) <| View.allAt_cons_unit _ _ _ _ _ (piece x0 x1 acc 0 _ rfl _ _ (pay4_at x0 x1) y) <|
    View.allAt_nil _ _

end Cases

theorem place (t : Fin cfg0.N) (X : Vec Ideal S4x1024x384 .f32) (q : Fin 4) (p : Fin 1024) (l : Fin 384) :
    X ((win0_2.blk t).view.emb (ix3 q p l)) = X (ix3 q p l) := by
  blk_ext [index2 t]

theorem h_blk (c : Dev nD) (t : Fin cfg0.N) (k : Fin 2048) (p : Fin 1024) (h : 2048 * t.val + k.val < 8192) :
    iblk m c 0 t (ix2 k p) = hArg m c (ix2 ⟨2048 * t.val + k.val, h⟩ p) := by
  blk_ext! [iblk, V_main_arg0, index0 t]

theorem d_blk (c : Dev nD) (t : Fin cfg0.N) (k : Fin 2048) (l : Fin 1536) (h : 2048 * t.val + k.val < 8192) :
    iblk m c 1 t (ix2 k l) = dArg m c (ix2 ⟨2048 * t.val + k.val, h⟩ l) := by
  blk_ext! [iblk, V_main_arg1, index1 t]

/-- The result array holds the gradient. -/
theorem final (c : Dev nD) : (dats m 0 c).arrAt 2 cfg0.N = grad (hArg m c) (dArg m c) :=
  (dats m 0 c).arrAt_eq_of_covers 2 _ (by decide +kernel) fun t hf y => by
    blk_simp
    rw [after0_2]
    rw [Pipeline.eq_sum_fin_of_reset_step_apply_of_flush (fun n h => outsAt0 m c n h) 4 (fun _ => 0)
      (fun t => term (iblk m c 0 t) (iblk m c 1 t)) (fun t h j => by
        rw [outsAt0_A m c t h]
        exact (out_A _ _ _ _ _ _ _ _ _ _ _ j).trans (congrArg (· + _) (zero_at j))) (fun t h j => by
        rw [outsAt0_B m c t h]
        exact out_B _ _ _ _ _ _ _ _ _ _ _ _ j) t ((flush0_2 t).mp hf) y]
    obtain ⟨q, p, l, rfl⟩ : ∃ (q : Fin 4) (p : Fin 1024) (l : Fin 384), y = ix3 q p l := ⟨_, _, _, eq_ix3 (n0 := 4) (n1 := 1024) (n2 := 384) y⟩
    have ht : t.val < 4 := t.isLt.trans_eq N_0
    refine Eq.trans ?_ (place t _ _ _ _).symm
    refine (zero_add (M := EReal) _).trans ?_
    unfold term grad
    simp only [ix3_0, ix3_1, ix3_2]
    refine Fin.sum_mul_add_congr (M := EReal) fun s k hk => ?_
    have hq : 4 * (t.val / 4) + s.val = s.val := by omega
    rw [h_blk m c _ k p (by dsimp only; omega), d_blk m c _ k _ (by dsimp only; omega)]
    simp only [hq, Nat.mul_comm 2048]

end Cert.QkvWgradIdeal.Array

end
-- ==== Proof.QkvWgradClaims.lean ====
/-
  The claims about the gradient of the attention's joined weights: the call runs, and over the extended reals its result
  is the reference's.
-/
module

public import proofs.«01_k».proof.Defs
public import proofs.«01_k».proof.Proof.Gen.QkvWgrad.Frame
public import proofs.«01_k».proof.Proof.Gen.QkvWgradIdeal.Frame
public import proofs.«01_k».proof.Proof.Gen.QkvWgradIdeal.Value
public import proofs.«01_k».proof.Proof.Gen.QkvWgradRefIdeal.Run
public import proofs.«01_k».proof.Proof.Gen.QkvWgradRefIdeal.Read
public import proofs.«01_k».proof.Proof.FfnReal
public import proofs.«01_k».proof.Proof.QkvWgradArray
public import Idealize.ShloMosaic.Adequacy

@[expose] public section

set_option maxRecDepth 16384

noncomputable section

namespace Cert.Proof.QkvWgrad

open Idealize.ShloMosaic Idealize.SL.Sem Cert.QkvWgradRefIdeal.Read Cert.QkvWgradIdeal.Array Cert.Proof.Reals

theorem ref_grad (x0 : Vec Ideal Cert.QkvWgradRefIdeal.S8192x1024 .bf16) (x1 : Vec Ideal Cert.QkvWgradRefIdeal.S8192x1536 .bf16) :
    val_main_v7 (F := Ideal) x0 x1 = grad x0 x1 := by
  funext i
  obtain ⟨q, p, l, rfl⟩ : ∃ (q : Fin 4) (p : Fin 1024) (l : Fin 384), i = ix3 q p l := ⟨_, _, _, eq_ix3 (n0 := 4) (n1 := 1024) (n2 := 384) i⟩
  have e : @Eq EReal (val_main_v7 (F := Ideal) x0 x1 (ix3 q p l)) (∑ t : Fin 8192, x1 (ix2 t (col q l)) * x0 (ix2 t p)) := by
    unfold col
    pointwise [val_main_v7, val_main_v6, val_main_v5, val_main_v4, val_main_v3, val_main_v1]
  refine e.trans ?_
  unfold grad
  simp only [ix3_0, ix3_1, ix3_2]
  exact Finset.sum_congr (M := EReal) rfl fun t _ => mul_comm (G := EReal) _ _

theorem frame : Cert.quiescent_QkvWgrad := fun m ρ _ => Cert.QkvWgrad.Gen.frame m ρ

theorem frame_ideal : Cert.quiescent_QkvWgradIdeal := fun m ρ _ => Cert.QkvWgradIdeal.Gen.frame m ρ

theorem frame_ref : Cert.quiescent_QkvWgradRefIdeal := fun m ρ _ =>
  (θ_run Cert.QkvWgradRefIdeal.defs _ _).mono (fun r h => ⟨fun c => (h c).2, Idealize.ShloMosaic.sem_eq_zero_of_no_sems (by decide) r.2⟩)
    (Cert.QkvWgradRefIdeal.Value.run (F := Ideal) m ρ)

theorem preserves : Cert.preserves_QkvWgrad_QkvWgradIdeal := trivial

/-- Both programs end with the array of QkvWgradArray.lean, computed from arguments that agree. -/
theorem algebraic : Cert.algebraic_QkvWgradIdeal_QkvWgradRefIdeal := by
  intro m ρ m' ρ' hpre hagree
  refine ⟨fun c => grad (hArg m c) (dArg m c), ?_, ?_⟩
  · exact (θ_run Cert.QkvWgradIdeal.defs _ _).mono
      (fun _ h c => ⟨(h c).1.trans (final m c), (h c).2⟩)
      (Cert.QkvWgradIdeal.Value.run_blocks m ρ)
  · refine (θ_run Cert.QkvWgradRefIdeal.defs _ _).mono
      (fun _ h c => ⟨(h c).1.trans ?_, (h c).2⟩)
      (Cert.QkvWgradRefIdeal.Value.run (F := Ideal) m' ρ')
    · rw [val_main_v7_eq, (hagree c).1, (hagree c).2]
      exact ref_grad _ _

end Cert.Proof.QkvWgrad

end
-- ==== Proof.OutArray.lean ====
/-
  The residual addition of a mixer's last product with the next norm: the call's two result arrays as functions of its arguments
  over the extended reals.
-/
module

public import proofs.«01_k».proof.Proof.Gen.OutIdeal.Value
public import proofs.«01_k».proof.Proof.FfnReal
public import proofs.«01_k».proof.Proof.RowNorm
public import Idealize.ShloMosaic.Lib.Pointwise
public import Idealize.ShloMosaic.Lib.Pipeline.ValueKit.Point
public import Idealize.ShloMosaic.Lib.Pipeline.ValueKit.Acc
public import Idealize.ShloMosaic.Lib.StableHlo.ReadAt

@[expose] public section

set_option maxRecDepth 16384

noncomputable section

namespace Cert.OutIdeal.Array

open Cert.OutIdeal Cert.OutIdeal.Gen Cert.OutIdeal.Value Idealize.ShloMosaic Idealize.ShloMosaic.TcCoe Idealize.SL.Sem Cert.Proof Cert.Proof.Reals
open Idealize.ShloMosaic.Pipeline (Dat)

variable (m : (ℓ : Loc nD τ sig) → Buf (Elt Ideal) ℓ) (ρ : Dev nD → PrngReg)

theorem index0 : ∀ t : Fin cfg0.N, win0_0.index t = ![t.val, 0] := (by decide +kernel : ∀ t : Fin grid0.N, _)
theorem index1 : ∀ t : Fin cfg0.N, win0_1.index t = ![0, 0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)

abbrev aArg (c : Dev nD) : Vec Ideal S8192x1024 .bf16 := m ((c.tc : Thread nD τ).loc main_arg0)
abbrev wArg (c : Dev nD) : Vec Ideal S1x1024x1024 .bf16 := m ((c.tc : Thread nD τ).loc main_arg1)
abbrev resArg (c : Dev nD) : Vec Ideal S8192x1024 .f32 := m ((c.tc : Thread nD τ).loc main_arg2)
abbrev gainArg (c : Dev nD) : Vec Ideal S1x1024 .f32 := m ((c.tc : Thread nD τ).loc main_arg3)

/-- A row of the residual stream after the product is added. -/
def row (a : Vec Ideal S8192x1024 .bf16) (w : Vec Ideal S1x1024x1024 .bf16) (res : Vec Ideal S8192x1024 .f32) (t : Fin 8192) (j : Fin 1024) : EReal :=
  res (ix2 t j) + ∑ k : Fin 1024, a (ix2 t k) * w (ix3 0 k j)

/-- The residual stream. -/
def stream (a : Vec Ideal S8192x1024 .bf16) (w : Vec Ideal S1x1024x1024 .bf16) (res : Vec Ideal S8192x1024 .f32) : Vec Ideal S8192x1024 .f32 :=
  fun i => row a w res (i 0) (i 1)

/-- The normed residual stream. -/
def normed (a : Vec Ideal S8192x1024 .bf16) (w : Vec Ideal S1x1024x1024 .bf16) (res : Vec Ideal S8192x1024 .f32) (gain : Vec Ideal S1x1024 .f32) :
    Vec Ideal S8192x1024 .bf16 :=
  fun i => (row a w res (i 0) (i 1) * RowNorm.scale (row a w res (i 0)) * gain (ix2 0 (i 1)) : EReal)

/-- A row of one tile's product added to its rows. -/
def tile (x0 : Vec Ideal S1024x1024 .f32) (x1 : Vec Ideal S1024x1024 .bf16) (x2 : Vec Ideal S1x1024x1024 .bf16) (p l : Fin 1024) : EReal :=
  x0 (ix2 p l) + ∑ k : Fin 1024, x1 (ix2 p k) * x2 (ix3 0 k l)

theorem pay1_at (x0 : Vec Ideal S1024x1024 .f32) (x1 : Vec Ideal S1024x1024 .bf16) (x2 : Vec Ideal S1x1024x1024 .bf16) (p l : Fin 1024) :
    @Eq EReal (k0_pay1 x0 x1 x2 (ix2 p l)) (tile x0 x1 x2 p l) := by
  unfold k0_pay1 tile
  pointwise

theorem pay2_at (x0 : Vec Ideal S1024x1024 .f32) (x1 : Vec Ideal S1024x1024 .bf16) (x2 : Vec Ideal S1x1024x1024 .bf16) (x3 : Vec Ideal S1x1024 .f32)
    (p l : Fin 1024) :
    @Eq EReal (k0_pay2 x0 x1 x2 x3 (ix2 p l)) (tile x0 x1 x2 p l * RowNorm.scale (tile x0 x1 x2 p) * x3 (ix2 0 l)) := by
  have e : tile x0 x1 x2 p = fun l => (k0_pay1 (F := Ideal) x0 x1 x2 (ix2 p l) : EReal) := funext fun l => (pay1_at x0 x1 x2 p l).symm
  rw [e]
  unfold k0_pay2 RowNorm.scale RowNorm.mean
  generalize k0_pay1 (F := Ideal) x0 x1 x2 = y
  pointwise

theorem a_blk (c : Dev nD) (t : Fin cfg0.N) (p : Fin 1024) (k : Fin 1024) (h : 1024 * t.val + p.val < 8192) :
    iblk m c 0 t (ix2 p k) = aArg m c (ix2 ⟨1024 * t.val + p.val, h⟩ k) := by
  blk_ext! [iblk, V_main_arg0, index0 t]

theorem w_blk (c : Dev nD) (t : Fin cfg0.N) (k : Fin 1024) (l : Fin 1024) : iblk m c 1 t (ix3 0 k l) = wArg m c (ix3 0 k l) := by
  blk_ext! [iblk, V_main_arg1, index1 t]

theorem res_blk (c : Dev nD) (t : Fin cfg0.N) (p l : Fin 1024) (h : 1024 * t.val + p.val < 8192) :
    iblk m c 2 t (ix2 p l) = resArg m c (ix2 ⟨1024 * t.val + p.val, h⟩ l) := by
  blk_ext! [iblk, V_main_arg2, index2 t]

theorem gain_blk (c : Dev nD) (t : Fin cfg0.N) (l : Fin 1024) : iblk m c 3 t (ix2 0 l) = gainArg m c (ix2 0 l) := by
  blk_ext! [iblk, V_main_arg3, index3 t]

theorem place4 (t : Fin cfg0.N) (X : Vec Ideal S8192x1024 .f32) (p l : Fin 1024) (h : 1024 * t.val + p.val < 8192) :
    X ((win0_4.blk t).view.emb (ix2 p l)) = X (ix2 ⟨1024 * t.val + p.val, h⟩ l) := by
  blk_ext [index4 t]

theorem place5 (t : Fin cfg0.N) (X : Vec Ideal S8192x1024 .bf16) (p l : Fin 1024) (h : 1024 * t.val + p.val < 8192) :
    X ((win0_5.blk t).view.emb (ix2 p l)) = X (ix2 ⟨1024 * t.val + p.val, h⟩ l) := by
  blk_ext [index5 t]

theorem row_tile (c : Dev nD) (t : Fin cfg0.N) (p : Fin 1024) (h : 1024 * t.val + p.val < 8192) :
    tile (iblk m c 2 t) (iblk m c 0 t) (iblk m c 1 t) p = row (aArg m c) (wArg m c) (resArg m c) ⟨1024 * t.val + p.val, h⟩ := by
  funext l
  unfold tile row
  rw [res_blk m c t p l h]
  refine congrArg (fun b : EReal => (resArg m c (ix2 ⟨1024 * t.val + p.val, h⟩ l) : EReal) + b) ?_
  refine Finset.sum_congr (M := EReal) rfl fun k _ => ?_
  rw [a_blk m c t p k h, w_blk m c t k l]

theorem hz2 : (![0, 0] : Fin 2 → Nat) = 0 := by decide
theorem hz3 : (![0, 0, 0] : Fin 3 → Nat) = 0 := by decide

theorem final4 (c : Dev nD) : (dats m 0 c).arrAt 4 cfg0.N = stream (aArg m c) (wArg m c) (resArg m c) :=
  (dats m 0 c).arrAt_eq_of_covers 4 _ (by decide +kernel) fun t hf y => by
    blk_simp
    rw [after0_4]
    obtain ⟨p, l, rfl⟩ : ∃ (p l : Fin 1024), y = ix2 p l := ⟨_, _, eq_ix2 (n0 := 1024) (n1 := 1024) y⟩
    have ht : t.val < 8 := t.isLt.trans_eq N_0
    refine Eq.trans ?_ (place4 t _ _ _ (by omega)).symm
    unfold out0_4 stream
    rw [View.canon_unit_zero (S := S1024x1024) hz2]
    simp only [View.ld_unit_zero (S := S1024x1024) hz2, View.ld_unit_zero (S := S1x1024x1024) hz3, View.ld_unit_zero (S := S1x1024) hz2, ix2_0, ix2_1]
    refine (pay1_at _ _ _ p l).trans ?_
    rw [row_tile m c t p (by omega)]

theorem final5 (c : Dev nD) : (dats m 0 c).arrAt 5 cfg0.N = normed (aArg m c) (wArg m c) (resArg m c) (gainArg m c) :=
  (dats m 0 c).arrAt_eq_of_covers 5 _ (by decide +kernel) fun t hf y => by
    blk_simp
    rw [after0_5]
    obtain ⟨p, l, rfl⟩ : ∃ (p l : Fin 1024), y = ix2 p l := ⟨_, _, eq_ix2 (n0 := 1024) (n1 := 1024) y⟩
    have ht : t.val < 8 := t.isLt.trans_eq N_0
    refine Eq.trans ?_ (place5 t _ _ _ (by omega)).symm
    unfold out0_5 normed
    rw [View.canon_unit_zero (S := S1024x1024) hz2]
    simp only [View.ld_unit_zero (S := S1024x1024) hz2, View.ld_unit_zero (S := S1x1024x1024) hz3, View.ld_unit_zero (S := S1x1024) hz2, ix2_0, ix2_1]
    refine (pay2_at _ _ _ _ p l).trans ?_
    rw [row_tile m c t p (by omega), gain_blk m c t l]

end Cert.OutIdeal.Array

end
-- ==== Proof.OutClaims.lean ====
/-
  The claims about the residual addition of a mixer's last product with the next norm: the call runs, and over the extended reals
  its two results are the reference's.
-/
module

public import proofs.«01_k».proof.Defs
public import proofs.«01_k».proof.Proof.Gen.Out.Frame
public import proofs.«01_k».proof.Proof.Gen.OutIdeal.Frame
public import proofs.«01_k».proof.Proof.Gen.OutIdeal.Value
public import proofs.«01_k».proof.Proof.Gen.OutRefIdeal.Run
public import proofs.«01_k».proof.Proof.Gen.OutRefIdeal.Read
public import proofs.«01_k».proof.Proof.FfnReal
public import proofs.«01_k».proof.Proof.RowNorm
public import proofs.«01_k».proof.Proof.OutArray
public import Idealize.ShloMosaic.Adequacy

@[expose] public section

set_option maxRecDepth 16384

noncomputable section

namespace Cert.Proof.Out

open Idealize.ShloMosaic Idealize.SL.Sem Cert.OutRefIdeal.Read Cert.OutIdeal.Array Cert.Proof.Reals

section Reference

variable (x0 : Vec Ideal Cert.OutRefIdeal.S8192x1024 .bf16) (x1 : Vec Ideal Cert.OutRefIdeal.S1x1024x1024 .bf16)
variable (x2 : Vec Ideal Cert.OutRefIdeal.S8192x1024 .f32) (x3 : Vec Ideal Cert.OutRefIdeal.S1x1024 .f32)

theorem row_at (t : Fin 8192) (l : Fin 1024) : @Eq EReal (val_main_v4 (F := Ideal) x0 x1 x2 (ix2 t l)) (row x0 x1 x2 t l) := by
  unfold row
  pointwise [val_main_v4, val_main_v3, val_main_v2, val_main_v1, val_main_v0]

theorem normed_at (t : Fin 8192) (l : Fin 1024) : @Eq EReal (val_main_v17 (F := Ideal) x0 x1 x2 x3 (ix2 t l))
    (row x0 x1 x2 t l * RowNorm.scale (row x0 x1 x2 t) * x3 (ix2 0 l)) := by
  have e : row x0 x1 x2 t = fun l => (val_main_v4 (F := Ideal) x0 x1 x2 (ix2 t l) : EReal) := funext fun l => (row_at x0 x1 x2 t l).symm
  rw [e]
  unfold RowNorm.scale RowNorm.mean
  pointwise [val_main_v17, val_main_v16, val_main_v15, val_main_v14, val_main_v13, val_main_v12, val_main_v11, val_main_v10, val_main_v9, val_main_v8,
    val_main_v7, val_main_v6, val_main_v5, val_main_cst, val_main_cst_0, val_main_cst_1]

end Reference

theorem ref_stream (x0 : Vec Ideal Cert.OutRefIdeal.S8192x1024 .bf16) (x1 : Vec Ideal Cert.OutRefIdeal.S1x1024x1024 .bf16) (x2 : Vec Ideal Cert.OutRefIdeal.S8192x1024 .f32) :
    val_main_v4 (F := Ideal) x0 x1 x2 = stream x0 x1 x2 := by
  funext i
  obtain ⟨t, l, rfl⟩ : ∃ (t : Fin 8192) (l : Fin 1024), i = ix2 t l := ⟨_, _, eq_ix2 (n0 := 8192) (n1 := 1024) i⟩
  exact row_at x0 x1 x2 t l

theorem ref_normed (x0 : Vec Ideal Cert.OutRefIdeal.S8192x1024 .bf16) (x1 : Vec Ideal Cert.OutRefIdeal.S1x1024x1024 .bf16) (x2 : Vec Ideal Cert.OutRefIdeal.S8192x1024 .f32)
    (x3 : Vec Ideal Cert.OutRefIdeal.S1x1024 .f32) : val_main_v17 (F := Ideal) x0 x1 x2 x3 = normed x0 x1 x2 x3 := by
  funext i
  obtain ⟨t, l, rfl⟩ : ∃ (t : Fin 8192) (l : Fin 1024), i = ix2 t l := ⟨_, _, eq_ix2 (n0 := 8192) (n1 := 1024) i⟩
  exact normed_at x0 x1 x2 x3 t l

theorem frame : Cert.quiescent_Out := fun m ρ _ => Cert.Out.Gen.frame m ρ

theorem frame_ideal : Cert.quiescent_OutIdeal := fun m ρ _ => Cert.OutIdeal.Gen.frame m ρ

theorem frame_ref : Cert.quiescent_OutRefIdeal := fun m ρ _ =>
  (θ_run Cert.OutRefIdeal.defs _ _).mono (fun r h => ⟨fun c => (h c).2.2, Idealize.ShloMosaic.sem_eq_zero_of_no_sems (by decide) r.2⟩)
    (Cert.OutRefIdeal.Value.run (F := Ideal) m ρ)

theorem preserves : Cert.preserves_Out_OutIdeal := trivial

/-- Both programs end with the two arrays of OutArray.lean, computed from arguments that agree. -/
theorem algebraic : Cert.algebraic_OutIdeal_OutRefIdeal := by
  intro m ρ m' ρ' hpre hagree
  refine ⟨fun c => stream (aArg m c) (wArg m c) (resArg m c), fun c => normed (aArg m c) (wArg m c) (resArg m c) (gainArg m c), ?_, ?_⟩
  · exact (θ_run Cert.OutIdeal.defs _ _).mono
      (fun _ h c => ⟨(h c).1.trans (final4 m c), (h c).2.1.trans (final5 m c), (h c).2.2⟩)
      (Cert.OutIdeal.Value.run_blocks m ρ)
  · refine (θ_run Cert.OutRefIdeal.defs _ _).mono
      (fun _ h c => ⟨(h c).1.trans ?_, (h c).2.1.trans ?_, (h c).2.2⟩)
      (Cert.OutRefIdeal.Value.run (F := Ideal) m' ρ')
    · rw [val_main_v4_eq, (hagree c).1, (hagree c).2.1, (hagree c).2.2.1]
      exact ref_stream _ _ _
    · rw [val_main_v17_eq, (hagree c).1, (hagree c).2.1, (hagree c).2.2.1, (hagree c).2.2.2]
      exact ref_normed _ _ _ _

end Cert.Proof.Out

end
-- ==== Proof.OutDgradArray.lean ====
/-
  The gradient at the input of a mixer's last product: the call's result array as a function of its arguments over the
  extended reals.
-/
module

public import proofs.«01_k».proof.Proof.Gen.OutDgradIdeal.Value
public import proofs.«01_k».proof.Proof.FfnReal
public import Idealize.ShloMosaic.Lib.Pointwise
public import Idealize.ShloMosaic.Lib.Pipeline.ValueKit.Point
public import Idealize.ShloMosaic.Lib.Pipeline.ValueKit.Acc
public import Idealize.ShloMosaic.Lib.StableHlo.ReadAt

@[expose] public section

set_option maxRecDepth 16384

noncomputable section

namespace Cert.OutDgradIdeal.Array

open Cert.OutDgradIdeal Cert.OutDgradIdeal.Gen Cert.OutDgradIdeal.Value Idealize.ShloMosaic Idealize.ShloMosaic.TcCoe Idealize.SL.Sem Cert.Proof.Reals
open Idealize.ShloMosaic.Pipeline (Dat)

variable (m : (ℓ : Loc nD τ sig) → Buf (Elt Ideal) ℓ) (ρ : Dev nD → PrngReg)

theorem index0 : ∀ t : Fin cfg0.N, win0_0.index t = ![t.val, 0] := (by decide +kernel : ∀ t : Fin grid0.N, _)
theorem index1 : ∀ t : Fin cfg0.N, win0_1.index t = ![0, 0, 0] := (by decide +kernel : ∀ t : Fin grid0.N, _)
theorem index2 : ∀ t : Fin cfg0.N, win0_2.index t = ![t.val, 0] := (by decide +kernel : ∀ t : Fin grid0.N, _)

abbrev dxArg (c : Dev nD) : Vec Ideal S8192x1024 .bf16 := m ((c.tc : Thread nD τ).loc main_arg0)
abbrev wArg (c : Dev nD) : Vec Ideal S1x1024x1024 .bf16 := m ((c.tc : Thread nD τ).loc main_arg1)

/-- The gradient at the product's input: the gradient at its result by the weights' columns. -/
def back (dx : Vec Ideal S8192x1024 .bf16) (w : Vec Ideal S1x1024x1024 .bf16) : Vec Ideal S8192x1024 .bf16 :=
  fun i => (∑ k : Fin 1024, dx (ix2 (i 0) k) * w (ix3 0 (i 1) k) : EReal)

theorem pay1_at (x0 : Vec Ideal S1024x1024 .bf16) (x1 : Vec Ideal S1x1024x1024 .bf16) (p l : Fin 1024) :
    @Eq EReal (k0_pay1 x0 x1 (ix2 p l)) (∑ k : Fin 1024, x0 (ix2 p k) * x1 (ix3 0 l k)) := by
  unfold k0_pay1
  pointwise

theorem dx_blk (c : Dev nD) (t : Fin cfg0.N) (p k : Fin 1024) (h : 1024 * t.val + p.val < 8192) :
    iblk m c 0 t (ix2 p k) = dxArg m c (ix2 ⟨1024 * t.val + p.val, h⟩ k) := by
  blk_ext! [iblk, V_main_arg0, index0 t]

theorem w_blk (c : Dev nD) (t : Fin cfg0.N) (l k : Fin 1024) : iblk m c 1 t (ix3 0 l k) = wArg m c (ix3 0 l k) := by
  blk_ext! [iblk, V_main_arg1, index1 t]

theorem place2 (t : Fin cfg0.N) (X : Vec Ideal S8192x1024 .bf16) (p l : Fin 1024) (h : 1024 * t.val + p.val < 8192) :
    X ((win0_2.blk t).view.emb (ix2 p l)) = X (ix2 ⟨1024 * t.val + p.val, h⟩ l) := by
  blk_ext [index2 t]

theorem hz2 : (![0, 0] : Fin 2 → Nat) = 0 := by decide
theorem hz3 : (![0, 0, 0] : Fin 3 → Nat) = 0 := by decide

theorem final2 (c : Dev nD) : (dats m 0 c).arrAt 2 cfg0.N = back (dxArg m c) (wArg m c) :=
  (dats m 0 c).arrAt_eq_of_covers 2 _ (by decide +kernel) fun t hf y => by
    blk_simp
    rw [after0_2]
    obtain ⟨p, l, rfl⟩ : ∃ (p l : Fin 1024), y = ix2 p l := ⟨_, _, eq_ix2 (n0 := 1024) (n1 := 1024) y⟩
    have ht : t.val < 8 := t.isLt.trans_eq N_0
    refine Eq.trans ?_ (place2 t _ _ _ (by omega)).symm
    unfold out0_2 back
    rw [View.canon_unit_zero (S := S1024x1024) hz2]
    simp only [View.ld_unit_zero (S := S1024x1024) hz2, View.ld_unit_zero (S := S1x1024x1024) hz3, ix2_0, ix2_1]
    refine (pay1_at _ _ p l).trans ?_
    refine Finset.sum_congr (M := EReal) rfl fun k _ => ?_
    rw [dx_blk m c t p k (by omega), w_blk m c t l k]

end Cert.OutDgradIdeal.Array

end
-- ==== Proof.OutDgradClaims.lean ====
/-
  The claims about the gradient at the input of a mixer's last product: the call runs, and over the extended reals its
  result is the reference's.
-/
module

public import proofs.«01_k».proof.Defs
public import proofs.«01_k».proof.Proof.Gen.OutDgrad.Frame
public import proofs.«01_k».proof.Proof.Gen.OutDgradIdeal.Frame
public import proofs.«01_k».proof.Proof.Gen.OutDgradIdeal.Value
public import proofs.«01_k».proof.Proof.Gen.OutDgradRefIdeal.Run
public import proofs.«01_k».proof.Proof.Gen.OutDgradRefIdeal.Read
public import proofs.«01_k».proof.Proof.FfnReal
public import proofs.«01_k».proof.Proof.OutDgradArray
public import Idealize.ShloMosaic.Adequacy

@[expose] public section

set_option maxRecDepth 16384

noncomputable section

namespace Cert.Proof.OutDgrad

open Idealize.ShloMosaic Idealize.SL.Sem Cert.OutDgradRefIdeal.Read Cert.OutDgradIdeal.Array Cert.Proof.Reals

theorem ref_back (x0 : Vec Ideal Cert.OutDgradRefIdeal.S8192x1024 .bf16) (x1 : Vec Ideal Cert.OutDgradRefIdeal.S1x1024x1024 .bf16) :
    val_main_v6 (F := Ideal) x0 x1 = back x0 x1 := by
  funext i
  obtain ⟨t, c, rfl⟩ : ∃ (t : Fin 8192) (c : Fin 1024), i = ix2 t c := ⟨_, _, eq_ix2 (n0 := 8192) (n1 := 1024) i⟩
  unfold back
  simp only [ix2_0, ix2_1]
  pointwise [val_main_v6, val_main_v5, val_main_v4, val_main_v1, val_main_v0]

theorem frame : Cert.quiescent_OutDgrad := fun m ρ _ => Cert.OutDgrad.Gen.frame m ρ

theorem frame_ideal : Cert.quiescent_OutDgradIdeal := fun m ρ _ => Cert.OutDgradIdeal.Gen.frame m ρ

theorem frame_ref : Cert.quiescent_OutDgradRefIdeal := fun m ρ _ =>
  (θ_run Cert.OutDgradRefIdeal.defs _ _).mono (fun r h => ⟨fun c => (h c).2, Idealize.ShloMosaic.sem_eq_zero_of_no_sems (by decide) r.2⟩)
    (Cert.OutDgradRefIdeal.Value.run (F := Ideal) m ρ)

theorem preserves : Cert.preserves_OutDgrad_OutDgradIdeal := trivial

/-- Both programs end with the array of OutDgradArray.lean, computed from arguments that agree. -/
theorem algebraic : Cert.algebraic_OutDgradIdeal_OutDgradRefIdeal := by
  intro m ρ m' ρ' hpre hagree
  refine ⟨fun c => back (dxArg m c) (wArg m c), ?_, ?_⟩
  · exact (θ_run Cert.OutDgradIdeal.defs _ _).mono
      (fun _ h c => ⟨(h c).1.trans (final2 m c), (h c).2⟩)
      (Cert.OutDgradIdeal.Value.run_blocks m ρ)
  · refine (θ_run Cert.OutDgradRefIdeal.defs _ _).mono
      (fun _ h c => ⟨(h c).1.trans ?_, (h c).2⟩)
      (Cert.OutDgradRefIdeal.Value.run (F := Ideal) m' ρ')
    · rw [val_main_v6_eq, (hagree c).1, (hagree c).2]
      exact ref_back _ _

end Cert.Proof.OutDgrad

end
-- ==== Proof.OutWgradArray.lean ====
/-
  The gradient of the weights of a mixer's last product, the call's result array as a function of its arguments over the extended reals.
-/
module

public import proofs.«01_k».proof.Proof.Gen.OutWgradIdeal.Value
public import Idealize.ShloMosaic.Lib.Pointwise
public import Idealize.ShloMosaic.Lib.Pipeline.ValueKit.Point
public import Idealize.ShloMosaic.Lib.Pipeline.ValueKit.Acc

@[expose] public section

set_option maxRecDepth 16384

noncomputable section

namespace Cert.OutWgradIdeal.Array

open Cert.OutWgradIdeal Cert.OutWgradIdeal.Gen Cert.OutWgradIdeal.Value Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem index0 : ∀ t : Fin cfg0.N, win0_0.index t = ![t.val % 4, t.val / 4] := (by decide +kernel : ∀ t : Fin grid0.N, _)
theorem index1 : ∀ t : Fin cfg0.N, win0_1.index t = ![t.val % 4, 0] := (by decide +kernel : ∀ t : Fin grid0.N, _)
theorem index2 : ∀ t : Fin cfg0.N, win0_2.index t = ![t.val / 4, 0] := (by decide +kernel : ∀ t : Fin grid0.N, _)

abbrev aArg (c : Dev nD) : Vec Ideal S8192x1024 .bf16 := m ((c.tc : Thread nD τ).loc main_arg0)
abbrev dxArg (c : Dev nD) : Vec Ideal S8192x1024 .bf16 := m ((c.tc : Thread nD τ).loc main_arg1)

/-- The gradient of the weights of a product: every weight's column of inputs against its column of output gradients. -/
def grad (a : Vec Ideal S8192x1024 .bf16) (dx : Vec Ideal S8192x1024 .bf16) : Vec Ideal S1024x1024 .f32 :=
  fun i => (∑ t : Fin 8192, a (ix2 t (i 0)) * dx (ix2 t (i 1)) : EReal)

/-- One tile's contribution. -/
def term (x0 : Vec Ideal S2048x1024 .bf16) (x1 : Vec Ideal S2048x1024 .bf16) : Vec Ideal S1024x1024 .f32 :=
  fun i => (∑ k : Fin 2048, x0 (ix2 k (i 0)) * x1 (ix2 k (i 1)) : EReal)

theorem pay_at (acc : Vec Ideal S1024x1024 .f32) (x0 : Vec Ideal S2048x1024 .bf16) (x1 : Vec Ideal S2048x1024 .bf16) (y : S1024x1024.Idx) :
    @Eq EReal (k0_pay2 acc x0 x1 y) (acc y + term x0 x1 y) := by
  obtain ⟨p, l, rfl⟩ : ∃ (p : Fin 1024) (l : Fin 1024), y = ix2 p l := ⟨_, _, eq_ix2 (n0 := 1024) (n1 := 1024) y⟩
  unfold k0_pay2 term
  pointwise

theorem zero_at (y : S1024x1024.Idx) : @Eq EReal (k0_pay1 (F := Ideal) y) 0 := by
  unfold k0_pay1
  pointwise

theorem place (t : Fin cfg0.N) (X : Vec Ideal S1024x1024 .f32) (p : Fin 1024) (l : Fin 1024) (h : 1024 * (t.val / 4) + p.val < 1024) :
    X ((win0_2.blk t).view.emb (ix2 p l)) = X (ix2 ⟨1024 * (t.val / 4) + p.val, h⟩ l) := by
  blk_ext [index2 t]

theorem a_blk (c : Dev nD) (t : Fin cfg0.N) (k : Fin 2048) (p : Fin 1024) (h : 2048 * (t.val % 4) + k.val < 8192) (h' : 1024 * (t.val / 4) + p.val < 1024) :
    iblk m c 0 t (ix2 k p) = aArg m c (ix2 ⟨2048 * (t.val % 4) + k.val, h⟩ ⟨1024 * (t.val / 4) + p.val, h'⟩) := by
  blk_ext! [iblk, V_main_arg0, index0 t]

theorem dx_blk (c : Dev nD) (t : Fin cfg0.N) (k : Fin 2048) (l : Fin 1024) (h : 2048 * (t.val % 4) + k.val < 8192) :
    iblk m c 1 t (ix2 k l) = dxArg m c (ix2 ⟨2048 * (t.val % 4) + k.val, h⟩ l) := by
  blk_ext! [iblk, V_main_arg1, index1 t]

/-- The result array holds the gradient. -/
theorem final (c : Dev nD) : (dats m 0 c).arrAt 2 cfg0.N = grad (aArg m c) (dxArg m c) :=
  (dats m 0 c).arrAt_eq_of_covers 2 _ (by decide +kernel) fun t hf y => by
    blk_simp
    rw [after0_2]
    rw [Pipeline.eq_sum_fin_of_reset_step_apply_of_flush (fun n h => outsAt0 m c n h) 4 (fun _ => 0)
      (fun t => term (iblk m c 0 t) (iblk m c 1 t)) (fun t h j => by
        rw [outsAt0_A m c t h, out_A_2_eq]
        exact (pay_at _ _ _ j).trans (congrArg (· + _) (zero_at j))) (fun t h j => by
        rw [outsAt0_B m c t h, out_B_2_eq]
        exact pay_at _ _ _ j) t ((flush0_2 t).mp hf) y]
    obtain ⟨p, l, rfl⟩ : ∃ (p : Fin 1024) (l : Fin 1024), y = ix2 p l := ⟨_, _, eq_ix2 (n0 := 1024) (n1 := 1024) y⟩
    have ht : t.val < 4 := t.isLt.trans_eq N_0
    have hp := p.isLt
    have hd : t.val / 4 < 1 := by omega
    refine Eq.trans ?_ (place t _ _ _ (by omega)).symm
    refine (zero_add (M := EReal) _).trans ?_
    unfold term grad
    simp only [ix2_0, ix2_1]
    refine Fin.sum_mul_add_congr (M := EReal) fun s k hk => ?_
    have hs : (4 * (t.val / 4) + s.val) % 4 = s.val := by omega
    have hq : (4 * (t.val / 4) + s.val) / 4 = t.val / 4 := by omega
    rw [a_blk m c _ k p (by dsimp only; omega) (by dsimp only; omega), dx_blk m c _ k l (by dsimp only; omega)]
    simp only [hs, hq, Nat.mul_comm 2048]

end Cert.OutWgradIdeal.Array

end
-- ==== Proof.OutWgradClaims.lean ====
/-
  The claims about the gradient of the weights of a mixer's last product: the call runs, and over the extended reals its result is the reference's.
-/
module

public import proofs.«01_k».proof.Defs
public import proofs.«01_k».proof.Proof.Gen.OutWgrad.Frame
public import proofs.«01_k».proof.Proof.Gen.OutWgradIdeal.Frame
public import proofs.«01_k».proof.Proof.Gen.OutWgradIdeal.Value
public import proofs.«01_k».proof.Proof.Gen.OutWgradRefIdeal.Run
public import proofs.«01_k».proof.Proof.Gen.OutWgradRefIdeal.Read
public import proofs.«01_k».proof.Proof.OutWgradArray
public import Idealize.ShloMosaic.Adequacy

@[expose] public section

set_option maxRecDepth 16384

noncomputable section

namespace Cert.Proof.OutWgrad

open Idealize.ShloMosaic Idealize.SL.Sem Cert.OutWgradRefIdeal.Read Cert.OutWgradIdeal.Array

/-- The reference's gradient, transposed from the product the derivative makes. -/
theorem ref_eq (a : Vec Ideal Cert.OutWgradRefIdeal.S8192x1024 .bf16) (dx : Vec Ideal Cert.OutWgradRefIdeal.S8192x1024 .bf16) :
    val_main_v5 (F := Ideal) a dx = grad a dx := by
  funext i
  obtain ⟨p, l, rfl⟩ : ∃ (p : Fin 1024) (l : Fin 1024), i = ix2 p l := ⟨_, _, eq_ix2 (n0 := 1024) (n1 := 1024) i⟩
  unfold grad
  pointwise [val_main_v5, val_main_v4, val_main_v3, val_main_v1]
  exact Finset.sum_congr (M := EReal) rfl fun t _ => mul_comm (G := EReal) _ _

theorem frame : Cert.quiescent_OutWgrad := fun m ρ _ => Cert.OutWgrad.Gen.frame m ρ

theorem frame_ideal : Cert.quiescent_OutWgradIdeal := fun m ρ _ => Cert.OutWgradIdeal.Gen.frame m ρ

theorem frame_ref : Cert.quiescent_OutWgradRefIdeal := fun m ρ _ =>
  (θ_run Cert.OutWgradRefIdeal.defs _ _).mono (fun r h => ⟨fun c => (h c).2, Idealize.ShloMosaic.sem_eq_zero_of_no_sems (by decide) r.2⟩)
    (Cert.OutWgradRefIdeal.Value.run (F := Ideal) m ρ)

theorem preserves : Cert.preserves_OutWgrad_OutWgradIdeal := trivial

/-- Both programs end with the gradient of OutWgradArray.lean, computed from arguments that agree. -/
theorem algebraic : Cert.algebraic_OutWgradIdeal_OutWgradRefIdeal := by
  intro m ρ m' ρ' _ hagree
  refine ⟨fun c => grad (aArg m c) (dxArg m c), ?_, ?_⟩
  · exact (θ_run Cert.OutWgradIdeal.defs _ _).mono (fun _ h c => ⟨(h c).1.trans (final m c), (h c).2⟩)
      (Cert.OutWgradIdeal.Value.run_blocks m ρ)
  · refine (θ_run Cert.OutWgradRefIdeal.defs _ _).mono (fun _ h c => ⟨(h c).1.trans ?_, (h c).2⟩)
      (Cert.OutWgradRefIdeal.Value.run (F := Ideal) m' ρ')
    rw [val_main_v5_eq, (hagree c).1, (hagree c).2]
    exact ref_eq _ _

end Cert.Proof.OutWgrad

end
-- ==== Proof.ConvFwdArray.lean ====
/-
  The forward short convolution, its result as a function of its arguments over the extended reals: the gate times the
  causal convolution of the gated value, column by column.
-/
module

public import proofs.«01_k».proof.Proof.Gen.ConvFwdIdeal.Value
public import proofs.«01_k».proof.Proof.ConvColumn
public import proofs.«01_k».proof.Proof.ConvArray
public import Idealize.ShloMosaic.Lib.Pointwise
public import Idealize.ShloMosaic.Lib.Pipeline.ValueKit.Point
public import Idealize.ShloMosaic.Lib.Pipeline.ValueKit.Acc
public import Idealize.ShloMosaic.Lib.StableHlo.ReadAt

@[expose] public section

set_option maxRecDepth 16384

noncomputable section

namespace Cert.ConvFwdIdeal.Array

open Cert.ConvFwdIdeal Cert.ConvFwdIdeal.Gen Cert.ConvFwdIdeal.Value Idealize.ShloMosaic Idealize.ShloMosaic.TcCoe Idealize.SL.Sem Cert.ConvColumn
open Idealize.ShloMosaic.Pipeline (Dat)

variable (m : (ℓ : Loc nD τ sig) → Buf (Elt Ideal) ℓ) (ρ : Dev nD → PrngReg)

theorem hz2 : (![0, 0] : Fin 2 → Nat) = 0 := by decide
theorem hz3 : (![0, 0, 0] : Fin 3 → Nat) = 0 := by decide
theorem index0 : ∀ t : Fin cfg0.N, win0_0.index t = ![t.val / 2, t.val % 2] := (by decide +kernel : ∀ t : Fin grid0.N, _)
theorem index1 : ∀ t : Fin cfg0.N, win0_1.index t = ![t.val / 2, t.val % 2 + 2] := (by decide +kernel : ∀ t : Fin grid0.N, _)
theorem index2 : ∀ t : Fin cfg0.N, win0_2.index t = ![t.val / 2, t.val % 2 + 4] := (by decide +kernel : ∀ t : Fin grid0.N, _)
theorem index3 : ∀ t : Fin cfg0.N, win0_3.index t = ![0, t.val % 2] := (by decide +kernel : ∀ t : Fin grid0.N, _)
theorem index4 : ∀ t : Fin cfg0.N, win0_4.index t = ![0, 0, t.val % 2] := (by decide +kernel : ∀ t : Fin grid0.N, _)
theorem index5 : ∀ t : Fin cfg0.N, win0_5.index t = ![t.val / 2, t.val % 2] := (by decide +kernel : ∀ t : Fin grid0.N, _)

section Body

variable (b x : Vec Ideal S2048x512 .bf16) (r : Fin 2048) (l : Fin 512)

theorem gated_at : @Eq EReal (k0_pay2 (F := Ideal) b x (ix2 r l)) (b (ix2 r l) * x (ix2 r l)) := by
  unfold k0_pay2
  pointwise

theorem sum_at (v : Vec Ideal S8x512 .f32) (g0 g1 g2 : Vec Ideal S1x8x512 .f32) (k : Fin 8) :
    @Eq EReal (k0_pay3 (F := Ideal) v g0 g1 g2 (ix2 k l)) ((v (ix2 k l) + g0 (ix3 0 k l)) + (g1 (ix3 0 k l) + g2 (ix3 0 k l))) := by
  unfold k0_pay3
  pointwise

theorem recent_at (v : Vec Ideal S8x512 .f32) (g0 g1 g2 : Vec Ideal S1x8x512 .f32) :
    @Eq EReal (k0_pay4 (F := Ideal) b x v g0 g1 g2 (ix2 r l))
      (k0_pay3 (F := Ideal) v g0 g1 g2 (ix2 2 l) * (b (ix2 r l) * x (ix2 r l))
        + k0_pay3 (F := Ideal) v g0 g1 g2 (ix2 1 l) * back 1 (fun q => b (ix2 q l) * x (ix2 q l)) r) := by
  unfold k0_pay4 back
  pointwise
  rw [gated_at]
  congr 2
  have hr := r.isLt
  by_cases h8 : r.val < 8
  · rw [dif_pos h8, Cert.ConvBwdIdeal.Point.sge_word r.val 1 h8 (by omega), Cert.ConvBwdIdeal.Point.select_ofBool]
    by_cases h1 : 1 ≤ r.val
    · rw [if_pos h1, dif_pos h1, gated_at]
      simp only [show (r.val + 2048 - 1) % 2048 = r.val - 1 by omega]
    · rw [if_neg h1, dif_neg h1]
  · rw [dif_neg h8, dif_pos (show 1 ≤ r.val by omega), gated_at]
    simp only [show (8 + (r.val - 8) + 2048 - 1) % 2048 = r.val - 1 by omega]

theorem stored_at (c : Vec Ideal S2048x512 .bf16) (w : FVec Ideal S2048x512 .f32) (w0 : FVec Ideal S1x512 .f32) :
    @Eq EReal (k0_pay1 (F := Ideal) w w0 (k0_pay6 b x) k0_pay7 (k0_pay8 b x) (Scalar.ofBits .f32 0x00000000#32) c (ix2 r l))
      (c (ix2 r l) * (w (ix2 r l) + w0 (ix2 0 l) * back 2 (fun q => b (ix2 q l) * x (ix2 q l)) r)) := by
  unfold k0_pay1 k0_pay8 k0_pay7 k0_pay6 back
  pointwise
  congr 3
  have hr := r.isLt
  by_cases h8 : r.val < 8
  · rw [dif_pos h8, Cert.ConvBwdIdeal.Point.sge_word r.val 2 h8 (by omega), Cert.ConvBwdIdeal.Point.select_ofBool]
    by_cases h1 : 2 ≤ r.val
    · rw [if_pos h1, dif_pos h1, gated_at]
      simp only [show (r.val + 2048 - 2) % 2048 = r.val - 2 by omega]
    · rw [if_neg h1, dif_neg h1]
  · rw [dif_neg h8, dif_pos (show 2 ≤ r.val by omega), gated_at]
    simp only [show (8 + (r.val - 8) + 2048 - 2) % 2048 = r.val - 2 by omega]

theorem first_at (v : Vec Ideal S8x512 .f32) (g0 g1 g2 : Vec Ideal S1x8x512 .f32) :
    @Eq EReal (k0_pay5 (F := Ideal) v g0 g1 g2 (ix2 0 l)) (k0_pay3 (F := Ideal) v g0 g1 g2 (ix2 0 l)) := by
  unfold k0_pay5
  pointwise

/-- The taps as the body sums them: the block held and the three blocks got. -/
def tapRow (v : Vec Ideal S8x512 .f32) (g : Vec Ideal S3x8x512 .f32) (l : Fin 512) (k : Fin 3) : EReal :=
  (v (ix2 (k.castLE (by decide)) l) + g (ix3 0 (k.castLE (by decide)) l)) + (g (ix3 1 (k.castLE (by decide)) l) + g (ix3 2 (k.castLE (by decide)) l))

/-- The load of block `k` of the three got. -/
theorem ld_got (k : Fin 3) (g : Vec Ideal S3x8x512 .f32) (inb) (a : Fin 8) :
    View.ld g (Rect.unit (s := S3x8x512) ![k.val, 0, 0] ![1, 8, 512] inb) (ix3 (0 : Fin 1) a l) = g (ix3 k a l) := by
  refine View.ld_unit_apply_of _ _ _ _ _ (ix3 k a l) fun b => ?_
  match b with
  | ⟨0, _⟩ => show k.val = k.val + 0; omega
  | ⟨1, _⟩ => show a.val = 0 + a.val; omega
  | ⟨2, _⟩ => show l.val = 0 + l.val; omega

theorem row_at (v : Vec Ideal S8x512 .f32) (g : Vec Ideal S3x8x512 .f32) (k : Fin 3) :
    @Eq EReal (k0_pay3 (F := Ideal) v (View.ld g r0_2) (View.ld g r0_3) (View.ld g r0_4) (ix2 (k.castLE (by decide)) l)) (tapRow v g l k) := by
  rw [sum_at]
  exact congrArg₂ (· + ·) (congrArg (_ + ·) (ld_got l 0 g _ _)) (congrArg₂ (· + ·) (ld_got l 1 g _ _) (ld_got l 2 g _ _))

/-- The block a grid point leaves: the second gate times the convolution of the first gate times the value. -/
theorem out_at (c : Vec Ideal S2048x512 .bf16) (v : Vec Ideal S8x512 .f32) (g : Vec Ideal S3x8x512 .f32) :
    @Eq EReal (out0_5 (F := Ideal) b c x v g (ix2 r l)) (c (ix2 r l) * taps (tapRow v g l) (fun q => b (ix2 q l) * x (ix2 q l)) r) := by
  unfold out0_5
  rw [View.canon_unit_zero (S := S2048x512) hz2]
  simp only [View.ld_unit_zero (S := S2048x512) hz2, View.ld_unit_zero (S := S8x512) hz2]
  rw [stored_at, recent_at, first_at]
  unfold taps
  rw [← row_at l v g 0, ← row_at l v g 1, ← row_at l v g 2]
  rfl

end Body

abbrev bcxArg (c : Dev nD) : Vec Ideal S8192x3072 .bf16 := m ((c.tc : Thread nD τ).loc main_arg0)
/-- The taps as the call is given them. -/
abbrev tapsArg (c : Dev nD) : Vec Ideal S3x1024 .f32 := m ((c.tc : Thread nD τ).loc main_arg1)

theorem held_at (c : Dev nD) (k : Fin 3) (d : Fin 1024) :
    @Eq EReal ((V m c main_v2 : Vec Ideal S8x1024 .f32) (ix2 (k.castLE (by decide)) d)) (if 0 ≤ d.val ∧ d.val < 256 then tapsArg m c (ix2 k d) else (0 : EReal)) := by
  unfold V
  after_reads_simp
  refine Cert.ConvBwdIdeal.Array.slot0 (tapsArg m c) _ ?_ k d
  funext i
  fin_cases i <;> (after_reads_simp; rfl)

theorem got0_at (c : Dev nD) (k : Fin 3) (d : Fin 1024) :
    @Eq EReal ((V m c main_v12 : Vec Ideal S1x8x1024 .f32) (ix3 0 (k.castLE (by decide)) d)) (if 512 ≤ d.val ∧ d.val < 768 then tapsArg m c (ix2 k d) else (0 : EReal)) := by
  unfold V
  after_reads_simp
  refine (Cert.ConvBwdIdeal.Array.plane_at _ _ _).trans (Cert.ConvBwdIdeal.Array.slot2 (tapsArg m c) _ ?_ k d)
  funext i
  fin_cases i <;> (after_reads_simp; rfl)

theorem got1_at (c : Dev nD) (k : Fin 3) (d : Fin 1024) :
    @Eq EReal ((V m c main_v13 : Vec Ideal S1x8x1024 .f32) (ix3 0 (k.castLE (by decide)) d)) (if 256 ≤ d.val ∧ d.val < 512 then tapsArg m c (ix2 k d) else (0 : EReal)) := by
  unfold V
  after_reads_simp
  refine (Cert.ConvBwdIdeal.Array.plane_at _ _ _).trans (Cert.ConvBwdIdeal.Array.slot1 (tapsArg m c) _ ?_ k d)
  funext i
  fin_cases i <;> (after_reads_simp; rfl)

theorem got2_at (c : Dev nD) (k : Fin 3) (d : Fin 1024) :
    @Eq EReal ((V m c main_v14 : Vec Ideal S1x8x1024 .f32) (ix3 0 (k.castLE (by decide)) d)) (if 768 ≤ d.val ∧ d.val < 1024 then tapsArg m c (ix2 k d) else (0 : EReal)) := by
  unfold V
  after_reads_simp
  refine (Cert.ConvBwdIdeal.Array.plane_at _ _ _).trans (Cert.ConvBwdIdeal.Array.slot3 (tapsArg m c) _ ?_ k d)
  funext i
  fin_cases i <;> (after_reads_simp; rfl)

theorem got_eq (c : Dev nD) :
   V m c main_v15 = concatenate S3x8x1024 0 [⟨S1x8x1024, V m c main_v12⟩, ⟨S1x8x1024, V m c main_v13⟩, ⟨S1x8x1024, V m c main_v14⟩] concatenates_S1x8x1024_S1x8x1024_S1x8x1024_S3x8x1024_d0 := by
  unfold V
  after_reads_simp
  congr 3

/-- The blocks of columns that the other chips hold, a stack of three. -/
theorem got_at (c : Dev nD) (g : Fin 3) (k : Fin 3) (d : Fin 1024) :
    @Eq EReal ((V m c main_v15 : Vec Ideal S3x8x1024 .f32) (ix3 g (k.castLE (by decide)) d))
      (if g.val = 0 then (if 512 ≤ d.val ∧ d.val < 768 then tapsArg m c (ix2 k d) else (0 : EReal))
       else if g.val = 1 then (if 256 ≤ d.val ∧ d.val < 512 then tapsArg m c (ix2 k d) else (0 : EReal))
       else (if 768 ≤ d.val ∧ d.val < 1024 then tapsArg m c (ix2 k d) else (0 : EReal))) := by
  rw [got_eq, ← got0_at, ← got1_at, ← got2_at]
  generalize V m c main_v12 = v9
  generalize V m c main_v13 = v10
  generalize V m c main_v14 = v11
  change concatenate (α := EReal) S3x8x1024 0 [⟨S1x8x1024, v9⟩, ⟨S1x8x1024, v10⟩, ⟨S1x8x1024, v11⟩] concatenates_S1x8x1024_S1x8x1024_S1x8x1024_S3x8x1024_d0 _ = _
  fin_cases g <;> pointwise

theorem t_lt (t : Fin cfg0.N) : t.val < 8 := t.isLt.trans_eq N_0
theorem col_lt (t : Fin cfg0.N) (l : Fin 512) : 512 * (t.val % 2) + l.val < 1024 := by omega

/-- A column of the array at the rows of one sequence. -/
def col {n : ℕ} (A : Shape.Idx ⟨2, ![8192, n]⟩ → EReal) (s : ℕ) (hs : s < 4) (d : Fin n) : Col := fun q => A (ix2 ⟨2048 * s + q.val, by omega⟩ d)

/-- The result: in each column, the second gate times the convolution of the first gate times the value. -/
def fwd (W : Vec Ideal S8192x3072 .bf16) (T : Vec Ideal S3x1024 .f32) : Vec Ideal S8192x1024 .bf16 := fun i =>
  have h0 : (i 0).val < 8192 := (i 0).isLt
  have h1 : (i 1).val < 1024 := (i 1).isLt
  col W ((i 0).val / 2048) (by omega) ⟨1024 + (i 1).val, by omega⟩ ⟨(i 0).val % 2048, Nat.mod_lt _ (by decide)⟩
    * taps (fun k => T (ix2 k (i 1))) (fun q => col W ((i 0).val / 2048) (by omega) ⟨(i 1).val, by omega⟩ q
      * col W ((i 0).val / 2048) (by omega) ⟨2048 + (i 1).val, by omega⟩ q) ⟨(i 0).val % 2048, Nat.mod_lt _ (by decide)⟩

theorem b_blk (c : Dev nD) (t : Fin cfg0.N) (q : Fin 2048) (l : Fin 512) :
    @Eq EReal (iblk m c 0 t (ix2 q l)) (col (bcxArg m c) (t.val / 2) (by have := t_lt t; omega) ⟨512 * (t.val % 2) + l.val, by omega⟩ q) := by
  unfold col
  blk_ext! [iblk, V_main_arg0, index0 t]

theorem c_blk (c : Dev nD) (t : Fin cfg0.N) (q : Fin 2048) (l : Fin 512) :
    @Eq EReal (iblk m c 1 t (ix2 q l)) (col (bcxArg m c) (t.val / 2) (by have := t_lt t; omega) ⟨1024 + (512 * (t.val % 2) + l.val), by omega⟩ q) := by
  unfold col
  blk_ext! [iblk, V_main_arg0, index1 t]

theorem x_blk (c : Dev nD) (t : Fin cfg0.N) (q : Fin 2048) (l : Fin 512) :
    @Eq EReal (iblk m c 2 t (ix2 q l)) (col (bcxArg m c) (t.val / 2) (by have := t_lt t; omega) ⟨2048 + (512 * (t.val % 2) + l.val), by omega⟩ q) := by
  unfold col
  blk_ext! [iblk, V_main_arg0, index2 t]

theorem v_blk (c : Dev nD) (t : Fin cfg0.N) (l : Fin 512) (k : Fin 8) :
    iblk m c 3 t (ix2 k l) = V m c main_v2 (ix2 k ⟨512 * (t.val % 2) + l.val, col_lt t l⟩) := by
  blk_ext [iblk, index3 t]

theorem g_blk (c : Dev nD) (t : Fin cfg0.N) (g : Fin 3) (l : Fin 512) (k : Fin 8) :
    iblk m c 4 t (ix3 g k l) = V m c main_v15 (ix3 g k ⟨512 * (t.val % 2) + l.val, col_lt t l⟩) := by
  blk_ext [iblk, index4 t]

/-- Each column lies in exactly one of the four blocks, so adding them up gives the taps themselves. -/
theorem row_eq (c : Dev nD) (t : Fin cfg0.N) (l : Fin 512) :
    tapRow (iblk m c 3 t) (iblk m c 4 t) l = fun k => tapsArg m c (ix2 k ⟨512 * (t.val % 2) + l.val, col_lt t l⟩) := by
  funext k
  have e4 := (v_blk m c t l (k.castLE (by decide))).trans (held_at m c k _)
  have e0 := (g_blk m c t 0 l (k.castLE (by decide))).trans (got_at m c 0 k _)
  have e1 := (g_blk m c t 1 l (k.castLE (by decide))).trans (got_at m c 1 k _)
  have e2 := (g_blk m c t 2 l (k.castLE (by decide))).trans (got_at m c 2 k _)
  have hl := col_lt t l
  unfold tapRow
  rw [e4, e0, e1, e2]
  simp only [show ((0 : Fin 3).val = 0) = True from by simp, show ((1 : Fin 3).val = 0) = False from by simp, show ((1 : Fin 3).val = 1) = True from by simp,
    show ((2 : Fin 3).val = 0) = False from by simp, show ((2 : Fin 3).val = 1) = False from by simp, if_true, if_false]
  split_ifs <;> first | omega | simp only [add_zero, zero_add]

theorem place_5 (t : Fin cfg0.N) (X : Vec Ideal S8192x1024 .bf16) (q : Fin 2048) (l : Fin 512) :
    X ((win0_5.blk t).view.emb (ix2 q l)) = X (ix2 ⟨2048 * (t.val / 2) + q.val, by have := t_lt t; omega⟩ ⟨512 * (t.val % 2) + l.val, col_lt t l⟩) := by
  blk_ext [index5 t]

/-- A point's block of the output is the result at the block's place. -/
theorem point_at (c : Dev nD) (t : Fin cfg0.N) (q : Fin 2048) (l : Fin 512) :
    @Eq EReal (out0_5 (F := Ideal) (iblk m c 0 t) (iblk m c 1 t) (iblk m c 2 t) (iblk m c 3 t) (iblk m c 4 t) (ix2 q l))
      (fwd (bcxArg m c) (tapsArg m c) (ix2 ⟨2048 * (t.val / 2) + q.val, by have := t_lt t; omega⟩ ⟨512 * (t.val % 2) + l.val, col_lt t l⟩)) := by
  rw [out_at, row_eq, c_blk]
  simp only [b_blk, x_blk]
  unfold fwd
  simp only [ix2_0, ix2_1, show (2048 * (t.val / 2) + q.val) / 2048 = t.val / 2 by omega, show (2048 * (t.val / 2) + q.val) % 2048 = q.val by omega]

/-- The output array holds the gated convolution. -/
theorem final_5 (c : Dev nD) : (dats m 0 c).arrAt 5 cfg0.N = fwd (bcxArg m c) (tapsArg m c) :=
  (dats m 0 c).arrAt_eq_of_covers 5 _ (by decide +kernel) fun t hf y => by
    blk_simp
    rw [after0_5]
    obtain ⟨q, l, rfl⟩ : ∃ (q : Fin 2048) (l : Fin 512), y = ix2 q l := ⟨_, _, eq_ix2 (n0 := 2048) (n1 := 512) y⟩
    exact (point_at m c t _ _).trans (place_5 t _ _ _).symm

end Cert.ConvFwdIdeal.Array

end
-- ==== Proof.ConvFwdClaims.lean ====
/-
  The claims about the forward short convolution: the call runs, and over the extended reals its result is the
  reference's.
-/
module

public import proofs.«01_k».proof.Defs
public import proofs.«01_k».proof.Proof.Gen.ConvFwd.Frame
public import proofs.«01_k».proof.Proof.Gen.ConvFwdIdeal.Frame
public import proofs.«01_k».proof.Proof.Gen.ConvFwdIdeal.Value
public import proofs.«01_k».proof.Proof.Gen.ConvFwdRefIdeal.Run
public import proofs.«01_k».proof.Proof.Gen.ConvFwdRefIdeal.Read
public import proofs.«01_k».proof.Proof.ConvColumn
public import proofs.«01_k».proof.Proof.ConvFwdArray
public import Idealize.ShloMosaic.Adequacy

@[expose] public section

set_option maxRecDepth 16384

noncomputable section

namespace Cert.Proof.ConvFwd

open Idealize.ShloMosaic Idealize.SL.Sem Cert.ConvFwdRefIdeal.Read Cert.ConvFwdIdeal.Array Cert.ConvColumn

section Reference

variable (x0 : Vec Ideal Cert.ConvFwdRefIdeal.S8192x3072 .bf16) (x1 : Vec Ideal Cert.ConvFwdRefIdeal.S3x1024 .f32)
variable (s : Fin 4) (r : Fin 2048) (d : Fin 1024)

abbrev uC : Col := fun q => col x0 s.val s.isLt ⟨d.val, by omega⟩ q * col x0 s.val s.isLt ⟨2048 + d.val, by omega⟩ q

theorem b_at : @Eq EReal (val_main_v2 (F := Ideal) x0 (ix3 s r d)) (col x0 s.val s.isLt ⟨d.val, by omega⟩ r) := by
  unfold col
  pointwise [val_main_v2, val_main_v1, val_main_v0]
  exact congrArg (fun q => x0 (ix2 q _)) (Fin.ext (by dsimp only; omega))

theorem c_at : @Eq EReal (val_main_v3 (F := Ideal) x0 (ix3 s r d)) (col x0 s.val s.isLt ⟨1024 + d.val, by omega⟩ r) := by
  unfold col
  pointwise [val_main_v3, val_main_v1, val_main_v0]
  exact congrArg (fun q => x0 (ix2 q _)) (Fin.ext (by dsimp only; omega))

theorem x_at : @Eq EReal (val_main_v4 (F := Ideal) x0 (ix3 s r d)) (col x0 s.val s.isLt ⟨2048 + d.val, by omega⟩ r) := by
  unfold col
  pointwise [val_main_v4, val_main_v1, val_main_v0]
  exact congrArg (fun q => x0 (ix2 q _)) (Fin.ext (by dsimp only; omega))

theorem u_at : @Eq EReal (val_main_v5 (F := Ideal) x0 (ix3 s r d)) (uC x0 s d r) := by
  pointwise [val_main_v5]
  rw [b_at, x_at]

theorem past2_at : @Eq EReal (val_main_v10 (F := Ideal) x0 (ix3 s r d)) (back 2 (uC x0 s d) r) := by
  pointwise [val_main_v10, val_main_v7, val_main_v6, val_main_cst]
  unfold back
  by_cases h : r.val < 2
  · rw [dif_pos h, dif_neg (by omega)]
  · rw [dif_neg h, u_at, dif_pos (by omega)]

theorem past1_at : @Eq EReal (val_main_v16 (F := Ideal) x0 (ix3 s r d)) (back 1 (uC x0 s d) r) := by
  pointwise [val_main_v16, val_main_v7, val_main_v6, val_main_cst]
  unfold back
  by_cases h : 1 + r.val < 2
  · rw [dif_pos h, dif_neg (by omega)]
  · rw [dif_neg h, u_at, dif_pos (by omega)]
    exact congrArg (uC x0 s d) (Fin.ext (by dsimp only; omega))

theorem now_at : @Eq EReal (val_main_v23 (F := Ideal) x0 (ix3 s r d)) (uC x0 s d r) := by
  pointwise [val_main_v23, val_main_v7, val_main_v6, val_main_cst]
  exact u_at x0 s r d

theorem y_at : @Eq EReal (val_main_v27 (F := Ideal) x0 x1 (ix3 s r d)) (taps (fun k => x1 (ix2 k d)) (uC x0 s d) r) := by
  pointwise [val_main_v27, val_main_v26, val_main_v25, val_main_v24, val_main_v22, val_main_v21, val_main_v20, val_main_v19, val_main_v18, val_main_v17, val_main_v15, val_main_v14,
    val_main_v13, val_main_v12, val_main_v11, val_main_v9, val_main_v8]
  rw [past2_at, past1_at, now_at]
  unfold taps
  rw [add_comm, add_comm (x1 (ix2 0 d) * _), add_assoc]

end Reference

theorem ref_fwd (x0 : Vec Ideal Cert.ConvFwdRefIdeal.S8192x3072 .bf16) (x1 : Vec Ideal Cert.ConvFwdRefIdeal.S3x1024 .f32) :
    val_main_v30 (F := Ideal) x0 x1 = fwd x0 x1 := by
  funext i
  obtain ⟨q, l, rfl⟩ : ∃ (q : Fin 8192) (l : Fin 1024), i = ix2 q l := ⟨_, _, eq_ix2 (n0 := 8192) (n1 := 1024) i⟩
  pointwise [val_main_v30, val_main_v29, val_main_v28]
  rw [c_at, y_at]
  unfold fwd
  simp only [ix2_0, ix2_1]

theorem frame : Cert.quiescent_ConvFwd := fun m ρ _ => Cert.ConvFwd.Gen.frame m ρ

theorem frame_ideal : Cert.quiescent_ConvFwdIdeal := fun m ρ _ => Cert.ConvFwdIdeal.Gen.frame m ρ

theorem frame_ref : Cert.quiescent_ConvFwdRefIdeal := fun m ρ _ =>
  (θ_run Cert.ConvFwdRefIdeal.defs _ _).mono (fun r h => ⟨fun c => (h c).2, Idealize.ShloMosaic.sem_eq_zero_of_no_sems (by decide) r.2⟩)
    (Cert.ConvFwdRefIdeal.Value.run (F := Ideal) m ρ)

theorem preserves : Cert.preserves_ConvFwd_ConvFwdIdeal := trivial

/-- Both programs end with the array of ConvFwdArray.lean, computed from arguments that agree. -/
theorem algebraic : Cert.algebraic_ConvFwdIdeal_ConvFwdRefIdeal := by
  intro m ρ m' ρ' hpre hagree
  refine ⟨fun c => fwd (bcxArg m c) (tapsArg m c), ?_, ?_⟩
  · exact (θ_run Cert.ConvFwdIdeal.defs _ _).mono
      (fun _ h c => ⟨(h c).1.trans (final_5 m c), (h c).2⟩)
      (Cert.ConvFwdIdeal.Value.run_blocks m ρ)
  · refine (θ_run Cert.ConvFwdRefIdeal.defs _ _).mono
      (fun _ h c => ⟨(h c).1.trans ?_, (h c).2⟩)
      (Cert.ConvFwdRefIdeal.Value.run (F := Ideal) m' ρ')
    · rw [val_main_v30_eq, (hagree c).1, (hagree c).2]
      exact ref_fwd _ _

end Cert.Proof.ConvFwd

end
-- ==== Proof.AttnFwdTrip.lean ====
/-
  One trip of the attention's loop over query blocks, piece by piece, and what it writes.
-/
module

public import proofs.«01_k».proof.Proof.Gen.AttnFwdIdeal.Value
public import Idealize.ShloMosaic.Lib.Pointwise
public import Idealize.ShloMosaic.Lib.Pipeline.ValueKit.Point
public import Idealize.ShloMosaic.Lib.Pipeline.ValueKit.Acc
public import Idealize.ShloMosaic.Lib.StableHlo.ReadAt

@[expose] public section

set_option maxRecDepth 16384

noncomputable section

namespace Cert.AttnFwdIdeal.Array

open Cert.AttnFwdIdeal Cert.AttnFwdIdeal.Gen Cert.AttnFwdIdeal.Value Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem trips_eq : k0_t1_loop.trips = 16 := by decide

/-- Two heads' result tile from the tiles of keys, values and queries, the biases and the two sinks. -/
def pairOut (K V : FVec Ideal S512x128 .bf16) (Q : FVec Ideal S128x128 .bf16) (B : Vec Ideal S1x1x256x128 .f32) (s0 s1 : Elt Ideal .f32) : FVec Ideal S128x128 .bf16 :=
  k0_pay48 (F := Ideal) k0_pay3 V (k0_pay43 (F := Ideal) k0_pay3 K Q B s0) (k0_pay46 (F := Ideal) k0_pay3 K Q B s1) (k0_pay47 (F := Ideal) k0_pay3 K Q B s1)
    (Scalar.ofBits (F := Ideal) .f32 0x3F800000#32)

def keys0 (g : Vec Ideal S1x128 .f32) (a b : Vec Ideal S128x128 .bf16) : FVec Ideal S512x128 .bf16 :=
  k0_pay39 (F := Ideal) k0_pay2 (k0_pay5 (F := Ideal) g) (k0_pay35 (F := Ideal) a b) (k0_pay37 (F := Ideal) k0_pay2 a b)
def keys1 (g : Vec Ideal S1x128 .f32) (a b : Vec Ideal S128x128 .bf16) : FVec Ideal S512x128 .bf16 :=
  k0_pay58 (F := Ideal) k0_pay2 (k0_pay38 (F := Ideal) (k0_pay5 (F := Ideal) g) (k0_pay35 (F := Ideal) a b) (k0_pay37 (F := Ideal) k0_pay2 a b))
def vals0 (a b : Vec Ideal S128x128 .bf16) : FVec Ideal S512x128 .bf16 := k0_pay40 (F := Ideal) k0_pay2 (k0_pay36 (F := Ideal) a b)
def vals1 (a b : Vec Ideal S128x128 .bf16) : FVec Ideal S512x128 .bf16 := k0_pay59 (F := Ideal) k0_pay2 (k0_pay36 (F := Ideal) a b)
def query (g : Vec Ideal S1x128 .f32) (x : Vec Ideal S128x128 .bf16) : FVec Ideal S128x128 .bf16 := k0_pay41 (F := Ideal) k0_pay2 (k0_pay4 (F := Ideal) g) x

section Cases
variable (d : Dev nD) (i : grid0.Coords) (a1 : Memref sig .tc .smem S1x16 .f32) (h1 : a1.IsWhole) (a2 : Memref sig .tc .vmem S2048x1536 .bf16) (h2 : a2.IsWhole)
  (a3 : Memref sig .tc .vmem S1x128 .f32) (h3 : a3.IsWhole) (a4 : Memref sig .tc .vmem S1x128 .f32) (h4 : a4.IsWhole)
  (a5 : Memref sig .tc .vmem S2048x1024 .bf16) (h5 : a5.IsWhole) (a6 : Memref sig .tc .vmem S2x8x256x128 .f32) (h6 : a6.IsWhole)
  (X1 : BufTy.Contents (Elt Ideal) a1.view.ty) (X2 : BufTy.Contents (Elt Ideal) a2.view.ty) (X6 : BufTy.Contents (Elt Ideal) a6.view.ty)

/-- A tile of the staged rows as a load reads it. -/
def rows (a2 : Memref sig .tc .vmem S2048x1536 .bf16) (X2 : BufTy.Contents (Elt Ideal) a2.view.ty) (off : Fin 2 → ℕ) (inb : ∀ a, off a + S128x128.size a ≤ S2048x1536.size a) :
    Vec Ideal S128x128 .bf16 :=
  a2.view.readAt (Elt Ideal) (Rect.unit (s := S2048x1536) off S128x128.size inb).toLoadRect X2
/-- A pair's biases as a load reads them. -/
def biasAt (a6 : Memref sig .tc .vmem S2x8x256x128 .f32) (X6 : BufTy.Contents (Elt Ideal) a6.view.ty) (off : Fin 4 → ℕ) (inb : ∀ a, off a + S1x1x256x128.size a ≤ S2x8x256x128.size a) :
    Vec Ideal S1x1x256x128 .f32 :=
  a6.view.readAt (Elt Ideal) (Rect.unit (s := S2x8x256x128) off S1x1x256x128.size inb).toLoadRect X6
/-- A head's sink as a load reads it. -/
def sinkAt (a1 : Memref sig .tc .smem S1x16 .f32) (X1 : BufTy.Contents (Elt Ideal) a1.view.ty) (off : Fin 2 → ℕ) (inb : ∀ a, off a + S1x1.size a ≤ S1x16.size a) : Elt Ideal .f32 :=
  a1.view.readAt (Elt Ideal) (Rect.unit (s := S1x16) off S1x1.size inb).toLoadRect X1 (Shape.Idx.first (s := S1x1) (by decide))

theorem trip_eq (k : Fin k0_t1_loop.trips) (q g : Vec Ideal S1x128 .f32) :
    tripL_k0_t1 (F := Ideal) Variants.none d none i a1 h1 a2 h2 a3 h3 a4 h4 a5 h5 a6 h6 q g X1 X2 X6 k =
    [⟨Rect.unit (s := S2048x1024) (k0_off32 k) S128x128.size (k0_off32_inb k),
      pairOut (keys1 g (rows a2 X2 (k0_off17 k) (k0_off17_inb k)) (rows a2 X2 (k0_off18 k) (k0_off18_inb k))) (vals1 (rows a2 X2 (k0_off19 k) (k0_off19_inb k)) (rows a2 X2 (k0_off20 k) (k0_off20_inb k)))
        (query q (rows a2 X2 (k0_off30 k) (k0_off30_inb k))) (biasAt a6 X6 (k0_off31 k) (k0_off31_inb k)) (sinkAt a1 X1 ![0, 14] inb_S1x16_S1x1_0_14) (sinkAt a1 X1 ![0, 15] inb_S1x16_S1x1_0_15)⟩,
     ⟨Rect.unit (s := S2048x1024) (k0_off29 k) S128x128.size (k0_off29_inb k),
      pairOut (keys1 g (rows a2 X2 (k0_off17 k) (k0_off17_inb k)) (rows a2 X2 (k0_off18 k) (k0_off18_inb k))) (vals1 (rows a2 X2 (k0_off19 k) (k0_off19_inb k)) (rows a2 X2 (k0_off20 k) (k0_off20_inb k)))
        (query q (rows a2 X2 (k0_off27 k) (k0_off27_inb k))) (biasAt a6 X6 (k0_off28 k) (k0_off28_inb k)) (sinkAt a1 X1 ![0, 12] inb_S1x16_S1x1_0_12) (sinkAt a1 X1 ![0, 13] inb_S1x16_S1x1_0_13)⟩,
     ⟨Rect.unit (s := S2048x1024) (k0_off26 k) S128x128.size (k0_off26_inb k),
      pairOut (keys0 g (rows a2 X2 (k0_off17 k) (k0_off17_inb k)) (rows a2 X2 (k0_off18 k) (k0_off18_inb k))) (vals0 (rows a2 X2 (k0_off19 k) (k0_off19_inb k)) (rows a2 X2 (k0_off20 k) (k0_off20_inb k)))
        (query q (rows a2 X2 (k0_off24 k) (k0_off24_inb k))) (biasAt a6 X6 (k0_off25 k) (k0_off25_inb k)) (sinkAt a1 X1 ![0, 10] inb_S1x16_S1x1_0_10) (sinkAt a1 X1 ![0, 11] inb_S1x16_S1x1_0_11)⟩,
     ⟨Rect.unit (s := S2048x1024) (k0_off23 k) S128x128.size (k0_off23_inb k),
      pairOut (keys0 g (rows a2 X2 (k0_off17 k) (k0_off17_inb k)) (rows a2 X2 (k0_off18 k) (k0_off18_inb k))) (vals0 (rows a2 X2 (k0_off19 k) (k0_off19_inb k)) (rows a2 X2 (k0_off20 k) (k0_off20_inb k)))
        (query q (rows a2 X2 (k0_off21 k) (k0_off21_inb k))) (biasAt a6 X6 (k0_off22 k) (k0_off22_inb k)) (sinkAt a1 X1 ![0, 8] inb_S1x16_S1x1_0_8) (sinkAt a1 X1 ![0, 9] inb_S1x16_S1x1_0_9)⟩,
     ⟨Rect.unit (s := S2048x1024) (k0_off16 k) S128x128.size (k0_off16_inb k),
      pairOut (keys1 g (rows a2 X2 (k0_off1 k) (k0_off1_inb k)) (rows a2 X2 (k0_off2 k) (k0_off2_inb k))) (vals1 (rows a2 X2 (k0_off3 k) (k0_off3_inb k)) (rows a2 X2 (k0_off4 k) (k0_off4_inb k)))
        (query q (rows a2 X2 (k0_off14 k) (k0_off14_inb k))) (biasAt a6 X6 (k0_off15 k) (k0_off15_inb k)) (sinkAt a1 X1 ![0, 6] inb_S1x16_S1x1_0_6) (sinkAt a1 X1 ![0, 7] inb_S1x16_S1x1_0_7)⟩,
     ⟨Rect.unit (s := S2048x1024) (k0_off13 k) S128x128.size (k0_off13_inb k),
      pairOut (keys1 g (rows a2 X2 (k0_off1 k) (k0_off1_inb k)) (rows a2 X2 (k0_off2 k) (k0_off2_inb k))) (vals1 (rows a2 X2 (k0_off3 k) (k0_off3_inb k)) (rows a2 X2 (k0_off4 k) (k0_off4_inb k)))
        (query q (rows a2 X2 (k0_off11 k) (k0_off11_inb k))) (biasAt a6 X6 (k0_off12 k) (k0_off12_inb k)) (sinkAt a1 X1 ![0, 4] inb_S1x16_S1x1_0_4) (sinkAt a1 X1 ![0, 5] inb_S1x16_S1x1_0_5)⟩,
     ⟨Rect.unit (s := S2048x1024) (k0_off10 k) S128x128.size (k0_off10_inb k),
      pairOut (keys0 g (rows a2 X2 (k0_off1 k) (k0_off1_inb k)) (rows a2 X2 (k0_off2 k) (k0_off2_inb k))) (vals0 (rows a2 X2 (k0_off3 k) (k0_off3_inb k)) (rows a2 X2 (k0_off4 k) (k0_off4_inb k)))
        (query q (rows a2 X2 (k0_off8 k) (k0_off8_inb k))) (biasAt a6 X6 (k0_off9 k) (k0_off9_inb k)) (sinkAt a1 X1 ![0, 2] inb_S1x16_S1x1_0_2) (sinkAt a1 X1 ![0, 3] inb_S1x16_S1x1_0_3)⟩,
     ⟨Rect.unit (s := S2048x1024) (k0_off7 k) S128x128.size (k0_off7_inb k),
      pairOut (keys0 g (rows a2 X2 (k0_off1 k) (k0_off1_inb k)) (rows a2 X2 (k0_off2 k) (k0_off2_inb k))) (vals0 (rows a2 X2 (k0_off3 k) (k0_off3_inb k)) (rows a2 X2 (k0_off4 k) (k0_off4_inb k)))
        (query q (rows a2 X2 (k0_off5 k) (k0_off5_inb k))) (biasAt a6 X6 (k0_off6 k) (k0_off6_inb k)) (sinkAt a1 X1 ![0, 0] inb_S1x16_S1x1_0_0) (sinkAt a1 X1 ![0, 1] inb_S1x16_S1x1_0_1)⟩] := by
  sl_kernel_rfl

/-- The biases of a pair of heads: minus a head's slope times the distance of query and key. -/
def fillOpen (ce co : Elt Ideal .f32) : FVec Ideal S1x1x256x128 .f32 :=
  shapeCast S1x1x256x128 (mulf (subf (broadcast S256x128 (Scalar.ofBits (F := Ideal) .f32 0x00000000#32)) (select k0_pay6 (broadcast S256x128 ce) (broadcast S256x128 co))) (k0_pay9 (F := Ideal)))
    shapeCasts_S256x128_S1x1x256x128
/-- The same with the keys before the first block masked. -/
def fillMasked (ce co : Elt Ideal .f32) : FVec Ideal S1x1x256x128 .f32 :=
  shapeCast S1x1x256x128 (select k0_pay8 (broadcast S256x128 (Named.named (F := Ideal) (φ := .f32) κ "mask" 0xF149F2CA#32))
    (mulf (subf (broadcast S256x128 (Scalar.ofBits (F := Ideal) .f32 0x00000000#32)) (select k0_pay6 (broadcast S256x128 ce) (broadcast S256x128 co))) (k0_pay9 (F := Ideal))))
    shapeCasts_S256x128_S1x1x256x128

theorem fill_eq (c : cond0_0 i) (x0 : Vec Ideal S1x16 .f32) (x1 : Vec Ideal S2048x1536 .bf16) (x2 x3 : Vec Ideal S1x128 .f32) :
    (kernelRun0_A (F := Ideal) d i a1 h1 a2 h2 a3 h3 a4 h4 a5 h5 a6 h6 c x0 x1 x2 x3).2.1 =
    [⟨Rect.unit (s := S2x8x256x128) ![0, 7, 0, 0] S1x1x256x128.size inb_S2x8x256x128_S1x1x256x128_0_7_0_0, fillMasked (Scalar.ofBits (F := Ideal) .f32 0x3B800000#32) (Named.named (F := Ideal) (φ := .f32) κ "slope_15" 0x3BB504F3#32)⟩,
     ⟨Rect.unit (s := S2x8x256x128) ![1, 7, 0, 0] S1x1x256x128.size inb_S2x8x256x128_S1x1x256x128_1_7_0_0, fillOpen (Scalar.ofBits (F := Ideal) .f32 0x3B800000#32) (Named.named (F := Ideal) (φ := .f32) κ "slope_15" 0x3BB504F3#32)⟩,
     ⟨Rect.unit (s := S2x8x256x128) ![0, 6, 0, 0] S1x1x256x128.size inb_S2x8x256x128_S1x1x256x128_0_6_0_0, fillMasked (Scalar.ofBits (F := Ideal) .f32 0x3C000000#32) (Named.named (F := Ideal) (φ := .f32) κ "slope_13" 0x3C3504F3#32)⟩,
     ⟨Rect.unit (s := S2x8x256x128) ![1, 6, 0, 0] S1x1x256x128.size inb_S2x8x256x128_S1x1x256x128_1_6_0_0, fillOpen (Scalar.ofBits (F := Ideal) .f32 0x3C000000#32) (Named.named (F := Ideal) (φ := .f32) κ "slope_13" 0x3C3504F3#32)⟩,
     ⟨Rect.unit (s := S2x8x256x128) ![0, 5, 0, 0] S1x1x256x128.size inb_S2x8x256x128_S1x1x256x128_0_5_0_0, fillMasked (Scalar.ofBits (F := Ideal) .f32 0x3C800000#32) (Named.named (F := Ideal) (φ := .f32) κ "slope_11" 0x3CB504F3#32)⟩,
     ⟨Rect.unit (s := S2x8x256x128) ![1, 5, 0, 0] S1x1x256x128.size inb_S2x8x256x128_S1x1x256x128_1_5_0_0, fillOpen (Scalar.ofBits (F := Ideal) .f32 0x3C800000#32) (Named.named (F := Ideal) (φ := .f32) κ "slope_11" 0x3CB504F3#32)⟩,
     ⟨Rect.unit (s := S2x8x256x128) ![0, 4, 0, 0] S1x1x256x128.size inb_S2x8x256x128_S1x1x256x128_0_4_0_0, fillMasked (Scalar.ofBits (F := Ideal) .f32 0x3D000000#32) (Named.named (F := Ideal) (φ := .f32) κ "slope_9" 0x3D3504F3#32)⟩,
     ⟨Rect.unit (s := S2x8x256x128) ![1, 4, 0, 0] S1x1x256x128.size inb_S2x8x256x128_S1x1x256x128_1_4_0_0, fillOpen (Scalar.ofBits (F := Ideal) .f32 0x3D000000#32) (Named.named (F := Ideal) (φ := .f32) κ "slope_9" 0x3D3504F3#32)⟩,
     ⟨Rect.unit (s := S2x8x256x128) ![0, 3, 0, 0] S1x1x256x128.size inb_S2x8x256x128_S1x1x256x128_0_3_0_0, fillMasked (Scalar.ofBits (F := Ideal) .f32 0x3D800000#32) (Named.named (F := Ideal) (φ := .f32) κ "slope_7" 0x3DB504F3#32)⟩,
     ⟨Rect.unit (s := S2x8x256x128) ![1, 3, 0, 0] S1x1x256x128.size inb_S2x8x256x128_S1x1x256x128_1_3_0_0, fillOpen (Scalar.ofBits (F := Ideal) .f32 0x3D800000#32) (Named.named (F := Ideal) (φ := .f32) κ "slope_7" 0x3DB504F3#32)⟩,
     ⟨Rect.unit (s := S2x8x256x128) ![0, 2, 0, 0] S1x1x256x128.size inb_S2x8x256x128_S1x1x256x128_0_2_0_0, fillMasked (Scalar.ofBits (F := Ideal) .f32 0x3E000000#32) (Named.named (F := Ideal) (φ := .f32) κ "slope_5" 0x3E3504F3#32)⟩,
     ⟨Rect.unit (s := S2x8x256x128) ![1, 2, 0, 0] S1x1x256x128.size inb_S2x8x256x128_S1x1x256x128_1_2_0_0, fillOpen (Scalar.ofBits (F := Ideal) .f32 0x3E000000#32) (Named.named (F := Ideal) (φ := .f32) κ "slope_5" 0x3E3504F3#32)⟩,
     ⟨Rect.unit (s := S2x8x256x128) ![0, 1, 0, 0] S1x1x256x128.size inb_S2x8x256x128_S1x1x256x128_0_1_0_0, fillMasked (Scalar.ofBits (F := Ideal) .f32 0x3E800000#32) (Named.named (F := Ideal) (φ := .f32) κ "slope_3" 0x3EB504F3#32)⟩,
     ⟨Rect.unit (s := S2x8x256x128) ![1, 1, 0, 0] S1x1x256x128.size inb_S2x8x256x128_S1x1x256x128_1_1_0_0, fillOpen (Scalar.ofBits (F := Ideal) .f32 0x3E800000#32) (Named.named (F := Ideal) (φ := .f32) κ "slope_3" 0x3EB504F3#32)⟩,
     ⟨Rect.unit (s := S2x8x256x128) ![0, 0, 0, 0] S1x1x256x128.size inb_S2x8x256x128_S1x1x256x128_0_0_0_0, fillMasked (Scalar.ofBits (F := Ideal) .f32 0x3F000000#32) (Named.named (F := Ideal) (φ := .f32) κ "slope_1" 0x3F3504F3#32)⟩,
     ⟨Rect.unit (s := S2x8x256x128) ![1, 0, 0, 0] S1x1x256x128.size inb_S2x8x256x128_S1x1x256x128_1_0_0_0, fillOpen (Scalar.ofBits (F := Ideal) .f32 0x3F000000#32) (Named.named (F := Ideal) (φ := .f32) κ "slope_1" 0x3F3504F3#32)⟩] := by
  sl_kernel_rfl

theorem run_A (c : cond0_0 i) (x0 : Vec Ideal S1x16 .f32) (x1 : Vec Ideal S2048x1536 .bf16) (x2 x3 : Vec Ideal S1x128 .f32) :
    (kernelRun0_A (F := Ideal) d i a1 h1 a2 h2 a3 h3 a4 h4 a5 h5 a6 h6 c x0 x1 x2 x3).1 =
    pb_k0_t1 (F := Ideal) Variants.none d none i a1 h1 a2 h2 a3 h3 a4 h4 a5 h5 a6 h6
      (a3.view.readAt (Elt Ideal) (Rect.unit (s := S1x128) ![0, 0] S1x128.size inb_S1x128_S1x128_0_0).toLoadRect (h3.unread x2))
      (a4.view.readAt (Elt Ideal) (Rect.unit (s := S1x128) ![0, 0] S1x128.size inb_S1x128_S1x128_0_0).toLoadRect (h4.unread x3)) (h1.unread x0) (h2.unread x1)
      (a6.view.writes (Elt Ideal) a6.view.junk (kernelRun0_A (F := Ideal) d i a1 h1 a2 h2 a3 h3 a4 h4 a5 h5 a6 h6 c x0 x1 x2 x3).2.1) k0_t1_loop.trips := by
  sl_kernel_rfl

theorem run_B (c : ¬cond0_0 i) (x0 : Vec Ideal S1x16 .f32) (x1 : Vec Ideal S2048x1536 .bf16) (x2 x3 : Vec Ideal S1x128 .f32) (xs : Vec Ideal S2x8x256x128 .f32) :
    (kernelRun0_B (F := Ideal) d i a1 h1 a2 h2 a3 h3 a4 h4 a5 h5 a6 h6 c x0 x1 x2 x3 xs).1 =
    pb_k0_t1 (F := Ideal) Variants.none d none i a1 h1 a2 h2 a3 h3 a4 h4 a5 h5 a6 h6
      (a3.view.readAt (Elt Ideal) (Rect.unit (s := S1x128) ![0, 0] S1x128.size inb_S1x128_S1x128_0_0).toLoadRect (h3.unread x2))
      (a4.view.readAt (Elt Ideal) (Rect.unit (s := S1x128) ![0, 0] S1x128.size inb_S1x128_S1x128_0_0).toLoadRect (h4.unread x3)) (h1.unread x0) (h2.unread x1)
      (h6.unread xs) k0_t1_loop.trips := by
  sl_kernel_rfl

end Cases
end Cert.AttnFwdIdeal.Array
-- ==== Proof.AttnFwdTile.lean ====
/-
  The tiles of one trip of the attention's loop, entry by entry: scaled queries and keys, scores, weights and the weighted values.
-/
module

public import proofs.«01_k».proof.Proof.AttnFwdTrip
public import proofs.«01_k».proof.Proof.FfnReal

@[expose] public section

set_option maxRecDepth 16384

noncomputable section

namespace Cert.AttnFwdIdeal.Array

open Cert.AttnFwdIdeal Cert.AttnFwdIdeal.Gen Cert.AttnFwdIdeal.Value Idealize.ShloMosaic Idealize.ShloMosaic.TcCoe Idealize.SL.Sem Cert.Proof Cert.Proof.Reals

/-- Row `m` of half `h` of a tile of 256 rows. -/
abbrev half (h : Fin 2) (m : Fin 128) : Fin 256 := ⟨128 * h.val + m.val, by omega⟩
/-- Row `a` of half `e` of a tile of 512 rows. -/
abbrev row512 (e : Fin 2) (a : Fin 256) : Fin 512 := ⟨256 * e.val + a.val, by omega⟩
/-- Lane `t` of half `h` of the 128 lanes. -/
abbrev lane (h : Fin 2) (t : Fin 64) : Fin 128 := ⟨64 * h.val + t.val, by omega⟩
/-- The key, among the previous and the own block's 256, that row `m` of the joined tile holds for query `r`. -/
abbrev key (m r : Fin 128) : Fin 256 := if r < m then half 0 m else half 1 m

theorem sum_lanes (f : Fin 128 → EReal) : ∑ l, f l = ∑ t : Fin 64, f (lane 0 t) + ∑ t : Fin 64, f (lane 1 t) := by
  refine (Fin.sum_univ_add (M := EReal) (fun i : Fin (64 + 64) => f i)).trans ?_
  refine congrArg₂ (fun a b : EReal => a + b) (Finset.sum_congr (M := EReal) rfl fun t _ => ?_) (Finset.sum_congr (M := EReal) rfl fun t _ => ?_)
  · exact congrArg f (Fin.ext (by show t.val = 64 * 0 + t.val; omega))
  · exact congrArg f (Fin.ext (by show 64 + t.val = 64 * 1 + t.val; omega))

theorem sum_halves (f : Fin 256 → EReal) : ∑ a, f a = ∑ m : Fin 128, f (half 0 m) + ∑ m : Fin 128, f (half 1 m) := by
  refine (Fin.sum_univ_add (M := EReal) (fun i : Fin (128 + 128) => f i)).trans ?_
  refine congrArg₂ (fun a b : EReal => a + b) (Finset.sum_congr (M := EReal) rfl fun t _ => ?_) (Finset.sum_congr (M := EReal) rfl fun t _ => ?_)
  · exact congrArg f (Fin.ext (by show t.val = 128 * 0 + t.val; omega))
  · exact congrArg f (Fin.ext (by show 128 + t.val = 128 * 1 + t.val; omega))

theorem sum_rows (f : Fin 512 → EReal) : ∑ a, f a = ∑ m : Fin 256, f (row512 0 m) + ∑ m : Fin 256, f (row512 1 m) := by
  refine (Fin.sum_univ_add (M := EReal) (fun i : Fin (256 + 256) => f i)).trans ?_
  refine congrArg₂ (fun a b : EReal => a + b) (Finset.sum_congr (M := EReal) rfl fun t _ => ?_) (Finset.sum_congr (M := EReal) rfl fun t _ => ?_)
  · exact congrArg f (Fin.ext (by show t.val = 256 * 0 + t.val; omega))
  · exact congrArg f (Fin.ext (by show 256 + t.val = 256 * 1 + t.val; omega))

theorem early_bit (m r : Fin 128) : k0_pay3 (ix2 m r) = if r < m then 1#1 else 0#1 := by
  unfold k0_pay3
  pointwise
  exact (by decide +kernel : ∀ m r : Fin 128, (IntOp.cmpi .sgt (BitVec.ofNat 32 m.val) (BitVec.ofNat 32 r.val)) = if r < m then 1#1 else 0#1) m r

theorem low_bit0 (t : Fin 64) : k0_pay2 (ix2 0 (lane 0 t)) = 1#1 := by
  unfold k0_pay2
  pointwise
  exact (by decide +kernel : ∀ t : Fin 64, (IntOp.cmpi .slt (BitVec.ofNat 32 t.val) 64#32) = 1#1) t

theorem low_bit1 (t : Fin 64) : k0_pay2 (ix2 0 (lane 1 t)) = 0#1 := by
  unfold k0_pay2
  pointwise
  exact (by decide +kernel : ∀ t : Fin 64, (IntOp.cmpi .slt (BitVec.ofNat 32 (lane 1 t).val) 64#32) = 0#1) t

theorem early_at (m r : Fin 128) {α : Type} (x y : α) : Scalar.select (k0_pay3 (ix2 m r)) x y = if r < m then x else y := by
  rw [early_bit]
  by_cases hc : r < m
  · rw [if_pos hc, if_pos hc]; rfl
  · rw [if_neg hc, if_neg hc]; rfl

theorem low_0 (t : Fin 64) {α : Type} (x y : α) : Scalar.select (k0_pay2 (ix2 0 (lane 0 t))) x y = x := by
  rw [low_bit0]; rfl

theorem low_1 (t : Fin 64) {α : Type} (x y : α) : Scalar.select (k0_pay2 (ix2 0 (lane 1 t))) x y = y := by
  rw [low_bit1]; rfl

/-- The factor a head's 64 entries are scaled by. -/
def unitScale (y : Fin 64 → EReal) : EReal :=
  Ideal.rsqrt ((∑ t, y t * y t : EReal) * Ideal.ofBits FTy.f32 1015021568#32 + Ideal.ofBits FTy.f32 897988541#32)

theorem scale_0 (f : Fin 128 → EReal) (t : Fin 64) :
    Scalar.select (k0_pay2 (ix2 0 (lane 0 t))) (∑ l : Fin 128, Scalar.select (k0_pay2 (ix2 0 l)) (f l) 0 : EReal) (∑ l : Fin 128, Scalar.select (k0_pay2 (ix2 0 l)) 0 (f l) : EReal) =
      ∑ t : Fin 64, f (lane 0 t) := by
  rw [low_0, sum_lanes]
  simp only [low_0, low_1, Finset.sum_const_zero, add_zero]

theorem scale_1 (f : Fin 128 → EReal) (t : Fin 64) :
    Scalar.select (k0_pay2 (ix2 0 (lane 1 t))) (∑ l : Fin 128, Scalar.select (k0_pay2 (ix2 0 l)) (f l) 0 : EReal) (∑ l : Fin 128, Scalar.select (k0_pay2 (ix2 0 l)) 0 (f l) : EReal) =
      ∑ t : Fin 64, f (lane 1 t) := by
  rw [low_1, sum_lanes]
  simp only [low_0, low_1, Finset.sum_const_zero, zero_add]

theorem query_at (g : Vec Ideal S1x128 .f32) (x : Vec Ideal S128x128 .bf16) (r : Fin 128) (e : Fin 2) (t : Fin 64) :
    @Eq EReal (query g x (ix2 r (lane e t)))
      (x (ix2 r (lane e t)) * unitScale (fun t => x (ix2 r (lane e t))) * (g (ix2 0 (lane e t)) * Ideal.ofBits FTy.f32 0x3E000000#32)) := by
  unfold query k0_pay41 k0_pay4 unitScale
  pointwise
  match e with
  | 0 => rw [scale_0 (fun l => x (ix2 r l) * x (ix2 r l))]
  | 1 => rw [scale_1 (fun l => x (ix2 r l) * x (ix2 r l))]

/-- The previous and the own block's tiles one over the other. -/
def stacked (a b : Vec Ideal S128x128 .bf16) : FVec Ideal S256x128 .f32 := k0_pay35 (F := Ideal) a b

theorem stacked_0 (a b : Vec Ideal S128x128 .bf16) (m l : Fin 128) : @Eq EReal (stacked a b (ix2 (half 0 m) l)) (a (ix2 m l)) := by
  unfold stacked k0_pay35
  pointwise

theorem stacked_1 (a b : Vec Ideal S128x128 .bf16) (m l : Fin 128) : @Eq EReal (stacked a b (ix2 (half 1 m) l)) (b (ix2 m l)) := by
  unfold stacked k0_pay35
  pointwise

/-- The keys scaled to mean square one, with the gain. -/
def unitKeys (g : Vec Ideal S1x128 .f32) (a b : Vec Ideal S128x128 .bf16) : FVec Ideal S256x128 .f32 :=
  k0_pay38 (F := Ideal) (k0_pay5 (F := Ideal) g) (k0_pay35 (F := Ideal) a b) (k0_pay37 (F := Ideal) k0_pay2 a b)

theorem unitKeys_at (g : Vec Ideal S1x128 .f32) (a b : Vec Ideal S128x128 .bf16) (k : Fin 256) (e : Fin 2) (t : Fin 64) :
    @Eq EReal (unitKeys g a b (ix2 k (lane e t)))
      (stacked a b (ix2 k (lane e t)) * unitScale (fun t => stacked a b (ix2 k (lane e t))) * g (ix2 0 (lane e t))) := by
  unfold unitKeys k0_pay38 k0_pay5 k0_pay37 unitScale
  change _ = (k0_pay35 (F := Ideal) a b _ : EReal) * Ideal.rsqrt ((∑ t : Fin 64, (k0_pay35 (F := Ideal) a b (ix2 k (lane e t)) : EReal) * k0_pay35 (F := Ideal) a b (ix2 k (lane e t))) * _ + _) * _
  generalize k0_pay35 (F := Ideal) a b = x
  pointwise
  match e with
  | 0 => rw [scale_0 (fun l => x (ix2 k l) * x (ix2 k l))]
  | 1 => rw [scale_1 (fun l => x (ix2 k l) * x (ix2 k l))]

/-- A key head's lanes, once for the even and once for the odd head of a pair, elsewhere zero. -/
def spread : Fin 2 → FVec Ideal S256x128 .f32 → FVec Ideal S512x128 .bf16
  | 0, W => k0_pay40 (F := Ideal) k0_pay2 W
  | 1, W => k0_pay59 (F := Ideal) k0_pay2 W

theorem keys0_eq (g : Vec Ideal S1x128 .f32) (a b : Vec Ideal S128x128 .bf16) : keys0 g a b = spread 0 (unitKeys g a b) := rfl
theorem keys1_eq (g : Vec Ideal S1x128 .f32) (a b : Vec Ideal S128x128 .bf16) : keys1 g a b = spread 1 (unitKeys g a b) := rfl
theorem vals0_eq (a b : Vec Ideal S128x128 .bf16) : vals0 a b = spread 0 (stacked a b) := rfl
theorem vals1_eq (a b : Vec Ideal S128x128 .bf16) : vals1 a b = spread 1 (stacked a b) := rfl

theorem turn_0 (t : Fin 64) (h : (64 * (0 : Fin 2).val + t.val + 128 - 64) % 128 < 128) : (⟨(64 * (0 : Fin 2).val + t.val + 128 - 64) % 128, h⟩ : Fin 128) = lane 1 t :=
  Fin.ext (by show (64 * 0 + t.val + 128 - 64) % 128 = 64 * 1 + t.val; omega)
theorem turn_1 (t : Fin 64) (h : (64 * (1 : Fin 2).val + t.val + 128 - 64) % 128 < 128) : (⟨(64 * (1 : Fin 2).val + t.val + 128 - 64) % 128, h⟩ : Fin 128) = lane 0 t :=
  Fin.ext (by show (64 * 1 + t.val + 128 - 64) % 128 = 64 * 0 + t.val; omega)

theorem spread_at (p : Fin 2) (W : FVec Ideal S256x128 .f32) (e : Fin 2) (a : Fin 256) (h : Fin 2) (t : Fin 64) :
    @Eq EReal (spread p W (ix2 (row512 e a) (lane h t))) (if e = h then W (ix2 a (lane p t)) else 0) := by
  match p, e with
  | 0, 0 =>
    unfold spread k0_pay40
    pointwise
    match h with
    | 0 => exact low_0 t _ _
    | 1 => exact low_1 t _ _
  | 0, 1 =>
    unfold spread k0_pay40
    pointwise
    match h with
    | 0 => rw [turn_0]; exact low_1 t _ _
    | 1 => rw [turn_1]; exact low_0 t _ _
  | 1, 0 =>
    unfold spread k0_pay59
    pointwise
    match h with
    | 0 => rw [turn_0, low_bit1]; rfl
    | 1 => rw [turn_1, low_bit0]; rfl
  | 1, 1 =>
    unfold spread k0_pay59
    pointwise
    match h with
    | 0 => have := low_bit0 t; unfold lane at this; rw [this]; rfl
    | 1 => have := low_bit1 t; unfold lane at this; rw [this]; rfl

theorem spread_self (p : Fin 2) (W : FVec Ideal S256x128 .f32) (e : Fin 2) (a : Fin 256) (t : Fin 64) :
    @Eq EReal (spread p W (ix2 (row512 e a) (lane e t))) (W (ix2 a (lane p t))) :=
  (spread_at p W e a e t).trans (if_pos rfl)

theorem spread_other (p : Fin 2) (W : FVec Ideal S256x128 .f32) (e h : Fin 2) (n : e ≠ h) (a : Fin 256) (t : Fin 64) :
    @Eq EReal (spread p W (ix2 (row512 e a) (lane h t))) 0 :=
  (spread_at p W e a h t).trans (if_neg n)

/-- The product of a spread key with a query takes the lanes of the key's half only. -/
theorem spread_dot (p : Fin 2) (W : FVec Ideal S256x128 .f32) (e : Fin 2) (a : Fin 256) (Q : Fin 128 → EReal) :
    @Eq EReal (∑ l, (spread p W (ix2 (row512 e a) l) : EReal) * Q l) (∑ t : Fin 64, W (ix2 a (lane p t)) * Q (lane e t)) := by
  rw [sum_lanes]
  match e with
  | 0 =>
    have h1 : ∀ t : Fin 64, @Eq EReal (spread p W (ix2 (row512 0 a) (lane 1 t))) 0 := spread_other p W 0 1 (by decide) a
    have h0 : ∀ t : Fin 64, @Eq EReal (spread p W (ix2 (row512 0 a) (lane 0 t))) (W (ix2 a (lane p t))) := spread_self p W 0 a
    simp only [h1, h0, zero_mul, Finset.sum_const_zero, add_zero]
  | 1 =>
    have h0 : ∀ t : Fin 64, @Eq EReal (spread p W (ix2 (row512 1 a) (lane 0 t))) 0 := spread_other p W 1 0 (by decide) a
    have h1 : ∀ t : Fin 64, @Eq EReal (spread p W (ix2 (row512 1 a) (lane 1 t))) (W (ix2 a (lane p t))) := spread_self p W 1 a
    simp only [h1, h0, zero_mul, Finset.sum_const_zero, zero_add]

/-- The product with spread values takes the rows of the lane's half only. -/
theorem spread_mix (p : Fin 2) (W : FVec Ideal S256x128 .f32) (e : Fin 2) (t : Fin 64) (C : Fin 512 → EReal) :
    @Eq EReal (∑ x, C x * (spread p W (ix2 x (lane e t)) : EReal)) (∑ a : Fin 256, C (row512 e a) * (W (ix2 a (lane p t)) : EReal)) := by
  rw [sum_rows]
  match e with
  | 0 =>
    have h1 : ∀ a : Fin 256, @Eq EReal (spread p W (ix2 (row512 1 a) (lane 0 t))) 0 := fun a => spread_other p W 1 0 (by decide) a t
    have h0 : ∀ a : Fin 256, @Eq EReal (spread p W (ix2 (row512 0 a) (lane 0 t))) (W (ix2 a (lane p t))) := fun a => spread_self p W 0 a t
    simp only [h1, h0, mul_zero, Finset.sum_const_zero, add_zero]
  | 1 =>
    have h0 : ∀ a : Fin 256, @Eq EReal (spread p W (ix2 (row512 0 a) (lane 1 t))) 0 := fun a => spread_other p W 0 1 (by decide) a t
    have h1 : ∀ a : Fin 256, @Eq EReal (spread p W (ix2 (row512 1 a) (lane 1 t))) (W (ix2 a (lane p t))) := fun a => spread_self p W 1 a t
    simp only [h1, h0, mul_zero, Finset.sum_const_zero, zero_add]

/-- The score of the key of merged row `m`, with the entry of the bias table. -/
def mergedScore (p : Fin 2) (W : FVec Ideal S256x128 .f32) (Q : FVec Ideal S128x128 .bf16) (B : Vec Ideal S1x1x256x128 .f32) (e : Fin 2) (r m : Fin 128) : EReal :=
  (∑ t : Fin 64, W (ix2 (key m r) (lane p t)) * Q (ix2 r (lane e t)) : EReal) + B (ix4 0 0 (half e m) r)

theorem row_0 (m : Fin 128) (h : m.val < 512) : (⟨m.val, h⟩ : Fin 512) = row512 0 (half 0 m) := Fin.ext (by show m.val = 256 * 0 + (128 * 0 + m.val); omega)
theorem row_1 (m : Fin 128) (h : 128 + m.val < 512) : (⟨128 + m.val, h⟩ : Fin 512) = row512 0 (half 1 m) := Fin.ext (by show 128 + m.val = 256 * 0 + (128 * 1 + m.val); omega)
theorem row_2 (m : Fin 128) (h : 256 + m.val < 512) : (⟨256 + m.val, h⟩ : Fin 512) = row512 1 (half 0 m) := Fin.ext (by show 256 + m.val = 256 * 1 + (128 * 0 + m.val); omega)
theorem row_3 (m : Fin 128) (h : 384 + m.val < 512) : (⟨384 + m.val, h⟩ : Fin 512) = row512 1 (half 1 m) := Fin.ext (by show 384 + m.val = 256 * 1 + (128 * 1 + m.val); omega)
theorem half_0 (m : Fin 128) (h : m.val < 256) : (⟨m.val, h⟩ : Fin 256) = half 0 m := Fin.ext (by show m.val = 128 * 0 + m.val; omega)
theorem half_1 (m : Fin 128) (h : 128 + m.val < 256) : (⟨128 + m.val, h⟩ : Fin 256) = half 1 m := Fin.ext (by show 128 + m.val = 128 * 1 + m.val; omega)

theorem scores_at (p : Fin 2) (W : FVec Ideal S256x128 .f32) (Q : FVec Ideal S128x128 .bf16) (B : Vec Ideal S1x1x256x128 .f32) (e : Fin 2) (r m : Fin 128) :
    @Eq EReal (k0_pay42 (F := Ideal) k0_pay3 (spread p W) Q B (ix2 (half e m) r)) (mergedScore p W Q B e r m) := by
  unfold k0_pay42 mergedScore
  have hd := fun a => spread_dot p W e a (fun l => Q (ix2 r l))
  generalize spread p W = K at hd
  match e with
  | 0 =>
    pointwise
    rw [row_0, row_1, hd, hd, early_at]
    unfold key
    split <;> rfl
  | 1 =>
    pointwise
    rw [row_2, row_3, hd, hd, early_at]
    unfold key
    split <;> rfl

/-- The softmax weight with the sink's exponential in the sum. -/
def sinkWeight (S : Fin 128 → EReal) (s : EReal) (m : Fin 128) : EReal :=
  Ideal.exp (S m - max (Finset.univ.fold max (Ideal.ofBits FTy.f32 0xFF800000#32) S) s) *
    Ideal.div 1 ((∑ x, Ideal.exp (S x - max (Finset.univ.fold max (Ideal.ofBits FTy.f32 0xFF800000#32) S) s) : EReal) +
      Ideal.exp (s - max (Finset.univ.fold max (Ideal.ofBits FTy.f32 0xFF800000#32) S) s))

theorem weight0_at (K : FVec Ideal S512x128 .bf16) (Q : FVec Ideal S128x128 .bf16) (B : Vec Ideal S1x1x256x128 .f32) (s : Elt Ideal .f32) (m r : Fin 128) :
    @Eq EReal (k0_pay43 (F := Ideal) k0_pay3 K Q B s (ix2 m r)) (sinkWeight (fun m => k0_pay42 (F := Ideal) k0_pay3 K Q B (ix2 (half 0 m) r)) s m) := by
  unfold k0_pay43 sinkWeight
  generalize k0_pay42 (F := Ideal) k0_pay3 K Q B = S
  pointwise
  simp only [half_0]

theorem weight1_at (K : FVec Ideal S512x128 .bf16) (Q : FVec Ideal S128x128 .bf16) (B : Vec Ideal S1x1x256x128 .f32) (s : Elt Ideal .f32) (m r : Fin 128) :
    @Eq EReal ((k0_pay46 (F := Ideal) k0_pay3 K Q B s (ix2 m r) : EReal) * Ideal.div 1 (k0_pay47 (F := Ideal) k0_pay3 K Q B s (ix2 0 r)))
     (sinkWeight (fun m => k0_pay42 (F := Ideal) k0_pay3 K Q B (ix2 (half 1 m) r)) s m) := by
  unfold k0_pay46 k0_pay47 k0_pay46 k0_pay45 k0_pay44 sinkWeight
  generalize k0_pay42 (F := Ideal) k0_pay3 K Q B = S
  pointwise
  simp only [half_1]

/-- The weights laid out over the 512 rows of the spread values. -/
def laidOut (P0 P1 : Fin 128 → EReal) (r : Fin 128) (x : Fin 512) : EReal :=
  if h : x.val < 128 then (if r < ⟨x.val, h⟩ then P0 ⟨x.val, h⟩ else 0)
  else if h : x.val - 128 < 128 then (if r < ⟨x.val - 128, h⟩ then 0 else P0 ⟨x.val - 128, h⟩)
  else if h : x.val - 128 - 128 < 128 then (if r < ⟨x.val - 128 - 128, h⟩ then P1 ⟨x.val - 128 - 128, h⟩ else 0)
  else (if r < ⟨x.val - 128 - 128 - 128, by omega⟩ then 0 else P1 ⟨x.val - 128 - 128 - 128, by omega⟩)

theorem laidOut_at (P : Fin 2 → Fin 128 → EReal) (r : Fin 128) (e : Fin 2) (m : Fin 128) :
    laidOut (P 0) (P 1) r (row512 e (half 0 m)) = (if r < m then P e m else 0) ∧
      laidOut (P 0) (P 1) r (row512 e (half 1 m)) = (if r < m then 0 else P e m) := by
  unfold laidOut
  match e with
  | 0 =>
    constructor
    · have h : (⟨(row512 0 (half 0 m)).val, by show 256 * 0 + (128 * 0 + m.val) < 128; omega⟩ : Fin 128) = m := Fin.ext (by show 256 * 0 + (128 * 0 + m.val) = m.val; omega)
      rw [dif_pos (by show 256 * 0 + (128 * 0 + m.val) < 128; omega), h]
    · have h : (⟨(row512 0 (half 1 m)).val - 128, by show 256 * 0 + (128 * 1 + m.val) - 128 < 128; omega⟩ : Fin 128) = m := Fin.ext (by show 256 * 0 + (128 * 1 + m.val) - 128 = m.val; omega)
      rw [dif_neg (by show ¬ 256 * 0 + (128 * 1 + m.val) < 128; omega), dif_pos (by show 256 * 0 + (128 * 1 + m.val) - 128 < 128; omega), h]
  | 1 =>
    constructor
    · have h : (⟨(row512 1 (half 0 m)).val - 128 - 128, by show 256 * 1 + (128 * 0 + m.val) - 128 - 128 < 128; omega⟩ : Fin 128) = m := Fin.ext (by show 256 * 1 + (128 * 0 + m.val) - 128 - 128 = m.val; omega)
      rw [dif_neg (by show ¬ 256 * 1 + (128 * 0 + m.val) < 128; omega), dif_neg (by show ¬ 256 * 1 + (128 * 0 + m.val) - 128 < 128; omega),
        dif_pos (by show 256 * 1 + (128 * 0 + m.val) - 128 - 128 < 128; omega), h]
    · have h : (⟨(row512 1 (half 1 m)).val - 128 - 128 - 128, by show 256 * 1 + (128 * 1 + m.val) - 128 - 128 - 128 < 128; omega⟩ : Fin 128) = m := Fin.ext (by show 256 * 1 + (128 * 1 + m.val) - 128 - 128 - 128 = m.val; omega)
      rw [dif_neg (by show ¬ 256 * 1 + (128 * 1 + m.val) < 128; omega), dif_neg (by show ¬ 256 * 1 + (128 * 1 + m.val) - 128 < 128; omega),
        dif_neg (by show ¬ 256 * 1 + (128 * 1 + m.val) - 128 - 128 < 128; omega), h]

theorem weigh_at (V : FVec Ideal S512x128 .bf16) (P0 E1 : FVec Ideal S128x128 .f32) (D : FVec Ideal S1x128 .f32) (P1 : Fin 128 → Fin 128 → EReal)
    (h1 : ∀ m r, @Eq EReal ((E1 (ix2 m r) : EReal) * Ideal.div 1 (D (ix2 0 r))) (P1 m r)) (r l : Fin 128) :
    @Eq EReal (k0_pay48 (F := Ideal) k0_pay3 V P0 E1 D (Scalar.ofBits .f32 0x3F800000#32) (ix2 r l))
      (∑ x : Fin 512, laidOut (fun m => P0 (ix2 m r)) (fun m => P1 m r) r x * (V (ix2 x l) : EReal)) := by
  unfold k0_pay48 laidOut
  pointwise
  simp only [early_at, h1]

/-- An entry of a tile the kernel stores: the weighted sum of the values over the merged keys. -/
theorem pair_at (p : Fin 2) (W U : FVec Ideal S256x128 .f32) (Q : FVec Ideal S128x128 .bf16) (B : Vec Ideal S1x1x256x128 .f32) (s : Fin 2 → EReal)
    (r : Fin 128) (e : Fin 2) (t : Fin 64) :
    @Eq EReal (pairOut (spread p W) (spread p U) Q B (s 0) (s 1) (ix2 r (lane e t)))
      (∑ m : Fin 128, sinkWeight (mergedScore p W Q B e r) (s e) m * U (ix2 (key m r) (lane p t)) : EReal) := by
  unfold pairOut
  have s0 : (fun m : Fin 128 => (k0_pay42 (F := Ideal) k0_pay3 (spread p W) Q B (ix2 (half 0 m) r) : EReal)) = mergedScore p W Q B 0 r := funext fun m => scores_at p W Q B 0 r m
  have s1 : ∀ r, (fun m : Fin 128 => (k0_pay42 (F := Ideal) k0_pay3 (spread p W) Q B (ix2 (half 1 m) r) : EReal)) = mergedScore p W Q B 1 r := fun r => funext fun m => scores_at p W Q B 1 r m
  refine (weigh_at _ _ _ _ (fun m r => sinkWeight (mergedScore p W Q B 1 r) (s 1) m) (fun m r => (weight1_at _ _ _ _ m r).trans (by rw [s1])) r _).trans ?_
  have w0 : (fun m : Fin 128 => (k0_pay43 (F := Ideal) k0_pay3 (spread p W) Q B (s 0) (ix2 m r) : EReal)) = sinkWeight (mergedScore p W Q B 0 r) (s 0) :=
    funext fun m => (weight0_at _ _ _ _ m r).trans (by rw [s0])
  rw [w0, spread_mix, sum_halves, ← Finset.sum_add_distrib]
  have hl := laidOut_at (fun e => sinkWeight (mergedScore p W Q B e r) (s e)) r e
  refine Finset.sum_congr (M := EReal) rfl fun m _ => ?_
  refine (congrArg₂ (fun a b : EReal => a * (U (ix2 (half 0 m) (lane p t)) : EReal) + b * (U (ix2 (half 1 m) (lane p t)) : EReal)) (hl m).1 (hl m).2).trans ?_
  unfold key
  split
  · rw [zero_mul, add_zero]
  · rw [zero_mul, zero_add]

end Cert.AttnFwdIdeal.Array
-- ==== Proof.AttnFwdTable.lean ====
/-
  The table of biases the attention's forward call fills at its first grid point.
-/
module

public import proofs.«01_k».proof.Proof.AttnFwdTile
public import proofs.«01_k».proof.Proof.FfnReal

@[expose] public section

set_option maxRecDepth 16384

noncomputable section

namespace Cert.AttnFwdIdeal.Array

open Cert.AttnFwdIdeal Cert.AttnFwdIdeal.Gen Cert.AttnFwdIdeal.Value Idealize.ShloMosaic Idealize.ShloMosaic.TcCoe Idealize.SL.Sem Cert.Proof Cert.Proof.Reals

theorem upper_at (e : Fin 2) (m r : Fin 128) {α : Type} (x y : α) : Scalar.select (k0_pay6 (ix2 (half e m) r)) x y = if e = 1 then x else y := by
  have h : k0_pay6 (ix2 (half e m) r) = if e = 1 then 1#1 else 0#1 := by
    unfold k0_pay6
    pointwise
    exact (by decide +kernel : ∀ (e : Fin 2) (m : Fin 128), (IntOp.cmpi .sge (BitVec.ofNat 32 (128 * e.val + m.val)) 128#32) = if e = 1 then 1#1 else 0#1) e m
  rw [h]
  by_cases hc : e = 1
  · rw [if_pos hc, if_pos hc]; rfl
  · rw [if_neg hc, if_neg hc]; rfl

theorem pay7_at (e : Fin 2) (m r : Fin 128) : k0_pay7 (ix2 (half e m) r) = BitVec.ofNat 32 m.val := by
  have hs := upper_at e m r (IntOp.subi (BitVec.ofNat 32 (half e m).val) 128#32) (BitVec.ofNat 32 (half e m).val)
  unfold k0_pay7
  generalize k0_pay6 = b at hs
  pointwise
  refine hs.trans ?_
  exact (by decide +kernel : ∀ (e : Fin 2) (m : Fin 128), (if e = 1 then IntOp.subi (BitVec.ofNat 32 (128 * e.val + m.val)) 128#32 else BitVec.ofNat 32 (128 * e.val + m.val)) = BitVec.ofNat 32 m.val) e m

theorem pay8_at (e : Fin 2) (m r : Fin 128) : k0_pay8 (ix2 (half e m) r) = if r < m then 1#1 else 0#1 := by
  have hs := pay7_at e m r
  unfold k0_pay8
  generalize k0_pay7 = b at hs
  pointwise
  rw [hs]
  exact (by decide +kernel : ∀ m r : Fin 128, (IntOp.cmpi .sgt (BitVec.ofNat 32 m.val) (BitVec.ofNat 32 r.val)) = if r < m then 1#1 else 0#1) m r

/-- How far the key of merged row `m` lies before query `r`. -/
def dist (m r : Fin 128) : ℕ := (if r < m then 128 else 0) + r.val - m.val

theorem pay9_at (e : Fin 2) (m r : Fin 128) : @Eq EReal (k0_pay9 (F := Ideal) (ix2 (half e m) r)) (((dist m r : ℤ) : ℝ) : EReal) := by
  have hs := pay7_at e m r
  have h8 := pay8_at e m r
  unfold k0_pay9
  generalize k0_pay7 = b at hs
  generalize k0_pay8 = d at h8
  pointwise
  rw [hs, h8]
  have h := (by decide +kernel : ∀ m r : Fin 128, (IntOp.subi (IntOp.addi (Scalar.select (if r < m then 1#1 else 0#1) 128#32 0#32) (BitVec.ofNat 32 r.val)) (BitVec.ofNat 32 m.val)).toInt = (((if r < m then 128 else 0) + r.val - m.val : ℕ) : ℤ)) m r
  exact congrArg (fun z : ℤ => ((z : ℝ) : EReal)) h

theorem open_at (ce co : Elt Ideal .f32) (e : Fin 2) (m r : Fin 128) :
    @Eq EReal (fillOpen ce co (ix4 0 0 (half e m) r)) ((0 - (if e = 1 then ce else co : EReal)) * (((dist m r : ℤ) : ℝ) : EReal)) := by
  have h6 := upper_at e m r (α := EReal) ce co
  have h9 := pay9_at e m r
  unfold fillOpen
  generalize k0_pay6 = b at h6
  generalize k0_pay9 (F := Ideal) = d at h9
  pointwise
  rw [h9, h6]

theorem masked_at (ce co : Elt Ideal .f32) (e : Fin 2) (m r : Fin 128) :
    @Eq EReal (fillMasked ce co (ix4 0 0 (half e m) r)) (if r < m then ⊥ else (0 - (if e = 1 then ce else co : EReal)) * (((dist m r : ℤ) : ℝ) : EReal)) := by
  have h6 := upper_at e m r (α := EReal) ce co
  have h9 := pay9_at e m r
  have h8 := pay8_at e m r
  unfold fillMasked
  generalize k0_pay6 = b at h6
  generalize k0_pay9 (F := Ideal) = d at h9
  generalize k0_pay8 = a at h8
  pointwise
  rw [h9, h6, h8, IdealRules.named_const.ideal_named_scalar _ _ _ _ rfl]
  by_cases hc : r < m
  · rw [if_pos hc, if_pos hc]; rfl
  · rw [if_neg hc, if_neg hc]; rfl

/-- The slopes of the second heads of the pairs, -/
def slopeE : Fin 8 → EReal :=
  ![Scalar.ofBits (F := Ideal) .f32 0x3F000000#32, Scalar.ofBits (F := Ideal) .f32 0x3E800000#32, Scalar.ofBits (F := Ideal) .f32 0x3E000000#32,
    Scalar.ofBits (F := Ideal) .f32 0x3D800000#32, Scalar.ofBits (F := Ideal) .f32 0x3D000000#32, Scalar.ofBits (F := Ideal) .f32 0x3C800000#32,
    Scalar.ofBits (F := Ideal) .f32 0x3C000000#32, Scalar.ofBits (F := Ideal) .f32 0x3B800000#32]
/-- and of the first. -/
def slopeO : Fin 8 → EReal :=
  ![Named.named (F := Ideal) (φ := .f32) κ "slope_1" 0x3F3504F3#32, Named.named (F := Ideal) (φ := .f32) κ "slope_3" 0x3EB504F3#32,
    Named.named (F := Ideal) (φ := .f32) κ "slope_5" 0x3E3504F3#32, Named.named (F := Ideal) (φ := .f32) κ "slope_7" 0x3DB504F3#32,
    Named.named (F := Ideal) (φ := .f32) κ "slope_9" 0x3D3504F3#32, Named.named (F := Ideal) (φ := .f32) κ "slope_11" 0x3CB504F3#32,
    Named.named (F := Ideal) (φ := .f32) κ "slope_13" 0x3C3504F3#32, Named.named (F := Ideal) (φ := .f32) κ "slope_15" 0x3BB504F3#32]

/-- The bias of the key of merged row `m` for query `r` of head `2 j + e`. -/
def bias (b : Fin 2) (j : Fin 8) (e : Fin 2) (m r : Fin 128) : EReal :=
  if b = 0 ∧ r < m then ⊥ else (0 - (if e = 1 then slopeE j else slopeO j)) * (((dist m r : ℤ) : ℝ) : EReal)

def biasTable : Vec Ideal S2x8x256x128 .f32 := fun i =>
  bias (i 0) (i 1) ⟨(i 2).val / 128, by have := (i 2).isLt; change _ < 256 at this; omega⟩ ⟨(i 2).val % 128, Nat.mod_lt _ (by decide)⟩ (i 3)

theorem biasTable_at (b : Fin 2) (j : Fin 8) (e : Fin 2) (m r : Fin 128) : biasTable (ix4 b j (half e m) r) = bias b j e m r := by
  unfold biasTable
  simp only [ix4_0, ix4_1, ix4_2, ix4_3]
  have e1 : ∀ h, (⟨(half e m).val / 128, h⟩ : Fin 2) = e := fun _ => Fin.ext (by show (128 * e.val + m.val) / 128 = e.val; omega)
  have e2 : ∀ h, (⟨(half e m).val % 128, h⟩ : Fin 128) = m := fun _ => Fin.ext (by show (128 * e.val + m.val) % 128 = m.val; omega)
  rw [e1, e2]

theorem fill_piece (y : S2x8x256x128.Idx) (b : Fin 2) (j : Fin 8) (w : FVec Ideal S1x1x256x128 .f32) (o0 o1 : ℕ) (h0 : o0 = b.val) (h1 : o1 = j.val)
    (hw : ∀ e m r, @Eq EReal (w (ix4 0 0 (half e m) r)) (bias b j e m r)) :
    View.TileAt y ![o0, o1, 0, 0] S1x1x256x128.size w (biasTable y) := by
  intro x hx
  obtain ⟨x0, x1, i, r, rfl⟩ : ∃ (x0 : Fin 1) (x1 : Fin 1) (i : Fin 256) (r : Fin 128), x = ix4 x0 x1 i r := ⟨_, _, _, _, eq_ix4 (n0 := 1) (n1 := 1) (n2 := 256) (n3 := 128) x⟩
  obtain ⟨y0, y1, y2, y3, rfl⟩ : ∃ (y0 : Fin 2) (y1 : Fin 8) (y2 : Fin 256) (y3 : Fin 128), y = ix4 y0 y1 y2 y3 := ⟨_, _, _, _, eq_ix4 (n0 := 2) (n1 := 8) (n2 := 256) (n3 := 128) y⟩
  have e0 : y0.val = o0 + x0.val := hx 0
  have e1 : y1.val = o1 + x1.val := hx 1
  have e2 : y2.val = 0 + i.val := hx 2
  have e3 : y3.val = 0 + r.val := hx 3
  obtain rfl : y0 = b := Fin.ext (by omega)
  obtain rfl : y1 = j := Fin.ext (by omega)
  obtain rfl : x0 = 0 := Fin.ext (by omega)
  obtain rfl : x1 = 0 := Fin.ext (by omega)
  obtain rfl : y3 = r := Fin.ext (by omega)
  obtain rfl : y2 = i := Fin.ext (by omega)
  obtain ⟨e, m, rfl⟩ : ∃ (e : Fin 2) (m : Fin 128), y2 = half e m := ⟨⟨y2.val / 128, by omega⟩, ⟨y2.val % 128, by omega⟩, Fin.ext (by show y2.val = 128 * (y2.val / 128) + y2.val % 128; omega)⟩
  exact (hw e m y3).trans (biasTable_at _ _ e m y3).symm

theorem bias_open (j : Fin 8) (e : Fin 2) (m r : Fin 128) : @Eq EReal (fillOpen (slopeE j) (slopeO j) (ix4 0 0 (half e m) r)) (bias 1 j e m r) :=
  (open_at _ _ e m r).trans (if_neg (fun h => absurd h.1 (by decide))).symm

theorem bias_masked (j : Fin 8) (e : Fin 2) (m r : Fin 128) : @Eq EReal (fillMasked (slopeE j) (slopeO j) (ix4 0 0 (half e m) r)) (bias 0 j e m r) := by
  refine (masked_at _ _ e m r).trans ?_
  unfold bias
  by_cases hc : r < m
  · rw [if_pos hc, if_pos ⟨rfl, hc⟩]
  · exact (if_neg hc).trans (if_neg (fun h => hc h.2)).symm

section Cases
variable (d : Dev nD) (i : grid0.Coords) (a1 : Memref sig .tc .smem S1x16 .f32) (h1 : a1.IsWhole) (a2 : Memref sig .tc .vmem S2048x1536 .bf16) (h2 : a2.IsWhole)
  (a3 : Memref sig .tc .vmem S1x128 .f32) (h3 : a3.IsWhole) (a4 : Memref sig .tc .vmem S1x128 .f32) (h4 : a4.IsWhole)
  (a5 : Memref sig .tc .vmem S2048x1024 .bf16) (h5 : a5.IsWhole) (a6 : Memref sig .tc .vmem S2x8x256x128 .f32) (h6 : a6.IsWhole)
  (x0 : Vec Ideal S1x16 .f32) (x1 : Vec Ideal S2048x1536 .bf16) (x2 x3 : Vec Ideal S1x128 .f32)

/-- Every piece of the first point's fill agrees with the table, -/
theorem fill_all (c : cond0_0 i) (y : S2x8x256x128.Idx) : View.AllAt (kernelRun0_A (F := Ideal) d i a1 h1 a2 h2 a3 h3 a4 h4 a5 h5 a6 h6 c x0 x1 x2 x3).2.1 y (biasTable y) := by
  rw [fill_eq]
  exact View.allAt_cons_unit _ _ _ _ _ (fill_piece y 0 7 _ 0 7 rfl rfl (bias_masked 7)) <|
    View.allAt_cons_unit _ _ _ _ _ (fill_piece y 1 7 _ 1 7 rfl rfl (bias_open 7)) <|
    View.allAt_cons_unit _ _ _ _ _ (fill_piece y 0 6 _ 0 6 rfl rfl (bias_masked 6)) <|
    View.allAt_cons_unit _ _ _ _ _ (fill_piece y 1 6 _ 1 6 rfl rfl (bias_open 6)) <|
    View.allAt_cons_unit _ _ _ _ _ (fill_piece y 0 5 _ 0 5 rfl rfl (bias_masked 5)) <|
    View.allAt_cons_unit _ _ _ _ _ (fill_piece y 1 5 _ 1 5 rfl rfl (bias_open 5)) <|
    View.allAt_cons_unit _ _ _ _ _ (fill_piece y 0 4 _ 0 4 rfl rfl (bias_masked 4)) <|
    View.allAt_cons_unit _ _ _ _ _ (fill_piece y 1 4 _ 1 4 rfl rfl (bias_open 4)) <|
    View.allAt_cons_unit _ _ _ _ _ (fill_piece y 0 3 _ 0 3 rfl rfl (bias_masked 3)) <|
    View.allAt_cons_unit _ _ _ _ _ (fill_piece y 1 3 _ 1 3 rfl rfl (bias_open 3)) <|
    View.allAt_cons_unit _ _ _ _ _ (fill_piece y 0 2 _ 0 2 rfl rfl (bias_masked 2)) <|
    View.allAt_cons_unit _ _ _ _ _ (fill_piece y 1 2 _ 1 2 rfl rfl (bias_open 2)) <|
    View.allAt_cons_unit _ _ _ _ _ (fill_piece y 0 1 _ 0 1 rfl rfl (bias_masked 1)) <|
    View.allAt_cons_unit _ _ _ _ _ (fill_piece y 1 1 _ 1 1 rfl rfl (bias_open 1)) <|
    View.allAt_cons_unit _ _ _ _ _ (fill_piece y 0 0 _ 0 0 rfl rfl (bias_masked 0)) <|
    View.allAt_cons_unit _ _ _ _ _ (fill_piece y 1 0 _ 1 0 rfl rfl (bias_open 0)) <|
    View.allAt_nil _ _

/-- and the fill leaves the table in the carried buffer. -/
theorem filled (c : cond0_0 i) :
    a6.view.read (Elt Ideal) (a6.view.writes (Elt Ideal) a6.view.junk (kernelRun0_A (F := Ideal) d i a1 h1 a2 h2 a3 h3 a4 h4 a5 h5 a6 h6 c x0 x1 x2 x3).2.1) = biasTable := by
  have hc := scover0_A_0 (F := Ideal) d i a1 h1 a2 h2 a3 h3 a4 h4 a5 h5 a6 h6 c x0 x1 x2 x3
  rw [View.read_writes_eq_canon _ _ _ hc]
  funext y
  exact View.canon_eq_of_allAt _ y _ (hc y) (fill_all d i a1 h1 a2 h2 a3 h3 a4 h4 a5 h5 a6 h6 x0 x1 x2 x3 c y)

theorem scratch_A (c : cond0_0 i) : sout0_A_0 (F := Ideal) d i a1 h1 a2 h2 a3 h3 a4 h4 a5 h5 a6 h6 c x0 x1 x2 x3 = biasTable := by
  unfold sout0_A_0
  have hc := scover0_A_0 (F := Ideal) d i a1 h1 a2 h2 a3 h3 a4 h4 a5 h5 a6 h6 c x0 x1 x2 x3
  rw [View.read_writes_eq_canon _ _ _ hc]
  funext y
  exact View.canon_eq_of_allAt _ y _ (hc y) (fill_all d i a1 h1 a2 h2 a3 h3 a4 h4 a5 h5 a6 h6 x0 x1 x2 x3 c y)

end Cases

/-- The carried buffer holds the table after every point. -/
theorem held (m : (ℓ : Loc nD τ sig) → Buf (Elt Ideal) ℓ) (c : Dev nD) (n : ℕ) (h : n < cfg0.N) : (outsAt0 m c n h).2 = biasTable := by
  induction n with
  | zero =>
    refine (congrArg (fun x => x.2) (outsAt0_A m c ⟨0, h⟩ (Nat.zero_mod _))).trans ?_
    dsimp only
    rw [scratch_A]
  | succ n ih =>
    have hN : n + 1 < 4 := lt_of_lt_of_eq h N_0
    refine (congrArg (fun x => x.2) (outsAt0_B m c ⟨n + 1, h⟩ (by dsimp only; omega))).trans ?_
    dsimp only
    unfold sout0_B_0
    exact ih (Nat.lt_of_succ_lt h)

end Cert.AttnFwdIdeal.Array
-- ==== Proof.AttnFwdArray.lean ====
/-
  The attention's forward call: its result array as a function of its arguments over the extended reals.
-/
module

public import proofs.«01_k».proof.Proof.AttnFwdTable
public import proofs.«01_k».proof.Proof.FfnReal

@[expose] public section

set_option maxRecDepth 16384

noncomputable section

namespace Cert.AttnFwdIdeal.Array

open Idealize.ShloMosaic.Pipeline (Dat)
open Cert.AttnFwdIdeal Cert.AttnFwdIdeal.Gen Cert.AttnFwdIdeal.Value Idealize.ShloMosaic Idealize.ShloMosaic.TcCoe Idealize.SL.Sem Cert.Proof Cert.Proof.Reals

variable (m : (ℓ : Loc nD τ sig) → Buf (Elt Ideal) ℓ) (ρ : Dev nD → PrngReg)

theorem off1_eq : ∀ k : Fin k0_t1_loop.trips, k0_off1 k = ![128 * (k.val - 1), 1024] := by decide +kernel
theorem off2_eq : ∀ k : Fin k0_t1_loop.trips, k0_off2 k = ![128 * k.val, 1024] := by decide +kernel
theorem off3_eq : ∀ k : Fin k0_t1_loop.trips, k0_off3 k = ![128 * (k.val - 1), 1280] := by decide +kernel
theorem off4_eq : ∀ k : Fin k0_t1_loop.trips, k0_off4 k = ![128 * k.val, 1280] := by decide +kernel
theorem off17_eq : ∀ k : Fin k0_t1_loop.trips, k0_off17 k = ![128 * (k.val - 1), 1152] := by decide +kernel
theorem off18_eq : ∀ k : Fin k0_t1_loop.trips, k0_off18 k = ![128 * k.val, 1152] := by decide +kernel
theorem off19_eq : ∀ k : Fin k0_t1_loop.trips, k0_off19 k = ![128 * (k.val - 1), 1408] := by decide +kernel
theorem off20_eq : ∀ k : Fin k0_t1_loop.trips, k0_off20 k = ![128 * k.val, 1408] := by decide +kernel
theorem off5_eq : ∀ k : Fin k0_t1_loop.trips, k0_off5 k = ![128 * k.val, 0] := by decide +kernel
theorem off7_eq : ∀ k : Fin k0_t1_loop.trips, k0_off7 k = ![128 * k.val, 0] := by decide +kernel
theorem off6_eq : ∀ k : Fin k0_t1_loop.trips, k0_off6 k = ![if k.val = 0 then 0 else 1, 0, 0, 0] := by decide +kernel
theorem off8_eq : ∀ k : Fin k0_t1_loop.trips, k0_off8 k = ![128 * k.val, 128] := by decide +kernel
theorem off10_eq : ∀ k : Fin k0_t1_loop.trips, k0_off10 k = ![128 * k.val, 128] := by decide +kernel
theorem off9_eq : ∀ k : Fin k0_t1_loop.trips, k0_off9 k = ![if k.val = 0 then 0 else 1, 1, 0, 0] := by decide +kernel
theorem off11_eq : ∀ k : Fin k0_t1_loop.trips, k0_off11 k = ![128 * k.val, 256] := by decide +kernel
theorem off13_eq : ∀ k : Fin k0_t1_loop.trips, k0_off13 k = ![128 * k.val, 256] := by decide +kernel
theorem off12_eq : ∀ k : Fin k0_t1_loop.trips, k0_off12 k = ![if k.val = 0 then 0 else 1, 2, 0, 0] := by decide +kernel
theorem off14_eq : ∀ k : Fin k0_t1_loop.trips, k0_off14 k = ![128 * k.val, 384] := by decide +kernel
theorem off16_eq : ∀ k : Fin k0_t1_loop.trips, k0_off16 k = ![128 * k.val, 384] := by decide +kernel
theorem off15_eq : ∀ k : Fin k0_t1_loop.trips, k0_off15 k = ![if k.val = 0 then 0 else 1, 3, 0, 0] := by decide +kernel
theorem off21_eq : ∀ k : Fin k0_t1_loop.trips, k0_off21 k = ![128 * k.val, 512] := by decide +kernel
theorem off23_eq : ∀ k : Fin k0_t1_loop.trips, k0_off23 k = ![128 * k.val, 512] := by decide +kernel
theorem off22_eq : ∀ k : Fin k0_t1_loop.trips, k0_off22 k = ![if k.val = 0 then 0 else 1, 4, 0, 0] := by decide +kernel
theorem off24_eq : ∀ k : Fin k0_t1_loop.trips, k0_off24 k = ![128 * k.val, 640] := by decide +kernel
theorem off26_eq : ∀ k : Fin k0_t1_loop.trips, k0_off26 k = ![128 * k.val, 640] := by decide +kernel
theorem off25_eq : ∀ k : Fin k0_t1_loop.trips, k0_off25 k = ![if k.val = 0 then 0 else 1, 5, 0, 0] := by decide +kernel
theorem off27_eq : ∀ k : Fin k0_t1_loop.trips, k0_off27 k = ![128 * k.val, 768] := by decide +kernel
theorem off29_eq : ∀ k : Fin k0_t1_loop.trips, k0_off29 k = ![128 * k.val, 768] := by decide +kernel
theorem off28_eq : ∀ k : Fin k0_t1_loop.trips, k0_off28 k = ![if k.val = 0 then 0 else 1, 6, 0, 0] := by decide +kernel
theorem off30_eq : ∀ k : Fin k0_t1_loop.trips, k0_off30 k = ![128 * k.val, 896] := by decide +kernel
theorem off32_eq : ∀ k : Fin k0_t1_loop.trips, k0_off32 k = ![128 * k.val, 896] := by decide +kernel
theorem off31_eq : ∀ k : Fin k0_t1_loop.trips, k0_off31 k = ![if k.val = 0 then 0 else 1, 7, 0, 0] := by decide +kernel

/-- The row of the sequence holding key `κ` of query block `n`: the previous block's rows and then the own block's. -/
def rowAt (n : Fin 16) (κ : Fin 256) : Fin 2048 := ⟨if κ.val < 128 then 128 * (n.val - 1) + κ.val else 128 * n.val + (κ.val - 128), by split <;> omega⟩
/-- The column of a key's entry, of a value's and of a query's. -/
def keyCol (j : Fin 8) (t : Fin 64) : Fin 1536 := ⟨1024 + (64 * (j.val / 2) + t.val), by omega⟩
def valCol (j : Fin 8) (t : Fin 64) : Fin 1536 := ⟨1280 + (64 * (j.val / 2) + t.val), by omega⟩
def queryCol (j : Fin 8) (e : Fin 2) (t : Fin 64) : Fin 1536 := ⟨128 * j.val + (64 * e.val + t.val), by omega⟩
def queryRow (n : Fin 16) (r : Fin 128) : Fin 2048 := ⟨128 * n.val + r.val, by omega⟩
def par (j : Fin 8) : Fin 2 := ⟨j.val / 2 % 2, by omega⟩

/-- An entry of a scaled key, and of a scaled query. -/
def keyEntry (X : Vec Ideal S2048x1536 .bf16) (gk : Vec Ideal S1x128 .f32) (n : Fin 16) (j : Fin 8) (κ : Fin 256) (t : Fin 64) : EReal :=
  X (ix2 (rowAt n κ) (keyCol j t)) * unitScale (fun t => X (ix2 (rowAt n κ) (keyCol j t))) * gk (ix2 0 (lane (par j) t))
def queryEntry (X : Vec Ideal S2048x1536 .bf16) (gq : Vec Ideal S1x128 .f32) (n : Fin 16) (j : Fin 8) (e : Fin 2) (r : Fin 128) (t : Fin 64) : EReal :=
  X (ix2 (queryRow n r) (queryCol j e t)) * unitScale (fun t => X (ix2 (queryRow n r) (queryCol j e t))) * (gq (ix2 0 (lane e t)) * Ideal.ofBits FTy.f32 0x3E000000#32)

/-- The score of the key of merged row `m` for query `r` of block `n` and head `2 j + e`. -/
def score (X : Vec Ideal S2048x1536 .bf16) (gq gk : Vec Ideal S1x128 .f32) (T : Vec Ideal S2x8x256x128 .f32) (n : Fin 16) (j : Fin 8) (e : Fin 2) (r m : Fin 128) : EReal :=
  (∑ t : Fin 64, keyEntry X gk n j (key m r) t * queryEntry X gq n j e r t : EReal) + T (ix4 (if n.val = 0 then 0 else 1) j (half e m) r)

/-- An entry of the result of one sequence. -/
def attnEntry (X : Vec Ideal S2048x1536 .bf16) (gq gk : Vec Ideal S1x128 .f32) (T : Vec Ideal S2x8x256x128 .f32) (s : Vec Ideal S1x16 .f32)
    (n : Fin 16) (r : Fin 128) (j : Fin 8) (e : Fin 2) (t : Fin 64) : EReal :=
  ∑ m : Fin 128, sinkWeight (score X gq gk T n j e r) (s (ix2 0 ⟨2 * j.val + e.val, by omega⟩)) m * X (ix2 (rowAt n (key m r)) (valCol j t))

def blockOut (X : Vec Ideal S2048x1536 .bf16) (gq gk : Vec Ideal S1x128 .f32) (T : Vec Ideal S2x8x256x128 .f32) (s : Vec Ideal S1x16 .f32) : Vec Ideal S2048x1024 .bf16 :=
  fun i => attnEntry X gq gk T s ⟨(i 0).val / 128, by have := (i 0).isLt; change _ < 2048 at this; omega⟩ ⟨(i 0).val % 128, Nat.mod_lt _ (by decide)⟩
    ⟨(i 1).val / 128, by have := (i 1).isLt; change _ < 1024 at this; omega⟩ ⟨(i 1).val / 64 % 2, Nat.mod_lt _ (by decide)⟩ ⟨(i 1).val % 64, Nat.mod_lt _ (by decide)⟩

theorem blockOut_at (X : Vec Ideal S2048x1536 .bf16) (gq gk : Vec Ideal S1x128 .f32) (T : Vec Ideal S2x8x256x128 .f32) (s : Vec Ideal S1x16 .f32)
    (n : Fin 16) (r : Fin 128) (j : Fin 8) (e : Fin 2) (t : Fin 64) (a : Fin 2048) (b : Fin 1024) (ha : a.val = 128 * n.val + r.val) (hb : b.val = 128 * j.val + (64 * e.val + t.val)) :
    blockOut X gq gk T s (ix2 a b) = attnEntry X gq gk T s n r j e t := by
  unfold blockOut
  simp only [ix2_0, ix2_1]
  have e1 : ∀ h, (⟨a.val / 128, h⟩ : Fin 16) = n := fun _ => Fin.ext (by show a.val / 128 = n.val; omega)
  have e2 : ∀ h, (⟨a.val % 128, h⟩ : Fin 128) = r := fun _ => Fin.ext (by show a.val % 128 = r.val; omega)
  have e3 : ∀ h, (⟨b.val / 128, h⟩ : Fin 8) = j := fun _ => Fin.ext (by show b.val / 128 = j.val; omega)
  have e4 : ∀ h, (⟨b.val / 64 % 2, h⟩ : Fin 2) = e := fun _ => Fin.ext (by show b.val / 64 % 2 = e.val; omega)
  have e5 : ∀ h, (⟨b.val % 64, h⟩ : Fin 64) = t := fun _ => Fin.ext (by show b.val % 64 = t.val; omega)
  rw [e1, e2, e3, e4, e5]

section Pieces
variable (a1 : Memref sig .tc .smem S1x16 .f32) (h1 : a1.IsWhole) (a2 : Memref sig .tc .vmem S2048x1536 .bf16) (h2 : a2.IsWhole)
  (a6 : Memref sig .tc .vmem S2x8x256x128 .f32)
  (x0 : Vec Ideal S1x16 .f32) (x1 : Vec Ideal S2048x1536 .bf16) (x2 x3 : Vec Ideal S1x128 .f32)
  (X6 : BufTy.Contents (Elt Ideal) a6.view.ty) (T : Vec Ideal S2x8x256x128 .f32) (hT : a6.view.read (Elt Ideal) X6 = T)

theorem rows_at (off : Fin 2 → ℕ) (inb : ∀ a, off a + S128x128.size a ≤ S2048x1536.size a) (o0 o1 : ℕ) (ho : off = ![o0, o1]) (p l : Fin 128) (a : Fin 2048) (b : Fin 1536)
    (ha : a.val = o0 + p.val) (hb : b.val = o1 + l.val) : rows a2 (h2.unread x1) off inb (ix2 p l) = x1 (ix2 a b) := by
  subst ho
  unfold rows
  rw [View.readAt_eq_ld, h2.read_unread]
  exact View.ld_unit_apply_of _ _ _ _ _ (ix2 a b) fun c => match c with
    | 0 => ha
    | 1 => hb

include hT in
theorem bias_at (off : Fin 4 → ℕ) (inb : ∀ a, off a + S1x1x256x128.size a ≤ S2x8x256x128.size a) (o0 o1 : ℕ) (ho : off = ![o0, o1, 0, 0]) (b : Fin 2) (j : Fin 8)
    (hb : b.val = o0) (hj : j.val = o1) (i : Fin 256) (r : Fin 128) : biasAt a6 X6 off inb (ix4 0 0 i r) = T (ix4 b j i r) := by
  subst ho
  unfold biasAt
  rw [View.readAt_eq_ld, hT]
  exact View.ld_unit_apply_of _ _ _ _ _ (ix4 b j i r) fun c => match c with
    | 0 => hb
    | 1 => hj
    | 2 => (Nat.zero_add _).symm
    | 3 => (Nat.zero_add _).symm

theorem sink_at (off : Fin 2 → ℕ) (inb : ∀ a, off a + S1x1.size a ≤ S1x16.size a) (o : ℕ) (ho : off = ![0, o]) (h : o < 16) :
    sinkAt a1 (h1.unread x0) off inb = x0 (ix2 0 ⟨o, h⟩) := by
  subst ho
  unfold sinkAt
  rw [View.readAt_eq_ld, h1.read_unread]
  exact View.ld_unit_apply_of _ _ _ _ _ (ix2 0 ⟨o, h⟩) fun c => match c with
    | 0 => rfl
    | 1 => rfl

theorem stacked_rows (k : Fin 16) (o : ℕ) (oA oB : Fin 2 → ℕ) (iA : ∀ a, oA a + S128x128.size a ≤ S2048x1536.size a) (iB : ∀ a, oB a + S128x128.size a ≤ S2048x1536.size a)
    (eA : oA = ![128 * (k.val - 1), o]) (eB : oB = ![128 * k.val, o]) (κ : Fin 256) (l : Fin 128) (b : Fin 1536) (hb : b.val = o + l.val) :
    @Eq EReal (stacked (rows a2 (h2.unread x1) oA iA) (rows a2 (h2.unread x1) oB iB) (ix2 κ l)) (x1 (ix2 (rowAt k κ) b)) := by
  by_cases hk : κ.val < 128
  · obtain ⟨p, rfl⟩ : ∃ p : Fin 128, κ = half 0 p := ⟨⟨κ.val, hk⟩, Fin.ext (by show κ.val = 128 * 0 + κ.val; omega)⟩
    refine (stacked_0 _ _ p l).trans (rows_at a2 h2 x1 oA iA _ _ eA p l _ _ ?_ hb)
    refine (if_pos hk).trans ?_
    show 128 * (k.val - 1) + (128 * 0 + p.val) = _
    omega
  · obtain ⟨p, rfl⟩ : ∃ p : Fin 128, κ = half 1 p := ⟨⟨κ.val - 128, by omega⟩, Fin.ext (by show κ.val = 128 * 1 + (κ.val - 128); omega)⟩
    refine (stacked_1 _ _ p l).trans (rows_at a2 h2 x1 oB iB _ _ eB p l _ _ ?_ hb)
    refine (if_neg hk).trans ?_
    show 128 * k.val + (128 * 1 + p.val - 128) = _
    omega

include hT in
/-- A stored tile is the result's tile. -/
theorem piece (k : Fin 16) (j : Fin 8) (p : Fin 2) (hp : p = par j) (oA oB vA vB oQ : Fin 2 → ℕ) (oT : Fin 4 → ℕ) (s0 s1 oO : Fin 2 → ℕ)
    (iA : ∀ a, oA a + S128x128.size a ≤ S2048x1536.size a) (iB : ∀ a, oB a + S128x128.size a ≤ S2048x1536.size a)
    (jA : ∀ a, vA a + S128x128.size a ≤ S2048x1536.size a) (jB : ∀ a, vB a + S128x128.size a ≤ S2048x1536.size a)
    (iQ : ∀ a, oQ a + S128x128.size a ≤ S2048x1536.size a) (iT : ∀ a, oT a + S1x1x256x128.size a ≤ S2x8x256x128.size a)
    (i0 : ∀ a, s0 a + S1x1.size a ≤ S1x16.size a) (i1 : ∀ a, s1 a + S1x1.size a ≤ S1x16.size a)
    (eA : oA = ![128 * (k.val - 1), 1024 + 128 * (j.val / 4)]) (eB : oB = ![128 * k.val, 1024 + 128 * (j.val / 4)])
    (fA : vA = ![128 * (k.val - 1), 1280 + 128 * (j.val / 4)]) (fB : vB = ![128 * k.val, 1280 + 128 * (j.val / 4)])
    (eQ : oQ = ![128 * k.val, 128 * j.val]) (eT : oT = ![if k.val = 0 then 0 else 1, j.val, 0, 0]) (g0 : s0 = ![0, 2 * j.val]) (g1 : s1 = ![0, 2 * j.val + 1])
    (eO : oO = ![128 * k.val, 128 * j.val]) (y : S2048x1024.Idx) :
    View.TileAt y oO S128x128.size
      (pairOut (spread p (unitKeys x3 (rows a2 (h2.unread x1) oA iA) (rows a2 (h2.unread x1) oB iB))) (spread p (stacked (rows a2 (h2.unread x1) vA jA) (rows a2 (h2.unread x1) vB jB)))
        (query x2 (rows a2 (h2.unread x1) oQ iQ)) (biasAt a6 X6 oT iT) (sinkAt a1 (h1.unread x0) s0 i0) (sinkAt a1 (h1.unread x0) s1 i1))
      (blockOut x1 x2 x3 T x0 y) := by
  intro x hx
  obtain ⟨r, l, rfl⟩ : ∃ (r : Fin 128) (l : Fin 128), x = ix2 r l := ⟨_, _, eq_ix2 (n0 := 128) (n1 := 128) x⟩
  obtain ⟨a, b, rfl⟩ : ∃ (a : Fin 2048) (b : Fin 1024), y = ix2 a b := ⟨_, _, eq_ix2 (n0 := 2048) (n1 := 1024) y⟩
  obtain ⟨e, t, rfl⟩ : ∃ (e : Fin 2) (t : Fin 64), l = lane e t := ⟨⟨l.val / 64, by omega⟩, ⟨l.val % 64, by omega⟩, Fin.ext (by show l.val = 64 * (l.val / 64) + l.val % 64; omega)⟩
  subst eO
  have ha : a.val = 128 * k.val + r.val := hx 0
  have hb : b.val = 128 * j.val + (64 * e.val + t.val) := hx 1
  rw [blockOut_at x1 x2 x3 T x0 k r j e t a b ha hb, sink_at a1 h1 x0 s0 i0 _ g0 (by omega), sink_at a1 h1 x0 s1 i1 _ g1 (by omega)]
  refine (pair_at p _ _ _ _ (fun e : Fin 2 => x0 (ix2 0 ⟨2 * j.val + e.val, by omega⟩)) r e t).trans ?_
  have hpv : p.val = j.val / 2 % 2 := congrArg Fin.val hp
  have hQ : ∀ t : Fin 64, @Eq EReal (query x2 (rows a2 (h2.unread x1) oQ iQ) (ix2 r (lane e t))) (queryEntry x1 x2 k j e r t) := fun t => by
    have hr : ∀ t : Fin 64, @Eq EReal (rows a2 (h2.unread x1) oQ iQ (ix2 r (lane e t))) (x1 (ix2 (queryRow k r) (queryCol j e t))) := fun t =>
      rows_at a2 h2 x1 oQ iQ _ _ eQ r (lane e t) _ _ rfl rfl
    refine (query_at _ _ r e t).trans ?_
    unfold queryEntry
    rw [hr t, show (fun t : Fin 64 => (rows a2 (h2.unread x1) oQ iQ (ix2 r (lane e t)) : EReal)) = fun t => x1 (ix2 (queryRow k r) (queryCol j e t)) from funext hr]
  have hK : ∀ (κ : Fin 256) (t : Fin 64), @Eq EReal (unitKeys x3 (rows a2 (h2.unread x1) oA iA) (rows a2 (h2.unread x1) oB iB) (ix2 κ (lane p t))) (keyEntry x1 x3 k j κ t) := fun κ t => by
    have hr : ∀ t : Fin 64, @Eq EReal (stacked (rows a2 (h2.unread x1) oA iA) (rows a2 (h2.unread x1) oB iB) (ix2 κ (lane p t))) (x1 (ix2 (rowAt k κ) (keyCol j t))) := fun t =>
      stacked_rows a2 h2 x1 k _ oA oB iA iB eA eB κ (lane p t) _ (by show 1024 + (64 * (j.val / 2) + t.val) = 1024 + 128 * (j.val / 4) + (64 * p.val + t.val); omega)
    refine (unitKeys_at _ _ _ κ p t).trans ?_
    unfold keyEntry
    rw [hr t, ← hp, show (fun t : Fin 64 => (stacked (rows a2 (h2.unread x1) oA iA) (rows a2 (h2.unread x1) oB iB) (ix2 κ (lane p t)) : EReal)) = fun t => x1 (ix2 (rowAt k κ) (keyCol j t)) from funext hr]
  have hS : mergedScore p (unitKeys x3 (rows a2 (h2.unread x1) oA iA) (rows a2 (h2.unread x1) oB iB)) (query x2 (rows a2 (h2.unread x1) oQ iQ)) (biasAt a6 X6 oT iT) e r =
      score x1 x2 x3 T k j e r := funext fun m => by
    unfold mergedScore score
    refine congrArg₂ (fun a b : EReal => a + b) (Finset.sum_congr (M := EReal) rfl fun t _ => congrArg₂ (fun a b : EReal => a * b) (hK _ t) (hQ t)) ?_
    exact bias_at a6 X6 T hT oT iT _ _ eT _ j (by split <;> rfl) rfl (half e m) r
  rw [hS]
  unfold attnEntry
  refine Finset.sum_congr (M := EReal) rfl fun m _ => congrArg (fun b : EReal => sinkWeight _ _ m * b) ?_
  exact stacked_rows a2 h2 x1 k _ vA vB jA jB fA fB _ (lane p t) _ (by show 1280 + (64 * (j.val / 2) + t.val) = 1280 + 128 * (j.val / 4) + (64 * p.val + t.val); omega)

end Pieces

section Cases
variable (d : Dev nD) (i : grid0.Coords) (a1 : Memref sig .tc .smem S1x16 .f32) (h1 : a1.IsWhole) (a2 : Memref sig .tc .vmem S2048x1536 .bf16) (h2 : a2.IsWhole)
  (a3 : Memref sig .tc .vmem S1x128 .f32) (h3 : a3.IsWhole) (a4 : Memref sig .tc .vmem S1x128 .f32) (h4 : a4.IsWhole)
  (a5 : Memref sig .tc .vmem S2048x1024 .bf16) (h5 : a5.IsWhole) (a6 : Memref sig .tc .vmem S2x8x256x128 .f32) (h6 : a6.IsWhole)
  (x0 : Vec Ideal S1x16 .f32) (x1 : Vec Ideal S2048x1536 .bf16) (x2 x3 : Vec Ideal S1x128 .f32)
  (X6 : BufTy.Contents (Elt Ideal) a6.view.ty) (T : Vec Ideal S2x8x256x128 .f32) (hT : a6.view.read (Elt Ideal) X6 = T)

include hT in
theorem trip_all (k : Fin k0_t1_loop.trips) (y : S2048x1024.Idx) :
    View.AllAt (tripL_k0_t1 (F := Ideal) Variants.none d none i a1 h1 a2 h2 a3 h3 a4 h4 a5 h5 a6 h6 x2 x3 (h1.unread x0) (h2.unread x1) X6 k) y (blockOut x1 x2 x3 T x0 y) := by
  have hk : k.val < 16 := lt_of_lt_of_eq k.isLt trips_eq
  rw [trip_eq]
  simp only [keys0_eq, keys1_eq, vals0_eq, vals1_eq]
  exact View.allAt_cons_unit _ _ _ _ _ (piece a1 h1 a2 h2 a6 x0 x1 x2 x3 X6 T hT ⟨k.val, hk⟩ 7 1 rfl _ _ _ _ _ _ _ _ _ _ _ _ _ _ _ _ _ (off17_eq k) (off18_eq k) (off19_eq k) (off20_eq k) (off30_eq k) (off31_eq k) rfl rfl (off32_eq k) y) <|
    View.allAt_cons_unit _ _ _ _ _ (piece a1 h1 a2 h2 a6 x0 x1 x2 x3 X6 T hT ⟨k.val, hk⟩ 6 1 rfl _ _ _ _ _ _ _ _ _ _ _ _ _ _ _ _ _ (off17_eq k) (off18_eq k) (off19_eq k) (off20_eq k) (off27_eq k) (off28_eq k) rfl rfl (off29_eq k) y) <|
    View.allAt_cons_unit _ _ _ _ _ (piece a1 h1 a2 h2 a6 x0 x1 x2 x3 X6 T hT ⟨k.val, hk⟩ 5 0 rfl _ _ _ _ _ _ _ _ _ _ _ _ _ _ _ _ _ (off17_eq k) (off18_eq k) (off19_eq k) (off20_eq k) (off24_eq k) (off25_eq k) rfl rfl (off26_eq k) y) <|
    View.allAt_cons_unit _ _ _ _ _ (piece a1 h1 a2 h2 a6 x0 x1 x2 x3 X6 T hT ⟨k.val, hk⟩ 4 0 rfl _ _ _ _ _ _ _ _ _ _ _ _ _ _ _ _ _ (off17_eq k) (off18_eq k) (off19_eq k) (off20_eq k) (off21_eq k) (off22_eq k) rfl rfl (off23_eq k) y) <|
    View.allAt_cons_unit _ _ _ _ _ (piece a1 h1 a2 h2 a6 x0 x1 x2 x3 X6 T hT ⟨k.val, hk⟩ 3 1 rfl _ _ _ _ _ _ _ _ _ _ _ _ _ _ _ _ _ (off1_eq k) (off2_eq k) (off3_eq k) (off4_eq k) (off14_eq k) (off15_eq k) rfl rfl (off16_eq k) y) <|
    View.allAt_cons_unit _ _ _ _ _ (piece a1 h1 a2 h2 a6 x0 x1 x2 x3 X6 T hT ⟨k.val, hk⟩ 2 1 rfl _ _ _ _ _ _ _ _ _ _ _ _ _ _ _ _ _ (off1_eq k) (off2_eq k) (off3_eq k) (off4_eq k) (off11_eq k) (off12_eq k) rfl rfl (off13_eq k) y) <|
    View.allAt_cons_unit _ _ _ _ _ (piece a1 h1 a2 h2 a6 x0 x1 x2 x3 X6 T hT ⟨k.val, hk⟩ 1 0 rfl _ _ _ _ _ _ _ _ _ _ _ _ _ _ _ _ _ (off1_eq k) (off2_eq k) (off3_eq k) (off4_eq k) (off8_eq k) (off9_eq k) rfl rfl (off10_eq k) y) <|
    View.allAt_cons_unit _ _ _ _ _ (piece a1 h1 a2 h2 a6 x0 x1 x2 x3 X6 T hT ⟨k.val, hk⟩ 0 0 rfl _ _ _ _ _ _ _ _ _ _ _ _ _ _ _ _ _ (off1_eq k) (off2_eq k) (off3_eq k) (off4_eq k) (off5_eq k) (off6_eq k) rfl rfl (off7_eq k) y) <|
    View.allAt_nil _ _

include hT in
theorem trips_all (n : ℕ) (hn : n ≤ k0_t1_loop.trips) (y : S2048x1024.Idx) :
    View.AllAt (pb_k0_t1 (F := Ideal) Variants.none d none i a1 h1 a2 h2 a3 h3 a4 h4 a5 h5 a6 h6 x2 x3 (h1.unread x0) (h2.unread x1) X6 n) y (blockOut x1 x2 x3 T x0 y) := by
  induction n with
  | zero => exact View.allAt_nil _ _
  | succ n ih =>
    rw [pb_k0_t1_succ (F := Ideal) Variants.none d none i a1 h1 a2 h2 a3 h3 a4 h4 a5 h5 a6 h6 x2 x3 (h1.unread x0) (h2.unread x1) X6 ⟨n, hn⟩]
    intro p hp
    rcases List.mem_append.mp hp with h | h
    · exact trip_all d i a1 h1 a2 h2 a3 h3 a4 h4 a5 h5 a6 h6 x0 x1 x2 x3 X6 T hT ⟨n, hn⟩ y p h
    · exact ih (Nat.le_of_succ_le hn) p h

theorem hz2 : (![0, 0] : Fin 2 → Nat) = 0 := by decide

theorem out_A (c : cond0_0 i) : out0_A_4 (F := Ideal) d i a1 h1 a2 h2 a3 h3 a4 h4 a5 h5 a6 h6 c x0 x1 x2 x3 = blockOut x1 x2 x3 biasTable x0 := by
  unfold out0_A_4
  have hc := cover0_A_4 (F := Ideal) d i a1 h1 a2 h2 a3 h3 a4 h4 a5 h5 a6 h6 c x0 x1 x2 x3
  rw [View.read_writes_eq_canon _ _ _ hc]
  funext y
  refine View.canon_eq_of_allAt _ y _ (hc y) ?_
  rw [run_A]
  simp only [View.readAt_eq_ld, h3.read_unread, h4.read_unread, View.ld_unit_zero (S := S1x128) hz2]
  exact trips_all d i a1 h1 a2 h2 a3 h3 a4 h4 a5 h5 a6 h6 x0 x1 x2 x3 _ _ (filled d i a1 h1 a2 h2 a3 h3 a4 h4 a5 h5 a6 h6 x0 x1 x2 x3 c) _ le_rfl y

theorem out_B (c : ¬cond0_0 i) (xs : Vec Ideal S2x8x256x128 .f32) : out0_B_4 (F := Ideal) d i a1 h1 a2 h2 a3 h3 a4 h4 a5 h5 a6 h6 c x0 x1 x2 x3 xs = blockOut x1 x2 x3 xs x0 := by
  unfold out0_B_4
  have hc := cover0_B_4 (F := Ideal) d i a1 h1 a2 h2 a3 h3 a4 h4 a5 h5 a6 h6 c x0 x1 x2 x3 xs
  rw [View.read_writes_eq_canon _ _ _ hc]
  funext y
  refine View.canon_eq_of_allAt _ y _ (hc y) ?_
  rw [run_B]
  simp only [View.readAt_eq_ld, h3.read_unread, h4.read_unread, View.ld_unit_zero (S := S1x128) hz2]
  exact trips_all d i a1 h1 a2 h2 a3 h3 a4 h4 a5 h5 a6 h6 x0 x1 x2 x3 _ _ (h6.read_unread xs) _ le_rfl y

end Cases

theorem index0 : ∀ t : Fin cfg0.N, win0_0.index t = ![0, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)

abbrev qkvArg (c : Dev nD) : Vec Ideal S8192x1536 .bf16 := m ((c.tc : Thread nD τ).loc main_arg0)
abbrev qArg (c : Dev nD) : Vec Ideal S1x64 .f32 := m ((c.tc : Thread nD τ).loc main_arg1)
abbrev kArg (c : Dev nD) : Vec Ideal S1x64 .f32 := m ((c.tc : Thread nD τ).loc main_arg2)
abbrev sArg (c : Dev nD) : Vec Ideal S1x16 .f32 := m ((c.tc : Thread nD τ).loc main_arg3)

theorem s_blk (c : Dev nD) (t : Fin cfg0.N) (h : Fin 16) : iblk m c 0 t (ix2 0 h) = sArg m c (ix2 0 h) := by
  blk_ext! [iblk, V_main_arg3, index0 t]

theorem x_blk (c : Dev nD) (t : Fin cfg0.N) (p : Fin 2048) (k : Fin 1536) (h : 2048 * t.val + p.val < 8192) :
    iblk m c 1 t (ix2 p k) = qkvArg m c (ix2 ⟨2048 * t.val + p.val, h⟩ k) := by
  blk_ext! [iblk, V_main_arg0, index1 t]

theorem place (t : Fin cfg0.N) (X : Vec Ideal S8192x1024 .bf16) (p : Fin 2048) (l : Fin 1024) (h : 2048 * t.val + p.val < 8192) :
    X ((win0_4.blk t).view.emb (ix2 p l)) = X (ix2 ⟨2048 * t.val + p.val, h⟩ l) := by
  blk_ext [index4 t]

/-- One sequence's rows. -/
def seqRows (X : Vec Ideal S8192x1536 .bf16) (b : Fin 4) : Vec Ideal S2048x1536 .bf16 :=
  fun i => X (ix2 ⟨2048 * b.val + (i 0).val, by have := (i 0).isLt; change _ < 2048 at this; omega⟩ (i 1))
/-- A head's gain for each of two heads. -/
def twice (g : Vec Ideal S1x64 .f32) : Vec Ideal S1x128 .f32 := fun i => g (ix2 0 ⟨(i 1).val % 64, Nat.mod_lt _ (by decide)⟩)

/-- The result of all sequences. -/
def attended (X : Vec Ideal S8192x1536 .bf16) (gq gk : Vec Ideal S1x64 .f32) (s : Vec Ideal S1x16 .f32) : Vec Ideal S8192x1024 .bf16 :=
  fun i => blockOut (seqRows X ⟨(i 0).val / 2048, by have := (i 0).isLt; change _ < 8192 at this; omega⟩) (twice gq) (twice gk) biasTable s (ix2 ⟨(i 0).val % 2048, Nat.mod_lt _ (by decide)⟩ (i 1))

theorem twice_at (g : Vec Ideal S1x64 .f32) (e : Fin 2) (t : Fin 64) : twice g (ix2 0 (lane e t)) = g (ix2 0 t) := by
  unfold twice
  simp only [ix2_1]
  have e1 : ∀ h, (⟨(lane e t).val % 64, h⟩ : Fin 64) = t := fun _ => Fin.ext (by show (64 * e.val + t.val) % 64 = t.val; omega)
  rw [e1]

theorem joined_gain (g : Vec Ideal S1x64 .f32) : concatenate S1x128 1 [⟨S1x64, g⟩, ⟨S1x64, g⟩] concatenates_S1x64_S1x64_S1x128_d1 = twice g := by
  funext i
  obtain ⟨z, l, rfl⟩ : ∃ (z : Fin 1) (l : Fin 128), i = ix2 z l := ⟨_, _, eq_ix2 (n0 := 1) (n1 := 128) i⟩
  obtain rfl : z = 0 := Fin.ext (by omega)
  obtain ⟨e, t, rfl⟩ : ∃ (e : Fin 2) (t : Fin 64), l = lane e t := ⟨⟨l.val / 64, by omega⟩, ⟨l.val % 64, by omega⟩, Fin.ext (by show l.val = 64 * (l.val / 64) + l.val % 64; omega)⟩
  rw [twice_at]
  match e with
  | 0 => pointwise
  | 1 => pointwise

theorem gq_eq (c : Dev nD) : (V m c main_v0 : Vec Ideal S1x128 .f32) = twice (qArg m c) := by
  refine Eq.trans ?_ (joined_gain (qArg m c))
  unfold V
  after_reads_simp
  refine congrArg (fun v : Vec Ideal S1x64 .f32 => concatenate S1x128 1 [⟨S1x64, v⟩, ⟨S1x64, v⟩] concatenates_S1x64_S1x64_S1x128_d1) ?_
  first | rfl | (after_reads_simp; rfl) | after_reads_simp

theorem gk_eq (c : Dev nD) : (V m c main_v1 : Vec Ideal S1x128 .f32) = twice (kArg m c) := by
  refine Eq.trans ?_ (joined_gain (kArg m c))
  unfold V
  after_reads_simp
  refine congrArg (fun v : Vec Ideal S1x64 .f32 => concatenate S1x128 1 [⟨S1x64, v⟩, ⟨S1x64, v⟩] concatenates_S1x64_S1x64_S1x128_d1) ?_
  first | rfl | (after_reads_simp; rfl) | after_reads_simp

theorem gq_blk (c : Dev nD) (t : Fin cfg0.N) (l : Fin 128) : iblk m c 2 t (ix2 0 l) = (V m c main_v0 : Vec Ideal S1x128 .f32) (ix2 0 l) := by
  blk_ext! [iblk, index2 t]

theorem gk_blk (c : Dev nD) (t : Fin cfg0.N) (l : Fin 128) : iblk m c 3 t (ix2 0 l) = (V m c main_v1 : Vec Ideal S1x128 .f32) (ix2 0 l) := by
  blk_ext! [iblk, index3 t]

theorem blk0_eq (c : Dev nD) (t : Fin cfg0.N) : iblk m c 0 t = sArg m c := by
  funext i
  obtain ⟨z, l, rfl⟩ : ∃ (z : Fin 1) (l : Fin 16), i = ix2 z l := ⟨_, _, eq_ix2 (n0 := 1) (n1 := 16) i⟩
  obtain rfl : z = 0 := Fin.ext (by omega)
  exact s_blk m c t l

theorem blk1_eq (c : Dev nD) (t : Fin cfg0.N) (h : t.val < 4) : iblk m c 1 t = seqRows (qkvArg m c) ⟨t.val, h⟩ := by
  funext i
  obtain ⟨p, l, rfl⟩ : ∃ (p : Fin 2048) (l : Fin 1536), i = ix2 p l := ⟨_, _, eq_ix2 (n0 := 2048) (n1 := 1536) i⟩
  exact x_blk m c t p l (by omega)

theorem blk2_eq (c : Dev nD) (t : Fin cfg0.N) : iblk m c 2 t = twice (qArg m c) := by
  funext i
  obtain ⟨z, l, rfl⟩ : ∃ (z : Fin 1) (l : Fin 128), i = ix2 z l := ⟨_, _, eq_ix2 (n0 := 1) (n1 := 128) i⟩
  obtain rfl : z = 0 := Fin.ext (by omega)
  exact (gq_blk m c t l).trans (congrFun (gq_eq m c) _)

theorem blk3_eq (c : Dev nD) (t : Fin cfg0.N) : iblk m c 3 t = twice (kArg m c) := by
  funext i
  obtain ⟨z, l, rfl⟩ : ∃ (z : Fin 1) (l : Fin 128), i = ix2 z l := ⟨_, _, eq_ix2 (n0 := 1) (n1 := 128) i⟩
  obtain rfl : z = 0 := Fin.ext (by omega)
  exact (gk_blk m c t l).trans (congrFun (gk_eq m c) _)

theorem final (c : Dev nD) : (dats m 0 c).arrAt 4 cfg0.N = attended (qkvArg m c) (qArg m c) (kArg m c) (sArg m c) :=
  (dats m 0 c).arrAt_eq_of_covers 4 _ (by decide +kernel) fun t hf y => by
    blk_simp
    rw [after0_4]
    have ht : t.val < 4 := t.isLt.trans_eq N_0
    obtain ⟨p, l, rfl⟩ : ∃ (p : Fin 2048) (l : Fin 1024), y = ix2 p l := ⟨_, _, eq_ix2 (n0 := 2048) (n1 := 1024) y⟩
    refine Eq.trans ?_ (place t _ p l (by omega)).symm
    have hr : attended (qkvArg m c) (qArg m c) (kArg m c) (sArg m c) (ix2 ⟨2048 * t.val + p.val, by omega⟩ l) =
        blockOut (seqRows (qkvArg m c) ⟨t.val, ht⟩) (twice (qArg m c)) (twice (kArg m c)) biasTable (sArg m c) (ix2 p l) := by
      unfold attended
      simp only [ix2_0, ix2_1]
      have e1 : ∀ h, (⟨(2048 * t.val + p.val) / 2048, h⟩ : Fin 4) = ⟨t.val, ht⟩ := fun _ => Fin.ext (by show (2048 * t.val + p.val) / 2048 = t.val; omega)
      have e2 : ∀ h, (⟨(2048 * t.val + p.val) % 2048, h⟩ : Fin 2048) = p := fun _ => Fin.ext (by show (2048 * t.val + p.val) % 2048 = p.val; omega)
      rw [e1, e2]
    refine Eq.trans ?_ hr.symm
    by_cases h0 : t.val % 4 = 0
    · rw [outsAt0_A m c t h0]
      dsimp only
      rw [out_A, blk0_eq, blk1_eq m c t ht, blk2_eq, blk3_eq]
    · rw [outsAt0_B m c t h0]
      dsimp only
      rw [out_B, held, blk0_eq, blk1_eq m c t ht, blk2_eq, blk3_eq]

end Cert.AttnFwdIdeal.Array
-- ==== Proof.AttnFwdSlope.lean ====
module

public import proofs.«01_k».proof.Proof.AttnFwdTable
public import proofs.«01_k».proof.Proof.RowNorm

/-! The words of the attention's mask and distance, and the two spellings of a head's slope. -/

@[expose] public section

noncomputable section

namespace Cert.AttnFwdIdeal.Array

open Cert.AttnFwdIdeal Idealize.ShloMosaic Cert.Proof Cert.Proof.Reals

theorem near_0 : ∀ m r : Fin 128, IntOp.andi
    (IntOp.cmpi .sge (IntOp.subi (IntOp.addi (BitVec.ofNat 32 r.val) 128#32) (BitVec.ofNat 32 (half 0 m).val)) 0#32)
    (IntOp.cmpi .slt (IntOp.subi (IntOp.addi (BitVec.ofNat 32 r.val) 128#32) (BitVec.ofNat 32 (half 0 m).val)) 128#32)
      = if r < m then 1#1 else 0#1 := by decide +kernel

theorem near_1 : ∀ m r : Fin 128, IntOp.andi
    (IntOp.cmpi .sge (IntOp.subi (IntOp.addi (BitVec.ofNat 32 r.val) 128#32) (BitVec.ofNat 32 (half 1 m).val)) 0#32)
    (IntOp.cmpi .slt (IntOp.subi (IntOp.addi (BitVec.ofNat 32 r.val) 128#32) (BitVec.ofNat 32 (half 1 m).val)) 128#32)
      = if r < m then 0#1 else 1#1 := by decide +kernel

theorem inside_0 : ∀ (n : Fin 16) (m : Fin 128),
    IntOp.cmpi .sge (IntOp.addi (IntOp.subi (IntOp.muli (BitVec.ofNat 32 n.val) 128#32) 128#32) (BitVec.ofNat 32 (half 0 m).val)) 0#32
      = if n.val = 0 then 0#1 else 1#1 := by decide +kernel

theorem inside_1 : ∀ (n : Fin 16) (m : Fin 128),
    IntOp.cmpi .sge (IntOp.addi (IntOp.subi (IntOp.muli (BitVec.ofNat 32 n.val) 128#32) 128#32) (BitVec.ofNat 32 (half 1 m).val)) 0#32
      = 1#1 := by decide +kernel

theorem away : ∀ m r : Fin 128, (IntOp.subi (IntOp.addi (BitVec.ofNat 32 r.val) 128#32) (BitVec.ofNat 32 (key m r).val)).toInt = (dist m r : ℤ) := by
  decide +kernel

theorem away_at (m r : Fin 128) :
    @Eq EReal (FloatOps.sitofp (F := Ideal) .f32 (IntOp.subi (IntOp.addi (BitVec.ofNat 32 r.val) 128#32) (BitVec.ofNat 32 (key m r).val)))
      (((dist m r : ℤ) : ℝ) : EReal) :=
  congrArg (fun z : ℤ => ((z : ℝ) : EReal)) (away m r)

theorem power : ∀ h g : Fin 4, (IntOp.shli ArithUnit.host 1#32 (IntOp.addi 1#32 (BitVec.ofNat 32 (h.val * 4 + g.val)))).toInt = ((2 ^ (h.val * 4 + g.val + 1) : ℕ) : ℤ) := by
  decide +kernel

theorem one : Ideal.ofBits .f32 0x3F800000#32 = ((1 : ℝ) : EReal) := by
  simp [Ideal.ofBits, Ideal.ieee]
  rw [← EReal.coe_mul]
  norm_num

/-- The reference's slope of head `4 h + g`. -/
theorem slope_ref (h g : Fin 4) :
    Ideal.div (Ideal.ofBits .f32 0x3F800000#32) (Ideal.sqrt (FloatOps.sitofp (F := Ideal) .f32 (IntOp.shli ArithUnit.host 1#32 (IntOp.addi 1#32 (BitVec.ofNat 32 (h.val * 4 + g.val))))))
      = (((Real.sqrt (2 ^ (h.val * 4 + g.val + 1)))⁻¹ : ℝ) : EReal) := by
  have hp : @Eq EReal (FloatOps.sitofp (F := Ideal) .f32 (IntOp.shli ArithUnit.host 1#32 (IntOp.addi 1#32 (BitVec.ofNat 32 (h.val * 4 + g.val)))))
      (((2 : ℝ) ^ (h.val * 4 + g.val + 1) : ℝ) : EReal) :=
    (congrArg (fun z : ℤ => ((z : ℝ) : EReal)) (power h g)).trans (congrArg (fun z : ℝ => (z : EReal)) (by push_cast; rfl))
  have pos : (0 : ℝ) < 2 ^ (h.val * 4 + g.val + 1) := by positivity
  rw [hp, Ideal.sqrt_coe, if_neg (not_lt.mpr pos.le), one, RowNorm.div_real _ _ (Real.sqrt_pos.mpr pos).ne', one_mul]

theorem even_bits (b : BitVec 32) (x : ℝ) (k : ℕ) (hk : Ideal.ofBits .f32 b = (x : EReal)) (hx : 0 < x) (h : x * x * 2 ^ k = 1) :
    @Eq EReal (Scalar.ofBits (F := Ideal) .f32 b) (((Real.sqrt (2 ^ k))⁻¹ : ℝ) : EReal) := by
  refine hk.trans (congrArg (fun z : ℝ => (z : EReal)) ?_)
  have e : (2 : ℝ) ^ k = x⁻¹ * x⁻¹ := by field_simp; linarith
  rw [e, Real.sqrt_mul_self (inv_pos.mpr hx).le, inv_inv]

theorem slopeE_at (j : Fin 8) : slopeE j = (((Real.sqrt (2 ^ (2 * j.val + 2)))⁻¹ : ℝ) : EReal) := by
  match j with
  | 0 => exact even_bits _ (1 / 2) 2 (by simp [Ideal.ofBits, Ideal.ieee]; rw [← EReal.coe_mul]; norm_num) (by norm_num) (by norm_num)
  | 1 => exact even_bits _ (1 / 4) 4 (by simp [Ideal.ofBits, Ideal.ieee]; rw [← EReal.coe_mul]; norm_num) (by norm_num) (by norm_num)
  | 2 => exact even_bits _ (1 / 8) 6 (by simp [Ideal.ofBits, Ideal.ieee]; rw [← EReal.coe_mul]; norm_num) (by norm_num) (by norm_num)
  | 3 => exact even_bits _ (1 / 16) 8 (by simp [Ideal.ofBits, Ideal.ieee]; rw [← EReal.coe_mul]; norm_num) (by norm_num) (by norm_num)
  | 4 => exact even_bits _ (1 / 32) 10 (by simp [Ideal.ofBits, Ideal.ieee]; rw [← EReal.coe_mul]; norm_num) (by norm_num) (by norm_num)
  | 5 => exact even_bits _ (1 / 64) 12 (by simp [Ideal.ofBits, Ideal.ieee]; rw [← EReal.coe_mul]; norm_num) (by norm_num) (by norm_num)
  | 6 => exact even_bits _ (1 / 128) 14 (by simp [Ideal.ofBits, Ideal.ieee]; rw [← EReal.coe_mul]; norm_num) (by norm_num) (by norm_num)
  | 7 => exact even_bits _ (1 / 256) 16 (by simp [Ideal.ofBits, Ideal.ieee]; rw [← EReal.coe_mul]; norm_num) (by norm_num) (by norm_num)

theorem slopeO_at (j : Fin 8) : slopeO j = (((Real.sqrt (2 ^ (2 * j.val + 1)))⁻¹ : ℝ) : EReal) := by
  match j with
  | 0 => exact (IdealRules.named_const.ideal_named_scalar _ _ _ _ rfl).trans (congrArg (fun z : ℝ => (((Real.sqrt z)⁻¹ : ℝ) : EReal)) (by norm_num))
  | 1 => exact (IdealRules.named_const.ideal_named_scalar _ _ _ _ rfl).trans (congrArg (fun z : ℝ => (((Real.sqrt z)⁻¹ : ℝ) : EReal)) (by norm_num))
  | 2 => exact (IdealRules.named_const.ideal_named_scalar _ _ _ _ rfl).trans (congrArg (fun z : ℝ => (((Real.sqrt z)⁻¹ : ℝ) : EReal)) (by norm_num))
  | 3 => exact (IdealRules.named_const.ideal_named_scalar _ _ _ _ rfl).trans (congrArg (fun z : ℝ => (((Real.sqrt z)⁻¹ : ℝ) : EReal)) (by norm_num))
  | 4 => exact (IdealRules.named_const.ideal_named_scalar _ _ _ _ rfl).trans (congrArg (fun z : ℝ => (((Real.sqrt z)⁻¹ : ℝ) : EReal)) (by norm_num))
  | 5 => exact (IdealRules.named_const.ideal_named_scalar _ _ _ _ rfl).trans (congrArg (fun z : ℝ => (((Real.sqrt z)⁻¹ : ℝ) : EReal)) (by norm_num))
  | 6 => exact (IdealRules.named_const.ideal_named_scalar _ _ _ _ rfl).trans (congrArg (fun z : ℝ => (((Real.sqrt z)⁻¹ : ℝ) : EReal)) (by norm_num))
  | 7 => exact (IdealRules.named_const.ideal_named_scalar _ _ _ _ rfl).trans (congrArg (fun z : ℝ => (((Real.sqrt z)⁻¹ : ℝ) : EReal)) (by norm_num))

/-- The kernel's slope of head `2 j + e`. -/
theorem slope_kernel (j : Fin 8) (e : Fin 2) :
    (if e = 1 then slopeE j else slopeO j) = (((Real.sqrt (2 ^ (2 * j.val + e.val + 1)))⁻¹ : ℝ) : EReal) := by
  match e with
  | 0 => exact (if_neg (by decide)).trans (slopeO_at j)
  | 1 => exact (if_pos rfl).trans (slopeE_at j)

end Cert.AttnFwdIdeal.Array
-- ==== Proof.AttnFwdSoftmax.lean ====
module

public import proofs.«01_k».proof.Proof.AttnFwdTile

/-!
The mathematics between the two ways of writing the attention of one query row.

The kernel keeps 128 scores per query: row `m` holds the one key of the pair (`half 0 m`, `half 1 m`) that lies within the
window. The reference keeps all 256 scores with minus infinity outside the window, and a sink as entry 257. Where the sink is
a real number the weighted sums are equal.
-/

@[expose] public section

noncomputable section

namespace Cert.AttnFwdIdeal.Array

open Idealize.ShloMosaic Cert.Proof Cert.Proof.Reals

theorem ofBits_bot : Ideal.ofBits .f32 0xFF800000#32 = (⊥ : EReal) := by
  simp [Ideal.ofBits, Ideal.ieee]

/-- Minus infinity or a real number. -/
def IsLow (x : EReal) : Prop := x = ⊥ ∨ IsReal x

/-- The two keys of pair `m`: the one the joined row holds and the one outside the window. -/
def Paired (L : Fin 256 → EReal) (V : Fin 256 → EReal) (S W : Fin 128 → EReal) (m : Fin 128) : Prop :=
  (L (half 0 m) = S m ∧ L (half 1 m) = ⊥ ∧ (S m ≠ ⊥ → V (half 0 m) = W m))
    ∨ (L (half 1 m) = S m ∧ L (half 0 m) = ⊥ ∧ (S m ≠ ⊥ → V (half 1 m) = W m))

section
variable (L V : Fin 256 → EReal) (S W : Fin 128 → EReal) (R : Fin 257 → EReal) (s : EReal)

theorem index_split (κ : Fin 256) : ∃ m : Fin 128, κ = half 0 m ∨ κ = half 1 m := by
  by_cases h : κ.val < 128
  · exact ⟨⟨κ.val, h⟩, Or.inl (Fin.ext (by show κ.val = 128 * 0 + κ.val; omega))⟩
  · exact ⟨⟨κ.val - 128, by omega⟩, Or.inr (Fin.ext (by show κ.val = 128 * 1 + (κ.val - 128); omega))⟩

theorem top_eq (hR : ∀ κ : Fin 256, R κ.castSucc = L κ) (hl : R (Fin.last 256) = s) (hp : ∀ m, Paired L V S W m) :
    max (⊥ : EReal) (Finset.univ.fold max (⊥ : EReal) R) = max (Finset.univ.fold max (⊥ : EReal) S) s := by
  apply le_antisymm
  · refine max_le bot_le ?_
    rw [Finset.fold_max_le]
    refine ⟨bot_le, fun k _ => ?_⟩
    refine Fin.lastCases ?_ (fun κ => ?_) k
    · rw [hl]; exact le_max_right _ _
    · rw [hR]
      refine le_trans ?_ (le_max_left _ _)
      obtain ⟨m, h⟩ := index_split κ
      rw [Finset.le_fold_max]
      rcases hp m with ⟨h1, h2, -⟩ | ⟨h1, h2, -⟩ <;> rcases h with rfl | rfl
      · exact Or.inr ⟨m, Finset.mem_univ _, h1.le⟩
      · exact Or.inl h2.le
      · exact Or.inl h2.le
      · exact Or.inr ⟨m, Finset.mem_univ _, h1.le⟩
  · refine max_le ?_ ?_
    · refine le_trans ?_ (le_max_right _ _)
      rw [Finset.fold_max_le]
      refine ⟨bot_le, fun m _ => ?_⟩
      rw [Finset.le_fold_max]
      rcases hp m with ⟨h1, -, -⟩ | ⟨h1, -, -⟩
      · exact Or.inr ⟨(half 0 m).castSucc, Finset.mem_univ _, by rw [hR, h1]⟩
      · exact Or.inr ⟨(half 1 m).castSucc, Finset.mem_univ _, by rw [hR, h1]⟩
    · refine le_trans ?_ (le_max_right _ _)
      rw [Finset.le_fold_max]
      exact Or.inr ⟨Fin.last 256, Finset.mem_univ _, hl.ge⟩

theorem low_max {x y : EReal} (hx : IsLow x) (hy : IsReal y) : IsReal (max x y) := by
  rcases max_choice x y with h | h
  · rcases hx with rfl | hx
    · rw [max_eq_right bot_le]; exact hy
    · rw [h]; exact hx
  · rw [h]; exact hy

theorem low_fold (hS : ∀ m, IsLow (S m)) (t : Finset (Fin 128)) : IsLow (t.fold max (⊥ : EReal) S) := by
  induction t using Finset.cons_induction with
  | empty => exact Or.inl rfl
  | cons a t ha ih =>
    rw [Finset.fold_cons]
    rcases hS a with h | h
    · rw [h, max_eq_right bot_le]; exact ih
    · rw [max_comm]; exact Or.inr (low_max ih h)

/-- The exponential of a low entry less a real number is a real number that is not negative, and zero at minus infinity. -/
theorem exp_low {x M : EReal} (hx : IsLow x) (hM : IsReal M) : ∃ a : ℝ, 0 ≤ a ∧ Ideal.exp (x - M) = (a : EReal) := by
  obtain ⟨M, rfl⟩ := hM
  rcases hx with rfl | ⟨x, rfl⟩
  · exact ⟨0, le_refl _, rfl⟩
  · exact ⟨Real.exp (x - M), (Real.exp_pos _).le, rfl⟩

theorem exp_bot {M : EReal} (hM : IsReal M) : Ideal.exp ((⊥ : EReal) - M) = 0 := by
  obtain ⟨M, rfl⟩ := hM
  rfl

theorem exp_pos {x M : EReal} (hx : IsReal x) (hM : IsReal M) : ∃ a : ℝ, 0 < a ∧ Ideal.exp (x - M) = (a : EReal) := by
  obtain ⟨M, rfl⟩ := hM
  obtain ⟨x, rfl⟩ := hx
  exact ⟨Real.exp (x - M), Real.exp_pos _, rfl⟩

theorem total_eq (M : EReal) (hM : IsReal M) (hR : ∀ κ : Fin 256, R κ.castSucc = L κ) (hl : R (Fin.last 256) = s) (hp : ∀ m, Paired L V S W m) :
    (0 : EReal) + ∑ k : Fin 257, Ideal.exp (R k - M) = (∑ m, Ideal.exp (S m - M)) + Ideal.exp (s - M) := by
  rw [zero_add]
  refine (Fin.sum_univ_castSucc (M := EReal) _).trans ?_
  rw [hl]
  refine congrArg (fun z : EReal => z + Ideal.exp (s - M)) ?_
  refine (sum_halves fun κ => Ideal.exp (R κ.castSucc - M)).trans ?_
  rw [← Finset.sum_add_distrib (M := EReal)]
  refine Finset.sum_congr (M := EReal) rfl fun m _ => ?_
  rw [hR, hR]
  rcases hp m with ⟨h1, h2, -⟩ | ⟨h1, h2, -⟩
  · rw [h1, h2, exp_bot hM, add_zero]
  · rw [h1, h2, exp_bot hM, zero_add]

theorem total_pos (M : EReal) (hM : IsReal M) (hS : ∀ m, IsLow (S m)) (hs : IsReal s) :
    ∃ d : ℝ, 0 < d ∧ (∑ m, Ideal.exp (S m - M)) + Ideal.exp (s - M) = (d : EReal) := by
  choose f hf hfe using fun m => exp_low (hS m) hM
  obtain ⟨a, ha, hae⟩ := exp_pos hs hM
  refine ⟨(∑ m, f m) + a, add_pos_of_nonneg_of_pos (Finset.sum_nonneg fun m _ => hf m) ha, ?_⟩
  rw [hae, EReal.coe_add]
  refine congrArg (fun z : EReal => z + (a : EReal)) ?_
  rw [Finset.sum_congr (M := EReal) rfl fun m _ => hfe m]
  exact (map_sum (⟨⟨Real.toEReal, rfl⟩, EReal.coe_add⟩ : ℝ →+ EReal) f Finset.univ).symm

theorem sink_eq (hR : ∀ κ : Fin 256, R κ.castSucc = L κ) (hl : R (Fin.last 256) = s) (hp : ∀ m, Paired L V S W m)
    (hS : ∀ m, IsLow (S m)) (hs : IsReal s) :
    ∑ κ : Fin 256, V κ * Ideal.div (Ideal.exp (R κ.castSucc - max (Ideal.ofBits .f32 0xFF800000#32) (Finset.univ.fold max (Ideal.ofBits .f32 0xFF800000#32) R)))
        ((0 : EReal) + ∑ k : Fin 257, Ideal.exp (R k - max (Ideal.ofBits .f32 0xFF800000#32) (Finset.univ.fold max (Ideal.ofBits .f32 0xFF800000#32) R)))
      = ∑ m, sinkWeight S s m * W m := by
  unfold sinkWeight
  rw [ofBits_bot, top_eq L V S W R s hR hl hp]
  have hM : IsReal (max (Finset.univ.fold max (⊥ : EReal) S) s) := low_max (low_fold S hS _) hs
  generalize max (Finset.univ.fold max (⊥ : EReal) S) s = M at hM ⊢
  rw [total_eq L V S W R s M hM hR hl hp]
  obtain ⟨d, hd, he⟩ := total_pos S s M hM hS hs
  rw [he]
  refine (sum_halves _).trans ?_
  rw [← Finset.sum_add_distrib (M := EReal)]
  refine Finset.sum_congr (M := EReal) rfl fun m _ => ?_
  have hz : Ideal.div (0 : EReal) (d : EReal) = 0 := by rw [Ideal.div_coe hd.ne', zero_mul]
  have hq : ∀ x : EReal, Ideal.div x (d : EReal) = x * Ideal.div 1 (d : EReal) := fun x => by
    rw [Ideal.div_coe hd.ne', Ideal.div_coe hd.ne', one_mul]
  rw [hR, hR]
  rcases hp m with ⟨h1, h2, h3⟩ | ⟨h1, h2, h3⟩
  · rw [h1, h2, exp_bot hM, hz, mul_zero, add_zero]
    by_cases hb : S m = ⊥
    · rw [hb, exp_bot hM, hz, mul_zero, zero_mul, zero_mul]
    · rw [h3 hb, ← hq, mul_comm]
  · rw [h1, h2, exp_bot hM, hz, mul_zero, zero_add]
    by_cases hb : S m = ⊥
    · rw [hb, exp_bot hM, hz, mul_zero, zero_mul, zero_mul]
    · rw [h3 hb, ← hq, mul_comm]

end

end Cert.AttnFwdIdeal.Array
-- ==== Proof.AttnFwdRef.lean ====
module

public import proofs.«01_k».proof.Proof.Gen.AttnFwdRefIdeal.Read
public import proofs.«01_k».proof.Proof.FfnReal
public import Idealize.ShloMosaic.Lib.Pointwise

/-! The intermediate arrays of the attention's reference, each entry as a function of the arguments' entries. -/

@[expose] public section

set_option maxRecDepth 16384

noncomputable section

namespace Cert.AttnFwdRefIdeal.Stages

open Cert.AttnFwdRefIdeal Cert.AttnFwdRefIdeal.Read Idealize.ShloMosaic Idealize.ShloMosaic.TcCoe Idealize.SL.Sem Cert.Proof Cert.Proof.Reals

variable (x0 : Vec Ideal S8192x1536 .bf16) (x1 x2 : Vec Ideal S1x64 .f32) (x3 : Vec Ideal S1x16 .f32)

theorem v8_at (b : Fin 4) (p : Fin 2048) (h : Fin 4) (t : Fin 64) :
    @Eq EReal (val_main_v8 (F := Ideal) x0 (ix4 b p h t)) (x0 (ix2 (⟨b.val * 2048 + p.val, by omega⟩ : Fin 8192) (⟨1024 + (h.val * 64 + t.val), by omega⟩ : Fin 1536))) := by
  unfold val_main_v8 val_main_v7 val_main_v1 val_main_v0
  pointwise

theorem v10_at (b : Fin 4) (p : Fin 2048) (h : Fin 4) (t : Fin 64) :
    @Eq EReal (val_main_v10 (F := Ideal) x0 (ix4 b p h t)) (x0 (ix2 (⟨b.val * 2048 + p.val, by omega⟩ : Fin 8192) (⟨1280 + (h.val * 64 + t.val), by omega⟩ : Fin 1536))) := by
  unfold val_main_v10 val_main_v9 val_main_v1 val_main_v0
  pointwise

theorem v6_at (b : Fin 4) (p : Fin 2048) (h g : Fin 4) (t : Fin 64) :
    @Eq EReal (val_main_v6 (F := Ideal) x0 (ix5 b p h g t)) (x0 (ix2 (⟨b.val * 2048 + p.val, by omega⟩ : Fin 8192) (⟨h.val * 256 + g.val * 64 + t.val, by omega⟩ : Fin 1536))) := by
  unfold val_main_v6 val_main_v5 val_main_v1 val_main_v0
  pointwise

theorem v23_at (b : Fin 4) (p : Fin 2048) (h g : Fin 4) (t : Fin 64) :
    @Eq EReal (val_main_v23 (F := Ideal) x0 x1 (ix5 b p h g t)) (val_main_v6 (F := Ideal) x0 (ix5 b p h g t)
      * Ideal.rsqrt (Ideal.div (∑ x : Fin 64, val_main_v6 (F := Ideal) x0 (ix5 b p h g x) * val_main_v6 (F := Ideal) x0 (ix5 b p h g x)) (Ideal.ofBits .f32 1115684864#32)
        + Ideal.ofBits .f32 897988541#32) * x1 (ix2 0 t)) := by
  unfold val_main_v23 val_main_v22 val_main_v21 val_main_v20 val_main_v19 val_main_v18 val_main_v17 val_main_v16 val_main_v15 val_main_v14 val_main_v13 val_main_v12 val_main_v11 val_main_v2 val_main_cst val_main_cst_0 val_main_cst_1
  generalize val_main_v6 (F := Ideal) x0 = Y
  pointwise

theorem v36_at (b : Fin 4) (p : Fin 2048) (h : Fin 4) (t : Fin 64) :
    @Eq EReal (val_main_v36 (F := Ideal) x0 x2 (ix4 b p h t)) (val_main_v8 (F := Ideal) x0 (ix4 b p h t)
      * Ideal.rsqrt (Ideal.div (∑ x : Fin 64, val_main_v8 (F := Ideal) x0 (ix4 b p h x) * val_main_v8 (F := Ideal) x0 (ix4 b p h x)) (Ideal.ofBits .f32 1115684864#32)
        + Ideal.ofBits .f32 897988541#32) * x2 (ix2 0 t)) := by
  unfold val_main_v36 val_main_v35 val_main_v34 val_main_v33 val_main_v32 val_main_v31 val_main_v30 val_main_v29 val_main_v28 val_main_v27 val_main_v26 val_main_v25 val_main_v24 val_main_v3 val_main_cst_2 val_main_cst_3 val_main_cst_4
  generalize val_main_v8 (F := Ideal) x0 = Y
  pointwise

theorem v37_at (b : Fin 4) (n : Fin 16) (r : Fin 128) (h g : Fin 4) (t : Fin 64) :
    @Eq EReal (val_main_v37 (F := Ideal) x0 x1 (ix6 b n r h g t)) (val_main_v23 (F := Ideal) x0 x1 (ix5 b (⟨n.val * 128 + r.val, by omega⟩ : Fin 2048) h g t)) := by
  unfold val_main_v37
  generalize val_main_v23 (F := Ideal) x0 x1 = Y
  pointwise

theorem v42_at (b : Fin 4) (n : Fin 16) (m : Fin 256) (h : Fin 4) (t : Fin 64) :
    @Eq EReal (val_main_v42 (F := Ideal) x0 x2 (ix5 b n m h t)) (if m.val < 128 then
        (if h' : 128 ≤ n.val * 128 + m.val ∧ n.val * 128 + m.val - 128 < 2048 then
          val_main_v36 (F := Ideal) x0 x2 (ix4 b (⟨n.val * 128 + m.val - 128, h'.2⟩ : Fin 2048) h t)
        else FloatOps.sitofp (F := Ideal) .f32 0#32)
      else
        (if h' : 128 ≤ (1 + n.val) * 128 + (m.val - 128) ∧ (1 + n.val) * 128 + (m.val - 128) - 128 < 2048 then
          val_main_v36 (F := Ideal) x0 x2 (ix4 b (⟨(1 + n.val) * 128 + (m.val - 128) - 128, h'.2⟩ : Fin 2048) h t)
        else FloatOps.sitofp (F := Ideal) .f32 0#32)) := by
  unfold val_main_v42 val_main_v41 val_main_v40 val_main_v39 val_main_v38 val_main_call0_v0 val_main_c
  generalize val_main_v36 (F := Ideal) x0 x2 = Y
  pointwise
  split_ifs <;> rfl

theorem v47_at (b : Fin 4) (n : Fin 16) (m : Fin 256) (h : Fin 4) (t : Fin 64) :
    @Eq EReal (val_main_v47 (F := Ideal) x0 (ix5 b n m h t)) (if m.val < 128 then
        (if h' : 128 ≤ n.val * 128 + m.val ∧ n.val * 128 + m.val - 128 < 2048 then
          val_main_v10 (F := Ideal) x0 (ix4 b (⟨n.val * 128 + m.val - 128, h'.2⟩ : Fin 2048) h t)
        else FloatOps.sitofp (F := Ideal) .f32 0#32)
      else
        (if h' : 128 ≤ (1 + n.val) * 128 + (m.val - 128) ∧ (1 + n.val) * 128 + (m.val - 128) - 128 < 2048 then
          val_main_v10 (F := Ideal) x0 (ix4 b (⟨(1 + n.val) * 128 + (m.val - 128) - 128, h'.2⟩ : Fin 2048) h t)
        else FloatOps.sitofp (F := Ideal) .f32 0#32)) := by
  unfold val_main_v47 val_main_v46 val_main_v45 val_main_v44 val_main_v43 val_main_call1_v0 val_main_c_5
  generalize val_main_v10 (F := Ideal) x0 = Y
  pointwise
  split_ifs <;> rfl

theorem v51_at (b : Fin 4) (n : Fin 16) (h g : Fin 4) (r : Fin 128) (κ : Fin 256) :
    @Eq EReal (val_main_v51 (F := Ideal) x0 x1 x2 (ix6 b n h g r κ)) ((∑ x : Fin 64, val_main_v42 (F := Ideal) x0 x2 (ix5 b n κ h x) * val_main_v37 (F := Ideal) x0 x1 (ix6 b n r h g x)) * Ideal.ofBits .f32 1040187392#32) := by
  unfold val_main_v51 val_main_v50 val_main_v49 val_main_v48 val_main_cst_6
  generalize val_main_v42 (F := Ideal) x0 x2 = K
  generalize val_main_v37 (F := Ideal) x0 x1 = Q
  pointwise

theorem v125_at (a : Fin 8192) (l : Fin 1024) :
    @Eq EReal (val_main_v125 (F := Ideal) x0 x1 x2 x3 (ix2 a l)) (∑ x : Fin 256, val_main_v47 (F := Ideal) x0 (ix5 (⟨a.val / 2048, by omega⟩ : Fin 4) (⟨a.val / 128 % 16, by omega⟩ : Fin 16) x (⟨l.val / 256, by omega⟩ : Fin 4) (⟨l.val % 64, by omega⟩ : Fin 64))
      * val_main_v120 (F := Ideal) x0 x1 x2 x3 (ix6 (⟨a.val / 2048, by omega⟩ : Fin 4) (⟨a.val / 128 % 16, by omega⟩ : Fin 16) (⟨l.val / 256, by omega⟩ : Fin 4) (⟨l.val / 64 % 4, by omega⟩ : Fin 4) (⟨a.val % 128, by omega⟩ : Fin 128) x)) := by
  unfold val_main_v125 val_main_v124 val_main_v123 val_main_v122 val_main_v121
  generalize val_main_v120 (F := Ideal) x0 x1 x2 x3 = K
  generalize val_main_v47 (F := Ideal) x0 = V
  pointwise

end Cert.AttnFwdRefIdeal.Stages
-- ==== Proof.AttnFwdRefSoft.lean ====
module

public import proofs.«01_k».proof.Proof.Gen.AttnFwdRefIdeal.Read
public import proofs.«01_k».proof.Proof.FfnReal
public import Idealize.ShloMosaic.Lib.Pointwise

/-! The intermediate arrays of the attention's reference, each entry as a function of the arguments' entries. -/

@[expose] public section

set_option maxRecDepth 16384

noncomputable section

namespace Cert.AttnFwdRefIdeal.Stages

open Cert.AttnFwdRefIdeal Cert.AttnFwdRefIdeal.Read Idealize.ShloMosaic Idealize.ShloMosaic.TcCoe Idealize.SL.Sem Cert.Proof Cert.Proof.Reals

variable (x0 : Vec Ideal S8192x1536 .bf16) (x1 x2 : Vec Ideal S1x64 .f32) (x3 : Vec Ideal S1x16 .f32)

theorem v99_at (h g : Fin 4) (r : Fin 128) (κ : Fin 256) :
    @Eq EReal (val_main_v99 (F := Ideal) (ix4 h g r κ))
      (-Ideal.div (Ideal.ofBits .f32 0x3F800000#32) (Ideal.sqrt (FloatOps.sitofp (F := Ideal) .f32 (IntOp.shli ArithUnit.host 1#32 (IntOp.addi 1#32 (BitVec.ofNat 32 (h.val * 4 + g.val))))))
        * FloatOps.sitofp (F := Ideal) .f32 (IntOp.subi (IntOp.addi (BitVec.ofNat 32 r.val) 128#32) (BitVec.ofNat 32 κ.val))) := by
  unfold val_main_v99 val_main_v98 val_main_v97 val_main_v96 val_main_v95 val_main_v94 val_main_v93 val_main_v92 val_main_v91 val_main_v90 val_main_v89 val_main_v88 val_main_v87 val_main_v86 val_main_v85 val_main_v84 val_main_v83 val_main_v60 val_main_v59 val_main_v58 val_main_v57 val_main_v56 val_main_v55 val_main_v54 val_main_v53 val_main_v52 val_main_c_7 val_main_c_13 val_main_c_14 val_main_cst_15
  pointwise

theorem v104_at (b : Fin 4) (n : Fin 16) (h g : Fin 4) (r : Fin 128) (κ : Fin 256) :
    @Eq EReal (val_main_v104 (F := Ideal) x0 x1 x2 (ix6 b n h g r κ)) (Scalar.select (val_main_v82 (F := Ideal) (ix3 n r κ)) (val_main_v51 (F := Ideal) x0 x1 x2 (ix6 b n h g r κ) + val_main_v99 (F := Ideal) (ix4 h g r κ)) (Ideal.ofBits .f32 0xFF800000#32)) := by
  rw [val_main_v104_apply, val_main_call2_v1_apply, val_main_v100_apply, val_main_v103_apply, val_main_v102_apply, val_main_v101_apply, val_main_call2_v2_apply]
  have e : idx_main_v100 (idx_main_call2_v1 (ix6 b n h g r κ)) = ix3 n r κ := funext fun a => Fin.ext (by match a with | ⟨0, _⟩ => rfl | ⟨1, _⟩ => rfl | ⟨2, _⟩ => rfl)
  have e' : idx_main_v101 (idx_main_v102 (ix6 b n h g r κ)) = ix4 h g r κ := funext fun a => Fin.ext (by match a with | ⟨0, _⟩ => rfl | ⟨1, _⟩ => rfl | ⟨2, _⟩ => rfl | ⟨3, _⟩ => rfl)
  rw [e, e']
  rfl

theorem v109_at (b : Fin 4) (n : Fin 16) (h g : Fin 4) (r : Fin 128) :
    @Eq EReal (val_main_v109 (F := Ideal) x0 x1 x2 x3 (ix5 b n h g r))
      (Finset.univ.fold max (Ideal.ofBits .f32 0xFF800000#32) fun k : Fin 257 => val_main_v108 (F := Ideal) x0 x1 x2 x3 (ix6 b n h g r k)) := by
  unfold val_main_v109
  generalize val_main_v108 (F := Ideal) x0 x1 x2 x3 = y
  refine (Host.reduce_eq_fold_single (max : EReal → EReal → EReal) y _ Cert.AttnFwdRefIdeal.Gen.reducesTo_S4x16x4x4x128x257_S4x16x4x4x128_d5 (by decide) Cert.AttnFwdRefIdeal.Gen.h_S_ _).trans ?_
  exact congrArg (fun f : Fin 257 → EReal => Finset.univ.fold max (Ideal.ofBits .f32 0xFF800000#32) f)
    (funext fun k => congrArg y (funext fun a => Fin.ext (by match a with | ⟨0, _⟩ => rfl | ⟨1, _⟩ => rfl | ⟨2, _⟩ => rfl | ⟨3, _⟩ => rfl | ⟨4, _⟩ => rfl | ⟨5, _⟩ => rfl)))

/-- The greatest entry of a row of scores, the sink's among them. -/
def top (b : Fin 4) (n : Fin 16) (h g : Fin 4) (r : Fin 128) : EReal :=
  max (Ideal.ofBits .f32 0xFF800000#32) (Finset.univ.fold max (Ideal.ofBits .f32 0xFF800000#32) fun k : Fin 257 => val_main_v108 (F := Ideal) x0 x1 x2 x3 (ix6 b n h g r k))

theorem v115_at (b : Fin 4) (n : Fin 16) (h g : Fin 4) (r : Fin 128) (κ : Fin 257) :
    @Eq EReal (val_main_v115 (F := Ideal) x0 x1 x2 x3 (ix6 b n h g r κ))
      (Ideal.exp (val_main_v108 (F := Ideal) x0 x1 x2 x3 (ix6 b n h g r κ) - top x0 x1 x2 x3 b n h g r)) := by
  rw [val_main_v115_apply, val_main_v114_apply, val_main_v113_apply, val_main_v112_apply, val_main_v111_apply, val_main_v110_apply]
  have e : idx_main_v112 (idx_main_v113 (ix6 b n h g r κ)) = ix5 b n h g r := funext fun a => Fin.ext (by match a with | ⟨0, _⟩ => rfl | ⟨1, _⟩ => rfl | ⟨2, _⟩ => rfl | ⟨3, _⟩ => rfl | ⟨4, _⟩ => rfl)
  rw [e, v109_at]
  rfl

theorem v120_at (b : Fin 4) (n : Fin 16) (h g : Fin 4) (r : Fin 128) (κ : Fin 256) :
    @Eq EReal (val_main_v120 (F := Ideal) x0 x1 x2 x3 (ix6 b n h g r κ))
      (Ideal.div (Ideal.exp (val_main_v108 (F := Ideal) x0 x1 x2 x3 (ix6 b n h g r κ.castSucc) - top x0 x1 x2 x3 b n h g r))
        (Ideal.ofBits .f32 0x00000000#32 + ∑ k : Fin 257, Ideal.exp (val_main_v108 (F := Ideal) x0 x1 x2 x3 (ix6 b n h g r k) - top x0 x1 x2 x3 b n h g r))) := by
  rw [val_main_v120_apply, val_main_v119_apply, val_main_v118_apply, val_main_v117_apply, val_main_v116_apply]
  have e : idx_main_v120 (ix6 b n h g r κ) = ix6 b n h g r κ.castSucc := funext fun a => Fin.ext (by match a with | ⟨0, _⟩ => rfl | ⟨1, _⟩ => rfl | ⟨2, _⟩ => rfl | ⟨3, _⟩ => rfl | ⟨4, _⟩ => rfl | ⟨5, _⟩ => rfl)
  rw [e, v115_at]
  refine congrArg (fun z : EReal => Ideal.div _ (Ideal.ofBits .f32 0x00000000#32 + z)) (Finset.sum_congr (M := EReal) rfl fun k _ => ?_)
  have e' : idx_main_v116 (idx_main_v117 (idx_main_v118 (ix6 b n h g r κ.castSucc))) k = ix6 b n h g r k := funext fun a => Fin.ext (by match a with | ⟨0, _⟩ => rfl | ⟨1, _⟩ => rfl | ⟨2, _⟩ => rfl | ⟨3, _⟩ => rfl | ⟨4, _⟩ => rfl | ⟨5, _⟩ => rfl)
  rw [e', v115_at]

theorem v108_at (b : Fin 4) (n : Fin 16) (h g : Fin 4) (r : Fin 128) (κ : Fin 257) :
    @Eq EReal (val_main_v108 (F := Ideal) x0 x1 x2 x3 (ix6 b n h g r κ)) (if hk : κ.val < 256 then val_main_v104 (F := Ideal) x0 x1 x2 (ix6 b n h g r (⟨κ.val, hk⟩ : Fin 256)) else x3 (ix2 0 (⟨h.val * 4 + g.val, by omega⟩ : Fin 16))) := by
  unfold val_main_v108 val_main_v107 val_main_v106 val_main_v105 val_main_v4
  generalize val_main_v104 (F := Ideal) x0 x1 x2 = K
  pointwise

theorem v82_at (n : Fin 16) (r : Fin 128) (κ : Fin 256) :
    val_main_v82 (F := Ideal) (ix3 n r κ)
      = IntOp.andi (IntOp.andi
          (IntOp.cmpi .sge (IntOp.subi (IntOp.addi (BitVec.ofNat 32 r.val) 128#32) (BitVec.ofNat 32 κ.val)) 0#32)
          (IntOp.cmpi .slt (IntOp.subi (IntOp.addi (BitVec.ofNat 32 r.val) 128#32) (BitVec.ofNat 32 κ.val)) 128#32))
          (IntOp.cmpi .sge (IntOp.addi (IntOp.subi (IntOp.muli (BitVec.ofNat 32 n.val) 128#32) 128#32) (BitVec.ofNat 32 κ.val)) 0#32) := by
  unfold val_main_v82 val_main_v81 val_main_v80 val_main_v79 val_main_v78 val_main_v77 val_main_v76 val_main_v75 val_main_v74 val_main_v73 val_main_v72 val_main_v71 val_main_v70 val_main_v69 val_main_v68 val_main_v67 val_main_v66 val_main_v65 val_main_v64 val_main_v63 val_main_v62 val_main_v61 val_main_v60 val_main_v59 val_main_v58 val_main_v57 val_main_v56 val_main_v55 val_main_v54 val_main_v53 val_main_v52 val_main_c_7 val_main_c_8 val_main_c_9 val_main_c_10 val_main_c_11 val_main_c_12
  pointwise
end Cert.AttnFwdRefIdeal.Stages
-- ==== Proof.AttnFwdMatch.lean ====
module

public import proofs.«01_k».proof.Proof.AttnFwdArray
public import proofs.«01_k».proof.Proof.AttnFwdSlope
public import proofs.«01_k».proof.Proof.AttnFwdSoftmax
public import proofs.«01_k».proof.Proof.AttnFwdRef
public import proofs.«01_k».proof.Proof.AttnFwdRefSoft

/-! The reference's result is the kernel's: the scores agree within the window, and the sums over the keys with them. -/

@[expose] public section

set_option maxRecDepth 16384

noncomputable section

namespace Cert.AttnFwdIdeal.Array

open Cert.AttnFwdIdeal Idealize.ShloMosaic Cert.Proof Cert.Proof.Reals
open Cert.AttnFwdRefIdeal.Read Cert.AttnFwdRefIdeal.Stages

theorem head_width : Ideal.ofBits .f32 1115684864#32 = ((64 : ℝ) : EReal) := by
  simp [Ideal.ofBits, Ideal.ieee]
  rw [← EReal.coe_mul]
  norm_num

theorem per_head : Ideal.ofBits .f32 1015021568#32 = ((1 / 64 : ℝ) : EReal) := by
  simp [Ideal.ofBits, Ideal.ieee]
  rw [← EReal.coe_mul]
  norm_num

theorem eighth : Ideal.ofBits .f32 1040187392#32 = ((1 / 8 : ℝ) : EReal) := by
  simp [Ideal.ofBits, Ideal.ieee]
  rw [← EReal.coe_mul]
  norm_num

theorem unitScale_eq (y : Fin 64 → EReal) :
    Ideal.rsqrt (Ideal.div (∑ x : Fin 64, y x * y x) (Ideal.ofBits .f32 1115684864#32) + Ideal.ofBits .f32 897988541#32) = unitScale y := by
  unfold unitScale
  rw [head_width, per_head, Ideal.div_coe (by norm_num)]

theorem unitScale_real (y : Fin 64 → EReal) (hy : ∀ t, IsReal (y t)) : IsReal (unitScale y) := by
  choose f hf using hy
  obtain ⟨a, ha, hae⟩ := RowNorm.small
  have hs : (∑ t, y t * y t : EReal) = ((∑ t, f t * f t : ℝ) : EReal) := by
    rw [← RowNorm.coe_sum]
    exact Finset.sum_congr (M := EReal) rfl fun t _ => by rw [hf, EReal.coe_mul]
  have pos : 0 < (∑ t, f t * f t) * (1 / 64) + a :=
    add_pos_of_nonneg_of_pos (mul_nonneg (Finset.sum_nonneg fun t _ => mul_self_nonneg _) (by norm_num)) ha
  unfold unitScale
  rw [hs, per_head, show Ideal.ofBits FTy.f32 897988541#32 = (a : EReal) from hae, ← EReal.coe_mul, ← EReal.coe_add, Ideal.rsqrt_coe,
    if_neg (not_lt.mpr pos.le), if_neg pos.ne']
  exact IsReal.coe _

theorem sum_mul_real {n : ℕ} (f : Fin n → EReal) (hf : ∀ t, IsReal (f t)) (c : ℝ) : (∑ t, f t) * (c : EReal) = ∑ t, f t * (c : EReal) := by
  choose g hg using hf
  rw [Finset.sum_congr (M := EReal) rfl fun t _ => hg t, RowNorm.coe_sum, ← EReal.coe_mul, Finset.sum_mul, ← RowNorm.coe_sum]
  exact Finset.sum_congr (M := EReal) rfl fun t _ => by rw [hg, EReal.coe_mul]

section
variable (x0 : Vec Ideal S8192x1536 .bf16) (x1 x2 : Vec Ideal S1x64 .f32) (x3 : Vec Ideal S1x16 .f32)
  (b : Fin 4) (n : Fin 16) (h g : Fin 4) (r : Fin 128)

/-- The pair of heads, and the place within it, of head `4 h + g`. -/
abbrev pairOf (h g : Fin 4) : Fin 8 := ⟨2 * h.val + g.val / 2, by omega⟩
abbrev placeOf (g : Fin 4) : Fin 2 := ⟨g.val % 2, by omega⟩

theorem key_entry (p : Fin 2048) (t : Fin 64) :
    @Eq EReal (val_main_v8 (F := Ideal) x0 (ix4 b p h t)) (seqRows x0 b (ix2 p (keyCol (pairOf h g) t))) := by
  rw [v8_at]
  unfold seqRows
  simp only [ix2_0, ix2_1]
  refine congrArg x0 (congrArg₂ ix2 (Fin.ext ?_) (Fin.ext ?_))
  · show b.val * 2048 + p.val = 2048 * b.val + p.val; omega
  · show 1024 + (h.val * 64 + t.val) = 1024 + (64 * ((2 * h.val + g.val / 2) / 2) + t.val); omega

theorem value_entry (p : Fin 2048) (t : Fin 64) :
    @Eq EReal (val_main_v10 (F := Ideal) x0 (ix4 b p h t)) (seqRows x0 b (ix2 p (valCol (pairOf h g) t))) := by
  rw [v10_at]
  unfold seqRows
  simp only [ix2_0, ix2_1]
  refine congrArg x0 (congrArg₂ ix2 (Fin.ext ?_) (Fin.ext ?_))
  · show b.val * 2048 + p.val = 2048 * b.val + p.val; omega
  · show 1280 + (h.val * 64 + t.val) = 1280 + (64 * ((2 * h.val + g.val / 2) / 2) + t.val); omega

theorem query_entry (p : Fin 2048) (t : Fin 64) :
    @Eq EReal (val_main_v6 (F := Ideal) x0 (ix5 b p h g t)) (seqRows x0 b (ix2 p (queryCol (pairOf h g) (placeOf g) t))) := by
  rw [v6_at]
  unfold seqRows
  simp only [ix2_0, ix2_1]
  refine congrArg x0 (congrArg₂ ix2 (Fin.ext ?_) (Fin.ext ?_))
  · show b.val * 2048 + p.val = 2048 * b.val + p.val; omega
  · show h.val * 256 + g.val * 64 + t.val = 128 * (2 * h.val + g.val / 2) + (64 * (g.val % 2) + t.val); omega

/-- The reference's scaled query. -/
theorem query_ref (t : Fin 64) :
    @Eq EReal (val_main_v37 (F := Ideal) x0 x1 (ix6 b n r h g t))
      (seqRows x0 b (ix2 (queryRow n r) (queryCol (pairOf h g) (placeOf g) t)) * unitScale (fun t => seqRows x0 b (ix2 (queryRow n r) (queryCol (pairOf h g) (placeOf g) t))) * x1 (ix2 0 t)) := by
  rw [v37_at, v23_at, unitScale_eq]
  have e : (⟨n.val * 128 + r.val, by omega⟩ : Fin 2048) = queryRow n r := Fin.ext (by show n.val * 128 + r.val = 128 * n.val + r.val; omega)
  rw [e]
  simp only [query_entry]

/-- A row of a scaled key that lies within the sequence. -/
theorem key_ref (κ : Fin 256) (hin : ¬ (n.val = 0 ∧ κ.val < 128)) (t : Fin 64) :
    @Eq EReal (val_main_v42 (F := Ideal) x0 x2 (ix5 b n κ h t)) (keyEntry (seqRows x0 b) (twice x2) n (pairOf h g) κ t) := by
  have step : ∀ p : Fin 2048, p = rowAt n κ → @Eq EReal (val_main_v36 (F := Ideal) x0 x2 (ix4 b p h t)) (keyEntry (seqRows x0 b) (twice x2) n (pairOf h g) κ t) := by
    rintro p rfl
    rw [v36_at, unitScale_eq]
    simp only [key_entry x0 b h g]
    unfold keyEntry
    rw [twice_at]
  rw [v42_at]
  by_cases hk : κ.val < 128
  · have hn : n.val ≠ 0 := fun h0 => hin ⟨h0, hk⟩
    rw [if_pos hk, dif_pos ⟨by omega, by omega⟩]
    refine step _ (Fin.ext ?_)
    show n.val * 128 + κ.val - 128 = if κ.val < 128 then 128 * (n.val - 1) + κ.val else 128 * n.val + (κ.val - 128)
    rw [if_pos hk]; omega
  · rw [if_neg hk, dif_pos ⟨by omega, by omega⟩]
    refine step _ (Fin.ext ?_)
    show (1 + n.val) * 128 + (κ.val - 128) - 128 = if κ.val < 128 then 128 * (n.val - 1) + κ.val else 128 * n.val + (κ.val - 128)
    rw [if_neg hk]; omega

/-- A value that lies within the sequence. -/
theorem value_ref (κ : Fin 256) (hin : ¬ (n.val = 0 ∧ κ.val < 128)) (t : Fin 64) :
    @Eq EReal (val_main_v47 (F := Ideal) x0 (ix5 b n κ h t)) (seqRows x0 b (ix2 (rowAt n κ) (valCol (pairOf h g) t))) := by
  have step : ∀ p : Fin 2048, p = rowAt n κ → @Eq EReal (val_main_v10 (F := Ideal) x0 (ix4 b p h t)) (seqRows x0 b (ix2 (rowAt n κ) (valCol (pairOf h g) t))) := by
    rintro p rfl
    exact value_entry x0 b h g _ t
  rw [v47_at]
  by_cases hk : κ.val < 128
  · have hn : n.val ≠ 0 := fun h0 => hin ⟨h0, hk⟩
    rw [if_pos hk, dif_pos ⟨by omega, by omega⟩]
    refine step _ (Fin.ext ?_)
    show n.val * 128 + κ.val - 128 = if κ.val < 128 then 128 * (n.val - 1) + κ.val else 128 * n.val + (κ.val - 128)
    rw [if_pos hk]; omega
  · rw [if_neg hk, dif_pos ⟨by omega, by omega⟩]
    refine step _ (Fin.ext ?_)
    show (1 + n.val) * 128 + (κ.val - 128) - 128 = if κ.val < 128 then 128 * (n.val - 1) + κ.val else 128 * n.val + (κ.val - 128)
    rw [if_neg hk]; omega

variable (r0 : ∀ i, IsReal (x0 i)) (r1 : ∀ i, IsReal (x1 i)) (r2 : ∀ i, IsReal (x2 i)) (r3 : ∀ i, IsReal (x3 i))

include r0 r2 in
theorem key_real (j : Fin 8) (κ : Fin 256) (t : Fin 64) : IsReal (keyEntry (seqRows x0 b) (twice x2) n j κ t) := by
  unfold keyEntry
  rw [twice_at]
  exact ((r0 _).mul (unitScale_real _ fun t => r0 _)).mul (r2 _)

include r0 r1 in
theorem query_real (j : Fin 8) (e : Fin 2) (t : Fin 64) : IsReal (queryEntry (seqRows x0 b) (twice x1) n j e r t) := by
  unfold queryEntry
  rw [twice_at, show Ideal.ofBits FTy.f32 0x3E000000#32 = ((1 / 8 : ℝ) : EReal) from eighth]
  exact ((r0 _).mul (unitScale_real _ fun t => r0 _)).mul ((r1 _).mul (IsReal.coe _))

include r0 r1 r2 in
/-- The products of a key and a query, an eighth of their sum taken after or before. -/
theorem dot_ref (κ : Fin 256) (hin : ¬ (n.val = 0 ∧ κ.val < 128)) :
    @Eq EReal (val_main_v51 (F := Ideal) x0 x1 x2 (ix6 b n h g r κ))
      (∑ t : Fin 64, keyEntry (seqRows x0 b) (twice x2) n (pairOf h g) κ t * queryEntry (seqRows x0 b) (twice x1) n (pairOf h g) (placeOf g) r t) := by
  rw [v51_at, eighth, sum_mul_real]
  · refine Finset.sum_congr (M := EReal) rfl fun t _ => ?_
    rw [key_ref x0 x2 b n h g κ hin, query_ref]
    unfold queryEntry
    rw [twice_at, show Ideal.ofBits FTy.f32 0x3E000000#32 = ((1 / 8 : ℝ) : EReal) from eighth, mul_assoc, mul_assoc (G := EReal) (_ * _)]
  · intro t
    rw [key_ref x0 x2 b n h g κ hin, query_ref]
    exact (key_real x0 x2 b n r0 r2 _ _ _).mul (((r0 _).mul (unitScale_real _ fun t => r0 _)).mul (r1 _))

/-- The distance's share of a score. -/
theorem away_ref (m : Fin 128) :
    @Eq EReal (val_main_v99 (F := Ideal) (ix4 h g r (key m r)))
      ((0 - (if placeOf g = 1 then slopeE (pairOf h g) else slopeO (pairOf h g))) * (((dist m r : ℤ) : ℝ) : EReal)) := by
  rw [v99_at, away_at, slope_ref, slope_kernel, sub_eq_add_neg, zero_add]
  have e : 2 * (pairOf h g).val + (placeOf g).val = h.val * 4 + g.val := by
    show 2 * (2 * h.val + g.val / 2) + g.val % 2 = _; omega
  rw [e]

theorem mask_0 (m : Fin 128) : val_main_v82 (F := Ideal) (ix3 n r (half 0 m)) = if r < m ∧ n.val ≠ 0 then 1#1 else 0#1 := by
  rw [v82_at, near_0, inside_0]
  by_cases h1 : r < m <;> by_cases h2 : n.val = 0
  · rw [if_pos h1, if_pos h2, if_neg fun h => h.2 h2]; rfl
  · rw [if_pos h1, if_neg h2, if_pos ⟨h1, h2⟩]; rfl
  · rw [if_neg h1, if_pos h2, if_neg fun h => h.2 h2]; rfl
  · rw [if_neg h1, if_neg h2, if_neg fun h => h1 h.1]; rfl

theorem mask_1 (m : Fin 128) : val_main_v82 (F := Ideal) (ix3 n r (half 1 m)) = if r < m then 0#1 else 1#1 := by
  rw [v82_at, near_1, inside_1]
  by_cases h1 : r < m
  · rw [if_pos h1]; rfl
  · rw [if_neg h1]; rfl

include r0 r1 r2 in
/-- Of a pair of keys the reference's score is the kernel's at the one within the window, minus infinity at the other. -/
theorem paired (t : Fin 64) (m : Fin 128) :
    Paired (fun κ => val_main_v104 (F := Ideal) x0 x1 x2 (ix6 b n h g r κ)) (fun κ => val_main_v47 (F := Ideal) x0 (ix5 b n κ h t))
      (score (seqRows x0 b) (twice x1) (twice x2) biasTable n (pairOf h g) (placeOf g) r)
      (fun m => seqRows x0 b (ix2 (rowAt n (key m r)) (valCol (pairOf h g) t))) m := by
  have low : ∀ κ, val_main_v82 (F := Ideal) (ix3 n r κ) = 0#1 → @Eq EReal (val_main_v104 (F := Ideal) x0 x1 x2 (ix6 b n h g r κ)) ⊥ := fun κ hκ => by
    rw [v104_at, hκ, ofBits_bot]; rfl
  have high : ∀ hin : ¬ (n.val = 0 ∧ (key m r).val < 128), ∀ hb : ¬ (n.val = 0 ∧ r < m), val_main_v82 (F := Ideal) (ix3 n r (key m r)) = 1#1 →
      @Eq EReal (val_main_v104 (F := Ideal) x0 x1 x2 (ix6 b n h g r (key m r))) (score (seqRows x0 b) (twice x1) (twice x2) biasTable n (pairOf h g) (placeOf g) r m) := fun hin hb hκ => by
    rw [v104_at, hκ, dot_ref x0 x1 x2 b n h g r r0 r1 r2 _ hin, away_ref]
    unfold score
    rw [biasTable_at]
    unfold bias
    refine congrArg (fun z : EReal => _ + z) (if_neg fun hc => hb ⟨?_, hc.2⟩).symm
    by_contra h0
    exact absurd ((if_neg h0).symm.trans hc.1) (by decide)
  by_cases hr : r < m
  · have hk : key m r = half 0 m := if_pos hr
    refine Or.inl ⟨?_, low _ ((mask_1 n r m).trans (if_pos hr)), ?_⟩
    · by_cases h0 : n.val = 0
      · refine (low _ ((mask_0 n r m).trans (if_neg fun h => h.2 h0))).trans ?_
        unfold score
        rw [biasTable_at]
        unfold bias
        rw [if_pos ⟨if_pos h0, hr⟩, EReal.add_bot]
      · have := high (fun h => h0 h.1) (fun h => h0 h.1)
        rw [hk] at this
        exact this ((mask_0 n r m).trans (if_pos ⟨hr, h0⟩))
    · intro hS
      have h0 : n.val ≠ 0 := by
        intro h0
        apply hS
        unfold score
        rw [biasTable_at]
        unfold bias
        rw [if_pos ⟨if_pos h0, hr⟩, EReal.add_bot]
      show @Eq EReal _ (seqRows x0 b (ix2 (rowAt n (key m r)) (valCol (pairOf h g) t)))
      rw [hk]
      exact value_ref x0 b n h g _ (fun h => h0 h.1) t
  · have hk : key m r = half 1 m := if_neg hr
    have hin : ¬ (n.val = 0 ∧ (half 1 m).val < 128) := fun h => by have : 128 * 1 + m.val < 128 := h.2; omega
    refine Or.inr ⟨?_, low _ ((mask_0 n r m).trans (if_neg fun h => hr h.1)), ?_⟩
    · have := high (by rw [hk]; exact hin) (fun h => hr h.2)
      rw [hk] at this
      exact this ((mask_1 n r m).trans (if_neg hr))
    · intro hS
      show @Eq EReal _ (seqRows x0 b (ix2 (rowAt n (key m r)) (valCol (pairOf h g) t)))
      rw [hk]
      exact value_ref x0 b n h g _ hin t

include r0 r1 r2 in
theorem score_low (j : Fin 8) (e : Fin 2) (m : Fin 128) : IsLow (score (seqRows x0 b) (twice x1) (twice x2) biasTable n j e r m) := by
  unfold score
  rw [biasTable_at]
  unfold bias
  generalize (if n.val = 0 then 0 else 1 : Fin 2) = d
  by_cases hc : d = 0 ∧ r < m
  · rw [if_pos hc]
    exact Or.inl (EReal.add_bot _)
  · rw [if_neg hc]
    refine Or.inr (IsReal.add (IsReal.sum _ fun t => (key_real x0 x2 b n r0 r2 _ _ _).mul (query_real x0 x1 b n r r0 r1 _ _ _)) ?_)
    rw [slope_kernel, sub_eq_add_neg, zero_add, ← EReal.coe_neg]
    exact (IsReal.coe _).mul (IsReal.coe _)

include r0 r1 r2 r3 in
/-- An entry of the reference's result. -/
theorem entry_ref (t : Fin 64) :
    (∑ κ : Fin 256, val_main_v47 (F := Ideal) x0 (ix5 b n κ h t) * val_main_v120 (F := Ideal) x0 x1 x2 x3 (ix6 b n h g r κ) : EReal)
      = attnEntry (seqRows x0 b) (twice x1) (twice x2) biasTable x3 n r (pairOf h g) (placeOf g) t := by
  have hs : x3 (ix2 0 (⟨2 * (pairOf h g).val + (placeOf g).val, by omega⟩ : Fin 16)) = x3 (ix2 0 (⟨h.val * 4 + g.val, by omega⟩ : Fin 16)) :=
    congrArg (fun k : Fin 16 => x3 (ix2 0 k)) (Fin.ext (by show 2 * (2 * h.val + g.val / 2) + g.val % 2 = h.val * 4 + g.val; omega))
  have key := sink_eq (fun κ => val_main_v104 (F := Ideal) x0 x1 x2 (ix6 b n h g r κ)) (fun κ => val_main_v47 (F := Ideal) x0 (ix5 b n κ h t))
    (score (seqRows x0 b) (twice x1) (twice x2) biasTable n (pairOf h g) (placeOf g) r)
    (fun m => seqRows x0 b (ix2 (rowAt n (key m r)) (valCol (pairOf h g) t)))
    (fun κ => val_main_v108 (F := Ideal) x0 x1 x2 x3 (ix6 b n h g r κ))
    (x3 (ix2 0 (⟨h.val * 4 + g.val, by omega⟩ : Fin 16)))
    (fun κ => (v108_at x0 x1 x2 x3 b n h g r κ.castSucc).trans (dif_pos κ.isLt))
    ((v108_at x0 x1 x2 x3 b n h g r (Fin.last 256)).trans (dif_neg (lt_irrefl 256)))
    (paired x0 x1 x2 b n h g r r0 r1 r2 t) (score_low x0 x1 x2 b n r r0 r1 r2 _ _) (r3 _)
  unfold attnEntry
  rw [hs]
  refine Eq.trans (Finset.sum_congr (M := EReal) rfl fun κ _ => ?_) key
  rw [v120_at, show Ideal.ofBits .f32 0x00000000#32 = (0 : EReal) by simp [Ideal.ofBits, Ideal.ieee]]
  rfl

include r0 r1 r2 r3 in
/-- The reference's result is the kernel's. -/
theorem result_ref : val_main_v125 (F := Ideal) x0 x1 x2 x3 = attended x0 x1 x2 x3 := by
  funext i
  obtain ⟨a, l, rfl⟩ : ∃ (a : Fin 8192) (l : Fin 1024), i = ix2 a l := ⟨_, _, eq_ix2 (n0 := 8192) (n1 := 1024) i⟩
  refine (v125_at x0 x1 x2 x3 a l).trans ?_
  refine (entry_ref x0 x1 x2 x3 _ _ _ _ _ r0 r1 r2 r3 _).trans ?_
  unfold attended
  simp only [ix2_0, ix2_1]
  refine (blockOut_at _ _ _ _ _ _ _ _ _ _ _ _ ?_ ?_).symm
  · show a.val % 2048 = 128 * (a.val / 128 % 16) + a.val % 128; omega
  · show l.val = 128 * (2 * (l.val / 256) + l.val / 64 % 4 / 2) + (64 * (l.val / 64 % 4 % 2) + l.val % 64); omega

end

end Cert.AttnFwdIdeal.Array
-- ==== Proof.AttnFwdClaims.lean ====
/-
  The claims about the attention's forward call: it runs, and over the extended reals its result is the reference's on finite
  arguments.
-/
module

public import proofs.«01_k».proof.Defs
public import proofs.«01_k».proof.Proof.Gen.Pre_attn_finite
public import proofs.«01_k».proof.Proof.Gen.AttnFwd.Frame
public import proofs.«01_k».proof.Proof.Gen.AttnFwdIdeal.Frame
public import proofs.«01_k».proof.Proof.Gen.AttnFwdIdeal.Value
public import proofs.«01_k».proof.Proof.Gen.AttnFwdRefIdeal.Run
public import proofs.«01_k».proof.Proof.Gen.AttnFwdRefIdeal.Read
public import proofs.«01_k».proof.Proof.FfnReal
public import proofs.«01_k».proof.Proof.AttnFwdMatch
public import Idealize.ShloMosaic.Adequacy

@[expose] public section

set_option maxRecDepth 16384

noncomputable section

namespace Cert.Proof.AttnFwd

open Idealize.ShloMosaic Idealize.SL.Sem Cert.AttnFwdRefIdeal.Read Cert.AttnFwdIdeal.Array Cert.Proof.Reals

/-- The precondition, read: every entry of the four arguments is a real. -/
theorem finite (x0 : FVec Ideal Cert.Pre_attn_finite.S8192x1536 .bf16) (x1 x2 : FVec Ideal Cert.Pre_attn_finite.S1x64 .f32)
    (x3 : FVec Ideal Cert.Pre_attn_finite.S1x16 .f32)
    (h : Cert.Pre_attn_finite.fn (F := Ideal) x0 x1 x2 x3 = fun _ => 1#1) :
    (∀ i, IsReal (x0 i)) ∧ (∀ i, IsReal (x1 i)) ∧ (∀ i, IsReal (x2 i)) ∧ (∀ i, IsReal (x3 i)) := by
  simp only [Cert.Pre_attn_finite.fn, Cert.Pre_attn_finite.fn_part1] at h
  have hj := Host.reduce_andi_all _ _ _ _ ix0 (congrFun h ix0)
  refine ⟨?_, ?_, ?_, ?_⟩
  · intro i
    have h0 := hj (ix1 0)
    pointwise at h0
    obtain ⟨a, b, rfl⟩ : ∃ (a : Fin 8192) (b : Fin 1536), i = ix2 a b := ⟨_, _, eq_ix2 (n0 := 8192) (n1 := 1536) i⟩
    have e := bit_of_fold_univ _ h0 (a, b)
    exact isReal_of_lt (of_bit e)
  · intro i
    have h0 := hj (ix1 1)
    pointwise at h0
    obtain ⟨a, b, rfl⟩ : ∃ (a : Fin 1) (b : Fin 64), i = ix2 a b := ⟨_, _, eq_ix2 (n0 := 1) (n1 := 64) i⟩
    have e := bit_of_fold_univ _ h0 (a, b)
    exact isReal_of_lt (of_bit e)
  · intro i
    have h0 := hj (ix1 2)
    pointwise at h0
    obtain ⟨a, b, rfl⟩ : ∃ (a : Fin 1) (b : Fin 64), i = ix2 a b := ⟨_, _, eq_ix2 (n0 := 1) (n1 := 64) i⟩
    have e := bit_of_fold_univ _ h0 (a, b)
    exact isReal_of_lt (of_bit e)
  · intro i
    have h0 := hj (ix1 3)
    pointwise at h0
    obtain ⟨a, b, rfl⟩ : ∃ (a : Fin 1) (b : Fin 16), i = ix2 a b := ⟨_, _, eq_ix2 (n0 := 1) (n1 := 16) i⟩
    have e := bit_of_fold_univ _ h0 (a, b)
    exact isReal_of_lt (of_bit e)

theorem frame : Cert.quiescent_AttnFwd := fun m ρ _ => Cert.AttnFwd.Gen.frame m ρ

theorem frame_ideal : Cert.quiescent_AttnFwdIdeal := fun m ρ _ => Cert.AttnFwdIdeal.Gen.frame m ρ

theorem frame_ideal_finite : Cert.quiescent_AttnFwdIdeal_pre_attn_finite := fun m ρ _ => Cert.AttnFwdIdeal.Gen.frame m ρ

theorem frame_ref : Cert.quiescent_AttnFwdRefIdeal := fun m ρ _ =>
  (θ_run Cert.AttnFwdRefIdeal.defs _ _).mono (fun r h => ⟨fun c => (h c).2, Idealize.ShloMosaic.sem_eq_zero_of_no_sems (by decide) r.2⟩)
    (Cert.AttnFwdRefIdeal.Value.run (F := Ideal) m ρ)

theorem frame_ref_finite : Cert.quiescent_AttnFwdRefIdeal_pre_attn_finite := fun m ρ _ => frame_ref m ρ trivial

/-- The rounded constants of the kernel's program are the numbers they stand for. -/
theorem preserves : Cert.preserves_AttnFwd_AttnFwdIdeal :=
  ⟨IdealRules.named_const.statement Cert.AttnFwdIdeal.κ "slope_1" .f32 0x3F3504F3#32 (((Real.sqrt 2)⁻¹ : ℝ) : EReal) rfl,
  IdealRules.named_const.statement Cert.AttnFwdIdeal.κ "mask" .f32 0xF149F2CA#32 ⊥ rfl,
  IdealRules.named_const.statement Cert.AttnFwdIdeal.κ "slope_3" .f32 0x3EB504F3#32 (((Real.sqrt 8)⁻¹ : ℝ) : EReal) rfl,
  IdealRules.named_const.statement Cert.AttnFwdIdeal.κ "slope_5" .f32 0x3E3504F3#32 (((Real.sqrt 32)⁻¹ : ℝ) : EReal) rfl,
  IdealRules.named_const.statement Cert.AttnFwdIdeal.κ "slope_7" .f32 0x3DB504F3#32 (((Real.sqrt 128)⁻¹ : ℝ) : EReal) rfl,
  IdealRules.named_const.statement Cert.AttnFwdIdeal.κ "slope_9" .f32 0x3D3504F3#32 (((Real.sqrt 512)⁻¹ : ℝ) : EReal) rfl,
  IdealRules.named_const.statement Cert.AttnFwdIdeal.κ "slope_11" .f32 0x3CB504F3#32 (((Real.sqrt 2048)⁻¹ : ℝ) : EReal) rfl,
  IdealRules.named_const.statement Cert.AttnFwdIdeal.κ "slope_13" .f32 0x3C3504F3#32 (((Real.sqrt 8192)⁻¹ : ℝ) : EReal) rfl,
  IdealRules.named_const.statement Cert.AttnFwdIdeal.κ "slope_15" .f32 0x3BB504F3#32 (((Real.sqrt 32768)⁻¹ : ℝ) : EReal) rfl⟩

/-- Both programs end with the array of AttnFwdArray.lean, computed from arguments that agree. -/
theorem algebraic : Cert.algebraic_AttnFwdIdeal_AttnFwdRefIdeal_pre_attn_finite := by
  intro m ρ m' ρ' hpre hagree
  refine ⟨fun c => attended (qkvArg m c) (qArg m c) (kArg m c) (sArg m c), ?_, ?_⟩
  · exact (θ_run Cert.AttnFwdIdeal.defs _ _).mono
      (fun _ h c => ⟨(h c).1.trans (final m c), (h c).2⟩)
      (Cert.AttnFwdIdeal.Value.run_blocks m ρ)
  · refine (θ_run Cert.AttnFwdRefIdeal.defs _ _).mono
      (fun _ h c => ⟨(h c).1.trans ?_, (h c).2⟩)
      (Cert.AttnFwdRefIdeal.Value.run (F := Ideal) m' ρ')
    rw [val_main_v125_eq, (hagree c).1, (hagree c).2.1, (hagree c).2.2.1, (hagree c).2.2.2]
    obtain ⟨r0, r1, r2, r3⟩ := finite _ _ _ _ (hpre c)
    exact result_ref _ _ _ _ r0 r1 r2 r3

end Cert.Proof.AttnFwd
-- ==== Proof.lean ====
module

public import proofs.«01_k».proof.Defs
public import proofs.«01_k».proof.Proof.ConvClaims
public import proofs.«01_k».proof.Proof.FfnDownDgradClaims
public import proofs.«01_k».proof.Proof.FfnUpDgradClaims
public import proofs.«01_k».proof.Proof.FfnUpWgradClaims
public import proofs.«01_k».proof.Proof.FfnDownWgradClaims
public import proofs.«01_k».proof.Proof.FfnUpClaims
public import proofs.«01_k».proof.Proof.FfnDownClaims
public import proofs.«01_k».proof.Proof.FfnDownLossClaims
public import proofs.«01_k».proof.Proof.ConvInClaims
public import proofs.«01_k».proof.Proof.ConvInDgradClaims
public import proofs.«01_k».proof.Proof.ConvInWgradClaims
public import proofs.«01_k».proof.Proof.QkvClaims
public import proofs.«01_k».proof.Proof.QkvDgradClaims
public import proofs.«01_k».proof.Proof.QkvWgradClaims
public import proofs.«01_k».proof.Proof.OutClaims
public import proofs.«01_k».proof.Proof.OutDgradClaims
public import proofs.«01_k».proof.Proof.OutWgradClaims
public import proofs.«01_k».proof.Proof.ConvFwdClaims
public import proofs.«01_k».proof.Proof.AttnFwdClaims

@[expose] public section

noncomputable section

namespace Cert.Proof

theorem claim : Cert.Claim :=
  ⟨Cert.ConvBwd.Gen.facts, Cert.ConvBwdIdeal.Gen.facts, Cert.ConvBwdRefIdeal.Gen.facts,
    Cert.FfnDownDgrad.Gen.facts, Cert.FfnDownDgradIdeal.Gen.facts, Cert.FfnDownDgradRefIdeal.Gen.facts,
    Cert.FfnUpDgrad.Gen.facts, Cert.FfnUpDgradIdeal.Gen.facts, Cert.FfnUpDgradRefIdeal.Gen.facts,
    Cert.FfnUpWgrad.Gen.facts, Cert.FfnUpWgradIdeal.Gen.facts, Cert.FfnUpWgradRefIdeal.Gen.facts,
    Cert.FfnDownWgrad.Gen.facts, Cert.FfnDownWgradIdeal.Gen.facts, Cert.FfnDownWgradRefIdeal.Gen.facts,
    Cert.FfnUp.Gen.facts, Cert.FfnUpIdeal.Gen.facts, Cert.FfnUpRefIdeal.Gen.facts,
    Cert.FfnDown.Gen.facts, Cert.FfnDownIdeal.Gen.facts, Cert.FfnDownRefIdeal.Gen.facts,
    Cert.FfnDownLoss.Gen.facts, Cert.FfnDownLossIdeal.Gen.facts, Cert.FfnDownLossRefIdeal.Gen.facts,
    Cert.ConvIn.Gen.facts, Cert.ConvInIdeal.Gen.facts, Cert.ConvInRefIdeal.Gen.facts,
    Cert.ConvInDgrad.Gen.facts, Cert.ConvInDgradIdeal.Gen.facts, Cert.ConvInDgradRefIdeal.Gen.facts,
    Cert.ConvInWgrad.Gen.facts, Cert.ConvInWgradIdeal.Gen.facts, Cert.ConvInWgradRefIdeal.Gen.facts,
    Cert.Qkv.Gen.facts, Cert.QkvIdeal.Gen.facts, Cert.QkvRefIdeal.Gen.facts,
    Cert.QkvDgrad.Gen.facts, Cert.QkvDgradIdeal.Gen.facts, Cert.QkvDgradRefIdeal.Gen.facts,
    Cert.QkvWgrad.Gen.facts, Cert.QkvWgradIdeal.Gen.facts, Cert.QkvWgradRefIdeal.Gen.facts,
    Cert.Out.Gen.facts, Cert.OutIdeal.Gen.facts, Cert.OutRefIdeal.Gen.facts,
    Cert.OutDgrad.Gen.facts, Cert.OutDgradIdeal.Gen.facts, Cert.OutDgradRefIdeal.Gen.facts,
    Cert.OutWgrad.Gen.facts, Cert.OutWgradIdeal.Gen.facts, Cert.OutWgradRefIdeal.Gen.facts,
    Cert.ConvFwd.Gen.facts, Cert.ConvFwdIdeal.Gen.facts, Cert.ConvFwdRefIdeal.Gen.facts,
    Cert.AttnFwd.Gen.facts, Cert.AttnFwdIdeal.Gen.facts, Cert.AttnFwdRefIdeal.Gen.facts,
    Cert.Pre_down_dgrad_finite.Gen.facts, Cert.Pre_up_dgrad_finite.Gen.facts, Cert.Pre_up_finite.Gen.facts,
    Cert.Pre_conv_in_dgrad_finite.Gen.facts, Cert.Pre_qkv_dgrad_finite.Gen.facts, Cert.Pre_attn_finite.Gen.facts,
    Conv.frame, Conv.frame_ideal, Conv.frame_ref,
    FfnDownDgrad.frame, FfnDownDgrad.frame_ideal, FfnDownDgrad.frame_ideal_finite, FfnDownDgrad.frame_ref, FfnDownDgrad.frame_ref_finite,
    FfnUpDgrad.frame, FfnUpDgrad.frame_ideal, FfnUpDgrad.frame_ideal_finite, FfnUpDgrad.frame_ref, FfnUpDgrad.frame_ref_finite,
    FfnUpWgrad.frame, FfnUpWgrad.frame_ideal, FfnUpWgrad.frame_ref,
    FfnDownWgrad.frame, FfnDownWgrad.frame_ideal, FfnDownWgrad.frame_ref,
    FfnUp.frame, FfnUp.frame_ideal, FfnUp.frame_ideal_finite, FfnUp.frame_ref, FfnUp.frame_ref_finite,
    FfnDown.frame, FfnDown.frame_ideal, FfnDown.frame_ref,
    FfnDownLoss.frame, FfnDownLoss.frame_ideal, FfnDownLoss.frame_ref,
    ConvIn.frame, ConvIn.frame_ideal, ConvIn.frame_ref,
    ConvInDgrad.frame, ConvInDgrad.frame_ideal, ConvInDgrad.frame_ideal_finite, ConvInDgrad.frame_ref, ConvInDgrad.frame_ref_finite,
    ConvInWgrad.frame, ConvInWgrad.frame_ideal, ConvInWgrad.frame_ref,
    Qkv.frame, Qkv.frame_ideal, Qkv.frame_ref,
    QkvDgrad.frame, QkvDgrad.frame_ideal, QkvDgrad.frame_ideal_finite, QkvDgrad.frame_ref, QkvDgrad.frame_ref_finite,
    QkvWgrad.frame, QkvWgrad.frame_ideal, QkvWgrad.frame_ref,
    Out.frame, Out.frame_ideal, Out.frame_ref,
    OutDgrad.frame, OutDgrad.frame_ideal, OutDgrad.frame_ref,
    OutWgrad.frame, OutWgrad.frame_ideal, OutWgrad.frame_ref,
    ConvFwd.frame, ConvFwd.frame_ideal, ConvFwd.frame_ref,
    AttnFwd.frame, AttnFwd.frame_ideal, AttnFwd.frame_ideal_finite, AttnFwd.frame_ref, AttnFwd.frame_ref_finite,
    Conv.preserves, Conv.algebraic,
    FfnDownDgrad.preserves, FfnDownDgrad.algebraic,
    FfnUpDgrad.preserves, FfnUpDgrad.algebraic,
    FfnUpWgrad.preserves, FfnUpWgrad.algebraic,
    FfnDownWgrad.preserves, FfnDownWgrad.algebraic,
    FfnUp.preserves, FfnUp.algebraic,
    FfnDown.preserves, FfnDown.algebraic,
    FfnDownLoss.preserves, FfnDownLoss.algebraic,
    ConvIn.preserves, ConvIn.algebraic,
    ConvInDgrad.preserves, ConvInDgrad.algebraic,
    ConvInWgrad.preserves, ConvInWgrad.algebraic,
    Qkv.preserves, Qkv.algebraic,
    QkvDgrad.preserves, QkvDgrad.algebraic,
    QkvWgrad.preserves, QkvWgrad.algebraic,
    Out.preserves, Out.algebraic,
    OutDgrad.preserves, OutDgrad.algebraic,
    OutWgrad.preserves, OutWgrad.algebraic,
    ConvFwd.preserves, ConvFwd.algebraic,
    AttnFwd.preserves, AttnFwd.algebraic⟩

end Cert.Proof

end
